-- ==== Defs.lean ====
def Pre_Dw (m : (ℓ : Loc Cert.Dw.nD Cert.Dw.τ Cert.Dw.sig) → Buf (Elt Bits) ℓ) : Prop :=
  True

def Pre_DwIdeal (m : (ℓ : Loc Cert.DwIdeal.nD Cert.DwIdeal.τ Cert.DwIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Dx (m : (ℓ : Loc Cert.Dx.nD Cert.Dx.τ Cert.Dx.sig) → Buf (Elt Bits) ℓ) : Prop :=
  True

def Pre_DxIdeal (m : (ℓ : Loc Cert.DxIdeal.nD Cert.DxIdeal.τ Cert.DxIdeal.sig) → Buf (Elt Ideal) ℓ) : Prop :=
  True

def Pre_ReferenceDxIdeal (m : (ℓ : Loc Cert.ReferenceDxIdeal.nD Cert.ReferenceDxIdeal.τ Cert.ReferenceDxIdeal.sig) → Buf (Elt Ideal) ℓ) : Prop :=
  True

def quiescent_Dw [hDw : Cert.Dw.Facts] : Prop :=
  ∀ (m : (ℓ : Loc Cert.Dw.nD Cert.Dw.τ Cert.Dw.sig) → Buf (Elt Bits) ℓ) (g : Dev Cert.Dw.nD → PrngReg), Pre_Dw m →
    θ_run (Cert.Dw.defs (F := Bits)) (onTc (τ := Cert.Dw.τ) (Cert.Dw.main (F := Bits))) ⟨m, fun _ => 0, g⟩ (fun r => (∀ c : Dev Cert.Dw.nD,
      r.2.mem ((c.tc : Thread Cert.Dw.nD Cert.Dw.τ).loc Cert.Dw.main_arg0) = m ((c.tc : Thread Cert.Dw.nD Cert.Dw.τ).loc Cert.Dw.main_arg0)
      ∧ r.2.mem ((c.tc : Thread Cert.Dw.nD Cert.Dw.τ).loc Cert.Dw.main_arg1) = m ((c.tc : Thread Cert.Dw.nD Cert.Dw.τ).loc Cert.Dw.main_arg1)
      ∧ r.2.mem ((c.tc : Thread Cert.Dw.nD Cert.Dw.τ).loc Cert.Dw.main_arg2) = m ((c.tc : Thread Cert.Dw.nD Cert.Dw.τ).loc Cert.Dw.main_arg2)
      ∧ r.2.mem ((c.tc : Thread Cert.Dw.nD Cert.Dw.τ).loc Cert.Dw.main_arg3) = m ((c.tc : Thread Cert.Dw.nD Cert.Dw.τ).loc Cert.Dw.main_arg3))
      ∧ r.2.sem = fun _ => 0)

def quiescent_DwIdeal [hDwIdeal : Cert.DwIdeal.Facts] : Prop :=
  ∀ (m : (ℓ : Loc Cert.DwIdeal.nD Cert.DwIdeal.τ Cert.DwIdeal.sig) → Buf (Elt Ideal) ℓ) (g : Dev Cert.DwIdeal.nD → PrngReg), Pre_DwIdeal m →
    θ_run (Cert.DwIdeal.defs (F := Ideal)) (onTc (τ := Cert.DwIdeal.τ) (Cert.DwIdeal.main (F := Ideal))) ⟨m, fun _ => 0, g⟩ (fun r => (∀ c : Dev Cert.DwIdeal.nD,
      r.2.mem ((c.tc : Thread Cert.DwIdeal.nD Cert.DwIdeal.τ).loc Cert.DwIdeal.main_arg0) = m ((c.tc : Thread Cert.DwIdeal.nD Cert.DwIdeal.τ).loc Cert.DwIdeal.main_arg0)
      ∧ r.2.mem ((c.tc : Thread Cert.DwIdeal.nD Cert.DwIdeal.τ).loc Cert.DwIdeal.main_arg1) = m ((c.tc : Thread Cert.DwIdeal.nD Cert.DwIdeal.τ).loc Cert.DwIdeal.main_arg1)
      ∧ r.2.mem ((c.tc : Thread Cert.DwIdeal.nD Cert.DwIdeal.τ).loc Cert.DwIdeal.main_arg2) = m ((c.tc : Thread Cert.DwIdeal.nD Cert.DwIdeal.τ).loc Cert.DwIdeal.main_arg2)
      ∧ r.2.mem ((c.tc : Thread Cert.DwIdeal.nD Cert.DwIdeal.τ).loc Cert.DwIdeal.main_arg3) = m ((c.tc : Thread Cert.DwIdeal.nD Cert.DwIdeal.τ).loc Cert.DwIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_Dx [hDx : Cert.Dx.Facts] : Prop :=
  ∀ (m : (ℓ : Loc Cert.Dx.nD Cert.Dx.τ Cert.Dx.sig) → Buf (Elt Bits) ℓ) (g : Dev Cert.Dx.nD → PrngReg), Pre_Dx m →
    θ_run (Cert.Dx.defs (F := Bits)) (onTc (τ := Cert.Dx.τ) (Cert.Dx.main (F := Bits))) ⟨m, fun _ => 0, g⟩ (fun r => (∀ c : Dev Cert.Dx.nD,
      r.2.mem ((c.tc : Thread Cert.Dx.nD Cert.Dx.τ).loc Cert.Dx.main_arg0) = m ((c.tc : Thread Cert.Dx.nD Cert.Dx.τ).loc Cert.Dx.main_arg0)
      ∧ r.2.mem ((c.tc : Thread Cert.Dx.nD Cert.Dx.τ).loc Cert.Dx.main_arg1) = m ((c.tc : Thread Cert.Dx.nD Cert.Dx.τ).loc Cert.Dx.main_arg1))
      ∧ r.2.sem = fun _ => 0)

def quiescent_DxIdeal [hDxIdeal : Cert.DxIdeal.Facts] : Prop :=
  ∀ (m : (ℓ : Loc Cert.DxIdeal.nD Cert.DxIdeal.τ Cert.DxIdeal.sig) → Buf (Elt Ideal) ℓ) (g : Dev Cert.DxIdeal.nD → PrngReg), Pre_DxIdeal m →
    θ_run (Cert.DxIdeal.defs (F := Ideal)) (onTc (τ := Cert.DxIdeal.τ) (Cert.DxIdeal.main (F := Ideal))) ⟨m, fun _ => 0, g⟩ (fun r => (∀ c : Dev Cert.DxIdeal.nD,
      r.2.mem ((c.tc : Thread Cert.DxIdeal.nD Cert.DxIdeal.τ).loc Cert.DxIdeal.main_arg0) = m ((c.tc : Thread Cert.DxIdeal.nD Cert.DxIdeal.τ).loc Cert.DxIdeal.main_arg0)
      ∧ r.2.mem ((c.tc : Thread Cert.DxIdeal.nD Cert.DxIdeal.τ).loc Cert.DxIdeal.main_arg1) = m ((c.tc : Thread Cert.DxIdeal.nD Cert.DxIdeal.τ).loc Cert.DxIdeal.main_arg1))
      ∧ r.2.sem = fun _ => 0)

def quiescent_ReferenceDxIdeal [hReferenceDxIdeal : Cert.ReferenceDxIdeal.Facts] : Prop :=
  ∀ (m : (ℓ : Loc Cert.ReferenceDxIdeal.nD Cert.ReferenceDxIdeal.τ Cert.ReferenceDxIdeal.sig) → Buf (Elt Ideal) ℓ) (g : Dev Cert.ReferenceDxIdeal.nD → PrngReg), Pre_ReferenceDxIdeal m →
    θ_run (Cert.ReferenceDxIdeal.defs (F := Ideal)) (onTc (τ := Cert.ReferenceDxIdeal.τ) (Cert.ReferenceDxIdeal.main (F := Ideal))) ⟨m, fun _ => 0, g⟩ (fun r => (∀ c : Dev Cert.ReferenceDxIdeal.nD,
      r.2.mem ((c.tc : Thread Cert.ReferenceDxIdeal.nD Cert.ReferenceDxIdeal.τ).loc Cert.ReferenceDxIdeal.main_arg0) = m ((c.tc : Thread Cert.ReferenceDxIdeal.nD Cert.ReferenceDxIdeal.τ).loc Cert.ReferenceDxIdeal.main_arg0)
      ∧ r.2.mem ((c.tc : Thread Cert.ReferenceDxIdeal.nD Cert.ReferenceDxIdeal.τ).loc Cert.ReferenceDxIdeal.main_arg1) = m ((c.tc : Thread Cert.ReferenceDxIdeal.nD Cert.ReferenceDxIdeal.τ).loc Cert.ReferenceDxIdeal.main_arg1))
      ∧ r.2.sem = fun _ => 0)

def preserves_Dw_DwIdeal : Prop :=
  IdealRules.bf16_pair.BufferStatement Cert.DwIdeal.S2x384x2x768 Cert.DwIdeal.S2x384x1x768
  ∧ IdealRules.bf16_pair.BufferStatement Cert.DwIdeal.S2x2x16x2x128 Cert.DwIdeal.S2x2x16x1x128
  ∧ IdealRules.bf16_pair.PackStatement Cert.DwIdeal.S8x128
  ∧ IdealRules.bf16_pair.Statement Cert.DwIdeal.S1x1x8x2x128 Cert.DwIdeal.S1x1x8x1x128
  ∧ IdealRules.bf16_pair.Statement Cert.DwIdeal.S1x1x16x2x128 Cert.DwIdeal.S1x1x16x1x128
  ∧ IdealRules.bf16_pair.Statement Cert.DwIdeal.S32x128 Cert.DwIdeal.S16x128
  ∧ IdealRules.bf16_pair.Statement Cert.DwIdeal.S1x16x2x128 Cert.DwIdeal.S1x16x1x128
  ∧ IdealRules.bf16_pair.Statement Cert.DwIdeal.S1x384x2x768 Cert.DwIdeal.S1x384x1x768
  ∧ IdealRules.bf16_pair.Statement Cert.DwIdeal.S768x768 Cert.DwIdeal.S384x768

def algebraic_DwIdeal_ReferenceIdeal [hDwIdeal : Cert.DwIdeal.Facts] [hReferenceIdeal : Cert.ReferenceIdeal.Facts] : Prop :=
  ∀ (m : (ℓ : Loc Cert.DwIdeal.nD Cert.DwIdeal.τ Cert.DwIdeal.sig) → Buf (Elt Ideal) ℓ) (g : Dev Cert.DwIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_DwIdeal m →
    (∀ c : Dev Cert.DwIdeal.nD,
      m' ((c.tc : Thread Cert.ReferenceIdeal.nD Cert.ReferenceIdeal.τ).loc Cert.ReferenceIdeal.main_arg0) = m ((c.tc : Thread Cert.DwIdeal.nD Cert.DwIdeal.τ).loc Cert.DwIdeal.main_arg0)
      ∧ m' ((c.tc : Thread Cert.ReferenceIdeal.nD Cert.ReferenceIdeal.τ).loc Cert.ReferenceIdeal.main_arg1) = m ((c.tc : Thread Cert.DwIdeal.nD Cert.DwIdeal.τ).loc Cert.DwIdeal.main_arg1)
      ∧ m' ((c.tc : Thread Cert.ReferenceIdeal.nD Cert.ReferenceIdeal.τ).loc Cert.ReferenceIdeal.main_arg2) = m ((c.tc : Thread Cert.DwIdeal.nD Cert.DwIdeal.τ).loc Cert.DwIdeal.main_arg2)
      ∧ m' ((c.tc : Thread Cert.ReferenceIdeal.nD Cert.ReferenceIdeal.τ).loc Cert.ReferenceIdeal.main_arg3) = m ((c.tc : Thread Cert.DwIdeal.nD Cert.DwIdeal.τ).loc Cert.DwIdeal.main_arg3)) →
    ∃ (v0 : (c : Dev Cert.DwIdeal.nD) → Buf (Elt Ideal) ((c.tc : Thread Cert.DwIdeal.nD Cert.DwIdeal.τ).loc Cert.DwIdeal.main_v0)),
      θ_run (Cert.DwIdeal.defs (F := Ideal)) (onTc (τ := Cert.DwIdeal.τ) (Cert.DwIdeal.main (F := Ideal))) ⟨m, fun _ => 0, g⟩ (fun r => ∀ c : Dev Cert.DwIdeal.nD,
          r.2.mem ((c.tc : Thread Cert.DwIdeal.nD Cert.DwIdeal.τ).loc Cert.DwIdeal.main_v0) = v0 c
          ∧ r.2.mem ((c.tc : Thread Cert.DwIdeal.nD Cert.DwIdeal.τ).loc Cert.DwIdeal.main_arg0) = m ((c.tc : Thread Cert.DwIdeal.nD Cert.DwIdeal.τ).loc Cert.DwIdeal.main_arg0)
          ∧ r.2.mem ((c.tc : Thread Cert.DwIdeal.nD Cert.DwIdeal.τ).loc Cert.DwIdeal.main_arg1) = m ((c.tc : Thread Cert.DwIdeal.nD Cert.DwIdeal.τ).loc Cert.DwIdeal.main_arg1)
          ∧ r.2.mem ((c.tc : Thread Cert.DwIdeal.nD Cert.DwIdeal.τ).loc Cert.DwIdeal.main_arg2) = m ((c.tc : Thread Cert.DwIdeal.nD Cert.DwIdeal.τ).loc Cert.DwIdeal.main_arg2)
          ∧ r.2.mem ((c.tc : Thread Cert.DwIdeal.nD Cert.DwIdeal.τ).loc Cert.DwIdeal.main_arg3) = m ((c.tc : Thread Cert.DwIdeal.nD Cert.DwIdeal.τ).loc Cert.DwIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v0) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_Dx_DxIdeal : Prop :=
  IdealRules.bf16_pair.BufferStatement Cert.DxIdeal.S2x384x2x256 Cert.DxIdeal.S2x384x1x256
  ∧ IdealRules.bf16_pair.Statement Cert.DxIdeal.S256x128 Cert.DxIdeal.S128x128
  ∧ IdealRules.bf16_pair.Statement Cert.DxIdeal.S1x128x2x128 Cert.DxIdeal.S1x128x1x128
  ∧ IdealRules.bf16_pair.Statement Cert.DxIdeal.S1x384x2x256 Cert.DxIdeal.S1x384x1x256
  ∧ IdealRules.bf16_pair.Statement Cert.DxIdeal.S768x256 Cert.DxIdeal.S384x256
  ∧ IdealRules.bf16_pair.Statement Cert.DxIdeal.S1x384x2x128 Cert.DxIdeal.S1x384x1x128
  ∧ IdealRules.bf16_pair.Statement Cert.DxIdeal.S768x128 Cert.DxIdeal.S384x128

def algebraic_DxIdeal_ReferenceDxIdeal [hDxIdeal : Cert.DxIdeal.Facts] [hReferenceDxIdeal : Cert.ReferenceDxIdeal.Facts] : Prop :=
  ∀ (m : (ℓ : Loc Cert.DxIdeal.nD Cert.DxIdeal.τ Cert.DxIdeal.sig) → Buf (Elt Ideal) ℓ) (g : Dev Cert.DxIdeal.nD → PrngReg)
    (m' : (ℓ : Loc Cert.ReferenceDxIdeal.nD Cert.ReferenceDxIdeal.τ Cert.ReferenceDxIdeal.sig) → Buf (Elt Ideal) ℓ) (g' : Dev Cert.ReferenceDxIdeal.nD → PrngReg), Pre_DxIdeal m →
    (∀ c : Dev Cert.DxIdeal.nD,
      m' ((c.tc : Thread Cert.ReferenceDxIdeal.nD Cert.ReferenceDxIdeal.τ).loc Cert.ReferenceDxIdeal.main_arg0) = m ((c.tc : Thread Cert.DxIdeal.nD Cert.DxIdeal.τ).loc Cert.DxIdeal.main_arg0)
      ∧ m' ((c.tc : Thread Cert.ReferenceDxIdeal.nD Cert.ReferenceDxIdeal.τ).loc Cert.ReferenceDxIdeal.main_arg1) = m ((c.tc : Thread Cert.DxIdeal.nD Cert.DxIdeal.τ).loc Cert.DxIdeal.main_arg1)) →
    ∃ (v0 : (c : Dev Cert.DxIdeal.nD) → Buf (Elt Ideal) ((c.tc : Thread Cert.DxIdeal.nD Cert.DxIdeal.τ).loc Cert.DxIdeal.main_v0)),
      θ_run (Cert.DxIdeal.defs (F := Ideal)) (onTc (τ := Cert.DxIdeal.τ) (Cert.DxIdeal.main (F := Ideal))) ⟨m, fun _ => 0, g⟩ (fun r => ∀ c : Dev Cert.DxIdeal.nD,
          r.2.mem ((c.tc : Thread Cert.DxIdeal.nD Cert.DxIdeal.τ).loc Cert.DxIdeal.main_v0) = v0 c
          ∧ r.2.mem ((c.tc : Thread Cert.DxIdeal.nD Cert.DxIdeal.τ).loc Cert.DxIdeal.main_arg0) = m ((c.tc : Thread Cert.DxIdeal.nD Cert.DxIdeal.τ).loc Cert.DxIdeal.main_arg0)
          ∧ r.2.mem ((c.tc : Thread Cert.DxIdeal.nD Cert.DxIdeal.τ).loc Cert.DxIdeal.main_arg1) = m ((c.tc : Thread Cert.DxIdeal.nD Cert.DxIdeal.τ).loc Cert.DxIdeal.main_arg1))
      ∧ θ_run (Cert.ReferenceDxIdeal.defs (F := Ideal)) (onTc (τ := Cert.ReferenceDxIdeal.τ) (Cert.ReferenceDxIdeal.main (F := Ideal))) ⟨m', fun _ => 0, g'⟩ (fun r => ∀ c : Dev Cert.ReferenceDxIdeal.nD,
          r.2.mem ((c.tc : Thread Cert.ReferenceDxIdeal.nD Cert.ReferenceDxIdeal.τ).loc Cert.ReferenceDxIdeal.main_v0) = v0 c
          ∧ r.2.mem ((c.tc : Thread Cert.ReferenceDxIdeal.nD Cert.ReferenceDxIdeal.τ).loc Cert.ReferenceDxIdeal.main_arg0) = m' ((c.tc : Thread Cert.ReferenceDxIdeal.nD Cert.ReferenceDxIdeal.τ).loc Cert.ReferenceDxIdeal.main_arg0)
          ∧ r.2.mem ((c.tc : Thread Cert.ReferenceDxIdeal.nD Cert.ReferenceDxIdeal.τ).loc Cert.ReferenceDxIdeal.main_arg1) = m' ((c.tc : Thread Cert.ReferenceDxIdeal.nD Cert.ReferenceDxIdeal.τ).loc Cert.ReferenceDxIdeal.main_arg1))

def Claim : Prop :=
  ∃ (hDw : Cert.Dw.Facts) (hDwIdeal : Cert.DwIdeal.Facts) (hReferenceIdeal : Cert.ReferenceIdeal.Facts) (hDx : Cert.Dx.Facts) (hDxIdeal : Cert.DxIdeal.Facts) (hReferenceDxIdeal : Cert.ReferenceDxIdeal.Facts),
    quiescent_Dw (hDw := hDw)
    ∧ quiescent_DwIdeal (hDwIdeal := hDwIdeal)
    ∧ quiescent_ReferenceIdeal (hReferenceIdeal := hReferenceIdeal)
    ∧ quiescent_Dx (hDx := hDx)
    ∧ quiescent_DxIdeal (hDxIdeal := hDxIdeal)
    ∧ quiescent_ReferenceDxIdeal (hReferenceDxIdeal := hReferenceDxIdeal)
    ∧ preserves_Dw_DwIdeal
    ∧ algebraic_DwIdeal_ReferenceIdeal (hDwIdeal := hDwIdeal) (hReferenceIdeal := hReferenceIdeal)
    ∧ preserves_Dx_DxIdeal
    ∧ algebraic_DxIdeal_ReferenceDxIdeal (hDxIdeal := hDxIdeal) (hReferenceDxIdeal := hReferenceDxIdeal)
-- ==== Dw.lean ====
abbrev S192x8448 : Shape := ⟨2, ![192, 8448]⟩
abbrev S6x8x8448 : Shape := ⟨3, ![6, 8, 8448]⟩
abbrev S1x1 : Shape := ⟨2, ![1, 1]⟩
abbrev S1440x768 : Shape := ⟨2, ![1440, 768]⟩
abbrev S2880x8448 : Shape := ⟨2, ![2880, 8448]⟩
abbrev S192x768 : Shape := ⟨2, ![192, 768]⟩
abbrev S6x8x768 : Shape := ⟨3, ![6, 8, 768]⟩
abbrev S2880x768 : Shape := ⟨2, ![2880, 768]⟩
abbrev S2x384x768 : Shape := ⟨3, ![2, 384, 768]⟩
abbrev S2x2x16x128 : Shape := ⟨4, ![2, 2, 16, 128]⟩
abbrev S8x128 : Shape := ⟨2, ![8, 128]⟩
abbrev S1x8x128 : Shape := ⟨3, ![1, 8, 128]⟩
abbrev S1x1x8x128 : Shape := ⟨4, ![1, 1, 8, 128]⟩
abbrev S1x1x16x128 : Shape := ⟨4, ![1, 1, 16, 128]⟩
abbrev S16x128 : Shape := ⟨2, ![16, 128]⟩
abbrev S32x128 : Shape := ⟨2, ![32, 128]⟩
abbrev S1x16x128 : Shape := ⟨3, ![1, 16, 128]⟩
abbrev S160x768 : Shape := ⟨2, ![160, 768]⟩
abbrev S320x768 : Shape := ⟨2, ![320, 768]⟩
abbrev S1x384x768 : Shape := ⟨3, ![1, 384, 768]⟩
abbrev S384x768 : Shape := ⟨2, ![384, 768]⟩
abbrev S768x768 : Shape := ⟨2, ![768, 768]⟩

abbrev nBuf : Space → Nat
  | .hbm => 5
  | .vmem => 10
  | .smem => 0
  | _ => 0

abbrev bufTy : (tb : Table) → Fin (tcTables nBuf tb) → BufTy
  | .hbm, ⟨0, _⟩ => ⟨S192x8448, .i32⟩
  | .hbm, ⟨1, _⟩ => ⟨S6x8x8448, .fp8e4m3⟩
  | .hbm, ⟨2, _⟩ => ⟨S1x1, .f32⟩
  | .hbm, ⟨3, _⟩ => ⟨S1440x768, .i32⟩
  | .hbm, ⟨4, _⟩ => ⟨S2880x8448, .f32⟩
  | .local _ .vmem, ⟨0, _⟩ => ⟨S192x768, .i32⟩
  | .local _ .vmem, ⟨1, _⟩ => ⟨S192x768, .i32⟩
  | .local _ .vmem, ⟨2, _⟩ => ⟨S6x8x768, .fp8e4m3⟩
  | .local _ .vmem, ⟨3, _⟩ => ⟨S6x8x768, .fp8e4m3⟩
  | .local _ .vmem, ⟨4, _⟩ => ⟨S1x1, .f32⟩
  | .local _ .vmem, ⟨5, _⟩ => ⟨S1440x768, .i32⟩
  | .local _ .vmem, ⟨6, _⟩ => ⟨S2880x768, .f32⟩
  | .local _ .vmem, ⟨7, _⟩ => ⟨S2880x768, .f32⟩
  | .local _ .vmem, ⟨8, _⟩ => ⟨S2x384x768, .i32⟩
  | .local _ .vmem, ⟨9, _⟩ => ⟨S2x2x16x128, .i32⟩
  | _, _ => ⟨S192x8448, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_scratch0 : Ref sig .tc := ⟨.vmem, 8, rfl⟩
abbrev cc0_scratch1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7

abbrev nD : Nat := 1
abbrev τ : Topo := Topo.v7x

variable {F : FTy → Type} [BitOps F]

abbrev grid0 : Pipeline.Grid := ⟨1, ![12], ![false]⟩

def k0_cond1 (i : grid0.Coords) : BitVec 1 :=
  let arg0 : BitVec 32 := BitVec.ofNat 32 (i 0).val
  let c0_i32_4 : BitVec 32 := 0#32
  let v13 : BitVec 1 := Scalar.cmpi .eq arg0 c0_i32_4
  let v14 : BitVec 32 := Scalar.extui v13
  let c0_i32_5 : BitVec 32 := 0#32
  let v15 : BitVec 1 := Scalar.cmpi .ne v14 c0_i32_5
  v15

@[reducible] def k0_t1_loop : Scf.Loop 32 :=
  let c0_i32_10 : BitVec 32 := 0#32
  let c9_i32 : BitVec 32 := 9#32
  let v24 : BitVec 32 := Scalar.addi c0_i32_10 c9_i32
  let c1_i32_11 : BitVec 32 := 1#32
  ⟨c0_i32_10, v24, c1_i32_11⟩
def k0_mult1 (k0_t1 : Fin k0_t1_loop.trips) : BitVec 32 :=
  let c0_i32_10 : BitVec 32 := 0#32
  let c1_i32_11 : BitVec 32 := 1#32
  let arg8 : BitVec 32 := Scf.iv c0_i32_10 c1_i32_11 k0_t1
  let c3_i32_19 : BitVec 32 := 3#32
  let c0_i32_20 : BitVec 32 := 0#32
  let v42 : BitVec 1 := Scalar.cmpi .eq c3_i32_19 c0_i32_20
  let c1_i32_21 : BitVec 32 := 1#32
  let v43 : BitVec 32 := Scalar.select v42 c1_i32_21 c3_i32_19
  let v44 : BitVec 32 := Scalar.remsi arg8 v43
  let c0_i32_23 : BitVec 32 := 0#32
  let v46 : BitVec 1 := Scalar.cmpi .slt v44 c0_i32_23
  let c0_i32_24 : BitVec 32 := 0#32
  let v47 : BitVec 1 := Scalar.cmpi .slt v43 c0_i32_24
  let v48 : BitVec 1 := Scalar.xori v46 v47
  let c0_i32_22 : BitVec 32 := 0#32
  let v45 : BitVec 1 := Scalar.cmpi .ne v44 c0_i32_22
  let v49 : BitVec 1 := Scalar.andi v48 v45
  let v50 : BitVec 32 := Scalar.addi v44 v43
  let v51 : BitVec 32 := Scalar.select v49 v50 v44
  let c256_i32 : BitVec 32 := 256#32
  let v52 : BitVec 32 := Scalar.muli v51 c256_i32
  v52
def k0_mult2 (k0_t1 : Fin k0_t1_loop.trips) : BitVec 32 :=
  let c0_i32_10 : BitVec 32 := 0#32
  let c1_i32_11 : BitVec 32 := 1#32
  let arg8 : BitVec 32 := Scf.iv c0_i32_10 c1_i32_11 k0_t1
  let c0_i32_13 : BitVec 32 := 0#32
  let v26 : BitVec 1 := Scalar.cmpi .sgt arg8 c0_i32_13
  let v27 : BitVec 32 := Scalar.extui v26
  let c0_i32_14 : BitVec 32 := 0#32
  let v28 : BitVec 1 := Scalar.cmpi .slt arg8 c0_i32_14
  let v29 : BitVec 32 := Scalar.extui v28
  let v30 : BitVec 32 := Scalar.subi v27 v29
  let c3_i32 : BitVec 32 := 3#32
  let c0_i32_15 : BitVec 32 := 0#32
  let v31 : BitVec 1 := Scalar.cmpi .sgt c3_i32 c0_i32_15
  let v32 : BitVec 32 := Scalar.extui v31
  let c0_i32_16 : BitVec 32 := 0#32
  let v33 : BitVec 1 := Scalar.cmpi .slt c3_i32 c0_i32_16
  let v34 : BitVec 32 := Scalar.extui v33
  let v35 : BitVec 32 := Scalar.subi v32 v34
  let v36 : BitVec 1 := Scalar.cmpi .ne v30 v35
  let v37 : BitVec 32 := Scalar.remsi arg8 c3_i32
  let c0_i32_17 : BitVec 32 := 0#32
  let v38 : BitVec 1 := Scalar.cmpi .ne v37 c0_i32_17
  let v39 : BitVec 1 := Scalar.andi v36 v38
  let v25 : BitVec 32 := Scalar.divsi arg8 c3_i32
  let c1_i32_18 : BitVec 32 := 1#32
  let v40 : BitVec 32 := Scalar.subi v25 c1_i32_18
  let v41 : BitVec 32 := Scalar.select v39 v40 v25
  let c64_i32 : BitVec 32 := 64#32
  let v54 : BitVec 32 := Scalar.muli v41 c64_i32
  v54
def k0_mult3 (k0_t1 : Fin k0_t1_loop.trips) : BitVec 32 :=
  let c0_i32_10 : BitVec 32 := 0#32
  let c1_i32_11 : BitVec 32 := 1#32
  let arg8 : BitVec 32 := Scf.iv c0_i32_10 c1_i32_11 k0_t1
  let c3_i32_19 : BitVec 32 := 3#32
  let c0_i32_20 : BitVec 32 := 0#32
  let v42 : BitVec 1 := Scalar.cmpi .eq c3_i32_19 c0_i32_20
  let c1_i32_21 : BitVec 32 := 1#32
  let v43 : BitVec 32 := Scalar.select v42 c1_i32_21 c3_i32_19
  let v44 : BitVec 32 := Scalar.remsi arg8 v43
  let c0_i32_23 : BitVec 32 := 0#32
  let v46 : BitVec 1 := Scalar.cmpi .slt v44 c0_i32_23
  let c0_i32_24 : BitVec 32 := 0#32
  let v47 : BitVec 1 := Scalar.cmpi .slt v43 c0_i32_24
  let v48 : BitVec 1 := Scalar.xori v46 v47
  let c0_i32_22 : BitVec 32 := 0#32
  let v45 : BitVec 1 := Scalar.cmpi .ne v44 c0_i32_22
  let v49 : BitVec 1 := Scalar.andi v48 v45
  let v50 : BitVec 32 := Scalar.addi v44 v43
  let v51 : BitVec 32 := Scalar.select v49 v50 v44
  let c256_i32 : BitVec 32 := 256#32
  let v52 : BitVec 32 := Scalar.muli v51 c256_i32
  let v53 : BitVec 32 := v52
  let c0_i32_26 : BitVec 32 := 0#32
  let v57 : BitVec 32 := Scalar.addi v53 c0_i32_26
  v57
def k0_off1 (k0_t1 : Fin k0_t1_loop.trips) (c0_i32_25 : BitVec 32) (c0_i32_26 : BitVec 32) : Fin 2 → Nat :=
  let c0_i32_10 : BitVec 32 := 0#32
  let c1_i32_11 : BitVec 32 := 1#32
  let arg8 : BitVec 32 := Scf.iv c0_i32_10 c1_i32_11 k0_t1
  let c0_i32_13 : BitVec 32 := 0#32
  let v26 : BitVec 1 := Scalar.cmpi .sgt arg8 c0_i32_13
  let v27 : BitVec 32 := Scalar.extui v26
  let c0_i32_14 : BitVec 32 := 0#32
  let v28 : BitVec 1 := Scalar.cmpi .slt arg8 c0_i32_14
  let v29 : BitVec 32 := Scalar.extui v28
  let v30 : BitVec 32 := Scalar.subi v27 v29
  let c3_i32 : BitVec 32 := 3#32
  let c0_i32_15 : BitVec 32 := 0#32
  let v31 : BitVec 1 := Scalar.cmpi .sgt c3_i32 c0_i32_15
  let v32 : BitVec 32 := Scalar.extui v31
  let c0_i32_16 : BitVec 32 := 0#32
  let v33 : BitVec 1 := Scalar.cmpi .slt c3_i32 c0_i32_16
  let v34 : BitVec 32 := Scalar.extui v33
  let v35 : BitVec 32 := Scalar.subi v32 v34
  let v36 : BitVec 1 := Scalar.cmpi .ne v30 v35
  let v37 : BitVec 32 := Scalar.remsi arg8 c3_i32
  let c0_i32_17 : BitVec 32 := 0#32
  let v38 : BitVec 1 := Scalar.cmpi .ne v37 c0_i32_17
  let v39 : BitVec 1 := Scalar.andi v36 v38
  let v25 : BitVec 32 := Scalar.divsi arg8 c3_i32
  let c1_i32_18 : BitVec 32 := 1#32
  let v40 : BitVec 32 := Scalar.subi v25 c1_i32_18
  let v41 : BitVec 32 := Scalar.select v39 v40 v25
  let c64_i32 : BitVec 32 := 64#32
  let v54 : BitVec 32 := Scalar.muli v41 c64_i32
  let v55 : BitVec 32 := v54
  let v56 : BitVec 32 := Scalar.addi v55 c0_i32_25
  let v59 : Index := Scalar.indexCast v56
  let c3_i32_19 : BitVec 32 := 3#32
  let c0_i32_20 : BitVec 32 := 0#32
  let v42 : BitVec 1 := Scalar.cmpi .eq c3_i32_19 c0_i32_20
  let c1_i32_21 : BitVec 32 := 1#32
  let v43 : BitVec 32 := Scalar.select v42 c1_i32_21 c3_i32_19
  let v44 : BitVec 32 := Scalar.remsi arg8 v43
  let c0_i32_23 : BitVec 32 := 0#32
  let v46 : BitVec 1 := Scalar.cmpi .slt v44 c0_i32_23
  let c0_i32_24 : BitVec 32 := 0#32
  let v47 : BitVec 1 := Scalar.cmpi .slt v43 c0_i32_24
  let v48 : BitVec 1 := Scalar.xori v46 v47
  let c0_i32_22 : BitVec 32 := 0#32
  let v45 : BitVec 1 := Scalar.cmpi .ne v44 c0_i32_22
  let v49 : BitVec 1 := Scalar.andi v48 v45
  let v50 : BitVec 32 := Scalar.addi v44 v43
  let v51 : BitVec 32 := Scalar.select v49 v50 v44
  let c256_i32 : BitVec 32 := 256#32
  let v52 : BitVec 32 := Scalar.muli v51 c256_i32
  let v53 : BitVec 32 := v52
  let v57 : BitVec 32 := Scalar.addi v53 c0_i32_26
  let v58 : BitVec 32 := v57
  let v60 : Index := Scalar.indexCast v58
  ![v59.toNat, v60.toNat]
def k0_mult4 (k0_t1 : Fin k0_t1_loop.trips) : BitVec 32 :=
  let c0_i32_10 : BitVec 32 := 0#32
  let c1_i32_11 : BitVec 32 := 1#32
  let arg8 : BitVec 32 := Scf.iv c0_i32_10 c1_i32_11 k0_t1
  let c0_i32_13 : BitVec 32 := 0#32
  let v26 : BitVec 1 := Scalar.cmpi .sgt arg8 c0_i32_13
  let v27 : BitVec 32 := Scalar.extui v26
  let c0_i32_14 : BitVec 32 := 0#32
  let v28 : BitVec 1 := Scalar.cmpi .slt arg8 c0_i32_14
  let v29 : BitVec 32 := Scalar.extui v28
  let v30 : BitVec 32 := Scalar.subi v27 v29
  let c3_i32 : BitVec 32 := 3#32
  let c0_i32_15 : BitVec 32 := 0#32
  let v31 : BitVec 1 := Scalar.cmpi .sgt c3_i32 c0_i32_15
  let v32 : BitVec 32 := Scalar.extui v31
  let c0_i32_16 : BitVec 32 := 0#32
  let v33 : BitVec 1 := Scalar.cmpi .slt c3_i32 c0_i32_16
  let v34 : BitVec 32 := Scalar.extui v33
  let v35 : BitVec 32 := Scalar.subi v32 v34
  let v36 : BitVec 1 := Scalar.cmpi .ne v30 v35
  let v37 : BitVec 32 := Scalar.remsi arg8 c3_i32
  let c0_i32_17 : BitVec 32 := 0#32
  let v38 : BitVec 1 := Scalar.cmpi .ne v37 c0_i32_17
  let v39 : BitVec 1 := Scalar.andi v36 v38
  let v25 : BitVec 32 := Scalar.divsi arg8 c3_i32
  let c1_i32_18 : BitVec 32 := 1#32
  let v40 : BitVec 32 := Scalar.subi v25 c1_i32_18
  let v41 : BitVec 32 := Scalar.select v39 v40 v25
  let c64_i32_27 : BitVec 32 := 64#32
  let v62 : BitVec 32 := Scalar.muli v41 c64_i32_27
  v62
def k0_mult5 (k0_t1 : Fin k0_t1_loop.trips) : BitVec 32 :=
  let c0_i32_10 : BitVec 32 := 0#32
  let c1_i32_11 : BitVec 32 := 1#32
  let arg8 : BitVec 32 := Scf.iv c0_i32_10 c1_i32_11 k0_t1
  let c3_i32_19 : BitVec 32 := 3#32
  let c0_i32_20 : BitVec 32 := 0#32
  let v42 : BitVec 1 := Scalar.cmpi .eq c3_i32_19 c0_i32_20
  let c1_i32_21 : BitVec 32 := 1#32
  let v43 : BitVec 32 := Scalar.select v42 c1_i32_21 c3_i32_19
  let v44 : BitVec 32 := Scalar.remsi arg8 v43
  let c0_i32_23 : BitVec 32 := 0#32
  let v46 : BitVec 1 := Scalar.cmpi .slt v44 c0_i32_23
  let c0_i32_24 : BitVec 32 := 0#32
  let v47 : BitVec 1 := Scalar.cmpi .slt v43 c0_i32_24
  let v48 : BitVec 1 := Scalar.xori v46 v47
  let c0_i32_22 : BitVec 32 := 0#32
  let v45 : BitVec 1 := Scalar.cmpi .ne v44 c0_i32_22
  let v49 : BitVec 1 := Scalar.andi v48 v45
  let v50 : BitVec 32 := Scalar.addi v44 v43
  let v51 : BitVec 32 := Scalar.select v49 v50 v44
  let c256_i32 : BitVec 32 := 256#32
  let v52 : BitVec 32 := Scalar.muli v51 c256_i32
  let v53 : BitVec 32 := v52
  let c0_i32_28 : BitVec 32 := 0#32
  let v65 : BitVec 32 := Scalar.addi v53 c0_i32_28
  v65
def k0_mult6 (k0_t1 : Fin k0_t1_loop.trips) : BitVec 32 :=
  let c0_i32_10 : BitVec 32 := 0#32
  let c1_i32_11 : BitVec 32 := 1#32
  let arg8 : BitVec 32 := Scf.iv c0_i32_10 c1_i32_11 k0_t1
  let c0_i32_13 : BitVec 32 := 0#32
  let v26 : BitVec 1 := Scalar.cmpi .sgt arg8 c0_i32_13
  let v27 : BitVec 32 := Scalar.extui v26
  let c0_i32_14 : BitVec 32 := 0#32
  let v28 : BitVec 1 := Scalar.cmpi .slt arg8 c0_i32_14
  let v29 : BitVec 32 := Scalar.extui v28
  let v30 : BitVec 32 := Scalar.subi v27 v29
  let c3_i32 : BitVec 32 := 3#32
  let c0_i32_15 : BitVec 32 := 0#32
  let v31 : BitVec 1 := Scalar.cmpi .sgt c3_i32 c0_i32_15
  let v32 : BitVec 32 := Scalar.extui v31
  let c0_i32_16 : BitVec 32 := 0#32
  let v33 : BitVec 1 := Scalar.cmpi .slt c3_i32 c0_i32_16
  let v34 : BitVec 32 := Scalar.extui v33
  let v35 : BitVec 32 := Scalar.subi v32 v34
  let v36 : BitVec 1 := Scalar.cmpi .ne v30 v35
  let v37 : BitVec 32 := Scalar.remsi arg8 c3_i32
  let c0_i32_17 : BitVec 32 := 0#32
  let v38 : BitVec 1 := Scalar.cmpi .ne v37 c0_i32_17
  let v39 : BitVec 1 := Scalar.andi v36 v38
  let v25 : BitVec 32 := Scalar.divsi arg8 c3_i32
  let c1_i32_18 : BitVec 32 := 1#32
  let v40 : BitVec 32 := Scalar.subi v25 c1_i32_18
  let v41 : BitVec 32 := Scalar.select v39 v40 v25
  let c64_i32_29 : BitVec 32 := 64#32
  let v70 : BitVec 32 := Scalar.muli v41 c64_i32_29
  v70
def k0_mult7 (k0_t1 : Fin k0_t1_loop.trips) : BitVec 32 :=
  let c0_i32_10 : BitVec 32 := 0#32
  let c1_i32_11 : BitVec 32 := 1#32
  let arg8 : BitVec 32 := Scf.iv c0_i32_10 c1_i32_11 k0_t1
  let c3_i32_19 : BitVec 32 := 3#32
  let c0_i32_20 : BitVec 32 := 0#32
  let v42 : BitVec 1 := Scalar.cmpi .eq c3_i32_19 c0_i32_20
  let c1_i32_21 : BitVec 32 := 1#32
  let v43 : BitVec 32 := Scalar.select v42 c1_i32_21 c3_i32_19
  let v44 : BitVec 32 := Scalar.remsi arg8 v43
  let c0_i32_23 : BitVec 32 := 0#32
  let v46 : BitVec 1 := Scalar.cmpi .slt v44 c0_i32_23
  let c0_i32_24 : BitVec 32 := 0#32
  let v47 : BitVec 1 := Scalar.cmpi .slt v43 c0_i32_24
  let v48 : BitVec 1 := Scalar.xori v46 v47
  let c0_i32_22 : BitVec 32 := 0#32
  let v45 : BitVec 1 := Scalar.cmpi .ne v44 c0_i32_22
  let v49 : BitVec 1 := Scalar.andi v48 v45
  let v50 : BitVec 32 := Scalar.addi v44 v43
  let v51 : BitVec 32 := Scalar.select v49 v50 v44
  let c256_i32 : BitVec 32 := 256#32
  let v52 : BitVec 32 := Scalar.muli v51 c256_i32
  let v53 : BitVec 32 := v52
  let c0_i32_30 : BitVec 32 := 0#32
  let v73 : BitVec 32 := Scalar.addi v53 c0_i32_30
  v73
def k0_mult8 (k0_t1 : Fin k0_t1_loop.trips) : BitVec 32 :=
  let c0_i32_10 : BitVec 32 := 0#32
  let c1_i32_11 : BitVec 32 := 1#32
  let arg8 : BitVec 32 := Scf.iv c0_i32_10 c1_i32_11 k0_t1
  let c0_i32_13 : BitVec 32 := 0#32
  let v26 : BitVec 1 := Scalar.cmpi .sgt arg8 c0_i32_13
  let v27 : BitVec 32 := Scalar.extui v26
  let c0_i32_14 : BitVec 32 := 0#32
  let v28 : BitVec 1 := Scalar.cmpi .slt arg8 c0_i32_14
  let v29 : BitVec 32 := Scalar.extui v28
  let v30 : BitVec 32 := Scalar.subi v27 v29
  let c3_i32 : BitVec 32 := 3#32
  let c0_i32_15 : BitVec 32 := 0#32
  let v31 : BitVec 1 := Scalar.cmpi .sgt c3_i32 c0_i32_15
  let v32 : BitVec 32 := Scalar.extui v31
  let c0_i32_16 : BitVec 32 := 0#32
  let v33 : BitVec 1 := Scalar.cmpi .slt c3_i32 c0_i32_16
  let v34 : BitVec 32 := Scalar.extui v33
  let v35 : BitVec 32 := Scalar.subi v32 v34
  let v36 : BitVec 1 := Scalar.cmpi .ne v30 v35
  let v37 : BitVec 32 := Scalar.remsi arg8 c3_i32
  let c0_i32_17 : BitVec 32 := 0#32
  let v38 : BitVec 1 := Scalar.cmpi .ne v37 c0_i32_17
  let v39 : BitVec 1 := Scalar.andi v36 v38
  let v25 : BitVec 32 := Scalar.divsi arg8 c3_i32
  let c1_i32_18 : BitVec 32 := 1#32
  let v40 : BitVec 32 := Scalar.subi v25 c1_i32_18
  let v41 : BitVec 32 := Scalar.select v39 v40 v25
  let c64_i32_31 : BitVec 32 := 64#32
  let v78 : BitVec 32 := Scalar.muli v41 c64_i32_31
  v78
def k0_mult9 (k0_t1 : Fin k0_t1_loop.trips) : BitVec 32 :=
  let c0_i32_10 : BitVec 32 := 0#32
  let c1_i32_11 : BitVec 32 := 1#32
  let arg8 : BitVec 32 := Scf.iv c0_i32_10 c1_i32_11 k0_t1
  let c3_i32_19 : BitVec 32 := 3#32
  let c0_i32_20 : BitVec 32 := 0#32
  let v42 : BitVec 1 := Scalar.cmpi .eq c3_i32_19 c0_i32_20
  let c1_i32_21 : BitVec 32 := 1#32
  let v43 : BitVec 32 := Scalar.select v42 c1_i32_21 c3_i32_19
  let v44 : BitVec 32 := Scalar.remsi arg8 v43
  let c0_i32_23 : BitVec 32 := 0#32
  let v46 : BitVec 1 := Scalar.cmpi .slt v44 c0_i32_23
  let c0_i32_24 : BitVec 32 := 0#32
  let v47 : BitVec 1 := Scalar.cmpi .slt v43 c0_i32_24
  let v48 : BitVec 1 := Scalar.xori v46 v47
  let c0_i32_22 : BitVec 32 := 0#32
  let v45 : BitVec 1 := Scalar.cmpi .ne v44 c0_i32_22
  let v49 : BitVec 1 := Scalar.andi v48 v45
  let v50 : BitVec 32 := Scalar.addi v44 v43
  let v51 : BitVec 32 := Scalar.select v49 v50 v44
  let c256_i32 : BitVec 32 := 256#32
  let v52 : BitVec 32 := Scalar.muli v51 c256_i32
  let v53 : BitVec 32 := v52
  let c0_i32_32 : BitVec 32 := 0#32
  let v81 : BitVec 32 := Scalar.addi v53 c0_i32_32
  v81
def k0_mult10 (k0_t1 : Fin k0_t1_loop.trips) : BitVec 32 :=
  let c0_i32_10 : BitVec 32 := 0#32
  let c1_i32_11 : BitVec 32 := 1#32
  let arg8 : BitVec 32 := Scf.iv c0_i32_10 c1_i32_11 k0_t1
  let c3_i32_19 : BitVec 32 := 3#32
  let c0_i32_20 : BitVec 32 := 0#32
  let v42 : BitVec 1 := Scalar.cmpi .eq c3_i32_19 c0_i32_20
  let c1_i32_21 : BitVec 32 := 1#32
  let v43 : BitVec 32 := Scalar.select v42 c1_i32_21 c3_i32_19
  let v44 : BitVec 32 := Scalar.remsi arg8 v43
  let c0_i32_23 : BitVec 32 := 0#32
  let v46 : BitVec 1 := Scalar.cmpi .slt v44 c0_i32_23
  let c0_i32_24 : BitVec 32 := 0#32
  let v47 : BitVec 1 := Scalar.cmpi .slt v43 c0_i32_24
  let v48 : BitVec 1 := Scalar.xori v46 v47
  let c0_i32_22 : BitVec 32 := 0#32
  let v45 : BitVec 1 := Scalar.cmpi .ne v44 c0_i32_22
  let v49 : BitVec 1 := Scalar.andi v48 v45
  let v50 : BitVec 32 := Scalar.addi v44 v43
  let v51 : BitVec 32 := Scalar.select v49 v50 v44
  let c256_i32 : BitVec 32 := 256#32
  let v52 : BitVec 32 := Scalar.muli v51 c256_i32
  let v53 : BitVec 32 := v52
  let c0_i32_35 : BitVec 32 := 0#32
  let v88 : BitVec 32 := Scalar.addi v53 c0_i32_35
  v88
def k0_off2 (k0_t1 : Fin k0_t1_loop.trips) (c0_i32_34 : BitVec 32) (c0_i32_35 : BitVec 32) : Fin 3 → Nat :=
  let c0_i32_10 : BitVec 32 := 0#32
  let c1_i32_11 : BitVec 32 := 1#32
  let arg8 : BitVec 32 := Scf.iv c0_i32_10 c1_i32_11 k0_t1
  let c0_i32_13 : BitVec 32 := 0#32
  let v26 : BitVec 1 := Scalar.cmpi .sgt arg8 c0_i32_13
  let v27 : BitVec 32 := Scalar.extui v26
  let c0_i32_14 : BitVec 32 := 0#32
  let v28 : BitVec 1 := Scalar.cmpi .slt arg8 c0_i32_14
  let v29 : BitVec 32 := Scalar.extui v28
  let v30 : BitVec 32 := Scalar.subi v27 v29
  let c3_i32 : BitVec 32 := 3#32
  let c0_i32_15 : BitVec 32 := 0#32
  let v31 : BitVec 1 := Scalar.cmpi .sgt c3_i32 c0_i32_15
  let v32 : BitVec 32 := Scalar.extui v31
  let c0_i32_16 : BitVec 32 := 0#32
  let v33 : BitVec 1 := Scalar.cmpi .slt c3_i32 c0_i32_16
  let v34 : BitVec 32 := Scalar.extui v33
  let v35 : BitVec 32 := Scalar.subi v32 v34
  let v36 : BitVec 1 := Scalar.cmpi .ne v30 v35
  let v37 : BitVec 32 := Scalar.remsi arg8 c3_i32
  let c0_i32_17 : BitVec 32 := 0#32
  let v38 : BitVec 1 := Scalar.cmpi .ne v37 c0_i32_17
  let v39 : BitVec 1 := Scalar.andi v36 v38
  let v25 : BitVec 32 := Scalar.divsi arg8 c3_i32
  let c1_i32_18 : BitVec 32 := 1#32
  let v40 : BitVec 32 := Scalar.subi v25 c1_i32_18
  let v41 : BitVec 32 := Scalar.select v39 v40 v25
  let c2_i32_33 : BitVec 32 := 2#32
  let v86 : BitVec 32 := Scalar.muli v41 c2_i32_33
  let v87 : BitVec 32 := Scalar.addi v86 c0_i32_34
  let v90 : Index := Scalar.indexCast v87
  let c0_36 : Index := 0#32
  let c3_i32_19 : BitVec 32 := 3#32
  let c0_i32_20 : BitVec 32 := 0#32
  let v42 : BitVec 1 := Scalar.cmpi .eq c3_i32_19 c0_i32_20
  let c1_i32_21 : BitVec 32 := 1#32
  let v43 : BitVec 32 := Scalar.select v42 c1_i32_21 c3_i32_19
  let v44 : BitVec 32 := Scalar.remsi arg8 v43
  let c0_i32_23 : BitVec 32 := 0#32
  let v46 : BitVec 1 := Scalar.cmpi .slt v44 c0_i32_23
  let c0_i32_24 : BitVec 32 := 0#32
  let v47 : BitVec 1 := Scalar.cmpi .slt v43 c0_i32_24
  let v48 : BitVec 1 := Scalar.xori v46 v47
  let c0_i32_22 : BitVec 32 := 0#32
  let v45 : BitVec 1 := Scalar.cmpi .ne v44 c0_i32_22
  let v49 : BitVec 1 := Scalar.andi v48 v45
  let v50 : BitVec 32 := Scalar.addi v44 v43
  let v51 : BitVec 32 := Scalar.select v49 v50 v44
  let c256_i32 : BitVec 32 := 256#32
  let v52 : BitVec 32 := Scalar.muli v51 c256_i32
  let v53 : BitVec 32 := v52
  let v88 : BitVec 32 := Scalar.addi v53 c0_i32_35
  let v89 : BitVec 32 := v88
  let v91 : Index := Scalar.indexCast v89
  ![v90.toNat, 0, v91.toNat]
def k0_mult11 (k0_t1 : Fin k0_t1_loop.trips) : BitVec 32 :=
  let c0_i32_10 : BitVec 32 := 0#32
  let c1_i32_11 : BitVec 32 := 1#32
  let arg8 : BitVec 32 := Scf.iv c0_i32_10 c1_i32_11 k0_t1
  let c0_i32_13 : BitVec 32 := 0#32
  let v26 : BitVec 1 := Scalar.cmpi .sgt arg8 c0_i32_13
  let v27 : BitVec 32 := Scalar.extui v26
  let c0_i32_14 : BitVec 32 := 0#32
  let v28 : BitVec 1 := Scalar.cmpi .slt arg8 c0_i32_14
  let v29 : BitVec 32 := Scalar.extui v28
  let v30 : BitVec 32 := Scalar.subi v27 v29
  let c3_i32 : BitVec 32 := 3#32
  let c0_i32_15 : BitVec 32 := 0#32
  let v31 : BitVec 1 := Scalar.cmpi .sgt c3_i32 c0_i32_15
  let v32 : BitVec 32 := Scalar.extui v31
  let c0_i32_16 : BitVec 32 := 0#32
  let v33 : BitVec 1 := Scalar.cmpi .slt c3_i32 c0_i32_16
  let v34 : BitVec 32 := Scalar.extui v33
  let v35 : BitVec 32 := Scalar.subi v32 v34
  let v36 : BitVec 1 := Scalar.cmpi .ne v30 v35
  let v37 : BitVec 32 := Scalar.remsi arg8 c3_i32
  let c0_i32_17 : BitVec 32 := 0#32
  let v38 : BitVec 1 := Scalar.cmpi .ne v37 c0_i32_17
  let v39 : BitVec 1 := Scalar.andi v36 v38
  let v25 : BitVec 32 := Scalar.divsi arg8 c3_i32
  let c1_i32_18 : BitVec 32 := 1#32
  let v40 : BitVec 32 := Scalar.subi v25 c1_i32_18
  let v41 : BitVec 32 := Scalar.select v39 v40 v25
  let c128_i32 : BitVec 32 := 128#32
  let v112 : BitVec 32 := Scalar.muli v41 c128_i32
  v112
def k0_mult12 (k0_t1 : Fin k0_t1_loop.trips) : BitVec 32 :=
  let c0_i32_10 : BitVec 32 := 0#32
  let c1_i32_11 : BitVec 32 := 1#32
  let arg8 : BitVec 32 := Scf.iv c0_i32_10 c1_i32_11 k0_t1
  let c3_i32_19 : BitVec 32 := 3#32
  let c0_i32_20 : BitVec 32 := 0#32
  let v42 : BitVec 1 := Scalar.cmpi .eq c3_i32_19 c0_i32_20
  let c1_i32_21 : BitVec 32 := 1#32
  let v43 : BitVec 32 := Scalar.select v42 c1_i32_21 c3_i32_19
  let v44 : BitVec 32 := Scalar.remsi arg8 v43
  let c0_i32_23 : BitVec 32 := 0#32
  let v46 : BitVec 1 := Scalar.cmpi .slt v44 c0_i32_23
  let c0_i32_24 : BitVec 32 := 0#32
  let v47 : BitVec 1 := Scalar.cmpi .slt v43 c0_i32_24
  let v48 : BitVec 1 := Scalar.xori v46 v47
  let c0_i32_22 : BitVec 32 := 0#32
  let v45 : BitVec 1 := Scalar.cmpi .ne v44 c0_i32_22
  let v49 : BitVec 1 := Scalar.andi v48 v45
  let v50 : BitVec 32 := Scalar.addi v44 v43
  let v51 : BitVec 32 := Scalar.select v49 v50 v44
  let c256_i32 : BitVec 32 := 256#32
  let v52 : BitVec 32 := Scalar.muli v51 c256_i32
  let v53 : BitVec 32 := v52
  let c0_i32_49 : BitVec 32 := 0#32
  let v115 : BitVec 32 := Scalar.addi v53 c0_i32_49
  v115
def k0_off3 (i : grid0.Coords) (k0_t1 : Fin k0_t1_loop.trips) (c0_i32_48 : BitVec 32) (c0_i32_49 : BitVec 32) : Fin 3 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v117 : Index := Scalar.indexCast v9
  let c0_i32_10 : BitVec 32 := 0#32
  let c1_i32_11 : BitVec 32 := 1#32
  let arg8 : BitVec 32 := Scf.iv c0_i32_10 c1_i32_11 k0_t1
  let c0_i32_13 : BitVec 32 := 0#32
  let v26 : BitVec 1 := Scalar.cmpi .sgt arg8 c0_i32_13
  let v27 : BitVec 32 := Scalar.extui v26
  let c0_i32_14 : BitVec 32 := 0#32
  let v28 : BitVec 1 := Scalar.cmpi .slt arg8 c0_i32_14
  let v29 : BitVec 32 := Scalar.extui v28
  let v30 : BitVec 32 := Scalar.subi v27 v29
  let c3_i32 : BitVec 32 := 3#32
  let c0_i32_15 : BitVec 32 := 0#32
  let v31 : BitVec 1 := Scalar.cmpi .sgt c3_i32 c0_i32_15
  let v32 : BitVec 32 := Scalar.extui v31
  let c0_i32_16 : BitVec 32 := 0#32
  let v33 : BitVec 1 := Scalar.cmpi .slt c3_i32 c0_i32_16
  let v34 : BitVec 32 := Scalar.extui v33
  let v35 : BitVec 32 := Scalar.subi v32 v34
  let v36 : BitVec 1 := Scalar.cmpi .ne v30 v35
  let v37 : BitVec 32 := Scalar.remsi arg8 c3_i32
  let c0_i32_17 : BitVec 32 := 0#32
  let v38 : BitVec 1 := Scalar.cmpi .ne v37 c0_i32_17
  let v39 : BitVec 1 := Scalar.andi v36 v38
  let v25 : BitVec 32 := Scalar.divsi arg8 c3_i32
  let c1_i32_18 : BitVec 32 := 1#32
  let v40 : BitVec 32 := Scalar.subi v25 c1_i32_18
  let v41 : BitVec 32 := Scalar.select v39 v40 v25
  let c128_i32 : BitVec 32 := 128#32
  let v112 : BitVec 32 := Scalar.muli v41 c128_i32
  let v113 : BitVec 32 := v112
  let v114 : BitVec 32 := Scalar.addi v113 c0_i32_48
  let v118 : Index := Scalar.indexCast v114
  let c3_i32_19 : BitVec 32 := 3#32
  let c0_i32_20 : BitVec 32 := 0#32
  let v42 : BitVec 1 := Scalar.cmpi .eq c3_i32_19 c0_i32_20
  let c1_i32_21 : BitVec 32 := 1#32
  let v43 : BitVec 32 := Scalar.select v42 c1_i32_21 c3_i32_19
  let v44 : BitVec 32 := Scalar.remsi arg8 v43
  let c0_i32_23 : BitVec 32 := 0#32
  let v46 : BitVec 1 := Scalar.cmpi .slt v44 c0_i32_23
  let c0_i32_24 : BitVec 32 := 0#32
  let v47 : BitVec 1 := Scalar.cmpi .slt v43 c0_i32_24
  let v48 : BitVec 1 := Scalar.xori v46 v47
  let c0_i32_22 : BitVec 32 := 0#32
  let v45 : BitVec 1 := Scalar.cmpi .ne v44 c0_i32_22
  let v49 : BitVec 1 := Scalar.andi v48 v45
  let v50 : BitVec 32 := Scalar.addi v44 v43
  let v51 : BitVec 32 := Scalar.select v49 v50 v44
  let c256_i32 : BitVec 32 := 256#32
  let v52 : BitVec 32 := Scalar.muli v51 c256_i32
  let v53 : BitVec 32 := v52
  let v115 : BitVec 32 := Scalar.addi v53 c0_i32_49
  let v116 : BitVec 32 := v115
  let v119 : Index := Scalar.indexCast v116
  ![v117.toNat, v118.toNat, v119.toNat]
def k0_mult13 (k0_t1 : Fin k0_t1_loop.trips) : BitVec 32 :=
  let c0_i32_10 : BitVec 32 := 0#32
  let c1_i32_11 : BitVec 32 := 1#32
  let arg8 : BitVec 32 := Scf.iv c0_i32_10 c1_i32_11 k0_t1
  let c0_i32_13 : BitVec 32 := 0#32
  let v26 : BitVec 1 := Scalar.cmpi .sgt arg8 c0_i32_13
  let v27 : BitVec 32 := Scalar.extui v26
  let c0_i32_14 : BitVec 32 := 0#32
  let v28 : BitVec 1 := Scalar.cmpi .slt arg8 c0_i32_14
  let v29 : BitVec 32 := Scalar.extui v28
  let v30 : BitVec 32 := Scalar.subi v27 v29
  let c3_i32 : BitVec 32 := 3#32
  let c0_i32_15 : BitVec 32 := 0#32
  let v31 : BitVec 1 := Scalar.cmpi .sgt c3_i32 c0_i32_15
  let v32 : BitVec 32 := Scalar.extui v31
  let c0_i32_16 : BitVec 32 := 0#32
  let v33 : BitVec 1 := Scalar.cmpi .slt c3_i32 c0_i32_16
  let v34 : BitVec 32 := Scalar.extui v33
  let v35 : BitVec 32 := Scalar.subi v32 v34
  let v36 : BitVec 1 := Scalar.cmpi .ne v30 v35
  let v37 : BitVec 32 := Scalar.remsi arg8 c3_i32
  let c0_i32_17 : BitVec 32 := 0#32
  let v38 : BitVec 1 := Scalar.cmpi .ne v37 c0_i32_17
  let v39 : BitVec 1 := Scalar.andi v36 v38
  let v25 : BitVec 32 := Scalar.divsi arg8 c3_i32
  let c1_i32_18 : BitVec 32 := 1#32
  let v40 : BitVec 32 := Scalar.subi v25 c1_i32_18
  let v41 : BitVec 32 := Scalar.select v39 v40 v25
  let c128_i32_50 : BitVec 32 := 128#32
  let v127 : BitVec 32 := Scalar.muli v41 c128_i32_50
  v127
def k0_mult14 (k0_t1 : Fin k0_t1_loop.trips) : BitVec 32 :=
  let c0_i32_10 : BitVec 32 := 0#32
  let c1_i32_11 : BitVec 32 := 1#32
  let arg8 : BitVec 32 := Scf.iv c0_i32_10 c1_i32_11 k0_t1
  let c3_i32_19 : BitVec 32 := 3#32
  let c0_i32_20 : BitVec 32 := 0#32
  let v42 : BitVec 1 := Scalar.cmpi .eq c3_i32_19 c0_i32_20
  let c1_i32_21 : BitVec 32 := 1#32
  let v43 : BitVec 32 := Scalar.select v42 c1_i32_21 c3_i32_19
  let v44 : BitVec 32 := Scalar.remsi arg8 v43
  let c0_i32_23 : BitVec 32 := 0#32
  let v46 : BitVec 1 := Scalar.cmpi .slt v44 c0_i32_23
  let c0_i32_24 : BitVec 32 := 0#32
  let v47 : BitVec 1 := Scalar.cmpi .slt v43 c0_i32_24
  let v48 : BitVec 1 := Scalar.xori v46 v47
  let c0_i32_22 : BitVec 32 := 0#32
  let v45 : BitVec 1 := Scalar.cmpi .ne v44 c0_i32_22
  let v49 : BitVec 1 := Scalar.andi v48 v45
  let v50 : BitVec 32 := Scalar.addi v44 v43
  let v51 : BitVec 32 := Scalar.select v49 v50 v44
  let c256_i32 : BitVec 32 := 256#32
  let v52 : BitVec 32 := Scalar.muli v51 c256_i32
  let v53 : BitVec 32 := v52
  let c0_i32_52 : BitVec 32 := 0#32
  let v130 : BitVec 32 := Scalar.addi v53 c0_i32_52
  v130
def k0_mult15 (k0_t1 : Fin k0_t1_loop.trips) : BitVec 32 :=
  let c0_i32_10 : BitVec 32 := 0#32
  let c1_i32_11 : BitVec 32 := 1#32
  let arg8 : BitVec 32 := Scf.iv c0_i32_10 c1_i32_11 k0_t1
  let c0_i32_13 : BitVec 32 := 0#32
  let v26 : BitVec 1 := Scalar.cmpi .sgt arg8 c0_i32_13
  let v27 : BitVec 32 := Scalar.extui v26
  let c0_i32_14 : BitVec 32 := 0#32
  let v28 : BitVec 1 := Scalar.cmpi .slt arg8 c0_i32_14
  let v29 : BitVec 32 := Scalar.extui v28
  let v30 : BitVec 32 := Scalar.subi v27 v29
  let c3_i32 : BitVec 32 := 3#32
  let c0_i32_15 : BitVec 32 := 0#32
  let v31 : BitVec 1 := Scalar.cmpi .sgt c3_i32 c0_i32_15
  let v32 : BitVec 32 := Scalar.extui v31
  let c0_i32_16 : BitVec 32 := 0#32
  let v33 : BitVec 1 := Scalar.cmpi .slt c3_i32 c0_i32_16
  let v34 : BitVec 32 := Scalar.extui v33
  let v35 : BitVec 32 := Scalar.subi v32 v34
  let v36 : BitVec 1 := Scalar.cmpi .ne v30 v35
  let v37 : BitVec 32 := Scalar.remsi arg8 c3_i32
  let c0_i32_17 : BitVec 32 := 0#32
  let v38 : BitVec 1 := Scalar.cmpi .ne v37 c0_i32_17
  let v39 : BitVec 1 := Scalar.andi v36 v38
  let v25 : BitVec 32 := Scalar.divsi arg8 c3_i32
  let c1_i32_18 : BitVec 32 := 1#32
  let v40 : BitVec 32 := Scalar.subi v25 c1_i32_18
  let v41 : BitVec 32 := Scalar.select v39 v40 v25
  let c128_i32_53 : BitVec 32 := 128#32
  let v142 : BitVec 32 := Scalar.muli v41 c128_i32_53
  v142
def k0_mult16 (k0_t1 : Fin k0_t1_loop.trips) : BitVec 32 :=
  let c0_i32_10 : BitVec 32 := 0#32
  let c1_i32_11 : BitVec 32 := 1#32
  let arg8 : BitVec 32 := Scf.iv c0_i32_10 c1_i32_11 k0_t1
  let c3_i32_19 : BitVec 32 := 3#32
  let c0_i32_20 : BitVec 32 := 0#32
  let v42 : BitVec 1 := Scalar.cmpi .eq c3_i32_19 c0_i32_20
  let c1_i32_21 : BitVec 32 := 1#32
  let v43 : BitVec 32 := Scalar.select v42 c1_i32_21 c3_i32_19
  let v44 : BitVec 32 := Scalar.remsi arg8 v43
  let c0_i32_23 : BitVec 32 := 0#32
  let v46 : BitVec 1 := Scalar.cmpi .slt v44 c0_i32_23
  let c0_i32_24 : BitVec 32 := 0#32
  let v47 : BitVec 1 := Scalar.cmpi .slt v43 c0_i32_24
  let v48 : BitVec 1 := Scalar.xori v46 v47
  let c0_i32_22 : BitVec 32 := 0#32
  let v45 : BitVec 1 := Scalar.cmpi .ne v44 c0_i32_22
  let v49 : BitVec 1 := Scalar.andi v48 v45
  let v50 : BitVec 32 := Scalar.addi v44 v43
  let v51 : BitVec 32 := Scalar.select v49 v50 v44
  let c256_i32 : BitVec 32 := 256#32
  let v52 : BitVec 32 := Scalar.muli v51 c256_i32
  let v53 : BitVec 32 := v52
  let c0_i32_54 : BitVec 32 := 0#32
  let v145 : BitVec 32 := Scalar.addi v53 c0_i32_54
  v145
def k0_mult17 (k0_t1 : Fin k0_t1_loop.trips) : BitVec 32 :=
  let c0_i32_10 : BitVec 32 := 0#32
  let c1_i32_11 : BitVec 32 := 1#32
  let arg8 : BitVec 32 := Scf.iv c0_i32_10 c1_i32_11 k0_t1
  let c0_i32_13 : BitVec 32 := 0#32
  let v26 : BitVec 1 := Scalar.cmpi .sgt arg8 c0_i32_13
  let v27 : BitVec 32 := Scalar.extui v26
  let c0_i32_14 : BitVec 32 := 0#32
  let v28 : BitVec 1 := Scalar.cmpi .slt arg8 c0_i32_14
  let v29 : BitVec 32 := Scalar.extui v28
  let v30 : BitVec 32 := Scalar.subi v27 v29
  let c3_i32 : BitVec 32 := 3#32
  let c0_i32_15 : BitVec 32 := 0#32
  let v31 : BitVec 1 := Scalar.cmpi .sgt c3_i32 c0_i32_15
  let v32 : BitVec 32 := Scalar.extui v31
  let c0_i32_16 : BitVec 32 := 0#32
  let v33 : BitVec 1 := Scalar.cmpi .slt c3_i32 c0_i32_16
  let v34 : BitVec 32 := Scalar.extui v33
  let v35 : BitVec 32 := Scalar.subi v32 v34
  let v36 : BitVec 1 := Scalar.cmpi .ne v30 v35
  let v37 : BitVec 32 := Scalar.remsi arg8 c3_i32
  let c0_i32_17 : BitVec 32 := 0#32
  let v38 : BitVec 1 := Scalar.cmpi .ne v37 c0_i32_17
  let v39 : BitVec 1 := Scalar.andi v36 v38
  let v25 : BitVec 32 := Scalar.divsi arg8 c3_i32
  let c1_i32_18 : BitVec 32 := 1#32
  let v40 : BitVec 32 := Scalar.subi v25 c1_i32_18
  let v41 : BitVec 32 := Scalar.select v39 v40 v25
  let c128_i32_55 : BitVec 32 := 128#32
  let v157 : BitVec 32 := Scalar.muli v41 c128_i32_55
  v157
def k0_mult18 (k0_t1 : Fin k0_t1_loop.trips) : BitVec 32 :=
  let c0_i32_10 : BitVec 32 := 0#32
  let c1_i32_11 : BitVec 32 := 1#32
  let arg8 : BitVec 32 := Scf.iv c0_i32_10 c1_i32_11 k0_t1
  let c3_i32_19 : BitVec 32 := 3#32
  let c0_i32_20 : BitVec 32 := 0#32
  let v42 : BitVec 1 := Scalar.cmpi .eq c3_i32_19 c0_i32_20
  let c1_i32_21 : BitVec 32 := 1#32
  let v43 : BitVec 32 := Scalar.select v42 c1_i32_21 c3_i32_19
  let v44 : BitVec 32 := Scalar.remsi arg8 v43
  let c0_i32_23 : BitVec 32 := 0#32
  let v46 : BitVec 1 := Scalar.cmpi .slt v44 c0_i32_23
  let c0_i32_24 : BitVec 32 := 0#32
  let v47 : BitVec 1 := Scalar.cmpi .slt v43 c0_i32_24
  let v48 : BitVec 1 := Scalar.xori v46 v47
  let c0_i32_22 : BitVec 32 := 0#32
  let v45 : BitVec 1 := Scalar.cmpi .ne v44 c0_i32_22
  let v49 : BitVec 1 := Scalar.andi v48 v45
  let v50 : BitVec 32 := Scalar.addi v44 v43
  let v51 : BitVec 32 := Scalar.select v49 v50 v44
  let c256_i32 : BitVec 32 := 256#32
  let v52 : BitVec 32 := Scalar.muli v51 c256_i32
  let v53 : BitVec 32 := v52
  let c0_i32_56 : BitVec 32 := 0#32
  let v160 : BitVec 32 := Scalar.addi v53 c0_i32_56
  v160
def k0_mult19 (k0_t1 : Fin k0_t1_loop.trips) : BitVec 32 :=
  let c0_i32_10 : BitVec 32 := 0#32
  let c1_i32_11 : BitVec 32 := 1#32
  let arg8 : BitVec 32 := Scf.iv c0_i32_10 c1_i32_11 k0_t1
  let c0_i32_13 : BitVec 32 := 0#32
  let v26 : BitVec 1 := Scalar.cmpi .sgt arg8 c0_i32_13
  let v27 : BitVec 32 := Scalar.extui v26
  let c0_i32_14 : BitVec 32 := 0#32
  let v28 : BitVec 1 := Scalar.cmpi .slt arg8 c0_i32_14
  let v29 : BitVec 32 := Scalar.extui v28
  let v30 : BitVec 32 := Scalar.subi v27 v29
  let c3_i32 : BitVec 32 := 3#32
  let c0_i32_15 : BitVec 32 := 0#32
  let v31 : BitVec 1 := Scalar.cmpi .sgt c3_i32 c0_i32_15
  let v32 : BitVec 32 := Scalar.extui v31
  let c0_i32_16 : BitVec 32 := 0#32
  let v33 : BitVec 1 := Scalar.cmpi .slt c3_i32 c0_i32_16
  let v34 : BitVec 32 := Scalar.extui v33
  let v35 : BitVec 32 := Scalar.subi v32 v34
  let v36 : BitVec 1 := Scalar.cmpi .ne v30 v35
  let v37 : BitVec 32 := Scalar.remsi arg8 c3_i32
  let c0_i32_17 : BitVec 32 := 0#32
  let v38 : BitVec 1 := Scalar.cmpi .ne v37 c0_i32_17
  let v39 : BitVec 1 := Scalar.andi v36 v38
  let v25 : BitVec 32 := Scalar.divsi arg8 c3_i32
  let c1_i32_18 : BitVec 32 := 1#32
  let v40 : BitVec 32 := Scalar.subi v25 c1_i32_18
  let v41 : BitVec 32 := Scalar.select v39 v40 v25
  let c64_i32_57 : BitVec 32 := 64#32
  let v168 : BitVec 32 := Scalar.muli v41 c64_i32_57
  v168
def k0_mult20 (k0_t1 : Fin k0_t1_loop.trips) : BitVec 32 :=
  let c0_i32_10 : BitVec 32 := 0#32
  let c1_i32_11 : BitVec 32 := 1#32
  let arg8 : BitVec 32 := Scf.iv c0_i32_10 c1_i32_11 k0_t1
  let c3_i32_19 : BitVec 32 := 3#32
  let c0_i32_20 : BitVec 32 := 0#32
  let v42 : BitVec 1 := Scalar.cmpi .eq c3_i32_19 c0_i32_20
  let c1_i32_21 : BitVec 32 := 1#32
  let v43 : BitVec 32 := Scalar.select v42 c1_i32_21 c3_i32_19
  let v44 : BitVec 32 := Scalar.remsi arg8 v43
  let c0_i32_23 : BitVec 32 := 0#32
  let v46 : BitVec 1 := Scalar.cmpi .slt v44 c0_i32_23
  let c0_i32_24 : BitVec 32 := 0#32
  let v47 : BitVec 1 := Scalar.cmpi .slt v43 c0_i32_24
  let v48 : BitVec 1 := Scalar.xori v46 v47
  let c0_i32_22 : BitVec 32 := 0#32
  let v45 : BitVec 1 := Scalar.cmpi .ne v44 c0_i32_22
  let v49 : BitVec 1 := Scalar.andi v48 v45
  let v50 : BitVec 32 := Scalar.addi v44 v43
  let v51 : BitVec 32 := Scalar.select v49 v50 v44
  let c256_i32 : BitVec 32 := 256#32
  let v52 : BitVec 32 := Scalar.muli v51 c256_i32
  let v53 : BitVec 32 := v52
  let c0_i32_59 : BitVec 32 := 0#32
  let v171 : BitVec 32 := Scalar.addi v53 c0_i32_59
  v171
def k0_mult21 (k0_t1 : Fin k0_t1_loop.trips) : BitVec 32 :=
  let c0_i32_10 : BitVec 32 := 0#32
  let c1_i32_11 : BitVec 32 := 1#32
  let arg8 : BitVec 32 := Scf.iv c0_i32_10 c1_i32_11 k0_t1
  let c0_i32_13 : BitVec 32 := 0#32
  let v26 : BitVec 1 := Scalar.cmpi .sgt arg8 c0_i32_13
  let v27 : BitVec 32 := Scalar.extui v26
  let c0_i32_14 : BitVec 32 := 0#32
  let v28 : BitVec 1 := Scalar.cmpi .slt arg8 c0_i32_14
  let v29 : BitVec 32 := Scalar.extui v28
  let v30 : BitVec 32 := Scalar.subi v27 v29
  let c3_i32 : BitVec 32 := 3#32
  let c0_i32_15 : BitVec 32 := 0#32
  let v31 : BitVec 1 := Scalar.cmpi .sgt c3_i32 c0_i32_15
  let v32 : BitVec 32 := Scalar.extui v31
  let c0_i32_16 : BitVec 32 := 0#32
  let v33 : BitVec 1 := Scalar.cmpi .slt c3_i32 c0_i32_16
  let v34 : BitVec 32 := Scalar.extui v33
  let v35 : BitVec 32 := Scalar.subi v32 v34
  let v36 : BitVec 1 := Scalar.cmpi .ne v30 v35
  let v37 : BitVec 32 := Scalar.remsi arg8 c3_i32
  let c0_i32_17 : BitVec 32 := 0#32
  let v38 : BitVec 1 := Scalar.cmpi .ne v37 c0_i32_17
  let v39 : BitVec 1 := Scalar.andi v36 v38
  let v25 : BitVec 32 := Scalar.divsi arg8 c3_i32
  let c1_i32_18 : BitVec 32 := 1#32
  let v40 : BitVec 32 := Scalar.subi v25 c1_i32_18
  let v41 : BitVec 32 := Scalar.select v39 v40 v25
  let c64_i32_60 : BitVec 32 := 64#32
  let v176 : BitVec 32 := Scalar.muli v41 c64_i32_60
  v176
def k0_mult22 (k0_t1 : Fin k0_t1_loop.trips) : BitVec 32 :=
  let c0_i32_10 : BitVec 32 := 0#32
  let c1_i32_11 : BitVec 32 := 1#32
  let arg8 : BitVec 32 := Scf.iv c0_i32_10 c1_i32_11 k0_t1
  let c3_i32_19 : BitVec 32 := 3#32
  let c0_i32_20 : BitVec 32 := 0#32
  let v42 : BitVec 1 := Scalar.cmpi .eq c3_i32_19 c0_i32_20
  let c1_i32_21 : BitVec 32 := 1#32
  let v43 : BitVec 32 := Scalar.select v42 c1_i32_21 c3_i32_19
  let v44 : BitVec 32 := Scalar.remsi arg8 v43
  let c0_i32_23 : BitVec 32 := 0#32
  let v46 : BitVec 1 := Scalar.cmpi .slt v44 c0_i32_23
  let c0_i32_24 : BitVec 32 := 0#32
  let v47 : BitVec 1 := Scalar.cmpi .slt v43 c0_i32_24
  let v48 : BitVec 1 := Scalar.xori v46 v47
  let c0_i32_22 : BitVec 32 := 0#32
  let v45 : BitVec 1 := Scalar.cmpi .ne v44 c0_i32_22
  let v49 : BitVec 1 := Scalar.andi v48 v45
  let v50 : BitVec 32 := Scalar.addi v44 v43
  let v51 : BitVec 32 := Scalar.select v49 v50 v44
  let c256_i32 : BitVec 32 := 256#32
  let v52 : BitVec 32 := Scalar.muli v51 c256_i32
  let v53 : BitVec 32 := v52
  let c0_i32_61 : BitVec 32 := 0#32
  let v179 : BitVec 32 := Scalar.addi v53 c0_i32_61
  v179
def k0_mult23 (k0_t1 : Fin k0_t1_loop.trips) : BitVec 32 :=
  let c0_i32_10 : BitVec 32 := 0#32
  let c1_i32_11 : BitVec 32 := 1#32
  let arg8 : BitVec 32 := Scf.iv c0_i32_10 c1_i32_11 k0_t1
  let c0_i32_13 : BitVec 32 := 0#32
  let v26 : BitVec 1 := Scalar.cmpi .sgt arg8 c0_i32_13
  let v27 : BitVec 32 := Scalar.extui v26
  let c0_i32_14 : BitVec 32 := 0#32
  let v28 : BitVec 1 := Scalar.cmpi .slt arg8 c0_i32_14
  let v29 : BitVec 32 := Scalar.extui v28
  let v30 : BitVec 32 := Scalar.subi v27 v29
  let c3_i32 : BitVec 32 := 3#32
  let c0_i32_15 : BitVec 32 := 0#32
  let v31 : BitVec 1 := Scalar.cmpi .sgt c3_i32 c0_i32_15
  let v32 : BitVec 32 := Scalar.extui v31
  let c0_i32_16 : BitVec 32 := 0#32
  let v33 : BitVec 1 := Scalar.cmpi .slt c3_i32 c0_i32_16
  let v34 : BitVec 32 := Scalar.extui v33
  let v35 : BitVec 32 := Scalar.subi v32 v34
  let v36 : BitVec 1 := Scalar.cmpi .ne v30 v35
  let v37 : BitVec 32 := Scalar.remsi arg8 c3_i32
  let c0_i32_17 : BitVec 32 := 0#32
  let v38 : BitVec 1 := Scalar.cmpi .ne v37 c0_i32_17
  let v39 : BitVec 1 := Scalar.andi v36 v38
  let v25 : BitVec 32 := Scalar.divsi arg8 c3_i32
  let c1_i32_18 : BitVec 32 := 1#32
  let v40 : BitVec 32 := Scalar.subi v25 c1_i32_18
  let v41 : BitVec 32 := Scalar.select v39 v40 v25
  let c64_i32_62 : BitVec 32 := 64#32
  let v184 : BitVec 32 := Scalar.muli v41 c64_i32_62
  v184
def k0_mult24 (k0_t1 : Fin k0_t1_loop.trips) : BitVec 32 :=
  let c0_i32_10 : BitVec 32 := 0#32
  let c1_i32_11 : BitVec 32 := 1#32
  let arg8 : BitVec 32 := Scf.iv c0_i32_10 c1_i32_11 k0_t1
  let c3_i32_19 : BitVec 32 := 3#32
  let c0_i32_20 : BitVec 32 := 0#32
  let v42 : BitVec 1 := Scalar.cmpi .eq c3_i32_19 c0_i32_20
  let c1_i32_21 : BitVec 32 := 1#32
  let v43 : BitVec 32 := Scalar.select v42 c1_i32_21 c3_i32_19
  let v44 : BitVec 32 := Scalar.remsi arg8 v43
  let c0_i32_23 : BitVec 32 := 0#32
  let v46 : BitVec 1 := Scalar.cmpi .slt v44 c0_i32_23
  let c0_i32_24 : BitVec 32 := 0#32
  let v47 : BitVec 1 := Scalar.cmpi .slt v43 c0_i32_24
  let v48 : BitVec 1 := Scalar.xori v46 v47
  let c0_i32_22 : BitVec 32 := 0#32
  let v45 : BitVec 1 := Scalar.cmpi .ne v44 c0_i32_22
  let v49 : BitVec 1 := Scalar.andi v48 v45
  let v50 : BitVec 32 := Scalar.addi v44 v43
  let v51 : BitVec 32 := Scalar.select v49 v50 v44
  let c256_i32 : BitVec 32 := 256#32
  let v52 : BitVec 32 := Scalar.muli v51 c256_i32
  let v53 : BitVec 32 := v52
  let c0_i32_64 : BitVec 32 := 0#32
  let v187 : BitVec 32 := Scalar.addi v53 c0_i32_64
  v187
def k0_mult25 (k0_t1 : Fin k0_t1_loop.trips) : BitVec 32 :=
  let c0_i32_10 : BitVec 32 := 0#32
  let c1_i32_11 : BitVec 32 := 1#32
  let arg8 : BitVec 32 := Scf.iv c0_i32_10 c1_i32_11 k0_t1
  let c0_i32_13 : BitVec 32 := 0#32
  let v26 : BitVec 1 := Scalar.cmpi .sgt arg8 c0_i32_13
  let v27 : BitVec 32 := Scalar.extui v26
  let c0_i32_14 : BitVec 32 := 0#32
  let v28 : BitVec 1 := Scalar.cmpi .slt arg8 c0_i32_14
  let v29 : BitVec 32 := Scalar.extui v28
  let v30 : BitVec 32 := Scalar.subi v27 v29
  let c3_i32 : BitVec 32 := 3#32
  let c0_i32_15 : BitVec 32 := 0#32
  let v31 : BitVec 1 := Scalar.cmpi .sgt c3_i32 c0_i32_15
  let v32 : BitVec 32 := Scalar.extui v31
  let c0_i32_16 : BitVec 32 := 0#32
  let v33 : BitVec 1 := Scalar.cmpi .slt c3_i32 c0_i32_16
  let v34 : BitVec 32 := Scalar.extui v33
  let v35 : BitVec 32 := Scalar.subi v32 v34
  let v36 : BitVec 1 := Scalar.cmpi .ne v30 v35
  let v37 : BitVec 32 := Scalar.remsi arg8 c3_i32
  let c0_i32_17 : BitVec 32 := 0#32
  let v38 : BitVec 1 := Scalar.cmpi .ne v37 c0_i32_17
  let v39 : BitVec 1 := Scalar.andi v36 v38
  let v25 : BitVec 32 := Scalar.divsi arg8 c3_i32
  let c1_i32_18 : BitVec 32 := 1#32
  let v40 : BitVec 32 := Scalar.subi v25 c1_i32_18
  let v41 : BitVec 32 := Scalar.select v39 v40 v25
  let c64_i32_65 : BitVec 32 := 64#32
  let v192 : BitVec 32 := Scalar.muli v41 c64_i32_65
  v192
def k0_mult26 (k0_t1 : Fin k0_t1_loop.trips) : BitVec 32 :=
  let c0_i32_10 : BitVec 32 := 0#32
  let c1_i32_11 : BitVec 32 := 1#32
  let arg8 : BitVec 32 := Scf.iv c0_i32_10 c1_i32_11 k0_t1
  let c3_i32_19 : BitVec 32 := 3#32
  let c0_i32_20 : BitVec 32 := 0#32
  let v42 : BitVec 1 := Scalar.cmpi .eq c3_i32_19 c0_i32_20
  let c1_i32_21 : BitVec 32 := 1#32
  let v43 : BitVec 32 := Scalar.select v42 c1_i32_21 c3_i32_19
  let v44 : BitVec 32 := Scalar.remsi arg8 v43
  let c0_i32_23 : BitVec 32 := 0#32
  let v46 : BitVec 1 := Scalar.cmpi .slt v44 c0_i32_23
  let c0_i32_24 : BitVec 32 := 0#32
  let v47 : BitVec 1 := Scalar.cmpi .slt v43 c0_i32_24
  let v48 : BitVec 1 := Scalar.xori v46 v47
  let c0_i32_22 : BitVec 32 := 0#32
  let v45 : BitVec 1 := Scalar.cmpi .ne v44 c0_i32_22
  let v49 : BitVec 1 := Scalar.andi v48 v45
  let v50 : BitVec 32 := Scalar.addi v44 v43
  let v51 : BitVec 32 := Scalar.select v49 v50 v44
  let c256_i32 : BitVec 32 := 256#32
  let v52 : BitVec 32 := Scalar.muli v51 c256_i32
  let v53 : BitVec 32 := v52
  let c0_i32_66 : BitVec 32 := 0#32
  let v195 : BitVec 32 := Scalar.addi v53 c0_i32_66
  v195
def k0_mult27 (k0_t1 : Fin k0_t1_loop.trips) : BitVec 32 :=
  let c0_i32_10 : BitVec 32 := 0#32
  let c1_i32_11 : BitVec 32 := 1#32
  let arg8 : BitVec 32 := Scf.iv c0_i32_10 c1_i32_11 k0_t1
  let c3_i32_19 : BitVec 32 := 3#32
  let c0_i32_20 : BitVec 32 := 0#32
  let v42 : BitVec 1 := Scalar.cmpi .eq c3_i32_19 c0_i32_20
  let c1_i32_21 : BitVec 32 := 1#32
  let v43 : BitVec 32 := Scalar.select v42 c1_i32_21 c3_i32_19
  let v44 : BitVec 32 := Scalar.remsi arg8 v43
  let c0_i32_23 : BitVec 32 := 0#32
  let v46 : BitVec 1 := Scalar.cmpi .slt v44 c0_i32_23
  let c0_i32_24 : BitVec 32 := 0#32
  let v47 : BitVec 1 := Scalar.cmpi .slt v43 c0_i32_24
  let v48 : BitVec 1 := Scalar.xori v46 v47
  let c0_i32_22 : BitVec 32 := 0#32
  let v45 : BitVec 1 := Scalar.cmpi .ne v44 c0_i32_22
  let v49 : BitVec 1 := Scalar.andi v48 v45
  let v50 : BitVec 32 := Scalar.addi v44 v43
  let v51 : BitVec 32 := Scalar.select v49 v50 v44
  let c256_i32 : BitVec 32 := 256#32
  let v52 : BitVec 32 := Scalar.muli v51 c256_i32
  let v53 : BitVec 32 := v52
  let c0_i32_69 : BitVec 32 := 0#32
  let v202 : BitVec 32 := Scalar.addi v53 c0_i32_69
  v202
def k0_mult28 (k0_t1 : Fin k0_t1_loop.trips) : BitVec 32 :=
  let c0_i32_10 : BitVec 32 := 0#32
  let c1_i32_11 : BitVec 32 := 1#32
  let arg8 : BitVec 32 := Scf.iv c0_i32_10 c1_i32_11 k0_t1
  let c0_i32_13 : BitVec 32 := 0#32
  let v26 : BitVec 1 := Scalar.cmpi .sgt arg8 c0_i32_13
  let v27 : BitVec 32 := Scalar.extui v26
  let c0_i32_14 : BitVec 32 := 0#32
  let v28 : BitVec 1 := Scalar.cmpi .slt arg8 c0_i32_14
  let v29 : BitVec 32 := Scalar.extui v28
  let v30 : BitVec 32 := Scalar.subi v27 v29
  let c3_i32 : BitVec 32 := 3#32
  let c0_i32_15 : BitVec 32 := 0#32
  let v31 : BitVec 1 := Scalar.cmpi .sgt c3_i32 c0_i32_15
  let v32 : BitVec 32 := Scalar.extui v31
  let c0_i32_16 : BitVec 32 := 0#32
  let v33 : BitVec 1 := Scalar.cmpi .slt c3_i32 c0_i32_16
  let v34 : BitVec 32 := Scalar.extui v33
  let v35 : BitVec 32 := Scalar.subi v32 v34
  let v36 : BitVec 1 := Scalar.cmpi .ne v30 v35
  let v37 : BitVec 32 := Scalar.remsi arg8 c3_i32
  let c0_i32_17 : BitVec 32 := 0#32
  let v38 : BitVec 1 := Scalar.cmpi .ne v37 c0_i32_17
  let v39 : BitVec 1 := Scalar.andi v36 v38
  let v25 : BitVec 32 := Scalar.divsi arg8 c3_i32
  let c1_i32_18 : BitVec 32 := 1#32
  let v40 : BitVec 32 := Scalar.subi v25 c1_i32_18
  let v41 : BitVec 32 := Scalar.select v39 v40 v25
  let c128_i32_84 : BitVec 32 := 128#32
  let v226 : BitVec 32 := Scalar.muli v41 c128_i32_84
  v226
def k0_mult29 (k0_t1 : Fin k0_t1_loop.trips) : BitVec 32 :=
  let c0_i32_10 : BitVec 32 := 0#32
  let c1_i32_11 : BitVec 32 := 1#32
  let arg8 : BitVec 32 := Scf.iv c0_i32_10 c1_i32_11 k0_t1
  let c3_i32_19 : BitVec 32 := 3#32
  let c0_i32_20 : BitVec 32 := 0#32
  let v42 : BitVec 1 := Scalar.cmpi .eq c3_i32_19 c0_i32_20
  let c1_i32_21 : BitVec 32 := 1#32
  let v43 : BitVec 32 := Scalar.select v42 c1_i32_21 c3_i32_19
  let v44 : BitVec 32 := Scalar.remsi arg8 v43
  let c0_i32_23 : BitVec 32 := 0#32
  let v46 : BitVec 1 := Scalar.cmpi .slt v44 c0_i32_23
  let c0_i32_24 : BitVec 32 := 0#32
  let v47 : BitVec 1 := Scalar.cmpi .slt v43 c0_i32_24
  let v48 : BitVec 1 := Scalar.xori v46 v47
  let c0_i32_22 : BitVec 32 := 0#32
  let v45 : BitVec 1 := Scalar.cmpi .ne v44 c0_i32_22
  let v49 : BitVec 1 := Scalar.andi v48 v45
  let v50 : BitVec 32 := Scalar.addi v44 v43
  let v51 : BitVec 32 := Scalar.select v49 v50 v44
  let c256_i32 : BitVec 32 := 256#32
  let v52 : BitVec 32 := Scalar.muli v51 c256_i32
  let v53 : BitVec 32 := v52
  let c0_i32_86 : BitVec 32 := 0#32
  let v229 : BitVec 32 := Scalar.addi v53 c0_i32_86
  v229
def k0_mult30 (k0_t1 : Fin k0_t1_loop.trips) : BitVec 32 :=
  let c0_i32_10 : BitVec 32 := 0#32
  let c1_i32_11 : BitVec 32 := 1#32
  let arg8 : BitVec 32 := Scf.iv c0_i32_10 c1_i32_11 k0_t1
  let c0_i32_13 : BitVec 32 := 0#32
  let v26 : BitVec 1 := Scalar.cmpi .sgt arg8 c0_i32_13
  let v27 : BitVec 32 := Scalar.extui v26
  let c0_i32_14 : BitVec 32 := 0#32
  let v28 : BitVec 1 := Scalar.cmpi .slt arg8 c0_i32_14
  let v29 : BitVec 32 := Scalar.extui v28
  let v30 : BitVec 32 := Scalar.subi v27 v29
  let c3_i32 : BitVec 32 := 3#32
  let c0_i32_15 : BitVec 32 := 0#32
  let v31 : BitVec 1 := Scalar.cmpi .sgt c3_i32 c0_i32_15
  let v32 : BitVec 32 := Scalar.extui v31
  let c0_i32_16 : BitVec 32 := 0#32
  let v33 : BitVec 1 := Scalar.cmpi .slt c3_i32 c0_i32_16
  let v34 : BitVec 32 := Scalar.extui v33
  let v35 : BitVec 32 := Scalar.subi v32 v34
  let v36 : BitVec 1 := Scalar.cmpi .ne v30 v35
  let v37 : BitVec 32 := Scalar.remsi arg8 c3_i32
  let c0_i32_17 : BitVec 32 := 0#32
  let v38 : BitVec 1 := Scalar.cmpi .ne v37 c0_i32_17
  let v39 : BitVec 1 := Scalar.andi v36 v38
  let v25 : BitVec 32 := Scalar.divsi arg8 c3_i32
  let c1_i32_18 : BitVec 32 := 1#32
  let v40 : BitVec 32 := Scalar.subi v25 c1_i32_18
  let v41 : BitVec 32 := Scalar.select v39 v40 v25
  let c128_i32_87 : BitVec 32 := 128#32
  let v241 : BitVec 32 := Scalar.muli v41 c128_i32_87
  v241
def k0_mult31 (k0_t1 : Fin k0_t1_loop.trips) : BitVec 32 :=
  let c0_i32_10 : BitVec 32 := 0#32
  let c1_i32_11 : BitVec 32 := 1#32
  let arg8 : BitVec 32 := Scf.iv c0_i32_10 c1_i32_11 k0_t1
  let c3_i32_19 : BitVec 32 := 3#32
  let c0_i32_20 : BitVec 32 := 0#32
  let v42 : BitVec 1 := Scalar.cmpi .eq c3_i32_19 c0_i32_20
  let c1_i32_21 : BitVec 32 := 1#32
  let v43 : BitVec 32 := Scalar.select v42 c1_i32_21 c3_i32_19
  let v44 : BitVec 32 := Scalar.remsi arg8 v43
  let c0_i32_23 : BitVec 32 := 0#32
  let v46 : BitVec 1 := Scalar.cmpi .slt v44 c0_i32_23
  let c0_i32_24 : BitVec 32 := 0#32
  let v47 : BitVec 1 := Scalar.cmpi .slt v43 c0_i32_24
  let v48 : BitVec 1 := Scalar.xori v46 v47
  let c0_i32_22 : BitVec 32 := 0#32
  let v45 : BitVec 1 := Scalar.cmpi .ne v44 c0_i32_22
  let v49 : BitVec 1 := Scalar.andi v48 v45
  let v50 : BitVec 32 := Scalar.addi v44 v43
  let v51 : BitVec 32 := Scalar.select v49 v50 v44
  let c256_i32 : BitVec 32 := 256#32
  let v52 : BitVec 32 := Scalar.muli v51 c256_i32
  let v53 : BitVec 32 := v52
  let c0_i32_88 : BitVec 32 := 0#32
  let v244 : BitVec 32 := Scalar.addi v53 c0_i32_88
  v244
def k0_mult32 (k0_t1 : Fin k0_t1_loop.trips) : BitVec 32 :=
  let c0_i32_10 : BitVec 32 := 0#32
  let c1_i32_11 : BitVec 32 := 1#32
  let arg8 : BitVec 32 := Scf.iv c0_i32_10 c1_i32_11 k0_t1
  let c0_i32_13 : BitVec 32 := 0#32
  let v26 : BitVec 1 := Scalar.cmpi .sgt arg8 c0_i32_13
  let v27 : BitVec 32 := Scalar.extui v26
  let c0_i32_14 : BitVec 32 := 0#32
  let v28 : BitVec 1 := Scalar.cmpi .slt arg8 c0_i32_14
  let v29 : BitVec 32 := Scalar.extui v28
  let v30 : BitVec 32 := Scalar.subi v27 v29
  let c3_i32 : BitVec 32 := 3#32
  let c0_i32_15 : BitVec 32 := 0#32
  let v31 : BitVec 1 := Scalar.cmpi .sgt c3_i32 c0_i32_15
  let v32 : BitVec 32 := Scalar.extui v31
  let c0_i32_16 : BitVec 32 := 0#32
  let v33 : BitVec 1 := Scalar.cmpi .slt c3_i32 c0_i32_16
  let v34 : BitVec 32 := Scalar.extui v33
  let v35 : BitVec 32 := Scalar.subi v32 v34
  let v36 : BitVec 1 := Scalar.cmpi .ne v30 v35
  let v37 : BitVec 32 := Scalar.remsi arg8 c3_i32
  let c0_i32_17 : BitVec 32 := 0#32
  let v38 : BitVec 1 := Scalar.cmpi .ne v37 c0_i32_17
  let v39 : BitVec 1 := Scalar.andi v36 v38
  let v25 : BitVec 32 := Scalar.divsi arg8 c3_i32
  let c1_i32_18 : BitVec 32 := 1#32
  let v40 : BitVec 32 := Scalar.subi v25 c1_i32_18
  let v41 : BitVec 32 := Scalar.select v39 v40 v25
  let c128_i32_89 : BitVec 32 := 128#32
  let v256 : BitVec 32 := Scalar.muli v41 c128_i32_89
  v256
def k0_mult33 (k0_t1 : Fin k0_t1_loop.trips) : BitVec 32 :=
  let c0_i32_10 : BitVec 32 := 0#32
  let c1_i32_11 : BitVec 32 := 1#32
  let arg8 : BitVec 32 := Scf.iv c0_i32_10 c1_i32_11 k0_t1
  let c3_i32_19 : BitVec 32 := 3#32
  let c0_i32_20 : BitVec 32 := 0#32
  let v42 : BitVec 1 := Scalar.cmpi .eq c3_i32_19 c0_i32_20
  let c1_i32_21 : BitVec 32 := 1#32
  let v43 : BitVec 32 := Scalar.select v42 c1_i32_21 c3_i32_19
  let v44 : BitVec 32 := Scalar.remsi arg8 v43
  let c0_i32_23 : BitVec 32 := 0#32
  let v46 : BitVec 1 := Scalar.cmpi .slt v44 c0_i32_23
  let c0_i32_24 : BitVec 32 := 0#32
  let v47 : BitVec 1 := Scalar.cmpi .slt v43 c0_i32_24
  let v48 : BitVec 1 := Scalar.xori v46 v47
  let c0_i32_22 : BitVec 32 := 0#32
  let v45 : BitVec 1 := Scalar.cmpi .ne v44 c0_i32_22
  let v49 : BitVec 1 := Scalar.andi v48 v45
  let v50 : BitVec 32 := Scalar.addi v44 v43
  let v51 : BitVec 32 := Scalar.select v49 v50 v44
  let c256_i32 : BitVec 32 := 256#32
  let v52 : BitVec 32 := Scalar.muli v51 c256_i32
  let v53 : BitVec 32 := v52
  let c0_i32_90 : BitVec 32 := 0#32
  let v259 : BitVec 32 := Scalar.addi v53 c0_i32_90
  v259
def k0_mult34 (k0_t1 : Fin k0_t1_loop.trips) : BitVec 32 :=
  let c0_i32_10 : BitVec 32 := 0#32
  let c1_i32_11 : BitVec 32 := 1#32
  let arg8 : BitVec 32 := Scf.iv c0_i32_10 c1_i32_11 k0_t1
  let c0_i32_13 : BitVec 32 := 0#32
  let v26 : BitVec 1 := Scalar.cmpi .sgt arg8 c0_i32_13
  let v27 : BitVec 32 := Scalar.extui v26
  let c0_i32_14 : BitVec 32 := 0#32
  let v28 : BitVec 1 := Scalar.cmpi .slt arg8 c0_i32_14
  let v29 : BitVec 32 := Scalar.extui v28
  let v30 : BitVec 32 := Scalar.subi v27 v29
  let c3_i32 : BitVec 32 := 3#32
  let c0_i32_15 : BitVec 32 := 0#32
  let v31 : BitVec 1 := Scalar.cmpi .sgt c3_i32 c0_i32_15
  let v32 : BitVec 32 := Scalar.extui v31
  let c0_i32_16 : BitVec 32 := 0#32
  let v33 : BitVec 1 := Scalar.cmpi .slt c3_i32 c0_i32_16
  let v34 : BitVec 32 := Scalar.extui v33
  let v35 : BitVec 32 := Scalar.subi v32 v34
  let v36 : BitVec 1 := Scalar.cmpi .ne v30 v35
  let v37 : BitVec 32 := Scalar.remsi arg8 c3_i32
  let c0_i32_17 : BitVec 32 := 0#32
  let v38 : BitVec 1 := Scalar.cmpi .ne v37 c0_i32_17
  let v39 : BitVec 1 := Scalar.andi v36 v38
  let v25 : BitVec 32 := Scalar.divsi arg8 c3_i32
  let c1_i32_18 : BitVec 32 := 1#32
  let v40 : BitVec 32 := Scalar.subi v25 c1_i32_18
  let v41 : BitVec 32 := Scalar.select v39 v40 v25
  let c128_i32_91 : BitVec 32 := 128#32
  let v271 : BitVec 32 := Scalar.muli v41 c128_i32_91
  v271
def k0_mult35 (k0_t1 : Fin k0_t1_loop.trips) : BitVec 32 :=
  let c0_i32_10 : BitVec 32 := 0#32
  let c1_i32_11 : BitVec 32 := 1#32
  let arg8 : BitVec 32 := Scf.iv c0_i32_10 c1_i32_11 k0_t1
  let c3_i32_19 : BitVec 32 := 3#32
  let c0_i32_20 : BitVec 32 := 0#32
  let v42 : BitVec 1 := Scalar.cmpi .eq c3_i32_19 c0_i32_20
  let c1_i32_21 : BitVec 32 := 1#32
  let v43 : BitVec 32 := Scalar.select v42 c1_i32_21 c3_i32_19
  let v44 : BitVec 32 := Scalar.remsi arg8 v43
  let c0_i32_23 : BitVec 32 := 0#32
  let v46 : BitVec 1 := Scalar.cmpi .slt v44 c0_i32_23
  let c0_i32_24 : BitVec 32 := 0#32
  let v47 : BitVec 1 := Scalar.cmpi .slt v43 c0_i32_24
  let v48 : BitVec 1 := Scalar.xori v46 v47
  let c0_i32_22 : BitVec 32 := 0#32
  let v45 : BitVec 1 := Scalar.cmpi .ne v44 c0_i32_22
  let v49 : BitVec 1 := Scalar.andi v48 v45
  let v50 : BitVec 32 := Scalar.addi v44 v43
  let v51 : BitVec 32 := Scalar.select v49 v50 v44
  let c256_i32 : BitVec 32 := 256#32
  let v52 : BitVec 32 := Scalar.muli v51 c256_i32
  let v53 : BitVec 32 := v52
  let c0_i32_92 : BitVec 32 := 0#32
  let v274 : BitVec 32 := Scalar.addi v53 c0_i32_92
  v274
def k0_mult36 (k0_t1 : Fin k0_t1_loop.trips) : BitVec 32 :=
  let c0_i32_10 : BitVec 32 := 0#32
  let c1_i32_11 : BitVec 32 := 1#32
  let arg8 : BitVec 32 := Scf.iv c0_i32_10 c1_i32_11 k0_t1
  let c0_i32_13 : BitVec 32 := 0#32
  let v26 : BitVec 1 := Scalar.cmpi .sgt arg8 c0_i32_13
  let v27 : BitVec 32 := Scalar.extui v26
  let c0_i32_14 : BitVec 32 := 0#32
  let v28 : BitVec 1 := Scalar.cmpi .slt arg8 c0_i32_14
  let v29 : BitVec 32 := Scalar.extui v28
  let v30 : BitVec 32 := Scalar.subi v27 v29
  let c3_i32 : BitVec 32 := 3#32
  let c0_i32_15 : BitVec 32 := 0#32
  let v31 : BitVec 1 := Scalar.cmpi .sgt c3_i32 c0_i32_15
  let v32 : BitVec 32 := Scalar.extui v31
  let c0_i32_16 : BitVec 32 := 0#32
  let v33 : BitVec 1 := Scalar.cmpi .slt c3_i32 c0_i32_16
  let v34 : BitVec 32 := Scalar.extui v33
  let v35 : BitVec 32 := Scalar.subi v32 v34
  let v36 : BitVec 1 := Scalar.cmpi .ne v30 v35
  let v37 : BitVec 32 := Scalar.remsi arg8 c3_i32
  let c0_i32_17 : BitVec 32 := 0#32
  let v38 : BitVec 1 := Scalar.cmpi .ne v37 c0_i32_17
  let v39 : BitVec 1 := Scalar.andi v36 v38
  let v25 : BitVec 32 := Scalar.divsi arg8 c3_i32
  let c1_i32_18 : BitVec 32 := 1#32
  let v40 : BitVec 32 := Scalar.subi v25 c1_i32_18
  let v41 : BitVec 32 := Scalar.select v39 v40 v25
  let c64_i32_93 : BitVec 32 := 64#32
  let v282 : BitVec 32 := Scalar.muli v41 c64_i32_93
  v282
def k0_mult37 (k0_t1 : Fin k0_t1_loop.trips) : BitVec 32 :=
  let c0_i32_10 : BitVec 32 := 0#32
  let c1_i32_11 : BitVec 32 := 1#32
  let arg8 : BitVec 32 := Scf.iv c0_i32_10 c1_i32_11 k0_t1
  let c3_i32_19 : BitVec 32 := 3#32
  let c0_i32_20 : BitVec 32 := 0#32
  let v42 : BitVec 1 := Scalar.cmpi .eq c3_i32_19 c0_i32_20
  let c1_i32_21 : BitVec 32 := 1#32
  let v43 : BitVec 32 := Scalar.select v42 c1_i32_21 c3_i32_19
  let v44 : BitVec 32 := Scalar.remsi arg8 v43
  let c0_i32_23 : BitVec 32 := 0#32
  let v46 : BitVec 1 := Scalar.cmpi .slt v44 c0_i32_23
  let c0_i32_24 : BitVec 32 := 0#32
  let v47 : BitVec 1 := Scalar.cmpi .slt v43 c0_i32_24
  let v48 : BitVec 1 := Scalar.xori v46 v47
  let c0_i32_22 : BitVec 32 := 0#32
  let v45 : BitVec 1 := Scalar.cmpi .ne v44 c0_i32_22
  let v49 : BitVec 1 := Scalar.andi v48 v45
  let v50 : BitVec 32 := Scalar.addi v44 v43
  let v51 : BitVec 32 := Scalar.select v49 v50 v44
  let c256_i32 : BitVec 32 := 256#32
  let v52 : BitVec 32 := Scalar.muli v51 c256_i32
  let v53 : BitVec 32 := v52
  let c128_i32_95 : BitVec 32 := 128#32
  let v285 : BitVec 32 := Scalar.addi v53 c128_i32_95
  v285
def k0_mult38 (k0_t1 : Fin k0_t1_loop.trips) : BitVec 32 :=
  let c0_i32_10 : BitVec 32 := 0#32
  let c1_i32_11 : BitVec 32 := 1#32
  let arg8 : BitVec 32 := Scf.iv c0_i32_10 c1_i32_11 k0_t1
  let c0_i32_13 : BitVec 32 := 0#32
  let v26 : BitVec 1 := Scalar.cmpi .sgt arg8 c0_i32_13
  let v27 : BitVec 32 := Scalar.extui v26
  let c0_i32_14 : BitVec 32 := 0#32
  let v28 : BitVec 1 := Scalar.cmpi .slt arg8 c0_i32_14
  let v29 : BitVec 32 := Scalar.extui v28
  let v30 : BitVec 32 := Scalar.subi v27 v29
  let c3_i32 : BitVec 32 := 3#32
  let c0_i32_15 : BitVec 32 := 0#32
  let v31 : BitVec 1 := Scalar.cmpi .sgt c3_i32 c0_i32_15
  let v32 : BitVec 32 := Scalar.extui v31
  let c0_i32_16 : BitVec 32 := 0#32
  let v33 : BitVec 1 := Scalar.cmpi .slt c3_i32 c0_i32_16
  let v34 : BitVec 32 := Scalar.extui v33
  let v35 : BitVec 32 := Scalar.subi v32 v34
  let v36 : BitVec 1 := Scalar.cmpi .ne v30 v35
  let v37 : BitVec 32 := Scalar.remsi arg8 c3_i32
  let c0_i32_17 : BitVec 32 := 0#32
  let v38 : BitVec 1 := Scalar.cmpi .ne v37 c0_i32_17
  let v39 : BitVec 1 := Scalar.andi v36 v38
  let v25 : BitVec 32 := Scalar.divsi arg8 c3_i32
  let c1_i32_18 : BitVec 32 := 1#32
  let v40 : BitVec 32 := Scalar.subi v25 c1_i32_18
  let v41 : BitVec 32 := Scalar.select v39 v40 v25
  let c64_i32_96 : BitVec 32 := 64#32
  let v290 : BitVec 32 := Scalar.muli v41 c64_i32_96
  v290
def k0_mult39 (k0_t1 : Fin k0_t1_loop.trips) : BitVec 32 :=
  let c0_i32_10 : BitVec 32 := 0#32
  let c1_i32_11 : BitVec 32 := 1#32
  let arg8 : BitVec 32 := Scf.iv c0_i32_10 c1_i32_11 k0_t1
  let c3_i32_19 : BitVec 32 := 3#32
  let c0_i32_20 : BitVec 32 := 0#32
  let v42 : BitVec 1 := Scalar.cmpi .eq c3_i32_19 c0_i32_20
  let c1_i32_21 : BitVec 32 := 1#32
  let v43 : BitVec 32 := Scalar.select v42 c1_i32_21 c3_i32_19
  let v44 : BitVec 32 := Scalar.remsi arg8 v43
  let c0_i32_23 : BitVec 32 := 0#32
  let v46 : BitVec 1 := Scalar.cmpi .slt v44 c0_i32_23
  let c0_i32_24 : BitVec 32 := 0#32
  let v47 : BitVec 1 := Scalar.cmpi .slt v43 c0_i32_24
  let v48 : BitVec 1 := Scalar.xori v46 v47
  let c0_i32_22 : BitVec 32 := 0#32
  let v45 : BitVec 1 := Scalar.cmpi .ne v44 c0_i32_22
  let v49 : BitVec 1 := Scalar.andi v48 v45
  let v50 : BitVec 32 := Scalar.addi v44 v43
  let v51 : BitVec 32 := Scalar.select v49 v50 v44
  let c256_i32 : BitVec 32 := 256#32
  let v52 : BitVec 32 := Scalar.muli v51 c256_i32
  let v53 : BitVec 32 := v52
  let c128_i32_98 : BitVec 32 := 128#32
  let v293 : BitVec 32 := Scalar.addi v53 c128_i32_98
  v293
def k0_mult40 (k0_t1 : Fin k0_t1_loop.trips) : BitVec 32 :=
  let c0_i32_10 : BitVec 32 := 0#32
  let c1_i32_11 : BitVec 32 := 1#32
  let arg8 : BitVec 32 := Scf.iv c0_i32_10 c1_i32_11 k0_t1
  let c0_i32_13 : BitVec 32 := 0#32
  let v26 : BitVec 1 := Scalar.cmpi .sgt arg8 c0_i32_13
  let v27 : BitVec 32 := Scalar.extui v26
  let c0_i32_14 : BitVec 32 := 0#32
  let v28 : BitVec 1 := Scalar.cmpi .slt arg8 c0_i32_14
  let v29 : BitVec 32 := Scalar.extui v28
  let v30 : BitVec 32 := Scalar.subi v27 v29
  let c3_i32 : BitVec 32 := 3#32
  let c0_i32_15 : BitVec 32 := 0#32
  let v31 : BitVec 1 := Scalar.cmpi .sgt c3_i32 c0_i32_15
  let v32 : BitVec 32 := Scalar.extui v31
  let c0_i32_16 : BitVec 32 := 0#32
  let v33 : BitVec 1 := Scalar.cmpi .slt c3_i32 c0_i32_16
  let v34 : BitVec 32 := Scalar.extui v33
  let v35 : BitVec 32 := Scalar.subi v32 v34
  let v36 : BitVec 1 := Scalar.cmpi .ne v30 v35
  let v37 : BitVec 32 := Scalar.remsi arg8 c3_i32
  let c0_i32_17 : BitVec 32 := 0#32
  let v38 : BitVec 1 := Scalar.cmpi .ne v37 c0_i32_17
  let v39 : BitVec 1 := Scalar.andi v36 v38
  let v25 : BitVec 32 := Scalar.divsi arg8 c3_i32
  let c1_i32_18 : BitVec 32 := 1#32
  let v40 : BitVec 32 := Scalar.subi v25 c1_i32_18
  let v41 : BitVec 32 := Scalar.select v39 v40 v25
  let c64_i32_99 : BitVec 32 := 64#32
  let v298 : BitVec 32 := Scalar.muli v41 c64_i32_99
  v298
def k0_mult41 (k0_t1 : Fin k0_t1_loop.trips) : BitVec 32 :=
  let c0_i32_10 : BitVec 32 := 0#32
  let c1_i32_11 : BitVec 32 := 1#32
  let arg8 : BitVec 32 := Scf.iv c0_i32_10 c1_i32_11 k0_t1
  let c3_i32_19 : BitVec 32 := 3#32
  let c0_i32_20 : BitVec 32 := 0#32
  let v42 : BitVec 1 := Scalar.cmpi .eq c3_i32_19 c0_i32_20
  let c1_i32_21 : BitVec 32 := 1#32
  let v43 : BitVec 32 := Scalar.select v42 c1_i32_21 c3_i32_19
  let v44 : BitVec 32 := Scalar.remsi arg8 v43
  let c0_i32_23 : BitVec 32 := 0#32
  let v46 : BitVec 1 := Scalar.cmpi .slt v44 c0_i32_23
  let c0_i32_24 : BitVec 32 := 0#32
  let v47 : BitVec 1 := Scalar.cmpi .slt v43 c0_i32_24
  let v48 : BitVec 1 := Scalar.xori v46 v47
  let c0_i32_22 : BitVec 32 := 0#32
  let v45 : BitVec 1 := Scalar.cmpi .ne v44 c0_i32_22
  let v49 : BitVec 1 := Scalar.andi v48 v45
  let v50 : BitVec 32 := Scalar.addi v44 v43
  let v51 : BitVec 32 := Scalar.select v49 v50 v44
  let c256_i32 : BitVec 32 := 256#32
  let v52 : BitVec 32 := Scalar.muli v51 c256_i32
  let v53 : BitVec 32 := v52
  let c128_i32_101 : BitVec 32 := 128#32
  let v301 : BitVec 32 := Scalar.addi v53 c128_i32_101
  v301
def k0_mult42 (k0_t1 : Fin k0_t1_loop.trips) : BitVec 32 :=
  let c0_i32_10 : BitVec 32 := 0#32
  let c1_i32_11 : BitVec 32 := 1#32
  let arg8 : BitVec 32 := Scf.iv c0_i32_10 c1_i32_11 k0_t1
  let c0_i32_13 : BitVec 32 := 0#32
  let v26 : BitVec 1 := Scalar.cmpi .sgt arg8 c0_i32_13
  let v27 : BitVec 32 := Scalar.extui v26
  let c0_i32_14 : BitVec 32 := 0#32
  let v28 : BitVec 1 := Scalar.cmpi .slt arg8 c0_i32_14
  let v29 : BitVec 32 := Scalar.extui v28
  let v30 : BitVec 32 := Scalar.subi v27 v29
  let c3_i32 : BitVec 32 := 3#32
  let c0_i32_15 : BitVec 32 := 0#32
  let v31 : BitVec 1 := Scalar.cmpi .sgt c3_i32 c0_i32_15
  let v32 : BitVec 32 := Scalar.extui v31
  let c0_i32_16 : BitVec 32 := 0#32
  let v33 : BitVec 1 := Scalar.cmpi .slt c3_i32 c0_i32_16
  let v34 : BitVec 32 := Scalar.extui v33
  let v35 : BitVec 32 := Scalar.subi v32 v34
  let v36 : BitVec 1 := Scalar.cmpi .ne v30 v35
  let v37 : BitVec 32 := Scalar.remsi arg8 c3_i32
  let c0_i32_17 : BitVec 32 := 0#32
  let v38 : BitVec 1 := Scalar.cmpi .ne v37 c0_i32_17
  let v39 : BitVec 1 := Scalar.andi v36 v38
  let v25 : BitVec 32 := Scalar.divsi arg8 c3_i32
  let c1_i32_18 : BitVec 32 := 1#32
  let v40 : BitVec 32 := Scalar.subi v25 c1_i32_18
  let v41 : BitVec 32 := Scalar.select v39 v40 v25
  let c64_i32_102 : BitVec 32 := 64#32
  let v306 : BitVec 32 := Scalar.muli v41 c64_i32_102
  v306
def k0_mult43 (k0_t1 : Fin k0_t1_loop.trips) : BitVec 32 :=
  let c0_i32_10 : BitVec 32 := 0#32
  let c1_i32_11 : BitVec 32 := 1#32
  let arg8 : BitVec 32 := Scf.iv c0_i32_10 c1_i32_11 k0_t1
  let c3_i32_19 : BitVec 32 := 3#32
  let c0_i32_20 : BitVec 32 := 0#32
  let v42 : BitVec 1 := Scalar.cmpi .eq c3_i32_19 c0_i32_20
  let c1_i32_21 : BitVec 32 := 1#32
  let v43 : BitVec 32 := Scalar.select v42 c1_i32_21 c3_i32_19
  let v44 : BitVec 32 := Scalar.remsi arg8 v43
  let c0_i32_23 : BitVec 32 := 0#32
  let v46 : BitVec 1 := Scalar.cmpi .slt v44 c0_i32_23
  let c0_i32_24 : BitVec 32 := 0#32
  let v47 : BitVec 1 := Scalar.cmpi .slt v43 c0_i32_24
  let v48 : BitVec 1 := Scalar.xori v46 v47
  let c0_i32_22 : BitVec 32 := 0#32
  let v45 : BitVec 1 := Scalar.cmpi .ne v44 c0_i32_22
  let v49 : BitVec 1 := Scalar.andi v48 v45
  let v50 : BitVec 32 := Scalar.addi v44 v43
  let v51 : BitVec 32 := Scalar.select v49 v50 v44
  let c256_i32 : BitVec 32 := 256#32
  let v52 : BitVec 32 := Scalar.muli v51 c256_i32
  let v53 : BitVec 32 := v52
  let c128_i32_104 : BitVec 32 := 128#32
  let v309 : BitVec 32 := Scalar.addi v53 c128_i32_104
  v309
def k0_mult44 (k0_t1 : Fin k0_t1_loop.trips) : BitVec 32 :=
  let c0_i32_10 : BitVec 32 := 0#32
  let c1_i32_11 : BitVec 32 := 1#32
  let arg8 : BitVec 32 := Scf.iv c0_i32_10 c1_i32_11 k0_t1
  let c3_i32_19 : BitVec 32 := 3#32
  let c0_i32_20 : BitVec 32 := 0#32
  let v42 : BitVec 1 := Scalar.cmpi .eq c3_i32_19 c0_i32_20
  let c1_i32_21 : BitVec 32 := 1#32
  let v43 : BitVec 32 := Scalar.select v42 c1_i32_21 c3_i32_19
  let v44 : BitVec 32 := Scalar.remsi arg8 v43
  let c0_i32_23 : BitVec 32 := 0#32
  let v46 : BitVec 1 := Scalar.cmpi .slt v44 c0_i32_23
  let c0_i32_24 : BitVec 32 := 0#32
  let v47 : BitVec 1 := Scalar.cmpi .slt v43 c0_i32_24
  let v48 : BitVec 1 := Scalar.xori v46 v47
  let c0_i32_22 : BitVec 32 := 0#32
  let v45 : BitVec 1 := Scalar.cmpi .ne v44 c0_i32_22
  let v49 : BitVec 1 := Scalar.andi v48 v45
  let v50 : BitVec 32 := Scalar.addi v44 v43
  let v51 : BitVec 32 := Scalar.select v49 v50 v44
  let c256_i32 : BitVec 32 := 256#32
  let v52 : BitVec 32 := Scalar.muli v51 c256_i32
  let v53 : BitVec 32 := v52
  let c128_i32_107 : BitVec 32 := 128#32
  let v316 : BitVec 32 := Scalar.addi v53 c128_i32_107
  v316
def k0_mult45 (k0_t1 : Fin k0_t1_loop.trips) : BitVec 32 :=
  let c0_i32_10 : BitVec 32 := 0#32
  let c1_i32_11 : BitVec 32 := 1#32
  let arg8 : BitVec 32 := Scf.iv c0_i32_10 c1_i32_11 k0_t1
  let c0_i32_13 : BitVec 32 := 0#32
  let v26 : BitVec 1 := Scalar.cmpi .sgt arg8 c0_i32_13
  let v27 : BitVec 32 := Scalar.extui v26
  let c0_i32_14 : BitVec 32 := 0#32
  let v28 : BitVec 1 := Scalar.cmpi .slt arg8 c0_i32_14
  let v29 : BitVec 32 := Scalar.extui v28
  let v30 : BitVec 32 := Scalar.subi v27 v29
  let c3_i32 : BitVec 32 := 3#32
  let c0_i32_15 : BitVec 32 := 0#32
  let v31 : BitVec 1 := Scalar.cmpi .sgt c3_i32 c0_i32_15
  let v32 : BitVec 32 := Scalar.extui v31
  let c0_i32_16 : BitVec 32 := 0#32
  let v33 : BitVec 1 := Scalar.cmpi .slt c3_i32 c0_i32_16
  let v34 : BitVec 32 := Scalar.extui v33
  let v35 : BitVec 32 := Scalar.subi v32 v34
  let v36 : BitVec 1 := Scalar.cmpi .ne v30 v35
  let v37 : BitVec 32 := Scalar.remsi arg8 c3_i32
  let c0_i32_17 : BitVec 32 := 0#32
  let v38 : BitVec 1 := Scalar.cmpi .ne v37 c0_i32_17
  let v39 : BitVec 1 := Scalar.andi v36 v38
  let v25 : BitVec 32 := Scalar.divsi arg8 c3_i32
  let c1_i32_18 : BitVec 32 := 1#32
  let v40 : BitVec 32 := Scalar.subi v25 c1_i32_18
  let v41 : BitVec 32 := Scalar.select v39 v40 v25
  let c128_i32_122 : BitVec 32 := 128#32
  let v340 : BitVec 32 := Scalar.muli v41 c128_i32_122
  v340
def k0_mult46 (k0_t1 : Fin k0_t1_loop.trips) : BitVec 32 :=
  let c0_i32_10 : BitVec 32 := 0#32
  let c1_i32_11 : BitVec 32 := 1#32
  let arg8 : BitVec 32 := Scf.iv c0_i32_10 c1_i32_11 k0_t1
  let c3_i32_19 : BitVec 32 := 3#32
  let c0_i32_20 : BitVec 32 := 0#32
  let v42 : BitVec 1 := Scalar.cmpi .eq c3_i32_19 c0_i32_20
  let c1_i32_21 : BitVec 32 := 1#32
  let v43 : BitVec 32 := Scalar.select v42 c1_i32_21 c3_i32_19
  let v44 : BitVec 32 := Scalar.remsi arg8 v43
  let c0_i32_23 : BitVec 32 := 0#32
  let v46 : BitVec 1 := Scalar.cmpi .slt v44 c0_i32_23
  let c0_i32_24 : BitVec 32 := 0#32
  let v47 : BitVec 1 := Scalar.cmpi .slt v43 c0_i32_24
  let v48 : BitVec 1 := Scalar.xori v46 v47
  let c0_i32_22 : BitVec 32 := 0#32
  let v45 : BitVec 1 := Scalar.cmpi .ne v44 c0_i32_22
  let v49 : BitVec 1 := Scalar.andi v48 v45
  let v50 : BitVec 32 := Scalar.addi v44 v43
  let v51 : BitVec 32 := Scalar.select v49 v50 v44
  let c256_i32 : BitVec 32 := 256#32
  let v52 : BitVec 32 := Scalar.muli v51 c256_i32
  let v53 : BitVec 32 := v52
  let c128_i32_124 : BitVec 32 := 128#32
  let v343 : BitVec 32 := Scalar.addi v53 c128_i32_124
  v343
def k0_mult47 (k0_t1 : Fin k0_t1_loop.trips) : BitVec 32 :=
  let c0_i32_10 : BitVec 32 := 0#32
  let c1_i32_11 : BitVec 32 := 1#32
  let arg8 : BitVec 32 := Scf.iv c0_i32_10 c1_i32_11 k0_t1
  let c0_i32_13 : BitVec 32 := 0#32
  let v26 : BitVec 1 := Scalar.cmpi .sgt arg8 c0_i32_13
  let v27 : BitVec 32 := Scalar.extui v26
  let c0_i32_14 : BitVec 32 := 0#32
  let v28 : BitVec 1 := Scalar.cmpi .slt arg8 c0_i32_14
  let v29 : BitVec 32 := Scalar.extui v28
  let v30 : BitVec 32 := Scalar.subi v27 v29
  let c3_i32 : BitVec 32 := 3#32
  let c0_i32_15 : BitVec 32 := 0#32
  let v31 : BitVec 1 := Scalar.cmpi .sgt c3_i32 c0_i32_15
  let v32 : BitVec 32 := Scalar.extui v31
  let c0_i32_16 : BitVec 32 := 0#32
  let v33 : BitVec 1 := Scalar.cmpi .slt c3_i32 c0_i32_16
  let v34 : BitVec 32 := Scalar.extui v33
  let v35 : BitVec 32 := Scalar.subi v32 v34
  let v36 : BitVec 1 := Scalar.cmpi .ne v30 v35
  let v37 : BitVec 32 := Scalar.remsi arg8 c3_i32
  let c0_i32_17 : BitVec 32 := 0#32
  let v38 : BitVec 1 := Scalar.cmpi .ne v37 c0_i32_17
  let v39 : BitVec 1 := Scalar.andi v36 v38
  let v25 : BitVec 32 := Scalar.divsi arg8 c3_i32
  let c1_i32_18 : BitVec 32 := 1#32
  let v40 : BitVec 32 := Scalar.subi v25 c1_i32_18
  let v41 : BitVec 32 := Scalar.select v39 v40 v25
  let c128_i32_125 : BitVec 32 := 128#32
  let v355 : BitVec 32 := Scalar.muli v41 c128_i32_125
  v355
def k0_mult48 (k0_t1 : Fin k0_t1_loop.trips) : BitVec 32 :=
  let c0_i32_10 : BitVec 32 := 0#32
  let c1_i32_11 : BitVec 32 := 1#32
  let arg8 : BitVec 32 := Scf.iv c0_i32_10 c1_i32_11 k0_t1
  let c3_i32_19 : BitVec 32 := 3#32
  let c0_i32_20 : BitVec 32 := 0#32
  let v42 : BitVec 1 := Scalar.cmpi .eq c3_i32_19 c0_i32_20
  let c1_i32_21 : BitVec 32 := 1#32
  let v43 : BitVec 32 := Scalar.select v42 c1_i32_21 c3_i32_19
  let v44 : BitVec 32 := Scalar.remsi arg8 v43
  let c0_i32_23 : BitVec 32 := 0#32
  let v46 : BitVec 1 := Scalar.cmpi .slt v44 c0_i32_23
  let c0_i32_24 : BitVec 32 := 0#32
  let v47 : BitVec 1 := Scalar.cmpi .slt v43 c0_i32_24
  let v48 : BitVec 1 := Scalar.xori v46 v47
  let c0_i32_22 : BitVec 32 := 0#32
  let v45 : BitVec 1 := Scalar.cmpi .ne v44 c0_i32_22
  let v49 : BitVec 1 := Scalar.andi v48 v45
  let v50 : BitVec 32 := Scalar.addi v44 v43
  let v51 : BitVec 32 := Scalar.select v49 v50 v44
  let c256_i32 : BitVec 32 := 256#32
  let v52 : BitVec 32 := Scalar.muli v51 c256_i32
  let v53 : BitVec 32 := v52
  let c128_i32_127 : BitVec 32 := 128#32
  let v358 : BitVec 32 := Scalar.addi v53 c128_i32_127
  v358
def k0_mult49 (k0_t1 : Fin k0_t1_loop.trips) : BitVec 32 :=
  let c0_i32_10 : BitVec 32 := 0#32
  let c1_i32_11 : BitVec 32 := 1#32
  let arg8 : BitVec 32 := Scf.iv c0_i32_10 c1_i32_11 k0_t1
  let c0_i32_13 : BitVec 32 := 0#32
  let v26 : BitVec 1 := Scalar.cmpi .sgt arg8 c0_i32_13
  let v27 : BitVec 32 := Scalar.extui v26
  let c0_i32_14 : BitVec 32 := 0#32
  let v28 : BitVec 1 := Scalar.cmpi .slt arg8 c0_i32_14
  let v29 : BitVec 32 := Scalar.extui v28
  let v30 : BitVec 32 := Scalar.subi v27 v29
  let c3_i32 : BitVec 32 := 3#32
  let c0_i32_15 : BitVec 32 := 0#32
  let v31 : BitVec 1 := Scalar.cmpi .sgt c3_i32 c0_i32_15
  let v32 : BitVec 32 := Scalar.extui v31
  let c0_i32_16 : BitVec 32 := 0#32
  let v33 : BitVec 1 := Scalar.cmpi .slt c3_i32 c0_i32_16
  let v34 : BitVec 32 := Scalar.extui v33
  let v35 : BitVec 32 := Scalar.subi v32 v34
  let v36 : BitVec 1 := Scalar.cmpi .ne v30 v35
  let v37 : BitVec 32 := Scalar.remsi arg8 c3_i32
  let c0_i32_17 : BitVec 32 := 0#32
  let v38 : BitVec 1 := Scalar.cmpi .ne v37 c0_i32_17
  let v39 : BitVec 1 := Scalar.andi v36 v38
  let v25 : BitVec 32 := Scalar.divsi arg8 c3_i32
  let c1_i32_18 : BitVec 32 := 1#32
  let v40 : BitVec 32 := Scalar.subi v25 c1_i32_18
  let v41 : BitVec 32 := Scalar.select v39 v40 v25
  let c128_i32_128 : BitVec 32 := 128#32
  let v370 : BitVec 32 := Scalar.muli v41 c128_i32_128
  v370
def k0_mult50 (k0_t1 : Fin k0_t1_loop.trips) : BitVec 32 :=
  let c0_i32_10 : BitVec 32 := 0#32
  let c1_i32_11 : BitVec 32 := 1#32
  let arg8 : BitVec 32 := Scf.iv c0_i32_10 c1_i32_11 k0_t1
  let c3_i32_19 : BitVec 32 := 3#32
  let c0_i32_20 : BitVec 32 := 0#32
  let v42 : BitVec 1 := Scalar.cmpi .eq c3_i32_19 c0_i32_20
  let c1_i32_21 : BitVec 32 := 1#32
  let v43 : BitVec 32 := Scalar.select v42 c1_i32_21 c3_i32_19
  let v44 : BitVec 32 := Scalar.remsi arg8 v43
  let c0_i32_23 : BitVec 32 := 0#32
  let v46 : BitVec 1 := Scalar.cmpi .slt v44 c0_i32_23
  let c0_i32_24 : BitVec 32 := 0#32
  let v47 : BitVec 1 := Scalar.cmpi .slt v43 c0_i32_24
  let v48 : BitVec 1 := Scalar.xori v46 v47
  let c0_i32_22 : BitVec 32 := 0#32
  let v45 : BitVec 1 := Scalar.cmpi .ne v44 c0_i32_22
  let v49 : BitVec 1 := Scalar.andi v48 v45
  let v50 : BitVec 32 := Scalar.addi v44 v43
  let v51 : BitVec 32 := Scalar.select v49 v50 v44
  let c256_i32 : BitVec 32 := 256#32
  let v52 : BitVec 32 := Scalar.muli v51 c256_i32
  let v53 : BitVec 32 := v52
  let c128_i32_130 : BitVec 32 := 128#32
  let v373 : BitVec 32 := Scalar.addi v53 c128_i32_130
  v373
def k0_mult51 (k0_t1 : Fin k0_t1_loop.trips) : BitVec 32 :=
  let c0_i32_10 : BitVec 32 := 0#32
  let c1_i32_11 : BitVec 32 := 1#32
  let arg8 : BitVec 32 := Scf.iv c0_i32_10 c1_i32_11 k0_t1
  let c0_i32_13 : BitVec 32 := 0#32
  let v26 : BitVec 1 := Scalar.cmpi .sgt arg8 c0_i32_13
  let v27 : BitVec 32 := Scalar.extui v26
  let c0_i32_14 : BitVec 32 := 0#32
  let v28 : BitVec 1 := Scalar.cmpi .slt arg8 c0_i32_14
  let v29 : BitVec 32 := Scalar.extui v28
  let v30 : BitVec 32 := Scalar.subi v27 v29
  let c3_i32 : BitVec 32 := 3#32
  let c0_i32_15 : BitVec 32 := 0#32
  let v31 : BitVec 1 := Scalar.cmpi .sgt c3_i32 c0_i32_15
  let v32 : BitVec 32 := Scalar.extui v31
  let c0_i32_16 : BitVec 32 := 0#32
  let v33 : BitVec 1 := Scalar.cmpi .slt c3_i32 c0_i32_16
  let v34 : BitVec 32 := Scalar.extui v33
  let v35 : BitVec 32 := Scalar.subi v32 v34
  let v36 : BitVec 1 := Scalar.cmpi .ne v30 v35
  let v37 : BitVec 32 := Scalar.remsi arg8 c3_i32
  let c0_i32_17 : BitVec 32 := 0#32
  let v38 : BitVec 1 := Scalar.cmpi .ne v37 c0_i32_17
  let v39 : BitVec 1 := Scalar.andi v36 v38
  let v25 : BitVec 32 := Scalar.divsi arg8 c3_i32
  let c1_i32_18 : BitVec 32 := 1#32
  let v40 : BitVec 32 := Scalar.subi v25 c1_i32_18
  let v41 : BitVec 32 := Scalar.select v39 v40 v25
  let c128_i32_131 : BitVec 32 := 128#32
  let v385 : BitVec 32 := Scalar.muli v41 c128_i32_131
  v385
def k0_mult52 (k0_t1 : Fin k0_t1_loop.trips) : BitVec 32 :=
  let c0_i32_10 : BitVec 32 := 0#32
  let c1_i32_11 : BitVec 32 := 1#32
  let arg8 : BitVec 32 := Scf.iv c0_i32_10 c1_i32_11 k0_t1
  let c3_i32_19 : BitVec 32 := 3#32
  let c0_i32_20 : BitVec 32 := 0#32
  let v42 : BitVec 1 := Scalar.cmpi .eq c3_i32_19 c0_i32_20
  let c1_i32_21 : BitVec 32 := 1#32
  let v43 : BitVec 32 := Scalar.select v42 c1_i32_21 c3_i32_19
  let v44 : BitVec 32 := Scalar.remsi arg8 v43
  let c0_i32_23 : BitVec 32 := 0#32
  let v46 : BitVec 1 := Scalar.cmpi .slt v44 c0_i32_23
  let c0_i32_24 : BitVec 32 := 0#32
  let v47 : BitVec 1 := Scalar.cmpi .slt v43 c0_i32_24
  let v48 : BitVec 1 := Scalar.xori v46 v47
  let c0_i32_22 : BitVec 32 := 0#32
  let v45 : BitVec 1 := Scalar.cmpi .ne v44 c0_i32_22
  let v49 : BitVec 1 := Scalar.andi v48 v45
  let v50 : BitVec 32 := Scalar.addi v44 v43
  let v51 : BitVec 32 := Scalar.select v49 v50 v44
  let c256_i32 : BitVec 32 := 256#32
  let v52 : BitVec 32 := Scalar.muli v51 c256_i32
  let v53 : BitVec 32 := v52
  let c128_i32_133 : BitVec 32 := 128#32
  let v388 : BitVec 32 := Scalar.addi v53 c128_i32_133
  v388
def k0_mult53 (k0_t1 : Fin k0_t1_loop.trips) : BitVec 32 :=
  let c0_i32_10 : BitVec 32 := 0#32
  let c1_i32_11 : BitVec 32 := 1#32
  let arg8 : BitVec 32 := Scf.iv c0_i32_10 c1_i32_11 k0_t1
  let c0_i32_13 : BitVec 32 := 0#32
  let v26 : BitVec 1 := Scalar.cmpi .sgt arg8 c0_i32_13
  let v27 : BitVec 32 := Scalar.extui v26
  let c0_i32_14 : BitVec 32 := 0#32
  let v28 : BitVec 1 := Scalar.cmpi .slt arg8 c0_i32_14
  let v29 : BitVec 32 := Scalar.extui v28
  let v30 : BitVec 32 := Scalar.subi v27 v29
  let c3_i32 : BitVec 32 := 3#32
  let c0_i32_15 : BitVec 32 := 0#32
  let v31 : BitVec 1 := Scalar.cmpi .sgt c3_i32 c0_i32_15
  let v32 : BitVec 32 := Scalar.extui v31
  let c0_i32_16 : BitVec 32 := 0#32
  let v33 : BitVec 1 := Scalar.cmpi .slt c3_i32 c0_i32_16
  let v34 : BitVec 32 := Scalar.extui v33
  let v35 : BitVec 32 := Scalar.subi v32 v34
  let v36 : BitVec 1 := Scalar.cmpi .ne v30 v35
  let v37 : BitVec 32 := Scalar.remsi arg8 c3_i32
  let c0_i32_17 : BitVec 32 := 0#32
  let v38 : BitVec 1 := Scalar.cmpi .ne v37 c0_i32_17
  let v39 : BitVec 1 := Scalar.andi v36 v38
  let v25 : BitVec 32 := Scalar.divsi arg8 c3_i32
  let c1_i32_18 : BitVec 32 := 1#32
  let v40 : BitVec 32 := Scalar.subi v25 c1_i32_18
  let v41 : BitVec 32 := Scalar.select v39 v40 v25
  let c64_i32_134 : BitVec 32 := 64#32
  let v396 : BitVec 32 := Scalar.muli v41 c64_i32_134
  v396
def k0_mult54 (k0_t1 : Fin k0_t1_loop.trips) : BitVec 32 :=
  let c0_i32_10 : BitVec 32 := 0#32
  let c1_i32_11 : BitVec 32 := 1#32
  let arg8 : BitVec 32 := Scf.iv c0_i32_10 c1_i32_11 k0_t1
  let c3_i32_19 : BitVec 32 := 3#32
  let c0_i32_20 : BitVec 32 := 0#32
  let v42 : BitVec 1 := Scalar.cmpi .eq c3_i32_19 c0_i32_20
  let c1_i32_21 : BitVec 32 := 1#32
  let v43 : BitVec 32 := Scalar.select v42 c1_i32_21 c3_i32_19
  let v44 : BitVec 32 := Scalar.remsi arg8 v43
  let c0_i32_23 : BitVec 32 := 0#32
  let v46 : BitVec 1 := Scalar.cmpi .slt v44 c0_i32_23
  let c0_i32_24 : BitVec 32 := 0#32
  let v47 : BitVec 1 := Scalar.cmpi .slt v43 c0_i32_24
  let v48 : BitVec 1 := Scalar.xori v46 v47
  let c0_i32_22 : BitVec 32 := 0#32
  let v45 : BitVec 1 := Scalar.cmpi .ne v44 c0_i32_22
  let v49 : BitVec 1 := Scalar.andi v48 v45
  let v50 : BitVec 32 := Scalar.addi v44 v43
  let v51 : BitVec 32 := Scalar.select v49 v50 v44
  let c256_i32 : BitVec 32 := 256#32
  let v52 : BitVec 32 := Scalar.muli v51 c256_i32
  let v53 : BitVec 32 := v52
  let c128_i32_136 : BitVec 32 := 128#32
  let v399 : BitVec 32 := Scalar.addi v53 c128_i32_136
  v399
def k0_mult55 (k0_t1 : Fin k0_t1_loop.trips) : BitVec 32 :=
  let c0_i32_10 : BitVec 32 := 0#32
  let c1_i32_11 : BitVec 32 := 1#32
  let arg8 : BitVec 32 := Scf.iv c0_i32_10 c1_i32_11 k0_t1
  let c0_i32_13 : BitVec 32 := 0#32
  let v26 : BitVec 1 := Scalar.cmpi .sgt arg8 c0_i32_13
  let v27 : BitVec 32 := Scalar.extui v26
  let c0_i32_14 : BitVec 32 := 0#32
  let v28 : BitVec 1 := Scalar.cmpi .slt arg8 c0_i32_14
  let v29 : BitVec 32 := Scalar.extui v28
  let v30 : BitVec 32 := Scalar.subi v27 v29
  let c3_i32 : BitVec 32 := 3#32
  let c0_i32_15 : BitVec 32 := 0#32
  let v31 : BitVec 1 := Scalar.cmpi .sgt c3_i32 c0_i32_15
  let v32 : BitVec 32 := Scalar.extui v31
  let c0_i32_16 : BitVec 32 := 0#32
  let v33 : BitVec 1 := Scalar.cmpi .slt c3_i32 c0_i32_16
  let v34 : BitVec 32 := Scalar.extui v33
  let v35 : BitVec 32 := Scalar.subi v32 v34
  let v36 : BitVec 1 := Scalar.cmpi .ne v30 v35
  let v37 : BitVec 32 := Scalar.remsi arg8 c3_i32
  let c0_i32_17 : BitVec 32 := 0#32
  let v38 : BitVec 1 := Scalar.cmpi .ne v37 c0_i32_17
  let v39 : BitVec 1 := Scalar.andi v36 v38
  let v25 : BitVec 32 := Scalar.divsi arg8 c3_i32
  let c1_i32_18 : BitVec 32 := 1#32
  let v40 : BitVec 32 := Scalar.subi v25 c1_i32_18
  let v41 : BitVec 32 := Scalar.select v39 v40 v25
  let c64_i32_137 : BitVec 32 := 64#32
  let v404 : BitVec 32 := Scalar.muli v41 c64_i32_137
  v404
def k0_mult56 (k0_t1 : Fin k0_t1_loop.trips) : BitVec 32 :=
  let c0_i32_10 : BitVec 32 := 0#32
  let c1_i32_11 : BitVec 32 := 1#32
  let arg8 : BitVec 32 := Scf.iv c0_i32_10 c1_i32_11 k0_t1
  let c3_i32_19 : BitVec 32 := 3#32
  let c0_i32_20 : BitVec 32 := 0#32
  let v42 : BitVec 1 := Scalar.cmpi .eq c3_i32_19 c0_i32_20
  let c1_i32_21 : BitVec 32 := 1#32
  let v43 : BitVec 32 := Scalar.select v42 c1_i32_21 c3_i32_19
  let v44 : BitVec 32 := Scalar.remsi arg8 v43
  let c0_i32_23 : BitVec 32 := 0#32
  let v46 : BitVec 1 := Scalar.cmpi .slt v44 c0_i32_23
  let c0_i32_24 : BitVec 32 := 0#32
  let v47 : BitVec 1 := Scalar.cmpi .slt v43 c0_i32_24
  let v48 : BitVec 1 := Scalar.xori v46 v47
  let c0_i32_22 : BitVec 32 := 0#32
  let v45 : BitVec 1 := Scalar.cmpi .ne v44 c0_i32_22
  let v49 : BitVec 1 := Scalar.andi v48 v45
  let v50 : BitVec 32 := Scalar.addi v44 v43
  let v51 : BitVec 32 := Scalar.select v49 v50 v44
  let c256_i32 : BitVec 32 := 256#32
  let v52 : BitVec 32 := Scalar.muli v51 c256_i32
  let v53 : BitVec 32 := v52
  let c128_i32_139 : BitVec 32 := 128#32
  let v407 : BitVec 32 := Scalar.addi v53 c128_i32_139
  v407
def k0_mult57 (k0_t1 : Fin k0_t1_loop.trips) : BitVec 32 :=
  let c0_i32_10 : BitVec 32 := 0#32
  let c1_i32_11 : BitVec 32 := 1#32
  let arg8 : BitVec 32 := Scf.iv c0_i32_10 c1_i32_11 k0_t1
  let c0_i32_13 : BitVec 32 := 0#32
  let v26 : BitVec 1 := Scalar.cmpi .sgt arg8 c0_i32_13
  let v27 : BitVec 32 := Scalar.extui v26
  let c0_i32_14 : BitVec 32 := 0#32
  let v28 : BitVec 1 := Scalar.cmpi .slt arg8 c0_i32_14
  let v29 : BitVec 32 := Scalar.extui v28
  let v30 : BitVec 32 := Scalar.subi v27 v29
  let c3_i32 : BitVec 32 := 3#32
  let c0_i32_15 : BitVec 32 := 0#32
  let v31 : BitVec 1 := Scalar.cmpi .sgt c3_i32 c0_i32_15
  let v32 : BitVec 32 := Scalar.extui v31
  let c0_i32_16 : BitVec 32 := 0#32
  let v33 : BitVec 1 := Scalar.cmpi .slt c3_i32 c0_i32_16
  let v34 : BitVec 32 := Scalar.extui v33
  let v35 : BitVec 32 := Scalar.subi v32 v34
  let v36 : BitVec 1 := Scalar.cmpi .ne v30 v35
  let v37 : BitVec 32 := Scalar.remsi arg8 c3_i32
  let c0_i32_17 : BitVec 32 := 0#32
  let v38 : BitVec 1 := Scalar.cmpi .ne v37 c0_i32_17
  let v39 : BitVec 1 := Scalar.andi v36 v38
  let v25 : BitVec 32 := Scalar.divsi arg8 c3_i32
  let c1_i32_18 : BitVec 32 := 1#32
  let v40 : BitVec 32 := Scalar.subi v25 c1_i32_18
  let v41 : BitVec 32 := Scalar.select v39 v40 v25
  let c64_i32_140 : BitVec 32 := 64#32
  let v412 : BitVec 32 := Scalar.muli v41 c64_i32_140
  v412
def k0_mult58 (k0_t1 : Fin k0_t1_loop.trips) : BitVec 32 :=
  let c0_i32_10 : BitVec 32 := 0#32
  let c1_i32_11 : BitVec 32 := 1#32
  let arg8 : BitVec 32 := Scf.iv c0_i32_10 c1_i32_11 k0_t1
  let c3_i32_19 : BitVec 32 := 3#32
  let c0_i32_20 : BitVec 32 := 0#32
  let v42 : BitVec 1 := Scalar.cmpi .eq c3_i32_19 c0_i32_20
  let c1_i32_21 : BitVec 32 := 1#32
  let v43 : BitVec 32 := Scalar.select v42 c1_i32_21 c3_i32_19
  let v44 : BitVec 32 := Scalar.remsi arg8 v43
  let c0_i32_23 : BitVec 32 := 0#32
  let v46 : BitVec 1 := Scalar.cmpi .slt v44 c0_i32_23
  let c0_i32_24 : BitVec 32 := 0#32
  let v47 : BitVec 1 := Scalar.cmpi .slt v43 c0_i32_24
  let v48 : BitVec 1 := Scalar.xori v46 v47
  let c0_i32_22 : BitVec 32 := 0#32
  let v45 : BitVec 1 := Scalar.cmpi .ne v44 c0_i32_22
  let v49 : BitVec 1 := Scalar.andi v48 v45
  let v50 : BitVec 32 := Scalar.addi v44 v43
  let v51 : BitVec 32 := Scalar.select v49 v50 v44
  let c256_i32 : BitVec 32 := 256#32
  let v52 : BitVec 32 := Scalar.muli v51 c256_i32
  let v53 : BitVec 32 := v52
  let c128_i32_142 : BitVec 32 := 128#32
  let v415 : BitVec 32 := Scalar.addi v53 c128_i32_142
  v415
def k0_mult59 (k0_t1 : Fin k0_t1_loop.trips) : BitVec 32 :=
  let c0_i32_10 : BitVec 32 := 0#32
  let c1_i32_11 : BitVec 32 := 1#32
  let arg8 : BitVec 32 := Scf.iv c0_i32_10 c1_i32_11 k0_t1
  let c0_i32_13 : BitVec 32 := 0#32
  let v26 : BitVec 1 := Scalar.cmpi .sgt arg8 c0_i32_13
  let v27 : BitVec 32 := Scalar.extui v26
  let c0_i32_14 : BitVec 32 := 0#32
  let v28 : BitVec 1 := Scalar.cmpi .slt arg8 c0_i32_14
  let v29 : BitVec 32 := Scalar.extui v28
  let v30 : BitVec 32 := Scalar.subi v27 v29
  let c3_i32 : BitVec 32 := 3#32
  let c0_i32_15 : BitVec 32 := 0#32
  let v31 : BitVec 1 := Scalar.cmpi .sgt c3_i32 c0_i32_15
  let v32 : BitVec 32 := Scalar.extui v31
  let c0_i32_16 : BitVec 32 := 0#32
  let v33 : BitVec 1 := Scalar.cmpi .slt c3_i32 c0_i32_16
  let v34 : BitVec 32 := Scalar.extui v33
  let v35 : BitVec 32 := Scalar.subi v32 v34
  let v36 : BitVec 1 := Scalar.cmpi .ne v30 v35
  let v37 : BitVec 32 := Scalar.remsi arg8 c3_i32
  let c0_i32_17 : BitVec 32 := 0#32
  let v38 : BitVec 1 := Scalar.cmpi .ne v37 c0_i32_17
  let v39 : BitVec 1 := Scalar.andi v36 v38
  let v25 : BitVec 32 := Scalar.divsi arg8 c3_i32
  let c1_i32_18 : BitVec 32 := 1#32
  let v40 : BitVec 32 := Scalar.subi v25 c1_i32_18
  let v41 : BitVec 32 := Scalar.select v39 v40 v25
  let c64_i32_143 : BitVec 32 := 64#32
  let v420 : BitVec 32 := Scalar.muli v41 c64_i32_143
  v420
def k0_mult60 (k0_t1 : Fin k0_t1_loop.trips) : BitVec 32 :=
  let c0_i32_10 : BitVec 32 := 0#32
  let c1_i32_11 : BitVec 32 := 1#32
  let arg8 : BitVec 32 := Scf.iv c0_i32_10 c1_i32_11 k0_t1
  let c3_i32_19 : BitVec 32 := 3#32
  let c0_i32_20 : BitVec 32 := 0#32
  let v42 : BitVec 1 := Scalar.cmpi .eq c3_i32_19 c0_i32_20
  let c1_i32_21 : BitVec 32 := 1#32
  let v43 : BitVec 32 := Scalar.select v42 c1_i32_21 c3_i32_19
  let v44 : BitVec 32 := Scalar.remsi arg8 v43
  let c0_i32_23 : BitVec 32 := 0#32
  let v46 : BitVec 1 := Scalar.cmpi .slt v44 c0_i32_23
  let c0_i32_24 : BitVec 32 := 0#32
  let v47 : BitVec 1 := Scalar.cmpi .slt v43 c0_i32_24
  let v48 : BitVec 1 := Scalar.xori v46 v47
  let c0_i32_22 : BitVec 32 := 0#32
  let v45 : BitVec 1 := Scalar.cmpi .ne v44 c0_i32_22
  let v49 : BitVec 1 := Scalar.andi v48 v45
  let v50 : BitVec 32 := Scalar.addi v44 v43
  let v51 : BitVec 32 := Scalar.select v49 v50 v44
  let c256_i32 : BitVec 32 := 256#32
  let v52 : BitVec 32 := Scalar.muli v51 c256_i32
  let v53 : BitVec 32 := v52
  let c128_i32_145 : BitVec 32 := 128#32
  let v423 : BitVec 32 := Scalar.addi v53 c128_i32_145
  v423
def k0_mult61 (k0_t1 : Fin k0_t1_loop.trips) : BitVec 32 :=
  let c0_i32_10 : BitVec 32 := 0#32
  let c1_i32_11 : BitVec 32 := 1#32
  let arg8 : BitVec 32 := Scf.iv c0_i32_10 c1_i32_11 k0_t1
  let c3_i32_19 : BitVec 32 := 3#32
  let c0_i32_20 : BitVec 32 := 0#32
  let v42 : BitVec 1 := Scalar.cmpi .eq c3_i32_19 c0_i32_20
  let c1_i32_21 : BitVec 32 := 1#32
  let v43 : BitVec 32 := Scalar.select v42 c1_i32_21 c3_i32_19
  let v44 : BitVec 32 := Scalar.remsi arg8 v43
  let c0_i32_23 : BitVec 32 := 0#32
  let v46 : BitVec 1 := Scalar.cmpi .slt v44 c0_i32_23
  let c0_i32_24 : BitVec 32 := 0#32
  let v47 : BitVec 1 := Scalar.cmpi .slt v43 c0_i32_24
  let v48 : BitVec 1 := Scalar.xori v46 v47
  let c0_i32_22 : BitVec 32 := 0#32
  let v45 : BitVec 1 := Scalar.cmpi .ne v44 c0_i32_22
  let v49 : BitVec 1 := Scalar.andi v48 v45
  let v50 : BitVec 32 := Scalar.addi v44 v43
  let v51 : BitVec 32 := Scalar.select v49 v50 v44
  let c256_i32 : BitVec 32 := 256#32
  let v52 : BitVec 32 := Scalar.muli v51 c256_i32
  let v53 : BitVec 32 := v52
  let c128_i32_148 : BitVec 32 := 128#32
  let v430 : BitVec 32 := Scalar.addi v53 c128_i32_148
  v430
def k0_mult62 (k0_t1 : Fin k0_t1_loop.trips) : BitVec 32 :=
  let c0_i32_10 : BitVec 32 := 0#32
  let c1_i32_11 : BitVec 32 := 1#32
  let arg8 : BitVec 32 := Scf.iv c0_i32_10 c1_i32_11 k0_t1
  let c0_i32_13 : BitVec 32 := 0#32
  let v26 : BitVec 1 := Scalar.cmpi .sgt arg8 c0_i32_13
  let v27 : BitVec 32 := Scalar.extui v26
  let c0_i32_14 : BitVec 32 := 0#32
  let v28 : BitVec 1 := Scalar.cmpi .slt arg8 c0_i32_14
  let v29 : BitVec 32 := Scalar.extui v28
  let v30 : BitVec 32 := Scalar.subi v27 v29
  let c3_i32 : BitVec 32 := 3#32
  let c0_i32_15 : BitVec 32 := 0#32
  let v31 : BitVec 1 := Scalar.cmpi .sgt c3_i32 c0_i32_15
  let v32 : BitVec 32 := Scalar.extui v31
  let c0_i32_16 : BitVec 32 := 0#32
  let v33 : BitVec 1 := Scalar.cmpi .slt c3_i32 c0_i32_16
  let v34 : BitVec 32 := Scalar.extui v33
  let v35 : BitVec 32 := Scalar.subi v32 v34
  let v36 : BitVec 1 := Scalar.cmpi .ne v30 v35
  let v37 : BitVec 32 := Scalar.remsi arg8 c3_i32
  let c0_i32_17 : BitVec 32 := 0#32
  let v38 : BitVec 1 := Scalar.cmpi .ne v37 c0_i32_17
  let v39 : BitVec 1 := Scalar.andi v36 v38
  let v25 : BitVec 32 := Scalar.divsi arg8 c3_i32
  let c1_i32_18 : BitVec 32 := 1#32
  let v40 : BitVec 32 := Scalar.subi v25 c1_i32_18
  let v41 : BitVec 32 := Scalar.select v39 v40 v25
  let c128_i32_163 : BitVec 32 := 128#32
  let v454 : BitVec 32 := Scalar.muli v41 c128_i32_163
  v454
def k0_mult63 (k0_t1 : Fin k0_t1_loop.trips) : BitVec 32 :=
  let c0_i32_10 : BitVec 32 := 0#32
  let c1_i32_11 : BitVec 32 := 1#32
  let arg8 : BitVec 32 := Scf.iv c0_i32_10 c1_i32_11 k0_t1
  let c3_i32_19 : BitVec 32 := 3#32
  let c0_i32_20 : BitVec 32 := 0#32
  let v42 : BitVec 1 := Scalar.cmpi .eq c3_i32_19 c0_i32_20
  let c1_i32_21 : BitVec 32 := 1#32
  let v43 : BitVec 32 := Scalar.select v42 c1_i32_21 c3_i32_19
  let v44 : BitVec 32 := Scalar.remsi arg8 v43
  let c0_i32_23 : BitVec 32 := 0#32
  let v46 : BitVec 1 := Scalar.cmpi .slt v44 c0_i32_23
  let c0_i32_24 : BitVec 32 := 0#32
  let v47 : BitVec 1 := Scalar.cmpi .slt v43 c0_i32_24
  let v48 : BitVec 1 := Scalar.xori v46 v47
  let c0_i32_22 : BitVec 32 := 0#32
  let v45 : BitVec 1 := Scalar.cmpi .ne v44 c0_i32_22
  let v49 : BitVec 1 := Scalar.andi v48 v45
  let v50 : BitVec 32 := Scalar.addi v44 v43
  let v51 : BitVec 32 := Scalar.select v49 v50 v44
  let c256_i32 : BitVec 32 := 256#32
  let v52 : BitVec 32 := Scalar.muli v51 c256_i32
  let v53 : BitVec 32 := v52
  let c128_i32_165 : BitVec 32 := 128#32
  let v457 : BitVec 32 := Scalar.addi v53 c128_i32_165
  v457
def k0_mult64 (k0_t1 : Fin k0_t1_loop.trips) : BitVec 32 :=
  let c0_i32_10 : BitVec 32 := 0#32
  let c1_i32_11 : BitVec 32 := 1#32
  let arg8 : BitVec 32 := Scf.iv c0_i32_10 c1_i32_11 k0_t1
  let c0_i32_13 : BitVec 32 := 0#32
  let v26 : BitVec 1 := Scalar.cmpi .sgt arg8 c0_i32_13
  let v27 : BitVec 32 := Scalar.extui v26
  let c0_i32_14 : BitVec 32 := 0#32
  let v28 : BitVec 1 := Scalar.cmpi .slt arg8 c0_i32_14
  let v29 : BitVec 32 := Scalar.extui v28
  let v30 : BitVec 32 := Scalar.subi v27 v29
  let c3_i32 : BitVec 32 := 3#32
  let c0_i32_15 : BitVec 32 := 0#32
  let v31 : BitVec 1 := Scalar.cmpi .sgt c3_i32 c0_i32_15
  let v32 : BitVec 32 := Scalar.extui v31
  let c0_i32_16 : BitVec 32 := 0#32
  let v33 : BitVec 1 := Scalar.cmpi .slt c3_i32 c0_i32_16
  let v34 : BitVec 32 := Scalar.extui v33
  let v35 : BitVec 32 := Scalar.subi v32 v34
  let v36 : BitVec 1 := Scalar.cmpi .ne v30 v35
  let v37 : BitVec 32 := Scalar.remsi arg8 c3_i32
  let c0_i32_17 : BitVec 32 := 0#32
  let v38 : BitVec 1 := Scalar.cmpi .ne v37 c0_i32_17
  let v39 : BitVec 1 := Scalar.andi v36 v38
  let v25 : BitVec 32 := Scalar.divsi arg8 c3_i32
  let c1_i32_18 : BitVec 32 := 1#32
  let v40 : BitVec 32 := Scalar.subi v25 c1_i32_18
  let v41 : BitVec 32 := Scalar.select v39 v40 v25
  let c128_i32_166 : BitVec 32 := 128#32
  let v469 : BitVec 32 := Scalar.muli v41 c128_i32_166
  v469
def k0_mult65 (k0_t1 : Fin k0_t1_loop.trips) : BitVec 32 :=
  let c0_i32_10 : BitVec 32 := 0#32
  let c1_i32_11 : BitVec 32 := 1#32
  let arg8 : BitVec 32 := Scf.iv c0_i32_10 c1_i32_11 k0_t1
  let c3_i32_19 : BitVec 32 := 3#32
  let c0_i32_20 : BitVec 32 := 0#32
  let v42 : BitVec 1 := Scalar.cmpi .eq c3_i32_19 c0_i32_20
  let c1_i32_21 : BitVec 32 := 1#32
  let v43 : BitVec 32 := Scalar.select v42 c1_i32_21 c3_i32_19
  let v44 : BitVec 32 := Scalar.remsi arg8 v43
  let c0_i32_23 : BitVec 32 := 0#32
  let v46 : BitVec 1 := Scalar.cmpi .slt v44 c0_i32_23
  let c0_i32_24 : BitVec 32 := 0#32
  let v47 : BitVec 1 := Scalar.cmpi .slt v43 c0_i32_24
  let v48 : BitVec 1 := Scalar.xori v46 v47
  let c0_i32_22 : BitVec 32 := 0#32
  let v45 : BitVec 1 := Scalar.cmpi .ne v44 c0_i32_22
  let v49 : BitVec 1 := Scalar.andi v48 v45
  let v50 : BitVec 32 := Scalar.addi v44 v43
  let v51 : BitVec 32 := Scalar.select v49 v50 v44
  let c256_i32 : BitVec 32 := 256#32
  let v52 : BitVec 32 := Scalar.muli v51 c256_i32
  let v53 : BitVec 32 := v52
  let c128_i32_168 : BitVec 32 := 128#32
  let v472 : BitVec 32 := Scalar.addi v53 c128_i32_168
  v472
def k0_mult66 (k0_t1 : Fin k0_t1_loop.trips) : BitVec 32 :=
  let c0_i32_10 : BitVec 32 := 0#32
  let c1_i32_11 : BitVec 32 := 1#32
  let arg8 : BitVec 32 := Scf.iv c0_i32_10 c1_i32_11 k0_t1
  let c0_i32_13 : BitVec 32 := 0#32
  let v26 : BitVec 1 := Scalar.cmpi .sgt arg8 c0_i32_13
  let v27 : BitVec 32 := Scalar.extui v26
  let c0_i32_14 : BitVec 32 := 0#32
  let v28 : BitVec 1 := Scalar.cmpi .slt arg8 c0_i32_14
  let v29 : BitVec 32 := Scalar.extui v28
  let v30 : BitVec 32 := Scalar.subi v27 v29
  let c3_i32 : BitVec 32 := 3#32
  let c0_i32_15 : BitVec 32 := 0#32
  let v31 : BitVec 1 := Scalar.cmpi .sgt c3_i32 c0_i32_15
  let v32 : BitVec 32 := Scalar.extui v31
  let c0_i32_16 : BitVec 32 := 0#32
  let v33 : BitVec 1 := Scalar.cmpi .slt c3_i32 c0_i32_16
  let v34 : BitVec 32 := Scalar.extui v33
  let v35 : BitVec 32 := Scalar.subi v32 v34
  let v36 : BitVec 1 := Scalar.cmpi .ne v30 v35
  let v37 : BitVec 32 := Scalar.remsi arg8 c3_i32
  let c0_i32_17 : BitVec 32 := 0#32
  let v38 : BitVec 1 := Scalar.cmpi .ne v37 c0_i32_17
  let v39 : BitVec 1 := Scalar.andi v36 v38
  let v25 : BitVec 32 := Scalar.divsi arg8 c3_i32
  let c1_i32_18 : BitVec 32 := 1#32
  let v40 : BitVec 32 := Scalar.subi v25 c1_i32_18
  let v41 : BitVec 32 := Scalar.select v39 v40 v25
  let c128_i32_169 : BitVec 32 := 128#32
  let v484 : BitVec 32 := Scalar.muli v41 c128_i32_169
  v484
def k0_mult67 (k0_t1 : Fin k0_t1_loop.trips) : BitVec 32 :=
  let c0_i32_10 : BitVec 32 := 0#32
  let c1_i32_11 : BitVec 32 := 1#32
  let arg8 : BitVec 32 := Scf.iv c0_i32_10 c1_i32_11 k0_t1
  let c3_i32_19 : BitVec 32 := 3#32
  let c0_i32_20 : BitVec 32 := 0#32
  let v42 : BitVec 1 := Scalar.cmpi .eq c3_i32_19 c0_i32_20
  let c1_i32_21 : BitVec 32 := 1#32
  let v43 : BitVec 32 := Scalar.select v42 c1_i32_21 c3_i32_19
  let v44 : BitVec 32 := Scalar.remsi arg8 v43
  let c0_i32_23 : BitVec 32 := 0#32
  let v46 : BitVec 1 := Scalar.cmpi .slt v44 c0_i32_23
  let c0_i32_24 : BitVec 32 := 0#32
  let v47 : BitVec 1 := Scalar.cmpi .slt v43 c0_i32_24
  let v48 : BitVec 1 := Scalar.xori v46 v47
  let c0_i32_22 : BitVec 32 := 0#32
  let v45 : BitVec 1 := Scalar.cmpi .ne v44 c0_i32_22
  let v49 : BitVec 1 := Scalar.andi v48 v45
  let v50 : BitVec 32 := Scalar.addi v44 v43
  let v51 : BitVec 32 := Scalar.select v49 v50 v44
  let c256_i32 : BitVec 32 := 256#32
  let v52 : BitVec 32 := Scalar.muli v51 c256_i32
  let v53 : BitVec 32 := v52
  let c128_i32_171 : BitVec 32 := 128#32
  let v487 : BitVec 32 := Scalar.addi v53 c128_i32_171
  v487
def k0_mult68 (k0_t1 : Fin k0_t1_loop.trips) : BitVec 32 :=
  let c0_i32_10 : BitVec 32 := 0#32
  let c1_i32_11 : BitVec 32 := 1#32
  let arg8 : BitVec 32 := Scf.iv c0_i32_10 c1_i32_11 k0_t1
  let c0_i32_13 : BitVec 32 := 0#32
  let v26 : BitVec 1 := Scalar.cmpi .sgt arg8 c0_i32_13
  let v27 : BitVec 32 := Scalar.extui v26
  let c0_i32_14 : BitVec 32 := 0#32
  let v28 : BitVec 1 := Scalar.cmpi .slt arg8 c0_i32_14
  let v29 : BitVec 32 := Scalar.extui v28
  let v30 : BitVec 32 := Scalar.subi v27 v29
  let c3_i32 : BitVec 32 := 3#32
  let c0_i32_15 : BitVec 32 := 0#32
  let v31 : BitVec 1 := Scalar.cmpi .sgt c3_i32 c0_i32_15
  let v32 : BitVec 32 := Scalar.extui v31
  let c0_i32_16 : BitVec 32 := 0#32
  let v33 : BitVec 1 := Scalar.cmpi .slt c3_i32 c0_i32_16
  let v34 : BitVec 32 := Scalar.extui v33
  let v35 : BitVec 32 := Scalar.subi v32 v34
  let v36 : BitVec 1 := Scalar.cmpi .ne v30 v35
  let v37 : BitVec 32 := Scalar.remsi arg8 c3_i32
  let c0_i32_17 : BitVec 32 := 0#32
  let v38 : BitVec 1 := Scalar.cmpi .ne v37 c0_i32_17
  let v39 : BitVec 1 := Scalar.andi v36 v38
  let v25 : BitVec 32 := Scalar.divsi arg8 c3_i32
  let c1_i32_18 : BitVec 32 := 1#32
  let v40 : BitVec 32 := Scalar.subi v25 c1_i32_18
  let v41 : BitVec 32 := Scalar.select v39 v40 v25
  let c128_i32_172 : BitVec 32 := 128#32
  let v499 : BitVec 32 := Scalar.muli v41 c128_i32_172
  v499
def k0_mult69 (k0_t1 : Fin k0_t1_loop.trips) : BitVec 32 :=
  let c0_i32_10 : BitVec 32 := 0#32
  let c1_i32_11 : BitVec 32 := 1#32
  let arg8 : BitVec 32 := Scf.iv c0_i32_10 c1_i32_11 k0_t1
  let c3_i32_19 : BitVec 32 := 3#32
  let c0_i32_20 : BitVec 32 := 0#32
  let v42 : BitVec 1 := Scalar.cmpi .eq c3_i32_19 c0_i32_20
  let c1_i32_21 : BitVec 32 := 1#32
  let v43 : BitVec 32 := Scalar.select v42 c1_i32_21 c3_i32_19
  let v44 : BitVec 32 := Scalar.remsi arg8 v43
  let c0_i32_23 : BitVec 32 := 0#32
  let v46 : BitVec 1 := Scalar.cmpi .slt v44 c0_i32_23
  let c0_i32_24 : BitVec 32 := 0#32
  let v47 : BitVec 1 := Scalar.cmpi .slt v43 c0_i32_24
  let v48 : BitVec 1 := Scalar.xori v46 v47
  let c0_i32_22 : BitVec 32 := 0#32
  let v45 : BitVec 1 := Scalar.cmpi .ne v44 c0_i32_22
  let v49 : BitVec 1 := Scalar.andi v48 v45
  let v50 : BitVec 32 := Scalar.addi v44 v43
  let v51 : BitVec 32 := Scalar.select v49 v50 v44
  let c256_i32 : BitVec 32 := 256#32
  let v52 : BitVec 32 := Scalar.muli v51 c256_i32
  let v53 : BitVec 32 := v52
  let c128_i32_174 : BitVec 32 := 128#32
  let v502 : BitVec 32 := Scalar.addi v53 c128_i32_174
  v502
def k0_cond2 (i : grid0.Coords) : BitVec 1 :=
  let arg0 : BitVec 32 := BitVec.ofNat 32 (i 0).val
  let c0_i32_6 : BitVec 32 := 0#32
  let v16 : BitVec 1 := Scalar.cmpi .sgt arg0 c0_i32_6
  let c11_i32 : BitVec 32 := 11#32
  let v17 : BitVec 1 := Scalar.cmpi .slt arg0 c11_i32
  let v18 : BitVec 1 := Scalar.andi v16 v17
  let v19 : BitVec 32 := Scalar.extui v18
  let c0_i32_7 : BitVec 32 := 0#32
  let v20 : BitVec 1 := Scalar.cmpi .ne v19 c0_i32_7
  v20

@[reducible] def k0_t2_loop : Scf.Loop 32 :=
  let c0_i32_10 : BitVec 32 := 0#32
  let c9_i32 : BitVec 32 := 9#32
  let v24 : BitVec 32 := Scalar.addi c0_i32_10 c9_i32
  let c1_i32_11 : BitVec 32 := 1#32
  ⟨c0_i32_10, v24, c1_i32_11⟩
def k0_mult70 (k0_t2 : Fin k0_t2_loop.trips) : BitVec 32 :=
  let c0_i32_10 : BitVec 32 := 0#32
  let c1_i32_11 : BitVec 32 := 1#32
  let arg8 : BitVec 32 := Scf.iv c0_i32_10 c1_i32_11 k0_t2
  let c3_i32_19 : BitVec 32 := 3#32
  let c0_i32_20 : BitVec 32 := 0#32
  let v42 : BitVec 1 := Scalar.cmpi .eq c3_i32_19 c0_i32_20
  let c1_i32_21 : BitVec 32 := 1#32
  let v43 : BitVec 32 := Scalar.select v42 c1_i32_21 c3_i32_19
  let v44 : BitVec 32 := Scalar.remsi arg8 v43
  let c0_i32_23 : BitVec 32 := 0#32
  let v46 : BitVec 1 := Scalar.cmpi .slt v44 c0_i32_23
  let c0_i32_24 : BitVec 32 := 0#32
  let v47 : BitVec 1 := Scalar.cmpi .slt v43 c0_i32_24
  let v48 : BitVec 1 := Scalar.xori v46 v47
  let c0_i32_22 : BitVec 32 := 0#32
  let v45 : BitVec 1 := Scalar.cmpi .ne v44 c0_i32_22
  let v49 : BitVec 1 := Scalar.andi v48 v45
  let v50 : BitVec 32 := Scalar.addi v44 v43
  let v51 : BitVec 32 := Scalar.select v49 v50 v44
  let c256_i32 : BitVec 32 := 256#32
  let v52 : BitVec 32 := Scalar.muli v51 c256_i32
  v52
def k0_mult71 (k0_t2 : Fin k0_t2_loop.trips) : BitVec 32 :=
  let c0_i32_10 : BitVec 32 := 0#32
  let c1_i32_11 : BitVec 32 := 1#32
  let arg8 : BitVec 32 := Scf.iv c0_i32_10 c1_i32_11 k0_t2
  let c0_i32_13 : BitVec 32 := 0#32
  let v26 : BitVec 1 := Scalar.cmpi .sgt arg8 c0_i32_13
  let v27 : BitVec 32 := Scalar.extui v26
  let c0_i32_14 : BitVec 32 := 0#32
  let v28 : BitVec 1 := Scalar.cmpi .slt arg8 c0_i32_14
  let v29 : BitVec 32 := Scalar.extui v28
  let v30 : BitVec 32 := Scalar.subi v27 v29
  let c3_i32 : BitVec 32 := 3#32
  let c0_i32_15 : BitVec 32 := 0#32
  let v31 : BitVec 1 := Scalar.cmpi .sgt c3_i32 c0_i32_15
  let v32 : BitVec 32 := Scalar.extui v31
  let c0_i32_16 : BitVec 32 := 0#32
  let v33 : BitVec 1 := Scalar.cmpi .slt c3_i32 c0_i32_16
  let v34 : BitVec 32 := Scalar.extui v33
  let v35 : BitVec 32 := Scalar.subi v32 v34
  let v36 : BitVec 1 := Scalar.cmpi .ne v30 v35
  let v37 : BitVec 32 := Scalar.remsi arg8 c3_i32
  let c0_i32_17 : BitVec 32 := 0#32
  let v38 : BitVec 1 := Scalar.cmpi .ne v37 c0_i32_17
  let v39 : BitVec 1 := Scalar.andi v36 v38
  let v25 : BitVec 32 := Scalar.divsi arg8 c3_i32
  let c1_i32_18 : BitVec 32 := 1#32
  let v40 : BitVec 32 := Scalar.subi v25 c1_i32_18
  let v41 : BitVec 32 := Scalar.select v39 v40 v25
  let c64_i32 : BitVec 32 := 64#32
  let v54 : BitVec 32 := Scalar.muli v41 c64_i32
  v54
def k0_mult72 (k0_t2 : Fin k0_t2_loop.trips) : BitVec 32 :=
  let c0_i32_10 : BitVec 32 := 0#32
  let c1_i32_11 : BitVec 32 := 1#32
  let arg8 : BitVec 32 := Scf.iv c0_i32_10 c1_i32_11 k0_t2
  let c3_i32_19 : BitVec 32 := 3#32
  let c0_i32_20 : BitVec 32 := 0#32
  let v42 : BitVec 1 := Scalar.cmpi .eq c3_i32_19 c0_i32_20
  let c1_i32_21 : BitVec 32 := 1#32
  let v43 : BitVec 32 := Scalar.select v42 c1_i32_21 c3_i32_19
  let v44 : BitVec 32 := Scalar.remsi arg8 v43
  let c0_i32_23 : BitVec 32 := 0#32
  let v46 : BitVec 1 := Scalar.cmpi .slt v44 c0_i32_23
  let c0_i32_24 : BitVec 32 := 0#32
  let v47 : BitVec 1 := Scalar.cmpi .slt v43 c0_i32_24
  let v48 : BitVec 1 := Scalar.xori v46 v47
  let c0_i32_22 : BitVec 32 := 0#32
  let v45 : BitVec 1 := Scalar.cmpi .ne v44 c0_i32_22
  let v49 : BitVec 1 := Scalar.andi v48 v45
  let v50 : BitVec 32 := Scalar.addi v44 v43
  let v51 : BitVec 32 := Scalar.select v49 v50 v44
  let c256_i32 : BitVec 32 := 256#32
  let v52 : BitVec 32 := Scalar.muli v51 c256_i32
  let v53 : BitVec 32 := v52
  let c0_i32_26 : BitVec 32 := 0#32
  let v57 : BitVec 32 := Scalar.addi v53 c0_i32_26
  v57
def k0_off4 (k0_t2 : Fin k0_t2_loop.trips) (c0_i32_25 : BitVec 32) (c0_i32_26 : BitVec 32) : Fin 2 → Nat :=
  let c0_i32_10 : BitVec 32 := 0#32
  let c1_i32_11 : BitVec 32 := 1#32
  let arg8 : BitVec 32 := Scf.iv c0_i32_10 c1_i32_11 k0_t2
  let c0_i32_13 : BitVec 32 := 0#32
  let v26 : BitVec 1 := Scalar.cmpi .sgt arg8 c0_i32_13
  let v27 : BitVec 32 := Scalar.extui v26
  let c0_i32_14 : BitVec 32 := 0#32
  let v28 : BitVec 1 := Scalar.cmpi .slt arg8 c0_i32_14
  let v29 : BitVec 32 := Scalar.extui v28
  let v30 : BitVec 32 := Scalar.subi v27 v29
  let c3_i32 : BitVec 32 := 3#32
  let c0_i32_15 : BitVec 32 := 0#32
  let v31 : BitVec 1 := Scalar.cmpi .sgt c3_i32 c0_i32_15
  let v32 : BitVec 32 := Scalar.extui v31
  let c0_i32_16 : BitVec 32 := 0#32
  let v33 : BitVec 1 := Scalar.cmpi .slt c3_i32 c0_i32_16
  let v34 : BitVec 32 := Scalar.extui v33
  let v35 : BitVec 32 := Scalar.subi v32 v34
  let v36 : BitVec 1 := Scalar.cmpi .ne v30 v35
  let v37 : BitVec 32 := Scalar.remsi arg8 c3_i32
  let c0_i32_17 : BitVec 32 := 0#32
  let v38 : BitVec 1 := Scalar.cmpi .ne v37 c0_i32_17
  let v39 : BitVec 1 := Scalar.andi v36 v38
  let v25 : BitVec 32 := Scalar.divsi arg8 c3_i32
  let c1_i32_18 : BitVec 32 := 1#32
  let v40 : BitVec 32 := Scalar.subi v25 c1_i32_18
  let v41 : BitVec 32 := Scalar.select v39 v40 v25
  let c64_i32 : BitVec 32 := 64#32
  let v54 : BitVec 32 := Scalar.muli v41 c64_i32
  let v55 : BitVec 32 := v54
  let v56 : BitVec 32 := Scalar.addi v55 c0_i32_25
  let v59 : Index := Scalar.indexCast v56
  let c3_i32_19 : BitVec 32 := 3#32
  let c0_i32_20 : BitVec 32 := 0#32
  let v42 : BitVec 1 := Scalar.cmpi .eq c3_i32_19 c0_i32_20
  let c1_i32_21 : BitVec 32 := 1#32
  let v43 : BitVec 32 := Scalar.select v42 c1_i32_21 c3_i32_19
  let v44 : BitVec 32 := Scalar.remsi arg8 v43
  let c0_i32_23 : BitVec 32 := 0#32
  let v46 : BitVec 1 := Scalar.cmpi .slt v44 c0_i32_23
  let c0_i32_24 : BitVec 32 := 0#32
  let v47 : BitVec 1 := Scalar.cmpi .slt v43 c0_i32_24
  let v48 : BitVec 1 := Scalar.xori v46 v47
  let c0_i32_22 : BitVec 32 := 0#32
  let v45 : BitVec 1 := Scalar.cmpi .ne v44 c0_i32_22
  let v49 : BitVec 1 := Scalar.andi v48 v45
  let v50 : BitVec 32 := Scalar.addi v44 v43
  let v51 : BitVec 32 := Scalar.select v49 v50 v44
  let c256_i32 : BitVec 32 := 256#32
  let v52 : BitVec 32 := Scalar.muli v51 c256_i32
  let v53 : BitVec 32 := v52
  let v57 : BitVec 32 := Scalar.addi v53 c0_i32_26
  let v58 : BitVec 32 := v57
  let v60 : Index := Scalar.indexCast v58
  ![v59.toNat, v60.toNat]
def k0_mult73 (k0_t2 : Fin k0_t2_loop.trips) : BitVec 32 :=
  let c0_i32_10 : BitVec 32 := 0#32
  let c1_i32_11 : BitVec 32 := 1#32
  let arg8 : BitVec 32 := Scf.iv c0_i32_10 c1_i32_11 k0_t2
  let c0_i32_13 : BitVec 32 := 0#32
  let v26 : BitVec 1 := Scalar.cmpi .sgt arg8 c0_i32_13
  let v27 : BitVec 32 := Scalar.extui v26
  let c0_i32_14 : BitVec 32 := 0#32
  let v28 : BitVec 1 := Scalar.cmpi .slt arg8 c0_i32_14
  let v29 : BitVec 32 := Scalar.extui v28
  let v30 : BitVec 32 := Scalar.subi v27 v29
  let c3_i32 : BitVec 32 := 3#32
  let c0_i32_15 : BitVec 32 := 0#32
  let v31 : BitVec 1 := Scalar.cmpi .sgt c3_i32 c0_i32_15
  let v32 : BitVec 32 := Scalar.extui v31
  let c0_i32_16 : BitVec 32 := 0#32
  let v33 : BitVec 1 := Scalar.cmpi .slt c3_i32 c0_i32_16
  let v34 : BitVec 32 := Scalar.extui v33
  let v35 : BitVec 32 := Scalar.subi v32 v34
  let v36 : BitVec 1 := Scalar.cmpi .ne v30 v35
  let v37 : BitVec 32 := Scalar.remsi arg8 c3_i32
  let c0_i32_17 : BitVec 32 := 0#32
  let v38 : BitVec 1 := Scalar.cmpi .ne v37 c0_i32_17
  let v39 : BitVec 1 := Scalar.andi v36 v38
  let v25 : BitVec 32 := Scalar.divsi arg8 c3_i32
  let c1_i32_18 : BitVec 32 := 1#32
  let v40 : BitVec 32 := Scalar.subi v25 c1_i32_18
  let v41 : BitVec 32 := Scalar.select v39 v40 v25
  let c64_i32_27 : BitVec 32 := 64#32
  let v62 : BitVec 32 := Scalar.muli v41 c64_i32_27
  v62
def k0_mult74 (k0_t2 : Fin k0_t2_loop.trips) : BitVec 32 :=
  let c0_i32_10 : BitVec 32 := 0#32
  let c1_i32_11 : BitVec 32 := 1#32
  let arg8 : BitVec 32 := Scf.iv c0_i32_10 c1_i32_11 k0_t2
  let c3_i32_19 : BitVec 32 := 3#32
  let c0_i32_20 : BitVec 32 := 0#32
  let v42 : BitVec 1 := Scalar.cmpi .eq c3_i32_19 c0_i32_20
  let c1_i32_21 : BitVec 32 := 1#32
  let v43 : BitVec 32 := Scalar.select v42 c1_i32_21 c3_i32_19
  let v44 : BitVec 32 := Scalar.remsi arg8 v43
  let c0_i32_23 : BitVec 32 := 0#32
  let v46 : BitVec 1 := Scalar.cmpi .slt v44 c0_i32_23
  let c0_i32_24 : BitVec 32 := 0#32
  let v47 : BitVec 1 := Scalar.cmpi .slt v43 c0_i32_24
  let v48 : BitVec 1 := Scalar.xori v46 v47
  let c0_i32_22 : BitVec 32 := 0#32
  let v45 : BitVec 1 := Scalar.cmpi .ne v44 c0_i32_22
  let v49 : BitVec 1 := Scalar.andi v48 v45
  let v50 : BitVec 32 := Scalar.addi v44 v43
  let v51 : BitVec 32 := Scalar.select v49 v50 v44
  let c256_i32 : BitVec 32 := 256#32
  let v52 : BitVec 32 := Scalar.muli v51 c256_i32
  let v53 : BitVec 32 := v52
  let c0_i32_28 : BitVec 32 := 0#32
  let v65 : BitVec 32 := Scalar.addi v53 c0_i32_28
  v65
def k0_mult75 (k0_t2 : Fin k0_t2_loop.trips) : BitVec 32 :=
  let c0_i32_10 : BitVec 32 := 0#32
  let c1_i32_11 : BitVec 32 := 1#32
  let arg8 : BitVec 32 := Scf.iv c0_i32_10 c1_i32_11 k0_t2
  let c0_i32_13 : BitVec 32 := 0#32
  let v26 : BitVec 1 := Scalar.cmpi .sgt arg8 c0_i32_13
  let v27 : BitVec 32 := Scalar.extui v26
  let c0_i32_14 : BitVec 32 := 0#32
  let v28 : BitVec 1 := Scalar.cmpi .slt arg8 c0_i32_14
  let v29 : BitVec 32 := Scalar.extui v28
  let v30 : BitVec 32 := Scalar.subi v27 v29
  let c3_i32 : BitVec 32 := 3#32
  let c0_i32_15 : BitVec 32 := 0#32
  let v31 : BitVec 1 := Scalar.cmpi .sgt c3_i32 c0_i32_15
  let v32 : BitVec 32 := Scalar.extui v31
  let c0_i32_16 : BitVec 32 := 0#32
  let v33 : BitVec 1 := Scalar.cmpi .slt c3_i32 c0_i32_16
  let v34 : BitVec 32 := Scalar.extui v33
  let v35 : BitVec 32 := Scalar.subi v32 v34
  let v36 : BitVec 1 := Scalar.cmpi .ne v30 v35
  let v37 : BitVec 32 := Scalar.remsi arg8 c3_i32
  let c0_i32_17 : BitVec 32 := 0#32
  let v38 : BitVec 1 := Scalar.cmpi .ne v37 c0_i32_17
  let v39 : BitVec 1 := Scalar.andi v36 v38
  let v25 : BitVec 32 := Scalar.divsi arg8 c3_i32
  let c1_i32_18 : BitVec 32 := 1#32
  let v40 : BitVec 32 := Scalar.subi v25 c1_i32_18
  let v41 : BitVec 32 := Scalar.select v39 v40 v25
  let c64_i32_29 : BitVec 32 := 64#32
  let v70 : BitVec 32 := Scalar.muli v41 c64_i32_29
  v70
def k0_mult76 (k0_t2 : Fin k0_t2_loop.trips) : BitVec 32 :=
  let c0_i32_10 : BitVec 32 := 0#32
  let c1_i32_11 : BitVec 32 := 1#32
  let arg8 : BitVec 32 := Scf.iv c0_i32_10 c1_i32_11 k0_t2
  let c3_i32_19 : BitVec 32 := 3#32
  let c0_i32_20 : BitVec 32 := 0#32
  let v42 : BitVec 1 := Scalar.cmpi .eq c3_i32_19 c0_i32_20
  let c1_i32_21 : BitVec 32 := 1#32
  let v43 : BitVec 32 := Scalar.select v42 c1_i32_21 c3_i32_19
  let v44 : BitVec 32 := Scalar.remsi arg8 v43
  let c0_i32_23 : BitVec 32 := 0#32
  let v46 : BitVec 1 := Scalar.cmpi .slt v44 c0_i32_23
  let c0_i32_24 : BitVec 32 := 0#32
  let v47 : BitVec 1 := Scalar.cmpi .slt v43 c0_i32_24
  let v48 : BitVec 1 := Scalar.xori v46 v47
  let c0_i32_22 : BitVec 32 := 0#32
  let v45 : BitVec 1 := Scalar.cmpi .ne v44 c0_i32_22
  let v49 : BitVec 1 := Scalar.andi v48 v45
  let v50 : BitVec 32 := Scalar.addi v44 v43
  let v51 : BitVec 32 := Scalar.select v49 v50 v44
  let c256_i32 : BitVec 32 := 256#32
  let v52 : BitVec 32 := Scalar.muli v51 c256_i32
  let v53 : BitVec 32 := v52
  let c0_i32_30 : BitVec 32 := 0#32
  let v73 : BitVec 32 := Scalar.addi v53 c0_i32_30
  v73
def k0_mult77 (k0_t2 : Fin k0_t2_loop.trips) : BitVec 32 :=
  let c0_i32_10 : BitVec 32 := 0#32
  let c1_i32_11 : BitVec 32 := 1#32
  let arg8 : BitVec 32 := Scf.iv c0_i32_10 c1_i32_11 k0_t2
  let c0_i32_13 : BitVec 32 := 0#32
  let v26 : BitVec 1 := Scalar.cmpi .sgt arg8 c0_i32_13
  let v27 : BitVec 32 := Scalar.extui v26
  let c0_i32_14 : BitVec 32 := 0#32
  let v28 : BitVec 1 := Scalar.cmpi .slt arg8 c0_i32_14
  let v29 : BitVec 32 := Scalar.extui v28
  let v30 : BitVec 32 := Scalar.subi v27 v29
  let c3_i32 : BitVec 32 := 3#32
  let c0_i32_15 : BitVec 32 := 0#32
  let v31 : BitVec 1 := Scalar.cmpi .sgt c3_i32 c0_i32_15
  let v32 : BitVec 32 := Scalar.extui v31
  let c0_i32_16 : BitVec 32 := 0#32
  let v33 : BitVec 1 := Scalar.cmpi .slt c3_i32 c0_i32_16
  let v34 : BitVec 32 := Scalar.extui v33
  let v35 : BitVec 32 := Scalar.subi v32 v34
  let v36 : BitVec 1 := Scalar.cmpi .ne v30 v35
  let v37 : BitVec 32 := Scalar.remsi arg8 c3_i32
  let c0_i32_17 : BitVec 32 := 0#32
  let v38 : BitVec 1 := Scalar.cmpi .ne v37 c0_i32_17
  let v39 : BitVec 1 := Scalar.andi v36 v38
  let v25 : BitVec 32 := Scalar.divsi arg8 c3_i32
  let c1_i32_18 : BitVec 32 := 1#32
  let v40 : BitVec 32 := Scalar.subi v25 c1_i32_18
  let v41 : BitVec 32 := Scalar.select v39 v40 v25
  let c64_i32_31 : BitVec 32 := 64#32
  let v78 : BitVec 32 := Scalar.muli v41 c64_i32_31
  v78
def k0_mult78 (k0_t2 : Fin k0_t2_loop.trips) : BitVec 32 :=
  let c0_i32_10 : BitVec 32 := 0#32
  let c1_i32_11 : BitVec 32 := 1#32
  let arg8 : BitVec 32 := Scf.iv c0_i32_10 c1_i32_11 k0_t2
  let c3_i32_19 : BitVec 32 := 3#32
  let c0_i32_20 : BitVec 32 := 0#32
  let v42 : BitVec 1 := Scalar.cmpi .eq c3_i32_19 c0_i32_20
  let c1_i32_21 : BitVec 32 := 1#32
  let v43 : BitVec 32 := Scalar.select v42 c1_i32_21 c3_i32_19
  let v44 : BitVec 32 := Scalar.remsi arg8 v43
  let c0_i32_23 : BitVec 32 := 0#32
  let v46 : BitVec 1 := Scalar.cmpi .slt v44 c0_i32_23
  let c0_i32_24 : BitVec 32 := 0#32
  let v47 : BitVec 1 := Scalar.cmpi .slt v43 c0_i32_24
  let v48 : BitVec 1 := Scalar.xori v46 v47
  let c0_i32_22 : BitVec 32 := 0#32
  let v45 : BitVec 1 := Scalar.cmpi .ne v44 c0_i32_22
  let v49 : BitVec 1 := Scalar.andi v48 v45
  let v50 : BitVec 32 := Scalar.addi v44 v43
  let v51 : BitVec 32 := Scalar.select v49 v50 v44
  let c256_i32 : BitVec 32 := 256#32
  let v52 : BitVec 32 := Scalar.muli v51 c256_i32
  let v53 : BitVec 32 := v52
  let c0_i32_32 : BitVec 32 := 0#32
  let v81 : BitVec 32 := Scalar.addi v53 c0_i32_32
  v81
def k0_mult79 (k0_t2 : Fin k0_t2_loop.trips) : BitVec 32 :=
  let c0_i32_10 : BitVec 32 := 0#32
  let c1_i32_11 : BitVec 32 := 1#32
  let arg8 : BitVec 32 := Scf.iv c0_i32_10 c1_i32_11 k0_t2
  let c3_i32_19 : BitVec 32 := 3#32
  let c0_i32_20 : BitVec 32 := 0#32
  let v42 : BitVec 1 := Scalar.cmpi .eq c3_i32_19 c0_i32_20
  let c1_i32_21 : BitVec 32 := 1#32
  let v43 : BitVec 32 := Scalar.select v42 c1_i32_21 c3_i32_19
  let v44 : BitVec 32 := Scalar.remsi arg8 v43
  let c0_i32_23 : BitVec 32 := 0#32
  let v46 : BitVec 1 := Scalar.cmpi .slt v44 c0_i32_23
  let c0_i32_24 : BitVec 32 := 0#32
  let v47 : BitVec 1 := Scalar.cmpi .slt v43 c0_i32_24
  let v48 : BitVec 1 := Scalar.xori v46 v47
  let c0_i32_22 : BitVec 32 := 0#32
  let v45 : BitVec 1 := Scalar.cmpi .ne v44 c0_i32_22
  let v49 : BitVec 1 := Scalar.andi v48 v45
  let v50 : BitVec 32 := Scalar.addi v44 v43
  let v51 : BitVec 32 := Scalar.select v49 v50 v44
  let c256_i32 : BitVec 32 := 256#32
  let v52 : BitVec 32 := Scalar.muli v51 c256_i32
  let v53 : BitVec 32 := v52
  let c0_i32_35 : BitVec 32 := 0#32
  let v88 : BitVec 32 := Scalar.addi v53 c0_i32_35
  v88
def k0_off5 (k0_t2 : Fin k0_t2_loop.trips) (c0_i32_34 : BitVec 32) (c0_i32_35 : BitVec 32) : Fin 3 → Nat :=
  let c0_i32_10 : BitVec 32 := 0#32
  let c1_i32_11 : BitVec 32 := 1#32
  let arg8 : BitVec 32 := Scf.iv c0_i32_10 c1_i32_11 k0_t2
  let c0_i32_13 : BitVec 32 := 0#32
  let v26 : BitVec 1 := Scalar.cmpi .sgt arg8 c0_i32_13
  let v27 : BitVec 32 := Scalar.extui v26
  let c0_i32_14 : BitVec 32 := 0#32
  let v28 : BitVec 1 := Scalar.cmpi .slt arg8 c0_i32_14
  let v29 : BitVec 32 := Scalar.extui v28
  let v30 : BitVec 32 := Scalar.subi v27 v29
  let c3_i32 : BitVec 32 := 3#32
  let c0_i32_15 : BitVec 32 := 0#32
  let v31 : BitVec 1 := Scalar.cmpi .sgt c3_i32 c0_i32_15
  let v32 : BitVec 32 := Scalar.extui v31
  let c0_i32_16 : BitVec 32 := 0#32
  let v33 : BitVec 1 := Scalar.cmpi .slt c3_i32 c0_i32_16
  let v34 : BitVec 32 := Scalar.extui v33
  let v35 : BitVec 32 := Scalar.subi v32 v34
  let v36 : BitVec 1 := Scalar.cmpi .ne v30 v35
  let v37 : BitVec 32 := Scalar.remsi arg8 c3_i32
  let c0_i32_17 : BitVec 32 := 0#32
  let v38 : BitVec 1 := Scalar.cmpi .ne v37 c0_i32_17
  let v39 : BitVec 1 := Scalar.andi v36 v38
  let v25 : BitVec 32 := Scalar.divsi arg8 c3_i32
  let c1_i32_18 : BitVec 32 := 1#32
  let v40 : BitVec 32 := Scalar.subi v25 c1_i32_18
  let v41 : BitVec 32 := Scalar.select v39 v40 v25
  let c2_i32_33 : BitVec 32 := 2#32
  let v86 : BitVec 32 := Scalar.muli v41 c2_i32_33
  let v87 : BitVec 32 := Scalar.addi v86 c0_i32_34
  let v90 : Index := Scalar.indexCast v87
  let c0_36 : Index := 0#32
  let c3_i32_19 : BitVec 32 := 3#32
  let c0_i32_20 : BitVec 32 := 0#32
  let v42 : BitVec 1 := Scalar.cmpi .eq c3_i32_19 c0_i32_20
  let c1_i32_21 : BitVec 32 := 1#32
  let v43 : BitVec 32 := Scalar.select v42 c1_i32_21 c3_i32_19
  let v44 : BitVec 32 := Scalar.remsi arg8 v43
  let c0_i32_23 : BitVec 32 := 0#32
  let v46 : BitVec 1 := Scalar.cmpi .slt v44 c0_i32_23
  let c0_i32_24 : BitVec 32 := 0#32
  let v47 : BitVec 1 := Scalar.cmpi .slt v43 c0_i32_24
  let v48 : BitVec 1 := Scalar.xori v46 v47
  let c0_i32_22 : BitVec 32 := 0#32
  let v45 : BitVec 1 := Scalar.cmpi .ne v44 c0_i32_22
  let v49 : BitVec 1 := Scalar.andi v48 v45
  let v50 : BitVec 32 := Scalar.addi v44 v43
  let v51 : BitVec 32 := Scalar.select v49 v50 v44
  let c256_i32 : BitVec 32 := 256#32
  let v52 : BitVec 32 := Scalar.muli v51 c256_i32
  let v53 : BitVec 32 := v52
  let v88 : BitVec 32 := Scalar.addi v53 c0_i32_35
  let v89 : BitVec 32 := v88
  let v91 : Index := Scalar.indexCast v89
  ![v90.toNat, 0, v91.toNat]
def k0_mult80 (k0_t2 : Fin k0_t2_loop.trips) : BitVec 32 :=
  let c0_i32_10 : BitVec 32 := 0#32
  let c1_i32_11 : BitVec 32 := 1#32
  let arg8 : BitVec 32 := Scf.iv c0_i32_10 c1_i32_11 k0_t2
  let c0_i32_13 : BitVec 32 := 0#32
  let v26 : BitVec 1 := Scalar.cmpi .sgt arg8 c0_i32_13
  let v27 : BitVec 32 := Scalar.extui v26
  let c0_i32_14 : BitVec 32 := 0#32
  let v28 : BitVec 1 := Scalar.cmpi .slt arg8 c0_i32_14
  let v29 : BitVec 32 := Scalar.extui v28
  let v30 : BitVec 32 := Scalar.subi v27 v29
  let c3_i32 : BitVec 32 := 3#32
  let c0_i32_15 : BitVec 32 := 0#32
  let v31 : BitVec 1 := Scalar.cmpi .sgt c3_i32 c0_i32_15
  let v32 : BitVec 32 := Scalar.extui v31
  let c0_i32_16 : BitVec 32 := 0#32
  let v33 : BitVec 1 := Scalar.cmpi .slt c3_i32 c0_i32_16
  let v34 : BitVec 32 := Scalar.extui v33
  let v35 : BitVec 32 := Scalar.subi v32 v34
  let v36 : BitVec 1 := Scalar.cmpi .ne v30 v35
  let v37 : BitVec 32 := Scalar.remsi arg8 c3_i32
  let c0_i32_17 : BitVec 32 := 0#32
  let v38 : BitVec 1 := Scalar.cmpi .ne v37 c0_i32_17
  let v39 : BitVec 1 := Scalar.andi v36 v38
  let v25 : BitVec 32 := Scalar.divsi arg8 c3_i32
  let c1_i32_18 : BitVec 32 := 1#32
  let v40 : BitVec 32 := Scalar.subi v25 c1_i32_18
  let v41 : BitVec 32 := Scalar.select v39 v40 v25
  let c128_i32 : BitVec 32 := 128#32
  let v112 : BitVec 32 := Scalar.muli v41 c128_i32
  v112
def k0_mult81 (k0_t2 : Fin k0_t2_loop.trips) : BitVec 32 :=
  let c0_i32_10 : BitVec 32 := 0#32
  let c1_i32_11 : BitVec 32 := 1#32
  let arg8 : BitVec 32 := Scf.iv c0_i32_10 c1_i32_11 k0_t2
  let c3_i32_19 : BitVec 32 := 3#32
  let c0_i32_20 : BitVec 32 := 0#32
  let v42 : BitVec 1 := Scalar.cmpi .eq c3_i32_19 c0_i32_20
  let c1_i32_21 : BitVec 32 := 1#32
  let v43 : BitVec 32 := Scalar.select v42 c1_i32_21 c3_i32_19
  let v44 : BitVec 32 := Scalar.remsi arg8 v43
  let c0_i32_23 : BitVec 32 := 0#32
  let v46 : BitVec 1 := Scalar.cmpi .slt v44 c0_i32_23
  let c0_i32_24 : BitVec 32 := 0#32
  let v47 : BitVec 1 := Scalar.cmpi .slt v43 c0_i32_24
  let v48 : BitVec 1 := Scalar.xori v46 v47
  let c0_i32_22 : BitVec 32 := 0#32
  let v45 : BitVec 1 := Scalar.cmpi .ne v44 c0_i32_22
  let v49 : BitVec 1 := Scalar.andi v48 v45
  let v50 : BitVec 32 := Scalar.addi v44 v43
  let v51 : BitVec 32 := Scalar.select v49 v50 v44
  let c256_i32 : BitVec 32 := 256#32
  let v52 : BitVec 32 := Scalar.muli v51 c256_i32
  let v53 : BitVec 32 := v52
  let c0_i32_49 : BitVec 32 := 0#32
  let v115 : BitVec 32 := Scalar.addi v53 c0_i32_49
  v115
def k0_off6 (i : grid0.Coords) (k0_t2 : Fin k0_t2_loop.trips) (c0_i32_48 : BitVec 32) (c0_i32_49 : BitVec 32) : Fin 3 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v117 : Index := Scalar.indexCast v9
  let c0_i32_10 : BitVec 32 := 0#32
  let c1_i32_11 : BitVec 32 := 1#32
  let arg8 : BitVec 32 := Scf.iv c0_i32_10 c1_i32_11 k0_t2
  let c0_i32_13 : BitVec 32 := 0#32
  let v26 : BitVec 1 := Scalar.cmpi .sgt arg8 c0_i32_13
  let v27 : BitVec 32 := Scalar.extui v26
  let c0_i32_14 : BitVec 32 := 0#32
  let v28 : BitVec 1 := Scalar.cmpi .slt arg8 c0_i32_14
  let v29 : BitVec 32 := Scalar.extui v28
  let v30 : BitVec 32 := Scalar.subi v27 v29
  let c3_i32 : BitVec 32 := 3#32
  let c0_i32_15 : BitVec 32 := 0#32
  let v31 : BitVec 1 := Scalar.cmpi .sgt c3_i32 c0_i32_15
  let v32 : BitVec 32 := Scalar.extui v31
  let c0_i32_16 : BitVec 32 := 0#32
  let v33 : BitVec 1 := Scalar.cmpi .slt c3_i32 c0_i32_16
  let v34 : BitVec 32 := Scalar.extui v33
  let v35 : BitVec 32 := Scalar.subi v32 v34
  let v36 : BitVec 1 := Scalar.cmpi .ne v30 v35
  let v37 : BitVec 32 := Scalar.remsi arg8 c3_i32
  let c0_i32_17 : BitVec 32 := 0#32
  let v38 : BitVec 1 := Scalar.cmpi .ne v37 c0_i32_17
  let v39 : BitVec 1 := Scalar.andi v36 v38
  let v25 : BitVec 32 := Scalar.divsi arg8 c3_i32
  let c1_i32_18 : BitVec 32 := 1#32
  let v40 : BitVec 32 := Scalar.subi v25 c1_i32_18
  let v41 : BitVec 32 := Scalar.select v39 v40 v25
  let c128_i32 : BitVec 32 := 128#32
  let v112 : BitVec 32 := Scalar.muli v41 c128_i32
  let v113 : BitVec 32 := v112
  let v114 : BitVec 32 := Scalar.addi v113 c0_i32_48
  let v118 : Index := Scalar.indexCast v114
  let c3_i32_19 : BitVec 32 := 3#32
  let c0_i32_20 : BitVec 32 := 0#32
  let v42 : BitVec 1 := Scalar.cmpi .eq c3_i32_19 c0_i32_20
  let c1_i32_21 : BitVec 32 := 1#32
  let v43 : BitVec 32 := Scalar.select v42 c1_i32_21 c3_i32_19
  let v44 : BitVec 32 := Scalar.remsi arg8 v43
  let c0_i32_23 : BitVec 32 := 0#32
  let v46 : BitVec 1 := Scalar.cmpi .slt v44 c0_i32_23
  let c0_i32_24 : BitVec 32 := 0#32
  let v47 : BitVec 1 := Scalar.cmpi .slt v43 c0_i32_24
  let v48 : BitVec 1 := Scalar.xori v46 v47
  let c0_i32_22 : BitVec 32 := 0#32
  let v45 : BitVec 1 := Scalar.cmpi .ne v44 c0_i32_22
  let v49 : BitVec 1 := Scalar.andi v48 v45
  let v50 : BitVec 32 := Scalar.addi v44 v43
  let v51 : BitVec 32 := Scalar.select v49 v50 v44
  let c256_i32 : BitVec 32 := 256#32
  let v52 : BitVec 32 := Scalar.muli v51 c256_i32
  let v53 : BitVec 32 := v52
  let v115 : BitVec 32 := Scalar.addi v53 c0_i32_49
  let v116 : BitVec 32 := v115
  let v119 : Index := Scalar.indexCast v116
  ![v117.toNat, v118.toNat, v119.toNat]
def k0_mult82 (k0_t2 : Fin k0_t2_loop.trips) : BitVec 32 :=
  let c0_i32_10 : BitVec 32 := 0#32
  let c1_i32_11 : BitVec 32 := 1#32
  let arg8 : BitVec 32 := Scf.iv c0_i32_10 c1_i32_11 k0_t2
  let c0_i32_13 : BitVec 32 := 0#32
  let v26 : BitVec 1 := Scalar.cmpi .sgt arg8 c0_i32_13
  let v27 : BitVec 32 := Scalar.extui v26
  let c0_i32_14 : BitVec 32 := 0#32
  let v28 : BitVec 1 := Scalar.cmpi .slt arg8 c0_i32_14
  let v29 : BitVec 32 := Scalar.extui v28
  let v30 : BitVec 32 := Scalar.subi v27 v29
  let c3_i32 : BitVec 32 := 3#32
  let c0_i32_15 : BitVec 32 := 0#32
  let v31 : BitVec 1 := Scalar.cmpi .sgt c3_i32 c0_i32_15
  let v32 : BitVec 32 := Scalar.extui v31
  let c0_i32_16 : BitVec 32 := 0#32
  let v33 : BitVec 1 := Scalar.cmpi .slt c3_i32 c0_i32_16
  let v34 : BitVec 32 := Scalar.extui v33
  let v35 : BitVec 32 := Scalar.subi v32 v34
  let v36 : BitVec 1 := Scalar.cmpi .ne v30 v35
  let v37 : BitVec 32 := Scalar.remsi arg8 c3_i32
  let c0_i32_17 : BitVec 32 := 0#32
  let v38 : BitVec 1 := Scalar.cmpi .ne v37 c0_i32_17
  let v39 : BitVec 1 := Scalar.andi v36 v38
  let v25 : BitVec 32 := Scalar.divsi arg8 c3_i32
  let c1_i32_18 : BitVec 32 := 1#32
  let v40 : BitVec 32 := Scalar.subi v25 c1_i32_18
  let v41 : BitVec 32 := Scalar.select v39 v40 v25
  let c128_i32_50 : BitVec 32 := 128#32
  let v127 : BitVec 32 := Scalar.muli v41 c128_i32_50
  v127
def k0_mult83 (k0_t2 : Fin k0_t2_loop.trips) : BitVec 32 :=
  let c0_i32_10 : BitVec 32 := 0#32
  let c1_i32_11 : BitVec 32 := 1#32
  let arg8 : BitVec 32 := Scf.iv c0_i32_10 c1_i32_11 k0_t2
  let c3_i32_19 : BitVec 32 := 3#32
  let c0_i32_20 : BitVec 32 := 0#32
  let v42 : BitVec 1 := Scalar.cmpi .eq c3_i32_19 c0_i32_20
  let c1_i32_21 : BitVec 32 := 1#32
  let v43 : BitVec 32 := Scalar.select v42 c1_i32_21 c3_i32_19
  let v44 : BitVec 32 := Scalar.remsi arg8 v43
  let c0_i32_23 : BitVec 32 := 0#32
  let v46 : BitVec 1 := Scalar.cmpi .slt v44 c0_i32_23
  let c0_i32_24 : BitVec 32 := 0#32
  let v47 : BitVec 1 := Scalar.cmpi .slt v43 c0_i32_24
  let v48 : BitVec 1 := Scalar.xori v46 v47
  let c0_i32_22 : BitVec 32 := 0#32
  let v45 : BitVec 1 := Scalar.cmpi .ne v44 c0_i32_22
  let v49 : BitVec 1 := Scalar.andi v48 v45
  let v50 : BitVec 32 := Scalar.addi v44 v43
  let v51 : BitVec 32 := Scalar.select v49 v50 v44
  let c256_i32 : BitVec 32 := 256#32
  let v52 : BitVec 32 := Scalar.muli v51 c256_i32
  let v53 : BitVec 32 := v52
  let c0_i32_52 : BitVec 32 := 0#32
  let v130 : BitVec 32 := Scalar.addi v53 c0_i32_52
  v130
def k0_mult84 (k0_t2 : Fin k0_t2_loop.trips) : BitVec 32 :=
  let c0_i32_10 : BitVec 32 := 0#32
  let c1_i32_11 : BitVec 32 := 1#32
  let arg8 : BitVec 32 := Scf.iv c0_i32_10 c1_i32_11 k0_t2
  let c0_i32_13 : BitVec 32 := 0#32
  let v26 : BitVec 1 := Scalar.cmpi .sgt arg8 c0_i32_13
  let v27 : BitVec 32 := Scalar.extui v26
  let c0_i32_14 : BitVec 32 := 0#32
  let v28 : BitVec 1 := Scalar.cmpi .slt arg8 c0_i32_14
  let v29 : BitVec 32 := Scalar.extui v28
  let v30 : BitVec 32 := Scalar.subi v27 v29
  let c3_i32 : BitVec 32 := 3#32
  let c0_i32_15 : BitVec 32 := 0#32
  let v31 : BitVec 1 := Scalar.cmpi .sgt c3_i32 c0_i32_15
  let v32 : BitVec 32 := Scalar.extui v31
  let c0_i32_16 : BitVec 32 := 0#32
  let v33 : BitVec 1 := Scalar.cmpi .slt c3_i32 c0_i32_16
  let v34 : BitVec 32 := Scalar.extui v33
  let v35 : BitVec 32 := Scalar.subi v32 v34
  let v36 : BitVec 1 := Scalar.cmpi .ne v30 v35
  let v37 : BitVec 32 := Scalar.remsi arg8 c3_i32
  let c0_i32_17 : BitVec 32 := 0#32
  let v38 : BitVec 1 := Scalar.cmpi .ne v37 c0_i32_17
  let v39 : BitVec 1 := Scalar.andi v36 v38
  let v25 : BitVec 32 := Scalar.divsi arg8 c3_i32
  let c1_i32_18 : BitVec 32 := 1#32
  let v40 : BitVec 32 := Scalar.subi v25 c1_i32_18
  let v41 : BitVec 32 := Scalar.select v39 v40 v25
  let c128_i32_53 : BitVec 32 := 128#32
  let v142 : BitVec 32 := Scalar.muli v41 c128_i32_53
  v142
def k0_mult85 (k0_t2 : Fin k0_t2_loop.trips) : BitVec 32 :=
  let c0_i32_10 : BitVec 32 := 0#32
  let c1_i32_11 : BitVec 32 := 1#32
  let arg8 : BitVec 32 := Scf.iv c0_i32_10 c1_i32_11 k0_t2
  let c3_i32_19 : BitVec 32 := 3#32
  let c0_i32_20 : BitVec 32 := 0#32
  let v42 : BitVec 1 := Scalar.cmpi .eq c3_i32_19 c0_i32_20
  let c1_i32_21 : BitVec 32 := 1#32
  let v43 : BitVec 32 := Scalar.select v42 c1_i32_21 c3_i32_19
  let v44 : BitVec 32 := Scalar.remsi arg8 v43
  let c0_i32_23 : BitVec 32 := 0#32
  let v46 : BitVec 1 := Scalar.cmpi .slt v44 c0_i32_23
  let c0_i32_24 : BitVec 32 := 0#32
  let v47 : BitVec 1 := Scalar.cmpi .slt v43 c0_i32_24
  let v48 : BitVec 1 := Scalar.xori v46 v47
  let c0_i32_22 : BitVec 32 := 0#32
  let v45 : BitVec 1 := Scalar.cmpi .ne v44 c0_i32_22
  let v49 : BitVec 1 := Scalar.andi v48 v45
  let v50 : BitVec 32 := Scalar.addi v44 v43
  let v51 : BitVec 32 := Scalar.select v49 v50 v44
  let c256_i32 : BitVec 32 := 256#32
  let v52 : BitVec 32 := Scalar.muli v51 c256_i32
  let v53 : BitVec 32 := v52
  let c0_i32_54 : BitVec 32 := 0#32
  let v145 : BitVec 32 := Scalar.addi v53 c0_i32_54
  v145
def k0_mult86 (k0_t2 : Fin k0_t2_loop.trips) : BitVec 32 :=
  let c0_i32_10 : BitVec 32 := 0#32
  let c1_i32_11 : BitVec 32 := 1#32
  let arg8 : BitVec 32 := Scf.iv c0_i32_10 c1_i32_11 k0_t2
  let c0_i32_13 : BitVec 32 := 0#32
  let v26 : BitVec 1 := Scalar.cmpi .sgt arg8 c0_i32_13
  let v27 : BitVec 32 := Scalar.extui v26
  let c0_i32_14 : BitVec 32 := 0#32
  let v28 : BitVec 1 := Scalar.cmpi .slt arg8 c0_i32_14
  let v29 : BitVec 32 := Scalar.extui v28
  let v30 : BitVec 32 := Scalar.subi v27 v29
  let c3_i32 : BitVec 32 := 3#32
  let c0_i32_15 : BitVec 32 := 0#32
  let v31 : BitVec 1 := Scalar.cmpi .sgt c3_i32 c0_i32_15
  let v32 : BitVec 32 := Scalar.extui v31
  let c0_i32_16 : BitVec 32 := 0#32
  let v33 : BitVec 1 := Scalar.cmpi .slt c3_i32 c0_i32_16
  let v34 : BitVec 32 := Scalar.extui v33
  let v35 : BitVec 32 := Scalar.subi v32 v34
  let v36 : BitVec 1 := Scalar.cmpi .ne v30 v35
  let v37 : BitVec 32 := Scalar.remsi arg8 c3_i32
  let c0_i32_17 : BitVec 32 := 0#32
  let v38 : BitVec 1 := Scalar.cmpi .ne v37 c0_i32_17
  let v39 : BitVec 1 := Scalar.andi v36 v38
  let v25 : BitVec 32 := Scalar.divsi arg8 c3_i32
  let c1_i32_18 : BitVec 32 := 1#32
  let v40 : BitVec 32 := Scalar.subi v25 c1_i32_18
  let v41 : BitVec 32 := Scalar.select v39 v40 v25
  let c128_i32_55 : BitVec 32 := 128#32
  let v157 : BitVec 32 := Scalar.muli v41 c128_i32_55
  v157
def k0_mult87 (k0_t2 : Fin k0_t2_loop.trips) : BitVec 32 :=
  let c0_i32_10 : BitVec 32 := 0#32
  let c1_i32_11 : BitVec 32 := 1#32
  let arg8 : BitVec 32 := Scf.iv c0_i32_10 c1_i32_11 k0_t2
  let c3_i32_19 : BitVec 32 := 3#32
  let c0_i32_20 : BitVec 32 := 0#32
  let v42 : BitVec 1 := Scalar.cmpi .eq c3_i32_19 c0_i32_20
  let c1_i32_21 : BitVec 32 := 1#32
  let v43 : BitVec 32 := Scalar.select v42 c1_i32_21 c3_i32_19
  let v44 : BitVec 32 := Scalar.remsi arg8 v43
  let c0_i32_23 : BitVec 32 := 0#32
  let v46 : BitVec 1 := Scalar.cmpi .slt v44 c0_i32_23
  let c0_i32_24 : BitVec 32 := 0#32
  let v47 : BitVec 1 := Scalar.cmpi .slt v43 c0_i32_24
  let v48 : BitVec 1 := Scalar.xori v46 v47
  let c0_i32_22 : BitVec 32 := 0#32
  let v45 : BitVec 1 := Scalar.cmpi .ne v44 c0_i32_22
  let v49 : BitVec 1 := Scalar.andi v48 v45
  let v50 : BitVec 32 := Scalar.addi v44 v43
  let v51 : BitVec 32 := Scalar.select v49 v50 v44
  let c256_i32 : BitVec 32 := 256#32
  let v52 : BitVec 32 := Scalar.muli v51 c256_i32
  let v53 : BitVec 32 := v52
  let c0_i32_56 : BitVec 32 := 0#32
  let v160 : BitVec 32 := Scalar.addi v53 c0_i32_56
  v160
def k0_mult88 (k0_t2 : Fin k0_t2_loop.trips) : BitVec 32 :=
  let c0_i32_10 : BitVec 32 := 0#32
  let c1_i32_11 : BitVec 32 := 1#32
  let arg8 : BitVec 32 := Scf.iv c0_i32_10 c1_i32_11 k0_t2
  let c0_i32_13 : BitVec 32 := 0#32
  let v26 : BitVec 1 := Scalar.cmpi .sgt arg8 c0_i32_13
  let v27 : BitVec 32 := Scalar.extui v26
  let c0_i32_14 : BitVec 32 := 0#32
  let v28 : BitVec 1 := Scalar.cmpi .slt arg8 c0_i32_14
  let v29 : BitVec 32 := Scalar.extui v28
  let v30 : BitVec 32 := Scalar.subi v27 v29
  let c3_i32 : BitVec 32 := 3#32
  let c0_i32_15 : BitVec 32 := 0#32
  let v31 : BitVec 1 := Scalar.cmpi .sgt c3_i32 c0_i32_15
  let v32 : BitVec 32 := Scalar.extui v31
  let c0_i32_16 : BitVec 32 := 0#32
  let v33 : BitVec 1 := Scalar.cmpi .slt c3_i32 c0_i32_16
  let v34 : BitVec 32 := Scalar.extui v33
  let v35 : BitVec 32 := Scalar.subi v32 v34
  let v36 : BitVec 1 := Scalar.cmpi .ne v30 v35
  let v37 : BitVec 32 := Scalar.remsi arg8 c3_i32
  let c0_i32_17 : BitVec 32 := 0#32
  let v38 : BitVec 1 := Scalar.cmpi .ne v37 c0_i32_17
  let v39 : BitVec 1 := Scalar.andi v36 v38
  let v25 : BitVec 32 := Scalar.divsi arg8 c3_i32
  let c1_i32_18 : BitVec 32 := 1#32
  let v40 : BitVec 32 := Scalar.subi v25 c1_i32_18
  let v41 : BitVec 32 := Scalar.select v39 v40 v25
  let c64_i32_57 : BitVec 32 := 64#32
  let v168 : BitVec 32 := Scalar.muli v41 c64_i32_57
  v168
def k0_mult89 (k0_t2 : Fin k0_t2_loop.trips) : BitVec 32 :=
  let c0_i32_10 : BitVec 32 := 0#32
  let c1_i32_11 : BitVec 32 := 1#32
  let arg8 : BitVec 32 := Scf.iv c0_i32_10 c1_i32_11 k0_t2
  let c3_i32_19 : BitVec 32 := 3#32
  let c0_i32_20 : BitVec 32 := 0#32
  let v42 : BitVec 1 := Scalar.cmpi .eq c3_i32_19 c0_i32_20
  let c1_i32_21 : BitVec 32 := 1#32
  let v43 : BitVec 32 := Scalar.select v42 c1_i32_21 c3_i32_19
  let v44 : BitVec 32 := Scalar.remsi arg8 v43
  let c0_i32_23 : BitVec 32 := 0#32
  let v46 : BitVec 1 := Scalar.cmpi .slt v44 c0_i32_23
  let c0_i32_24 : BitVec 32 := 0#32
  let v47 : BitVec 1 := Scalar.cmpi .slt v43 c0_i32_24
  let v48 : BitVec 1 := Scalar.xori v46 v47
  let c0_i32_22 : BitVec 32 := 0#32
  let v45 : BitVec 1 := Scalar.cmpi .ne v44 c0_i32_22
  let v49 : BitVec 1 := Scalar.andi v48 v45
  let v50 : BitVec 32 := Scalar.addi v44 v43
  let v51 : BitVec 32 := Scalar.select v49 v50 v44
  let c256_i32 : BitVec 32 := 256#32
  let v52 : BitVec 32 := Scalar.muli v51 c256_i32
  let v53 : BitVec 32 := v52
  let c0_i32_59 : BitVec 32 := 0#32
  let v171 : BitVec 32 := Scalar.addi v53 c0_i32_59
  v171
def k0_mult90 (k0_t2 : Fin k0_t2_loop.trips) : BitVec 32 :=
  let c0_i32_10 : BitVec 32 := 0#32
  let c1_i32_11 : BitVec 32 := 1#32
  let arg8 : BitVec 32 := Scf.iv c0_i32_10 c1_i32_11 k0_t2
  let c0_i32_13 : BitVec 32 := 0#32
  let v26 : BitVec 1 := Scalar.cmpi .sgt arg8 c0_i32_13
  let v27 : BitVec 32 := Scalar.extui v26
  let c0_i32_14 : BitVec 32 := 0#32
  let v28 : BitVec 1 := Scalar.cmpi .slt arg8 c0_i32_14
  let v29 : BitVec 32 := Scalar.extui v28
  let v30 : BitVec 32 := Scalar.subi v27 v29
  let c3_i32 : BitVec 32 := 3#32
  let c0_i32_15 : BitVec 32 := 0#32
  let v31 : BitVec 1 := Scalar.cmpi .sgt c3_i32 c0_i32_15
  let v32 : BitVec 32 := Scalar.extui v31
  let c0_i32_16 : BitVec 32 := 0#32
  let v33 : BitVec 1 := Scalar.cmpi .slt c3_i32 c0_i32_16
  let v34 : BitVec 32 := Scalar.extui v33
  let v35 : BitVec 32 := Scalar.subi v32 v34
  let v36 : BitVec 1 := Scalar.cmpi .ne v30 v35
  let v37 : BitVec 32 := Scalar.remsi arg8 c3_i32
  let c0_i32_17 : BitVec 32 := 0#32
  let v38 : BitVec 1 := Scalar.cmpi .ne v37 c0_i32_17
  let v39 : BitVec 1 := Scalar.andi v36 v38
  let v25 : BitVec 32 := Scalar.divsi arg8 c3_i32
  let c1_i32_18 : BitVec 32 := 1#32
  let v40 : BitVec 32 := Scalar.subi v25 c1_i32_18
  let v41 : BitVec 32 := Scalar.select v39 v40 v25
  let c64_i32_60 : BitVec 32 := 64#32
  let v176 : BitVec 32 := Scalar.muli v41 c64_i32_60
  v176
def k0_mult91 (k0_t2 : Fin k0_t2_loop.trips) : BitVec 32 :=
  let c0_i32_10 : BitVec 32 := 0#32
  let c1_i32_11 : BitVec 32 := 1#32
  let arg8 : BitVec 32 := Scf.iv c0_i32_10 c1_i32_11 k0_t2
  let c3_i32_19 : BitVec 32 := 3#32
  let c0_i32_20 : BitVec 32 := 0#32
  let v42 : BitVec 1 := Scalar.cmpi .eq c3_i32_19 c0_i32_20
  let c1_i32_21 : BitVec 32 := 1#32
  let v43 : BitVec 32 := Scalar.select v42 c1_i32_21 c3_i32_19
  let v44 : BitVec 32 := Scalar.remsi arg8 v43
  let c0_i32_23 : BitVec 32 := 0#32
  let v46 : BitVec 1 := Scalar.cmpi .slt v44 c0_i32_23
  let c0_i32_24 : BitVec 32 := 0#32
  let v47 : BitVec 1 := Scalar.cmpi .slt v43 c0_i32_24
  let v48 : BitVec 1 := Scalar.xori v46 v47
  let c0_i32_22 : BitVec 32 := 0#32
  let v45 : BitVec 1 := Scalar.cmpi .ne v44 c0_i32_22
  let v49 : BitVec 1 := Scalar.andi v48 v45
  let v50 : BitVec 32 := Scalar.addi v44 v43
  let v51 : BitVec 32 := Scalar.select v49 v50 v44
  let c256_i32 : BitVec 32 := 256#32
  let v52 : BitVec 32 := Scalar.muli v51 c256_i32
  let v53 : BitVec 32 := v52
  let c0_i32_61 : BitVec 32 := 0#32
  let v179 : BitVec 32 := Scalar.addi v53 c0_i32_61
  v179
def k0_mult92 (k0_t2 : Fin k0_t2_loop.trips) : BitVec 32 :=
  let c0_i32_10 : BitVec 32 := 0#32
  let c1_i32_11 : BitVec 32 := 1#32
  let arg8 : BitVec 32 := Scf.iv c0_i32_10 c1_i32_11 k0_t2
  let c0_i32_13 : BitVec 32 := 0#32
  let v26 : BitVec 1 := Scalar.cmpi .sgt arg8 c0_i32_13
  let v27 : BitVec 32 := Scalar.extui v26
  let c0_i32_14 : BitVec 32 := 0#32
  let v28 : BitVec 1 := Scalar.cmpi .slt arg8 c0_i32_14
  let v29 : BitVec 32 := Scalar.extui v28
  let v30 : BitVec 32 := Scalar.subi v27 v29
  let c3_i32 : BitVec 32 := 3#32
  let c0_i32_15 : BitVec 32 := 0#32
  let v31 : BitVec 1 := Scalar.cmpi .sgt c3_i32 c0_i32_15
  let v32 : BitVec 32 := Scalar.extui v31
  let c0_i32_16 : BitVec 32 := 0#32
  let v33 : BitVec 1 := Scalar.cmpi .slt c3_i32 c0_i32_16
  let v34 : BitVec 32 := Scalar.extui v33
  let v35 : BitVec 32 := Scalar.subi v32 v34
  let v36 : BitVec 1 := Scalar.cmpi .ne v30 v35
  let v37 : BitVec 32 := Scalar.remsi arg8 c3_i32
  let c0_i32_17 : BitVec 32 := 0#32
  let v38 : BitVec 1 := Scalar.cmpi .ne v37 c0_i32_17
  let v39 : BitVec 1 := Scalar.andi v36 v38
  let v25 : BitVec 32 := Scalar.divsi arg8 c3_i32
  let c1_i32_18 : BitVec 32 := 1#32
  let v40 : BitVec 32 := Scalar.subi v25 c1_i32_18
  let v41 : BitVec 32 := Scalar.select v39 v40 v25
  let c64_i32_62 : BitVec 32 := 64#32
  let v184 : BitVec 32 := Scalar.muli v41 c64_i32_62
  v184
def k0_mult93 (k0_t2 : Fin k0_t2_loop.trips) : BitVec 32 :=
  let c0_i32_10 : BitVec 32 := 0#32
  let c1_i32_11 : BitVec 32 := 1#32
  let arg8 : BitVec 32 := Scf.iv c0_i32_10 c1_i32_11 k0_t2
  let c3_i32_19 : BitVec 32 := 3#32
  let c0_i32_20 : BitVec 32 := 0#32
  let v42 : BitVec 1 := Scalar.cmpi .eq c3_i32_19 c0_i32_20
  let c1_i32_21 : BitVec 32 := 1#32
  let v43 : BitVec 32 := Scalar.select v42 c1_i32_21 c3_i32_19
  let v44 : BitVec 32 := Scalar.remsi arg8 v43
  let c0_i32_23 : BitVec 32 := 0#32
  let v46 : BitVec 1 := Scalar.cmpi .slt v44 c0_i32_23
  let c0_i32_24 : BitVec 32 := 0#32
  let v47 : BitVec 1 := Scalar.cmpi .slt v43 c0_i32_24
  let v48 : BitVec 1 := Scalar.xori v46 v47
  let c0_i32_22 : BitVec 32 := 0#32
  let v45 : BitVec 1 := Scalar.cmpi .ne v44 c0_i32_22
  let v49 : BitVec 1 := Scalar.andi v48 v45
  let v50 : BitVec 32 := Scalar.addi v44 v43
  let v51 : BitVec 32 := Scalar.select v49 v50 v44
  let c256_i32 : BitVec 32 := 256#32
  let v52 : BitVec 32 := Scalar.muli v51 c256_i32
  let v53 : BitVec 32 := v52
  let c0_i32_64 : BitVec 32 := 0#32
  let v187 : BitVec 32 := Scalar.addi v53 c0_i32_64
  v187
def k0_mult94 (k0_t2 : Fin k0_t2_loop.trips) : BitVec 32 :=
  let c0_i32_10 : BitVec 32 := 0#32
  let c1_i32_11 : BitVec 32 := 1#32
  let arg8 : BitVec 32 := Scf.iv c0_i32_10 c1_i32_11 k0_t2
  let c0_i32_13 : BitVec 32 := 0#32
  let v26 : BitVec 1 := Scalar.cmpi .sgt arg8 c0_i32_13
  let v27 : BitVec 32 := Scalar.extui v26
  let c0_i32_14 : BitVec 32 := 0#32
  let v28 : BitVec 1 := Scalar.cmpi .slt arg8 c0_i32_14
  let v29 : BitVec 32 := Scalar.extui v28
  let v30 : BitVec 32 := Scalar.subi v27 v29
  let c3_i32 : BitVec 32 := 3#32
  let c0_i32_15 : BitVec 32 := 0#32
  let v31 : BitVec 1 := Scalar.cmpi .sgt c3_i32 c0_i32_15
  let v32 : BitVec 32 := Scalar.extui v31
  let c0_i32_16 : BitVec 32 := 0#32
  let v33 : BitVec 1 := Scalar.cmpi .slt c3_i32 c0_i32_16
  let v34 : BitVec 32 := Scalar.extui v33
  let v35 : BitVec 32 := Scalar.subi v32 v34
  let v36 : BitVec 1 := Scalar.cmpi .ne v30 v35
  let v37 : BitVec 32 := Scalar.remsi arg8 c3_i32
  let c0_i32_17 : BitVec 32 := 0#32
  let v38 : BitVec 1 := Scalar.cmpi .ne v37 c0_i32_17
  let v39 : BitVec 1 := Scalar.andi v36 v38
  let v25 : BitVec 32 := Scalar.divsi arg8 c3_i32
  let c1_i32_18 : BitVec 32 := 1#32
  let v40 : BitVec 32 := Scalar.subi v25 c1_i32_18
  let v41 : BitVec 32 := Scalar.select v39 v40 v25
  let c64_i32_65 : BitVec 32 := 64#32
  let v192 : BitVec 32 := Scalar.muli v41 c64_i32_65
  v192
def k0_mult95 (k0_t2 : Fin k0_t2_loop.trips) : BitVec 32 :=
  let c0_i32_10 : BitVec 32 := 0#32
  let c1_i32_11 : BitVec 32 := 1#32
  let arg8 : BitVec 32 := Scf.iv c0_i32_10 c1_i32_11 k0_t2
  let c3_i32_19 : BitVec 32 := 3#32
  let c0_i32_20 : BitVec 32 := 0#32
  let v42 : BitVec 1 := Scalar.cmpi .eq c3_i32_19 c0_i32_20
  let c1_i32_21 : BitVec 32 := 1#32
  let v43 : BitVec 32 := Scalar.select v42 c1_i32_21 c3_i32_19
  let v44 : BitVec 32 := Scalar.remsi arg8 v43
  let c0_i32_23 : BitVec 32 := 0#32
  let v46 : BitVec 1 := Scalar.cmpi .slt v44 c0_i32_23
  let c0_i32_24 : BitVec 32 := 0#32
  let v47 : BitVec 1 := Scalar.cmpi .slt v43 c0_i32_24
  let v48 : BitVec 1 := Scalar.xori v46 v47
  let c0_i32_22 : BitVec 32 := 0#32
  let v45 : BitVec 1 := Scalar.cmpi .ne v44 c0_i32_22
  let v49 : BitVec 1 := Scalar.andi v48 v45
  let v50 : BitVec 32 := Scalar.addi v44 v43
  let v51 : BitVec 32 := Scalar.select v49 v50 v44
  let c256_i32 : BitVec 32 := 256#32
  let v52 : BitVec 32 := Scalar.muli v51 c256_i32
  let v53 : BitVec 32 := v52
  let c0_i32_66 : BitVec 32 := 0#32
  let v195 : BitVec 32 := Scalar.addi v53 c0_i32_66
  v195
def k0_mult96 (k0_t2 : Fin k0_t2_loop.trips) : BitVec 32 :=
  let c0_i32_10 : BitVec 32 := 0#32
  let c1_i32_11 : BitVec 32 := 1#32
  let arg8 : BitVec 32 := Scf.iv c0_i32_10 c1_i32_11 k0_t2
  let c3_i32_19 : BitVec 32 := 3#32
  let c0_i32_20 : BitVec 32 := 0#32
  let v42 : BitVec 1 := Scalar.cmpi .eq c3_i32_19 c0_i32_20
  let c1_i32_21 : BitVec 32 := 1#32
  let v43 : BitVec 32 := Scalar.select v42 c1_i32_21 c3_i32_19
  let v44 : BitVec 32 := Scalar.remsi arg8 v43
  let c0_i32_23 : BitVec 32 := 0#32
  let v46 : BitVec 1 := Scalar.cmpi .slt v44 c0_i32_23
  let c0_i32_24 : BitVec 32 := 0#32
  let v47 : BitVec 1 := Scalar.cmpi .slt v43 c0_i32_24
  let v48 : BitVec 1 := Scalar.xori v46 v47
  let c0_i32_22 : BitVec 32 := 0#32
  let v45 : BitVec 1 := Scalar.cmpi .ne v44 c0_i32_22
  let v49 : BitVec 1 := Scalar.andi v48 v45
  let v50 : BitVec 32 := Scalar.addi v44 v43
  let v51 : BitVec 32 := Scalar.select v49 v50 v44
  let c256_i32 : BitVec 32 := 256#32
  let v52 : BitVec 32 := Scalar.muli v51 c256_i32
  let v53 : BitVec 32 := v52
  let c0_i32_69 : BitVec 32 := 0#32
  let v202 : BitVec 32 := Scalar.addi v53 c0_i32_69
  v202
def k0_mult97 (k0_t2 : Fin k0_t2_loop.trips) : BitVec 32 :=
  let c0_i32_10 : BitVec 32 := 0#32
  let c1_i32_11 : BitVec 32 := 1#32
  let arg8 : BitVec 32 := Scf.iv c0_i32_10 c1_i32_11 k0_t2
  let c0_i32_13 : BitVec 32 := 0#32
  let v26 : BitVec 1 := Scalar.cmpi .sgt arg8 c0_i32_13
  let v27 : BitVec 32 := Scalar.extui v26
  let c0_i32_14 : BitVec 32 := 0#32
  let v28 : BitVec 1 := Scalar.cmpi .slt arg8 c0_i32_14
  let v29 : BitVec 32 := Scalar.extui v28
  let v30 : BitVec 32 := Scalar.subi v27 v29
  let c3_i32 : BitVec 32 := 3#32
  let c0_i32_15 : BitVec 32 := 0#32
  let v31 : BitVec 1 := Scalar.cmpi .sgt c3_i32 c0_i32_15
  let v32 : BitVec 32 := Scalar.extui v31
  let c0_i32_16 : BitVec 32 := 0#32
  let v33 : BitVec 1 := Scalar.cmpi .slt c3_i32 c0_i32_16
  let v34 : BitVec 32 := Scalar.extui v33
  let v35 : BitVec 32 := Scalar.subi v32 v34
  let v36 : BitVec 1 := Scalar.cmpi .ne v30 v35
  let v37 : BitVec 32 := Scalar.remsi arg8 c3_i32
  let c0_i32_17 : BitVec 32 := 0#32
  let v38 : BitVec 1 := Scalar.cmpi .ne v37 c0_i32_17
  let v39 : BitVec 1 := Scalar.andi v36 v38
  let v25 : BitVec 32 := Scalar.divsi arg8 c3_i32
  let c1_i32_18 : BitVec 32 := 1#32
  let v40 : BitVec 32 := Scalar.subi v25 c1_i32_18
  let v41 : BitVec 32 := Scalar.select v39 v40 v25
  let c128_i32_84 : BitVec 32 := 128#32
  let v226 : BitVec 32 := Scalar.muli v41 c128_i32_84
  v226
def k0_mult98 (k0_t2 : Fin k0_t2_loop.trips) : BitVec 32 :=
  let c0_i32_10 : BitVec 32 := 0#32
  let c1_i32_11 : BitVec 32 := 1#32
  let arg8 : BitVec 32 := Scf.iv c0_i32_10 c1_i32_11 k0_t2
  let c3_i32_19 : BitVec 32 := 3#32
  let c0_i32_20 : BitVec 32 := 0#32
  let v42 : BitVec 1 := Scalar.cmpi .eq c3_i32_19 c0_i32_20
  let c1_i32_21 : BitVec 32 := 1#32
  let v43 : BitVec 32 := Scalar.select v42 c1_i32_21 c3_i32_19
  let v44 : BitVec 32 := Scalar.remsi arg8 v43
  let c0_i32_23 : BitVec 32 := 0#32
  let v46 : BitVec 1 := Scalar.cmpi .slt v44 c0_i32_23
  let c0_i32_24 : BitVec 32 := 0#32
  let v47 : BitVec 1 := Scalar.cmpi .slt v43 c0_i32_24
  let v48 : BitVec 1 := Scalar.xori v46 v47
  let c0_i32_22 : BitVec 32 := 0#32
  let v45 : BitVec 1 := Scalar.cmpi .ne v44 c0_i32_22
  let v49 : BitVec 1 := Scalar.andi v48 v45
  let v50 : BitVec 32 := Scalar.addi v44 v43
  let v51 : BitVec 32 := Scalar.select v49 v50 v44
  let c256_i32 : BitVec 32 := 256#32
  let v52 : BitVec 32 := Scalar.muli v51 c256_i32
  let v53 : BitVec 32 := v52
  let c0_i32_86 : BitVec 32 := 0#32
  let v229 : BitVec 32 := Scalar.addi v53 c0_i32_86
  v229
def k0_mult99 (k0_t2 : Fin k0_t2_loop.trips) : BitVec 32 :=
  let c0_i32_10 : BitVec 32 := 0#32
  let c1_i32_11 : BitVec 32 := 1#32
  let arg8 : BitVec 32 := Scf.iv c0_i32_10 c1_i32_11 k0_t2
  let c0_i32_13 : BitVec 32 := 0#32
  let v26 : BitVec 1 := Scalar.cmpi .sgt arg8 c0_i32_13
  let v27 : BitVec 32 := Scalar.extui v26
  let c0_i32_14 : BitVec 32 := 0#32
  let v28 : BitVec 1 := Scalar.cmpi .slt arg8 c0_i32_14
  let v29 : BitVec 32 := Scalar.extui v28
  let v30 : BitVec 32 := Scalar.subi v27 v29
  let c3_i32 : BitVec 32 := 3#32
  let c0_i32_15 : BitVec 32 := 0#32
  let v31 : BitVec 1 := Scalar.cmpi .sgt c3_i32 c0_i32_15
  let v32 : BitVec 32 := Scalar.extui v31
  let c0_i32_16 : BitVec 32 := 0#32
  let v33 : BitVec 1 := Scalar.cmpi .slt c3_i32 c0_i32_16
  let v34 : BitVec 32 := Scalar.extui v33
  let v35 : BitVec 32 := Scalar.subi v32 v34
  let v36 : BitVec 1 := Scalar.cmpi .ne v30 v35
  let v37 : BitVec 32 := Scalar.remsi arg8 c3_i32
  let c0_i32_17 : BitVec 32 := 0#32
  let v38 : BitVec 1 := Scalar.cmpi .ne v37 c0_i32_17
  let v39 : BitVec 1 := Scalar.andi v36 v38
  let v25 : BitVec 32 := Scalar.divsi arg8 c3_i32
  let c1_i32_18 : BitVec 32 := 1#32
  let v40 : BitVec 32 := Scalar.subi v25 c1_i32_18
  let v41 : BitVec 32 := Scalar.select v39 v40 v25
  let c128_i32_87 : BitVec 32 := 128#32
  let v241 : BitVec 32 := Scalar.muli v41 c128_i32_87
  v241
def k0_mult100 (k0_t2 : Fin k0_t2_loop.trips) : BitVec 32 :=
  let c0_i32_10 : BitVec 32 := 0#32
  let c1_i32_11 : BitVec 32 := 1#32
  let arg8 : BitVec 32 := Scf.iv c0_i32_10 c1_i32_11 k0_t2
  let c3_i32_19 : BitVec 32 := 3#32
  let c0_i32_20 : BitVec 32 := 0#32
  let v42 : BitVec 1 := Scalar.cmpi .eq c3_i32_19 c0_i32_20
  let c1_i32_21 : BitVec 32 := 1#32
  let v43 : BitVec 32 := Scalar.select v42 c1_i32_21 c3_i32_19
  let v44 : BitVec 32 := Scalar.remsi arg8 v43
  let c0_i32_23 : BitVec 32 := 0#32
  let v46 : BitVec 1 := Scalar.cmpi .slt v44 c0_i32_23
  let c0_i32_24 : BitVec 32 := 0#32
  let v47 : BitVec 1 := Scalar.cmpi .slt v43 c0_i32_24
  let v48 : BitVec 1 := Scalar.xori v46 v47
  let c0_i32_22 : BitVec 32 := 0#32
  let v45 : BitVec 1 := Scalar.cmpi .ne v44 c0_i32_22
  let v49 : BitVec 1 := Scalar.andi v48 v45
  let v50 : BitVec 32 := Scalar.addi v44 v43
  let v51 : BitVec 32 := Scalar.select v49 v50 v44
  let c256_i32 : BitVec 32 := 256#32
  let v52 : BitVec 32 := Scalar.muli v51 c256_i32
  let v53 : BitVec 32 := v52
  let c0_i32_88 : BitVec 32 := 0#32
  let v244 : BitVec 32 := Scalar.addi v53 c0_i32_88
  v244
def k0_mult101 (k0_t2 : Fin k0_t2_loop.trips) : BitVec 32 :=
  let c0_i32_10 : BitVec 32 := 0#32
  let c1_i32_11 : BitVec 32 := 1#32
  let arg8 : BitVec 32 := Scf.iv c0_i32_10 c1_i32_11 k0_t2
  let c0_i32_13 : BitVec 32 := 0#32
  let v26 : BitVec 1 := Scalar.cmpi .sgt arg8 c0_i32_13
  let v27 : BitVec 32 := Scalar.extui v26
  let c0_i32_14 : BitVec 32 := 0#32
  let v28 : BitVec 1 := Scalar.cmpi .slt arg8 c0_i32_14
  let v29 : BitVec 32 := Scalar.extui v28
  let v30 : BitVec 32 := Scalar.subi v27 v29
  let c3_i32 : BitVec 32 := 3#32
  let c0_i32_15 : BitVec 32 := 0#32
  let v31 : BitVec 1 := Scalar.cmpi .sgt c3_i32 c0_i32_15
  let v32 : BitVec 32 := Scalar.extui v31
  let c0_i32_16 : BitVec 32 := 0#32
  let v33 : BitVec 1 := Scalar.cmpi .slt c3_i32 c0_i32_16
  let v34 : BitVec 32 := Scalar.extui v33
  let v35 : BitVec 32 := Scalar.subi v32 v34
  let v36 : BitVec 1 := Scalar.cmpi .ne v30 v35
  let v37 : BitVec 32 := Scalar.remsi arg8 c3_i32
  let c0_i32_17 : BitVec 32 := 0#32
  let v38 : BitVec 1 := Scalar.cmpi .ne v37 c0_i32_17
  let v39 : BitVec 1 := Scalar.andi v36 v38
  let v25 : BitVec 32 := Scalar.divsi arg8 c3_i32
  let c1_i32_18 : BitVec 32 := 1#32
  let v40 : BitVec 32 := Scalar.subi v25 c1_i32_18
  let v41 : BitVec 32 := Scalar.select v39 v40 v25
  let c128_i32_89 : BitVec 32 := 128#32
  let v256 : BitVec 32 := Scalar.muli v41 c128_i32_89
  v256
def k0_mult102 (k0_t2 : Fin k0_t2_loop.trips) : BitVec 32 :=
  let c0_i32_10 : BitVec 32 := 0#32
  let c1_i32_11 : BitVec 32 := 1#32
  let arg8 : BitVec 32 := Scf.iv c0_i32_10 c1_i32_11 k0_t2
  let c3_i32_19 : BitVec 32 := 3#32
  let c0_i32_20 : BitVec 32 := 0#32
  let v42 : BitVec 1 := Scalar.cmpi .eq c3_i32_19 c0_i32_20
  let c1_i32_21 : BitVec 32 := 1#32
  let v43 : BitVec 32 := Scalar.select v42 c1_i32_21 c3_i32_19
  let v44 : BitVec 32 := Scalar.remsi arg8 v43
  let c0_i32_23 : BitVec 32 := 0#32
  let v46 : BitVec 1 := Scalar.cmpi .slt v44 c0_i32_23
  let c0_i32_24 : BitVec 32 := 0#32
  let v47 : BitVec 1 := Scalar.cmpi .slt v43 c0_i32_24
  let v48 : BitVec 1 := Scalar.xori v46 v47
  let c0_i32_22 : BitVec 32 := 0#32
  let v45 : BitVec 1 := Scalar.cmpi .ne v44 c0_i32_22
  let v49 : BitVec 1 := Scalar.andi v48 v45
  let v50 : BitVec 32 := Scalar.addi v44 v43
  let v51 : BitVec 32 := Scalar.select v49 v50 v44
  let c256_i32 : BitVec 32 := 256#32
  let v52 : BitVec 32 := Scalar.muli v51 c256_i32
  let v53 : BitVec 32 := v52
  let c0_i32_90 : BitVec 32 := 0#32
  let v259 : BitVec 32 := Scalar.addi v53 c0_i32_90
  v259
def k0_mult103 (k0_t2 : Fin k0_t2_loop.trips) : BitVec 32 :=
  let c0_i32_10 : BitVec 32 := 0#32
  let c1_i32_11 : BitVec 32 := 1#32
  let arg8 : BitVec 32 := Scf.iv c0_i32_10 c1_i32_11 k0_t2
  let c0_i32_13 : BitVec 32 := 0#32
  let v26 : BitVec 1 := Scalar.cmpi .sgt arg8 c0_i32_13
  let v27 : BitVec 32 := Scalar.extui v26
  let c0_i32_14 : BitVec 32 := 0#32
  let v28 : BitVec 1 := Scalar.cmpi .slt arg8 c0_i32_14
  let v29 : BitVec 32 := Scalar.extui v28
  let v30 : BitVec 32 := Scalar.subi v27 v29
  let c3_i32 : BitVec 32 := 3#32
  let c0_i32_15 : BitVec 32 := 0#32
  let v31 : BitVec 1 := Scalar.cmpi .sgt c3_i32 c0_i32_15
  let v32 : BitVec 32 := Scalar.extui v31
  let c0_i32_16 : BitVec 32 := 0#32
  let v33 : BitVec 1 := Scalar.cmpi .slt c3_i32 c0_i32_16
  let v34 : BitVec 32 := Scalar.extui v33
  let v35 : BitVec 32 := Scalar.subi v32 v34
  let v36 : BitVec 1 := Scalar.cmpi .ne v30 v35
  let v37 : BitVec 32 := Scalar.remsi arg8 c3_i32
  let c0_i32_17 : BitVec 32 := 0#32
  let v38 : BitVec 1 := Scalar.cmpi .ne v37 c0_i32_17
  let v39 : BitVec 1 := Scalar.andi v36 v38
  let v25 : BitVec 32 := Scalar.divsi arg8 c3_i32
  let c1_i32_18 : BitVec 32 := 1#32
  let v40 : BitVec 32 := Scalar.subi v25 c1_i32_18
  let v41 : BitVec 32 := Scalar.select v39 v40 v25
  let c128_i32_91 : BitVec 32 := 128#32
  let v271 : BitVec 32 := Scalar.muli v41 c128_i32_91
  v271
def k0_mult104 (k0_t2 : Fin k0_t2_loop.trips) : BitVec 32 :=
  let c0_i32_10 : BitVec 32 := 0#32
  let c1_i32_11 : BitVec 32 := 1#32
  let arg8 : BitVec 32 := Scf.iv c0_i32_10 c1_i32_11 k0_t2
  let c3_i32_19 : BitVec 32 := 3#32
  let c0_i32_20 : BitVec 32 := 0#32
  let v42 : BitVec 1 := Scalar.cmpi .eq c3_i32_19 c0_i32_20
  let c1_i32_21 : BitVec 32 := 1#32
  let v43 : BitVec 32 := Scalar.select v42 c1_i32_21 c3_i32_19
  let v44 : BitVec 32 := Scalar.remsi arg8 v43
  let c0_i32_23 : BitVec 32 := 0#32
  let v46 : BitVec 1 := Scalar.cmpi .slt v44 c0_i32_23
  let c0_i32_24 : BitVec 32 := 0#32
  let v47 : BitVec 1 := Scalar.cmpi .slt v43 c0_i32_24
  let v48 : BitVec 1 := Scalar.xori v46 v47
  let c0_i32_22 : BitVec 32 := 0#32
  let v45 : BitVec 1 := Scalar.cmpi .ne v44 c0_i32_22
  let v49 : BitVec 1 := Scalar.andi v48 v45
  let v50 : BitVec 32 := Scalar.addi v44 v43
  let v51 : BitVec 32 := Scalar.select v49 v50 v44
  let c256_i32 : BitVec 32 := 256#32
  let v52 : BitVec 32 := Scalar.muli v51 c256_i32
  let v53 : BitVec 32 := v52
  let c0_i32_92 : BitVec 32 := 0#32
  let v274 : BitVec 32 := Scalar.addi v53 c0_i32_92
  v274
def k0_mult105 (k0_t2 : Fin k0_t2_loop.trips) : BitVec 32 :=
  let c0_i32_10 : BitVec 32 := 0#32
  let c1_i32_11 : BitVec 32 := 1#32
  let arg8 : BitVec 32 := Scf.iv c0_i32_10 c1_i32_11 k0_t2
  let c0_i32_13 : BitVec 32 := 0#32
  let v26 : BitVec 1 := Scalar.cmpi .sgt arg8 c0_i32_13
  let v27 : BitVec 32 := Scalar.extui v26
  let c0_i32_14 : BitVec 32 := 0#32
  let v28 : BitVec 1 := Scalar.cmpi .slt arg8 c0_i32_14
  let v29 : BitVec 32 := Scalar.extui v28
  let v30 : BitVec 32 := Scalar.subi v27 v29
  let c3_i32 : BitVec 32 := 3#32
  let c0_i32_15 : BitVec 32 := 0#32
  let v31 : BitVec 1 := Scalar.cmpi .sgt c3_i32 c0_i32_15
  let v32 : BitVec 32 := Scalar.extui v31
  let c0_i32_16 : BitVec 32 := 0#32
  let v33 : BitVec 1 := Scalar.cmpi .slt c3_i32 c0_i32_16
  let v34 : BitVec 32 := Scalar.extui v33
  let v35 : BitVec 32 := Scalar.subi v32 v34
  let v36 : BitVec 1 := Scalar.cmpi .ne v30 v35
  let v37 : BitVec 32 := Scalar.remsi arg8 c3_i32
  let c0_i32_17 : BitVec 32 := 0#32
  let v38 : BitVec 1 := Scalar.cmpi .ne v37 c0_i32_17
  let v39 : BitVec 1 := Scalar.andi v36 v38
  let v25 : BitVec 32 := Scalar.divsi arg8 c3_i32
  let c1_i32_18 : BitVec 32 := 1#32
  let v40 : BitVec 32 := Scalar.subi v25 c1_i32_18
  let v41 : BitVec 32 := Scalar.select v39 v40 v25
  let c64_i32_93 : BitVec 32 := 64#32
  let v282 : BitVec 32 := Scalar.muli v41 c64_i32_93
  v282
def k0_mult106 (k0_t2 : Fin k0_t2_loop.trips) : BitVec 32 :=
  let c0_i32_10 : BitVec 32 := 0#32
  let c1_i32_11 : BitVec 32 := 1#32
  let arg8 : BitVec 32 := Scf.iv c0_i32_10 c1_i32_11 k0_t2
  let c3_i32_19 : BitVec 32 := 3#32
  let c0_i32_20 : BitVec 32 := 0#32
  let v42 : BitVec 1 := Scalar.cmpi .eq c3_i32_19 c0_i32_20
  let c1_i32_21 : BitVec 32 := 1#32
  let v43 : BitVec 32 := Scalar.select v42 c1_i32_21 c3_i32_19
  let v44 : BitVec 32 := Scalar.remsi arg8 v43
  let c0_i32_23 : BitVec 32 := 0#32
  let v46 : BitVec 1 := Scalar.cmpi .slt v44 c0_i32_23
  let c0_i32_24 : BitVec 32 := 0#32
  let v47 : BitVec 1 := Scalar.cmpi .slt v43 c0_i32_24
  let v48 : BitVec 1 := Scalar.xori v46 v47
  let c0_i32_22 : BitVec 32 := 0#32
  let v45 : BitVec 1 := Scalar.cmpi .ne v44 c0_i32_22
  let v49 : BitVec 1 := Scalar.andi v48 v45
  let v50 : BitVec 32 := Scalar.addi v44 v43
  let v51 : BitVec 32 := Scalar.select v49 v50 v44
  let c256_i32 : BitVec 32 := 256#32
  let v52 : BitVec 32 := Scalar.muli v51 c256_i32
  let v53 : BitVec 32 := v52
  let c128_i32_95 : BitVec 32 := 128#32
  let v285 : BitVec 32 := Scalar.addi v53 c128_i32_95
  v285
def k0_mult107 (k0_t2 : Fin k0_t2_loop.trips) : BitVec 32 :=
  let c0_i32_10 : BitVec 32 := 0#32
  let c1_i32_11 : BitVec 32 := 1#32
  let arg8 : BitVec 32 := Scf.iv c0_i32_10 c1_i32_11 k0_t2
  let c0_i32_13 : BitVec 32 := 0#32
  let v26 : BitVec 1 := Scalar.cmpi .sgt arg8 c0_i32_13
  let v27 : BitVec 32 := Scalar.extui v26
  let c0_i32_14 : BitVec 32 := 0#32
  let v28 : BitVec 1 := Scalar.cmpi .slt arg8 c0_i32_14
  let v29 : BitVec 32 := Scalar.extui v28
  let v30 : BitVec 32 := Scalar.subi v27 v29
  let c3_i32 : BitVec 32 := 3#32
  let c0_i32_15 : BitVec 32 := 0#32
  let v31 : BitVec 1 := Scalar.cmpi .sgt c3_i32 c0_i32_15
  let v32 : BitVec 32 := Scalar.extui v31
  let c0_i32_16 : BitVec 32 := 0#32
  let v33 : BitVec 1 := Scalar.cmpi .slt c3_i32 c0_i32_16
  let v34 : BitVec 32 := Scalar.extui v33
  let v35 : BitVec 32 := Scalar.subi v32 v34
  let v36 : BitVec 1 := Scalar.cmpi .ne v30 v35
  let v37 : BitVec 32 := Scalar.remsi arg8 c3_i32
  let c0_i32_17 : BitVec 32 := 0#32
  let v38 : BitVec 1 := Scalar.cmpi .ne v37 c0_i32_17
  let v39 : BitVec 1 := Scalar.andi v36 v38
  let v25 : BitVec 32 := Scalar.divsi arg8 c3_i32
  let c1_i32_18 : BitVec 32 := 1#32
  let v40 : BitVec 32 := Scalar.subi v25 c1_i32_18
  let v41 : BitVec 32 := Scalar.select v39 v40 v25
  let c64_i32_96 : BitVec 32 := 64#32
  let v290 : BitVec 32 := Scalar.muli v41 c64_i32_96
  v290
def k0_mult108 (k0_t2 : Fin k0_t2_loop.trips) : BitVec 32 :=
  let c0_i32_10 : BitVec 32 := 0#32
  let c1_i32_11 : BitVec 32 := 1#32
  let arg8 : BitVec 32 := Scf.iv c0_i32_10 c1_i32_11 k0_t2
  let c3_i32_19 : BitVec 32 := 3#32
  let c0_i32_20 : BitVec 32 := 0#32
  let v42 : BitVec 1 := Scalar.cmpi .eq c3_i32_19 c0_i32_20
  let c1_i32_21 : BitVec 32 := 1#32
  let v43 : BitVec 32 := Scalar.select v42 c1_i32_21 c3_i32_19
  let v44 : BitVec 32 := Scalar.remsi arg8 v43
  let c0_i32_23 : BitVec 32 := 0#32
  let v46 : BitVec 1 := Scalar.cmpi .slt v44 c0_i32_23
  let c0_i32_24 : BitVec 32 := 0#32
  let v47 : BitVec 1 := Scalar.cmpi .slt v43 c0_i32_24
  let v48 : BitVec 1 := Scalar.xori v46 v47
  let c0_i32_22 : BitVec 32 := 0#32
  let v45 : BitVec 1 := Scalar.cmpi .ne v44 c0_i32_22
  let v49 : BitVec 1 := Scalar.andi v48 v45
  let v50 : BitVec 32 := Scalar.addi v44 v43
  let v51 : BitVec 32 := Scalar.select v49 v50 v44
  let c256_i32 : BitVec 32 := 256#32
  let v52 : BitVec 32 := Scalar.muli v51 c256_i32
  let v53 : BitVec 32 := v52
  let c128_i32_98 : BitVec 32 := 128#32
  let v293 : BitVec 32 := Scalar.addi v53 c128_i32_98
  v293
def k0_mult109 (k0_t2 : Fin k0_t2_loop.trips) : BitVec 32 :=
  let c0_i32_10 : BitVec 32 := 0#32
  let c1_i32_11 : BitVec 32 := 1#32
  let arg8 : BitVec 32 := Scf.iv c0_i32_10 c1_i32_11 k0_t2
  let c0_i32_13 : BitVec 32 := 0#32
  let v26 : BitVec 1 := Scalar.cmpi .sgt arg8 c0_i32_13
  let v27 : BitVec 32 := Scalar.extui v26
  let c0_i32_14 : BitVec 32 := 0#32
  let v28 : BitVec 1 := Scalar.cmpi .slt arg8 c0_i32_14
  let v29 : BitVec 32 := Scalar.extui v28
  let v30 : BitVec 32 := Scalar.subi v27 v29
  let c3_i32 : BitVec 32 := 3#32
  let c0_i32_15 : BitVec 32 := 0#32
  let v31 : BitVec 1 := Scalar.cmpi .sgt c3_i32 c0_i32_15
  let v32 : BitVec 32 := Scalar.extui v31
  let c0_i32_16 : BitVec 32 := 0#32
  let v33 : BitVec 1 := Scalar.cmpi .slt c3_i32 c0_i32_16
  let v34 : BitVec 32 := Scalar.extui v33
  let v35 : BitVec 32 := Scalar.subi v32 v34
  let v36 : BitVec 1 := Scalar.cmpi .ne v30 v35
  let v37 : BitVec 32 := Scalar.remsi arg8 c3_i32
  let c0_i32_17 : BitVec 32 := 0#32
  let v38 : BitVec 1 := Scalar.cmpi .ne v37 c0_i32_17
  let v39 : BitVec 1 := Scalar.andi v36 v38
  let v25 : BitVec 32 := Scalar.divsi arg8 c3_i32
  let c1_i32_18 : BitVec 32 := 1#32
  let v40 : BitVec 32 := Scalar.subi v25 c1_i32_18
  let v41 : BitVec 32 := Scalar.select v39 v40 v25
  let c64_i32_99 : BitVec 32 := 64#32
  let v298 : BitVec 32 := Scalar.muli v41 c64_i32_99
  v298
def k0_mult110 (k0_t2 : Fin k0_t2_loop.trips) : BitVec 32 :=
  let c0_i32_10 : BitVec 32 := 0#32
  let c1_i32_11 : BitVec 32 := 1#32
  let arg8 : BitVec 32 := Scf.iv c0_i32_10 c1_i32_11 k0_t2
  let c3_i32_19 : BitVec 32 := 3#32
  let c0_i32_20 : BitVec 32 := 0#32
  let v42 : BitVec 1 := Scalar.cmpi .eq c3_i32_19 c0_i32_20
  let c1_i32_21 : BitVec 32 := 1#32
  let v43 : BitVec 32 := Scalar.select v42 c1_i32_21 c3_i32_19
  let v44 : BitVec 32 := Scalar.remsi arg8 v43
  let c0_i32_23 : BitVec 32 := 0#32
  let v46 : BitVec 1 := Scalar.cmpi .slt v44 c0_i32_23
  let c0_i32_24 : BitVec 32 := 0#32
  let v47 : BitVec 1 := Scalar.cmpi .slt v43 c0_i32_24
  let v48 : BitVec 1 := Scalar.xori v46 v47
  let c0_i32_22 : BitVec 32 := 0#32
  let v45 : BitVec 1 := Scalar.cmpi .ne v44 c0_i32_22
  let v49 : BitVec 1 := Scalar.andi v48 v45
  let v50 : BitVec 32 := Scalar.addi v44 v43
  let v51 : BitVec 32 := Scalar.select v49 v50 v44
  let c256_i32 : BitVec 32 := 256#32
  let v52 : BitVec 32 := Scalar.muli v51 c256_i32
  let v53 : BitVec 32 := v52
  let c128_i32_101 : BitVec 32 := 128#32
  let v301 : BitVec 32 := Scalar.addi v53 c128_i32_101
  v301
def k0_mult111 (k0_t2 : Fin k0_t2_loop.trips) : BitVec 32 :=
  let c0_i32_10 : BitVec 32 := 0#32
  let c1_i32_11 : BitVec 32 := 1#32
  let arg8 : BitVec 32 := Scf.iv c0_i32_10 c1_i32_11 k0_t2
  let c0_i32_13 : BitVec 32 := 0#32
  let v26 : BitVec 1 := Scalar.cmpi .sgt arg8 c0_i32_13
  let v27 : BitVec 32 := Scalar.extui v26
  let c0_i32_14 : BitVec 32 := 0#32
  let v28 : BitVec 1 := Scalar.cmpi .slt arg8 c0_i32_14
  let v29 : BitVec 32 := Scalar.extui v28
  let v30 : BitVec 32 := Scalar.subi v27 v29
  let c3_i32 : BitVec 32 := 3#32
  let c0_i32_15 : BitVec 32 := 0#32
  let v31 : BitVec 1 := Scalar.cmpi .sgt c3_i32 c0_i32_15
  let v32 : BitVec 32 := Scalar.extui v31
  let c0_i32_16 : BitVec 32 := 0#32
  let v33 : BitVec 1 := Scalar.cmpi .slt c3_i32 c0_i32_16
  let v34 : BitVec 32 := Scalar.extui v33
  let v35 : BitVec 32 := Scalar.subi v32 v34
  let v36 : BitVec 1 := Scalar.cmpi .ne v30 v35
  let v37 : BitVec 32 := Scalar.remsi arg8 c3_i32
  let c0_i32_17 : BitVec 32 := 0#32
  let v38 : BitVec 1 := Scalar.cmpi .ne v37 c0_i32_17
  let v39 : BitVec 1 := Scalar.andi v36 v38
  let v25 : BitVec 32 := Scalar.divsi arg8 c3_i32
  let c1_i32_18 : BitVec 32 := 1#32
  let v40 : BitVec 32 := Scalar.subi v25 c1_i32_18
  let v41 : BitVec 32 := Scalar.select v39 v40 v25
  let c64_i32_102 : BitVec 32 := 64#32
  let v306 : BitVec 32 := Scalar.muli v41 c64_i32_102
  v306
def k0_mult112 (k0_t2 : Fin k0_t2_loop.trips) : BitVec 32 :=
  let c0_i32_10 : BitVec 32 := 0#32
  let c1_i32_11 : BitVec 32 := 1#32
  let arg8 : BitVec 32 := Scf.iv c0_i32_10 c1_i32_11 k0_t2
  let c3_i32_19 : BitVec 32 := 3#32
  let c0_i32_20 : BitVec 32 := 0#32
  let v42 : BitVec 1 := Scalar.cmpi .eq c3_i32_19 c0_i32_20
  let c1_i32_21 : BitVec 32 := 1#32
  let v43 : BitVec 32 := Scalar.select v42 c1_i32_21 c3_i32_19
  let v44 : BitVec 32 := Scalar.remsi arg8 v43
  let c0_i32_23 : BitVec 32 := 0#32
  let v46 : BitVec 1 := Scalar.cmpi .slt v44 c0_i32_23
  let c0_i32_24 : BitVec 32 := 0#32
  let v47 : BitVec 1 := Scalar.cmpi .slt v43 c0_i32_24
  let v48 : BitVec 1 := Scalar.xori v46 v47
  let c0_i32_22 : BitVec 32 := 0#32
  let v45 : BitVec 1 := Scalar.cmpi .ne v44 c0_i32_22
  let v49 : BitVec 1 := Scalar.andi v48 v45
  let v50 : BitVec 32 := Scalar.addi v44 v43
  let v51 : BitVec 32 := Scalar.select v49 v50 v44
  let c256_i32 : BitVec 32 := 256#32
  let v52 : BitVec 32 := Scalar.muli v51 c256_i32
  let v53 : BitVec 32 := v52
  let c128_i32_104 : BitVec 32 := 128#32
  let v309 : BitVec 32 := Scalar.addi v53 c128_i32_104
  v309
def k0_mult113 (k0_t2 : Fin k0_t2_loop.trips) : BitVec 32 :=
  let c0_i32_10 : BitVec 32 := 0#32
  let c1_i32_11 : BitVec 32 := 1#32
  let arg8 : BitVec 32 := Scf.iv c0_i32_10 c1_i32_11 k0_t2
  let c3_i32_19 : BitVec 32 := 3#32
  let c0_i32_20 : BitVec 32 := 0#32
  let v42 : BitVec 1 := Scalar.cmpi .eq c3_i32_19 c0_i32_20
  let c1_i32_21 : BitVec 32 := 1#32
  let v43 : BitVec 32 := Scalar.select v42 c1_i32_21 c3_i32_19
  let v44 : BitVec 32 := Scalar.remsi arg8 v43
  let c0_i32_23 : BitVec 32 := 0#32
  let v46 : BitVec 1 := Scalar.cmpi .slt v44 c0_i32_23
  let c0_i32_24 : BitVec 32 := 0#32
  let v47 : BitVec 1 := Scalar.cmpi .slt v43 c0_i32_24
  let v48 : BitVec 1 := Scalar.xori v46 v47
  let c0_i32_22 : BitVec 32 := 0#32
  let v45 : BitVec 1 := Scalar.cmpi .ne v44 c0_i32_22
  let v49 : BitVec 1 := Scalar.andi v48 v45
  let v50 : BitVec 32 := Scalar.addi v44 v43
  let v51 : BitVec 32 := Scalar.select v49 v50 v44
  let c256_i32 : BitVec 32 := 256#32
  let v52 : BitVec 32 := Scalar.muli v51 c256_i32
  let v53 : BitVec 32 := v52
  let c128_i32_107 : BitVec 32 := 128#32
  let v316 : BitVec 32 := Scalar.addi v53 c128_i32_107
  v316
def k0_mult114 (k0_t2 : Fin k0_t2_loop.trips) : BitVec 32 :=
  let c0_i32_10 : BitVec 32 := 0#32
  let c1_i32_11 : BitVec 32 := 1#32
  let arg8 : BitVec 32 := Scf.iv c0_i32_10 c1_i32_11 k0_t2
  let c0_i32_13 : BitVec 32 := 0#32
  let v26 : BitVec 1 := Scalar.cmpi .sgt arg8 c0_i32_13
  let v27 : BitVec 32 := Scalar.extui v26
  let c0_i32_14 : BitVec 32 := 0#32
  let v28 : BitVec 1 := Scalar.cmpi .slt arg8 c0_i32_14
  let v29 : BitVec 32 := Scalar.extui v28
  let v30 : BitVec 32 := Scalar.subi v27 v29
  let c3_i32 : BitVec 32 := 3#32
  let c0_i32_15 : BitVec 32 := 0#32
  let v31 : BitVec 1 := Scalar.cmpi .sgt c3_i32 c0_i32_15
  let v32 : BitVec 32 := Scalar.extui v31
  let c0_i32_16 : BitVec 32 := 0#32
  let v33 : BitVec 1 := Scalar.cmpi .slt c3_i32 c0_i32_16
  let v34 : BitVec 32 := Scalar.extui v33
  let v35 : BitVec 32 := Scalar.subi v32 v34
  let v36 : BitVec 1 := Scalar.cmpi .ne v30 v35
  let v37 : BitVec 32 := Scalar.remsi arg8 c3_i32
  let c0_i32_17 : BitVec 32 := 0#32
  let v38 : BitVec 1 := Scalar.cmpi .ne v37 c0_i32_17
  let v39 : BitVec 1 := Scalar.andi v36 v38
  let v25 : BitVec 32 := Scalar.divsi arg8 c3_i32
  let c1_i32_18 : BitVec 32 := 1#32
  let v40 : BitVec 32 := Scalar.subi v25 c1_i32_18
  let v41 : BitVec 32 := Scalar.select v39 v40 v25
  let c128_i32_122 : BitVec 32 := 128#32
  let v340 : BitVec 32 := Scalar.muli v41 c128_i32_122
  v340
def k0_mult115 (k0_t2 : Fin k0_t2_loop.trips) : BitVec 32 :=
  let c0_i32_10 : BitVec 32 := 0#32
  let c1_i32_11 : BitVec 32 := 1#32
  let arg8 : BitVec 32 := Scf.iv c0_i32_10 c1_i32_11 k0_t2
  let c3_i32_19 : BitVec 32 := 3#32
  let c0_i32_20 : BitVec 32 := 0#32
  let v42 : BitVec 1 := Scalar.cmpi .eq c3_i32_19 c0_i32_20
  let c1_i32_21 : BitVec 32 := 1#32
  let v43 : BitVec 32 := Scalar.select v42 c1_i32_21 c3_i32_19
  let v44 : BitVec 32 := Scalar.remsi arg8 v43
  let c0_i32_23 : BitVec 32 := 0#32
  let v46 : BitVec 1 := Scalar.cmpi .slt v44 c0_i32_23
  let c0_i32_24 : BitVec 32 := 0#32
  let v47 : BitVec 1 := Scalar.cmpi .slt v43 c0_i32_24
  let v48 : BitVec 1 := Scalar.xori v46 v47
  let c0_i32_22 : BitVec 32 := 0#32
  let v45 : BitVec 1 := Scalar.cmpi .ne v44 c0_i32_22
  let v49 : BitVec 1 := Scalar.andi v48 v45
  let v50 : BitVec 32 := Scalar.addi v44 v43
  let v51 : BitVec 32 := Scalar.select v49 v50 v44
  let c256_i32 : BitVec 32 := 256#32
  let v52 : BitVec 32 := Scalar.muli v51 c256_i32
  let v53 : BitVec 32 := v52
  let c128_i32_124 : BitVec 32 := 128#32
  let v343 : BitVec 32 := Scalar.addi v53 c128_i32_124
  v343
def k0_mult116 (k0_t2 : Fin k0_t2_loop.trips) : BitVec 32 :=
  let c0_i32_10 : BitVec 32 := 0#32
  let c1_i32_11 : BitVec 32 := 1#32
  let arg8 : BitVec 32 := Scf.iv c0_i32_10 c1_i32_11 k0_t2
  let c0_i32_13 : BitVec 32 := 0#32
  let v26 : BitVec 1 := Scalar.cmpi .sgt arg8 c0_i32_13
  let v27 : BitVec 32 := Scalar.extui v26
  let c0_i32_14 : BitVec 32 := 0#32
  let v28 : BitVec 1 := Scalar.cmpi .slt arg8 c0_i32_14
  let v29 : BitVec 32 := Scalar.extui v28
  let v30 : BitVec 32 := Scalar.subi v27 v29
  let c3_i32 : BitVec 32 := 3#32
  let c0_i32_15 : BitVec 32 := 0#32
  let v31 : BitVec 1 := Scalar.cmpi .sgt c3_i32 c0_i32_15
  let v32 : BitVec 32 := Scalar.extui v31
  let c0_i32_16 : BitVec 32 := 0#32
  let v33 : BitVec 1 := Scalar.cmpi .slt c3_i32 c0_i32_16
  let v34 : BitVec 32 := Scalar.extui v33
  let v35 : BitVec 32 := Scalar.subi v32 v34
  let v36 : BitVec 1 := Scalar.cmpi .ne v30 v35
  let v37 : BitVec 32 := Scalar.remsi arg8 c3_i32
  let c0_i32_17 : BitVec 32 := 0#32
  let v38 : BitVec 1 := Scalar.cmpi .ne v37 c0_i32_17
  let v39 : BitVec 1 := Scalar.andi v36 v38
  let v25 : BitVec 32 := Scalar.divsi arg8 c3_i32
  let c1_i32_18 : BitVec 32 := 1#32
  let v40 : BitVec 32 := Scalar.subi v25 c1_i32_18
  let v41 : BitVec 32 := Scalar.select v39 v40 v25
  let c128_i32_125 : BitVec 32 := 128#32
  let v355 : BitVec 32 := Scalar.muli v41 c128_i32_125
  v355
def k0_mult117 (k0_t2 : Fin k0_t2_loop.trips) : BitVec 32 :=
  let c0_i32_10 : BitVec 32 := 0#32
  let c1_i32_11 : BitVec 32 := 1#32
  let arg8 : BitVec 32 := Scf.iv c0_i32_10 c1_i32_11 k0_t2
  let c3_i32_19 : BitVec 32 := 3#32
  let c0_i32_20 : BitVec 32 := 0#32
  let v42 : BitVec 1 := Scalar.cmpi .eq c3_i32_19 c0_i32_20
  let c1_i32_21 : BitVec 32 := 1#32
  let v43 : BitVec 32 := Scalar.select v42 c1_i32_21 c3_i32_19
  let v44 : BitVec 32 := Scalar.remsi arg8 v43
  let c0_i32_23 : BitVec 32 := 0#32
  let v46 : BitVec 1 := Scalar.cmpi .slt v44 c0_i32_23
  let c0_i32_24 : BitVec 32 := 0#32
  let v47 : BitVec 1 := Scalar.cmpi .slt v43 c0_i32_24
  let v48 : BitVec 1 := Scalar.xori v46 v47
  let c0_i32_22 : BitVec 32 := 0#32
  let v45 : BitVec 1 := Scalar.cmpi .ne v44 c0_i32_22
  let v49 : BitVec 1 := Scalar.andi v48 v45
  let v50 : BitVec 32 := Scalar.addi v44 v43
  let v51 : BitVec 32 := Scalar.select v49 v50 v44
  let c256_i32 : BitVec 32 := 256#32
  let v52 : BitVec 32 := Scalar.muli v51 c256_i32
  let v53 : BitVec 32 := v52
  let c128_i32_127 : BitVec 32 := 128#32
  let v358 : BitVec 32 := Scalar.addi v53 c128_i32_127
  v358
def k0_mult118 (k0_t2 : Fin k0_t2_loop.trips) : BitVec 32 :=
  let c0_i32_10 : BitVec 32 := 0#32
  let c1_i32_11 : BitVec 32 := 1#32
  let arg8 : BitVec 32 := Scf.iv c0_i32_10 c1_i32_11 k0_t2
  let c0_i32_13 : BitVec 32 := 0#32
  let v26 : BitVec 1 := Scalar.cmpi .sgt arg8 c0_i32_13
  let v27 : BitVec 32 := Scalar.extui v26
  let c0_i32_14 : BitVec 32 := 0#32
  let v28 : BitVec 1 := Scalar.cmpi .slt arg8 c0_i32_14
  let v29 : BitVec 32 := Scalar.extui v28
  let v30 : BitVec 32 := Scalar.subi v27 v29
  let c3_i32 : BitVec 32 := 3#32
  let c0_i32_15 : BitVec 32 := 0#32
  let v31 : BitVec 1 := Scalar.cmpi .sgt c3_i32 c0_i32_15
  let v32 : BitVec 32 := Scalar.extui v31
  let c0_i32_16 : BitVec 32 := 0#32
  let v33 : BitVec 1 := Scalar.cmpi .slt c3_i32 c0_i32_16
  let v34 : BitVec 32 := Scalar.extui v33
  let v35 : BitVec 32 := Scalar.subi v32 v34
  let v36 : BitVec 1 := Scalar.cmpi .ne v30 v35
  let v37 : BitVec 32 := Scalar.remsi arg8 c3_i32
  let c0_i32_17 : BitVec 32 := 0#32
  let v38 : BitVec 1 := Scalar.cmpi .ne v37 c0_i32_17
  let v39 : BitVec 1 := Scalar.andi v36 v38
  let v25 : BitVec 32 := Scalar.divsi arg8 c3_i32
  let c1_i32_18 : BitVec 32 := 1#32
  let v40 : BitVec 32 := Scalar.subi v25 c1_i32_18
  let v41 : BitVec 32 := Scalar.select v39 v40 v25
  let c128_i32_128 : BitVec 32 := 128#32
  let v370 : BitVec 32 := Scalar.muli v41 c128_i32_128
  v370
def k0_mult119 (k0_t2 : Fin k0_t2_loop.trips) : BitVec 32 :=
  let c0_i32_10 : BitVec 32 := 0#32
  let c1_i32_11 : BitVec 32 := 1#32
  let arg8 : BitVec 32 := Scf.iv c0_i32_10 c1_i32_11 k0_t2
  let c3_i32_19 : BitVec 32 := 3#32
  let c0_i32_20 : BitVec 32 := 0#32
  let v42 : BitVec 1 := Scalar.cmpi .eq c3_i32_19 c0_i32_20
  let c1_i32_21 : BitVec 32 := 1#32
  let v43 : BitVec 32 := Scalar.select v42 c1_i32_21 c3_i32_19
  let v44 : BitVec 32 := Scalar.remsi arg8 v43
  let c0_i32_23 : BitVec 32 := 0#32
  let v46 : BitVec 1 := Scalar.cmpi .slt v44 c0_i32_23
  let c0_i32_24 : BitVec 32 := 0#32
  let v47 : BitVec 1 := Scalar.cmpi .slt v43 c0_i32_24
  let v48 : BitVec 1 := Scalar.xori v46 v47
  let c0_i32_22 : BitVec 32 := 0#32
  let v45 : BitVec 1 := Scalar.cmpi .ne v44 c0_i32_22
  let v49 : BitVec 1 := Scalar.andi v48 v45
  let v50 : BitVec 32 := Scalar.addi v44 v43
  let v51 : BitVec 32 := Scalar.select v49 v50 v44
  let c256_i32 : BitVec 32 := 256#32
  let v52 : BitVec 32 := Scalar.muli v51 c256_i32
  let v53 : BitVec 32 := v52
  let c128_i32_130 : BitVec 32 := 128#32
  let v373 : BitVec 32 := Scalar.addi v53 c128_i32_130
  v373
def k0_mult120 (k0_t2 : Fin k0_t2_loop.trips) : BitVec 32 :=
  let c0_i32_10 : BitVec 32 := 0#32
  let c1_i32_11 : BitVec 32 := 1#32
  let arg8 : BitVec 32 := Scf.iv c0_i32_10 c1_i32_11 k0_t2
  let c0_i32_13 : BitVec 32 := 0#32
  let v26 : BitVec 1 := Scalar.cmpi .sgt arg8 c0_i32_13
  let v27 : BitVec 32 := Scalar.extui v26
  let c0_i32_14 : BitVec 32 := 0#32
  let v28 : BitVec 1 := Scalar.cmpi .slt arg8 c0_i32_14
  let v29 : BitVec 32 := Scalar.extui v28
  let v30 : BitVec 32 := Scalar.subi v27 v29
  let c3_i32 : BitVec 32 := 3#32
  let c0_i32_15 : BitVec 32 := 0#32
  let v31 : BitVec 1 := Scalar.cmpi .sgt c3_i32 c0_i32_15
  let v32 : BitVec 32 := Scalar.extui v31
  let c0_i32_16 : BitVec 32 := 0#32
  let v33 : BitVec 1 := Scalar.cmpi .slt c3_i32 c0_i32_16
  let v34 : BitVec 32 := Scalar.extui v33
  let v35 : BitVec 32 := Scalar.subi v32 v34
  let v36 : BitVec 1 := Scalar.cmpi .ne v30 v35
  let v37 : BitVec 32 := Scalar.remsi arg8 c3_i32
  let c0_i32_17 : BitVec 32 := 0#32
  let v38 : BitVec 1 := Scalar.cmpi .ne v37 c0_i32_17
  let v39 : BitVec 1 := Scalar.andi v36 v38
  let v25 : BitVec 32 := Scalar.divsi arg8 c3_i32
  let c1_i32_18 : BitVec 32 := 1#32
  let v40 : BitVec 32 := Scalar.subi v25 c1_i32_18
  let v41 : BitVec 32 := Scalar.select v39 v40 v25
  let c128_i32_131 : BitVec 32 := 128#32
  let v385 : BitVec 32 := Scalar.muli v41 c128_i32_131
  v385
def k0_mult121 (k0_t2 : Fin k0_t2_loop.trips) : BitVec 32 :=
  let c0_i32_10 : BitVec 32 := 0#32
  let c1_i32_11 : BitVec 32 := 1#32
  let arg8 : BitVec 32 := Scf.iv c0_i32_10 c1_i32_11 k0_t2
  let c3_i32_19 : BitVec 32 := 3#32
  let c0_i32_20 : BitVec 32 := 0#32
  let v42 : BitVec 1 := Scalar.cmpi .eq c3_i32_19 c0_i32_20
  let c1_i32_21 : BitVec 32 := 1#32
  let v43 : BitVec 32 := Scalar.select v42 c1_i32_21 c3_i32_19
  let v44 : BitVec 32 := Scalar.remsi arg8 v43
  let c0_i32_23 : BitVec 32 := 0#32
  let v46 : BitVec 1 := Scalar.cmpi .slt v44 c0_i32_23
  let c0_i32_24 : BitVec 32 := 0#32
  let v47 : BitVec 1 := Scalar.cmpi .slt v43 c0_i32_24
  let v48 : BitVec 1 := Scalar.xori v46 v47
  let c0_i32_22 : BitVec 32 := 0#32
  let v45 : BitVec 1 := Scalar.cmpi .ne v44 c0_i32_22
  let v49 : BitVec 1 := Scalar.andi v48 v45
  let v50 : BitVec 32 := Scalar.addi v44 v43
  let v51 : BitVec 32 := Scalar.select v49 v50 v44
  let c256_i32 : BitVec 32 := 256#32
  let v52 : BitVec 32 := Scalar.muli v51 c256_i32
  let v53 : BitVec 32 := v52
  let c128_i32_133 : BitVec 32 := 128#32
  let v388 : BitVec 32 := Scalar.addi v53 c128_i32_133
  v388
def k0_mult122 (k0_t2 : Fin k0_t2_loop.trips) : BitVec 32 :=
  let c0_i32_10 : BitVec 32 := 0#32
  let c1_i32_11 : BitVec 32 := 1#32
  let arg8 : BitVec 32 := Scf.iv c0_i32_10 c1_i32_11 k0_t2
  let c0_i32_13 : BitVec 32 := 0#32
  let v26 : BitVec 1 := Scalar.cmpi .sgt arg8 c0_i32_13
  let v27 : BitVec 32 := Scalar.extui v26
  let c0_i32_14 : BitVec 32 := 0#32
  let v28 : BitVec 1 := Scalar.cmpi .slt arg8 c0_i32_14
  let v29 : BitVec 32 := Scalar.extui v28
  let v30 : BitVec 32 := Scalar.subi v27 v29
  let c3_i32 : BitVec 32 := 3#32
  let c0_i32_15 : BitVec 32 := 0#32
  let v31 : BitVec 1 := Scalar.cmpi .sgt c3_i32 c0_i32_15
  let v32 : BitVec 32 := Scalar.extui v31
  let c0_i32_16 : BitVec 32 := 0#32
  let v33 : BitVec 1 := Scalar.cmpi .slt c3_i32 c0_i32_16
  let v34 : BitVec 32 := Scalar.extui v33
  let v35 : BitVec 32 := Scalar.subi v32 v34
  let v36 : BitVec 1 := Scalar.cmpi .ne v30 v35
  let v37 : BitVec 32 := Scalar.remsi arg8 c3_i32
  let c0_i32_17 : BitVec 32 := 0#32
  let v38 : BitVec 1 := Scalar.cmpi .ne v37 c0_i32_17
  let v39 : BitVec 1 := Scalar.andi v36 v38
  let v25 : BitVec 32 := Scalar.divsi arg8 c3_i32
  let c1_i32_18 : BitVec 32 := 1#32
  let v40 : BitVec 32 := Scalar.subi v25 c1_i32_18
  let v41 : BitVec 32 := Scalar.select v39 v40 v25
  let c64_i32_134 : BitVec 32 := 64#32
  let v396 : BitVec 32 := Scalar.muli v41 c64_i32_134
  v396
def k0_mult123 (k0_t2 : Fin k0_t2_loop.trips) : BitVec 32 :=
  let c0_i32_10 : BitVec 32 := 0#32
  let c1_i32_11 : BitVec 32 := 1#32
  let arg8 : BitVec 32 := Scf.iv c0_i32_10 c1_i32_11 k0_t2
  let c3_i32_19 : BitVec 32 := 3#32
  let c0_i32_20 : BitVec 32 := 0#32
  let v42 : BitVec 1 := Scalar.cmpi .eq c3_i32_19 c0_i32_20
  let c1_i32_21 : BitVec 32 := 1#32
  let v43 : BitVec 32 := Scalar.select v42 c1_i32_21 c3_i32_19
  let v44 : BitVec 32 := Scalar.remsi arg8 v43
  let c0_i32_23 : BitVec 32 := 0#32
  let v46 : BitVec 1 := Scalar.cmpi .slt v44 c0_i32_23
  let c0_i32_24 : BitVec 32 := 0#32
  let v47 : BitVec 1 := Scalar.cmpi .slt v43 c0_i32_24
  let v48 : BitVec 1 := Scalar.xori v46 v47
  let c0_i32_22 : BitVec 32 := 0#32
  let v45 : BitVec 1 := Scalar.cmpi .ne v44 c0_i32_22
  let v49 : BitVec 1 := Scalar.andi v48 v45
  let v50 : BitVec 32 := Scalar.addi v44 v43
  let v51 : BitVec 32 := Scalar.select v49 v50 v44
  let c256_i32 : BitVec 32 := 256#32
  let v52 : BitVec 32 := Scalar.muli v51 c256_i32
  let v53 : BitVec 32 := v52
  let c128_i32_136 : BitVec 32 := 128#32
  let v399 : BitVec 32 := Scalar.addi v53 c128_i32_136
  v399
def k0_mult124 (k0_t2 : Fin k0_t2_loop.trips) : BitVec 32 :=
  let c0_i32_10 : BitVec 32 := 0#32
  let c1_i32_11 : BitVec 32 := 1#32
  let arg8 : BitVec 32 := Scf.iv c0_i32_10 c1_i32_11 k0_t2
  let c0_i32_13 : BitVec 32 := 0#32
  let v26 : BitVec 1 := Scalar.cmpi .sgt arg8 c0_i32_13
  let v27 : BitVec 32 := Scalar.extui v26
  let c0_i32_14 : BitVec 32 := 0#32
  let v28 : BitVec 1 := Scalar.cmpi .slt arg8 c0_i32_14
  let v29 : BitVec 32 := Scalar.extui v28
  let v30 : BitVec 32 := Scalar.subi v27 v29
  let c3_i32 : BitVec 32 := 3#32
  let c0_i32_15 : BitVec 32 := 0#32
  let v31 : BitVec 1 := Scalar.cmpi .sgt c3_i32 c0_i32_15
  let v32 : BitVec 32 := Scalar.extui v31
  let c0_i32_16 : BitVec 32 := 0#32
  let v33 : BitVec 1 := Scalar.cmpi .slt c3_i32 c0_i32_16
  let v34 : BitVec 32 := Scalar.extui v33
  let v35 : BitVec 32 := Scalar.subi v32 v34
  let v36 : BitVec 1 := Scalar.cmpi .ne v30 v35
  let v37 : BitVec 32 := Scalar.remsi arg8 c3_i32
  let c0_i32_17 : BitVec 32 := 0#32
  let v38 : BitVec 1 := Scalar.cmpi .ne v37 c0_i32_17
  let v39 : BitVec 1 := Scalar.andi v36 v38
  let v25 : BitVec 32 := Scalar.divsi arg8 c3_i32
  let c1_i32_18 : BitVec 32 := 1#32
  let v40 : BitVec 32 := Scalar.subi v25 c1_i32_18
  let v41 : BitVec 32 := Scalar.select v39 v40 v25
  let c64_i32_137 : BitVec 32 := 64#32
  let v404 : BitVec 32 := Scalar.muli v41 c64_i32_137
  v404
def k0_mult125 (k0_t2 : Fin k0_t2_loop.trips) : BitVec 32 :=
  let c0_i32_10 : BitVec 32 := 0#32
  let c1_i32_11 : BitVec 32 := 1#32
  let arg8 : BitVec 32 := Scf.iv c0_i32_10 c1_i32_11 k0_t2
  let c3_i32_19 : BitVec 32 := 3#32
  let c0_i32_20 : BitVec 32 := 0#32
  let v42 : BitVec 1 := Scalar.cmpi .eq c3_i32_19 c0_i32_20
  let c1_i32_21 : BitVec 32 := 1#32
  let v43 : BitVec 32 := Scalar.select v42 c1_i32_21 c3_i32_19
  let v44 : BitVec 32 := Scalar.remsi arg8 v43
  let c0_i32_23 : BitVec 32 := 0#32
  let v46 : BitVec 1 := Scalar.cmpi .slt v44 c0_i32_23
  let c0_i32_24 : BitVec 32 := 0#32
  let v47 : BitVec 1 := Scalar.cmpi .slt v43 c0_i32_24
  let v48 : BitVec 1 := Scalar.xori v46 v47
  let c0_i32_22 : BitVec 32 := 0#32
  let v45 : BitVec 1 := Scalar.cmpi .ne v44 c0_i32_22
  let v49 : BitVec 1 := Scalar.andi v48 v45
  let v50 : BitVec 32 := Scalar.addi v44 v43
  let v51 : BitVec 32 := Scalar.select v49 v50 v44
  let c256_i32 : BitVec 32 := 256#32
  let v52 : BitVec 32 := Scalar.muli v51 c256_i32
  let v53 : BitVec 32 := v52
  let c128_i32_139 : BitVec 32 := 128#32
  let v407 : BitVec 32 := Scalar.addi v53 c128_i32_139
  v407
def k0_mult126 (k0_t2 : Fin k0_t2_loop.trips) : BitVec 32 :=
  let c0_i32_10 : BitVec 32 := 0#32
  let c1_i32_11 : BitVec 32 := 1#32
  let arg8 : BitVec 32 := Scf.iv c0_i32_10 c1_i32_11 k0_t2
  let c0_i32_13 : BitVec 32 := 0#32
  let v26 : BitVec 1 := Scalar.cmpi .sgt arg8 c0_i32_13
  let v27 : BitVec 32 := Scalar.extui v26
  let c0_i32_14 : BitVec 32 := 0#32
  let v28 : BitVec 1 := Scalar.cmpi .slt arg8 c0_i32_14
  let v29 : BitVec 32 := Scalar.extui v28
  let v30 : BitVec 32 := Scalar.subi v27 v29
  let c3_i32 : BitVec 32 := 3#32
  let c0_i32_15 : BitVec 32 := 0#32
  let v31 : BitVec 1 := Scalar.cmpi .sgt c3_i32 c0_i32_15
  let v32 : BitVec 32 := Scalar.extui v31
  let c0_i32_16 : BitVec 32 := 0#32
  let v33 : BitVec 1 := Scalar.cmpi .slt c3_i32 c0_i32_16
  let v34 : BitVec 32 := Scalar.extui v33
  let v35 : BitVec 32 := Scalar.subi v32 v34
  let v36 : BitVec 1 := Scalar.cmpi .ne v30 v35
  let v37 : BitVec 32 := Scalar.remsi arg8 c3_i32
  let c0_i32_17 : BitVec 32 := 0#32
  let v38 : BitVec 1 := Scalar.cmpi .ne v37 c0_i32_17
  let v39 : BitVec 1 := Scalar.andi v36 v38
  let v25 : BitVec 32 := Scalar.divsi arg8 c3_i32
  let c1_i32_18 : BitVec 32 := 1#32
  let v40 : BitVec 32 := Scalar.subi v25 c1_i32_18
  let v41 : BitVec 32 := Scalar.select v39 v40 v25
  let c64_i32_140 : BitVec 32 := 64#32
  let v412 : BitVec 32 := Scalar.muli v41 c64_i32_140
  v412
def k0_mult127 (k0_t2 : Fin k0_t2_loop.trips) : BitVec 32 :=
  let c0_i32_10 : BitVec 32 := 0#32
  let c1_i32_11 : BitVec 32 := 1#32
  let arg8 : BitVec 32 := Scf.iv c0_i32_10 c1_i32_11 k0_t2
  let c3_i32_19 : BitVec 32 := 3#32
  let c0_i32_20 : BitVec 32 := 0#32
  let v42 : BitVec 1 := Scalar.cmpi .eq c3_i32_19 c0_i32_20
  let c1_i32_21 : BitVec 32 := 1#32
  let v43 : BitVec 32 := Scalar.select v42 c1_i32_21 c3_i32_19
  let v44 : BitVec 32 := Scalar.remsi arg8 v43
  let c0_i32_23 : BitVec 32 := 0#32
  let v46 : BitVec 1 := Scalar.cmpi .slt v44 c0_i32_23
  let c0_i32_24 : BitVec 32 := 0#32
  let v47 : BitVec 1 := Scalar.cmpi .slt v43 c0_i32_24
  let v48 : BitVec 1 := Scalar.xori v46 v47
  let c0_i32_22 : BitVec 32 := 0#32
  let v45 : BitVec 1 := Scalar.cmpi .ne v44 c0_i32_22
  let v49 : BitVec 1 := Scalar.andi v48 v45
  let v50 : BitVec 32 := Scalar.addi v44 v43
  let v51 : BitVec 32 := Scalar.select v49 v50 v44
  let c256_i32 : BitVec 32 := 256#32
  let v52 : BitVec 32 := Scalar.muli v51 c256_i32
  let v53 : BitVec 32 := v52
  let c128_i32_142 : BitVec 32 := 128#32
  let v415 : BitVec 32 := Scalar.addi v53 c128_i32_142
  v415
def k0_mult128 (k0_t2 : Fin k0_t2_loop.trips) : BitVec 32 :=
  let c0_i32_10 : BitVec 32 := 0#32
  let c1_i32_11 : BitVec 32 := 1#32
  let arg8 : BitVec 32 := Scf.iv c0_i32_10 c1_i32_11 k0_t2
  let c0_i32_13 : BitVec 32 := 0#32
  let v26 : BitVec 1 := Scalar.cmpi .sgt arg8 c0_i32_13
  let v27 : BitVec 32 := Scalar.extui v26
  let c0_i32_14 : BitVec 32 := 0#32
  let v28 : BitVec 1 := Scalar.cmpi .slt arg8 c0_i32_14
  let v29 : BitVec 32 := Scalar.extui v28
  let v30 : BitVec 32 := Scalar.subi v27 v29
  let c3_i32 : BitVec 32 := 3#32
  let c0_i32_15 : BitVec 32 := 0#32
  let v31 : BitVec 1 := Scalar.cmpi .sgt c3_i32 c0_i32_15
  let v32 : BitVec 32 := Scalar.extui v31
  let c0_i32_16 : BitVec 32 := 0#32
  let v33 : BitVec 1 := Scalar.cmpi .slt c3_i32 c0_i32_16
  let v34 : BitVec 32 := Scalar.extui v33
  let v35 : BitVec 32 := Scalar.subi v32 v34
  let v36 : BitVec 1 := Scalar.cmpi .ne v30 v35
  let v37 : BitVec 32 := Scalar.remsi arg8 c3_i32
  let c0_i32_17 : BitVec 32 := 0#32
  let v38 : BitVec 1 := Scalar.cmpi .ne v37 c0_i32_17
  let v39 : BitVec 1 := Scalar.andi v36 v38
  let v25 : BitVec 32 := Scalar.divsi arg8 c3_i32
  let c1_i32_18 : BitVec 32 := 1#32
  let v40 : BitVec 32 := Scalar.subi v25 c1_i32_18
  let v41 : BitVec 32 := Scalar.select v39 v40 v25
  let c64_i32_143 : BitVec 32 := 64#32
  let v420 : BitVec 32 := Scalar.muli v41 c64_i32_143
  v420
def k0_mult129 (k0_t2 : Fin k0_t2_loop.trips) : BitVec 32 :=
  let c0_i32_10 : BitVec 32 := 0#32
  let c1_i32_11 : BitVec 32 := 1#32
  let arg8 : BitVec 32 := Scf.iv c0_i32_10 c1_i32_11 k0_t2
  let c3_i32_19 : BitVec 32 := 3#32
  let c0_i32_20 : BitVec 32 := 0#32
  let v42 : BitVec 1 := Scalar.cmpi .eq c3_i32_19 c0_i32_20
  let c1_i32_21 : BitVec 32 := 1#32
  let v43 : BitVec 32 := Scalar.select v42 c1_i32_21 c3_i32_19
  let v44 : BitVec 32 := Scalar.remsi arg8 v43
  let c0_i32_23 : BitVec 32 := 0#32
  let v46 : BitVec 1 := Scalar.cmpi .slt v44 c0_i32_23
  let c0_i32_24 : BitVec 32 := 0#32
  let v47 : BitVec 1 := Scalar.cmpi .slt v43 c0_i32_24
  let v48 : BitVec 1 := Scalar.xori v46 v47
  let c0_i32_22 : BitVec 32 := 0#32
  let v45 : BitVec 1 := Scalar.cmpi .ne v44 c0_i32_22
  let v49 : BitVec 1 := Scalar.andi v48 v45
  let v50 : BitVec 32 := Scalar.addi v44 v43
  let v51 : BitVec 32 := Scalar.select v49 v50 v44
  let c256_i32 : BitVec 32 := 256#32
  let v52 : BitVec 32 := Scalar.muli v51 c256_i32
  let v53 : BitVec 32 := v52
  let c128_i32_145 : BitVec 32 := 128#32
  let v423 : BitVec 32 := Scalar.addi v53 c128_i32_145
  v423
def k0_mult130 (k0_t2 : Fin k0_t2_loop.trips) : BitVec 32 :=
  let c0_i32_10 : BitVec 32 := 0#32
  let c1_i32_11 : BitVec 32 := 1#32
  let arg8 : BitVec 32 := Scf.iv c0_i32_10 c1_i32_11 k0_t2
  let c3_i32_19 : BitVec 32 := 3#32
  let c0_i32_20 : BitVec 32 := 0#32
  let v42 : BitVec 1 := Scalar.cmpi .eq c3_i32_19 c0_i32_20
  let c1_i32_21 : BitVec 32 := 1#32
  let v43 : BitVec 32 := Scalar.select v42 c1_i32_21 c3_i32_19
  let v44 : BitVec 32 := Scalar.remsi arg8 v43
  let c0_i32_23 : BitVec 32 := 0#32
  let v46 : BitVec 1 := Scalar.cmpi .slt v44 c0_i32_23
  let c0_i32_24 : BitVec 32 := 0#32
  let v47 : BitVec 1 := Scalar.cmpi .slt v43 c0_i32_24
  let v48 : BitVec 1 := Scalar.xori v46 v47
  let c0_i32_22 : BitVec 32 := 0#32
  let v45 : BitVec 1 := Scalar.cmpi .ne v44 c0_i32_22
  let v49 : BitVec 1 := Scalar.andi v48 v45
  let v50 : BitVec 32 := Scalar.addi v44 v43
  let v51 : BitVec 32 := Scalar.select v49 v50 v44
  let c256_i32 : BitVec 32 := 256#32
  let v52 : BitVec 32 := Scalar.muli v51 c256_i32
  let v53 : BitVec 32 := v52
  let c128_i32_148 : BitVec 32 := 128#32
  let v430 : BitVec 32 := Scalar.addi v53 c128_i32_148
  v430
def k0_mult131 (k0_t2 : Fin k0_t2_loop.trips) : BitVec 32 :=
  let c0_i32_10 : BitVec 32 := 0#32
  let c1_i32_11 : BitVec 32 := 1#32
  let arg8 : BitVec 32 := Scf.iv c0_i32_10 c1_i32_11 k0_t2
  let c0_i32_13 : BitVec 32 := 0#32
  let v26 : BitVec 1 := Scalar.cmpi .sgt arg8 c0_i32_13
  let v27 : BitVec 32 := Scalar.extui v26
  let c0_i32_14 : BitVec 32 := 0#32
  let v28 : BitVec 1 := Scalar.cmpi .slt arg8 c0_i32_14
  let v29 : BitVec 32 := Scalar.extui v28
  let v30 : BitVec 32 := Scalar.subi v27 v29
  let c3_i32 : BitVec 32 := 3#32
  let c0_i32_15 : BitVec 32 := 0#32
  let v31 : BitVec 1 := Scalar.cmpi .sgt c3_i32 c0_i32_15
  let v32 : BitVec 32 := Scalar.extui v31
  let c0_i32_16 : BitVec 32 := 0#32
  let v33 : BitVec 1 := Scalar.cmpi .slt c3_i32 c0_i32_16
  let v34 : BitVec 32 := Scalar.extui v33
  let v35 : BitVec 32 := Scalar.subi v32 v34
  let v36 : BitVec 1 := Scalar.cmpi .ne v30 v35
  let v37 : BitVec 32 := Scalar.remsi arg8 c3_i32
  let c0_i32_17 : BitVec 32 := 0#32
  let v38 : BitVec 1 := Scalar.cmpi .ne v37 c0_i32_17
  let v39 : BitVec 1 := Scalar.andi v36 v38
  let v25 : BitVec 32 := Scalar.divsi arg8 c3_i32
  let c1_i32_18 : BitVec 32 := 1#32
  let v40 : BitVec 32 := Scalar.subi v25 c1_i32_18
  let v41 : BitVec 32 := Scalar.select v39 v40 v25
  let c128_i32_163 : BitVec 32 := 128#32
  let v454 : BitVec 32 := Scalar.muli v41 c128_i32_163
  v454
def k0_mult132 (k0_t2 : Fin k0_t2_loop.trips) : BitVec 32 :=
  let c0_i32_10 : BitVec 32 := 0#32
  let c1_i32_11 : BitVec 32 := 1#32
  let arg8 : BitVec 32 := Scf.iv c0_i32_10 c1_i32_11 k0_t2
  let c3_i32_19 : BitVec 32 := 3#32
  let c0_i32_20 : BitVec 32 := 0#32
  let v42 : BitVec 1 := Scalar.cmpi .eq c3_i32_19 c0_i32_20
  let c1_i32_21 : BitVec 32 := 1#32
  let v43 : BitVec 32 := Scalar.select v42 c1_i32_21 c3_i32_19
  let v44 : BitVec 32 := Scalar.remsi arg8 v43
  let c0_i32_23 : BitVec 32 := 0#32
  let v46 : BitVec 1 := Scalar.cmpi .slt v44 c0_i32_23
  let c0_i32_24 : BitVec 32 := 0#32
  let v47 : BitVec 1 := Scalar.cmpi .slt v43 c0_i32_24
  let v48 : BitVec 1 := Scalar.xori v46 v47
  let c0_i32_22 : BitVec 32 := 0#32
  let v45 : BitVec 1 := Scalar.cmpi .ne v44 c0_i32_22
  let v49 : BitVec 1 := Scalar.andi v48 v45
  let v50 : BitVec 32 := Scalar.addi v44 v43
  let v51 : BitVec 32 := Scalar.select v49 v50 v44
  let c256_i32 : BitVec 32 := 256#32
  let v52 : BitVec 32 := Scalar.muli v51 c256_i32
  let v53 : BitVec 32 := v52
  let c128_i32_165 : BitVec 32 := 128#32
  let v457 : BitVec 32 := Scalar.addi v53 c128_i32_165
  v457
def k0_mult133 (k0_t2 : Fin k0_t2_loop.trips) : BitVec 32 :=
  let c0_i32_10 : BitVec 32 := 0#32
  let c1_i32_11 : BitVec 32 := 1#32
  let arg8 : BitVec 32 := Scf.iv c0_i32_10 c1_i32_11 k0_t2
  let c0_i32_13 : BitVec 32 := 0#32
  let v26 : BitVec 1 := Scalar.cmpi .sgt arg8 c0_i32_13
  let v27 : BitVec 32 := Scalar.extui v26
  let c0_i32_14 : BitVec 32 := 0#32
  let v28 : BitVec 1 := Scalar.cmpi .slt arg8 c0_i32_14
  let v29 : BitVec 32 := Scalar.extui v28
  let v30 : BitVec 32 := Scalar.subi v27 v29
  let c3_i32 : BitVec 32 := 3#32
  let c0_i32_15 : BitVec 32 := 0#32
  let v31 : BitVec 1 := Scalar.cmpi .sgt c3_i32 c0_i32_15
  let v32 : BitVec 32 := Scalar.extui v31
  let c0_i32_16 : BitVec 32 := 0#32
  let v33 : BitVec 1 := Scalar.cmpi .slt c3_i32 c0_i32_16
  let v34 : BitVec 32 := Scalar.extui v33
  let v35 : BitVec 32 := Scalar.subi v32 v34
  let v36 : BitVec 1 := Scalar.cmpi .ne v30 v35
  let v37 : BitVec 32 := Scalar.remsi arg8 c3_i32
  let c0_i32_17 : BitVec 32 := 0#32
  let v38 : BitVec 1 := Scalar.cmpi .ne v37 c0_i32_17
  let v39 : BitVec 1 := Scalar.andi v36 v38
  let v25 : BitVec 32 := Scalar.divsi arg8 c3_i32
  let c1_i32_18 : BitVec 32 := 1#32
  let v40 : BitVec 32 := Scalar.subi v25 c1_i32_18
  let v41 : BitVec 32 := Scalar.select v39 v40 v25
  let c128_i32_166 : BitVec 32 := 128#32
  let v469 : BitVec 32 := Scalar.muli v41 c128_i32_166
  v469
def k0_mult134 (k0_t2 : Fin k0_t2_loop.trips) : BitVec 32 :=
  let c0_i32_10 : BitVec 32 := 0#32
  let c1_i32_11 : BitVec 32 := 1#32
  let arg8 : BitVec 32 := Scf.iv c0_i32_10 c1_i32_11 k0_t2
  let c3_i32_19 : BitVec 32 := 3#32
  let c0_i32_20 : BitVec 32 := 0#32
  let v42 : BitVec 1 := Scalar.cmpi .eq c3_i32_19 c0_i32_20
  let c1_i32_21 : BitVec 32 := 1#32
  let v43 : BitVec 32 := Scalar.select v42 c1_i32_21 c3_i32_19
  let v44 : BitVec 32 := Scalar.remsi arg8 v43
  let c0_i32_23 : BitVec 32 := 0#32
  let v46 : BitVec 1 := Scalar.cmpi .slt v44 c0_i32_23
  let c0_i32_24 : BitVec 32 := 0#32
  let v47 : BitVec 1 := Scalar.cmpi .slt v43 c0_i32_24
  let v48 : BitVec 1 := Scalar.xori v46 v47
  let c0_i32_22 : BitVec 32 := 0#32
  let v45 : BitVec 1 := Scalar.cmpi .ne v44 c0_i32_22
  let v49 : BitVec 1 := Scalar.andi v48 v45
  let v50 : BitVec 32 := Scalar.addi v44 v43
  let v51 : BitVec 32 := Scalar.select v49 v50 v44
  let c256_i32 : BitVec 32 := 256#32
  let v52 : BitVec 32 := Scalar.muli v51 c256_i32
  let v53 : BitVec 32 := v52
  let c128_i32_168 : BitVec 32 := 128#32
  let v472 : BitVec 32 := Scalar.addi v53 c128_i32_168
  v472
def k0_mult135 (k0_t2 : Fin k0_t2_loop.trips) : BitVec 32 :=
  let c0_i32_10 : BitVec 32 := 0#32
  let c1_i32_11 : BitVec 32 := 1#32
  let arg8 : BitVec 32 := Scf.iv c0_i32_10 c1_i32_11 k0_t2
  let c0_i32_13 : BitVec 32 := 0#32
  let v26 : BitVec 1 := Scalar.cmpi .sgt arg8 c0_i32_13
  let v27 : BitVec 32 := Scalar.extui v26
  let c0_i32_14 : BitVec 32 := 0#32
  let v28 : BitVec 1 := Scalar.cmpi .slt arg8 c0_i32_14
  let v29 : BitVec 32 := Scalar.extui v28
  let v30 : BitVec 32 := Scalar.subi v27 v29
  let c3_i32 : BitVec 32 := 3#32
  let c0_i32_15 : BitVec 32 := 0#32
  let v31 : BitVec 1 := Scalar.cmpi .sgt c3_i32 c0_i32_15
  let v32 : BitVec 32 := Scalar.extui v31
  let c0_i32_16 : BitVec 32 := 0#32
  let v33 : BitVec 1 := Scalar.cmpi .slt c3_i32 c0_i32_16
  let v34 : BitVec 32 := Scalar.extui v33
  let v35 : BitVec 32 := Scalar.subi v32 v34
  let v36 : BitVec 1 := Scalar.cmpi .ne v30 v35
  let v37 : BitVec 32 := Scalar.remsi arg8 c3_i32
  let c0_i32_17 : BitVec 32 := 0#32
  let v38 : BitVec 1 := Scalar.cmpi .ne v37 c0_i32_17
  let v39 : BitVec 1 := Scalar.andi v36 v38
  let v25 : BitVec 32 := Scalar.divsi arg8 c3_i32
  let c1_i32_18 : BitVec 32 := 1#32
  let v40 : BitVec 32 := Scalar.subi v25 c1_i32_18
  let v41 : BitVec 32 := Scalar.select v39 v40 v25
  let c128_i32_169 : BitVec 32 := 128#32
  let v484 : BitVec 32 := Scalar.muli v41 c128_i32_169
  v484
def k0_mult136 (k0_t2 : Fin k0_t2_loop.trips) : BitVec 32 :=
  let c0_i32_10 : BitVec 32 := 0#32
  let c1_i32_11 : BitVec 32 := 1#32
  let arg8 : BitVec 32 := Scf.iv c0_i32_10 c1_i32_11 k0_t2
  let c3_i32_19 : BitVec 32 := 3#32
  let c0_i32_20 : BitVec 32 := 0#32
  let v42 : BitVec 1 := Scalar.cmpi .eq c3_i32_19 c0_i32_20
  let c1_i32_21 : BitVec 32 := 1#32
  let v43 : BitVec 32 := Scalar.select v42 c1_i32_21 c3_i32_19
  let v44 : BitVec 32 := Scalar.remsi arg8 v43
  let c0_i32_23 : BitVec 32 := 0#32
  let v46 : BitVec 1 := Scalar.cmpi .slt v44 c0_i32_23
  let c0_i32_24 : BitVec 32 := 0#32
  let v47 : BitVec 1 := Scalar.cmpi .slt v43 c0_i32_24
  let v48 : BitVec 1 := Scalar.xori v46 v47
  let c0_i32_22 : BitVec 32 := 0#32
  let v45 : BitVec 1 := Scalar.cmpi .ne v44 c0_i32_22
  let v49 : BitVec 1 := Scalar.andi v48 v45
  let v50 : BitVec 32 := Scalar.addi v44 v43
  let v51 : BitVec 32 := Scalar.select v49 v50 v44
  let c256_i32 : BitVec 32 := 256#32
  let v52 : BitVec 32 := Scalar.muli v51 c256_i32
  let v53 : BitVec 32 := v52
  let c128_i32_171 : BitVec 32 := 128#32
  let v487 : BitVec 32 := Scalar.addi v53 c128_i32_171
  v487
def k0_mult137 (k0_t2 : Fin k0_t2_loop.trips) : BitVec 32 :=
  let c0_i32_10 : BitVec 32 := 0#32
  let c1_i32_11 : BitVec 32 := 1#32
  let arg8 : BitVec 32 := Scf.iv c0_i32_10 c1_i32_11 k0_t2
  let c0_i32_13 : BitVec 32 := 0#32
  let v26 : BitVec 1 := Scalar.cmpi .sgt arg8 c0_i32_13
  let v27 : BitVec 32 := Scalar.extui v26
  let c0_i32_14 : BitVec 32 := 0#32
  let v28 : BitVec 1 := Scalar.cmpi .slt arg8 c0_i32_14
  let v29 : BitVec 32 := Scalar.extui v28
  let v30 : BitVec 32 := Scalar.subi v27 v29
  let c3_i32 : BitVec 32 := 3#32
  let c0_i32_15 : BitVec 32 := 0#32
  let v31 : BitVec 1 := Scalar.cmpi .sgt c3_i32 c0_i32_15
  let v32 : BitVec 32 := Scalar.extui v31
  let c0_i32_16 : BitVec 32 := 0#32
  let v33 : BitVec 1 := Scalar.cmpi .slt c3_i32 c0_i32_16
  let v34 : BitVec 32 := Scalar.extui v33
  let v35 : BitVec 32 := Scalar.subi v32 v34
  let v36 : BitVec 1 := Scalar.cmpi .ne v30 v35
  let v37 : BitVec 32 := Scalar.remsi arg8 c3_i32
  let c0_i32_17 : BitVec 32 := 0#32
  let v38 : BitVec 1 := Scalar.cmpi .ne v37 c0_i32_17
  let v39 : BitVec 1 := Scalar.andi v36 v38
  let v25 : BitVec 32 := Scalar.divsi arg8 c3_i32
  let c1_i32_18 : BitVec 32 := 1#32
  let v40 : BitVec 32 := Scalar.subi v25 c1_i32_18
  let v41 : BitVec 32 := Scalar.select v39 v40 v25
  let c128_i32_172 : BitVec 32 := 128#32
  let v499 : BitVec 32 := Scalar.muli v41 c128_i32_172
  v499
def k0_mult138 (k0_t2 : Fin k0_t2_loop.trips) : BitVec 32 :=
  let c0_i32_10 : BitVec 32 := 0#32
  let c1_i32_11 : BitVec 32 := 1#32
  let arg8 : BitVec 32 := Scf.iv c0_i32_10 c1_i32_11 k0_t2
  let c3_i32_19 : BitVec 32 := 3#32
  let c0_i32_20 : BitVec 32 := 0#32
  let v42 : BitVec 1 := Scalar.cmpi .eq c3_i32_19 c0_i32_20
  let c1_i32_21 : BitVec 32 := 1#32
  let v43 : BitVec 32 := Scalar.select v42 c1_i32_21 c3_i32_19
  let v44 : BitVec 32 := Scalar.remsi arg8 v43
  let c0_i32_23 : BitVec 32 := 0#32
  let v46 : BitVec 1 := Scalar.cmpi .slt v44 c0_i32_23
  let c0_i32_24 : BitVec 32 := 0#32
  let v47 : BitVec 1 := Scalar.cmpi .slt v43 c0_i32_24
  let v48 : BitVec 1 := Scalar.xori v46 v47
  let c0_i32_22 : BitVec 32 := 0#32
  let v45 : BitVec 1 := Scalar.cmpi .ne v44 c0_i32_22
  let v49 : BitVec 1 := Scalar.andi v48 v45
  let v50 : BitVec 32 := Scalar.addi v44 v43
  let v51 : BitVec 32 := Scalar.select v49 v50 v44
  let c256_i32 : BitVec 32 := 256#32
  let v52 : BitVec 32 := Scalar.muli v51 c256_i32
  let v53 : BitVec 32 := v52
  let c128_i32_174 : BitVec 32 := 128#32
  let v502 : BitVec 32 := Scalar.addi v53 c128_i32_174
  v502
def k0_mult139 (k0_t2 : Fin k0_t2_loop.trips) : BitVec 32 :=
  let c0_i32_10 : BitVec 32 := 0#32
  let c1_i32_11 : BitVec 32 := 1#32
  let arg8 : BitVec 32 := Scf.iv c0_i32_10 c1_i32_11 k0_t2
  let c160_i32 : BitVec 32 := 160#32
  let v510 : BitVec 32 := Scalar.muli arg8 c160_i32
  v510
def k0_off7 (k0_t2 : Fin k0_t2_loop.trips) : Fin 2 → Nat :=
  let c0_i32_10 : BitVec 32 := 0#32
  let c1_i32_11 : BitVec 32 := 1#32
  let arg8 : BitVec 32 := Scf.iv c0_i32_10 c1_i32_11 k0_t2
  let c160_i32 : BitVec 32 := 160#32
  let v510 : BitVec 32 := Scalar.muli arg8 c160_i32
  let v511 : BitVec 32 := v510
  let v512 : Index := Scalar.indexCast v511
  let c0_175 : Index := 0#32
  ![v512.toNat, 0]
def k0_off8 (i : grid0.Coords) : Fin 3 → Nat :=
  let c1_i32_176 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v515 : BitVec 32 := Scalar.subi c1_i32_176 v9
  let v516 : Index := Scalar.indexCast v515
  let c0_177 : Index := 0#32
  let c0_178 : Index := 0#32
  ![v516.toNat, 0, 0]
def k0_mult140 (k0_t2 : Fin k0_t2_loop.trips) : BitVec 32 :=
  let c0_i32_10 : BitVec 32 := 0#32
  let c1_i32_11 : BitVec 32 := 1#32
  let arg8 : BitVec 32 := Scf.iv c0_i32_10 c1_i32_11 k0_t2
  let c320_i32 : BitVec 32 := 320#32
  let v521 : BitVec 32 := Scalar.muli arg8 c320_i32
  v521
def k0_off9 (k0_t2 : Fin k0_t2_loop.trips) : Fin 2 → Nat :=
  let c0_i32_10 : BitVec 32 := 0#32
  let c1_i32_11 : BitVec 32 := 1#32
  let arg8 : BitVec 32 := Scf.iv c0_i32_10 c1_i32_11 k0_t2
  let c320_i32 : BitVec 32 := 320#32
  let v521 : BitVec 32 := Scalar.muli arg8 c320_i32
  let v522 : BitVec 32 := v521
  let v523 : Index := Scalar.indexCast v522
  let c0_180 : Index := 0#32
  ![v523.toNat, 0]
def k0_cond3 (i : grid0.Coords) : BitVec 1 :=
  let arg0 : BitVec 32 := BitVec.ofNat 32 (i 0).val
  let c11_i32_8 : BitVec 32 := 11#32
  let v21 : BitVec 1 := Scalar.cmpi .eq arg0 c11_i32_8
  let v22 : BitVec 32 := Scalar.extui v21
  let c0_i32_9 : BitVec 32 := 0#32
  let v23 : BitVec 1 := Scalar.cmpi .ne v22 c0_i32_9
  v23

@[reducible] def k0_t3_loop : Scf.Loop 32 :=
  let c0_i32_10 : BitVec 32 := 0#32
  let c9_i32 : BitVec 32 := 9#32
  let v24 : BitVec 32 := Scalar.addi c0_i32_10 c9_i32
  let c1_i32_11 : BitVec 32 := 1#32
  ⟨c0_i32_10, v24, c1_i32_11⟩
def k0_mult141 (k0_t3 : Fin k0_t3_loop.trips) : BitVec 32 :=
  let c0_i32_10 : BitVec 32 := 0#32
  let c1_i32_11 : BitVec 32 := 1#32
  let arg8 : BitVec 32 := Scf.iv c0_i32_10 c1_i32_11 k0_t3
  let c160_i32 : BitVec 32 := 160#32
  let v25 : BitVec 32 := Scalar.muli arg8 c160_i32
  v25
def k0_off10 (k0_t3 : Fin k0_t3_loop.trips) : Fin 2 → Nat :=
  let c0_i32_10 : BitVec 32 := 0#32
  let c1_i32_11 : BitVec 32 := 1#32
  let arg8 : BitVec 32 := Scf.iv c0_i32_10 c1_i32_11 k0_t3
  let c160_i32 : BitVec 32 := 160#32
  let v25 : BitVec 32 := Scalar.muli arg8 c160_i32
  let v26 : BitVec 32 := v25
  let v27 : Index := Scalar.indexCast v26
  let c0_13 : Index := 0#32
  ![v27.toNat, 0]
def k0_off11 (i : grid0.Coords) : Fin 3 → Nat :=
  let c1_i32_14 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v30 : BitVec 32 := Scalar.subi c1_i32_14 v9
  let v31 : Index := Scalar.indexCast v30
  let c0_15 : Index := 0#32
  let c0_16 : Index := 0#32
  ![v31.toNat, 0, 0]
def k0_mult142 (k0_t3 : Fin k0_t3_loop.trips) : BitVec 32 :=
  let c0_i32_10 : BitVec 32 := 0#32
  let c1_i32_11 : BitVec 32 := 1#32
  let arg8 : BitVec 32 := Scf.iv c0_i32_10 c1_i32_11 k0_t3
  let c320_i32 : BitVec 32 := 320#32
  let v36 : BitVec 32 := Scalar.muli arg8 c320_i32
  v36
def k0_off12 (k0_t3 : Fin k0_t3_loop.trips) : Fin 2 → Nat :=
  let c0_i32_10 : BitVec 32 := 0#32
  let c1_i32_11 : BitVec 32 := 1#32
  let arg8 : BitVec 32 := Scf.iv c0_i32_10 c1_i32_11 k0_t3
  let c320_i32 : BitVec 32 := 320#32
  let v36 : BitVec 32 := Scalar.muli arg8 c320_i32
  let v37 : BitVec 32 := v36
  let v38 : Index := Scalar.indexCast v37
  let c0_17 : Index := 0#32
  ![v38.toNat, 0]
def cc0_transform_0 (i : grid0.Coords) : Fin 2 → Nat :=
  let arg0 : BitVec 32 := BitVec.ofNat 32 (i 0).val
  let c10_i32 : BitVec 32 := 10#32
  let v0 : BitVec 32 := Scalar.minsi arg0 c10_i32
  let c0_i32 : BitVec 32 := 0#32
  let c0_i32_0 : BitVec 32 := 0#32
  ![c0_i32.toNat, v0.toNat]

def cc0_transform_1 (i : grid0.Coords) : Fin 3 → Nat :=
  let arg0 : BitVec 32 := BitVec.ofNat 32 (i 0).val
  let c10_i32 : BitVec 32 := 10#32
  let v0 : BitVec 32 := Scalar.minsi arg0 c10_i32
  let c0_i32 : BitVec 32 := 0#32
  let c0_i32_0 : BitVec 32 := 0#32
  let c0_i32_1 : BitVec 32 := 0#32
  ![c0_i32.toNat, c0_i32_0.toNat, v0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  ![c0_i32_0.toNat, v1.toNat]

abbrev stage0_0 : Fin 2 → Memref sig .tc .vmem S192x768 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S6x8x768 .fp8e4m3 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1440x768 .i32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S2880x768 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== DwIdeal.lean ====
abbrev S192x8448 : Shape := ⟨2, ![192, 8448]⟩
abbrev S6x8x8448 : Shape := ⟨3, ![6, 8, 8448]⟩
abbrev S1x1 : Shape := ⟨2, ![1, 1]⟩
abbrev S1440x768 : Shape := ⟨2, ![1440, 768]⟩
abbrev S2880x8448 : Shape := ⟨2, ![2880, 8448]⟩
abbrev S192x768 : Shape := ⟨2, ![192, 768]⟩
abbrev S6x8x768 : Shape := ⟨3, ![6, 8, 768]⟩
abbrev S2880x768 : Shape := ⟨2, ![2880, 768]⟩
abbrev S2x384x768 : Shape := ⟨3, ![2, 384, 768]⟩
abbrev S2x384x2x768 : Shape := ⟨4, ![2, 384, 2, 768]⟩
abbrev S2x384x1x768 : Shape := ⟨4, ![2, 384, 1, 768]⟩
abbrev S2x2x16x128 : Shape := ⟨4, ![2, 2, 16, 128]⟩
abbrev S2x2x16x2x128 : Shape := ⟨5, ![2, 2, 16, 2, 128]⟩
abbrev S2x2x16x1x128 : Shape := ⟨5, ![2, 2, 16, 1, 128]⟩
abbrev S8x128 : Shape := ⟨2, ![8, 128]⟩
abbrev S1x8x128 : Shape := ⟨3, ![1, 8, 128]⟩
abbrev S1x1x8x128 : Shape := ⟨4, ![1, 1, 8, 128]⟩
abbrev S1x1x8x2x128 : Shape := ⟨5, ![1, 1, 8, 2, 128]⟩
abbrev S1x1x8x1x128 : Shape := ⟨5, ![1, 1, 8, 1, 128]⟩
abbrev S1x1x16x128 : Shape := ⟨4, ![1, 1, 16, 128]⟩
abbrev S1x1x16x2x128 : Shape := ⟨5, ![1, 1, 16, 2, 128]⟩
abbrev S1x1x16x1x128 : Shape := ⟨5, ![1, 1, 16, 1, 128]⟩
abbrev S16x128 : Shape := ⟨2, ![16, 128]⟩
abbrev S32x128 : Shape := ⟨2, ![32, 128]⟩
abbrev S1x16x128 : Shape := ⟨3, ![1, 16, 128]⟩
abbrev S1x16x2x128 : Shape := ⟨4, ![1, 16, 2, 128]⟩
abbrev S1x16x1x128 : Shape := ⟨4, ![1, 16, 1, 128]⟩
abbrev S160x768 : Shape := ⟨2, ![160, 768]⟩
abbrev S320x768 : Shape := ⟨2, ![320, 768]⟩
abbrev S1x384x768 : Shape := ⟨3, ![1, 384, 768]⟩
abbrev S1x384x2x768 : Shape := ⟨4, ![1, 384, 2, 768]⟩
abbrev S1x384x1x768 : Shape := ⟨4, ![1, 384, 1, 768]⟩
abbrev S384x768 : Shape := ⟨2, ![384, 768]⟩
abbrev S768x768 : Shape := ⟨2, ![768, 768]⟩

abbrev nBuf : Space → Nat
  | .hbm => 5
  | .vmem => 10
  | .smem => 0
  | _ => 0

abbrev bufTy : (tb : Table) → Fin (tcTables nBuf tb) → BufTy
  | .hbm, ⟨0, _⟩ => ⟨S192x8448, .i32⟩
  | .hbm, ⟨1, _⟩ => ⟨S6x8x8448, .fp8e4m3⟩
  | .hbm, ⟨2, _⟩ => ⟨S1x1, .f32⟩
  | .hbm, ⟨3, _⟩ => ⟨S1440x768, .i32⟩
  | .hbm, ⟨4, _⟩ => ⟨S2880x8448, .f32⟩
  | .local _ .vmem, ⟨0, _⟩ => ⟨S192x768, .i32⟩
  | .local _ .vmem, ⟨1, _⟩ => ⟨S192x768, .i32⟩
  | .local _ .vmem, ⟨2, _⟩ => ⟨S6x8x768, .fp8e4m3⟩
  | .local _ .vmem, ⟨3, _⟩ => ⟨S6x8x768, .fp8e4m3⟩
  | .local _ .vmem, ⟨4, _⟩ => ⟨S1x1, .f32⟩
  | .local _ .vmem, ⟨5, _⟩ => ⟨S1440x768, .i32⟩
  | .local _ .vmem, ⟨6, _⟩ => ⟨S2880x768, .f32⟩
  | .local _ .vmem, ⟨7, _⟩ => ⟨S2880x768, .f32⟩
  | .local _ .vmem, ⟨8, _⟩ => ⟨S2x384x2x768, .bf16⟩
  | .local _ .vmem, ⟨9, _⟩ => ⟨S2x2x16x2x128, .bf16⟩
  | _, _ => ⟨S192x8448, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_scratch0 : Ref sig .tc := ⟨.vmem, 8, rfl⟩
abbrev cc0_scratch1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![12], ![false]⟩

def k0_cond1 (i : grid0.Coords) : BitVec 1 :=
  let arg0 : BitVec 32 := BitVec.ofNat 32 (i 0).val
  let c0_i32_4 : BitVec 32 := 0#32
  let v13 : BitVec 1 := Scalar.cmpi .eq arg0 c0_i32_4
  let v14 : BitVec 32 := Scalar.extui v13
  let c0_i32_5 : BitVec 32 := 0#32
  let v15 : BitVec 1 := Scalar.cmpi .ne v14 c0_i32_5
  v15

@[reducible] def k0_t1_loop : Scf.Loop 32 :=
  let c0_i32_10 : BitVec 32 := 0#32
  let c9_i32 : BitVec 32 := 9#32
  let v24 : BitVec 32 := Scalar.addi c0_i32_10 c9_i32
  let c1_i32_11 : BitVec 32 := 1#32
  ⟨c0_i32_10, v24, c1_i32_11⟩
def k0_mult1 (k0_t1 : Fin k0_t1_loop.trips) : BitVec 32 :=
  let c0_i32_10 : BitVec 32 := 0#32
  let c1_i32_11 : BitVec 32 := 1#32
  let arg8 : BitVec 32 := Scf.iv c0_i32_10 c1_i32_11 k0_t1
  let c3_i32_19 : BitVec 32 := 3#32
  let c0_i32_20 : BitVec 32 := 0#32
  let v42 : BitVec 1 := Scalar.cmpi .eq c3_i32_19 c0_i32_20
  let c1_i32_21 : BitVec 32 := 1#32
  let v43 : BitVec 32 := Scalar.select v42 c1_i32_21 c3_i32_19
  let v44 : BitVec 32 := Scalar.remsi arg8 v43
  let c0_i32_23 : BitVec 32 := 0#32
  let v46 : BitVec 1 := Scalar.cmpi .slt v44 c0_i32_23
  let c0_i32_24 : BitVec 32 := 0#32
  let v47 : BitVec 1 := Scalar.cmpi .slt v43 c0_i32_24
  let v48 : BitVec 1 := Scalar.xori v46 v47
  let c0_i32_22 : BitVec 32 := 0#32
  let v45 : BitVec 1 := Scalar.cmpi .ne v44 c0_i32_22
  let v49 : BitVec 1 := Scalar.andi v48 v45
  let v50 : BitVec 32 := Scalar.addi v44 v43
  let v51 : BitVec 32 := Scalar.select v49 v50 v44
  let c256_i32 : BitVec 32 := 256#32
  let v52 : BitVec 32 := Scalar.muli v51 c256_i32
  v52
def k0_mult2 (k0_t1 : Fin k0_t1_loop.trips) : BitVec 32 :=
  let c0_i32_10 : BitVec 32 := 0#32
  let c1_i32_11 : BitVec 32 := 1#32
  let arg8 : BitVec 32 := Scf.iv c0_i32_10 c1_i32_11 k0_t1
  let c0_i32_13 : BitVec 32 := 0#32
  let v26 : BitVec 1 := Scalar.cmpi .sgt arg8 c0_i32_13
  let v27 : BitVec 32 := Scalar.extui v26
  let c0_i32_14 : BitVec 32 := 0#32
  let v28 : BitVec 1 := Scalar.cmpi .slt arg8 c0_i32_14
  let v29 : BitVec 32 := Scalar.extui v28
  let v30 : BitVec 32 := Scalar.subi v27 v29
  let c3_i32 : BitVec 32 := 3#32
  let c0_i32_15 : BitVec 32 := 0#32
  let v31 : BitVec 1 := Scalar.cmpi .sgt c3_i32 c0_i32_15
  let v32 : BitVec 32 := Scalar.extui v31
  let c0_i32_16 : BitVec 32 := 0#32
  let v33 : BitVec 1 := Scalar.cmpi .slt c3_i32 c0_i32_16
  let v34 : BitVec 32 := Scalar.extui v33
  let v35 : BitVec 32 := Scalar.subi v32 v34
  let v36 : BitVec 1 := Scalar.cmpi .ne v30 v35
  let v37 : BitVec 32 := Scalar.remsi arg8 c3_i32
  let c0_i32_17 : BitVec 32 := 0#32
  let v38 : BitVec 1 := Scalar.cmpi .ne v37 c0_i32_17
  let v39 : BitVec 1 := Scalar.andi v36 v38
  let v25 : BitVec 32 := Scalar.divsi arg8 c3_i32
  let c1_i32_18 : BitVec 32 := 1#32
  let v40 : BitVec 32 := Scalar.subi v25 c1_i32_18
  let v41 : BitVec 32 := Scalar.select v39 v40 v25
  let c64_i32 : BitVec 32 := 64#32
  let v54 : BitVec 32 := Scalar.muli v41 c64_i32
  v54
def k0_mult3 (k0_t1 : Fin k0_t1_loop.trips) : BitVec 32 :=
  let c0_i32_10 : BitVec 32 := 0#32
  let c1_i32_11 : BitVec 32 := 1#32
  let arg8 : BitVec 32 := Scf.iv c0_i32_10 c1_i32_11 k0_t1
  let c3_i32_19 : BitVec 32 := 3#32
  let c0_i32_20 : BitVec 32 := 0#32
  let v42 : BitVec 1 := Scalar.cmpi .eq c3_i32_19 c0_i32_20
  let c1_i32_21 : BitVec 32 := 1#32
  let v43 : BitVec 32 := Scalar.select v42 c1_i32_21 c3_i32_19
  let v44 : BitVec 32 := Scalar.remsi arg8 v43
  let c0_i32_23 : BitVec 32 := 0#32
  let v46 : BitVec 1 := Scalar.cmpi .slt v44 c0_i32_23
  let c0_i32_24 : BitVec 32 := 0#32
  let v47 : BitVec 1 := Scalar.cmpi .slt v43 c0_i32_24
  let v48 : BitVec 1 := Scalar.xori v46 v47
  let c0_i32_22 : BitVec 32 := 0#32
  let v45 : BitVec 1 := Scalar.cmpi .ne v44 c0_i32_22
  let v49 : BitVec 1 := Scalar.andi v48 v45
  let v50 : BitVec 32 := Scalar.addi v44 v43
  let v51 : BitVec 32 := Scalar.select v49 v50 v44
  let c256_i32 : BitVec 32 := 256#32
  let v52 : BitVec 32 := Scalar.muli v51 c256_i32
  let v53 : BitVec 32 := v52
  let c0_i32_26 : BitVec 32 := 0#32
  let v57 : BitVec 32 := Scalar.addi v53 c0_i32_26
  v57
def k0_off1 (k0_t1 : Fin k0_t1_loop.trips) (c0_i32_25 : BitVec 32) (c0_i32_26 : BitVec 32) : Fin 2 → Nat :=
  let c0_i32_10 : BitVec 32 := 0#32
  let c1_i32_11 : BitVec 32 := 1#32
  let arg8 : BitVec 32 := Scf.iv c0_i32_10 c1_i32_11 k0_t1
  let c0_i32_13 : BitVec 32 := 0#32
  let v26 : BitVec 1 := Scalar.cmpi .sgt arg8 c0_i32_13
  let v27 : BitVec 32 := Scalar.extui v26
  let c0_i32_14 : BitVec 32 := 0#32
  let v28 : BitVec 1 := Scalar.cmpi .slt arg8 c0_i32_14
  let v29 : BitVec 32 := Scalar.extui v28
  let v30 : BitVec 32 := Scalar.subi v27 v29
  let c3_i32 : BitVec 32 := 3#32
  let c0_i32_15 : BitVec 32 := 0#32
  let v31 : BitVec 1 := Scalar.cmpi .sgt c3_i32 c0_i32_15
  let v32 : BitVec 32 := Scalar.extui v31
  let c0_i32_16 : BitVec 32 := 0#32
  let v33 : BitVec 1 := Scalar.cmpi .slt c3_i32 c0_i32_16
  let v34 : BitVec 32 := Scalar.extui v33
  let v35 : BitVec 32 := Scalar.subi v32 v34
  let v36 : BitVec 1 := Scalar.cmpi .ne v30 v35
  let v37 : BitVec 32 := Scalar.remsi arg8 c3_i32
  let c0_i32_17 : BitVec 32 := 0#32
  let v38 : BitVec 1 := Scalar.cmpi .ne v37 c0_i32_17
  let v39 : BitVec 1 := Scalar.andi v36 v38
  let v25 : BitVec 32 := Scalar.divsi arg8 c3_i32
  let c1_i32_18 : BitVec 32 := 1#32
  let v40 : BitVec 32 := Scalar.subi v25 c1_i32_18
  let v41 : BitVec 32 := Scalar.select v39 v40 v25
  let c64_i32 : BitVec 32 := 64#32
  let v54 : BitVec 32 := Scalar.muli v41 c64_i32
  let v55 : BitVec 32 := v54
  let v56 : BitVec 32 := Scalar.addi v55 c0_i32_25
  let v59 : Index := Scalar.indexCast v56
  let c3_i32_19 : BitVec 32 := 3#32
  let c0_i32_20 : BitVec 32 := 0#32
  let v42 : BitVec 1 := Scalar.cmpi .eq c3_i32_19 c0_i32_20
  let c1_i32_21 : BitVec 32 := 1#32
  let v43 : BitVec 32 := Scalar.select v42 c1_i32_21 c3_i32_19
  let v44 : BitVec 32 := Scalar.remsi arg8 v43
  let c0_i32_23 : BitVec 32 := 0#32
  let v46 : BitVec 1 := Scalar.cmpi .slt v44 c0_i32_23
  let c0_i32_24 : BitVec 32 := 0#32
  let v47 : BitVec 1 := Scalar.cmpi .slt v43 c0_i32_24
  let v48 : BitVec 1 := Scalar.xori v46 v47
  let c0_i32_22 : BitVec 32 := 0#32
  let v45 : BitVec 1 := Scalar.cmpi .ne v44 c0_i32_22
  let v49 : BitVec 1 := Scalar.andi v48 v45
  let v50 : BitVec 32 := Scalar.addi v44 v43
  let v51 : BitVec 32 := Scalar.select v49 v50 v44
  let c256_i32 : BitVec 32 := 256#32
  let v52 : BitVec 32 := Scalar.muli v51 c256_i32
  let v53 : BitVec 32 := v52
  let v57 : BitVec 32 := Scalar.addi v53 c0_i32_26
  let v58 : BitVec 32 := v57
  let v60 : Index := Scalar.indexCast v58
  ![v59.toNat, v60.toNat]
def k0_mult4 (k0_t1 : Fin k0_t1_loop.trips) : BitVec 32 :=
  let c0_i32_10 : BitVec 32 := 0#32
  let c1_i32_11 : BitVec 32 := 1#32
  let arg8 : BitVec 32 := Scf.iv c0_i32_10 c1_i32_11 k0_t1
  let c0_i32_13 : BitVec 32 := 0#32
  let v26 : BitVec 1 := Scalar.cmpi .sgt arg8 c0_i32_13
  let v27 : BitVec 32 := Scalar.extui v26
  let c0_i32_14 : BitVec 32 := 0#32
  let v28 : BitVec 1 := Scalar.cmpi .slt arg8 c0_i32_14
  let v29 : BitVec 32 := Scalar.extui v28
  let v30 : BitVec 32 := Scalar.subi v27 v29
  let c3_i32 : BitVec 32 := 3#32
  let c0_i32_15 : BitVec 32 := 0#32
  let v31 : BitVec 1 := Scalar.cmpi .sgt c3_i32 c0_i32_15
  let v32 : BitVec 32 := Scalar.extui v31
  let c0_i32_16 : BitVec 32 := 0#32
  let v33 : BitVec 1 := Scalar.cmpi .slt c3_i32 c0_i32_16
  let v34 : BitVec 32 := Scalar.extui v33
  let v35 : BitVec 32 := Scalar.subi v32 v34
  let v36 : BitVec 1 := Scalar.cmpi .ne v30 v35
  let v37 : BitVec 32 := Scalar.remsi arg8 c3_i32
  let c0_i32_17 : BitVec 32 := 0#32
  let v38 : BitVec 1 := Scalar.cmpi .ne v37 c0_i32_17
  let v39 : BitVec 1 := Scalar.andi v36 v38
  let v25 : BitVec 32 := Scalar.divsi arg8 c3_i32
  let c1_i32_18 : BitVec 32 := 1#32
  let v40 : BitVec 32 := Scalar.subi v25 c1_i32_18
  let v41 : BitVec 32 := Scalar.select v39 v40 v25
  let c64_i32_27 : BitVec 32 := 64#32
  let v62 : BitVec 32 := Scalar.muli v41 c64_i32_27
  v62
def k0_mult5 (k0_t1 : Fin k0_t1_loop.trips) : BitVec 32 :=
  let c0_i32_10 : BitVec 32 := 0#32
  let c1_i32_11 : BitVec 32 := 1#32
  let arg8 : BitVec 32 := Scf.iv c0_i32_10 c1_i32_11 k0_t1
  let c3_i32_19 : BitVec 32 := 3#32
  let c0_i32_20 : BitVec 32 := 0#32
  let v42 : BitVec 1 := Scalar.cmpi .eq c3_i32_19 c0_i32_20
  let c1_i32_21 : BitVec 32 := 1#32
  let v43 : BitVec 32 := Scalar.select v42 c1_i32_21 c3_i32_19
  let v44 : BitVec 32 := Scalar.remsi arg8 v43
  let c0_i32_23 : BitVec 32 := 0#32
  let v46 : BitVec 1 := Scalar.cmpi .slt v44 c0_i32_23
  let c0_i32_24 : BitVec 32 := 0#32
  let v47 : BitVec 1 := Scalar.cmpi .slt v43 c0_i32_24
  let v48 : BitVec 1 := Scalar.xori v46 v47
  let c0_i32_22 : BitVec 32 := 0#32
  let v45 : BitVec 1 := Scalar.cmpi .ne v44 c0_i32_22
  let v49 : BitVec 1 := Scalar.andi v48 v45
  let v50 : BitVec 32 := Scalar.addi v44 v43
  let v51 : BitVec 32 := Scalar.select v49 v50 v44
  let c256_i32 : BitVec 32 := 256#32
  let v52 : BitVec 32 := Scalar.muli v51 c256_i32
  let v53 : BitVec 32 := v52
  let c0_i32_28 : BitVec 32 := 0#32
  let v65 : BitVec 32 := Scalar.addi v53 c0_i32_28
  v65
def k0_mult6 (k0_t1 : Fin k0_t1_loop.trips) : BitVec 32 :=
  let c0_i32_10 : BitVec 32 := 0#32
  let c1_i32_11 : BitVec 32 := 1#32
  let arg8 : BitVec 32 := Scf.iv c0_i32_10 c1_i32_11 k0_t1
  let c0_i32_13 : BitVec 32 := 0#32
  let v26 : BitVec 1 := Scalar.cmpi .sgt arg8 c0_i32_13
  let v27 : BitVec 32 := Scalar.extui v26
  let c0_i32_14 : BitVec 32 := 0#32
  let v28 : BitVec 1 := Scalar.cmpi .slt arg8 c0_i32_14
  let v29 : BitVec 32 := Scalar.extui v28
  let v30 : BitVec 32 := Scalar.subi v27 v29
  let c3_i32 : BitVec 32 := 3#32
  let c0_i32_15 : BitVec 32 := 0#32
  let v31 : BitVec 1 := Scalar.cmpi .sgt c3_i32 c0_i32_15
  let v32 : BitVec 32 := Scalar.extui v31
  let c0_i32_16 : BitVec 32 := 0#32
  let v33 : BitVec 1 := Scalar.cmpi .slt c3_i32 c0_i32_16
  let v34 : BitVec 32 := Scalar.extui v33
  let v35 : BitVec 32 := Scalar.subi v32 v34
  let v36 : BitVec 1 := Scalar.cmpi .ne v30 v35
  let v37 : BitVec 32 := Scalar.remsi arg8 c3_i32
  let c0_i32_17 : BitVec 32 := 0#32
  let v38 : BitVec 1 := Scalar.cmpi .ne v37 c0_i32_17
  let v39 : BitVec 1 := Scalar.andi v36 v38
  let v25 : BitVec 32 := Scalar.divsi arg8 c3_i32
  let c1_i32_18 : BitVec 32 := 1#32
  let v40 : BitVec 32 := Scalar.subi v25 c1_i32_18
  let v41 : BitVec 32 := Scalar.select v39 v40 v25
  let c64_i32_29 : BitVec 32 := 64#32
  let v70 : BitVec 32 := Scalar.muli v41 c64_i32_29
  v70
def k0_mult7 (k0_t1 : Fin k0_t1_loop.trips) : BitVec 32 :=
  let c0_i32_10 : BitVec 32 := 0#32
  let c1_i32_11 : BitVec 32 := 1#32
  let arg8 : BitVec 32 := Scf.iv c0_i32_10 c1_i32_11 k0_t1
  let c3_i32_19 : BitVec 32 := 3#32
  let c0_i32_20 : BitVec 32 := 0#32
  let v42 : BitVec 1 := Scalar.cmpi .eq c3_i32_19 c0_i32_20
  let c1_i32_21 : BitVec 32 := 1#32
  let v43 : BitVec 32 := Scalar.select v42 c1_i32_21 c3_i32_19
  let v44 : BitVec 32 := Scalar.remsi arg8 v43
  let c0_i32_23 : BitVec 32 := 0#32
  let v46 : BitVec 1 := Scalar.cmpi .slt v44 c0_i32_23
  let c0_i32_24 : BitVec 32 := 0#32
  let v47 : BitVec 1 := Scalar.cmpi .slt v43 c0_i32_24
  let v48 : BitVec 1 := Scalar.xori v46 v47
  let c0_i32_22 : BitVec 32 := 0#32
  let v45 : BitVec 1 := Scalar.cmpi .ne v44 c0_i32_22
  let v49 : BitVec 1 := Scalar.andi v48 v45
  let v50 : BitVec 32 := Scalar.addi v44 v43
  let v51 : BitVec 32 := Scalar.select v49 v50 v44
  let c256_i32 : BitVec 32 := 256#32
  let v52 : BitVec 32 := Scalar.muli v51 c256_i32
  let v53 : BitVec 32 := v52
  let c0_i32_30 : BitVec 32 := 0#32
  let v73 : BitVec 32 := Scalar.addi v53 c0_i32_30
  v73
def k0_mult8 (k0_t1 : Fin k0_t1_loop.trips) : BitVec 32 :=
  let c0_i32_10 : BitVec 32 := 0#32
  let c1_i32_11 : BitVec 32 := 1#32
  let arg8 : BitVec 32 := Scf.iv c0_i32_10 c1_i32_11 k0_t1
  let c0_i32_13 : BitVec 32 := 0#32
  let v26 : BitVec 1 := Scalar.cmpi .sgt arg8 c0_i32_13
  let v27 : BitVec 32 := Scalar.extui v26
  let c0_i32_14 : BitVec 32 := 0#32
  let v28 : BitVec 1 := Scalar.cmpi .slt arg8 c0_i32_14
  let v29 : BitVec 32 := Scalar.extui v28
  let v30 : BitVec 32 := Scalar.subi v27 v29
  let c3_i32 : BitVec 32 := 3#32
  let c0_i32_15 : BitVec 32 := 0#32
  let v31 : BitVec 1 := Scalar.cmpi .sgt c3_i32 c0_i32_15
  let v32 : BitVec 32 := Scalar.extui v31
  let c0_i32_16 : BitVec 32 := 0#32
  let v33 : BitVec 1 := Scalar.cmpi .slt c3_i32 c0_i32_16
  let v34 : BitVec 32 := Scalar.extui v33
  let v35 : BitVec 32 := Scalar.subi v32 v34
  let v36 : BitVec 1 := Scalar.cmpi .ne v30 v35
  let v37 : BitVec 32 := Scalar.remsi arg8 c3_i32
  let c0_i32_17 : BitVec 32 := 0#32
  let v38 : BitVec 1 := Scalar.cmpi .ne v37 c0_i32_17
  let v39 : BitVec 1 := Scalar.andi v36 v38
  let v25 : BitVec 32 := Scalar.divsi arg8 c3_i32
  let c1_i32_18 : BitVec 32 := 1#32
  let v40 : BitVec 32 := Scalar.subi v25 c1_i32_18
  let v41 : BitVec 32 := Scalar.select v39 v40 v25
  let c64_i32_31 : BitVec 32 := 64#32
  let v78 : BitVec 32 := Scalar.muli v41 c64_i32_31
  v78
def k0_mult9 (k0_t1 : Fin k0_t1_loop.trips) : BitVec 32 :=
  let c0_i32_10 : BitVec 32 := 0#32
  let c1_i32_11 : BitVec 32 := 1#32
  let arg8 : BitVec 32 := Scf.iv c0_i32_10 c1_i32_11 k0_t1
  let c3_i32_19 : BitVec 32 := 3#32
  let c0_i32_20 : BitVec 32 := 0#32
  let v42 : BitVec 1 := Scalar.cmpi .eq c3_i32_19 c0_i32_20
  let c1_i32_21 : BitVec 32 := 1#32
  let v43 : BitVec 32 := Scalar.select v42 c1_i32_21 c3_i32_19
  let v44 : BitVec 32 := Scalar.remsi arg8 v43
  let c0_i32_23 : BitVec 32 := 0#32
  let v46 : BitVec 1 := Scalar.cmpi .slt v44 c0_i32_23
  let c0_i32_24 : BitVec 32 := 0#32
  let v47 : BitVec 1 := Scalar.cmpi .slt v43 c0_i32_24
  let v48 : BitVec 1 := Scalar.xori v46 v47
  let c0_i32_22 : BitVec 32 := 0#32
  let v45 : BitVec 1 := Scalar.cmpi .ne v44 c0_i32_22
  let v49 : BitVec 1 := Scalar.andi v48 v45
  let v50 : BitVec 32 := Scalar.addi v44 v43
  let v51 : BitVec 32 := Scalar.select v49 v50 v44
  let c256_i32 : BitVec 32 := 256#32
  let v52 : BitVec 32 := Scalar.muli v51 c256_i32
  let v53 : BitVec 32 := v52
  let c0_i32_32 : BitVec 32 := 0#32
  let v81 : BitVec 32 := Scalar.addi v53 c0_i32_32
  v81
def k0_mult10 (k0_t1 : Fin k0_t1_loop.trips) : BitVec 32 :=
  let c0_i32_10 : BitVec 32 := 0#32
  let c1_i32_11 : BitVec 32 := 1#32
  let arg8 : BitVec 32 := Scf.iv c0_i32_10 c1_i32_11 k0_t1
  let c3_i32_19 : BitVec 32 := 3#32
  let c0_i32_20 : BitVec 32 := 0#32
  let v42 : BitVec 1 := Scalar.cmpi .eq c3_i32_19 c0_i32_20
  let c1_i32_21 : BitVec 32 := 1#32
  let v43 : BitVec 32 := Scalar.select v42 c1_i32_21 c3_i32_19
  let v44 : BitVec 32 := Scalar.remsi arg8 v43
  let c0_i32_23 : BitVec 32 := 0#32
  let v46 : BitVec 1 := Scalar.cmpi .slt v44 c0_i32_23
  let c0_i32_24 : BitVec 32 := 0#32
  let v47 : BitVec 1 := Scalar.cmpi .slt v43 c0_i32_24
  let v48 : BitVec 1 := Scalar.xori v46 v47
  let c0_i32_22 : BitVec 32 := 0#32
  let v45 : BitVec 1 := Scalar.cmpi .ne v44 c0_i32_22
  let v49 : BitVec 1 := Scalar.andi v48 v45
  let v50 : BitVec 32 := Scalar.addi v44 v43
  let v51 : BitVec 32 := Scalar.select v49 v50 v44
  let c256_i32 : BitVec 32 := 256#32
  let v52 : BitVec 32 := Scalar.muli v51 c256_i32
  let v53 : BitVec 32 := v52
  let c0_i32_35 : BitVec 32 := 0#32
  let v88 : BitVec 32 := Scalar.addi v53 c0_i32_35
  v88
def k0_off2 (k0_t1 : Fin k0_t1_loop.trips) (c0_i32_34 : BitVec 32) (c0_i32_35 : BitVec 32) : Fin 3 → Nat :=
  let c0_i32_10 : BitVec 32 := 0#32
  let c1_i32_11 : BitVec 32 := 1#32
  let arg8 : BitVec 32 := Scf.iv c0_i32_10 c1_i32_11 k0_t1
  let c0_i32_13 : BitVec 32 := 0#32
  let v26 : BitVec 1 := Scalar.cmpi .sgt arg8 c0_i32_13
  let v27 : BitVec 32 := Scalar.extui v26
  let c0_i32_14 : BitVec 32 := 0#32
  let v28 : BitVec 1 := Scalar.cmpi .slt arg8 c0_i32_14
  let v29 : BitVec 32 := Scalar.extui v28
  let v30 : BitVec 32 := Scalar.subi v27 v29
  let c3_i32 : BitVec 32 := 3#32
  let c0_i32_15 : BitVec 32 := 0#32
  let v31 : BitVec 1 := Scalar.cmpi .sgt c3_i32 c0_i32_15
  let v32 : BitVec 32 := Scalar.extui v31
  let c0_i32_16 : BitVec 32 := 0#32
  let v33 : BitVec 1 := Scalar.cmpi .slt c3_i32 c0_i32_16
  let v34 : BitVec 32 := Scalar.extui v33
  let v35 : BitVec 32 := Scalar.subi v32 v34
  let v36 : BitVec 1 := Scalar.cmpi .ne v30 v35
  let v37 : BitVec 32 := Scalar.remsi arg8 c3_i32
  let c0_i32_17 : BitVec 32 := 0#32
  let v38 : BitVec 1 := Scalar.cmpi .ne v37 c0_i32_17
  let v39 : BitVec 1 := Scalar.andi v36 v38
  let v25 : BitVec 32 := Scalar.divsi arg8 c3_i32
  let c1_i32_18 : BitVec 32 := 1#32
  let v40 : BitVec 32 := Scalar.subi v25 c1_i32_18
  let v41 : BitVec 32 := Scalar.select v39 v40 v25
  let c2_i32_33 : BitVec 32 := 2#32
  let v86 : BitVec 32 := Scalar.muli v41 c2_i32_33
  let v87 : BitVec 32 := Scalar.addi v86 c0_i32_34
  let v90 : Index := Scalar.indexCast v87
  let c0_36 : Index := 0#32
  let c3_i32_19 : BitVec 32 := 3#32
  let c0_i32_20 : BitVec 32 := 0#32
  let v42 : BitVec 1 := Scalar.cmpi .eq c3_i32_19 c0_i32_20
  let c1_i32_21 : BitVec 32 := 1#32
  let v43 : BitVec 32 := Scalar.select v42 c1_i32_21 c3_i32_19
  let v44 : BitVec 32 := Scalar.remsi arg8 v43
  let c0_i32_23 : BitVec 32 := 0#32
  let v46 : BitVec 1 := Scalar.cmpi .slt v44 c0_i32_23
  let c0_i32_24 : BitVec 32 := 0#32
  let v47 : BitVec 1 := Scalar.cmpi .slt v43 c0_i32_24
  let v48 : BitVec 1 := Scalar.xori v46 v47
  let c0_i32_22 : BitVec 32 := 0#32
  let v45 : BitVec 1 := Scalar.cmpi .ne v44 c0_i32_22
  let v49 : BitVec 1 := Scalar.andi v48 v45
  let v50 : BitVec 32 := Scalar.addi v44 v43
  let v51 : BitVec 32 := Scalar.select v49 v50 v44
  let c256_i32 : BitVec 32 := 256#32
  let v52 : BitVec 32 := Scalar.muli v51 c256_i32
  let v53 : BitVec 32 := v52
  let v88 : BitVec 32 := Scalar.addi v53 c0_i32_35
  let v89 : BitVec 32 := v88
  let v91 : Index := Scalar.indexCast v89
  ![v90.toNat, 0, v91.toNat]
def k0_mult11 (k0_t1 : Fin k0_t1_loop.trips) : BitVec 32 :=
  let c0_i32_10 : BitVec 32 := 0#32
  let c1_i32_11 : BitVec 32 := 1#32
  let arg8 : BitVec 32 := Scf.iv c0_i32_10 c1_i32_11 k0_t1
  let c0_i32_13 : BitVec 32 := 0#32
  let v26 : BitVec 1 := Scalar.cmpi .sgt arg8 c0_i32_13
  let v27 : BitVec 32 := Scalar.extui v26
  let c0_i32_14 : BitVec 32 := 0#32
  let v28 : BitVec 1 := Scalar.cmpi .slt arg8 c0_i32_14
  let v29 : BitVec 32 := Scalar.extui v28
  let v30 : BitVec 32 := Scalar.subi v27 v29
  let c3_i32 : BitVec 32 := 3#32
  let c0_i32_15 : BitVec 32 := 0#32
  let v31 : BitVec 1 := Scalar.cmpi .sgt c3_i32 c0_i32_15
  let v32 : BitVec 32 := Scalar.extui v31
  let c0_i32_16 : BitVec 32 := 0#32
  let v33 : BitVec 1 := Scalar.cmpi .slt c3_i32 c0_i32_16
  let v34 : BitVec 32 := Scalar.extui v33
  let v35 : BitVec 32 := Scalar.subi v32 v34
  let v36 : BitVec 1 := Scalar.cmpi .ne v30 v35
  let v37 : BitVec 32 := Scalar.remsi arg8 c3_i32
  let c0_i32_17 : BitVec 32 := 0#32
  let v38 : BitVec 1 := Scalar.cmpi .ne v37 c0_i32_17
  let v39 : BitVec 1 := Scalar.andi v36 v38
  let v25 : BitVec 32 := Scalar.divsi arg8 c3_i32
  let c1_i32_18 : BitVec 32 := 1#32
  let v40 : BitVec 32 := Scalar.subi v25 c1_i32_18
  let v41 : BitVec 32 := Scalar.select v39 v40 v25
  let c128_i32 : BitVec 32 := 128#32
  let v112 : BitVec 32 := Scalar.muli v41 c128_i32
  v112
def k0_mult12 (k0_t1 : Fin k0_t1_loop.trips) : BitVec 32 :=
  let c0_i32_10 : BitVec 32 := 0#32
  let c1_i32_11 : BitVec 32 := 1#32
  let arg8 : BitVec 32 := Scf.iv c0_i32_10 c1_i32_11 k0_t1
  let c3_i32_19 : BitVec 32 := 3#32
  let c0_i32_20 : BitVec 32 := 0#32
  let v42 : BitVec 1 := Scalar.cmpi .eq c3_i32_19 c0_i32_20
  let c1_i32_21 : BitVec 32 := 1#32
  let v43 : BitVec 32 := Scalar.select v42 c1_i32_21 c3_i32_19
  let v44 : BitVec 32 := Scalar.remsi arg8 v43
  let c0_i32_23 : BitVec 32 := 0#32
  let v46 : BitVec 1 := Scalar.cmpi .slt v44 c0_i32_23
  let c0_i32_24 : BitVec 32 := 0#32
  let v47 : BitVec 1 := Scalar.cmpi .slt v43 c0_i32_24
  let v48 : BitVec 1 := Scalar.xori v46 v47
  let c0_i32_22 : BitVec 32 := 0#32
  let v45 : BitVec 1 := Scalar.cmpi .ne v44 c0_i32_22
  let v49 : BitVec 1 := Scalar.andi v48 v45
  let v50 : BitVec 32 := Scalar.addi v44 v43
  let v51 : BitVec 32 := Scalar.select v49 v50 v44
  let c256_i32 : BitVec 32 := 256#32
  let v52 : BitVec 32 := Scalar.muli v51 c256_i32
  let v53 : BitVec 32 := v52
  let c0_i32_49 : BitVec 32 := 0#32
  let v115 : BitVec 32 := Scalar.addi v53 c0_i32_49
  v115
def k0_off3 (i : grid0.Coords) (k0_t1 : Fin k0_t1_loop.trips) (c0_i32_48 : BitVec 32) (c0_i32_49 : BitVec 32) : Fin 4 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v117 : Index := Scalar.indexCast v9
  let c0_i32_10 : BitVec 32 := 0#32
  let c1_i32_11 : BitVec 32 := 1#32
  let arg8 : BitVec 32 := Scf.iv c0_i32_10 c1_i32_11 k0_t1
  let c0_i32_13 : BitVec 32 := 0#32
  let v26 : BitVec 1 := Scalar.cmpi .sgt arg8 c0_i32_13
  let v27 : BitVec 32 := Scalar.extui v26
  let c0_i32_14 : BitVec 32 := 0#32
  let v28 : BitVec 1 := Scalar.cmpi .slt arg8 c0_i32_14
  let v29 : BitVec 32 := Scalar.extui v28
  let v30 : BitVec 32 := Scalar.subi v27 v29
  let c3_i32 : BitVec 32 := 3#32
  let c0_i32_15 : BitVec 32 := 0#32
  let v31 : BitVec 1 := Scalar.cmpi .sgt c3_i32 c0_i32_15
  let v32 : BitVec 32 := Scalar.extui v31
  let c0_i32_16 : BitVec 32 := 0#32
  let v33 : BitVec 1 := Scalar.cmpi .slt c3_i32 c0_i32_16
  let v34 : BitVec 32 := Scalar.extui v33
  let v35 : BitVec 32 := Scalar.subi v32 v34
  let v36 : BitVec 1 := Scalar.cmpi .ne v30 v35
  let v37 : BitVec 32 := Scalar.remsi arg8 c3_i32
  let c0_i32_17 : BitVec 32 := 0#32
  let v38 : BitVec 1 := Scalar.cmpi .ne v37 c0_i32_17
  let v39 : BitVec 1 := Scalar.andi v36 v38
  let v25 : BitVec 32 := Scalar.divsi arg8 c3_i32
  let c1_i32_18 : BitVec 32 := 1#32
  let v40 : BitVec 32 := Scalar.subi v25 c1_i32_18
  let v41 : BitVec 32 := Scalar.select v39 v40 v25
  let c128_i32 : BitVec 32 := 128#32
  let v112 : BitVec 32 := Scalar.muli v41 c128_i32
  let v113 : BitVec 32 := v112
  let v114 : BitVec 32 := Scalar.addi v113 c0_i32_48
  let v118 : Index := Scalar.indexCast v114
  let c3_i32_19 : BitVec 32 := 3#32
  let c0_i32_20 : BitVec 32 := 0#32
  let v42 : BitVec 1 := Scalar.cmpi .eq c3_i32_19 c0_i32_20
  let c1_i32_21 : BitVec 32 := 1#32
  let v43 : BitVec 32 := Scalar.select v42 c1_i32_21 c3_i32_19
  let v44 : BitVec 32 := Scalar.remsi arg8 v43
  let c0_i32_23 : BitVec 32 := 0#32
  let v46 : BitVec 1 := Scalar.cmpi .slt v44 c0_i32_23
  let c0_i32_24 : BitVec 32 := 0#32
  let v47 : BitVec 1 := Scalar.cmpi .slt v43 c0_i32_24
  let v48 : BitVec 1 := Scalar.xori v46 v47
  let c0_i32_22 : BitVec 32 := 0#32
  let v45 : BitVec 1 := Scalar.cmpi .ne v44 c0_i32_22
  let v49 : BitVec 1 := Scalar.andi v48 v45
  let v50 : BitVec 32 := Scalar.addi v44 v43
  let v51 : BitVec 32 := Scalar.select v49 v50 v44
  let c256_i32 : BitVec 32 := 256#32
  let v52 : BitVec 32 := Scalar.muli v51 c256_i32
  let v53 : BitVec 32 := v52
  let v115 : BitVec 32 := Scalar.addi v53 c0_i32_49
  let v116 : BitVec 32 := v115
  let v119 : Index := Scalar.indexCast v116
  ![v117.toNat, v118.toNat, 0, v119.toNat]
def k0_mult13 (k0_t1 : Fin k0_t1_loop.trips) : BitVec 32 :=
  let c0_i32_10 : BitVec 32 := 0#32
  let c1_i32_11 : BitVec 32 := 1#32
  let arg8 : BitVec 32 := Scf.iv c0_i32_10 c1_i32_11 k0_t1
  let c0_i32_13 : BitVec 32 := 0#32
  let v26 : BitVec 1 := Scalar.cmpi .sgt arg8 c0_i32_13
  let v27 : BitVec 32 := Scalar.extui v26
  let c0_i32_14 : BitVec 32 := 0#32
  let v28 : BitVec 1 := Scalar.cmpi .slt arg8 c0_i32_14
  let v29 : BitVec 32 := Scalar.extui v28
  let v30 : BitVec 32 := Scalar.subi v27 v29
  let c3_i32 : BitVec 32 := 3#32
  let c0_i32_15 : BitVec 32 := 0#32
  let v31 : BitVec 1 := Scalar.cmpi .sgt c3_i32 c0_i32_15
  let v32 : BitVec 32 := Scalar.extui v31
  let c0_i32_16 : BitVec 32 := 0#32
  let v33 : BitVec 1 := Scalar.cmpi .slt c3_i32 c0_i32_16
  let v34 : BitVec 32 := Scalar.extui v33
  let v35 : BitVec 32 := Scalar.subi v32 v34
  let v36 : BitVec 1 := Scalar.cmpi .ne v30 v35
  let v37 : BitVec 32 := Scalar.remsi arg8 c3_i32
  let c0_i32_17 : BitVec 32 := 0#32
  let v38 : BitVec 1 := Scalar.cmpi .ne v37 c0_i32_17
  let v39 : BitVec 1 := Scalar.andi v36 v38
  let v25 : BitVec 32 := Scalar.divsi arg8 c3_i32
  let c1_i32_18 : BitVec 32 := 1#32
  let v40 : BitVec 32 := Scalar.subi v25 c1_i32_18
  let v41 : BitVec 32 := Scalar.select v39 v40 v25
  let c128_i32_50 : BitVec 32 := 128#32
  let v127 : BitVec 32 := Scalar.muli v41 c128_i32_50
  v127
def k0_mult14 (k0_t1 : Fin k0_t1_loop.trips) : BitVec 32 :=
  let c0_i32_10 : BitVec 32 := 0#32
  let c1_i32_11 : BitVec 32 := 1#32
  let arg8 : BitVec 32 := Scf.iv c0_i32_10 c1_i32_11 k0_t1
  let c3_i32_19 : BitVec 32 := 3#32
  let c0_i32_20 : BitVec 32 := 0#32
  let v42 : BitVec 1 := Scalar.cmpi .eq c3_i32_19 c0_i32_20
  let c1_i32_21 : BitVec 32 := 1#32
  let v43 : BitVec 32 := Scalar.select v42 c1_i32_21 c3_i32_19
  let v44 : BitVec 32 := Scalar.remsi arg8 v43
  let c0_i32_23 : BitVec 32 := 0#32
  let v46 : BitVec 1 := Scalar.cmpi .slt v44 c0_i32_23
  let c0_i32_24 : BitVec 32 := 0#32
  let v47 : BitVec 1 := Scalar.cmpi .slt v43 c0_i32_24
  let v48 : BitVec 1 := Scalar.xori v46 v47
  let c0_i32_22 : BitVec 32 := 0#32
  let v45 : BitVec 1 := Scalar.cmpi .ne v44 c0_i32_22
  let v49 : BitVec 1 := Scalar.andi v48 v45
  let v50 : BitVec 32 := Scalar.addi v44 v43
  let v51 : BitVec 32 := Scalar.select v49 v50 v44
  let c256_i32 : BitVec 32 := 256#32
  let v52 : BitVec 32 := Scalar.muli v51 c256_i32
  let v53 : BitVec 32 := v52
  let c0_i32_52 : BitVec 32 := 0#32
  let v130 : BitVec 32 := Scalar.addi v53 c0_i32_52
  v130
def k0_mult15 (k0_t1 : Fin k0_t1_loop.trips) : BitVec 32 :=
  let c0_i32_10 : BitVec 32 := 0#32
  let c1_i32_11 : BitVec 32 := 1#32
  let arg8 : BitVec 32 := Scf.iv c0_i32_10 c1_i32_11 k0_t1
  let c0_i32_13 : BitVec 32 := 0#32
  let v26 : BitVec 1 := Scalar.cmpi .sgt arg8 c0_i32_13
  let v27 : BitVec 32 := Scalar.extui v26
  let c0_i32_14 : BitVec 32 := 0#32
  let v28 : BitVec 1 := Scalar.cmpi .slt arg8 c0_i32_14
  let v29 : BitVec 32 := Scalar.extui v28
  let v30 : BitVec 32 := Scalar.subi v27 v29
  let c3_i32 : BitVec 32 := 3#32
  let c0_i32_15 : BitVec 32 := 0#32
  let v31 : BitVec 1 := Scalar.cmpi .sgt c3_i32 c0_i32_15
  let v32 : BitVec 32 := Scalar.extui v31
  let c0_i32_16 : BitVec 32 := 0#32
  let v33 : BitVec 1 := Scalar.cmpi .slt c3_i32 c0_i32_16
  let v34 : BitVec 32 := Scalar.extui v33
  let v35 : BitVec 32 := Scalar.subi v32 v34
  let v36 : BitVec 1 := Scalar.cmpi .ne v30 v35
  let v37 : BitVec 32 := Scalar.remsi arg8 c3_i32
  let c0_i32_17 : BitVec 32 := 0#32
  let v38 : BitVec 1 := Scalar.cmpi .ne v37 c0_i32_17
  let v39 : BitVec 1 := Scalar.andi v36 v38
  let v25 : BitVec 32 := Scalar.divsi arg8 c3_i32
  let c1_i32_18 : BitVec 32 := 1#32
  let v40 : BitVec 32 := Scalar.subi v25 c1_i32_18
  let v41 : BitVec 32 := Scalar.select v39 v40 v25
  let c128_i32_53 : BitVec 32 := 128#32
  let v142 : BitVec 32 := Scalar.muli v41 c128_i32_53
  v142
def k0_mult16 (k0_t1 : Fin k0_t1_loop.trips) : BitVec 32 :=
  let c0_i32_10 : BitVec 32 := 0#32
  let c1_i32_11 : BitVec 32 := 1#32
  let arg8 : BitVec 32 := Scf.iv c0_i32_10 c1_i32_11 k0_t1
  let c3_i32_19 : BitVec 32 := 3#32
  let c0_i32_20 : BitVec 32 := 0#32
  let v42 : BitVec 1 := Scalar.cmpi .eq c3_i32_19 c0_i32_20
  let c1_i32_21 : BitVec 32 := 1#32
  let v43 : BitVec 32 := Scalar.select v42 c1_i32_21 c3_i32_19
  let v44 : BitVec 32 := Scalar.remsi arg8 v43
  let c0_i32_23 : BitVec 32 := 0#32
  let v46 : BitVec 1 := Scalar.cmpi .slt v44 c0_i32_23
  let c0_i32_24 : BitVec 32 := 0#32
  let v47 : BitVec 1 := Scalar.cmpi .slt v43 c0_i32_24
  let v48 : BitVec 1 := Scalar.xori v46 v47
  let c0_i32_22 : BitVec 32 := 0#32
  let v45 : BitVec 1 := Scalar.cmpi .ne v44 c0_i32_22
  let v49 : BitVec 1 := Scalar.andi v48 v45
  let v50 : BitVec 32 := Scalar.addi v44 v43
  let v51 : BitVec 32 := Scalar.select v49 v50 v44
  let c256_i32 : BitVec 32 := 256#32
  let v52 : BitVec 32 := Scalar.muli v51 c256_i32
  let v53 : BitVec 32 := v52
  let c0_i32_54 : BitVec 32 := 0#32
  let v145 : BitVec 32 := Scalar.addi v53 c0_i32_54
  v145
def k0_mult17 (k0_t1 : Fin k0_t1_loop.trips) : BitVec 32 :=
  let c0_i32_10 : BitVec 32 := 0#32
  let c1_i32_11 : BitVec 32 := 1#32
  let arg8 : BitVec 32 := Scf.iv c0_i32_10 c1_i32_11 k0_t1
  let c0_i32_13 : BitVec 32 := 0#32
  let v26 : BitVec 1 := Scalar.cmpi .sgt arg8 c0_i32_13
  let v27 : BitVec 32 := Scalar.extui v26
  let c0_i32_14 : BitVec 32 := 0#32
  let v28 : BitVec 1 := Scalar.cmpi .slt arg8 c0_i32_14
  let v29 : BitVec 32 := Scalar.extui v28
  let v30 : BitVec 32 := Scalar.subi v27 v29
  let c3_i32 : BitVec 32 := 3#32
  let c0_i32_15 : BitVec 32 := 0#32
  let v31 : BitVec 1 := Scalar.cmpi .sgt c3_i32 c0_i32_15
  let v32 : BitVec 32 := Scalar.extui v31
  let c0_i32_16 : BitVec 32 := 0#32
  let v33 : BitVec 1 := Scalar.cmpi .slt c3_i32 c0_i32_16
  let v34 : BitVec 32 := Scalar.extui v33
  let v35 : BitVec 32 := Scalar.subi v32 v34
  let v36 : BitVec 1 := Scalar.cmpi .ne v30 v35
  let v37 : BitVec 32 := Scalar.remsi arg8 c3_i32
  let c0_i32_17 : BitVec 32 := 0#32
  let v38 : BitVec 1 := Scalar.cmpi .ne v37 c0_i32_17
  let v39 : BitVec 1 := Scalar.andi v36 v38
  let v25 : BitVec 32 := Scalar.divsi arg8 c3_i32
  let c1_i32_18 : BitVec 32 := 1#32
  let v40 : BitVec 32 := Scalar.subi v25 c1_i32_18
  let v41 : BitVec 32 := Scalar.select v39 v40 v25
  let c128_i32_55 : BitVec 32 := 128#32
  let v157 : BitVec 32 := Scalar.muli v41 c128_i32_55
  v157
def k0_mult18 (k0_t1 : Fin k0_t1_loop.trips) : BitVec 32 :=
  let c0_i32_10 : BitVec 32 := 0#32
  let c1_i32_11 : BitVec 32 := 1#32
  let arg8 : BitVec 32 := Scf.iv c0_i32_10 c1_i32_11 k0_t1
  let c3_i32_19 : BitVec 32 := 3#32
  let c0_i32_20 : BitVec 32 := 0#32
  let v42 : BitVec 1 := Scalar.cmpi .eq c3_i32_19 c0_i32_20
  let c1_i32_21 : BitVec 32 := 1#32
  let v43 : BitVec 32 := Scalar.select v42 c1_i32_21 c3_i32_19
  let v44 : BitVec 32 := Scalar.remsi arg8 v43
  let c0_i32_23 : BitVec 32 := 0#32
  let v46 : BitVec 1 := Scalar.cmpi .slt v44 c0_i32_23
  let c0_i32_24 : BitVec 32 := 0#32
  let v47 : BitVec 1 := Scalar.cmpi .slt v43 c0_i32_24
  let v48 : BitVec 1 := Scalar.xori v46 v47
  let c0_i32_22 : BitVec 32 := 0#32
  let v45 : BitVec 1 := Scalar.cmpi .ne v44 c0_i32_22
  let v49 : BitVec 1 := Scalar.andi v48 v45
  let v50 : BitVec 32 := Scalar.addi v44 v43
  let v51 : BitVec 32 := Scalar.select v49 v50 v44
  let c256_i32 : BitVec 32 := 256#32
  let v52 : BitVec 32 := Scalar.muli v51 c256_i32
  let v53 : BitVec 32 := v52
  let c0_i32_56 : BitVec 32 := 0#32
  let v160 : BitVec 32 := Scalar.addi v53 c0_i32_56
  v160
def k0_mult19 (k0_t1 : Fin k0_t1_loop.trips) : BitVec 32 :=
  let c0_i32_10 : BitVec 32 := 0#32
  let c1_i32_11 : BitVec 32 := 1#32
  let arg8 : BitVec 32 := Scf.iv c0_i32_10 c1_i32_11 k0_t1
  let c0_i32_13 : BitVec 32 := 0#32
  let v26 : BitVec 1 := Scalar.cmpi .sgt arg8 c0_i32_13
  let v27 : BitVec 32 := Scalar.extui v26
  let c0_i32_14 : BitVec 32 := 0#32
  let v28 : BitVec 1 := Scalar.cmpi .slt arg8 c0_i32_14
  let v29 : BitVec 32 := Scalar.extui v28
  let v30 : BitVec 32 := Scalar.subi v27 v29
  let c3_i32 : BitVec 32 := 3#32
  let c0_i32_15 : BitVec 32 := 0#32
  let v31 : BitVec 1 := Scalar.cmpi .sgt c3_i32 c0_i32_15
  let v32 : BitVec 32 := Scalar.extui v31
  let c0_i32_16 : BitVec 32 := 0#32
  let v33 : BitVec 1 := Scalar.cmpi .slt c3_i32 c0_i32_16
  let v34 : BitVec 32 := Scalar.extui v33
  let v35 : BitVec 32 := Scalar.subi v32 v34
  let v36 : BitVec 1 := Scalar.cmpi .ne v30 v35
  let v37 : BitVec 32 := Scalar.remsi arg8 c3_i32
  let c0_i32_17 : BitVec 32 := 0#32
  let v38 : BitVec 1 := Scalar.cmpi .ne v37 c0_i32_17
  let v39 : BitVec 1 := Scalar.andi v36 v38
  let v25 : BitVec 32 := Scalar.divsi arg8 c3_i32
  let c1_i32_18 : BitVec 32 := 1#32
  let v40 : BitVec 32 := Scalar.subi v25 c1_i32_18
  let v41 : BitVec 32 := Scalar.select v39 v40 v25
  let c64_i32_57 : BitVec 32 := 64#32
  let v168 : BitVec 32 := Scalar.muli v41 c64_i32_57
  v168
def k0_mult20 (k0_t1 : Fin k0_t1_loop.trips) : BitVec 32 :=
  let c0_i32_10 : BitVec 32 := 0#32
  let c1_i32_11 : BitVec 32 := 1#32
  let arg8 : BitVec 32 := Scf.iv c0_i32_10 c1_i32_11 k0_t1
  let c3_i32_19 : BitVec 32 := 3#32
  let c0_i32_20 : BitVec 32 := 0#32
  let v42 : BitVec 1 := Scalar.cmpi .eq c3_i32_19 c0_i32_20
  let c1_i32_21 : BitVec 32 := 1#32
  let v43 : BitVec 32 := Scalar.select v42 c1_i32_21 c3_i32_19
  let v44 : BitVec 32 := Scalar.remsi arg8 v43
  let c0_i32_23 : BitVec 32 := 0#32
  let v46 : BitVec 1 := Scalar.cmpi .slt v44 c0_i32_23
  let c0_i32_24 : BitVec 32 := 0#32
  let v47 : BitVec 1 := Scalar.cmpi .slt v43 c0_i32_24
  let v48 : BitVec 1 := Scalar.xori v46 v47
  let c0_i32_22 : BitVec 32 := 0#32
  let v45 : BitVec 1 := Scalar.cmpi .ne v44 c0_i32_22
  let v49 : BitVec 1 := Scalar.andi v48 v45
  let v50 : BitVec 32 := Scalar.addi v44 v43
  let v51 : BitVec 32 := Scalar.select v49 v50 v44
  let c256_i32 : BitVec 32 := 256#32
  let v52 : BitVec 32 := Scalar.muli v51 c256_i32
  let v53 : BitVec 32 := v52
  let c0_i32_59 : BitVec 32 := 0#32
  let v171 : BitVec 32 := Scalar.addi v53 c0_i32_59
  v171
def k0_mult21 (k0_t1 : Fin k0_t1_loop.trips) : BitVec 32 :=
  let c0_i32_10 : BitVec 32 := 0#32
  let c1_i32_11 : BitVec 32 := 1#32
  let arg8 : BitVec 32 := Scf.iv c0_i32_10 c1_i32_11 k0_t1
  let c0_i32_13 : BitVec 32 := 0#32
  let v26 : BitVec 1 := Scalar.cmpi .sgt arg8 c0_i32_13
  let v27 : BitVec 32 := Scalar.extui v26
  let c0_i32_14 : BitVec 32 := 0#32
  let v28 : BitVec 1 := Scalar.cmpi .slt arg8 c0_i32_14
  let v29 : BitVec 32 := Scalar.extui v28
  let v30 : BitVec 32 := Scalar.subi v27 v29
  let c3_i32 : BitVec 32 := 3#32
  let c0_i32_15 : BitVec 32 := 0#32
  let v31 : BitVec 1 := Scalar.cmpi .sgt c3_i32 c0_i32_15
  let v32 : BitVec 32 := Scalar.extui v31
  let c0_i32_16 : BitVec 32 := 0#32
  let v33 : BitVec 1 := Scalar.cmpi .slt c3_i32 c0_i32_16
  let v34 : BitVec 32 := Scalar.extui v33
  let v35 : BitVec 32 := Scalar.subi v32 v34
  let v36 : BitVec 1 := Scalar.cmpi .ne v30 v35
  let v37 : BitVec 32 := Scalar.remsi arg8 c3_i32
  let c0_i32_17 : BitVec 32 := 0#32
  let v38 : BitVec 1 := Scalar.cmpi .ne v37 c0_i32_17
  let v39 : BitVec 1 := Scalar.andi v36 v38
  let v25 : BitVec 32 := Scalar.divsi arg8 c3_i32
  let c1_i32_18 : BitVec 32 := 1#32
  let v40 : BitVec 32 := Scalar.subi v25 c1_i32_18
  let v41 : BitVec 32 := Scalar.select v39 v40 v25
  let c64_i32_60 : BitVec 32 := 64#32
  let v176 : BitVec 32 := Scalar.muli v41 c64_i32_60
  v176
def k0_mult22 (k0_t1 : Fin k0_t1_loop.trips) : BitVec 32 :=
  let c0_i32_10 : BitVec 32 := 0#32
  let c1_i32_11 : BitVec 32 := 1#32
  let arg8 : BitVec 32 := Scf.iv c0_i32_10 c1_i32_11 k0_t1
  let c3_i32_19 : BitVec 32 := 3#32
  let c0_i32_20 : BitVec 32 := 0#32
  let v42 : BitVec 1 := Scalar.cmpi .eq c3_i32_19 c0_i32_20
  let c1_i32_21 : BitVec 32 := 1#32
  let v43 : BitVec 32 := Scalar.select v42 c1_i32_21 c3_i32_19
  let v44 : BitVec 32 := Scalar.remsi arg8 v43
  let c0_i32_23 : BitVec 32 := 0#32
  let v46 : BitVec 1 := Scalar.cmpi .slt v44 c0_i32_23
  let c0_i32_24 : BitVec 32 := 0#32
  let v47 : BitVec 1 := Scalar.cmpi .slt v43 c0_i32_24
  let v48 : BitVec 1 := Scalar.xori v46 v47
  let c0_i32_22 : BitVec 32 := 0#32
  let v45 : BitVec 1 := Scalar.cmpi .ne v44 c0_i32_22
  let v49 : BitVec 1 := Scalar.andi v48 v45
  let v50 : BitVec 32 := Scalar.addi v44 v43
  let v51 : BitVec 32 := Scalar.select v49 v50 v44
  let c256_i32 : BitVec 32 := 256#32
  let v52 : BitVec 32 := Scalar.muli v51 c256_i32
  let v53 : BitVec 32 := v52
  let c0_i32_61 : BitVec 32 := 0#32
  let v179 : BitVec 32 := Scalar.addi v53 c0_i32_61
  v179
def k0_mult23 (k0_t1 : Fin k0_t1_loop.trips) : BitVec 32 :=
  let c0_i32_10 : BitVec 32 := 0#32
  let c1_i32_11 : BitVec 32 := 1#32
  let arg8 : BitVec 32 := Scf.iv c0_i32_10 c1_i32_11 k0_t1
  let c0_i32_13 : BitVec 32 := 0#32
  let v26 : BitVec 1 := Scalar.cmpi .sgt arg8 c0_i32_13
  let v27 : BitVec 32 := Scalar.extui v26
  let c0_i32_14 : BitVec 32 := 0#32
  let v28 : BitVec 1 := Scalar.cmpi .slt arg8 c0_i32_14
  let v29 : BitVec 32 := Scalar.extui v28
  let v30 : BitVec 32 := Scalar.subi v27 v29
  let c3_i32 : BitVec 32 := 3#32
  let c0_i32_15 : BitVec 32 := 0#32
  let v31 : BitVec 1 := Scalar.cmpi .sgt c3_i32 c0_i32_15
  let v32 : BitVec 32 := Scalar.extui v31
  let c0_i32_16 : BitVec 32 := 0#32
  let v33 : BitVec 1 := Scalar.cmpi .slt c3_i32 c0_i32_16
  let v34 : BitVec 32 := Scalar.extui v33
  let v35 : BitVec 32 := Scalar.subi v32 v34
  let v36 : BitVec 1 := Scalar.cmpi .ne v30 v35
  let v37 : BitVec 32 := Scalar.remsi arg8 c3_i32
  let c0_i32_17 : BitVec 32 := 0#32
  let v38 : BitVec 1 := Scalar.cmpi .ne v37 c0_i32_17
  let v39 : BitVec 1 := Scalar.andi v36 v38
  let v25 : BitVec 32 := Scalar.divsi arg8 c3_i32
  let c1_i32_18 : BitVec 32 := 1#32
  let v40 : BitVec 32 := Scalar.subi v25 c1_i32_18
  let v41 : BitVec 32 := Scalar.select v39 v40 v25
  let c64_i32_62 : BitVec 32 := 64#32
  let v184 : BitVec 32 := Scalar.muli v41 c64_i32_62
  v184
def k0_mult24 (k0_t1 : Fin k0_t1_loop.trips) : BitVec 32 :=
  let c0_i32_10 : BitVec 32 := 0#32
  let c1_i32_11 : BitVec 32 := 1#32
  let arg8 : BitVec 32 := Scf.iv c0_i32_10 c1_i32_11 k0_t1
  let c3_i32_19 : BitVec 32 := 3#32
  let c0_i32_20 : BitVec 32 := 0#32
  let v42 : BitVec 1 := Scalar.cmpi .eq c3_i32_19 c0_i32_20
  let c1_i32_21 : BitVec 32 := 1#32
  let v43 : BitVec 32 := Scalar.select v42 c1_i32_21 c3_i32_19
  let v44 : BitVec 32 := Scalar.remsi arg8 v43
  let c0_i32_23 : BitVec 32 := 0#32
  let v46 : BitVec 1 := Scalar.cmpi .slt v44 c0_i32_23
  let c0_i32_24 : BitVec 32 := 0#32
  let v47 : BitVec 1 := Scalar.cmpi .slt v43 c0_i32_24
  let v48 : BitVec 1 := Scalar.xori v46 v47
  let c0_i32_22 : BitVec 32 := 0#32
  let v45 : BitVec 1 := Scalar.cmpi .ne v44 c0_i32_22
  let v49 : BitVec 1 := Scalar.andi v48 v45
  let v50 : BitVec 32 := Scalar.addi v44 v43
  let v51 : BitVec 32 := Scalar.select v49 v50 v44
  let c256_i32 : BitVec 32 := 256#32
  let v52 : BitVec 32 := Scalar.muli v51 c256_i32
  let v53 : BitVec 32 := v52
  let c0_i32_64 : BitVec 32 := 0#32
  let v187 : BitVec 32 := Scalar.addi v53 c0_i32_64
  v187
def k0_mult25 (k0_t1 : Fin k0_t1_loop.trips) : BitVec 32 :=
  let c0_i32_10 : BitVec 32 := 0#32
  let c1_i32_11 : BitVec 32 := 1#32
  let arg8 : BitVec 32 := Scf.iv c0_i32_10 c1_i32_11 k0_t1
  let c0_i32_13 : BitVec 32 := 0#32
  let v26 : BitVec 1 := Scalar.cmpi .sgt arg8 c0_i32_13
  let v27 : BitVec 32 := Scalar.extui v26
  let c0_i32_14 : BitVec 32 := 0#32
  let v28 : BitVec 1 := Scalar.cmpi .slt arg8 c0_i32_14
  let v29 : BitVec 32 := Scalar.extui v28
  let v30 : BitVec 32 := Scalar.subi v27 v29
  let c3_i32 : BitVec 32 := 3#32
  let c0_i32_15 : BitVec 32 := 0#32
  let v31 : BitVec 1 := Scalar.cmpi .sgt c3_i32 c0_i32_15
  let v32 : BitVec 32 := Scalar.extui v31
  let c0_i32_16 : BitVec 32 := 0#32
  let v33 : BitVec 1 := Scalar.cmpi .slt c3_i32 c0_i32_16
  let v34 : BitVec 32 := Scalar.extui v33
  let v35 : BitVec 32 := Scalar.subi v32 v34
  let v36 : BitVec 1 := Scalar.cmpi .ne v30 v35
  let v37 : BitVec 32 := Scalar.remsi arg8 c3_i32
  let c0_i32_17 : BitVec 32 := 0#32
  let v38 : BitVec 1 := Scalar.cmpi .ne v37 c0_i32_17
  let v39 : BitVec 1 := Scalar.andi v36 v38
  let v25 : BitVec 32 := Scalar.divsi arg8 c3_i32
  let c1_i32_18 : BitVec 32 := 1#32
  let v40 : BitVec 32 := Scalar.subi v25 c1_i32_18
  let v41 : BitVec 32 := Scalar.select v39 v40 v25
  let c64_i32_65 : BitVec 32 := 64#32
  let v192 : BitVec 32 := Scalar.muli v41 c64_i32_65
  v192
def k0_mult26 (k0_t1 : Fin k0_t1_loop.trips) : BitVec 32 :=
  let c0_i32_10 : BitVec 32 := 0#32
  let c1_i32_11 : BitVec 32 := 1#32
  let arg8 : BitVec 32 := Scf.iv c0_i32_10 c1_i32_11 k0_t1
  let c3_i32_19 : BitVec 32 := 3#32
  let c0_i32_20 : BitVec 32 := 0#32
  let v42 : BitVec 1 := Scalar.cmpi .eq c3_i32_19 c0_i32_20
  let c1_i32_21 : BitVec 32 := 1#32
  let v43 : BitVec 32 := Scalar.select v42 c1_i32_21 c3_i32_19
  let v44 : BitVec 32 := Scalar.remsi arg8 v43
  let c0_i32_23 : BitVec 32 := 0#32
  let v46 : BitVec 1 := Scalar.cmpi .slt v44 c0_i32_23
  let c0_i32_24 : BitVec 32 := 0#32
  let v47 : BitVec 1 := Scalar.cmpi .slt v43 c0_i32_24
  let v48 : BitVec 1 := Scalar.xori v46 v47
  let c0_i32_22 : BitVec 32 := 0#32
  let v45 : BitVec 1 := Scalar.cmpi .ne v44 c0_i32_22
  let v49 : BitVec 1 := Scalar.andi v48 v45
  let v50 : BitVec 32 := Scalar.addi v44 v43
  let v51 : BitVec 32 := Scalar.select v49 v50 v44
  let c256_i32 : BitVec 32 := 256#32
  let v52 : BitVec 32 := Scalar.muli v51 c256_i32
  let v53 : BitVec 32 := v52
  let c0_i32_66 : BitVec 32 := 0#32
  let v195 : BitVec 32 := Scalar.addi v53 c0_i32_66
  v195
def k0_mult27 (k0_t1 : Fin k0_t1_loop.trips) : BitVec 32 :=
  let c0_i32_10 : BitVec 32 := 0#32
  let c1_i32_11 : BitVec 32 := 1#32
  let arg8 : BitVec 32 := Scf.iv c0_i32_10 c1_i32_11 k0_t1
  let c3_i32_19 : BitVec 32 := 3#32
  let c0_i32_20 : BitVec 32 := 0#32
  let v42 : BitVec 1 := Scalar.cmpi .eq c3_i32_19 c0_i32_20
  let c1_i32_21 : BitVec 32 := 1#32
  let v43 : BitVec 32 := Scalar.select v42 c1_i32_21 c3_i32_19
  let v44 : BitVec 32 := Scalar.remsi arg8 v43
  let c0_i32_23 : BitVec 32 := 0#32
  let v46 : BitVec 1 := Scalar.cmpi .slt v44 c0_i32_23
  let c0_i32_24 : BitVec 32 := 0#32
  let v47 : BitVec 1 := Scalar.cmpi .slt v43 c0_i32_24
  let v48 : BitVec 1 := Scalar.xori v46 v47
  let c0_i32_22 : BitVec 32 := 0#32
  let v45 : BitVec 1 := Scalar.cmpi .ne v44 c0_i32_22
  let v49 : BitVec 1 := Scalar.andi v48 v45
  let v50 : BitVec 32 := Scalar.addi v44 v43
  let v51 : BitVec 32 := Scalar.select v49 v50 v44
  let c256_i32 : BitVec 32 := 256#32
  let v52 : BitVec 32 := Scalar.muli v51 c256_i32
  let v53 : BitVec 32 := v52
  let c0_i32_69 : BitVec 32 := 0#32
  let v202 : BitVec 32 := Scalar.addi v53 c0_i32_69
  v202
def k0_mult28 (k0_t1 : Fin k0_t1_loop.trips) : BitVec 32 :=
  let c0_i32_10 : BitVec 32 := 0#32
  let c1_i32_11 : BitVec 32 := 1#32
  let arg8 : BitVec 32 := Scf.iv c0_i32_10 c1_i32_11 k0_t1
  let c0_i32_13 : BitVec 32 := 0#32
  let v26 : BitVec 1 := Scalar.cmpi .sgt arg8 c0_i32_13
  let v27 : BitVec 32 := Scalar.extui v26
  let c0_i32_14 : BitVec 32 := 0#32
  let v28 : BitVec 1 := Scalar.cmpi .slt arg8 c0_i32_14
  let v29 : BitVec 32 := Scalar.extui v28
  let v30 : BitVec 32 := Scalar.subi v27 v29
  let c3_i32 : BitVec 32 := 3#32
  let c0_i32_15 : BitVec 32 := 0#32
  let v31 : BitVec 1 := Scalar.cmpi .sgt c3_i32 c0_i32_15
  let v32 : BitVec 32 := Scalar.extui v31
  let c0_i32_16 : BitVec 32 := 0#32
  let v33 : BitVec 1 := Scalar.cmpi .slt c3_i32 c0_i32_16
  let v34 : BitVec 32 := Scalar.extui v33
  let v35 : BitVec 32 := Scalar.subi v32 v34
  let v36 : BitVec 1 := Scalar.cmpi .ne v30 v35
  let v37 : BitVec 32 := Scalar.remsi arg8 c3_i32
  let c0_i32_17 : BitVec 32 := 0#32
  let v38 : BitVec 1 := Scalar.cmpi .ne v37 c0_i32_17
  let v39 : BitVec 1 := Scalar.andi v36 v38
  let v25 : BitVec 32 := Scalar.divsi arg8 c3_i32
  let c1_i32_18 : BitVec 32 := 1#32
  let v40 : BitVec 32 := Scalar.subi v25 c1_i32_18
  let v41 : BitVec 32 := Scalar.select v39 v40 v25
  let c128_i32_84 : BitVec 32 := 128#32
  let v226 : BitVec 32 := Scalar.muli v41 c128_i32_84
  v226
def k0_mult29 (k0_t1 : Fin k0_t1_loop.trips) : BitVec 32 :=
  let c0_i32_10 : BitVec 32 := 0#32
  let c1_i32_11 : BitVec 32 := 1#32
  let arg8 : BitVec 32 := Scf.iv c0_i32_10 c1_i32_11 k0_t1
  let c3_i32_19 : BitVec 32 := 3#32
  let c0_i32_20 : BitVec 32 := 0#32
  let v42 : BitVec 1 := Scalar.cmpi .eq c3_i32_19 c0_i32_20
  let c1_i32_21 : BitVec 32 := 1#32
  let v43 : BitVec 32 := Scalar.select v42 c1_i32_21 c3_i32_19
  let v44 : BitVec 32 := Scalar.remsi arg8 v43
  let c0_i32_23 : BitVec 32 := 0#32
  let v46 : BitVec 1 := Scalar.cmpi .slt v44 c0_i32_23
  let c0_i32_24 : BitVec 32 := 0#32
  let v47 : BitVec 1 := Scalar.cmpi .slt v43 c0_i32_24
  let v48 : BitVec 1 := Scalar.xori v46 v47
  let c0_i32_22 : BitVec 32 := 0#32
  let v45 : BitVec 1 := Scalar.cmpi .ne v44 c0_i32_22
  let v49 : BitVec 1 := Scalar.andi v48 v45
  let v50 : BitVec 32 := Scalar.addi v44 v43
  let v51 : BitVec 32 := Scalar.select v49 v50 v44
  let c256_i32 : BitVec 32 := 256#32
  let v52 : BitVec 32 := Scalar.muli v51 c256_i32
  let v53 : BitVec 32 := v52
  let c0_i32_86 : BitVec 32 := 0#32
  let v229 : BitVec 32 := Scalar.addi v53 c0_i32_86
  v229
def k0_mult30 (k0_t1 : Fin k0_t1_loop.trips) : BitVec 32 :=
  let c0_i32_10 : BitVec 32 := 0#32
  let c1_i32_11 : BitVec 32 := 1#32
  let arg8 : BitVec 32 := Scf.iv c0_i32_10 c1_i32_11 k0_t1
  let c0_i32_13 : BitVec 32 := 0#32
  let v26 : BitVec 1 := Scalar.cmpi .sgt arg8 c0_i32_13
  let v27 : BitVec 32 := Scalar.extui v26
  let c0_i32_14 : BitVec 32 := 0#32
  let v28 : BitVec 1 := Scalar.cmpi .slt arg8 c0_i32_14
  let v29 : BitVec 32 := Scalar.extui v28
  let v30 : BitVec 32 := Scalar.subi v27 v29
  let c3_i32 : BitVec 32 := 3#32
  let c0_i32_15 : BitVec 32 := 0#32
  let v31 : BitVec 1 := Scalar.cmpi .sgt c3_i32 c0_i32_15
  let v32 : BitVec 32 := Scalar.extui v31
  let c0_i32_16 : BitVec 32 := 0#32
  let v33 : BitVec 1 := Scalar.cmpi .slt c3_i32 c0_i32_16
  let v34 : BitVec 32 := Scalar.extui v33
  let v35 : BitVec 32 := Scalar.subi v32 v34
  let v36 : BitVec 1 := Scalar.cmpi .ne v30 v35
  let v37 : BitVec 32 := Scalar.remsi arg8 c3_i32
  let c0_i32_17 : BitVec 32 := 0#32
  let v38 : BitVec 1 := Scalar.cmpi .ne v37 c0_i32_17
  let v39 : BitVec 1 := Scalar.andi v36 v38
  let v25 : BitVec 32 := Scalar.divsi arg8 c3_i32
  let c1_i32_18 : BitVec 32 := 1#32
  let v40 : BitVec 32 := Scalar.subi v25 c1_i32_18
  let v41 : BitVec 32 := Scalar.select v39 v40 v25
  let c128_i32_87 : BitVec 32 := 128#32
  let v241 : BitVec 32 := Scalar.muli v41 c128_i32_87
  v241
def k0_mult31 (k0_t1 : Fin k0_t1_loop.trips) : BitVec 32 :=
  let c0_i32_10 : BitVec 32 := 0#32
  let c1_i32_11 : BitVec 32 := 1#32
  let arg8 : BitVec 32 := Scf.iv c0_i32_10 c1_i32_11 k0_t1
  let c3_i32_19 : BitVec 32 := 3#32
  let c0_i32_20 : BitVec 32 := 0#32
  let v42 : BitVec 1 := Scalar.cmpi .eq c3_i32_19 c0_i32_20
  let c1_i32_21 : BitVec 32 := 1#32
  let v43 : BitVec 32 := Scalar.select v42 c1_i32_21 c3_i32_19
  let v44 : BitVec 32 := Scalar.remsi arg8 v43
  let c0_i32_23 : BitVec 32 := 0#32
  let v46 : BitVec 1 := Scalar.cmpi .slt v44 c0_i32_23
  let c0_i32_24 : BitVec 32 := 0#32
  let v47 : BitVec 1 := Scalar.cmpi .slt v43 c0_i32_24
  let v48 : BitVec 1 := Scalar.xori v46 v47
  let c0_i32_22 : BitVec 32 := 0#32
  let v45 : BitVec 1 := Scalar.cmpi .ne v44 c0_i32_22
  let v49 : BitVec 1 := Scalar.andi v48 v45
  let v50 : BitVec 32 := Scalar.addi v44 v43
  let v51 : BitVec 32 := Scalar.select v49 v50 v44
  let c256_i32 : BitVec 32 := 256#32
  let v52 : BitVec 32 := Scalar.muli v51 c256_i32
  let v53 : BitVec 32 := v52
  let c0_i32_88 : BitVec 32 := 0#32
  let v244 : BitVec 32 := Scalar.addi v53 c0_i32_88
  v244
def k0_mult32 (k0_t1 : Fin k0_t1_loop.trips) : BitVec 32 :=
  let c0_i32_10 : BitVec 32 := 0#32
  let c1_i32_11 : BitVec 32 := 1#32
  let arg8 : BitVec 32 := Scf.iv c0_i32_10 c1_i32_11 k0_t1
  let c0_i32_13 : BitVec 32 := 0#32
  let v26 : BitVec 1 := Scalar.cmpi .sgt arg8 c0_i32_13
  let v27 : BitVec 32 := Scalar.extui v26
  let c0_i32_14 : BitVec 32 := 0#32
  let v28 : BitVec 1 := Scalar.cmpi .slt arg8 c0_i32_14
  let v29 : BitVec 32 := Scalar.extui v28
  let v30 : BitVec 32 := Scalar.subi v27 v29
  let c3_i32 : BitVec 32 := 3#32
  let c0_i32_15 : BitVec 32 := 0#32
  let v31 : BitVec 1 := Scalar.cmpi .sgt c3_i32 c0_i32_15
  let v32 : BitVec 32 := Scalar.extui v31
  let c0_i32_16 : BitVec 32 := 0#32
  let v33 : BitVec 1 := Scalar.cmpi .slt c3_i32 c0_i32_16
  let v34 : BitVec 32 := Scalar.extui v33
  let v35 : BitVec 32 := Scalar.subi v32 v34
  let v36 : BitVec 1 := Scalar.cmpi .ne v30 v35
  let v37 : BitVec 32 := Scalar.remsi arg8 c3_i32
  let c0_i32_17 : BitVec 32 := 0#32
  let v38 : BitVec 1 := Scalar.cmpi .ne v37 c0_i32_17
  let v39 : BitVec 1 := Scalar.andi v36 v38
  let v25 : BitVec 32 := Scalar.divsi arg8 c3_i32
  let c1_i32_18 : BitVec 32 := 1#32
  let v40 : BitVec 32 := Scalar.subi v25 c1_i32_18
  let v41 : BitVec 32 := Scalar.select v39 v40 v25
  let c128_i32_89 : BitVec 32 := 128#32
  let v256 : BitVec 32 := Scalar.muli v41 c128_i32_89
  v256
def k0_mult33 (k0_t1 : Fin k0_t1_loop.trips) : BitVec 32 :=
  let c0_i32_10 : BitVec 32 := 0#32
  let c1_i32_11 : BitVec 32 := 1#32
  let arg8 : BitVec 32 := Scf.iv c0_i32_10 c1_i32_11 k0_t1
  let c3_i32_19 : BitVec 32 := 3#32
  let c0_i32_20 : BitVec 32 := 0#32
  let v42 : BitVec 1 := Scalar.cmpi .eq c3_i32_19 c0_i32_20
  let c1_i32_21 : BitVec 32 := 1#32
  let v43 : BitVec 32 := Scalar.select v42 c1_i32_21 c3_i32_19
  let v44 : BitVec 32 := Scalar.remsi arg8 v43
  let c0_i32_23 : BitVec 32 := 0#32
  let v46 : BitVec 1 := Scalar.cmpi .slt v44 c0_i32_23
  let c0_i32_24 : BitVec 32 := 0#32
  let v47 : BitVec 1 := Scalar.cmpi .slt v43 c0_i32_24
  let v48 : BitVec 1 := Scalar.xori v46 v47
  let c0_i32_22 : BitVec 32 := 0#32
  let v45 : BitVec 1 := Scalar.cmpi .ne v44 c0_i32_22
  let v49 : BitVec 1 := Scalar.andi v48 v45
  let v50 : BitVec 32 := Scalar.addi v44 v43
  let v51 : BitVec 32 := Scalar.select v49 v50 v44
  let c256_i32 : BitVec 32 := 256#32
  let v52 : BitVec 32 := Scalar.muli v51 c256_i32
  let v53 : BitVec 32 := v52
  let c0_i32_90 : BitVec 32 := 0#32
  let v259 : BitVec 32 := Scalar.addi v53 c0_i32_90
  v259
def k0_mult34 (k0_t1 : Fin k0_t1_loop.trips) : BitVec 32 :=
  let c0_i32_10 : BitVec 32 := 0#32
  let c1_i32_11 : BitVec 32 := 1#32
  let arg8 : BitVec 32 := Scf.iv c0_i32_10 c1_i32_11 k0_t1
  let c0_i32_13 : BitVec 32 := 0#32
  let v26 : BitVec 1 := Scalar.cmpi .sgt arg8 c0_i32_13
  let v27 : BitVec 32 := Scalar.extui v26
  let c0_i32_14 : BitVec 32 := 0#32
  let v28 : BitVec 1 := Scalar.cmpi .slt arg8 c0_i32_14
  let v29 : BitVec 32 := Scalar.extui v28
  let v30 : BitVec 32 := Scalar.subi v27 v29
  let c3_i32 : BitVec 32 := 3#32
  let c0_i32_15 : BitVec 32 := 0#32
  let v31 : BitVec 1 := Scalar.cmpi .sgt c3_i32 c0_i32_15
  let v32 : BitVec 32 := Scalar.extui v31
  let c0_i32_16 : BitVec 32 := 0#32
  let v33 : BitVec 1 := Scalar.cmpi .slt c3_i32 c0_i32_16
  let v34 : BitVec 32 := Scalar.extui v33
  let v35 : BitVec 32 := Scalar.subi v32 v34
  let v36 : BitVec 1 := Scalar.cmpi .ne v30 v35
  let v37 : BitVec 32 := Scalar.remsi arg8 c3_i32
  let c0_i32_17 : BitVec 32 := 0#32
  let v38 : BitVec 1 := Scalar.cmpi .ne v37 c0_i32_17
  let v39 : BitVec 1 := Scalar.andi v36 v38
  let v25 : BitVec 32 := Scalar.divsi arg8 c3_i32
  let c1_i32_18 : BitVec 32 := 1#32
  let v40 : BitVec 32 := Scalar.subi v25 c1_i32_18
  let v41 : BitVec 32 := Scalar.select v39 v40 v25
  let c128_i32_91 : BitVec 32 := 128#32
  let v271 : BitVec 32 := Scalar.muli v41 c128_i32_91
  v271
def k0_mult35 (k0_t1 : Fin k0_t1_loop.trips) : BitVec 32 :=
  let c0_i32_10 : BitVec 32 := 0#32
  let c1_i32_11 : BitVec 32 := 1#32
  let arg8 : BitVec 32 := Scf.iv c0_i32_10 c1_i32_11 k0_t1
  let c3_i32_19 : BitVec 32 := 3#32
  let c0_i32_20 : BitVec 32 := 0#32
  let v42 : BitVec 1 := Scalar.cmpi .eq c3_i32_19 c0_i32_20
  let c1_i32_21 : BitVec 32 := 1#32
  let v43 : BitVec 32 := Scalar.select v42 c1_i32_21 c3_i32_19
  let v44 : BitVec 32 := Scalar.remsi arg8 v43
  let c0_i32_23 : BitVec 32 := 0#32
  let v46 : BitVec 1 := Scalar.cmpi .slt v44 c0_i32_23
  let c0_i32_24 : BitVec 32 := 0#32
  let v47 : BitVec 1 := Scalar.cmpi .slt v43 c0_i32_24
  let v48 : BitVec 1 := Scalar.xori v46 v47
  let c0_i32_22 : BitVec 32 := 0#32
  let v45 : BitVec 1 := Scalar.cmpi .ne v44 c0_i32_22
  let v49 : BitVec 1 := Scalar.andi v48 v45
  let v50 : BitVec 32 := Scalar.addi v44 v43
  let v51 : BitVec 32 := Scalar.select v49 v50 v44
  let c256_i32 : BitVec 32 := 256#32
  let v52 : BitVec 32 := Scalar.muli v51 c256_i32
  let v53 : BitVec 32 := v52
  let c0_i32_92 : BitVec 32 := 0#32
  let v274 : BitVec 32 := Scalar.addi v53 c0_i32_92
  v274
def k0_mult36 (k0_t1 : Fin k0_t1_loop.trips) : BitVec 32 :=
  let c0_i32_10 : BitVec 32 := 0#32
  let c1_i32_11 : BitVec 32 := 1#32
  let arg8 : BitVec 32 := Scf.iv c0_i32_10 c1_i32_11 k0_t1
  let c0_i32_13 : BitVec 32 := 0#32
  let v26 : BitVec 1 := Scalar.cmpi .sgt arg8 c0_i32_13
  let v27 : BitVec 32 := Scalar.extui v26
  let c0_i32_14 : BitVec 32 := 0#32
  let v28 : BitVec 1 := Scalar.cmpi .slt arg8 c0_i32_14
  let v29 : BitVec 32 := Scalar.extui v28
  let v30 : BitVec 32 := Scalar.subi v27 v29
  let c3_i32 : BitVec 32 := 3#32
  let c0_i32_15 : BitVec 32 := 0#32
  let v31 : BitVec 1 := Scalar.cmpi .sgt c3_i32 c0_i32_15
  let v32 : BitVec 32 := Scalar.extui v31
  let c0_i32_16 : BitVec 32 := 0#32
  let v33 : BitVec 1 := Scalar.cmpi .slt c3_i32 c0_i32_16
  let v34 : BitVec 32 := Scalar.extui v33
  let v35 : BitVec 32 := Scalar.subi v32 v34
  let v36 : BitVec 1 := Scalar.cmpi .ne v30 v35
  let v37 : BitVec 32 := Scalar.remsi arg8 c3_i32
  let c0_i32_17 : BitVec 32 := 0#32
  let v38 : BitVec 1 := Scalar.cmpi .ne v37 c0_i32_17
  let v39 : BitVec 1 := Scalar.andi v36 v38
  let v25 : BitVec 32 := Scalar.divsi arg8 c3_i32
  let c1_i32_18 : BitVec 32 := 1#32
  let v40 : BitVec 32 := Scalar.subi v25 c1_i32_18
  let v41 : BitVec 32 := Scalar.select v39 v40 v25
  let c64_i32_93 : BitVec 32 := 64#32
  let v282 : BitVec 32 := Scalar.muli v41 c64_i32_93
  v282
def k0_mult37 (k0_t1 : Fin k0_t1_loop.trips) : BitVec 32 :=
  let c0_i32_10 : BitVec 32 := 0#32
  let c1_i32_11 : BitVec 32 := 1#32
  let arg8 : BitVec 32 := Scf.iv c0_i32_10 c1_i32_11 k0_t1
  let c3_i32_19 : BitVec 32 := 3#32
  let c0_i32_20 : BitVec 32 := 0#32
  let v42 : BitVec 1 := Scalar.cmpi .eq c3_i32_19 c0_i32_20
  let c1_i32_21 : BitVec 32 := 1#32
  let v43 : BitVec 32 := Scalar.select v42 c1_i32_21 c3_i32_19
  let v44 : BitVec 32 := Scalar.remsi arg8 v43
  let c0_i32_23 : BitVec 32 := 0#32
  let v46 : BitVec 1 := Scalar.cmpi .slt v44 c0_i32_23
  let c0_i32_24 : BitVec 32 := 0#32
  let v47 : BitVec 1 := Scalar.cmpi .slt v43 c0_i32_24
  let v48 : BitVec 1 := Scalar.xori v46 v47
  let c0_i32_22 : BitVec 32 := 0#32
  let v45 : BitVec 1 := Scalar.cmpi .ne v44 c0_i32_22
  let v49 : BitVec 1 := Scalar.andi v48 v45
  let v50 : BitVec 32 := Scalar.addi v44 v43
  let v51 : BitVec 32 := Scalar.select v49 v50 v44
  let c256_i32 : BitVec 32 := 256#32
  let v52 : BitVec 32 := Scalar.muli v51 c256_i32
  let v53 : BitVec 32 := v52
  let c128_i32_95 : BitVec 32 := 128#32
  let v285 : BitVec 32 := Scalar.addi v53 c128_i32_95
  v285
def k0_mult38 (k0_t1 : Fin k0_t1_loop.trips) : BitVec 32 :=
  let c0_i32_10 : BitVec 32 := 0#32
  let c1_i32_11 : BitVec 32 := 1#32
  let arg8 : BitVec 32 := Scf.iv c0_i32_10 c1_i32_11 k0_t1
  let c0_i32_13 : BitVec 32 := 0#32
  let v26 : BitVec 1 := Scalar.cmpi .sgt arg8 c0_i32_13
  let v27 : BitVec 32 := Scalar.extui v26
  let c0_i32_14 : BitVec 32 := 0#32
  let v28 : BitVec 1 := Scalar.cmpi .slt arg8 c0_i32_14
  let v29 : BitVec 32 := Scalar.extui v28
  let v30 : BitVec 32 := Scalar.subi v27 v29
  let c3_i32 : BitVec 32 := 3#32
  let c0_i32_15 : BitVec 32 := 0#32
  let v31 : BitVec 1 := Scalar.cmpi .sgt c3_i32 c0_i32_15
  let v32 : BitVec 32 := Scalar.extui v31
  let c0_i32_16 : BitVec 32 := 0#32
  let v33 : BitVec 1 := Scalar.cmpi .slt c3_i32 c0_i32_16
  let v34 : BitVec 32 := Scalar.extui v33
  let v35 : BitVec 32 := Scalar.subi v32 v34
  let v36 : BitVec 1 := Scalar.cmpi .ne v30 v35
  let v37 : BitVec 32 := Scalar.remsi arg8 c3_i32
  let c0_i32_17 : BitVec 32 := 0#32
  let v38 : BitVec 1 := Scalar.cmpi .ne v37 c0_i32_17
  let v39 : BitVec 1 := Scalar.andi v36 v38
  let v25 : BitVec 32 := Scalar.divsi arg8 c3_i32
  let c1_i32_18 : BitVec 32 := 1#32
  let v40 : BitVec 32 := Scalar.subi v25 c1_i32_18
  let v41 : BitVec 32 := Scalar.select v39 v40 v25
  let c64_i32_96 : BitVec 32 := 64#32
  let v290 : BitVec 32 := Scalar.muli v41 c64_i32_96
  v290
def k0_mult39 (k0_t1 : Fin k0_t1_loop.trips) : BitVec 32 :=
  let c0_i32_10 : BitVec 32 := 0#32
  let c1_i32_11 : BitVec 32 := 1#32
  let arg8 : BitVec 32 := Scf.iv c0_i32_10 c1_i32_11 k0_t1
  let c3_i32_19 : BitVec 32 := 3#32
  let c0_i32_20 : BitVec 32 := 0#32
  let v42 : BitVec 1 := Scalar.cmpi .eq c3_i32_19 c0_i32_20
  let c1_i32_21 : BitVec 32 := 1#32
  let v43 : BitVec 32 := Scalar.select v42 c1_i32_21 c3_i32_19
  let v44 : BitVec 32 := Scalar.remsi arg8 v43
  let c0_i32_23 : BitVec 32 := 0#32
  let v46 : BitVec 1 := Scalar.cmpi .slt v44 c0_i32_23
  let c0_i32_24 : BitVec 32 := 0#32
  let v47 : BitVec 1 := Scalar.cmpi .slt v43 c0_i32_24
  let v48 : BitVec 1 := Scalar.xori v46 v47
  let c0_i32_22 : BitVec 32 := 0#32
  let v45 : BitVec 1 := Scalar.cmpi .ne v44 c0_i32_22
  let v49 : BitVec 1 := Scalar.andi v48 v45
  let v50 : BitVec 32 := Scalar.addi v44 v43
  let v51 : BitVec 32 := Scalar.select v49 v50 v44
  let c256_i32 : BitVec 32 := 256#32
  let v52 : BitVec 32 := Scalar.muli v51 c256_i32
  let v53 : BitVec 32 := v52
  let c128_i32_98 : BitVec 32 := 128#32
  let v293 : BitVec 32 := Scalar.addi v53 c128_i32_98
  v293
def k0_mult40 (k0_t1 : Fin k0_t1_loop.trips) : BitVec 32 :=
  let c0_i32_10 : BitVec 32 := 0#32
  let c1_i32_11 : BitVec 32 := 1#32
  let arg8 : BitVec 32 := Scf.iv c0_i32_10 c1_i32_11 k0_t1
  let c0_i32_13 : BitVec 32 := 0#32
  let v26 : BitVec 1 := Scalar.cmpi .sgt arg8 c0_i32_13
  let v27 : BitVec 32 := Scalar.extui v26
  let c0_i32_14 : BitVec 32 := 0#32
  let v28 : BitVec 1 := Scalar.cmpi .slt arg8 c0_i32_14
  let v29 : BitVec 32 := Scalar.extui v28
  let v30 : BitVec 32 := Scalar.subi v27 v29
  let c3_i32 : BitVec 32 := 3#32
  let c0_i32_15 : BitVec 32 := 0#32
  let v31 : BitVec 1 := Scalar.cmpi .sgt c3_i32 c0_i32_15
  let v32 : BitVec 32 := Scalar.extui v31
  let c0_i32_16 : BitVec 32 := 0#32
  let v33 : BitVec 1 := Scalar.cmpi .slt c3_i32 c0_i32_16
  let v34 : BitVec 32 := Scalar.extui v33
  let v35 : BitVec 32 := Scalar.subi v32 v34
  let v36 : BitVec 1 := Scalar.cmpi .ne v30 v35
  let v37 : BitVec 32 := Scalar.remsi arg8 c3_i32
  let c0_i32_17 : BitVec 32 := 0#32
  let v38 : BitVec 1 := Scalar.cmpi .ne v37 c0_i32_17
  let v39 : BitVec 1 := Scalar.andi v36 v38
  let v25 : BitVec 32 := Scalar.divsi arg8 c3_i32
  let c1_i32_18 : BitVec 32 := 1#32
  let v40 : BitVec 32 := Scalar.subi v25 c1_i32_18
  let v41 : BitVec 32 := Scalar.select v39 v40 v25
  let c64_i32_99 : BitVec 32 := 64#32
  let v298 : BitVec 32 := Scalar.muli v41 c64_i32_99
  v298
def k0_mult41 (k0_t1 : Fin k0_t1_loop.trips) : BitVec 32 :=
  let c0_i32_10 : BitVec 32 := 0#32
  let c1_i32_11 : BitVec 32 := 1#32
  let arg8 : BitVec 32 := Scf.iv c0_i32_10 c1_i32_11 k0_t1
  let c3_i32_19 : BitVec 32 := 3#32
  let c0_i32_20 : BitVec 32 := 0#32
  let v42 : BitVec 1 := Scalar.cmpi .eq c3_i32_19 c0_i32_20
  let c1_i32_21 : BitVec 32 := 1#32
  let v43 : BitVec 32 := Scalar.select v42 c1_i32_21 c3_i32_19
  let v44 : BitVec 32 := Scalar.remsi arg8 v43
  let c0_i32_23 : BitVec 32 := 0#32
  let v46 : BitVec 1 := Scalar.cmpi .slt v44 c0_i32_23
  let c0_i32_24 : BitVec 32 := 0#32
  let v47 : BitVec 1 := Scalar.cmpi .slt v43 c0_i32_24
  let v48 : BitVec 1 := Scalar.xori v46 v47
  let c0_i32_22 : BitVec 32 := 0#32
  let v45 : BitVec 1 := Scalar.cmpi .ne v44 c0_i32_22
  let v49 : BitVec 1 := Scalar.andi v48 v45
  let v50 : BitVec 32 := Scalar.addi v44 v43
  let v51 : BitVec 32 := Scalar.select v49 v50 v44
  let c256_i32 : BitVec 32 := 256#32
  let v52 : BitVec 32 := Scalar.muli v51 c256_i32
  let v53 : BitVec 32 := v52
  let c128_i32_101 : BitVec 32 := 128#32
  let v301 : BitVec 32 := Scalar.addi v53 c128_i32_101
  v301
def k0_mult42 (k0_t1 : Fin k0_t1_loop.trips) : BitVec 32 :=
  let c0_i32_10 : BitVec 32 := 0#32
  let c1_i32_11 : BitVec 32 := 1#32
  let arg8 : BitVec 32 := Scf.iv c0_i32_10 c1_i32_11 k0_t1
  let c0_i32_13 : BitVec 32 := 0#32
  let v26 : BitVec 1 := Scalar.cmpi .sgt arg8 c0_i32_13
  let v27 : BitVec 32 := Scalar.extui v26
  let c0_i32_14 : BitVec 32 := 0#32
  let v28 : BitVec 1 := Scalar.cmpi .slt arg8 c0_i32_14
  let v29 : BitVec 32 := Scalar.extui v28
  let v30 : BitVec 32 := Scalar.subi v27 v29
  let c3_i32 : BitVec 32 := 3#32
  let c0_i32_15 : BitVec 32 := 0#32
  let v31 : BitVec 1 := Scalar.cmpi .sgt c3_i32 c0_i32_15
  let v32 : BitVec 32 := Scalar.extui v31
  let c0_i32_16 : BitVec 32 := 0#32
  let v33 : BitVec 1 := Scalar.cmpi .slt c3_i32 c0_i32_16
  let v34 : BitVec 32 := Scalar.extui v33
  let v35 : BitVec 32 := Scalar.subi v32 v34
  let v36 : BitVec 1 := Scalar.cmpi .ne v30 v35
  let v37 : BitVec 32 := Scalar.remsi arg8 c3_i32
  let c0_i32_17 : BitVec 32 := 0#32
  let v38 : BitVec 1 := Scalar.cmpi .ne v37 c0_i32_17
  let v39 : BitVec 1 := Scalar.andi v36 v38
  let v25 : BitVec 32 := Scalar.divsi arg8 c3_i32
  let c1_i32_18 : BitVec 32 := 1#32
  let v40 : BitVec 32 := Scalar.subi v25 c1_i32_18
  let v41 : BitVec 32 := Scalar.select v39 v40 v25
  let c64_i32_102 : BitVec 32 := 64#32
  let v306 : BitVec 32 := Scalar.muli v41 c64_i32_102
  v306
def k0_mult43 (k0_t1 : Fin k0_t1_loop.trips) : BitVec 32 :=
  let c0_i32_10 : BitVec 32 := 0#32
  let c1_i32_11 : BitVec 32 := 1#32
  let arg8 : BitVec 32 := Scf.iv c0_i32_10 c1_i32_11 k0_t1
  let c3_i32_19 : BitVec 32 := 3#32
  let c0_i32_20 : BitVec 32 := 0#32
  let v42 : BitVec 1 := Scalar.cmpi .eq c3_i32_19 c0_i32_20
  let c1_i32_21 : BitVec 32 := 1#32
  let v43 : BitVec 32 := Scalar.select v42 c1_i32_21 c3_i32_19
  let v44 : BitVec 32 := Scalar.remsi arg8 v43
  let c0_i32_23 : BitVec 32 := 0#32
  let v46 : BitVec 1 := Scalar.cmpi .slt v44 c0_i32_23
  let c0_i32_24 : BitVec 32 := 0#32
  let v47 : BitVec 1 := Scalar.cmpi .slt v43 c0_i32_24
  let v48 : BitVec 1 := Scalar.xori v46 v47
  let c0_i32_22 : BitVec 32 := 0#32
  let v45 : BitVec 1 := Scalar.cmpi .ne v44 c0_i32_22
  let v49 : BitVec 1 := Scalar.andi v48 v45
  let v50 : BitVec 32 := Scalar.addi v44 v43
  let v51 : BitVec 32 := Scalar.select v49 v50 v44
  let c256_i32 : BitVec 32 := 256#32
  let v52 : BitVec 32 := Scalar.muli v51 c256_i32
  let v53 : BitVec 32 := v52
  let c128_i32_104 : BitVec 32 := 128#32
  let v309 : BitVec 32 := Scalar.addi v53 c128_i32_104
  v309
def k0_mult44 (k0_t1 : Fin k0_t1_loop.trips) : BitVec 32 :=
  let c0_i32_10 : BitVec 32 := 0#32
  let c1_i32_11 : BitVec 32 := 1#32
  let arg8 : BitVec 32 := Scf.iv c0_i32_10 c1_i32_11 k0_t1
  let c3_i32_19 : BitVec 32 := 3#32
  let c0_i32_20 : BitVec 32 := 0#32
  let v42 : BitVec 1 := Scalar.cmpi .eq c3_i32_19 c0_i32_20
  let c1_i32_21 : BitVec 32 := 1#32
  let v43 : BitVec 32 := Scalar.select v42 c1_i32_21 c3_i32_19
  let v44 : BitVec 32 := Scalar.remsi arg8 v43
  let c0_i32_23 : BitVec 32 := 0#32
  let v46 : BitVec 1 := Scalar.cmpi .slt v44 c0_i32_23
  let c0_i32_24 : BitVec 32 := 0#32
  let v47 : BitVec 1 := Scalar.cmpi .slt v43 c0_i32_24
  let v48 : BitVec 1 := Scalar.xori v46 v47
  let c0_i32_22 : BitVec 32 := 0#32
  let v45 : BitVec 1 := Scalar.cmpi .ne v44 c0_i32_22
  let v49 : BitVec 1 := Scalar.andi v48 v45
  let v50 : BitVec 32 := Scalar.addi v44 v43
  let v51 : BitVec 32 := Scalar.select v49 v50 v44
  let c256_i32 : BitVec 32 := 256#32
  let v52 : BitVec 32 := Scalar.muli v51 c256_i32
  let v53 : BitVec 32 := v52
  let c128_i32_107 : BitVec 32 := 128#32
  let v316 : BitVec 32 := Scalar.addi v53 c128_i32_107
  v316
def k0_mult45 (k0_t1 : Fin k0_t1_loop.trips) : BitVec 32 :=
  let c0_i32_10 : BitVec 32 := 0#32
  let c1_i32_11 : BitVec 32 := 1#32
  let arg8 : BitVec 32 := Scf.iv c0_i32_10 c1_i32_11 k0_t1
  let c0_i32_13 : BitVec 32 := 0#32
  let v26 : BitVec 1 := Scalar.cmpi .sgt arg8 c0_i32_13
  let v27 : BitVec 32 := Scalar.extui v26
  let c0_i32_14 : BitVec 32 := 0#32
  let v28 : BitVec 1 := Scalar.cmpi .slt arg8 c0_i32_14
  let v29 : BitVec 32 := Scalar.extui v28
  let v30 : BitVec 32 := Scalar.subi v27 v29
  let c3_i32 : BitVec 32 := 3#32
  let c0_i32_15 : BitVec 32 := 0#32
  let v31 : BitVec 1 := Scalar.cmpi .sgt c3_i32 c0_i32_15
  let v32 : BitVec 32 := Scalar.extui v31
  let c0_i32_16 : BitVec 32 := 0#32
  let v33 : BitVec 1 := Scalar.cmpi .slt c3_i32 c0_i32_16
  let v34 : BitVec 32 := Scalar.extui v33
  let v35 : BitVec 32 := Scalar.subi v32 v34
  let v36 : BitVec 1 := Scalar.cmpi .ne v30 v35
  let v37 : BitVec 32 := Scalar.remsi arg8 c3_i32
  let c0_i32_17 : BitVec 32 := 0#32
  let v38 : BitVec 1 := Scalar.cmpi .ne v37 c0_i32_17
  let v39 : BitVec 1 := Scalar.andi v36 v38
  let v25 : BitVec 32 := Scalar.divsi arg8 c3_i32
  let c1_i32_18 : BitVec 32 := 1#32
  let v40 : BitVec 32 := Scalar.subi v25 c1_i32_18
  let v41 : BitVec 32 := Scalar.select v39 v40 v25
  let c128_i32_122 : BitVec 32 := 128#32
  let v340 : BitVec 32 := Scalar.muli v41 c128_i32_122
  v340
def k0_mult46 (k0_t1 : Fin k0_t1_loop.trips) : BitVec 32 :=
  let c0_i32_10 : BitVec 32 := 0#32
  let c1_i32_11 : BitVec 32 := 1#32
  let arg8 : BitVec 32 := Scf.iv c0_i32_10 c1_i32_11 k0_t1
  let c3_i32_19 : BitVec 32 := 3#32
  let c0_i32_20 : BitVec 32 := 0#32
  let v42 : BitVec 1 := Scalar.cmpi .eq c3_i32_19 c0_i32_20
  let c1_i32_21 : BitVec 32 := 1#32
  let v43 : BitVec 32 := Scalar.select v42 c1_i32_21 c3_i32_19
  let v44 : BitVec 32 := Scalar.remsi arg8 v43
  let c0_i32_23 : BitVec 32 := 0#32
  let v46 : BitVec 1 := Scalar.cmpi .slt v44 c0_i32_23
  let c0_i32_24 : BitVec 32 := 0#32
  let v47 : BitVec 1 := Scalar.cmpi .slt v43 c0_i32_24
  let v48 : BitVec 1 := Scalar.xori v46 v47
  let c0_i32_22 : BitVec 32 := 0#32
  let v45 : BitVec 1 := Scalar.cmpi .ne v44 c0_i32_22
  let v49 : BitVec 1 := Scalar.andi v48 v45
  let v50 : BitVec 32 := Scalar.addi v44 v43
  let v51 : BitVec 32 := Scalar.select v49 v50 v44
  let c256_i32 : BitVec 32 := 256#32
  let v52 : BitVec 32 := Scalar.muli v51 c256_i32
  let v53 : BitVec 32 := v52
  let c128_i32_124 : BitVec 32 := 128#32
  let v343 : BitVec 32 := Scalar.addi v53 c128_i32_124
  v343
def k0_mult47 (k0_t1 : Fin k0_t1_loop.trips) : BitVec 32 :=
  let c0_i32_10 : BitVec 32 := 0#32
  let c1_i32_11 : BitVec 32 := 1#32
  let arg8 : BitVec 32 := Scf.iv c0_i32_10 c1_i32_11 k0_t1
  let c0_i32_13 : BitVec 32 := 0#32
  let v26 : BitVec 1 := Scalar.cmpi .sgt arg8 c0_i32_13
  let v27 : BitVec 32 := Scalar.extui v26
  let c0_i32_14 : BitVec 32 := 0#32
  let v28 : BitVec 1 := Scalar.cmpi .slt arg8 c0_i32_14
  let v29 : BitVec 32 := Scalar.extui v28
  let v30 : BitVec 32 := Scalar.subi v27 v29
  let c3_i32 : BitVec 32 := 3#32
  let c0_i32_15 : BitVec 32 := 0#32
  let v31 : BitVec 1 := Scalar.cmpi .sgt c3_i32 c0_i32_15
  let v32 : BitVec 32 := Scalar.extui v31
  let c0_i32_16 : BitVec 32 := 0#32
  let v33 : BitVec 1 := Scalar.cmpi .slt c3_i32 c0_i32_16
  let v34 : BitVec 32 := Scalar.extui v33
  let v35 : BitVec 32 := Scalar.subi v32 v34
  let v36 : BitVec 1 := Scalar.cmpi .ne v30 v35
  let v37 : BitVec 32 := Scalar.remsi arg8 c3_i32
  let c0_i32_17 : BitVec 32 := 0#32
  let v38 : BitVec 1 := Scalar.cmpi .ne v37 c0_i32_17
  let v39 : BitVec 1 := Scalar.andi v36 v38
  let v25 : BitVec 32 := Scalar.divsi arg8 c3_i32
  let c1_i32_18 : BitVec 32 := 1#32
  let v40 : BitVec 32 := Scalar.subi v25 c1_i32_18
  let v41 : BitVec 32 := Scalar.select v39 v40 v25
  let c128_i32_125 : BitVec 32 := 128#32
  let v355 : BitVec 32 := Scalar.muli v41 c128_i32_125
  v355
def k0_mult48 (k0_t1 : Fin k0_t1_loop.trips) : BitVec 32 :=
  let c0_i32_10 : BitVec 32 := 0#32
  let c1_i32_11 : BitVec 32 := 1#32
  let arg8 : BitVec 32 := Scf.iv c0_i32_10 c1_i32_11 k0_t1
  let c3_i32_19 : BitVec 32 := 3#32
  let c0_i32_20 : BitVec 32 := 0#32
  let v42 : BitVec 1 := Scalar.cmpi .eq c3_i32_19 c0_i32_20
  let c1_i32_21 : BitVec 32 := 1#32
  let v43 : BitVec 32 := Scalar.select v42 c1_i32_21 c3_i32_19
  let v44 : BitVec 32 := Scalar.remsi arg8 v43
  let c0_i32_23 : BitVec 32 := 0#32
  let v46 : BitVec 1 := Scalar.cmpi .slt v44 c0_i32_23
  let c0_i32_24 : BitVec 32 := 0#32
  let v47 : BitVec 1 := Scalar.cmpi .slt v43 c0_i32_24
  let v48 : BitVec 1 := Scalar.xori v46 v47
  let c0_i32_22 : BitVec 32 := 0#32
  let v45 : BitVec 1 := Scalar.cmpi .ne v44 c0_i32_22
  let v49 : BitVec 1 := Scalar.andi v48 v45
  let v50 : BitVec 32 := Scalar.addi v44 v43
  let v51 : BitVec 32 := Scalar.select v49 v50 v44
  let c256_i32 : BitVec 32 := 256#32
  let v52 : BitVec 32 := Scalar.muli v51 c256_i32
  let v53 : BitVec 32 := v52
  let c128_i32_127 : BitVec 32 := 128#32
  let v358 : BitVec 32 := Scalar.addi v53 c128_i32_127
  v358
def k0_mult49 (k0_t1 : Fin k0_t1_loop.trips) : BitVec 32 :=
  let c0_i32_10 : BitVec 32 := 0#32
  let c1_i32_11 : BitVec 32 := 1#32
  let arg8 : BitVec 32 := Scf.iv c0_i32_10 c1_i32_11 k0_t1
  let c0_i32_13 : BitVec 32 := 0#32
  let v26 : BitVec 1 := Scalar.cmpi .sgt arg8 c0_i32_13
  let v27 : BitVec 32 := Scalar.extui v26
  let c0_i32_14 : BitVec 32 := 0#32
  let v28 : BitVec 1 := Scalar.cmpi .slt arg8 c0_i32_14
  let v29 : BitVec 32 := Scalar.extui v28
  let v30 : BitVec 32 := Scalar.subi v27 v29
  let c3_i32 : BitVec 32 := 3#32
  let c0_i32_15 : BitVec 32 := 0#32
  let v31 : BitVec 1 := Scalar.cmpi .sgt c3_i32 c0_i32_15
  let v32 : BitVec 32 := Scalar.extui v31
  let c0_i32_16 : BitVec 32 := 0#32
  let v33 : BitVec 1 := Scalar.cmpi .slt c3_i32 c0_i32_16
  let v34 : BitVec 32 := Scalar.extui v33
  let v35 : BitVec 32 := Scalar.subi v32 v34
  let v36 : BitVec 1 := Scalar.cmpi .ne v30 v35
  let v37 : BitVec 32 := Scalar.remsi arg8 c3_i32
  let c0_i32_17 : BitVec 32 := 0#32
  let v38 : BitVec 1 := Scalar.cmpi .ne v37 c0_i32_17
  let v39 : BitVec 1 := Scalar.andi v36 v38
  let v25 : BitVec 32 := Scalar.divsi arg8 c3_i32
  let c1_i32_18 : BitVec 32 := 1#32
  let v40 : BitVec 32 := Scalar.subi v25 c1_i32_18
  let v41 : BitVec 32 := Scalar.select v39 v40 v25
  let c128_i32_128 : BitVec 32 := 128#32
  let v370 : BitVec 32 := Scalar.muli v41 c128_i32_128
  v370
def k0_mult50 (k0_t1 : Fin k0_t1_loop.trips) : BitVec 32 :=
  let c0_i32_10 : BitVec 32 := 0#32
  let c1_i32_11 : BitVec 32 := 1#32
  let arg8 : BitVec 32 := Scf.iv c0_i32_10 c1_i32_11 k0_t1
  let c3_i32_19 : BitVec 32 := 3#32
  let c0_i32_20 : BitVec 32 := 0#32
  let v42 : BitVec 1 := Scalar.cmpi .eq c3_i32_19 c0_i32_20
  let c1_i32_21 : BitVec 32 := 1#32
  let v43 : BitVec 32 := Scalar.select v42 c1_i32_21 c3_i32_19
  let v44 : BitVec 32 := Scalar.remsi arg8 v43
  let c0_i32_23 : BitVec 32 := 0#32
  let v46 : BitVec 1 := Scalar.cmpi .slt v44 c0_i32_23
  let c0_i32_24 : BitVec 32 := 0#32
  let v47 : BitVec 1 := Scalar.cmpi .slt v43 c0_i32_24
  let v48 : BitVec 1 := Scalar.xori v46 v47
  let c0_i32_22 : BitVec 32 := 0#32
  let v45 : BitVec 1 := Scalar.cmpi .ne v44 c0_i32_22
  let v49 : BitVec 1 := Scalar.andi v48 v45
  let v50 : BitVec 32 := Scalar.addi v44 v43
  let v51 : BitVec 32 := Scalar.select v49 v50 v44
  let c256_i32 : BitVec 32 := 256#32
  let v52 : BitVec 32 := Scalar.muli v51 c256_i32
  let v53 : BitVec 32 := v52
  let c128_i32_130 : BitVec 32 := 128#32
  let v373 : BitVec 32 := Scalar.addi v53 c128_i32_130
  v373
def k0_mult51 (k0_t1 : Fin k0_t1_loop.trips) : BitVec 32 :=
  let c0_i32_10 : BitVec 32 := 0#32
  let c1_i32_11 : BitVec 32 := 1#32
  let arg8 : BitVec 32 := Scf.iv c0_i32_10 c1_i32_11 k0_t1
  let c0_i32_13 : BitVec 32 := 0#32
  let v26 : BitVec 1 := Scalar.cmpi .sgt arg8 c0_i32_13
  let v27 : BitVec 32 := Scalar.extui v26
  let c0_i32_14 : BitVec 32 := 0#32
  let v28 : BitVec 1 := Scalar.cmpi .slt arg8 c0_i32_14
  let v29 : BitVec 32 := Scalar.extui v28
  let v30 : BitVec 32 := Scalar.subi v27 v29
  let c3_i32 : BitVec 32 := 3#32
  let c0_i32_15 : BitVec 32 := 0#32
  let v31 : BitVec 1 := Scalar.cmpi .sgt c3_i32 c0_i32_15
  let v32 : BitVec 32 := Scalar.extui v31
  let c0_i32_16 : BitVec 32 := 0#32
  let v33 : BitVec 1 := Scalar.cmpi .slt c3_i32 c0_i32_16
  let v34 : BitVec 32 := Scalar.extui v33
  let v35 : BitVec 32 := Scalar.subi v32 v34
  let v36 : BitVec 1 := Scalar.cmpi .ne v30 v35
  let v37 : BitVec 32 := Scalar.remsi arg8 c3_i32
  let c0_i32_17 : BitVec 32 := 0#32
  let v38 : BitVec 1 := Scalar.cmpi .ne v37 c0_i32_17
  let v39 : BitVec 1 := Scalar.andi v36 v38
  let v25 : BitVec 32 := Scalar.divsi arg8 c3_i32
  let c1_i32_18 : BitVec 32 := 1#32
  let v40 : BitVec 32 := Scalar.subi v25 c1_i32_18
  let v41 : BitVec 32 := Scalar.select v39 v40 v25
  let c128_i32_131 : BitVec 32 := 128#32
  let v385 : BitVec 32 := Scalar.muli v41 c128_i32_131
  v385
def k0_mult52 (k0_t1 : Fin k0_t1_loop.trips) : BitVec 32 :=
  let c0_i32_10 : BitVec 32 := 0#32
  let c1_i32_11 : BitVec 32 := 1#32
  let arg8 : BitVec 32 := Scf.iv c0_i32_10 c1_i32_11 k0_t1
  let c3_i32_19 : BitVec 32 := 3#32
  let c0_i32_20 : BitVec 32 := 0#32
  let v42 : BitVec 1 := Scalar.cmpi .eq c3_i32_19 c0_i32_20
  let c1_i32_21 : BitVec 32 := 1#32
  let v43 : BitVec 32 := Scalar.select v42 c1_i32_21 c3_i32_19
  let v44 : BitVec 32 := Scalar.remsi arg8 v43
  let c0_i32_23 : BitVec 32 := 0#32
  let v46 : BitVec 1 := Scalar.cmpi .slt v44 c0_i32_23
  let c0_i32_24 : BitVec 32 := 0#32
  let v47 : BitVec 1 := Scalar.cmpi .slt v43 c0_i32_24
  let v48 : BitVec 1 := Scalar.xori v46 v47
  let c0_i32_22 : BitVec 32 := 0#32
  let v45 : BitVec 1 := Scalar.cmpi .ne v44 c0_i32_22
  let v49 : BitVec 1 := Scalar.andi v48 v45
  let v50 : BitVec 32 := Scalar.addi v44 v43
  let v51 : BitVec 32 := Scalar.select v49 v50 v44
  let c256_i32 : BitVec 32 := 256#32
  let v52 : BitVec 32 := Scalar.muli v51 c256_i32
  let v53 : BitVec 32 := v52
  let c128_i32_133 : BitVec 32 := 128#32
  let v388 : BitVec 32 := Scalar.addi v53 c128_i32_133
  v388
def k0_mult53 (k0_t1 : Fin k0_t1_loop.trips) : BitVec 32 :=
  let c0_i32_10 : BitVec 32 := 0#32
  let c1_i32_11 : BitVec 32 := 1#32
  let arg8 : BitVec 32 := Scf.iv c0_i32_10 c1_i32_11 k0_t1
  let c0_i32_13 : BitVec 32 := 0#32
  let v26 : BitVec 1 := Scalar.cmpi .sgt arg8 c0_i32_13
  let v27 : BitVec 32 := Scalar.extui v26
  let c0_i32_14 : BitVec 32 := 0#32
  let v28 : BitVec 1 := Scalar.cmpi .slt arg8 c0_i32_14
  let v29 : BitVec 32 := Scalar.extui v28
  let v30 : BitVec 32 := Scalar.subi v27 v29
  let c3_i32 : BitVec 32 := 3#32
  let c0_i32_15 : BitVec 32 := 0#32
  let v31 : BitVec 1 := Scalar.cmpi .sgt c3_i32 c0_i32_15
  let v32 : BitVec 32 := Scalar.extui v31
  let c0_i32_16 : BitVec 32 := 0#32
  let v33 : BitVec 1 := Scalar.cmpi .slt c3_i32 c0_i32_16
  let v34 : BitVec 32 := Scalar.extui v33
  let v35 : BitVec 32 := Scalar.subi v32 v34
  let v36 : BitVec 1 := Scalar.cmpi .ne v30 v35
  let v37 : BitVec 32 := Scalar.remsi arg8 c3_i32
  let c0_i32_17 : BitVec 32 := 0#32
  let v38 : BitVec 1 := Scalar.cmpi .ne v37 c0_i32_17
  let v39 : BitVec 1 := Scalar.andi v36 v38
  let v25 : BitVec 32 := Scalar.divsi arg8 c3_i32
  let c1_i32_18 : BitVec 32 := 1#32
  let v40 : BitVec 32 := Scalar.subi v25 c1_i32_18
  let v41 : BitVec 32 := Scalar.select v39 v40 v25
  let c64_i32_134 : BitVec 32 := 64#32
  let v396 : BitVec 32 := Scalar.muli v41 c64_i32_134
  v396
def k0_mult54 (k0_t1 : Fin k0_t1_loop.trips) : BitVec 32 :=
  let c0_i32_10 : BitVec 32 := 0#32
  let c1_i32_11 : BitVec 32 := 1#32
  let arg8 : BitVec 32 := Scf.iv c0_i32_10 c1_i32_11 k0_t1
  let c3_i32_19 : BitVec 32 := 3#32
  let c0_i32_20 : BitVec 32 := 0#32
  let v42 : BitVec 1 := Scalar.cmpi .eq c3_i32_19 c0_i32_20
  let c1_i32_21 : BitVec 32 := 1#32
  let v43 : BitVec 32 := Scalar.select v42 c1_i32_21 c3_i32_19
  let v44 : BitVec 32 := Scalar.remsi arg8 v43
  let c0_i32_23 : BitVec 32 := 0#32
  let v46 : BitVec 1 := Scalar.cmpi .slt v44 c0_i32_23
  let c0_i32_24 : BitVec 32 := 0#32
  let v47 : BitVec 1 := Scalar.cmpi .slt v43 c0_i32_24
  let v48 : BitVec 1 := Scalar.xori v46 v47
  let c0_i32_22 : BitVec 32 := 0#32
  let v45 : BitVec 1 := Scalar.cmpi .ne v44 c0_i32_22
  let v49 : BitVec 1 := Scalar.andi v48 v45
  let v50 : BitVec 32 := Scalar.addi v44 v43
  let v51 : BitVec 32 := Scalar.select v49 v50 v44
  let c256_i32 : BitVec 32 := 256#32
  let v52 : BitVec 32 := Scalar.muli v51 c256_i32
  let v53 : BitVec 32 := v52
  let c128_i32_136 : BitVec 32 := 128#32
  let v399 : BitVec 32 := Scalar.addi v53 c128_i32_136
  v399
def k0_mult55 (k0_t1 : Fin k0_t1_loop.trips) : BitVec 32 :=
  let c0_i32_10 : BitVec 32 := 0#32
  let c1_i32_11 : BitVec 32 := 1#32
  let arg8 : BitVec 32 := Scf.iv c0_i32_10 c1_i32_11 k0_t1
  let c0_i32_13 : BitVec 32 := 0#32
  let v26 : BitVec 1 := Scalar.cmpi .sgt arg8 c0_i32_13
  let v27 : BitVec 32 := Scalar.extui v26
  let c0_i32_14 : BitVec 32 := 0#32
  let v28 : BitVec 1 := Scalar.cmpi .slt arg8 c0_i32_14
  let v29 : BitVec 32 := Scalar.extui v28
  let v30 : BitVec 32 := Scalar.subi v27 v29
  let c3_i32 : BitVec 32 := 3#32
  let c0_i32_15 : BitVec 32 := 0#32
  let v31 : BitVec 1 := Scalar.cmpi .sgt c3_i32 c0_i32_15
  let v32 : BitVec 32 := Scalar.extui v31
  let c0_i32_16 : BitVec 32 := 0#32
  let v33 : BitVec 1 := Scalar.cmpi .slt c3_i32 c0_i32_16
  let v34 : BitVec 32 := Scalar.extui v33
  let v35 : BitVec 32 := Scalar.subi v32 v34
  let v36 : BitVec 1 := Scalar.cmpi .ne v30 v35
  let v37 : BitVec 32 := Scalar.remsi arg8 c3_i32
  let c0_i32_17 : BitVec 32 := 0#32
  let v38 : BitVec 1 := Scalar.cmpi .ne v37 c0_i32_17
  let v39 : BitVec 1 := Scalar.andi v36 v38
  let v25 : BitVec 32 := Scalar.divsi arg8 c3_i32
  let c1_i32_18 : BitVec 32 := 1#32
  let v40 : BitVec 32 := Scalar.subi v25 c1_i32_18
  let v41 : BitVec 32 := Scalar.select v39 v40 v25
  let c64_i32_137 : BitVec 32 := 64#32
  let v404 : BitVec 32 := Scalar.muli v41 c64_i32_137
  v404
def k0_mult56 (k0_t1 : Fin k0_t1_loop.trips) : BitVec 32 :=
  let c0_i32_10 : BitVec 32 := 0#32
  let c1_i32_11 : BitVec 32 := 1#32
  let arg8 : BitVec 32 := Scf.iv c0_i32_10 c1_i32_11 k0_t1
  let c3_i32_19 : BitVec 32 := 3#32
  let c0_i32_20 : BitVec 32 := 0#32
  let v42 : BitVec 1 := Scalar.cmpi .eq c3_i32_19 c0_i32_20
  let c1_i32_21 : BitVec 32 := 1#32
  let v43 : BitVec 32 := Scalar.select v42 c1_i32_21 c3_i32_19
  let v44 : BitVec 32 := Scalar.remsi arg8 v43
  let c0_i32_23 : BitVec 32 := 0#32
  let v46 : BitVec 1 := Scalar.cmpi .slt v44 c0_i32_23
  let c0_i32_24 : BitVec 32 := 0#32
  let v47 : BitVec 1 := Scalar.cmpi .slt v43 c0_i32_24
  let v48 : BitVec 1 := Scalar.xori v46 v47
  let c0_i32_22 : BitVec 32 := 0#32
  let v45 : BitVec 1 := Scalar.cmpi .ne v44 c0_i32_22
  let v49 : BitVec 1 := Scalar.andi v48 v45
  let v50 : BitVec 32 := Scalar.addi v44 v43
  let v51 : BitVec 32 := Scalar.select v49 v50 v44
  let c256_i32 : BitVec 32 := 256#32
  let v52 : BitVec 32 := Scalar.muli v51 c256_i32
  let v53 : BitVec 32 := v52
  let c128_i32_139 : BitVec 32 := 128#32
  let v407 : BitVec 32 := Scalar.addi v53 c128_i32_139
  v407
def k0_mult57 (k0_t1 : Fin k0_t1_loop.trips) : BitVec 32 :=
  let c0_i32_10 : BitVec 32 := 0#32
  let c1_i32_11 : BitVec 32 := 1#32
  let arg8 : BitVec 32 := Scf.iv c0_i32_10 c1_i32_11 k0_t1
  let c0_i32_13 : BitVec 32 := 0#32
  let v26 : BitVec 1 := Scalar.cmpi .sgt arg8 c0_i32_13
  let v27 : BitVec 32 := Scalar.extui v26
  let c0_i32_14 : BitVec 32 := 0#32
  let v28 : BitVec 1 := Scalar.cmpi .slt arg8 c0_i32_14
  let v29 : BitVec 32 := Scalar.extui v28
  let v30 : BitVec 32 := Scalar.subi v27 v29
  let c3_i32 : BitVec 32 := 3#32
  let c0_i32_15 : BitVec 32 := 0#32
  let v31 : BitVec 1 := Scalar.cmpi .sgt c3_i32 c0_i32_15
  let v32 : BitVec 32 := Scalar.extui v31
  let c0_i32_16 : BitVec 32 := 0#32
  let v33 : BitVec 1 := Scalar.cmpi .slt c3_i32 c0_i32_16
  let v34 : BitVec 32 := Scalar.extui v33
  let v35 : BitVec 32 := Scalar.subi v32 v34
  let v36 : BitVec 1 := Scalar.cmpi .ne v30 v35
  let v37 : BitVec 32 := Scalar.remsi arg8 c3_i32
  let c0_i32_17 : BitVec 32 := 0#32
  let v38 : BitVec 1 := Scalar.cmpi .ne v37 c0_i32_17
  let v39 : BitVec 1 := Scalar.andi v36 v38
  let v25 : BitVec 32 := Scalar.divsi arg8 c3_i32
  let c1_i32_18 : BitVec 32 := 1#32
  let v40 : BitVec 32 := Scalar.subi v25 c1_i32_18
  let v41 : BitVec 32 := Scalar.select v39 v40 v25
  let c64_i32_140 : BitVec 32 := 64#32
  let v412 : BitVec 32 := Scalar.muli v41 c64_i32_140
  v412
def k0_mult58 (k0_t1 : Fin k0_t1_loop.trips) : BitVec 32 :=
  let c0_i32_10 : BitVec 32 := 0#32
  let c1_i32_11 : BitVec 32 := 1#32
  let arg8 : BitVec 32 := Scf.iv c0_i32_10 c1_i32_11 k0_t1
  let c3_i32_19 : BitVec 32 := 3#32
  let c0_i32_20 : BitVec 32 := 0#32
  let v42 : BitVec 1 := Scalar.cmpi .eq c3_i32_19 c0_i32_20
  let c1_i32_21 : BitVec 32 := 1#32
  let v43 : BitVec 32 := Scalar.select v42 c1_i32_21 c3_i32_19
  let v44 : BitVec 32 := Scalar.remsi arg8 v43
  let c0_i32_23 : BitVec 32 := 0#32
  let v46 : BitVec 1 := Scalar.cmpi .slt v44 c0_i32_23
  let c0_i32_24 : BitVec 32 := 0#32
  let v47 : BitVec 1 := Scalar.cmpi .slt v43 c0_i32_24
  let v48 : BitVec 1 := Scalar.xori v46 v47
  let c0_i32_22 : BitVec 32 := 0#32
  let v45 : BitVec 1 := Scalar.cmpi .ne v44 c0_i32_22
  let v49 : BitVec 1 := Scalar.andi v48 v45
  let v50 : BitVec 32 := Scalar.addi v44 v43
  let v51 : BitVec 32 := Scalar.select v49 v50 v44
  let c256_i32 : BitVec 32 := 256#32
  let v52 : BitVec 32 := Scalar.muli v51 c256_i32
  let v53 : BitVec 32 := v52
  let c128_i32_142 : BitVec 32 := 128#32
  let v415 : BitVec 32 := Scalar.addi v53 c128_i32_142
  v415
def k0_mult59 (k0_t1 : Fin k0_t1_loop.trips) : BitVec 32 :=
  let c0_i32_10 : BitVec 32 := 0#32
  let c1_i32_11 : BitVec 32 := 1#32
  let arg8 : BitVec 32 := Scf.iv c0_i32_10 c1_i32_11 k0_t1
  let c0_i32_13 : BitVec 32 := 0#32
  let v26 : BitVec 1 := Scalar.cmpi .sgt arg8 c0_i32_13
  let v27 : BitVec 32 := Scalar.extui v26
  let c0_i32_14 : BitVec 32 := 0#32
  let v28 : BitVec 1 := Scalar.cmpi .slt arg8 c0_i32_14
  let v29 : BitVec 32 := Scalar.extui v28
  let v30 : BitVec 32 := Scalar.subi v27 v29
  let c3_i32 : BitVec 32 := 3#32
  let c0_i32_15 : BitVec 32 := 0#32
  let v31 : BitVec 1 := Scalar.cmpi .sgt c3_i32 c0_i32_15
  let v32 : BitVec 32 := Scalar.extui v31
  let c0_i32_16 : BitVec 32 := 0#32
  let v33 : BitVec 1 := Scalar.cmpi .slt c3_i32 c0_i32_16
  let v34 : BitVec 32 := Scalar.extui v33
  let v35 : BitVec 32 := Scalar.subi v32 v34
  let v36 : BitVec 1 := Scalar.cmpi .ne v30 v35
  let v37 : BitVec 32 := Scalar.remsi arg8 c3_i32
  let c0_i32_17 : BitVec 32 := 0#32
  let v38 : BitVec 1 := Scalar.cmpi .ne v37 c0_i32_17
  let v39 : BitVec 1 := Scalar.andi v36 v38
  let v25 : BitVec 32 := Scalar.divsi arg8 c3_i32
  let c1_i32_18 : BitVec 32 := 1#32
  let v40 : BitVec 32 := Scalar.subi v25 c1_i32_18
  let v41 : BitVec 32 := Scalar.select v39 v40 v25
  let c64_i32_143 : BitVec 32 := 64#32
  let v420 : BitVec 32 := Scalar.muli v41 c64_i32_143
  v420
def k0_mult60 (k0_t1 : Fin k0_t1_loop.trips) : BitVec 32 :=
  let c0_i32_10 : BitVec 32 := 0#32
  let c1_i32_11 : BitVec 32 := 1#32
  let arg8 : BitVec 32 := Scf.iv c0_i32_10 c1_i32_11 k0_t1
  let c3_i32_19 : BitVec 32 := 3#32
  let c0_i32_20 : BitVec 32 := 0#32
  let v42 : BitVec 1 := Scalar.cmpi .eq c3_i32_19 c0_i32_20
  let c1_i32_21 : BitVec 32 := 1#32
  let v43 : BitVec 32 := Scalar.select v42 c1_i32_21 c3_i32_19
  let v44 : BitVec 32 := Scalar.remsi arg8 v43
  let c0_i32_23 : BitVec 32 := 0#32
  let v46 : BitVec 1 := Scalar.cmpi .slt v44 c0_i32_23
  let c0_i32_24 : BitVec 32 := 0#32
  let v47 : BitVec 1 := Scalar.cmpi .slt v43 c0_i32_24
  let v48 : BitVec 1 := Scalar.xori v46 v47
  let c0_i32_22 : BitVec 32 := 0#32
  let v45 : BitVec 1 := Scalar.cmpi .ne v44 c0_i32_22
  let v49 : BitVec 1 := Scalar.andi v48 v45
  let v50 : BitVec 32 := Scalar.addi v44 v43
  let v51 : BitVec 32 := Scalar.select v49 v50 v44
  let c256_i32 : BitVec 32 := 256#32
  let v52 : BitVec 32 := Scalar.muli v51 c256_i32
  let v53 : BitVec 32 := v52
  let c128_i32_145 : BitVec 32 := 128#32
  let v423 : BitVec 32 := Scalar.addi v53 c128_i32_145
  v423
def k0_mult61 (k0_t1 : Fin k0_t1_loop.trips) : BitVec 32 :=
  let c0_i32_10 : BitVec 32 := 0#32
  let c1_i32_11 : BitVec 32 := 1#32
  let arg8 : BitVec 32 := Scf.iv c0_i32_10 c1_i32_11 k0_t1
  let c3_i32_19 : BitVec 32 := 3#32
  let c0_i32_20 : BitVec 32 := 0#32
  let v42 : BitVec 1 := Scalar.cmpi .eq c3_i32_19 c0_i32_20
  let c1_i32_21 : BitVec 32 := 1#32
  let v43 : BitVec 32 := Scalar.select v42 c1_i32_21 c3_i32_19
  let v44 : BitVec 32 := Scalar.remsi arg8 v43
  let c0_i32_23 : BitVec 32 := 0#32
  let v46 : BitVec 1 := Scalar.cmpi .slt v44 c0_i32_23
  let c0_i32_24 : BitVec 32 := 0#32
  let v47 : BitVec 1 := Scalar.cmpi .slt v43 c0_i32_24
  let v48 : BitVec 1 := Scalar.xori v46 v47
  let c0_i32_22 : BitVec 32 := 0#32
  let v45 : BitVec 1 := Scalar.cmpi .ne v44 c0_i32_22
  let v49 : BitVec 1 := Scalar.andi v48 v45
  let v50 : BitVec 32 := Scalar.addi v44 v43
  let v51 : BitVec 32 := Scalar.select v49 v50 v44
  let c256_i32 : BitVec 32 := 256#32
  let v52 : BitVec 32 := Scalar.muli v51 c256_i32
  let v53 : BitVec 32 := v52
  let c128_i32_148 : BitVec 32 := 128#32
  let v430 : BitVec 32 := Scalar.addi v53 c128_i32_148
  v430
def k0_mult62 (k0_t1 : Fin k0_t1_loop.trips) : BitVec 32 :=
  let c0_i32_10 : BitVec 32 := 0#32
  let c1_i32_11 : BitVec 32 := 1#32
  let arg8 : BitVec 32 := Scf.iv c0_i32_10 c1_i32_11 k0_t1
  let c0_i32_13 : BitVec 32 := 0#32
  let v26 : BitVec 1 := Scalar.cmpi .sgt arg8 c0_i32_13
  let v27 : BitVec 32 := Scalar.extui v26
  let c0_i32_14 : BitVec 32 := 0#32
  let v28 : BitVec 1 := Scalar.cmpi .slt arg8 c0_i32_14
  let v29 : BitVec 32 := Scalar.extui v28
  let v30 : BitVec 32 := Scalar.subi v27 v29
  let c3_i32 : BitVec 32 := 3#32
  let c0_i32_15 : BitVec 32 := 0#32
  let v31 : BitVec 1 := Scalar.cmpi .sgt c3_i32 c0_i32_15
  let v32 : BitVec 32 := Scalar.extui v31
  let c0_i32_16 : BitVec 32 := 0#32
  let v33 : BitVec 1 := Scalar.cmpi .slt c3_i32 c0_i32_16
  let v34 : BitVec 32 := Scalar.extui v33
  let v35 : BitVec 32 := Scalar.subi v32 v34
  let v36 : BitVec 1 := Scalar.cmpi .ne v30 v35
  let v37 : BitVec 32 := Scalar.remsi arg8 c3_i32
  let c0_i32_17 : BitVec 32 := 0#32
  let v38 : BitVec 1 := Scalar.cmpi .ne v37 c0_i32_17
  let v39 : BitVec 1 := Scalar.andi v36 v38
  let v25 : BitVec 32 := Scalar.divsi arg8 c3_i32
  let c1_i32_18 : BitVec 32 := 1#32
  let v40 : BitVec 32 := Scalar.subi v25 c1_i32_18
  let v41 : BitVec 32 := Scalar.select v39 v40 v25
  let c128_i32_163 : BitVec 32 := 128#32
  let v454 : BitVec 32 := Scalar.muli v41 c128_i32_163
  v454
def k0_mult63 (k0_t1 : Fin k0_t1_loop.trips) : BitVec 32 :=
  let c0_i32_10 : BitVec 32 := 0#32
  let c1_i32_11 : BitVec 32 := 1#32
  let arg8 : BitVec 32 := Scf.iv c0_i32_10 c1_i32_11 k0_t1
  let c3_i32_19 : BitVec 32 := 3#32
  let c0_i32_20 : BitVec 32 := 0#32
  let v42 : BitVec 1 := Scalar.cmpi .eq c3_i32_19 c0_i32_20
  let c1_i32_21 : BitVec 32 := 1#32
  let v43 : BitVec 32 := Scalar.select v42 c1_i32_21 c3_i32_19
  let v44 : BitVec 32 := Scalar.remsi arg8 v43
  let c0_i32_23 : BitVec 32 := 0#32
  let v46 : BitVec 1 := Scalar.cmpi .slt v44 c0_i32_23
  let c0_i32_24 : BitVec 32 := 0#32
  let v47 : BitVec 1 := Scalar.cmpi .slt v43 c0_i32_24
  let v48 : BitVec 1 := Scalar.xori v46 v47
  let c0_i32_22 : BitVec 32 := 0#32
  let v45 : BitVec 1 := Scalar.cmpi .ne v44 c0_i32_22
  let v49 : BitVec 1 := Scalar.andi v48 v45
  let v50 : BitVec 32 := Scalar.addi v44 v43
  let v51 : BitVec 32 := Scalar.select v49 v50 v44
  let c256_i32 : BitVec 32 := 256#32
  let v52 : BitVec 32 := Scalar.muli v51 c256_i32
  let v53 : BitVec 32 := v52
  let c128_i32_165 : BitVec 32 := 128#32
  let v457 : BitVec 32 := Scalar.addi v53 c128_i32_165
  v457
def k0_mult64 (k0_t1 : Fin k0_t1_loop.trips) : BitVec 32 :=
  let c0_i32_10 : BitVec 32 := 0#32
  let c1_i32_11 : BitVec 32 := 1#32
  let arg8 : BitVec 32 := Scf.iv c0_i32_10 c1_i32_11 k0_t1
  let c0_i32_13 : BitVec 32 := 0#32
  let v26 : BitVec 1 := Scalar.cmpi .sgt arg8 c0_i32_13
  let v27 : BitVec 32 := Scalar.extui v26
  let c0_i32_14 : BitVec 32 := 0#32
  let v28 : BitVec 1 := Scalar.cmpi .slt arg8 c0_i32_14
  let v29 : BitVec 32 := Scalar.extui v28
  let v30 : BitVec 32 := Scalar.subi v27 v29
  let c3_i32 : BitVec 32 := 3#32
  let c0_i32_15 : BitVec 32 := 0#32
  let v31 : BitVec 1 := Scalar.cmpi .sgt c3_i32 c0_i32_15
  let v32 : BitVec 32 := Scalar.extui v31
  let c0_i32_16 : BitVec 32 := 0#32
  let v33 : BitVec 1 := Scalar.cmpi .slt c3_i32 c0_i32_16
  let v34 : BitVec 32 := Scalar.extui v33
  let v35 : BitVec 32 := Scalar.subi v32 v34
  let v36 : BitVec 1 := Scalar.cmpi .ne v30 v35
  let v37 : BitVec 32 := Scalar.remsi arg8 c3_i32
  let c0_i32_17 : BitVec 32 := 0#32
  let v38 : BitVec 1 := Scalar.cmpi .ne v37 c0_i32_17
  let v39 : BitVec 1 := Scalar.andi v36 v38
  let v25 : BitVec 32 := Scalar.divsi arg8 c3_i32
  let c1_i32_18 : BitVec 32 := 1#32
  let v40 : BitVec 32 := Scalar.subi v25 c1_i32_18
  let v41 : BitVec 32 := Scalar.select v39 v40 v25
  let c128_i32_166 : BitVec 32 := 128#32
  let v469 : BitVec 32 := Scalar.muli v41 c128_i32_166
  v469
def k0_mult65 (k0_t1 : Fin k0_t1_loop.trips) : BitVec 32 :=
  let c0_i32_10 : BitVec 32 := 0#32
  let c1_i32_11 : BitVec 32 := 1#32
  let arg8 : BitVec 32 := Scf.iv c0_i32_10 c1_i32_11 k0_t1
  let c3_i32_19 : BitVec 32 := 3#32
  let c0_i32_20 : BitVec 32 := 0#32
  let v42 : BitVec 1 := Scalar.cmpi .eq c3_i32_19 c0_i32_20
  let c1_i32_21 : BitVec 32 := 1#32
  let v43 : BitVec 32 := Scalar.select v42 c1_i32_21 c3_i32_19
  let v44 : BitVec 32 := Scalar.remsi arg8 v43
  let c0_i32_23 : BitVec 32 := 0#32
  let v46 : BitVec 1 := Scalar.cmpi .slt v44 c0_i32_23
  let c0_i32_24 : BitVec 32 := 0#32
  let v47 : BitVec 1 := Scalar.cmpi .slt v43 c0_i32_24
  let v48 : BitVec 1 := Scalar.xori v46 v47
  let c0_i32_22 : BitVec 32 := 0#32
  let v45 : BitVec 1 := Scalar.cmpi .ne v44 c0_i32_22
  let v49 : BitVec 1 := Scalar.andi v48 v45
  let v50 : BitVec 32 := Scalar.addi v44 v43
  let v51 : BitVec 32 := Scalar.select v49 v50 v44
  let c256_i32 : BitVec 32 := 256#32
  let v52 : BitVec 32 := Scalar.muli v51 c256_i32
  let v53 : BitVec 32 := v52
  let c128_i32_168 : BitVec 32 := 128#32
  let v472 : BitVec 32 := Scalar.addi v53 c128_i32_168
  v472
def k0_mult66 (k0_t1 : Fin k0_t1_loop.trips) : BitVec 32 :=
  let c0_i32_10 : BitVec 32 := 0#32
  let c1_i32_11 : BitVec 32 := 1#32
  let arg8 : BitVec 32 := Scf.iv c0_i32_10 c1_i32_11 k0_t1
  let c0_i32_13 : BitVec 32 := 0#32
  let v26 : BitVec 1 := Scalar.cmpi .sgt arg8 c0_i32_13
  let v27 : BitVec 32 := Scalar.extui v26
  let c0_i32_14 : BitVec 32 := 0#32
  let v28 : BitVec 1 := Scalar.cmpi .slt arg8 c0_i32_14
  let v29 : BitVec 32 := Scalar.extui v28
  let v30 : BitVec 32 := Scalar.subi v27 v29
  let c3_i32 : BitVec 32 := 3#32
  let c0_i32_15 : BitVec 32 := 0#32
  let v31 : BitVec 1 := Scalar.cmpi .sgt c3_i32 c0_i32_15
  let v32 : BitVec 32 := Scalar.extui v31
  let c0_i32_16 : BitVec 32 := 0#32
  let v33 : BitVec 1 := Scalar.cmpi .slt c3_i32 c0_i32_16
  let v34 : BitVec 32 := Scalar.extui v33
  let v35 : BitVec 32 := Scalar.subi v32 v34
  let v36 : BitVec 1 := Scalar.cmpi .ne v30 v35
  let v37 : BitVec 32 := Scalar.remsi arg8 c3_i32
  let c0_i32_17 : BitVec 32 := 0#32
  let v38 : BitVec 1 := Scalar.cmpi .ne v37 c0_i32_17
  let v39 : BitVec 1 := Scalar.andi v36 v38
  let v25 : BitVec 32 := Scalar.divsi arg8 c3_i32
  let c1_i32_18 : BitVec 32 := 1#32
  let v40 : BitVec 32 := Scalar.subi v25 c1_i32_18
  let v41 : BitVec 32 := Scalar.select v39 v40 v25
  let c128_i32_169 : BitVec 32 := 128#32
  let v484 : BitVec 32 := Scalar.muli v41 c128_i32_169
  v484
def k0_mult67 (k0_t1 : Fin k0_t1_loop.trips) : BitVec 32 :=
  let c0_i32_10 : BitVec 32 := 0#32
  let c1_i32_11 : BitVec 32 := 1#32
  let arg8 : BitVec 32 := Scf.iv c0_i32_10 c1_i32_11 k0_t1
  let c3_i32_19 : BitVec 32 := 3#32
  let c0_i32_20 : BitVec 32 := 0#32
  let v42 : BitVec 1 := Scalar.cmpi .eq c3_i32_19 c0_i32_20
  let c1_i32_21 : BitVec 32 := 1#32
  let v43 : BitVec 32 := Scalar.select v42 c1_i32_21 c3_i32_19
  let v44 : BitVec 32 := Scalar.remsi arg8 v43
  let c0_i32_23 : BitVec 32 := 0#32
  let v46 : BitVec 1 := Scalar.cmpi .slt v44 c0_i32_23
  let c0_i32_24 : BitVec 32 := 0#32
  let v47 : BitVec 1 := Scalar.cmpi .slt v43 c0_i32_24
  let v48 : BitVec 1 := Scalar.xori v46 v47
  let c0_i32_22 : BitVec 32 := 0#32
  let v45 : BitVec 1 := Scalar.cmpi .ne v44 c0_i32_22
  let v49 : BitVec 1 := Scalar.andi v48 v45
  let v50 : BitVec 32 := Scalar.addi v44 v43
  let v51 : BitVec 32 := Scalar.select v49 v50 v44
  let c256_i32 : BitVec 32 := 256#32
  let v52 : BitVec 32 := Scalar.muli v51 c256_i32
  let v53 : BitVec 32 := v52
  let c128_i32_171 : BitVec 32 := 128#32
  let v487 : BitVec 32 := Scalar.addi v53 c128_i32_171
  v487
def k0_mult68 (k0_t1 : Fin k0_t1_loop.trips) : BitVec 32 :=
  let c0_i32_10 : BitVec 32 := 0#32
  let c1_i32_11 : BitVec 32 := 1#32
  let arg8 : BitVec 32 := Scf.iv c0_i32_10 c1_i32_11 k0_t1
  let c0_i32_13 : BitVec 32 := 0#32
  let v26 : BitVec 1 := Scalar.cmpi .sgt arg8 c0_i32_13
  let v27 : BitVec 32 := Scalar.extui v26
  let c0_i32_14 : BitVec 32 := 0#32
  let v28 : BitVec 1 := Scalar.cmpi .slt arg8 c0_i32_14
  let v29 : BitVec 32 := Scalar.extui v28
  let v30 : BitVec 32 := Scalar.subi v27 v29
  let c3_i32 : BitVec 32 := 3#32
  let c0_i32_15 : BitVec 32 := 0#32
  let v31 : BitVec 1 := Scalar.cmpi .sgt c3_i32 c0_i32_15
  let v32 : BitVec 32 := Scalar.extui v31
  let c0_i32_16 : BitVec 32 := 0#32
  let v33 : BitVec 1 := Scalar.cmpi .slt c3_i32 c0_i32_16
  let v34 : BitVec 32 := Scalar.extui v33
  let v35 : BitVec 32 := Scalar.subi v32 v34
  let v36 : BitVec 1 := Scalar.cmpi .ne v30 v35
  let v37 : BitVec 32 := Scalar.remsi arg8 c3_i32
  let c0_i32_17 : BitVec 32 := 0#32
  let v38 : BitVec 1 := Scalar.cmpi .ne v37 c0_i32_17
  let v39 : BitVec 1 := Scalar.andi v36 v38
  let v25 : BitVec 32 := Scalar.divsi arg8 c3_i32
  let c1_i32_18 : BitVec 32 := 1#32
  let v40 : BitVec 32 := Scalar.subi v25 c1_i32_18
  let v41 : BitVec 32 := Scalar.select v39 v40 v25
  let c128_i32_172 : BitVec 32 := 128#32
  let v499 : BitVec 32 := Scalar.muli v41 c128_i32_172
  v499
def k0_mult69 (k0_t1 : Fin k0_t1_loop.trips) : BitVec 32 :=
  let c0_i32_10 : BitVec 32 := 0#32
  let c1_i32_11 : BitVec 32 := 1#32
  let arg8 : BitVec 32 := Scf.iv c0_i32_10 c1_i32_11 k0_t1
  let c3_i32_19 : BitVec 32 := 3#32
  let c0_i32_20 : BitVec 32 := 0#32
  let v42 : BitVec 1 := Scalar.cmpi .eq c3_i32_19 c0_i32_20
  let c1_i32_21 : BitVec 32 := 1#32
  let v43 : BitVec 32 := Scalar.select v42 c1_i32_21 c3_i32_19
  let v44 : BitVec 32 := Scalar.remsi arg8 v43
  let c0_i32_23 : BitVec 32 := 0#32
  let v46 : BitVec 1 := Scalar.cmpi .slt v44 c0_i32_23
  let c0_i32_24 : BitVec 32 := 0#32
  let v47 : BitVec 1 := Scalar.cmpi .slt v43 c0_i32_24
  let v48 : BitVec 1 := Scalar.xori v46 v47
  let c0_i32_22 : BitVec 32 := 0#32
  let v45 : BitVec 1 := Scalar.cmpi .ne v44 c0_i32_22
  let v49 : BitVec 1 := Scalar.andi v48 v45
  let v50 : BitVec 32 := Scalar.addi v44 v43
  let v51 : BitVec 32 := Scalar.select v49 v50 v44
  let c256_i32 : BitVec 32 := 256#32
  let v52 : BitVec 32 := Scalar.muli v51 c256_i32
  let v53 : BitVec 32 := v52
  let c128_i32_174 : BitVec 32 := 128#32
  let v502 : BitVec 32 := Scalar.addi v53 c128_i32_174
  v502
def k0_cond2 (i : grid0.Coords) : BitVec 1 :=
  let arg0 : BitVec 32 := BitVec.ofNat 32 (i 0).val
  let c0_i32_6 : BitVec 32 := 0#32
  let v16 : BitVec 1 := Scalar.cmpi .sgt arg0 c0_i32_6
  let c11_i32 : BitVec 32 := 11#32
  let v17 : BitVec 1 := Scalar.cmpi .slt arg0 c11_i32
  let v18 : BitVec 1 := Scalar.andi v16 v17
  let v19 : BitVec 32 := Scalar.extui v18
  let c0_i32_7 : BitVec 32 := 0#32
  let v20 : BitVec 1 := Scalar.cmpi .ne v19 c0_i32_7
  v20

@[reducible] def k0_t2_loop : Scf.Loop 32 :=
  let c0_i32_10 : BitVec 32 := 0#32
  let c9_i32 : BitVec 32 := 9#32
  let v24 : BitVec 32 := Scalar.addi c0_i32_10 c9_i32
  let c1_i32_11 : BitVec 32 := 1#32
  ⟨c0_i32_10, v24, c1_i32_11⟩
def k0_mult70 (k0_t2 : Fin k0_t2_loop.trips) : BitVec 32 :=
  let c0_i32_10 : BitVec 32 := 0#32
  let c1_i32_11 : BitVec 32 := 1#32
  let arg8 : BitVec 32 := Scf.iv c0_i32_10 c1_i32_11 k0_t2
  let c3_i32_19 : BitVec 32 := 3#32
  let c0_i32_20 : BitVec 32 := 0#32
  let v42 : BitVec 1 := Scalar.cmpi .eq c3_i32_19 c0_i32_20
  let c1_i32_21 : BitVec 32 := 1#32
  let v43 : BitVec 32 := Scalar.select v42 c1_i32_21 c3_i32_19
  let v44 : BitVec 32 := Scalar.remsi arg8 v43
  let c0_i32_23 : BitVec 32 := 0#32
  let v46 : BitVec 1 := Scalar.cmpi .slt v44 c0_i32_23
  let c0_i32_24 : BitVec 32 := 0#32
  let v47 : BitVec 1 := Scalar.cmpi .slt v43 c0_i32_24
  let v48 : BitVec 1 := Scalar.xori v46 v47
  let c0_i32_22 : BitVec 32 := 0#32
  let v45 : BitVec 1 := Scalar.cmpi .ne v44 c0_i32_22
  let v49 : BitVec 1 := Scalar.andi v48 v45
  let v50 : BitVec 32 := Scalar.addi v44 v43
  let v51 : BitVec 32 := Scalar.select v49 v50 v44
  let c256_i32 : BitVec 32 := 256#32
  let v52 : BitVec 32 := Scalar.muli v51 c256_i32
  v52
def k0_mult71 (k0_t2 : Fin k0_t2_loop.trips) : BitVec 32 :=
  let c0_i32_10 : BitVec 32 := 0#32
  let c1_i32_11 : BitVec 32 := 1#32
  let arg8 : BitVec 32 := Scf.iv c0_i32_10 c1_i32_11 k0_t2
  let c0_i32_13 : BitVec 32 := 0#32
  let v26 : BitVec 1 := Scalar.cmpi .sgt arg8 c0_i32_13
  let v27 : BitVec 32 := Scalar.extui v26
  let c0_i32_14 : BitVec 32 := 0#32
  let v28 : BitVec 1 := Scalar.cmpi .slt arg8 c0_i32_14
  let v29 : BitVec 32 := Scalar.extui v28
  let v30 : BitVec 32 := Scalar.subi v27 v29
  let c3_i32 : BitVec 32 := 3#32
  let c0_i32_15 : BitVec 32 := 0#32
  let v31 : BitVec 1 := Scalar.cmpi .sgt c3_i32 c0_i32_15
  let v32 : BitVec 32 := Scalar.extui v31
  let c0_i32_16 : BitVec 32 := 0#32
  let v33 : BitVec 1 := Scalar.cmpi .slt c3_i32 c0_i32_16
  let v34 : BitVec 32 := Scalar.extui v33
  let v35 : BitVec 32 := Scalar.subi v32 v34
  let v36 : BitVec 1 := Scalar.cmpi .ne v30 v35
  let v37 : BitVec 32 := Scalar.remsi arg8 c3_i32
  let c0_i32_17 : BitVec 32 := 0#32
  let v38 : BitVec 1 := Scalar.cmpi .ne v37 c0_i32_17
  let v39 : BitVec 1 := Scalar.andi v36 v38
  let v25 : BitVec 32 := Scalar.divsi arg8 c3_i32
  let c1_i32_18 : BitVec 32 := 1#32
  let v40 : BitVec 32 := Scalar.subi v25 c1_i32_18
  let v41 : BitVec 32 := Scalar.select v39 v40 v25
  let c64_i32 : BitVec 32 := 64#32
  let v54 : BitVec 32 := Scalar.muli v41 c64_i32
  v54
def k0_mult72 (k0_t2 : Fin k0_t2_loop.trips) : BitVec 32 :=
  let c0_i32_10 : BitVec 32 := 0#32
  let c1_i32_11 : BitVec 32 := 1#32
  let arg8 : BitVec 32 := Scf.iv c0_i32_10 c1_i32_11 k0_t2
  let c3_i32_19 : BitVec 32 := 3#32
  let c0_i32_20 : BitVec 32 := 0#32
  let v42 : BitVec 1 := Scalar.cmpi .eq c3_i32_19 c0_i32_20
  let c1_i32_21 : BitVec 32 := 1#32
  let v43 : BitVec 32 := Scalar.select v42 c1_i32_21 c3_i32_19
  let v44 : BitVec 32 := Scalar.remsi arg8 v43
  let c0_i32_23 : BitVec 32 := 0#32
  let v46 : BitVec 1 := Scalar.cmpi .slt v44 c0_i32_23
  let c0_i32_24 : BitVec 32 := 0#32
  let v47 : BitVec 1 := Scalar.cmpi .slt v43 c0_i32_24
  let v48 : BitVec 1 := Scalar.xori v46 v47
  let c0_i32_22 : BitVec 32 := 0#32
  let v45 : BitVec 1 := Scalar.cmpi .ne v44 c0_i32_22
  let v49 : BitVec 1 := Scalar.andi v48 v45
  let v50 : BitVec 32 := Scalar.addi v44 v43
  let v51 : BitVec 32 := Scalar.select v49 v50 v44
  let c256_i32 : BitVec 32 := 256#32
  let v52 : BitVec 32 := Scalar.muli v51 c256_i32
  let v53 : BitVec 32 := v52
  let c0_i32_26 : BitVec 32 := 0#32
  let v57 : BitVec 32 := Scalar.addi v53 c0_i32_26
  v57
def k0_off4 (k0_t2 : Fin k0_t2_loop.trips) (c0_i32_25 : BitVec 32) (c0_i32_26 : BitVec 32) : Fin 2 → Nat :=
  let c0_i32_10 : BitVec 32 := 0#32
  let c1_i32_11 : BitVec 32 := 1#32
  let arg8 : BitVec 32 := Scf.iv c0_i32_10 c1_i32_11 k0_t2
  let c0_i32_13 : BitVec 32 := 0#32
  let v26 : BitVec 1 := Scalar.cmpi .sgt arg8 c0_i32_13
  let v27 : BitVec 32 := Scalar.extui v26
  let c0_i32_14 : BitVec 32 := 0#32
  let v28 : BitVec 1 := Scalar.cmpi .slt arg8 c0_i32_14
  let v29 : BitVec 32 := Scalar.extui v28
  let v30 : BitVec 32 := Scalar.subi v27 v29
  let c3_i32 : BitVec 32 := 3#32
  let c0_i32_15 : BitVec 32 := 0#32
  let v31 : BitVec 1 := Scalar.cmpi .sgt c3_i32 c0_i32_15
  let v32 : BitVec 32 := Scalar.extui v31
  let c0_i32_16 : BitVec 32 := 0#32
  let v33 : BitVec 1 := Scalar.cmpi .slt c3_i32 c0_i32_16
  let v34 : BitVec 32 := Scalar.extui v33
  let v35 : BitVec 32 := Scalar.subi v32 v34
  let v36 : BitVec 1 := Scalar.cmpi .ne v30 v35
  let v37 : BitVec 32 := Scalar.remsi arg8 c3_i32
  let c0_i32_17 : BitVec 32 := 0#32
  let v38 : BitVec 1 := Scalar.cmpi .ne v37 c0_i32_17
  let v39 : BitVec 1 := Scalar.andi v36 v38
  let v25 : BitVec 32 := Scalar.divsi arg8 c3_i32
  let c1_i32_18 : BitVec 32 := 1#32
  let v40 : BitVec 32 := Scalar.subi v25 c1_i32_18
  let v41 : BitVec 32 := Scalar.select v39 v40 v25
  let c64_i32 : BitVec 32 := 64#32
  let v54 : BitVec 32 := Scalar.muli v41 c64_i32
  let v55 : BitVec 32 := v54
  let v56 : BitVec 32 := Scalar.addi v55 c0_i32_25
  let v59 : Index := Scalar.indexCast v56
  let c3_i32_19 : BitVec 32 := 3#32
  let c0_i32_20 : BitVec 32 := 0#32
  let v42 : BitVec 1 := Scalar.cmpi .eq c3_i32_19 c0_i32_20
  let c1_i32_21 : BitVec 32 := 1#32
  let v43 : BitVec 32 := Scalar.select v42 c1_i32_21 c3_i32_19
  let v44 : BitVec 32 := Scalar.remsi arg8 v43
  let c0_i32_23 : BitVec 32 := 0#32
  let v46 : BitVec 1 := Scalar.cmpi .slt v44 c0_i32_23
  let c0_i32_24 : BitVec 32 := 0#32
  let v47 : BitVec 1 := Scalar.cmpi .slt v43 c0_i32_24
  let v48 : BitVec 1 := Scalar.xori v46 v47
  let c0_i32_22 : BitVec 32 := 0#32
  let v45 : BitVec 1 := Scalar.cmpi .ne v44 c0_i32_22
  let v49 : BitVec 1 := Scalar.andi v48 v45
  let v50 : BitVec 32 := Scalar.addi v44 v43
  let v51 : BitVec 32 := Scalar.select v49 v50 v44
  let c256_i32 : BitVec 32 := 256#32
  let v52 : BitVec 32 := Scalar.muli v51 c256_i32
  let v53 : BitVec 32 := v52
  let v57 : BitVec 32 := Scalar.addi v53 c0_i32_26
  let v58 : BitVec 32 := v57
  let v60 : Index := Scalar.indexCast v58
  ![v59.toNat, v60.toNat]
def k0_mult73 (k0_t2 : Fin k0_t2_loop.trips) : BitVec 32 :=
  let c0_i32_10 : BitVec 32 := 0#32
  let c1_i32_11 : BitVec 32 := 1#32
  let arg8 : BitVec 32 := Scf.iv c0_i32_10 c1_i32_11 k0_t2
  let c0_i32_13 : BitVec 32 := 0#32
  let v26 : BitVec 1 := Scalar.cmpi .sgt arg8 c0_i32_13
  let v27 : BitVec 32 := Scalar.extui v26
  let c0_i32_14 : BitVec 32 := 0#32
  let v28 : BitVec 1 := Scalar.cmpi .slt arg8 c0_i32_14
  let v29 : BitVec 32 := Scalar.extui v28
  let v30 : BitVec 32 := Scalar.subi v27 v29
  let c3_i32 : BitVec 32 := 3#32
  let c0_i32_15 : BitVec 32 := 0#32
  let v31 : BitVec 1 := Scalar.cmpi .sgt c3_i32 c0_i32_15
  let v32 : BitVec 32 := Scalar.extui v31
  let c0_i32_16 : BitVec 32 := 0#32
  let v33 : BitVec 1 := Scalar.cmpi .slt c3_i32 c0_i32_16
  let v34 : BitVec 32 := Scalar.extui v33
  let v35 : BitVec 32 := Scalar.subi v32 v34
  let v36 : BitVec 1 := Scalar.cmpi .ne v30 v35
  let v37 : BitVec 32 := Scalar.remsi arg8 c3_i32
  let c0_i32_17 : BitVec 32 := 0#32
  let v38 : BitVec 1 := Scalar.cmpi .ne v37 c0_i32_17
  let v39 : BitVec 1 := Scalar.andi v36 v38
  let v25 : BitVec 32 := Scalar.divsi arg8 c3_i32
  let c1_i32_18 : BitVec 32 := 1#32
  let v40 : BitVec 32 := Scalar.subi v25 c1_i32_18
  let v41 : BitVec 32 := Scalar.select v39 v40 v25
  let c64_i32_27 : BitVec 32 := 64#32
  let v62 : BitVec 32 := Scalar.muli v41 c64_i32_27
  v62
def k0_mult74 (k0_t2 : Fin k0_t2_loop.trips) : BitVec 32 :=
  let c0_i32_10 : BitVec 32 := 0#32
  let c1_i32_11 : BitVec 32 := 1#32
  let arg8 : BitVec 32 := Scf.iv c0_i32_10 c1_i32_11 k0_t2
  let c3_i32_19 : BitVec 32 := 3#32
  let c0_i32_20 : BitVec 32 := 0#32
  let v42 : BitVec 1 := Scalar.cmpi .eq c3_i32_19 c0_i32_20
  let c1_i32_21 : BitVec 32 := 1#32
  let v43 : BitVec 32 := Scalar.select v42 c1_i32_21 c3_i32_19
  let v44 : BitVec 32 := Scalar.remsi arg8 v43
  let c0_i32_23 : BitVec 32 := 0#32
  let v46 : BitVec 1 := Scalar.cmpi .slt v44 c0_i32_23
  let c0_i32_24 : BitVec 32 := 0#32
  let v47 : BitVec 1 := Scalar.cmpi .slt v43 c0_i32_24
  let v48 : BitVec 1 := Scalar.xori v46 v47
  let c0_i32_22 : BitVec 32 := 0#32
  let v45 : BitVec 1 := Scalar.cmpi .ne v44 c0_i32_22
  let v49 : BitVec 1 := Scalar.andi v48 v45
  let v50 : BitVec 32 := Scalar.addi v44 v43
  let v51 : BitVec 32 := Scalar.select v49 v50 v44
  let c256_i32 : BitVec 32 := 256#32
  let v52 : BitVec 32 := Scalar.muli v51 c256_i32
  let v53 : BitVec 32 := v52
  let c0_i32_28 : BitVec 32 := 0#32
  let v65 : BitVec 32 := Scalar.addi v53 c0_i32_28
  v65
def k0_mult75 (k0_t2 : Fin k0_t2_loop.trips) : BitVec 32 :=
  let c0_i32_10 : BitVec 32 := 0#32
  let c1_i32_11 : BitVec 32 := 1#32
  let arg8 : BitVec 32 := Scf.iv c0_i32_10 c1_i32_11 k0_t2
  let c0_i32_13 : BitVec 32 := 0#32
  let v26 : BitVec 1 := Scalar.cmpi .sgt arg8 c0_i32_13
  let v27 : BitVec 32 := Scalar.extui v26
  let c0_i32_14 : BitVec 32 := 0#32
  let v28 : BitVec 1 := Scalar.cmpi .slt arg8 c0_i32_14
  let v29 : BitVec 32 := Scalar.extui v28
  let v30 : BitVec 32 := Scalar.subi v27 v29
  let c3_i32 : BitVec 32 := 3#32
  let c0_i32_15 : BitVec 32 := 0#32
  let v31 : BitVec 1 := Scalar.cmpi .sgt c3_i32 c0_i32_15
  let v32 : BitVec 32 := Scalar.extui v31
  let c0_i32_16 : BitVec 32 := 0#32
  let v33 : BitVec 1 := Scalar.cmpi .slt c3_i32 c0_i32_16
  let v34 : BitVec 32 := Scalar.extui v33
  let v35 : BitVec 32 := Scalar.subi v32 v34
  let v36 : BitVec 1 := Scalar.cmpi .ne v30 v35
  let v37 : BitVec 32 := Scalar.remsi arg8 c3_i32
  let c0_i32_17 : BitVec 32 := 0#32
  let v38 : BitVec 1 := Scalar.cmpi .ne v37 c0_i32_17
  let v39 : BitVec 1 := Scalar.andi v36 v38
  let v25 : BitVec 32 := Scalar.divsi arg8 c3_i32
  let c1_i32_18 : BitVec 32 := 1#32
  let v40 : BitVec 32 := Scalar.subi v25 c1_i32_18
  let v41 : BitVec 32 := Scalar.select v39 v40 v25
  let c64_i32_29 : BitVec 32 := 64#32
  let v70 : BitVec 32 := Scalar.muli v41 c64_i32_29
  v70
def k0_mult76 (k0_t2 : Fin k0_t2_loop.trips) : BitVec 32 :=
  let c0_i32_10 : BitVec 32 := 0#32
  let c1_i32_11 : BitVec 32 := 1#32
  let arg8 : BitVec 32 := Scf.iv c0_i32_10 c1_i32_11 k0_t2
  let c3_i32_19 : BitVec 32 := 3#32
  let c0_i32_20 : BitVec 32 := 0#32
  let v42 : BitVec 1 := Scalar.cmpi .eq c3_i32_19 c0_i32_20
  let c1_i32_21 : BitVec 32 := 1#32
  let v43 : BitVec 32 := Scalar.select v42 c1_i32_21 c3_i32_19
  let v44 : BitVec 32 := Scalar.remsi arg8 v43
  let c0_i32_23 : BitVec 32 := 0#32
  let v46 : BitVec 1 := Scalar.cmpi .slt v44 c0_i32_23
  let c0_i32_24 : BitVec 32 := 0#32
  let v47 : BitVec 1 := Scalar.cmpi .slt v43 c0_i32_24
  let v48 : BitVec 1 := Scalar.xori v46 v47
  let c0_i32_22 : BitVec 32 := 0#32
  let v45 : BitVec 1 := Scalar.cmpi .ne v44 c0_i32_22
  let v49 : BitVec 1 := Scalar.andi v48 v45
  let v50 : BitVec 32 := Scalar.addi v44 v43
  let v51 : BitVec 32 := Scalar.select v49 v50 v44
  let c256_i32 : BitVec 32 := 256#32
  let v52 : BitVec 32 := Scalar.muli v51 c256_i32
  let v53 : BitVec 32 := v52
  let c0_i32_30 : BitVec 32 := 0#32
  let v73 : BitVec 32 := Scalar.addi v53 c0_i32_30
  v73
def k0_mult77 (k0_t2 : Fin k0_t2_loop.trips) : BitVec 32 :=
  let c0_i32_10 : BitVec 32 := 0#32
  let c1_i32_11 : BitVec 32 := 1#32
  let arg8 : BitVec 32 := Scf.iv c0_i32_10 c1_i32_11 k0_t2
  let c0_i32_13 : BitVec 32 := 0#32
  let v26 : BitVec 1 := Scalar.cmpi .sgt arg8 c0_i32_13
  let v27 : BitVec 32 := Scalar.extui v26
  let c0_i32_14 : BitVec 32 := 0#32
  let v28 : BitVec 1 := Scalar.cmpi .slt arg8 c0_i32_14
  let v29 : BitVec 32 := Scalar.extui v28
  let v30 : BitVec 32 := Scalar.subi v27 v29
  let c3_i32 : BitVec 32 := 3#32
  let c0_i32_15 : BitVec 32 := 0#32
  let v31 : BitVec 1 := Scalar.cmpi .sgt c3_i32 c0_i32_15
  let v32 : BitVec 32 := Scalar.extui v31
  let c0_i32_16 : BitVec 32 := 0#32
  let v33 : BitVec 1 := Scalar.cmpi .slt c3_i32 c0_i32_16
  let v34 : BitVec 32 := Scalar.extui v33
  let v35 : BitVec 32 := Scalar.subi v32 v34
  let v36 : BitVec 1 := Scalar.cmpi .ne v30 v35
  let v37 : BitVec 32 := Scalar.remsi arg8 c3_i32
  let c0_i32_17 : BitVec 32 := 0#32
  let v38 : BitVec 1 := Scalar.cmpi .ne v37 c0_i32_17
  let v39 : BitVec 1 := Scalar.andi v36 v38
  let v25 : BitVec 32 := Scalar.divsi arg8 c3_i32
  let c1_i32_18 : BitVec 32 := 1#32
  let v40 : BitVec 32 := Scalar.subi v25 c1_i32_18
  let v41 : BitVec 32 := Scalar.select v39 v40 v25
  let c64_i32_31 : BitVec 32 := 64#32
  let v78 : BitVec 32 := Scalar.muli v41 c64_i32_31
  v78
def k0_mult78 (k0_t2 : Fin k0_t2_loop.trips) : BitVec 32 :=
  let c0_i32_10 : BitVec 32 := 0#32
  let c1_i32_11 : BitVec 32 := 1#32
  let arg8 : BitVec 32 := Scf.iv c0_i32_10 c1_i32_11 k0_t2
  let c3_i32_19 : BitVec 32 := 3#32
  let c0_i32_20 : BitVec 32 := 0#32
  let v42 : BitVec 1 := Scalar.cmpi .eq c3_i32_19 c0_i32_20
  let c1_i32_21 : BitVec 32 := 1#32
  let v43 : BitVec 32 := Scalar.select v42 c1_i32_21 c3_i32_19
  let v44 : BitVec 32 := Scalar.remsi arg8 v43
  let c0_i32_23 : BitVec 32 := 0#32
  let v46 : BitVec 1 := Scalar.cmpi .slt v44 c0_i32_23
  let c0_i32_24 : BitVec 32 := 0#32
  let v47 : BitVec 1 := Scalar.cmpi .slt v43 c0_i32_24
  let v48 : BitVec 1 := Scalar.xori v46 v47
  let c0_i32_22 : BitVec 32 := 0#32
  let v45 : BitVec 1 := Scalar.cmpi .ne v44 c0_i32_22
  let v49 : BitVec 1 := Scalar.andi v48 v45
  let v50 : BitVec 32 := Scalar.addi v44 v43
  let v51 : BitVec 32 := Scalar.select v49 v50 v44
  let c256_i32 : BitVec 32 := 256#32
  let v52 : BitVec 32 := Scalar.muli v51 c256_i32
  let v53 : BitVec 32 := v52
  let c0_i32_32 : BitVec 32 := 0#32
  let v81 : BitVec 32 := Scalar.addi v53 c0_i32_32
  v81
def k0_mult79 (k0_t2 : Fin k0_t2_loop.trips) : BitVec 32 :=
  let c0_i32_10 : BitVec 32 := 0#32
  let c1_i32_11 : BitVec 32 := 1#32
  let arg8 : BitVec 32 := Scf.iv c0_i32_10 c1_i32_11 k0_t2
  let c3_i32_19 : BitVec 32 := 3#32
  let c0_i32_20 : BitVec 32 := 0#32
  let v42 : BitVec 1 := Scalar.cmpi .eq c3_i32_19 c0_i32_20
  let c1_i32_21 : BitVec 32 := 1#32
  let v43 : BitVec 32 := Scalar.select v42 c1_i32_21 c3_i32_19
  let v44 : BitVec 32 := Scalar.remsi arg8 v43
  let c0_i32_23 : BitVec 32 := 0#32
  let v46 : BitVec 1 := Scalar.cmpi .slt v44 c0_i32_23
  let c0_i32_24 : BitVec 32 := 0#32
  let v47 : BitVec 1 := Scalar.cmpi .slt v43 c0_i32_24
  let v48 : BitVec 1 := Scalar.xori v46 v47
  let c0_i32_22 : BitVec 32 := 0#32
  let v45 : BitVec 1 := Scalar.cmpi .ne v44 c0_i32_22
  let v49 : BitVec 1 := Scalar.andi v48 v45
  let v50 : BitVec 32 := Scalar.addi v44 v43
  let v51 : BitVec 32 := Scalar.select v49 v50 v44
  let c256_i32 : BitVec 32 := 256#32
  let v52 : BitVec 32 := Scalar.muli v51 c256_i32
  let v53 : BitVec 32 := v52
  let c0_i32_35 : BitVec 32 := 0#32
  let v88 : BitVec 32 := Scalar.addi v53 c0_i32_35
  v88
def k0_off5 (k0_t2 : Fin k0_t2_loop.trips) (c0_i32_34 : BitVec 32) (c0_i32_35 : BitVec 32) : Fin 3 → Nat :=
  let c0_i32_10 : BitVec 32 := 0#32
  let c1_i32_11 : BitVec 32 := 1#32
  let arg8 : BitVec 32 := Scf.iv c0_i32_10 c1_i32_11 k0_t2
  let c0_i32_13 : BitVec 32 := 0#32
  let v26 : BitVec 1 := Scalar.cmpi .sgt arg8 c0_i32_13
  let v27 : BitVec 32 := Scalar.extui v26
  let c0_i32_14 : BitVec 32 := 0#32
  let v28 : BitVec 1 := Scalar.cmpi .slt arg8 c0_i32_14
  let v29 : BitVec 32 := Scalar.extui v28
  let v30 : BitVec 32 := Scalar.subi v27 v29
  let c3_i32 : BitVec 32 := 3#32
  let c0_i32_15 : BitVec 32 := 0#32
  let v31 : BitVec 1 := Scalar.cmpi .sgt c3_i32 c0_i32_15
  let v32 : BitVec 32 := Scalar.extui v31
  let c0_i32_16 : BitVec 32 := 0#32
  let v33 : BitVec 1 := Scalar.cmpi .slt c3_i32 c0_i32_16
  let v34 : BitVec 32 := Scalar.extui v33
  let v35 : BitVec 32 := Scalar.subi v32 v34
  let v36 : BitVec 1 := Scalar.cmpi .ne v30 v35
  let v37 : BitVec 32 := Scalar.remsi arg8 c3_i32
  let c0_i32_17 : BitVec 32 := 0#32
  let v38 : BitVec 1 := Scalar.cmpi .ne v37 c0_i32_17
  let v39 : BitVec 1 := Scalar.andi v36 v38
  let v25 : BitVec 32 := Scalar.divsi arg8 c3_i32
  let c1_i32_18 : BitVec 32 := 1#32
  let v40 : BitVec 32 := Scalar.subi v25 c1_i32_18
  let v41 : BitVec 32 := Scalar.select v39 v40 v25
  let c2_i32_33 : BitVec 32 := 2#32
  let v86 : BitVec 32 := Scalar.muli v41 c2_i32_33
  let v87 : BitVec 32 := Scalar.addi v86 c0_i32_34
  let v90 : Index := Scalar.indexCast v87
  let c0_36 : Index := 0#32
  let c3_i32_19 : BitVec 32 := 3#32
  let c0_i32_20 : BitVec 32 := 0#32
  let v42 : BitVec 1 := Scalar.cmpi .eq c3_i32_19 c0_i32_20
  let c1_i32_21 : BitVec 32 := 1#32
  let v43 : BitVec 32 := Scalar.select v42 c1_i32_21 c3_i32_19
  let v44 : BitVec 32 := Scalar.remsi arg8 v43
  let c0_i32_23 : BitVec 32 := 0#32
  let v46 : BitVec 1 := Scalar.cmpi .slt v44 c0_i32_23
  let c0_i32_24 : BitVec 32 := 0#32
  let v47 : BitVec 1 := Scalar.cmpi .slt v43 c0_i32_24
  let v48 : BitVec 1 := Scalar.xori v46 v47
  let c0_i32_22 : BitVec 32 := 0#32
  let v45 : BitVec 1 := Scalar.cmpi .ne v44 c0_i32_22
  let v49 : BitVec 1 := Scalar.andi v48 v45
  let v50 : BitVec 32 := Scalar.addi v44 v43
  let v51 : BitVec 32 := Scalar.select v49 v50 v44
  let c256_i32 : BitVec 32 := 256#32
  let v52 : BitVec 32 := Scalar.muli v51 c256_i32
  let v53 : BitVec 32 := v52
  let v88 : BitVec 32 := Scalar.addi v53 c0_i32_35
  let v89 : BitVec 32 := v88
  let v91 : Index := Scalar.indexCast v89
  ![v90.toNat, 0, v91.toNat]
def k0_mult80 (k0_t2 : Fin k0_t2_loop.trips) : BitVec 32 :=
  let c0_i32_10 : BitVec 32 := 0#32
  let c1_i32_11 : BitVec 32 := 1#32
  let arg8 : BitVec 32 := Scf.iv c0_i32_10 c1_i32_11 k0_t2
  let c0_i32_13 : BitVec 32 := 0#32
  let v26 : BitVec 1 := Scalar.cmpi .sgt arg8 c0_i32_13
  let v27 : BitVec 32 := Scalar.extui v26
  let c0_i32_14 : BitVec 32 := 0#32
  let v28 : BitVec 1 := Scalar.cmpi .slt arg8 c0_i32_14
  let v29 : BitVec 32 := Scalar.extui v28
  let v30 : BitVec 32 := Scalar.subi v27 v29
  let c3_i32 : BitVec 32 := 3#32
  let c0_i32_15 : BitVec 32 := 0#32
  let v31 : BitVec 1 := Scalar.cmpi .sgt c3_i32 c0_i32_15
  let v32 : BitVec 32 := Scalar.extui v31
  let c0_i32_16 : BitVec 32 := 0#32
  let v33 : BitVec 1 := Scalar.cmpi .slt c3_i32 c0_i32_16
  let v34 : BitVec 32 := Scalar.extui v33
  let v35 : BitVec 32 := Scalar.subi v32 v34
  let v36 : BitVec 1 := Scalar.cmpi .ne v30 v35
  let v37 : BitVec 32 := Scalar.remsi arg8 c3_i32
  let c0_i32_17 : BitVec 32 := 0#32
  let v38 : BitVec 1 := Scalar.cmpi .ne v37 c0_i32_17
  let v39 : BitVec 1 := Scalar.andi v36 v38
  let v25 : BitVec 32 := Scalar.divsi arg8 c3_i32
  let c1_i32_18 : BitVec 32 := 1#32
  let v40 : BitVec 32 := Scalar.subi v25 c1_i32_18
  let v41 : BitVec 32 := Scalar.select v39 v40 v25
  let c128_i32 : BitVec 32 := 128#32
  let v112 : BitVec 32 := Scalar.muli v41 c128_i32
  v112
def k0_mult81 (k0_t2 : Fin k0_t2_loop.trips) : BitVec 32 :=
  let c0_i32_10 : BitVec 32 := 0#32
  let c1_i32_11 : BitVec 32 := 1#32
  let arg8 : BitVec 32 := Scf.iv c0_i32_10 c1_i32_11 k0_t2
  let c3_i32_19 : BitVec 32 := 3#32
  let c0_i32_20 : BitVec 32 := 0#32
  let v42 : BitVec 1 := Scalar.cmpi .eq c3_i32_19 c0_i32_20
  let c1_i32_21 : BitVec 32 := 1#32
  let v43 : BitVec 32 := Scalar.select v42 c1_i32_21 c3_i32_19
  let v44 : BitVec 32 := Scalar.remsi arg8 v43
  let c0_i32_23 : BitVec 32 := 0#32
  let v46 : BitVec 1 := Scalar.cmpi .slt v44 c0_i32_23
  let c0_i32_24 : BitVec 32 := 0#32
  let v47 : BitVec 1 := Scalar.cmpi .slt v43 c0_i32_24
  let v48 : BitVec 1 := Scalar.xori v46 v47
  let c0_i32_22 : BitVec 32 := 0#32
  let v45 : BitVec 1 := Scalar.cmpi .ne v44 c0_i32_22
  let v49 : BitVec 1 := Scalar.andi v48 v45
  let v50 : BitVec 32 := Scalar.addi v44 v43
  let v51 : BitVec 32 := Scalar.select v49 v50 v44
  let c256_i32 : BitVec 32 := 256#32
  let v52 : BitVec 32 := Scalar.muli v51 c256_i32
  let v53 : BitVec 32 := v52
  let c0_i32_49 : BitVec 32 := 0#32
  let v115 : BitVec 32 := Scalar.addi v53 c0_i32_49
  v115
def k0_off6 (i : grid0.Coords) (k0_t2 : Fin k0_t2_loop.trips) (c0_i32_48 : BitVec 32) (c0_i32_49 : BitVec 32) : Fin 4 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v117 : Index := Scalar.indexCast v9
  let c0_i32_10 : BitVec 32 := 0#32
  let c1_i32_11 : BitVec 32 := 1#32
  let arg8 : BitVec 32 := Scf.iv c0_i32_10 c1_i32_11 k0_t2
  let c0_i32_13 : BitVec 32 := 0#32
  let v26 : BitVec 1 := Scalar.cmpi .sgt arg8 c0_i32_13
  let v27 : BitVec 32 := Scalar.extui v26
  let c0_i32_14 : BitVec 32 := 0#32
  let v28 : BitVec 1 := Scalar.cmpi .slt arg8 c0_i32_14
  let v29 : BitVec 32 := Scalar.extui v28
  let v30 : BitVec 32 := Scalar.subi v27 v29
  let c3_i32 : BitVec 32 := 3#32
  let c0_i32_15 : BitVec 32 := 0#32
  let v31 : BitVec 1 := Scalar.cmpi .sgt c3_i32 c0_i32_15
  let v32 : BitVec 32 := Scalar.extui v31
  let c0_i32_16 : BitVec 32 := 0#32
  let v33 : BitVec 1 := Scalar.cmpi .slt c3_i32 c0_i32_16
  let v34 : BitVec 32 := Scalar.extui v33
  let v35 : BitVec 32 := Scalar.subi v32 v34
  let v36 : BitVec 1 := Scalar.cmpi .ne v30 v35
  let v37 : BitVec 32 := Scalar.remsi arg8 c3_i32
  let c0_i32_17 : BitVec 32 := 0#32
  let v38 : BitVec 1 := Scalar.cmpi .ne v37 c0_i32_17
  let v39 : BitVec 1 := Scalar.andi v36 v38
  let v25 : BitVec 32 := Scalar.divsi arg8 c3_i32
  let c1_i32_18 : BitVec 32 := 1#32
  let v40 : BitVec 32 := Scalar.subi v25 c1_i32_18
  let v41 : BitVec 32 := Scalar.select v39 v40 v25
  let c128_i32 : BitVec 32 := 128#32
  let v112 : BitVec 32 := Scalar.muli v41 c128_i32
  let v113 : BitVec 32 := v112
  let v114 : BitVec 32 := Scalar.addi v113 c0_i32_48
  let v118 : Index := Scalar.indexCast v114
  let c3_i32_19 : BitVec 32 := 3#32
  let c0_i32_20 : BitVec 32 := 0#32
  let v42 : BitVec 1 := Scalar.cmpi .eq c3_i32_19 c0_i32_20
  let c1_i32_21 : BitVec 32 := 1#32
  let v43 : BitVec 32 := Scalar.select v42 c1_i32_21 c3_i32_19
  let v44 : BitVec 32 := Scalar.remsi arg8 v43
  let c0_i32_23 : BitVec 32 := 0#32
  let v46 : BitVec 1 := Scalar.cmpi .slt v44 c0_i32_23
  let c0_i32_24 : BitVec 32 := 0#32
  let v47 : BitVec 1 := Scalar.cmpi .slt v43 c0_i32_24
  let v48 : BitVec 1 := Scalar.xori v46 v47
  let c0_i32_22 : BitVec 32 := 0#32
  let v45 : BitVec 1 := Scalar.cmpi .ne v44 c0_i32_22
  let v49 : BitVec 1 := Scalar.andi v48 v45
  let v50 : BitVec 32 := Scalar.addi v44 v43
  let v51 : BitVec 32 := Scalar.select v49 v50 v44
  let c256_i32 : BitVec 32 := 256#32
  let v52 : BitVec 32 := Scalar.muli v51 c256_i32
  let v53 : BitVec 32 := v52
  let v115 : BitVec 32 := Scalar.addi v53 c0_i32_49
  let v116 : BitVec 32 := v115
  let v119 : Index := Scalar.indexCast v116
  ![v117.toNat, v118.toNat, 0, v119.toNat]
def k0_mult82 (k0_t2 : Fin k0_t2_loop.trips) : BitVec 32 :=
  let c0_i32_10 : BitVec 32 := 0#32
  let c1_i32_11 : BitVec 32 := 1#32
  let arg8 : BitVec 32 := Scf.iv c0_i32_10 c1_i32_11 k0_t2
  let c0_i32_13 : BitVec 32 := 0#32
  let v26 : BitVec 1 := Scalar.cmpi .sgt arg8 c0_i32_13
  let v27 : BitVec 32 := Scalar.extui v26
  let c0_i32_14 : BitVec 32 := 0#32
  let v28 : BitVec 1 := Scalar.cmpi .slt arg8 c0_i32_14
  let v29 : BitVec 32 := Scalar.extui v28
  let v30 : BitVec 32 := Scalar.subi v27 v29
  let c3_i32 : BitVec 32 := 3#32
  let c0_i32_15 : BitVec 32 := 0#32
  let v31 : BitVec 1 := Scalar.cmpi .sgt c3_i32 c0_i32_15
  let v32 : BitVec 32 := Scalar.extui v31
  let c0_i32_16 : BitVec 32 := 0#32
  let v33 : BitVec 1 := Scalar.cmpi .slt c3_i32 c0_i32_16
  let v34 : BitVec 32 := Scalar.extui v33
  let v35 : BitVec 32 := Scalar.subi v32 v34
  let v36 : BitVec 1 := Scalar.cmpi .ne v30 v35
  let v37 : BitVec 32 := Scalar.remsi arg8 c3_i32
  let c0_i32_17 : BitVec 32 := 0#32
  let v38 : BitVec 1 := Scalar.cmpi .ne v37 c0_i32_17
  let v39 : BitVec 1 := Scalar.andi v36 v38
  let v25 : BitVec 32 := Scalar.divsi arg8 c3_i32
  let c1_i32_18 : BitVec 32 := 1#32
  let v40 : BitVec 32 := Scalar.subi v25 c1_i32_18
  let v41 : BitVec 32 := Scalar.select v39 v40 v25
  let c128_i32_50 : BitVec 32 := 128#32
  let v127 : BitVec 32 := Scalar.muli v41 c128_i32_50
  v127
def k0_mult83 (k0_t2 : Fin k0_t2_loop.trips) : BitVec 32 :=
  let c0_i32_10 : BitVec 32 := 0#32
  let c1_i32_11 : BitVec 32 := 1#32
  let arg8 : BitVec 32 := Scf.iv c0_i32_10 c1_i32_11 k0_t2
  let c3_i32_19 : BitVec 32 := 3#32
  let c0_i32_20 : BitVec 32 := 0#32
  let v42 : BitVec 1 := Scalar.cmpi .eq c3_i32_19 c0_i32_20
  let c1_i32_21 : BitVec 32 := 1#32
  let v43 : BitVec 32 := Scalar.select v42 c1_i32_21 c3_i32_19
  let v44 : BitVec 32 := Scalar.remsi arg8 v43
  let c0_i32_23 : BitVec 32 := 0#32
  let v46 : BitVec 1 := Scalar.cmpi .slt v44 c0_i32_23
  let c0_i32_24 : BitVec 32 := 0#32
  let v47 : BitVec 1 := Scalar.cmpi .slt v43 c0_i32_24
  let v48 : BitVec 1 := Scalar.xori v46 v47
  let c0_i32_22 : BitVec 32 := 0#32
  let v45 : BitVec 1 := Scalar.cmpi .ne v44 c0_i32_22
  let v49 : BitVec 1 := Scalar.andi v48 v45
  let v50 : BitVec 32 := Scalar.addi v44 v43
  let v51 : BitVec 32 := Scalar.select v49 v50 v44
  let c256_i32 : BitVec 32 := 256#32
  let v52 : BitVec 32 := Scalar.muli v51 c256_i32
  let v53 : BitVec 32 := v52
  let c0_i32_52 : BitVec 32 := 0#32
  let v130 : BitVec 32 := Scalar.addi v53 c0_i32_52
  v130
def k0_mult84 (k0_t2 : Fin k0_t2_loop.trips) : BitVec 32 :=
  let c0_i32_10 : BitVec 32 := 0#32
  let c1_i32_11 : BitVec 32 := 1#32
  let arg8 : BitVec 32 := Scf.iv c0_i32_10 c1_i32_11 k0_t2
  let c0_i32_13 : BitVec 32 := 0#32
  let v26 : BitVec 1 := Scalar.cmpi .sgt arg8 c0_i32_13
  let v27 : BitVec 32 := Scalar.extui v26
  let c0_i32_14 : BitVec 32 := 0#32
  let v28 : BitVec 1 := Scalar.cmpi .slt arg8 c0_i32_14
  let v29 : BitVec 32 := Scalar.extui v28
  let v30 : BitVec 32 := Scalar.subi v27 v29
  let c3_i32 : BitVec 32 := 3#32
  let c0_i32_15 : BitVec 32 := 0#32
  let v31 : BitVec 1 := Scalar.cmpi .sgt c3_i32 c0_i32_15
  let v32 : BitVec 32 := Scalar.extui v31
  let c0_i32_16 : BitVec 32 := 0#32
  let v33 : BitVec 1 := Scalar.cmpi .slt c3_i32 c0_i32_16
  let v34 : BitVec 32 := Scalar.extui v33
  let v35 : BitVec 32 := Scalar.subi v32 v34
  let v36 : BitVec 1 := Scalar.cmpi .ne v30 v35
  let v37 : BitVec 32 := Scalar.remsi arg8 c3_i32
  let c0_i32_17 : BitVec 32 := 0#32
  let v38 : BitVec 1 := Scalar.cmpi .ne v37 c0_i32_17
  let v39 : BitVec 1 := Scalar.andi v36 v38
  let v25 : BitVec 32 := Scalar.divsi arg8 c3_i32
  let c1_i32_18 : BitVec 32 := 1#32
  let v40 : BitVec 32 := Scalar.subi v25 c1_i32_18
  let v41 : BitVec 32 := Scalar.select v39 v40 v25
  let c128_i32_53 : BitVec 32 := 128#32
  let v142 : BitVec 32 := Scalar.muli v41 c128_i32_53
  v142
def k0_mult85 (k0_t2 : Fin k0_t2_loop.trips) : BitVec 32 :=
  let c0_i32_10 : BitVec 32 := 0#32
  let c1_i32_11 : BitVec 32 := 1#32
  let arg8 : BitVec 32 := Scf.iv c0_i32_10 c1_i32_11 k0_t2
  let c3_i32_19 : BitVec 32 := 3#32
  let c0_i32_20 : BitVec 32 := 0#32
  let v42 : BitVec 1 := Scalar.cmpi .eq c3_i32_19 c0_i32_20
  let c1_i32_21 : BitVec 32 := 1#32
  let v43 : BitVec 32 := Scalar.select v42 c1_i32_21 c3_i32_19
  let v44 : BitVec 32 := Scalar.remsi arg8 v43
  let c0_i32_23 : BitVec 32 := 0#32
  let v46 : BitVec 1 := Scalar.cmpi .slt v44 c0_i32_23
  let c0_i32_24 : BitVec 32 := 0#32
  let v47 : BitVec 1 := Scalar.cmpi .slt v43 c0_i32_24
  let v48 : BitVec 1 := Scalar.xori v46 v47
  let c0_i32_22 : BitVec 32 := 0#32
  let v45 : BitVec 1 := Scalar.cmpi .ne v44 c0_i32_22
  let v49 : BitVec 1 := Scalar.andi v48 v45
  let v50 : BitVec 32 := Scalar.addi v44 v43
  let v51 : BitVec 32 := Scalar.select v49 v50 v44
  let c256_i32 : BitVec 32 := 256#32
  let v52 : BitVec 32 := Scalar.muli v51 c256_i32
  let v53 : BitVec 32 := v52
  let c0_i32_54 : BitVec 32 := 0#32
  let v145 : BitVec 32 := Scalar.addi v53 c0_i32_54
  v145
def k0_mult86 (k0_t2 : Fin k0_t2_loop.trips) : BitVec 32 :=
  let c0_i32_10 : BitVec 32 := 0#32
  let c1_i32_11 : BitVec 32 := 1#32
  let arg8 : BitVec 32 := Scf.iv c0_i32_10 c1_i32_11 k0_t2
  let c0_i32_13 : BitVec 32 := 0#32
  let v26 : BitVec 1 := Scalar.cmpi .sgt arg8 c0_i32_13
  let v27 : BitVec 32 := Scalar.extui v26
  let c0_i32_14 : BitVec 32 := 0#32
  let v28 : BitVec 1 := Scalar.cmpi .slt arg8 c0_i32_14
  let v29 : BitVec 32 := Scalar.extui v28
  let v30 : BitVec 32 := Scalar.subi v27 v29
  let c3_i32 : BitVec 32 := 3#32
  let c0_i32_15 : BitVec 32 := 0#32
  let v31 : BitVec 1 := Scalar.cmpi .sgt c3_i32 c0_i32_15
  let v32 : BitVec 32 := Scalar.extui v31
  let c0_i32_16 : BitVec 32 := 0#32
  let v33 : BitVec 1 := Scalar.cmpi .slt c3_i32 c0_i32_16
  let v34 : BitVec 32 := Scalar.extui v33
  let v35 : BitVec 32 := Scalar.subi v32 v34
  let v36 : BitVec 1 := Scalar.cmpi .ne v30 v35
  let v37 : BitVec 32 := Scalar.remsi arg8 c3_i32
  let c0_i32_17 : BitVec 32 := 0#32
  let v38 : BitVec 1 := Scalar.cmpi .ne v37 c0_i32_17
  let v39 : BitVec 1 := Scalar.andi v36 v38
  let v25 : BitVec 32 := Scalar.divsi arg8 c3_i32
  let c1_i32_18 : BitVec 32 := 1#32
  let v40 : BitVec 32 := Scalar.subi v25 c1_i32_18
  let v41 : BitVec 32 := Scalar.select v39 v40 v25
  let c128_i32_55 : BitVec 32 := 128#32
  let v157 : BitVec 32 := Scalar.muli v41 c128_i32_55
  v157
def k0_mult87 (k0_t2 : Fin k0_t2_loop.trips) : BitVec 32 :=
  let c0_i32_10 : BitVec 32 := 0#32
  let c1_i32_11 : BitVec 32 := 1#32
  let arg8 : BitVec 32 := Scf.iv c0_i32_10 c1_i32_11 k0_t2
  let c3_i32_19 : BitVec 32 := 3#32
  let c0_i32_20 : BitVec 32 := 0#32
  let v42 : BitVec 1 := Scalar.cmpi .eq c3_i32_19 c0_i32_20
  let c1_i32_21 : BitVec 32 := 1#32
  let v43 : BitVec 32 := Scalar.select v42 c1_i32_21 c3_i32_19
  let v44 : BitVec 32 := Scalar.remsi arg8 v43
  let c0_i32_23 : BitVec 32 := 0#32
  let v46 : BitVec 1 := Scalar.cmpi .slt v44 c0_i32_23
  let c0_i32_24 : BitVec 32 := 0#32
  let v47 : BitVec 1 := Scalar.cmpi .slt v43 c0_i32_24
  let v48 : BitVec 1 := Scalar.xori v46 v47
  let c0_i32_22 : BitVec 32 := 0#32
  let v45 : BitVec 1 := Scalar.cmpi .ne v44 c0_i32_22
  let v49 : BitVec 1 := Scalar.andi v48 v45
  let v50 : BitVec 32 := Scalar.addi v44 v43
  let v51 : BitVec 32 := Scalar.select v49 v50 v44
  let c256_i32 : BitVec 32 := 256#32
  let v52 : BitVec 32 := Scalar.muli v51 c256_i32
  let v53 : BitVec 32 := v52
  let c0_i32_56 : BitVec 32 := 0#32
  let v160 : BitVec 32 := Scalar.addi v53 c0_i32_56
  v160
def k0_mult88 (k0_t2 : Fin k0_t2_loop.trips) : BitVec 32 :=
  let c0_i32_10 : BitVec 32 := 0#32
  let c1_i32_11 : BitVec 32 := 1#32
  let arg8 : BitVec 32 := Scf.iv c0_i32_10 c1_i32_11 k0_t2
  let c0_i32_13 : BitVec 32 := 0#32
  let v26 : BitVec 1 := Scalar.cmpi .sgt arg8 c0_i32_13
  let v27 : BitVec 32 := Scalar.extui v26
  let c0_i32_14 : BitVec 32 := 0#32
  let v28 : BitVec 1 := Scalar.cmpi .slt arg8 c0_i32_14
  let v29 : BitVec 32 := Scalar.extui v28
  let v30 : BitVec 32 := Scalar.subi v27 v29
  let c3_i32 : BitVec 32 := 3#32
  let c0_i32_15 : BitVec 32 := 0#32
  let v31 : BitVec 1 := Scalar.cmpi .sgt c3_i32 c0_i32_15
  let v32 : BitVec 32 := Scalar.extui v31
  let c0_i32_16 : BitVec 32 := 0#32
  let v33 : BitVec 1 := Scalar.cmpi .slt c3_i32 c0_i32_16
  let v34 : BitVec 32 := Scalar.extui v33
  let v35 : BitVec 32 := Scalar.subi v32 v34
  let v36 : BitVec 1 := Scalar.cmpi .ne v30 v35
  let v37 : BitVec 32 := Scalar.remsi arg8 c3_i32
  let c0_i32_17 : BitVec 32 := 0#32
  let v38 : BitVec 1 := Scalar.cmpi .ne v37 c0_i32_17
  let v39 : BitVec 1 := Scalar.andi v36 v38
  let v25 : BitVec 32 := Scalar.divsi arg8 c3_i32
  let c1_i32_18 : BitVec 32 := 1#32
  let v40 : BitVec 32 := Scalar.subi v25 c1_i32_18
  let v41 : BitVec 32 := Scalar.select v39 v40 v25
  let c64_i32_57 : BitVec 32 := 64#32
  let v168 : BitVec 32 := Scalar.muli v41 c64_i32_57
  v168
def k0_mult89 (k0_t2 : Fin k0_t2_loop.trips) : BitVec 32 :=
  let c0_i32_10 : BitVec 32 := 0#32
  let c1_i32_11 : BitVec 32 := 1#32
  let arg8 : BitVec 32 := Scf.iv c0_i32_10 c1_i32_11 k0_t2
  let c3_i32_19 : BitVec 32 := 3#32
  let c0_i32_20 : BitVec 32 := 0#32
  let v42 : BitVec 1 := Scalar.cmpi .eq c3_i32_19 c0_i32_20
  let c1_i32_21 : BitVec 32 := 1#32
  let v43 : BitVec 32 := Scalar.select v42 c1_i32_21 c3_i32_19
  let v44 : BitVec 32 := Scalar.remsi arg8 v43
  let c0_i32_23 : BitVec 32 := 0#32
  let v46 : BitVec 1 := Scalar.cmpi .slt v44 c0_i32_23
  let c0_i32_24 : BitVec 32 := 0#32
  let v47 : BitVec 1 := Scalar.cmpi .slt v43 c0_i32_24
  let v48 : BitVec 1 := Scalar.xori v46 v47
  let c0_i32_22 : BitVec 32 := 0#32
  let v45 : BitVec 1 := Scalar.cmpi .ne v44 c0_i32_22
  let v49 : BitVec 1 := Scalar.andi v48 v45
  let v50 : BitVec 32 := Scalar.addi v44 v43
  let v51 : BitVec 32 := Scalar.select v49 v50 v44
  let c256_i32 : BitVec 32 := 256#32
  let v52 : BitVec 32 := Scalar.muli v51 c256_i32
  let v53 : BitVec 32 := v52
  let c0_i32_59 : BitVec 32 := 0#32
  let v171 : BitVec 32 := Scalar.addi v53 c0_i32_59
  v171
def k0_mult90 (k0_t2 : Fin k0_t2_loop.trips) : BitVec 32 :=
  let c0_i32_10 : BitVec 32 := 0#32
  let c1_i32_11 : BitVec 32 := 1#32
  let arg8 : BitVec 32 := Scf.iv c0_i32_10 c1_i32_11 k0_t2
  let c0_i32_13 : BitVec 32 := 0#32
  let v26 : BitVec 1 := Scalar.cmpi .sgt arg8 c0_i32_13
  let v27 : BitVec 32 := Scalar.extui v26
  let c0_i32_14 : BitVec 32 := 0#32
  let v28 : BitVec 1 := Scalar.cmpi .slt arg8 c0_i32_14
  let v29 : BitVec 32 := Scalar.extui v28
  let v30 : BitVec 32 := Scalar.subi v27 v29
  let c3_i32 : BitVec 32 := 3#32
  let c0_i32_15 : BitVec 32 := 0#32
  let v31 : BitVec 1 := Scalar.cmpi .sgt c3_i32 c0_i32_15
  let v32 : BitVec 32 := Scalar.extui v31
  let c0_i32_16 : BitVec 32 := 0#32
  let v33 : BitVec 1 := Scalar.cmpi .slt c3_i32 c0_i32_16
  let v34 : BitVec 32 := Scalar.extui v33
  let v35 : BitVec 32 := Scalar.subi v32 v34
  let v36 : BitVec 1 := Scalar.cmpi .ne v30 v35
  let v37 : BitVec 32 := Scalar.remsi arg8 c3_i32
  let c0_i32_17 : BitVec 32 := 0#32
  let v38 : BitVec 1 := Scalar.cmpi .ne v37 c0_i32_17
  let v39 : BitVec 1 := Scalar.andi v36 v38
  let v25 : BitVec 32 := Scalar.divsi arg8 c3_i32
  let c1_i32_18 : BitVec 32 := 1#32
  let v40 : BitVec 32 := Scalar.subi v25 c1_i32_18
  let v41 : BitVec 32 := Scalar.select v39 v40 v25
  let c64_i32_60 : BitVec 32 := 64#32
  let v176 : BitVec 32 := Scalar.muli v41 c64_i32_60
  v176
def k0_mult91 (k0_t2 : Fin k0_t2_loop.trips) : BitVec 32 :=
  let c0_i32_10 : BitVec 32 := 0#32
  let c1_i32_11 : BitVec 32 := 1#32
  let arg8 : BitVec 32 := Scf.iv c0_i32_10 c1_i32_11 k0_t2
  let c3_i32_19 : BitVec 32 := 3#32
  let c0_i32_20 : BitVec 32 := 0#32
  let v42 : BitVec 1 := Scalar.cmpi .eq c3_i32_19 c0_i32_20
  let c1_i32_21 : BitVec 32 := 1#32
  let v43 : BitVec 32 := Scalar.select v42 c1_i32_21 c3_i32_19
  let v44 : BitVec 32 := Scalar.remsi arg8 v43
  let c0_i32_23 : BitVec 32 := 0#32
  let v46 : BitVec 1 := Scalar.cmpi .slt v44 c0_i32_23
  let c0_i32_24 : BitVec 32 := 0#32
  let v47 : BitVec 1 := Scalar.cmpi .slt v43 c0_i32_24
  let v48 : BitVec 1 := Scalar.xori v46 v47
  let c0_i32_22 : BitVec 32 := 0#32
  let v45 : BitVec 1 := Scalar.cmpi .ne v44 c0_i32_22
  let v49 : BitVec 1 := Scalar.andi v48 v45
  let v50 : BitVec 32 := Scalar.addi v44 v43
  let v51 : BitVec 32 := Scalar.select v49 v50 v44
  let c256_i32 : BitVec 32 := 256#32
  let v52 : BitVec 32 := Scalar.muli v51 c256_i32
  let v53 : BitVec 32 := v52
  let c0_i32_61 : BitVec 32 := 0#32
  let v179 : BitVec 32 := Scalar.addi v53 c0_i32_61
  v179
def k0_mult92 (k0_t2 : Fin k0_t2_loop.trips) : BitVec 32 :=
  let c0_i32_10 : BitVec 32 := 0#32
  let c1_i32_11 : BitVec 32 := 1#32
  let arg8 : BitVec 32 := Scf.iv c0_i32_10 c1_i32_11 k0_t2
  let c0_i32_13 : BitVec 32 := 0#32
  let v26 : BitVec 1 := Scalar.cmpi .sgt arg8 c0_i32_13
  let v27 : BitVec 32 := Scalar.extui v26
  let c0_i32_14 : BitVec 32 := 0#32
  let v28 : BitVec 1 := Scalar.cmpi .slt arg8 c0_i32_14
  let v29 : BitVec 32 := Scalar.extui v28
  let v30 : BitVec 32 := Scalar.subi v27 v29
  let c3_i32 : BitVec 32 := 3#32
  let c0_i32_15 : BitVec 32 := 0#32
  let v31 : BitVec 1 := Scalar.cmpi .sgt c3_i32 c0_i32_15
  let v32 : BitVec 32 := Scalar.extui v31
  let c0_i32_16 : BitVec 32 := 0#32
  let v33 : BitVec 1 := Scalar.cmpi .slt c3_i32 c0_i32_16
  let v34 : BitVec 32 := Scalar.extui v33
  let v35 : BitVec 32 := Scalar.subi v32 v34
  let v36 : BitVec 1 := Scalar.cmpi .ne v30 v35
  let v37 : BitVec 32 := Scalar.remsi arg8 c3_i32
  let c0_i32_17 : BitVec 32 := 0#32
  let v38 : BitVec 1 := Scalar.cmpi .ne v37 c0_i32_17
  let v39 : BitVec 1 := Scalar.andi v36 v38
  let v25 : BitVec 32 := Scalar.divsi arg8 c3_i32
  let c1_i32_18 : BitVec 32 := 1#32
  let v40 : BitVec 32 := Scalar.subi v25 c1_i32_18
  let v41 : BitVec 32 := Scalar.select v39 v40 v25
  let c64_i32_62 : BitVec 32 := 64#32
  let v184 : BitVec 32 := Scalar.muli v41 c64_i32_62
  v184
def k0_mult93 (k0_t2 : Fin k0_t2_loop.trips) : BitVec 32 :=
  let c0_i32_10 : BitVec 32 := 0#32
  let c1_i32_11 : BitVec 32 := 1#32
  let arg8 : BitVec 32 := Scf.iv c0_i32_10 c1_i32_11 k0_t2
  let c3_i32_19 : BitVec 32 := 3#32
  let c0_i32_20 : BitVec 32 := 0#32
  let v42 : BitVec 1 := Scalar.cmpi .eq c3_i32_19 c0_i32_20
  let c1_i32_21 : BitVec 32 := 1#32
  let v43 : BitVec 32 := Scalar.select v42 c1_i32_21 c3_i32_19
  let v44 : BitVec 32 := Scalar.remsi arg8 v43
  let c0_i32_23 : BitVec 32 := 0#32
  let v46 : BitVec 1 := Scalar.cmpi .slt v44 c0_i32_23
  let c0_i32_24 : BitVec 32 := 0#32
  let v47 : BitVec 1 := Scalar.cmpi .slt v43 c0_i32_24
  let v48 : BitVec 1 := Scalar.xori v46 v47
  let c0_i32_22 : BitVec 32 := 0#32
  let v45 : BitVec 1 := Scalar.cmpi .ne v44 c0_i32_22
  let v49 : BitVec 1 := Scalar.andi v48 v45
  let v50 : BitVec 32 := Scalar.addi v44 v43
  let v51 : BitVec 32 := Scalar.select v49 v50 v44
  let c256_i32 : BitVec 32 := 256#32
  let v52 : BitVec 32 := Scalar.muli v51 c256_i32
  let v53 : BitVec 32 := v52
  let c0_i32_64 : BitVec 32 := 0#32
  let v187 : BitVec 32 := Scalar.addi v53 c0_i32_64
  v187
def k0_mult94 (k0_t2 : Fin k0_t2_loop.trips) : BitVec 32 :=
  let c0_i32_10 : BitVec 32 := 0#32
  let c1_i32_11 : BitVec 32 := 1#32
  let arg8 : BitVec 32 := Scf.iv c0_i32_10 c1_i32_11 k0_t2
  let c0_i32_13 : BitVec 32 := 0#32
  let v26 : BitVec 1 := Scalar.cmpi .sgt arg8 c0_i32_13
  let v27 : BitVec 32 := Scalar.extui v26
  let c0_i32_14 : BitVec 32 := 0#32
  let v28 : BitVec 1 := Scalar.cmpi .slt arg8 c0_i32_14
  let v29 : BitVec 32 := Scalar.extui v28
  let v30 : BitVec 32 := Scalar.subi v27 v29
  let c3_i32 : BitVec 32 := 3#32
  let c0_i32_15 : BitVec 32 := 0#32
  let v31 : BitVec 1 := Scalar.cmpi .sgt c3_i32 c0_i32_15
  let v32 : BitVec 32 := Scalar.extui v31
  let c0_i32_16 : BitVec 32 := 0#32
  let v33 : BitVec 1 := Scalar.cmpi .slt c3_i32 c0_i32_16
  let v34 : BitVec 32 := Scalar.extui v33
  let v35 : BitVec 32 := Scalar.subi v32 v34
  let v36 : BitVec 1 := Scalar.cmpi .ne v30 v35
  let v37 : BitVec 32 := Scalar.remsi arg8 c3_i32
  let c0_i32_17 : BitVec 32 := 0#32
  let v38 : BitVec 1 := Scalar.cmpi .ne v37 c0_i32_17
  let v39 : BitVec 1 := Scalar.andi v36 v38
  let v25 : BitVec 32 := Scalar.divsi arg8 c3_i32
  let c1_i32_18 : BitVec 32 := 1#32
  let v40 : BitVec 32 := Scalar.subi v25 c1_i32_18
  let v41 : BitVec 32 := Scalar.select v39 v40 v25
  let c64_i32_65 : BitVec 32 := 64#32
  let v192 : BitVec 32 := Scalar.muli v41 c64_i32_65
  v192
def k0_mult95 (k0_t2 : Fin k0_t2_loop.trips) : BitVec 32 :=
  let c0_i32_10 : BitVec 32 := 0#32
  let c1_i32_11 : BitVec 32 := 1#32
  let arg8 : BitVec 32 := Scf.iv c0_i32_10 c1_i32_11 k0_t2
  let c3_i32_19 : BitVec 32 := 3#32
  let c0_i32_20 : BitVec 32 := 0#32
  let v42 : BitVec 1 := Scalar.cmpi .eq c3_i32_19 c0_i32_20
  let c1_i32_21 : BitVec 32 := 1#32
  let v43 : BitVec 32 := Scalar.select v42 c1_i32_21 c3_i32_19
  let v44 : BitVec 32 := Scalar.remsi arg8 v43
  let c0_i32_23 : BitVec 32 := 0#32
  let v46 : BitVec 1 := Scalar.cmpi .slt v44 c0_i32_23
  let c0_i32_24 : BitVec 32 := 0#32
  let v47 : BitVec 1 := Scalar.cmpi .slt v43 c0_i32_24
  let v48 : BitVec 1 := Scalar.xori v46 v47
  let c0_i32_22 : BitVec 32 := 0#32
  let v45 : BitVec 1 := Scalar.cmpi .ne v44 c0_i32_22
  let v49 : BitVec 1 := Scalar.andi v48 v45
  let v50 : BitVec 32 := Scalar.addi v44 v43
  let v51 : BitVec 32 := Scalar.select v49 v50 v44
  let c256_i32 : BitVec 32 := 256#32
  let v52 : BitVec 32 := Scalar.muli v51 c256_i32
  let v53 : BitVec 32 := v52
  let c0_i32_66 : BitVec 32 := 0#32
  let v195 : BitVec 32 := Scalar.addi v53 c0_i32_66
  v195
def k0_mult96 (k0_t2 : Fin k0_t2_loop.trips) : BitVec 32 :=
  let c0_i32_10 : BitVec 32 := 0#32
  let c1_i32_11 : BitVec 32 := 1#32
  let arg8 : BitVec 32 := Scf.iv c0_i32_10 c1_i32_11 k0_t2
  let c3_i32_19 : BitVec 32 := 3#32
  let c0_i32_20 : BitVec 32 := 0#32
  let v42 : BitVec 1 := Scalar.cmpi .eq c3_i32_19 c0_i32_20
  let c1_i32_21 : BitVec 32 := 1#32
  let v43 : BitVec 32 := Scalar.select v42 c1_i32_21 c3_i32_19
  let v44 : BitVec 32 := Scalar.remsi arg8 v43
  let c0_i32_23 : BitVec 32 := 0#32
  let v46 : BitVec 1 := Scalar.cmpi .slt v44 c0_i32_23
  let c0_i32_24 : BitVec 32 := 0#32
  let v47 : BitVec 1 := Scalar.cmpi .slt v43 c0_i32_24
  let v48 : BitVec 1 := Scalar.xori v46 v47
  let c0_i32_22 : BitVec 32 := 0#32
  let v45 : BitVec 1 := Scalar.cmpi .ne v44 c0_i32_22
  let v49 : BitVec 1 := Scalar.andi v48 v45
  let v50 : BitVec 32 := Scalar.addi v44 v43
  let v51 : BitVec 32 := Scalar.select v49 v50 v44
  let c256_i32 : BitVec 32 := 256#32
  let v52 : BitVec 32 := Scalar.muli v51 c256_i32
  let v53 : BitVec 32 := v52
  let c0_i32_69 : BitVec 32 := 0#32
  let v202 : BitVec 32 := Scalar.addi v53 c0_i32_69
  v202
def k0_mult97 (k0_t2 : Fin k0_t2_loop.trips) : BitVec 32 :=
  let c0_i32_10 : BitVec 32 := 0#32
  let c1_i32_11 : BitVec 32 := 1#32
  let arg8 : BitVec 32 := Scf.iv c0_i32_10 c1_i32_11 k0_t2
  let c0_i32_13 : BitVec 32 := 0#32
  let v26 : BitVec 1 := Scalar.cmpi .sgt arg8 c0_i32_13
  let v27 : BitVec 32 := Scalar.extui v26
  let c0_i32_14 : BitVec 32 := 0#32
  let v28 : BitVec 1 := Scalar.cmpi .slt arg8 c0_i32_14
  let v29 : BitVec 32 := Scalar.extui v28
  let v30 : BitVec 32 := Scalar.subi v27 v29
  let c3_i32 : BitVec 32 := 3#32
  let c0_i32_15 : BitVec 32 := 0#32
  let v31 : BitVec 1 := Scalar.cmpi .sgt c3_i32 c0_i32_15
  let v32 : BitVec 32 := Scalar.extui v31
  let c0_i32_16 : BitVec 32 := 0#32
  let v33 : BitVec 1 := Scalar.cmpi .slt c3_i32 c0_i32_16
  let v34 : BitVec 32 := Scalar.extui v33
  let v35 : BitVec 32 := Scalar.subi v32 v34
  let v36 : BitVec 1 := Scalar.cmpi .ne v30 v35
  let v37 : BitVec 32 := Scalar.remsi arg8 c3_i32
  let c0_i32_17 : BitVec 32 := 0#32
  let v38 : BitVec 1 := Scalar.cmpi .ne v37 c0_i32_17
  let v39 : BitVec 1 := Scalar.andi v36 v38
  let v25 : BitVec 32 := Scalar.divsi arg8 c3_i32
  let c1_i32_18 : BitVec 32 := 1#32
  let v40 : BitVec 32 := Scalar.subi v25 c1_i32_18
  let v41 : BitVec 32 := Scalar.select v39 v40 v25
  let c128_i32_84 : BitVec 32 := 128#32
  let v226 : BitVec 32 := Scalar.muli v41 c128_i32_84
  v226
def k0_mult98 (k0_t2 : Fin k0_t2_loop.trips) : BitVec 32 :=
  let c0_i32_10 : BitVec 32 := 0#32
  let c1_i32_11 : BitVec 32 := 1#32
  let arg8 : BitVec 32 := Scf.iv c0_i32_10 c1_i32_11 k0_t2
  let c3_i32_19 : BitVec 32 := 3#32
  let c0_i32_20 : BitVec 32 := 0#32
  let v42 : BitVec 1 := Scalar.cmpi .eq c3_i32_19 c0_i32_20
  let c1_i32_21 : BitVec 32 := 1#32
  let v43 : BitVec 32 := Scalar.select v42 c1_i32_21 c3_i32_19
  let v44 : BitVec 32 := Scalar.remsi arg8 v43
  let c0_i32_23 : BitVec 32 := 0#32
  let v46 : BitVec 1 := Scalar.cmpi .slt v44 c0_i32_23
  let c0_i32_24 : BitVec 32 := 0#32
  let v47 : BitVec 1 := Scalar.cmpi .slt v43 c0_i32_24
  let v48 : BitVec 1 := Scalar.xori v46 v47
  let c0_i32_22 : BitVec 32 := 0#32
  let v45 : BitVec 1 := Scalar.cmpi .ne v44 c0_i32_22
  let v49 : BitVec 1 := Scalar.andi v48 v45
  let v50 : BitVec 32 := Scalar.addi v44 v43
  let v51 : BitVec 32 := Scalar.select v49 v50 v44
  let c256_i32 : BitVec 32 := 256#32
  let v52 : BitVec 32 := Scalar.muli v51 c256_i32
  let v53 : BitVec 32 := v52
  let c0_i32_86 : BitVec 32 := 0#32
  let v229 : BitVec 32 := Scalar.addi v53 c0_i32_86
  v229
def k0_mult99 (k0_t2 : Fin k0_t2_loop.trips) : BitVec 32 :=
  let c0_i32_10 : BitVec 32 := 0#32
  let c1_i32_11 : BitVec 32 := 1#32
  let arg8 : BitVec 32 := Scf.iv c0_i32_10 c1_i32_11 k0_t2
  let c0_i32_13 : BitVec 32 := 0#32
  let v26 : BitVec 1 := Scalar.cmpi .sgt arg8 c0_i32_13
  let v27 : BitVec 32 := Scalar.extui v26
  let c0_i32_14 : BitVec 32 := 0#32
  let v28 : BitVec 1 := Scalar.cmpi .slt arg8 c0_i32_14
  let v29 : BitVec 32 := Scalar.extui v28
  let v30 : BitVec 32 := Scalar.subi v27 v29
  let c3_i32 : BitVec 32 := 3#32
  let c0_i32_15 : BitVec 32 := 0#32
  let v31 : BitVec 1 := Scalar.cmpi .sgt c3_i32 c0_i32_15
  let v32 : BitVec 32 := Scalar.extui v31
  let c0_i32_16 : BitVec 32 := 0#32
  let v33 : BitVec 1 := Scalar.cmpi .slt c3_i32 c0_i32_16
  let v34 : BitVec 32 := Scalar.extui v33
  let v35 : BitVec 32 := Scalar.subi v32 v34
  let v36 : BitVec 1 := Scalar.cmpi .ne v30 v35
  let v37 : BitVec 32 := Scalar.remsi arg8 c3_i32
  let c0_i32_17 : BitVec 32 := 0#32
  let v38 : BitVec 1 := Scalar.cmpi .ne v37 c0_i32_17
  let v39 : BitVec 1 := Scalar.andi v36 v38
  let v25 : BitVec 32 := Scalar.divsi arg8 c3_i32
  let c1_i32_18 : BitVec 32 := 1#32
  let v40 : BitVec 32 := Scalar.subi v25 c1_i32_18
  let v41 : BitVec 32 := Scalar.select v39 v40 v25
  let c128_i32_87 : BitVec 32 := 128#32
  let v241 : BitVec 32 := Scalar.muli v41 c128_i32_87
  v241
def k0_mult100 (k0_t2 : Fin k0_t2_loop.trips) : BitVec 32 :=
  let c0_i32_10 : BitVec 32 := 0#32
  let c1_i32_11 : BitVec 32 := 1#32
  let arg8 : BitVec 32 := Scf.iv c0_i32_10 c1_i32_11 k0_t2
  let c3_i32_19 : BitVec 32 := 3#32
  let c0_i32_20 : BitVec 32 := 0#32
  let v42 : BitVec 1 := Scalar.cmpi .eq c3_i32_19 c0_i32_20
  let c1_i32_21 : BitVec 32 := 1#32
  let v43 : BitVec 32 := Scalar.select v42 c1_i32_21 c3_i32_19
  let v44 : BitVec 32 := Scalar.remsi arg8 v43
  let c0_i32_23 : BitVec 32 := 0#32
  let v46 : BitVec 1 := Scalar.cmpi .slt v44 c0_i32_23
  let c0_i32_24 : BitVec 32 := 0#32
  let v47 : BitVec 1 := Scalar.cmpi .slt v43 c0_i32_24
  let v48 : BitVec 1 := Scalar.xori v46 v47
  let c0_i32_22 : BitVec 32 := 0#32
  let v45 : BitVec 1 := Scalar.cmpi .ne v44 c0_i32_22
  let v49 : BitVec 1 := Scalar.andi v48 v45
  let v50 : BitVec 32 := Scalar.addi v44 v43
  let v51 : BitVec 32 := Scalar.select v49 v50 v44
  let c256_i32 : BitVec 32 := 256#32
  let v52 : BitVec 32 := Scalar.muli v51 c256_i32
  let v53 : BitVec 32 := v52
  let c0_i32_88 : BitVec 32 := 0#32
  let v244 : BitVec 32 := Scalar.addi v53 c0_i32_88
  v244
def k0_mult101 (k0_t2 : Fin k0_t2_loop.trips) : BitVec 32 :=
  let c0_i32_10 : BitVec 32 := 0#32
  let c1_i32_11 : BitVec 32 := 1#32
  let arg8 : BitVec 32 := Scf.iv c0_i32_10 c1_i32_11 k0_t2
  let c0_i32_13 : BitVec 32 := 0#32
  let v26 : BitVec 1 := Scalar.cmpi .sgt arg8 c0_i32_13
  let v27 : BitVec 32 := Scalar.extui v26
  let c0_i32_14 : BitVec 32 := 0#32
  let v28 : BitVec 1 := Scalar.cmpi .slt arg8 c0_i32_14
  let v29 : BitVec 32 := Scalar.extui v28
  let v30 : BitVec 32 := Scalar.subi v27 v29
  let c3_i32 : BitVec 32 := 3#32
  let c0_i32_15 : BitVec 32 := 0#32
  let v31 : BitVec 1 := Scalar.cmpi .sgt c3_i32 c0_i32_15
  let v32 : BitVec 32 := Scalar.extui v31
  let c0_i32_16 : BitVec 32 := 0#32
  let v33 : BitVec 1 := Scalar.cmpi .slt c3_i32 c0_i32_16
  let v34 : BitVec 32 := Scalar.extui v33
  let v35 : BitVec 32 := Scalar.subi v32 v34
  let v36 : BitVec 1 := Scalar.cmpi .ne v30 v35
  let v37 : BitVec 32 := Scalar.remsi arg8 c3_i32
  let c0_i32_17 : BitVec 32 := 0#32
  let v38 : BitVec 1 := Scalar.cmpi .ne v37 c0_i32_17
  let v39 : BitVec 1 := Scalar.andi v36 v38
  let v25 : BitVec 32 := Scalar.divsi arg8 c3_i32
  let c1_i32_18 : BitVec 32 := 1#32
  let v40 : BitVec 32 := Scalar.subi v25 c1_i32_18
  let v41 : BitVec 32 := Scalar.select v39 v40 v25
  let c128_i32_89 : BitVec 32 := 128#32
  let v256 : BitVec 32 := Scalar.muli v41 c128_i32_89
  v256
def k0_mult102 (k0_t2 : Fin k0_t2_loop.trips) : BitVec 32 :=
  let c0_i32_10 : BitVec 32 := 0#32
  let c1_i32_11 : BitVec 32 := 1#32
  let arg8 : BitVec 32 := Scf.iv c0_i32_10 c1_i32_11 k0_t2
  let c3_i32_19 : BitVec 32 := 3#32
  let c0_i32_20 : BitVec 32 := 0#32
  let v42 : BitVec 1 := Scalar.cmpi .eq c3_i32_19 c0_i32_20
  let c1_i32_21 : BitVec 32 := 1#32
  let v43 : BitVec 32 := Scalar.select v42 c1_i32_21 c3_i32_19
  let v44 : BitVec 32 := Scalar.remsi arg8 v43
  let c0_i32_23 : BitVec 32 := 0#32
  let v46 : BitVec 1 := Scalar.cmpi .slt v44 c0_i32_23
  let c0_i32_24 : BitVec 32 := 0#32
  let v47 : BitVec 1 := Scalar.cmpi .slt v43 c0_i32_24
  let v48 : BitVec 1 := Scalar.xori v46 v47
  let c0_i32_22 : BitVec 32 := 0#32
  let v45 : BitVec 1 := Scalar.cmpi .ne v44 c0_i32_22
  let v49 : BitVec 1 := Scalar.andi v48 v45
  let v50 : BitVec 32 := Scalar.addi v44 v43
  let v51 : BitVec 32 := Scalar.select v49 v50 v44
  let c256_i32 : BitVec 32 := 256#32
  let v52 : BitVec 32 := Scalar.muli v51 c256_i32
  let v53 : BitVec 32 := v52
  let c0_i32_90 : BitVec 32 := 0#32
  let v259 : BitVec 32 := Scalar.addi v53 c0_i32_90
  v259
def k0_mult103 (k0_t2 : Fin k0_t2_loop.trips) : BitVec 32 :=
  let c0_i32_10 : BitVec 32 := 0#32
  let c1_i32_11 : BitVec 32 := 1#32
  let arg8 : BitVec 32 := Scf.iv c0_i32_10 c1_i32_11 k0_t2
  let c0_i32_13 : BitVec 32 := 0#32
  let v26 : BitVec 1 := Scalar.cmpi .sgt arg8 c0_i32_13
  let v27 : BitVec 32 := Scalar.extui v26
  let c0_i32_14 : BitVec 32 := 0#32
  let v28 : BitVec 1 := Scalar.cmpi .slt arg8 c0_i32_14
  let v29 : BitVec 32 := Scalar.extui v28
  let v30 : BitVec 32 := Scalar.subi v27 v29
  let c3_i32 : BitVec 32 := 3#32
  let c0_i32_15 : BitVec 32 := 0#32
  let v31 : BitVec 1 := Scalar.cmpi .sgt c3_i32 c0_i32_15
  let v32 : BitVec 32 := Scalar.extui v31
  let c0_i32_16 : BitVec 32 := 0#32
  let v33 : BitVec 1 := Scalar.cmpi .slt c3_i32 c0_i32_16
  let v34 : BitVec 32 := Scalar.extui v33
  let v35 : BitVec 32 := Scalar.subi v32 v34
  let v36 : BitVec 1 := Scalar.cmpi .ne v30 v35
  let v37 : BitVec 32 := Scalar.remsi arg8 c3_i32
  let c0_i32_17 : BitVec 32 := 0#32
  let v38 : BitVec 1 := Scalar.cmpi .ne v37 c0_i32_17
  let v39 : BitVec 1 := Scalar.andi v36 v38
  let v25 : BitVec 32 := Scalar.divsi arg8 c3_i32
  let c1_i32_18 : BitVec 32 := 1#32
  let v40 : BitVec 32 := Scalar.subi v25 c1_i32_18
  let v41 : BitVec 32 := Scalar.select v39 v40 v25
  let c128_i32_91 : BitVec 32 := 128#32
  let v271 : BitVec 32 := Scalar.muli v41 c128_i32_91
  v271
def k0_mult104 (k0_t2 : Fin k0_t2_loop.trips) : BitVec 32 :=
  let c0_i32_10 : BitVec 32 := 0#32
  let c1_i32_11 : BitVec 32 := 1#32
  let arg8 : BitVec 32 := Scf.iv c0_i32_10 c1_i32_11 k0_t2
  let c3_i32_19 : BitVec 32 := 3#32
  let c0_i32_20 : BitVec 32 := 0#32
  let v42 : BitVec 1 := Scalar.cmpi .eq c3_i32_19 c0_i32_20
  let c1_i32_21 : BitVec 32 := 1#32
  let v43 : BitVec 32 := Scalar.select v42 c1_i32_21 c3_i32_19
  let v44 : BitVec 32 := Scalar.remsi arg8 v43
  let c0_i32_23 : BitVec 32 := 0#32
  let v46 : BitVec 1 := Scalar.cmpi .slt v44 c0_i32_23
  let c0_i32_24 : BitVec 32 := 0#32
  let v47 : BitVec 1 := Scalar.cmpi .slt v43 c0_i32_24
  let v48 : BitVec 1 := Scalar.xori v46 v47
  let c0_i32_22 : BitVec 32 := 0#32
  let v45 : BitVec 1 := Scalar.cmpi .ne v44 c0_i32_22
  let v49 : BitVec 1 := Scalar.andi v48 v45
  let v50 : BitVec 32 := Scalar.addi v44 v43
  let v51 : BitVec 32 := Scalar.select v49 v50 v44
  let c256_i32 : BitVec 32 := 256#32
  let v52 : BitVec 32 := Scalar.muli v51 c256_i32
  let v53 : BitVec 32 := v52
  let c0_i32_92 : BitVec 32 := 0#32
  let v274 : BitVec 32 := Scalar.addi v53 c0_i32_92
  v274
def k0_mult105 (k0_t2 : Fin k0_t2_loop.trips) : BitVec 32 :=
  let c0_i32_10 : BitVec 32 := 0#32
  let c1_i32_11 : BitVec 32 := 1#32
  let arg8 : BitVec 32 := Scf.iv c0_i32_10 c1_i32_11 k0_t2
  let c0_i32_13 : BitVec 32 := 0#32
  let v26 : BitVec 1 := Scalar.cmpi .sgt arg8 c0_i32_13
  let v27 : BitVec 32 := Scalar.extui v26
  let c0_i32_14 : BitVec 32 := 0#32
  let v28 : BitVec 1 := Scalar.cmpi .slt arg8 c0_i32_14
  let v29 : BitVec 32 := Scalar.extui v28
  let v30 : BitVec 32 := Scalar.subi v27 v29
  let c3_i32 : BitVec 32 := 3#32
  let c0_i32_15 : BitVec 32 := 0#32
  let v31 : BitVec 1 := Scalar.cmpi .sgt c3_i32 c0_i32_15
  let v32 : BitVec 32 := Scalar.extui v31
  let c0_i32_16 : BitVec 32 := 0#32
  let v33 : BitVec 1 := Scalar.cmpi .slt c3_i32 c0_i32_16
  let v34 : BitVec 32 := Scalar.extui v33
  let v35 : BitVec 32 := Scalar.subi v32 v34
  let v36 : BitVec 1 := Scalar.cmpi .ne v30 v35
  let v37 : BitVec 32 := Scalar.remsi arg8 c3_i32
  let c0_i32_17 : BitVec 32 := 0#32
  let v38 : BitVec 1 := Scalar.cmpi .ne v37 c0_i32_17
  let v39 : BitVec 1 := Scalar.andi v36 v38
  let v25 : BitVec 32 := Scalar.divsi arg8 c3_i32
  let c1_i32_18 : BitVec 32 := 1#32
  let v40 : BitVec 32 := Scalar.subi v25 c1_i32_18
  let v41 : BitVec 32 := Scalar.select v39 v40 v25
  let c64_i32_93 : BitVec 32 := 64#32
  let v282 : BitVec 32 := Scalar.muli v41 c64_i32_93
  v282
def k0_mult106 (k0_t2 : Fin k0_t2_loop.trips) : BitVec 32 :=
  let c0_i32_10 : BitVec 32 := 0#32
  let c1_i32_11 : BitVec 32 := 1#32
  let arg8 : BitVec 32 := Scf.iv c0_i32_10 c1_i32_11 k0_t2
  let c3_i32_19 : BitVec 32 := 3#32
  let c0_i32_20 : BitVec 32 := 0#32
  let v42 : BitVec 1 := Scalar.cmpi .eq c3_i32_19 c0_i32_20
  let c1_i32_21 : BitVec 32 := 1#32
  let v43 : BitVec 32 := Scalar.select v42 c1_i32_21 c3_i32_19
  let v44 : BitVec 32 := Scalar.remsi arg8 v43
  let c0_i32_23 : BitVec 32 := 0#32
  let v46 : BitVec 1 := Scalar.cmpi .slt v44 c0_i32_23
  let c0_i32_24 : BitVec 32 := 0#32
  let v47 : BitVec 1 := Scalar.cmpi .slt v43 c0_i32_24
  let v48 : BitVec 1 := Scalar.xori v46 v47
  let c0_i32_22 : BitVec 32 := 0#32
  let v45 : BitVec 1 := Scalar.cmpi .ne v44 c0_i32_22
  let v49 : BitVec 1 := Scalar.andi v48 v45
  let v50 : BitVec 32 := Scalar.addi v44 v43
  let v51 : BitVec 32 := Scalar.select v49 v50 v44
  let c256_i32 : BitVec 32 := 256#32
  let v52 : BitVec 32 := Scalar.muli v51 c256_i32
  let v53 : BitVec 32 := v52
  let c128_i32_95 : BitVec 32 := 128#32
  let v285 : BitVec 32 := Scalar.addi v53 c128_i32_95
  v285
def k0_mult107 (k0_t2 : Fin k0_t2_loop.trips) : BitVec 32 :=
  let c0_i32_10 : BitVec 32 := 0#32
  let c1_i32_11 : BitVec 32 := 1#32
  let arg8 : BitVec 32 := Scf.iv c0_i32_10 c1_i32_11 k0_t2
  let c0_i32_13 : BitVec 32 := 0#32
  let v26 : BitVec 1 := Scalar.cmpi .sgt arg8 c0_i32_13
  let v27 : BitVec 32 := Scalar.extui v26
  let c0_i32_14 : BitVec 32 := 0#32
  let v28 : BitVec 1 := Scalar.cmpi .slt arg8 c0_i32_14
  let v29 : BitVec 32 := Scalar.extui v28
  let v30 : BitVec 32 := Scalar.subi v27 v29
  let c3_i32 : BitVec 32 := 3#32
  let c0_i32_15 : BitVec 32 := 0#32
  let v31 : BitVec 1 := Scalar.cmpi .sgt c3_i32 c0_i32_15
  let v32 : BitVec 32 := Scalar.extui v31
  let c0_i32_16 : BitVec 32 := 0#32
  let v33 : BitVec 1 := Scalar.cmpi .slt c3_i32 c0_i32_16
  let v34 : BitVec 32 := Scalar.extui v33
  let v35 : BitVec 32 := Scalar.subi v32 v34
  let v36 : BitVec 1 := Scalar.cmpi .ne v30 v35
  let v37 : BitVec 32 := Scalar.remsi arg8 c3_i32
  let c0_i32_17 : BitVec 32 := 0#32
  let v38 : BitVec 1 := Scalar.cmpi .ne v37 c0_i32_17
  let v39 : BitVec 1 := Scalar.andi v36 v38
  let v25 : BitVec 32 := Scalar.divsi arg8 c3_i32
  let c1_i32_18 : BitVec 32 := 1#32
  let v40 : BitVec 32 := Scalar.subi v25 c1_i32_18
  let v41 : BitVec 32 := Scalar.select v39 v40 v25
  let c64_i32_96 : BitVec 32 := 64#32
  let v290 : BitVec 32 := Scalar.muli v41 c64_i32_96
  v290
def k0_mult108 (k0_t2 : Fin k0_t2_loop.trips) : BitVec 32 :=
  let c0_i32_10 : BitVec 32 := 0#32
  let c1_i32_11 : BitVec 32 := 1#32
  let arg8 : BitVec 32 := Scf.iv c0_i32_10 c1_i32_11 k0_t2
  let c3_i32_19 : BitVec 32 := 3#32
  let c0_i32_20 : BitVec 32 := 0#32
  let v42 : BitVec 1 := Scalar.cmpi .eq c3_i32_19 c0_i32_20
  let c1_i32_21 : BitVec 32 := 1#32
  let v43 : BitVec 32 := Scalar.select v42 c1_i32_21 c3_i32_19
  let v44 : BitVec 32 := Scalar.remsi arg8 v43
  let c0_i32_23 : BitVec 32 := 0#32
  let v46 : BitVec 1 := Scalar.cmpi .slt v44 c0_i32_23
  let c0_i32_24 : BitVec 32 := 0#32
  let v47 : BitVec 1 := Scalar.cmpi .slt v43 c0_i32_24
  let v48 : BitVec 1 := Scalar.xori v46 v47
  let c0_i32_22 : BitVec 32 := 0#32
  let v45 : BitVec 1 := Scalar.cmpi .ne v44 c0_i32_22
  let v49 : BitVec 1 := Scalar.andi v48 v45
  let v50 : BitVec 32 := Scalar.addi v44 v43
  let v51 : BitVec 32 := Scalar.select v49 v50 v44
  let c256_i32 : BitVec 32 := 256#32
  let v52 : BitVec 32 := Scalar.muli v51 c256_i32
  let v53 : BitVec 32 := v52
  let c128_i32_98 : BitVec 32 := 128#32
  let v293 : BitVec 32 := Scalar.addi v53 c128_i32_98
  v293
def k0_mult109 (k0_t2 : Fin k0_t2_loop.trips) : BitVec 32 :=
  let c0_i32_10 : BitVec 32 := 0#32
  let c1_i32_11 : BitVec 32 := 1#32
  let arg8 : BitVec 32 := Scf.iv c0_i32_10 c1_i32_11 k0_t2
  let c0_i32_13 : BitVec 32 := 0#32
  let v26 : BitVec 1 := Scalar.cmpi .sgt arg8 c0_i32_13
  let v27 : BitVec 32 := Scalar.extui v26
  let c0_i32_14 : BitVec 32 := 0#32
  let v28 : BitVec 1 := Scalar.cmpi .slt arg8 c0_i32_14
  let v29 : BitVec 32 := Scalar.extui v28
  let v30 : BitVec 32 := Scalar.subi v27 v29
  let c3_i32 : BitVec 32 := 3#32
  let c0_i32_15 : BitVec 32 := 0#32
  let v31 : BitVec 1 := Scalar.cmpi .sgt c3_i32 c0_i32_15
  let v32 : BitVec 32 := Scalar.extui v31
  let c0_i32_16 : BitVec 32 := 0#32
  let v33 : BitVec 1 := Scalar.cmpi .slt c3_i32 c0_i32_16
  let v34 : BitVec 32 := Scalar.extui v33
  let v35 : BitVec 32 := Scalar.subi v32 v34
  let v36 : BitVec 1 := Scalar.cmpi .ne v30 v35
  let v37 : BitVec 32 := Scalar.remsi arg8 c3_i32
  let c0_i32_17 : BitVec 32 := 0#32
  let v38 : BitVec 1 := Scalar.cmpi .ne v37 c0_i32_17
  let v39 : BitVec 1 := Scalar.andi v36 v38
  let v25 : BitVec 32 := Scalar.divsi arg8 c3_i32
  let c1_i32_18 : BitVec 32 := 1#32
  let v40 : BitVec 32 := Scalar.subi v25 c1_i32_18
  let v41 : BitVec 32 := Scalar.select v39 v40 v25
  let c64_i32_99 : BitVec 32 := 64#32
  let v298 : BitVec 32 := Scalar.muli v41 c64_i32_99
  v298
def k0_mult110 (k0_t2 : Fin k0_t2_loop.trips) : BitVec 32 :=
  let c0_i32_10 : BitVec 32 := 0#32
  let c1_i32_11 : BitVec 32 := 1#32
  let arg8 : BitVec 32 := Scf.iv c0_i32_10 c1_i32_11 k0_t2
  let c3_i32_19 : BitVec 32 := 3#32
  let c0_i32_20 : BitVec 32 := 0#32
  let v42 : BitVec 1 := Scalar.cmpi .eq c3_i32_19 c0_i32_20
  let c1_i32_21 : BitVec 32 := 1#32
  let v43 : BitVec 32 := Scalar.select v42 c1_i32_21 c3_i32_19
  let v44 : BitVec 32 := Scalar.remsi arg8 v43
  let c0_i32_23 : BitVec 32 := 0#32
  let v46 : BitVec 1 := Scalar.cmpi .slt v44 c0_i32_23
  let c0_i32_24 : BitVec 32 := 0#32
  let v47 : BitVec 1 := Scalar.cmpi .slt v43 c0_i32_24
  let v48 : BitVec 1 := Scalar.xori v46 v47
  let c0_i32_22 : BitVec 32 := 0#32
  let v45 : BitVec 1 := Scalar.cmpi .ne v44 c0_i32_22
  let v49 : BitVec 1 := Scalar.andi v48 v45
  let v50 : BitVec 32 := Scalar.addi v44 v43
  let v51 : BitVec 32 := Scalar.select v49 v50 v44
  let c256_i32 : BitVec 32 := 256#32
  let v52 : BitVec 32 := Scalar.muli v51 c256_i32
  let v53 : BitVec 32 := v52
  let c128_i32_101 : BitVec 32 := 128#32
  let v301 : BitVec 32 := Scalar.addi v53 c128_i32_101
  v301
def k0_mult111 (k0_t2 : Fin k0_t2_loop.trips) : BitVec 32 :=
  let c0_i32_10 : BitVec 32 := 0#32
  let c1_i32_11 : BitVec 32 := 1#32
  let arg8 : BitVec 32 := Scf.iv c0_i32_10 c1_i32_11 k0_t2
  let c0_i32_13 : BitVec 32 := 0#32
  let v26 : BitVec 1 := Scalar.cmpi .sgt arg8 c0_i32_13
  let v27 : BitVec 32 := Scalar.extui v26
  let c0_i32_14 : BitVec 32 := 0#32
  let v28 : BitVec 1 := Scalar.cmpi .slt arg8 c0_i32_14
  let v29 : BitVec 32 := Scalar.extui v28
  let v30 : BitVec 32 := Scalar.subi v27 v29
  let c3_i32 : BitVec 32 := 3#32
  let c0_i32_15 : BitVec 32 := 0#32
  let v31 : BitVec 1 := Scalar.cmpi .sgt c3_i32 c0_i32_15
  let v32 : BitVec 32 := Scalar.extui v31
  let c0_i32_16 : BitVec 32 := 0#32
  let v33 : BitVec 1 := Scalar.cmpi .slt c3_i32 c0_i32_16
  let v34 : BitVec 32 := Scalar.extui v33
  let v35 : BitVec 32 := Scalar.subi v32 v34
  let v36 : BitVec 1 := Scalar.cmpi .ne v30 v35
  let v37 : BitVec 32 := Scalar.remsi arg8 c3_i32
  let c0_i32_17 : BitVec 32 := 0#32
  let v38 : BitVec 1 := Scalar.cmpi .ne v37 c0_i32_17
  let v39 : BitVec 1 := Scalar.andi v36 v38
  let v25 : BitVec 32 := Scalar.divsi arg8 c3_i32
  let c1_i32_18 : BitVec 32 := 1#32
  let v40 : BitVec 32 := Scalar.subi v25 c1_i32_18
  let v41 : BitVec 32 := Scalar.select v39 v40 v25
  let c64_i32_102 : BitVec 32 := 64#32
  let v306 : BitVec 32 := Scalar.muli v41 c64_i32_102
  v306
def k0_mult112 (k0_t2 : Fin k0_t2_loop.trips) : BitVec 32 :=
  let c0_i32_10 : BitVec 32 := 0#32
  let c1_i32_11 : BitVec 32 := 1#32
  let arg8 : BitVec 32 := Scf.iv c0_i32_10 c1_i32_11 k0_t2
  let c3_i32_19 : BitVec 32 := 3#32
  let c0_i32_20 : BitVec 32 := 0#32
  let v42 : BitVec 1 := Scalar.cmpi .eq c3_i32_19 c0_i32_20
  let c1_i32_21 : BitVec 32 := 1#32
  let v43 : BitVec 32 := Scalar.select v42 c1_i32_21 c3_i32_19
  let v44 : BitVec 32 := Scalar.remsi arg8 v43
  let c0_i32_23 : BitVec 32 := 0#32
  let v46 : BitVec 1 := Scalar.cmpi .slt v44 c0_i32_23
  let c0_i32_24 : BitVec 32 := 0#32
  let v47 : BitVec 1 := Scalar.cmpi .slt v43 c0_i32_24
  let v48 : BitVec 1 := Scalar.xori v46 v47
  let c0_i32_22 : BitVec 32 := 0#32
  let v45 : BitVec 1 := Scalar.cmpi .ne v44 c0_i32_22
  let v49 : BitVec 1 := Scalar.andi v48 v45
  let v50 : BitVec 32 := Scalar.addi v44 v43
  let v51 : BitVec 32 := Scalar.select v49 v50 v44
  let c256_i32 : BitVec 32 := 256#32
  let v52 : BitVec 32 := Scalar.muli v51 c256_i32
  let v53 : BitVec 32 := v52
  let c128_i32_104 : BitVec 32 := 128#32
  let v309 : BitVec 32 := Scalar.addi v53 c128_i32_104
  v309
def k0_mult113 (k0_t2 : Fin k0_t2_loop.trips) : BitVec 32 :=
  let c0_i32_10 : BitVec 32 := 0#32
  let c1_i32_11 : BitVec 32 := 1#32
  let arg8 : BitVec 32 := Scf.iv c0_i32_10 c1_i32_11 k0_t2
  let c3_i32_19 : BitVec 32 := 3#32
  let c0_i32_20 : BitVec 32 := 0#32
  let v42 : BitVec 1 := Scalar.cmpi .eq c3_i32_19 c0_i32_20
  let c1_i32_21 : BitVec 32 := 1#32
  let v43 : BitVec 32 := Scalar.select v42 c1_i32_21 c3_i32_19
  let v44 : BitVec 32 := Scalar.remsi arg8 v43
  let c0_i32_23 : BitVec 32 := 0#32
  let v46 : BitVec 1 := Scalar.cmpi .slt v44 c0_i32_23
  let c0_i32_24 : BitVec 32 := 0#32
  let v47 : BitVec 1 := Scalar.cmpi .slt v43 c0_i32_24
  let v48 : BitVec 1 := Scalar.xori v46 v47
  let c0_i32_22 : BitVec 32 := 0#32
  let v45 : BitVec 1 := Scalar.cmpi .ne v44 c0_i32_22
  let v49 : BitVec 1 := Scalar.andi v48 v45
  let v50 : BitVec 32 := Scalar.addi v44 v43
  let v51 : BitVec 32 := Scalar.select v49 v50 v44
  let c256_i32 : BitVec 32 := 256#32
  let v52 : BitVec 32 := Scalar.muli v51 c256_i32
  let v53 : BitVec 32 := v52
  let c128_i32_107 : BitVec 32 := 128#32
  let v316 : BitVec 32 := Scalar.addi v53 c128_i32_107
  v316
def k0_mult114 (k0_t2 : Fin k0_t2_loop.trips) : BitVec 32 :=
  let c0_i32_10 : BitVec 32 := 0#32
  let c1_i32_11 : BitVec 32 := 1#32
  let arg8 : BitVec 32 := Scf.iv c0_i32_10 c1_i32_11 k0_t2
  let c0_i32_13 : BitVec 32 := 0#32
  let v26 : BitVec 1 := Scalar.cmpi .sgt arg8 c0_i32_13
  let v27 : BitVec 32 := Scalar.extui v26
  let c0_i32_14 : BitVec 32 := 0#32
  let v28 : BitVec 1 := Scalar.cmpi .slt arg8 c0_i32_14
  let v29 : BitVec 32 := Scalar.extui v28
  let v30 : BitVec 32 := Scalar.subi v27 v29
  let c3_i32 : BitVec 32 := 3#32
  let c0_i32_15 : BitVec 32 := 0#32
  let v31 : BitVec 1 := Scalar.cmpi .sgt c3_i32 c0_i32_15
  let v32 : BitVec 32 := Scalar.extui v31
  let c0_i32_16 : BitVec 32 := 0#32
  let v33 : BitVec 1 := Scalar.cmpi .slt c3_i32 c0_i32_16
  let v34 : BitVec 32 := Scalar.extui v33
  let v35 : BitVec 32 := Scalar.subi v32 v34
  let v36 : BitVec 1 := Scalar.cmpi .ne v30 v35
  let v37 : BitVec 32 := Scalar.remsi arg8 c3_i32
  let c0_i32_17 : BitVec 32 := 0#32
  let v38 : BitVec 1 := Scalar.cmpi .ne v37 c0_i32_17
  let v39 : BitVec 1 := Scalar.andi v36 v38
  let v25 : BitVec 32 := Scalar.divsi arg8 c3_i32
  let c1_i32_18 : BitVec 32 := 1#32
  let v40 : BitVec 32 := Scalar.subi v25 c1_i32_18
  let v41 : BitVec 32 := Scalar.select v39 v40 v25
  let c128_i32_122 : BitVec 32 := 128#32
  let v340 : BitVec 32 := Scalar.muli v41 c128_i32_122
  v340
def k0_mult115 (k0_t2 : Fin k0_t2_loop.trips) : BitVec 32 :=
  let c0_i32_10 : BitVec 32 := 0#32
  let c1_i32_11 : BitVec 32 := 1#32
  let arg8 : BitVec 32 := Scf.iv c0_i32_10 c1_i32_11 k0_t2
  let c3_i32_19 : BitVec 32 := 3#32
  let c0_i32_20 : BitVec 32 := 0#32
  let v42 : BitVec 1 := Scalar.cmpi .eq c3_i32_19 c0_i32_20
  let c1_i32_21 : BitVec 32 := 1#32
  let v43 : BitVec 32 := Scalar.select v42 c1_i32_21 c3_i32_19
  let v44 : BitVec 32 := Scalar.remsi arg8 v43
  let c0_i32_23 : BitVec 32 := 0#32
  let v46 : BitVec 1 := Scalar.cmpi .slt v44 c0_i32_23
  let c0_i32_24 : BitVec 32 := 0#32
  let v47 : BitVec 1 := Scalar.cmpi .slt v43 c0_i32_24
  let v48 : BitVec 1 := Scalar.xori v46 v47
  let c0_i32_22 : BitVec 32 := 0#32
  let v45 : BitVec 1 := Scalar.cmpi .ne v44 c0_i32_22
  let v49 : BitVec 1 := Scalar.andi v48 v45
  let v50 : BitVec 32 := Scalar.addi v44 v43
  let v51 : BitVec 32 := Scalar.select v49 v50 v44
  let c256_i32 : BitVec 32 := 256#32
  let v52 : BitVec 32 := Scalar.muli v51 c256_i32
  let v53 : BitVec 32 := v52
  let c128_i32_124 : BitVec 32 := 128#32
  let v343 : BitVec 32 := Scalar.addi v53 c128_i32_124
  v343
def k0_mult116 (k0_t2 : Fin k0_t2_loop.trips) : BitVec 32 :=
  let c0_i32_10 : BitVec 32 := 0#32
  let c1_i32_11 : BitVec 32 := 1#32
  let arg8 : BitVec 32 := Scf.iv c0_i32_10 c1_i32_11 k0_t2
  let c0_i32_13 : BitVec 32 := 0#32
  let v26 : BitVec 1 := Scalar.cmpi .sgt arg8 c0_i32_13
  let v27 : BitVec 32 := Scalar.extui v26
  let c0_i32_14 : BitVec 32 := 0#32
  let v28 : BitVec 1 := Scalar.cmpi .slt arg8 c0_i32_14
  let v29 : BitVec 32 := Scalar.extui v28
  let v30 : BitVec 32 := Scalar.subi v27 v29
  let c3_i32 : BitVec 32 := 3#32
  let c0_i32_15 : BitVec 32 := 0#32
  let v31 : BitVec 1 := Scalar.cmpi .sgt c3_i32 c0_i32_15
  let v32 : BitVec 32 := Scalar.extui v31
  let c0_i32_16 : BitVec 32 := 0#32
  let v33 : BitVec 1 := Scalar.cmpi .slt c3_i32 c0_i32_16
  let v34 : BitVec 32 := Scalar.extui v33
  let v35 : BitVec 32 := Scalar.subi v32 v34
  let v36 : BitVec 1 := Scalar.cmpi .ne v30 v35
  let v37 : BitVec 32 := Scalar.remsi arg8 c3_i32
  let c0_i32_17 : BitVec 32 := 0#32
  let v38 : BitVec 1 := Scalar.cmpi .ne v37 c0_i32_17
  let v39 : BitVec 1 := Scalar.andi v36 v38
  let v25 : BitVec 32 := Scalar.divsi arg8 c3_i32
  let c1_i32_18 : BitVec 32 := 1#32
  let v40 : BitVec 32 := Scalar.subi v25 c1_i32_18
  let v41 : BitVec 32 := Scalar.select v39 v40 v25
  let c128_i32_125 : BitVec 32 := 128#32
  let v355 : BitVec 32 := Scalar.muli v41 c128_i32_125
  v355
def k0_mult117 (k0_t2 : Fin k0_t2_loop.trips) : BitVec 32 :=
  let c0_i32_10 : BitVec 32 := 0#32
  let c1_i32_11 : BitVec 32 := 1#32
  let arg8 : BitVec 32 := Scf.iv c0_i32_10 c1_i32_11 k0_t2
  let c3_i32_19 : BitVec 32 := 3#32
  let c0_i32_20 : BitVec 32 := 0#32
  let v42 : BitVec 1 := Scalar.cmpi .eq c3_i32_19 c0_i32_20
  let c1_i32_21 : BitVec 32 := 1#32
  let v43 : BitVec 32 := Scalar.select v42 c1_i32_21 c3_i32_19
  let v44 : BitVec 32 := Scalar.remsi arg8 v43
  let c0_i32_23 : BitVec 32 := 0#32
  let v46 : BitVec 1 := Scalar.cmpi .slt v44 c0_i32_23
  let c0_i32_24 : BitVec 32 := 0#32
  let v47 : BitVec 1 := Scalar.cmpi .slt v43 c0_i32_24
  let v48 : BitVec 1 := Scalar.xori v46 v47
  let c0_i32_22 : BitVec 32 := 0#32
  let v45 : BitVec 1 := Scalar.cmpi .ne v44 c0_i32_22
  let v49 : BitVec 1 := Scalar.andi v48 v45
  let v50 : BitVec 32 := Scalar.addi v44 v43
  let v51 : BitVec 32 := Scalar.select v49 v50 v44
  let c256_i32 : BitVec 32 := 256#32
  let v52 : BitVec 32 := Scalar.muli v51 c256_i32
  let v53 : BitVec 32 := v52
  let c128_i32_127 : BitVec 32 := 128#32
  let v358 : BitVec 32 := Scalar.addi v53 c128_i32_127
  v358
def k0_mult118 (k0_t2 : Fin k0_t2_loop.trips) : BitVec 32 :=
  let c0_i32_10 : BitVec 32 := 0#32
  let c1_i32_11 : BitVec 32 := 1#32
  let arg8 : BitVec 32 := Scf.iv c0_i32_10 c1_i32_11 k0_t2
  let c0_i32_13 : BitVec 32 := 0#32
  let v26 : BitVec 1 := Scalar.cmpi .sgt arg8 c0_i32_13
  let v27 : BitVec 32 := Scalar.extui v26
  let c0_i32_14 : BitVec 32 := 0#32
  let v28 : BitVec 1 := Scalar.cmpi .slt arg8 c0_i32_14
  let v29 : BitVec 32 := Scalar.extui v28
  let v30 : BitVec 32 := Scalar.subi v27 v29
  let c3_i32 : BitVec 32 := 3#32
  let c0_i32_15 : BitVec 32 := 0#32
  let v31 : BitVec 1 := Scalar.cmpi .sgt c3_i32 c0_i32_15
  let v32 : BitVec 32 := Scalar.extui v31
  let c0_i32_16 : BitVec 32 := 0#32
  let v33 : BitVec 1 := Scalar.cmpi .slt c3_i32 c0_i32_16
  let v34 : BitVec 32 := Scalar.extui v33
  let v35 : BitVec 32 := Scalar.subi v32 v34
  let v36 : BitVec 1 := Scalar.cmpi .ne v30 v35
  let v37 : BitVec 32 := Scalar.remsi arg8 c3_i32
  let c0_i32_17 : BitVec 32 := 0#32
  let v38 : BitVec 1 := Scalar.cmpi .ne v37 c0_i32_17
  let v39 : BitVec 1 := Scalar.andi v36 v38
  let v25 : BitVec 32 := Scalar.divsi arg8 c3_i32
  let c1_i32_18 : BitVec 32 := 1#32
  let v40 : BitVec 32 := Scalar.subi v25 c1_i32_18
  let v41 : BitVec 32 := Scalar.select v39 v40 v25
  let c128_i32_128 : BitVec 32 := 128#32
  let v370 : BitVec 32 := Scalar.muli v41 c128_i32_128
  v370
def k0_mult119 (k0_t2 : Fin k0_t2_loop.trips) : BitVec 32 :=
  let c0_i32_10 : BitVec 32 := 0#32
  let c1_i32_11 : BitVec 32 := 1#32
  let arg8 : BitVec 32 := Scf.iv c0_i32_10 c1_i32_11 k0_t2
  let c3_i32_19 : BitVec 32 := 3#32
  let c0_i32_20 : BitVec 32 := 0#32
  let v42 : BitVec 1 := Scalar.cmpi .eq c3_i32_19 c0_i32_20
  let c1_i32_21 : BitVec 32 := 1#32
  let v43 : BitVec 32 := Scalar.select v42 c1_i32_21 c3_i32_19
  let v44 : BitVec 32 := Scalar.remsi arg8 v43
  let c0_i32_23 : BitVec 32 := 0#32
  let v46 : BitVec 1 := Scalar.cmpi .slt v44 c0_i32_23
  let c0_i32_24 : BitVec 32 := 0#32
  let v47 : BitVec 1 := Scalar.cmpi .slt v43 c0_i32_24
  let v48 : BitVec 1 := Scalar.xori v46 v47
  let c0_i32_22 : BitVec 32 := 0#32
  let v45 : BitVec 1 := Scalar.cmpi .ne v44 c0_i32_22
  let v49 : BitVec 1 := Scalar.andi v48 v45
  let v50 : BitVec 32 := Scalar.addi v44 v43
  let v51 : BitVec 32 := Scalar.select v49 v50 v44
  let c256_i32 : BitVec 32 := 256#32
  let v52 : BitVec 32 := Scalar.muli v51 c256_i32
  let v53 : BitVec 32 := v52
  let c128_i32_130 : BitVec 32 := 128#32
  let v373 : BitVec 32 := Scalar.addi v53 c128_i32_130
  v373
def k0_mult120 (k0_t2 : Fin k0_t2_loop.trips) : BitVec 32 :=
  let c0_i32_10 : BitVec 32 := 0#32
  let c1_i32_11 : BitVec 32 := 1#32
  let arg8 : BitVec 32 := Scf.iv c0_i32_10 c1_i32_11 k0_t2
  let c0_i32_13 : BitVec 32 := 0#32
  let v26 : BitVec 1 := Scalar.cmpi .sgt arg8 c0_i32_13
  let v27 : BitVec 32 := Scalar.extui v26
  let c0_i32_14 : BitVec 32 := 0#32
  let v28 : BitVec 1 := Scalar.cmpi .slt arg8 c0_i32_14
  let v29 : BitVec 32 := Scalar.extui v28
  let v30 : BitVec 32 := Scalar.subi v27 v29
  let c3_i32 : BitVec 32 := 3#32
  let c0_i32_15 : BitVec 32 := 0#32
  let v31 : BitVec 1 := Scalar.cmpi .sgt c3_i32 c0_i32_15
  let v32 : BitVec 32 := Scalar.extui v31
  let c0_i32_16 : BitVec 32 := 0#32
  let v33 : BitVec 1 := Scalar.cmpi .slt c3_i32 c0_i32_16
  let v34 : BitVec 32 := Scalar.extui v33
  let v35 : BitVec 32 := Scalar.subi v32 v34
  let v36 : BitVec 1 := Scalar.cmpi .ne v30 v35
  let v37 : BitVec 32 := Scalar.remsi arg8 c3_i32
  let c0_i32_17 : BitVec 32 := 0#32
  let v38 : BitVec 1 := Scalar.cmpi .ne v37 c0_i32_17
  let v39 : BitVec 1 := Scalar.andi v36 v38
  let v25 : BitVec 32 := Scalar.divsi arg8 c3_i32
  let c1_i32_18 : BitVec 32 := 1#32
  let v40 : BitVec 32 := Scalar.subi v25 c1_i32_18
  let v41 : BitVec 32 := Scalar.select v39 v40 v25
  let c128_i32_131 : BitVec 32 := 128#32
  let v385 : BitVec 32 := Scalar.muli v41 c128_i32_131
  v385
def k0_mult121 (k0_t2 : Fin k0_t2_loop.trips) : BitVec 32 :=
  let c0_i32_10 : BitVec 32 := 0#32
  let c1_i32_11 : BitVec 32 := 1#32
  let arg8 : BitVec 32 := Scf.iv c0_i32_10 c1_i32_11 k0_t2
  let c3_i32_19 : BitVec 32 := 3#32
  let c0_i32_20 : BitVec 32 := 0#32
  let v42 : BitVec 1 := Scalar.cmpi .eq c3_i32_19 c0_i32_20
  let c1_i32_21 : BitVec 32 := 1#32
  let v43 : BitVec 32 := Scalar.select v42 c1_i32_21 c3_i32_19
  let v44 : BitVec 32 := Scalar.remsi arg8 v43
  let c0_i32_23 : BitVec 32 := 0#32
  let v46 : BitVec 1 := Scalar.cmpi .slt v44 c0_i32_23
  let c0_i32_24 : BitVec 32 := 0#32
  let v47 : BitVec 1 := Scalar.cmpi .slt v43 c0_i32_24
  let v48 : BitVec 1 := Scalar.xori v46 v47
  let c0_i32_22 : BitVec 32 := 0#32
  let v45 : BitVec 1 := Scalar.cmpi .ne v44 c0_i32_22
  let v49 : BitVec 1 := Scalar.andi v48 v45
  let v50 : BitVec 32 := Scalar.addi v44 v43
  let v51 : BitVec 32 := Scalar.select v49 v50 v44
  let c256_i32 : BitVec 32 := 256#32
  let v52 : BitVec 32 := Scalar.muli v51 c256_i32
  let v53 : BitVec 32 := v52
  let c128_i32_133 : BitVec 32 := 128#32
  let v388 : BitVec 32 := Scalar.addi v53 c128_i32_133
  v388
def k0_mult122 (k0_t2 : Fin k0_t2_loop.trips) : BitVec 32 :=
  let c0_i32_10 : BitVec 32 := 0#32
  let c1_i32_11 : BitVec 32 := 1#32
  let arg8 : BitVec 32 := Scf.iv c0_i32_10 c1_i32_11 k0_t2
  let c0_i32_13 : BitVec 32 := 0#32
  let v26 : BitVec 1 := Scalar.cmpi .sgt arg8 c0_i32_13
  let v27 : BitVec 32 := Scalar.extui v26
  let c0_i32_14 : BitVec 32 := 0#32
  let v28 : BitVec 1 := Scalar.cmpi .slt arg8 c0_i32_14
  let v29 : BitVec 32 := Scalar.extui v28
  let v30 : BitVec 32 := Scalar.subi v27 v29
  let c3_i32 : BitVec 32 := 3#32
  let c0_i32_15 : BitVec 32 := 0#32
  let v31 : BitVec 1 := Scalar.cmpi .sgt c3_i32 c0_i32_15
  let v32 : BitVec 32 := Scalar.extui v31
  let c0_i32_16 : BitVec 32 := 0#32
  let v33 : BitVec 1 := Scalar.cmpi .slt c3_i32 c0_i32_16
  let v34 : BitVec 32 := Scalar.extui v33
  let v35 : BitVec 32 := Scalar.subi v32 v34
  let v36 : BitVec 1 := Scalar.cmpi .ne v30 v35
  let v37 : BitVec 32 := Scalar.remsi arg8 c3_i32
  let c0_i32_17 : BitVec 32 := 0#32
  let v38 : BitVec 1 := Scalar.cmpi .ne v37 c0_i32_17
  let v39 : BitVec 1 := Scalar.andi v36 v38
  let v25 : BitVec 32 := Scalar.divsi arg8 c3_i32
  let c1_i32_18 : BitVec 32 := 1#32
  let v40 : BitVec 32 := Scalar.subi v25 c1_i32_18
  let v41 : BitVec 32 := Scalar.select v39 v40 v25
  let c64_i32_134 : BitVec 32 := 64#32
  let v396 : BitVec 32 := Scalar.muli v41 c64_i32_134
  v396
def k0_mult123 (k0_t2 : Fin k0_t2_loop.trips) : BitVec 32 :=
  let c0_i32_10 : BitVec 32 := 0#32
  let c1_i32_11 : BitVec 32 := 1#32
  let arg8 : BitVec 32 := Scf.iv c0_i32_10 c1_i32_11 k0_t2
  let c3_i32_19 : BitVec 32 := 3#32
  let c0_i32_20 : BitVec 32 := 0#32
  let v42 : BitVec 1 := Scalar.cmpi .eq c3_i32_19 c0_i32_20
  let c1_i32_21 : BitVec 32 := 1#32
  let v43 : BitVec 32 := Scalar.select v42 c1_i32_21 c3_i32_19
  let v44 : BitVec 32 := Scalar.remsi arg8 v43
  let c0_i32_23 : BitVec 32 := 0#32
  let v46 : BitVec 1 := Scalar.cmpi .slt v44 c0_i32_23
  let c0_i32_24 : BitVec 32 := 0#32
  let v47 : BitVec 1 := Scalar.cmpi .slt v43 c0_i32_24
  let v48 : BitVec 1 := Scalar.xori v46 v47
  let c0_i32_22 : BitVec 32 := 0#32
  let v45 : BitVec 1 := Scalar.cmpi .ne v44 c0_i32_22
  let v49 : BitVec 1 := Scalar.andi v48 v45
  let v50 : BitVec 32 := Scalar.addi v44 v43
  let v51 : BitVec 32 := Scalar.select v49 v50 v44
  let c256_i32 : BitVec 32 := 256#32
  let v52 : BitVec 32 := Scalar.muli v51 c256_i32
  let v53 : BitVec 32 := v52
  let c128_i32_136 : BitVec 32 := 128#32
  let v399 : BitVec 32 := Scalar.addi v53 c128_i32_136
  v399
def k0_mult124 (k0_t2 : Fin k0_t2_loop.trips) : BitVec 32 :=
  let c0_i32_10 : BitVec 32 := 0#32
  let c1_i32_11 : BitVec 32 := 1#32
  let arg8 : BitVec 32 := Scf.iv c0_i32_10 c1_i32_11 k0_t2
  let c0_i32_13 : BitVec 32 := 0#32
  let v26 : BitVec 1 := Scalar.cmpi .sgt arg8 c0_i32_13
  let v27 : BitVec 32 := Scalar.extui v26
  let c0_i32_14 : BitVec 32 := 0#32
  let v28 : BitVec 1 := Scalar.cmpi .slt arg8 c0_i32_14
  let v29 : BitVec 32 := Scalar.extui v28
  let v30 : BitVec 32 := Scalar.subi v27 v29
  let c3_i32 : BitVec 32 := 3#32
  let c0_i32_15 : BitVec 32 := 0#32
  let v31 : BitVec 1 := Scalar.cmpi .sgt c3_i32 c0_i32_15
  let v32 : BitVec 32 := Scalar.extui v31
  let c0_i32_16 : BitVec 32 := 0#32
  let v33 : BitVec 1 := Scalar.cmpi .slt c3_i32 c0_i32_16
  let v34 : BitVec 32 := Scalar.extui v33
  let v35 : BitVec 32 := Scalar.subi v32 v34
  let v36 : BitVec 1 := Scalar.cmpi .ne v30 v35
  let v37 : BitVec 32 := Scalar.remsi arg8 c3_i32
  let c0_i32_17 : BitVec 32 := 0#32
  let v38 : BitVec 1 := Scalar.cmpi .ne v37 c0_i32_17
  let v39 : BitVec 1 := Scalar.andi v36 v38
  let v25 : BitVec 32 := Scalar.divsi arg8 c3_i32
  let c1_i32_18 : BitVec 32 := 1#32
  let v40 : BitVec 32 := Scalar.subi v25 c1_i32_18
  let v41 : BitVec 32 := Scalar.select v39 v40 v25
  let c64_i32_137 : BitVec 32 := 64#32
  let v404 : BitVec 32 := Scalar.muli v41 c64_i32_137
  v404
def k0_mult125 (k0_t2 : Fin k0_t2_loop.trips) : BitVec 32 :=
  let c0_i32_10 : BitVec 32 := 0#32
  let c1_i32_11 : BitVec 32 := 1#32
  let arg8 : BitVec 32 := Scf.iv c0_i32_10 c1_i32_11 k0_t2
  let c3_i32_19 : BitVec 32 := 3#32
  let c0_i32_20 : BitVec 32 := 0#32
  let v42 : BitVec 1 := Scalar.cmpi .eq c3_i32_19 c0_i32_20
  let c1_i32_21 : BitVec 32 := 1#32
  let v43 : BitVec 32 := Scalar.select v42 c1_i32_21 c3_i32_19
  let v44 : BitVec 32 := Scalar.remsi arg8 v43
  let c0_i32_23 : BitVec 32 := 0#32
  let v46 : BitVec 1 := Scalar.cmpi .slt v44 c0_i32_23
  let c0_i32_24 : BitVec 32 := 0#32
  let v47 : BitVec 1 := Scalar.cmpi .slt v43 c0_i32_24
  let v48 : BitVec 1 := Scalar.xori v46 v47
  let c0_i32_22 : BitVec 32 := 0#32
  let v45 : BitVec 1 := Scalar.cmpi .ne v44 c0_i32_22
  let v49 : BitVec 1 := Scalar.andi v48 v45
  let v50 : BitVec 32 := Scalar.addi v44 v43
  let v51 : BitVec 32 := Scalar.select v49 v50 v44
  let c256_i32 : BitVec 32 := 256#32
  let v52 : BitVec 32 := Scalar.muli v51 c256_i32
  let v53 : BitVec 32 := v52
  let c128_i32_139 : BitVec 32 := 128#32
  let v407 : BitVec 32 := Scalar.addi v53 c128_i32_139
  v407
def k0_mult126 (k0_t2 : Fin k0_t2_loop.trips) : BitVec 32 :=
  let c0_i32_10 : BitVec 32 := 0#32
  let c1_i32_11 : BitVec 32 := 1#32
  let arg8 : BitVec 32 := Scf.iv c0_i32_10 c1_i32_11 k0_t2
  let c0_i32_13 : BitVec 32 := 0#32
  let v26 : BitVec 1 := Scalar.cmpi .sgt arg8 c0_i32_13
  let v27 : BitVec 32 := Scalar.extui v26
  let c0_i32_14 : BitVec 32 := 0#32
  let v28 : BitVec 1 := Scalar.cmpi .slt arg8 c0_i32_14
  let v29 : BitVec 32 := Scalar.extui v28
  let v30 : BitVec 32 := Scalar.subi v27 v29
  let c3_i32 : BitVec 32 := 3#32
  let c0_i32_15 : BitVec 32 := 0#32
  let v31 : BitVec 1 := Scalar.cmpi .sgt c3_i32 c0_i32_15
  let v32 : BitVec 32 := Scalar.extui v31
  let c0_i32_16 : BitVec 32 := 0#32
  let v33 : BitVec 1 := Scalar.cmpi .slt c3_i32 c0_i32_16
  let v34 : BitVec 32 := Scalar.extui v33
  let v35 : BitVec 32 := Scalar.subi v32 v34
  let v36 : BitVec 1 := Scalar.cmpi .ne v30 v35
  let v37 : BitVec 32 := Scalar.remsi arg8 c3_i32
  let c0_i32_17 : BitVec 32 := 0#32
  let v38 : BitVec 1 := Scalar.cmpi .ne v37 c0_i32_17
  let v39 : BitVec 1 := Scalar.andi v36 v38
  let v25 : BitVec 32 := Scalar.divsi arg8 c3_i32
  let c1_i32_18 : BitVec 32 := 1#32
  let v40 : BitVec 32 := Scalar.subi v25 c1_i32_18
  let v41 : BitVec 32 := Scalar.select v39 v40 v25
  let c64_i32_140 : BitVec 32 := 64#32
  let v412 : BitVec 32 := Scalar.muli v41 c64_i32_140
  v412
def k0_mult127 (k0_t2 : Fin k0_t2_loop.trips) : BitVec 32 :=
  let c0_i32_10 : BitVec 32 := 0#32
  let c1_i32_11 : BitVec 32 := 1#32
  let arg8 : BitVec 32 := Scf.iv c0_i32_10 c1_i32_11 k0_t2
  let c3_i32_19 : BitVec 32 := 3#32
  let c0_i32_20 : BitVec 32 := 0#32
  let v42 : BitVec 1 := Scalar.cmpi .eq c3_i32_19 c0_i32_20
  let c1_i32_21 : BitVec 32 := 1#32
  let v43 : BitVec 32 := Scalar.select v42 c1_i32_21 c3_i32_19
  let v44 : BitVec 32 := Scalar.remsi arg8 v43
  let c0_i32_23 : BitVec 32 := 0#32
  let v46 : BitVec 1 := Scalar.cmpi .slt v44 c0_i32_23
  let c0_i32_24 : BitVec 32 := 0#32
  let v47 : BitVec 1 := Scalar.cmpi .slt v43 c0_i32_24
  let v48 : BitVec 1 := Scalar.xori v46 v47
  let c0_i32_22 : BitVec 32 := 0#32
  let v45 : BitVec 1 := Scalar.cmpi .ne v44 c0_i32_22
  let v49 : BitVec 1 := Scalar.andi v48 v45
  let v50 : BitVec 32 := Scalar.addi v44 v43
  let v51 : BitVec 32 := Scalar.select v49 v50 v44
  let c256_i32 : BitVec 32 := 256#32
  let v52 : BitVec 32 := Scalar.muli v51 c256_i32
  let v53 : BitVec 32 := v52
  let c128_i32_142 : BitVec 32 := 128#32
  let v415 : BitVec 32 := Scalar.addi v53 c128_i32_142
  v415
def k0_mult128 (k0_t2 : Fin k0_t2_loop.trips) : BitVec 32 :=
  let c0_i32_10 : BitVec 32 := 0#32
  let c1_i32_11 : BitVec 32 := 1#32
  let arg8 : BitVec 32 := Scf.iv c0_i32_10 c1_i32_11 k0_t2
  let c0_i32_13 : BitVec 32 := 0#32
  let v26 : BitVec 1 := Scalar.cmpi .sgt arg8 c0_i32_13
  let v27 : BitVec 32 := Scalar.extui v26
  let c0_i32_14 : BitVec 32 := 0#32
  let v28 : BitVec 1 := Scalar.cmpi .slt arg8 c0_i32_14
  let v29 : BitVec 32 := Scalar.extui v28
  let v30 : BitVec 32 := Scalar.subi v27 v29
  let c3_i32 : BitVec 32 := 3#32
  let c0_i32_15 : BitVec 32 := 0#32
  let v31 : BitVec 1 := Scalar.cmpi .sgt c3_i32 c0_i32_15
  let v32 : BitVec 32 := Scalar.extui v31
  let c0_i32_16 : BitVec 32 := 0#32
  let v33 : BitVec 1 := Scalar.cmpi .slt c3_i32 c0_i32_16
  let v34 : BitVec 32 := Scalar.extui v33
  let v35 : BitVec 32 := Scalar.subi v32 v34
  let v36 : BitVec 1 := Scalar.cmpi .ne v30 v35
  let v37 : BitVec 32 := Scalar.remsi arg8 c3_i32
  let c0_i32_17 : BitVec 32 := 0#32
  let v38 : BitVec 1 := Scalar.cmpi .ne v37 c0_i32_17
  let v39 : BitVec 1 := Scalar.andi v36 v38
  let v25 : BitVec 32 := Scalar.divsi arg8 c3_i32
  let c1_i32_18 : BitVec 32 := 1#32
  let v40 : BitVec 32 := Scalar.subi v25 c1_i32_18
  let v41 : BitVec 32 := Scalar.select v39 v40 v25
  let c64_i32_143 : BitVec 32 := 64#32
  let v420 : BitVec 32 := Scalar.muli v41 c64_i32_143
  v420
def k0_mult129 (k0_t2 : Fin k0_t2_loop.trips) : BitVec 32 :=
  let c0_i32_10 : BitVec 32 := 0#32
  let c1_i32_11 : BitVec 32 := 1#32
  let arg8 : BitVec 32 := Scf.iv c0_i32_10 c1_i32_11 k0_t2
  let c3_i32_19 : BitVec 32 := 3#32
  let c0_i32_20 : BitVec 32 := 0#32
  let v42 : BitVec 1 := Scalar.cmpi .eq c3_i32_19 c0_i32_20
  let c1_i32_21 : BitVec 32 := 1#32
  let v43 : BitVec 32 := Scalar.select v42 c1_i32_21 c3_i32_19
  let v44 : BitVec 32 := Scalar.remsi arg8 v43
  let c0_i32_23 : BitVec 32 := 0#32
  let v46 : BitVec 1 := Scalar.cmpi .slt v44 c0_i32_23
  let c0_i32_24 : BitVec 32 := 0#32
  let v47 : BitVec 1 := Scalar.cmpi .slt v43 c0_i32_24
  let v48 : BitVec 1 := Scalar.xori v46 v47
  let c0_i32_22 : BitVec 32 := 0#32
  let v45 : BitVec 1 := Scalar.cmpi .ne v44 c0_i32_22
  let v49 : BitVec 1 := Scalar.andi v48 v45
  let v50 : BitVec 32 := Scalar.addi v44 v43
  let v51 : BitVec 32 := Scalar.select v49 v50 v44
  let c256_i32 : BitVec 32 := 256#32
  let v52 : BitVec 32 := Scalar.muli v51 c256_i32
  let v53 : BitVec 32 := v52
  let c128_i32_145 : BitVec 32 := 128#32
  let v423 : BitVec 32 := Scalar.addi v53 c128_i32_145
  v423
def k0_mult130 (k0_t2 : Fin k0_t2_loop.trips) : BitVec 32 :=
  let c0_i32_10 : BitVec 32 := 0#32
  let c1_i32_11 : BitVec 32 := 1#32
  let arg8 : BitVec 32 := Scf.iv c0_i32_10 c1_i32_11 k0_t2
  let c3_i32_19 : BitVec 32 := 3#32
  let c0_i32_20 : BitVec 32 := 0#32
  let v42 : BitVec 1 := Scalar.cmpi .eq c3_i32_19 c0_i32_20
  let c1_i32_21 : BitVec 32 := 1#32
  let v43 : BitVec 32 := Scalar.select v42 c1_i32_21 c3_i32_19
  let v44 : BitVec 32 := Scalar.remsi arg8 v43
  let c0_i32_23 : BitVec 32 := 0#32
  let v46 : BitVec 1 := Scalar.cmpi .slt v44 c0_i32_23
  let c0_i32_24 : BitVec 32 := 0#32
  let v47 : BitVec 1 := Scalar.cmpi .slt v43 c0_i32_24
  let v48 : BitVec 1 := Scalar.xori v46 v47
  let c0_i32_22 : BitVec 32 := 0#32
  let v45 : BitVec 1 := Scalar.cmpi .ne v44 c0_i32_22
  let v49 : BitVec 1 := Scalar.andi v48 v45
  let v50 : BitVec 32 := Scalar.addi v44 v43
  let v51 : BitVec 32 := Scalar.select v49 v50 v44
  let c256_i32 : BitVec 32 := 256#32
  let v52 : BitVec 32 := Scalar.muli v51 c256_i32
  let v53 : BitVec 32 := v52
  let c128_i32_148 : BitVec 32 := 128#32
  let v430 : BitVec 32 := Scalar.addi v53 c128_i32_148
  v430
def k0_mult131 (k0_t2 : Fin k0_t2_loop.trips) : BitVec 32 :=
  let c0_i32_10 : BitVec 32 := 0#32
  let c1_i32_11 : BitVec 32 := 1#32
  let arg8 : BitVec 32 := Scf.iv c0_i32_10 c1_i32_11 k0_t2
  let c0_i32_13 : BitVec 32 := 0#32
  let v26 : BitVec 1 := Scalar.cmpi .sgt arg8 c0_i32_13
  let v27 : BitVec 32 := Scalar.extui v26
  let c0_i32_14 : BitVec 32 := 0#32
  let v28 : BitVec 1 := Scalar.cmpi .slt arg8 c0_i32_14
  let v29 : BitVec 32 := Scalar.extui v28
  let v30 : BitVec 32 := Scalar.subi v27 v29
  let c3_i32 : BitVec 32 := 3#32
  let c0_i32_15 : BitVec 32 := 0#32
  let v31 : BitVec 1 := Scalar.cmpi .sgt c3_i32 c0_i32_15
  let v32 : BitVec 32 := Scalar.extui v31
  let c0_i32_16 : BitVec 32 := 0#32
  let v33 : BitVec 1 := Scalar.cmpi .slt c3_i32 c0_i32_16
  let v34 : BitVec 32 := Scalar.extui v33
  let v35 : BitVec 32 := Scalar.subi v32 v34
  let v36 : BitVec 1 := Scalar.cmpi .ne v30 v35
  let v37 : BitVec 32 := Scalar.remsi arg8 c3_i32
  let c0_i32_17 : BitVec 32 := 0#32
  let v38 : BitVec 1 := Scalar.cmpi .ne v37 c0_i32_17
  let v39 : BitVec 1 := Scalar.andi v36 v38
  let v25 : BitVec 32 := Scalar.divsi arg8 c3_i32
  let c1_i32_18 : BitVec 32 := 1#32
  let v40 : BitVec 32 := Scalar.subi v25 c1_i32_18
  let v41 : BitVec 32 := Scalar.select v39 v40 v25
  let c128_i32_163 : BitVec 32 := 128#32
  let v454 : BitVec 32 := Scalar.muli v41 c128_i32_163
  v454
def k0_mult132 (k0_t2 : Fin k0_t2_loop.trips) : BitVec 32 :=
  let c0_i32_10 : BitVec 32 := 0#32
  let c1_i32_11 : BitVec 32 := 1#32
  let arg8 : BitVec 32 := Scf.iv c0_i32_10 c1_i32_11 k0_t2
  let c3_i32_19 : BitVec 32 := 3#32
  let c0_i32_20 : BitVec 32 := 0#32
  let v42 : BitVec 1 := Scalar.cmpi .eq c3_i32_19 c0_i32_20
  let c1_i32_21 : BitVec 32 := 1#32
  let v43 : BitVec 32 := Scalar.select v42 c1_i32_21 c3_i32_19
  let v44 : BitVec 32 := Scalar.remsi arg8 v43
  let c0_i32_23 : BitVec 32 := 0#32
  let v46 : BitVec 1 := Scalar.cmpi .slt v44 c0_i32_23
  let c0_i32_24 : BitVec 32 := 0#32
  let v47 : BitVec 1 := Scalar.cmpi .slt v43 c0_i32_24
  let v48 : BitVec 1 := Scalar.xori v46 v47
  let c0_i32_22 : BitVec 32 := 0#32
  let v45 : BitVec 1 := Scalar.cmpi .ne v44 c0_i32_22
  let v49 : BitVec 1 := Scalar.andi v48 v45
  let v50 : BitVec 32 := Scalar.addi v44 v43
  let v51 : BitVec 32 := Scalar.select v49 v50 v44
  let c256_i32 : BitVec 32 := 256#32
  let v52 : BitVec 32 := Scalar.muli v51 c256_i32
  let v53 : BitVec 32 := v52
  let c128_i32_165 : BitVec 32 := 128#32
  let v457 : BitVec 32 := Scalar.addi v53 c128_i32_165
  v457
def k0_mult133 (k0_t2 : Fin k0_t2_loop.trips) : BitVec 32 :=
  let c0_i32_10 : BitVec 32 := 0#32
  let c1_i32_11 : BitVec 32 := 1#32
  let arg8 : BitVec 32 := Scf.iv c0_i32_10 c1_i32_11 k0_t2
  let c0_i32_13 : BitVec 32 := 0#32
  let v26 : BitVec 1 := Scalar.cmpi .sgt arg8 c0_i32_13
  let v27 : BitVec 32 := Scalar.extui v26
  let c0_i32_14 : BitVec 32 := 0#32
  let v28 : BitVec 1 := Scalar.cmpi .slt arg8 c0_i32_14
  let v29 : BitVec 32 := Scalar.extui v28
  let v30 : BitVec 32 := Scalar.subi v27 v29
  let c3_i32 : BitVec 32 := 3#32
  let c0_i32_15 : BitVec 32 := 0#32
  let v31 : BitVec 1 := Scalar.cmpi .sgt c3_i32 c0_i32_15
  let v32 : BitVec 32 := Scalar.extui v31
  let c0_i32_16 : BitVec 32 := 0#32
  let v33 : BitVec 1 := Scalar.cmpi .slt c3_i32 c0_i32_16
  let v34 : BitVec 32 := Scalar.extui v33
  let v35 : BitVec 32 := Scalar.subi v32 v34
  let v36 : BitVec 1 := Scalar.cmpi .ne v30 v35
  let v37 : BitVec 32 := Scalar.remsi arg8 c3_i32
  let c0_i32_17 : BitVec 32 := 0#32
  let v38 : BitVec 1 := Scalar.cmpi .ne v37 c0_i32_17
  let v39 : BitVec 1 := Scalar.andi v36 v38
  let v25 : BitVec 32 := Scalar.divsi arg8 c3_i32
  let c1_i32_18 : BitVec 32 := 1#32
  let v40 : BitVec 32 := Scalar.subi v25 c1_i32_18
  let v41 : BitVec 32 := Scalar.select v39 v40 v25
  let c128_i32_166 : BitVec 32 := 128#32
  let v469 : BitVec 32 := Scalar.muli v41 c128_i32_166
  v469
def k0_mult134 (k0_t2 : Fin k0_t2_loop.trips) : BitVec 32 :=
  let c0_i32_10 : BitVec 32 := 0#32
  let c1_i32_11 : BitVec 32 := 1#32
  let arg8 : BitVec 32 := Scf.iv c0_i32_10 c1_i32_11 k0_t2
  let c3_i32_19 : BitVec 32 := 3#32
  let c0_i32_20 : BitVec 32 := 0#32
  let v42 : BitVec 1 := Scalar.cmpi .eq c3_i32_19 c0_i32_20
  let c1_i32_21 : BitVec 32 := 1#32
  let v43 : BitVec 32 := Scalar.select v42 c1_i32_21 c3_i32_19
  let v44 : BitVec 32 := Scalar.remsi arg8 v43
  let c0_i32_23 : BitVec 32 := 0#32
  let v46 : BitVec 1 := Scalar.cmpi .slt v44 c0_i32_23
  let c0_i32_24 : BitVec 32 := 0#32
  let v47 : BitVec 1 := Scalar.cmpi .slt v43 c0_i32_24
  let v48 : BitVec 1 := Scalar.xori v46 v47
  let c0_i32_22 : BitVec 32 := 0#32
  let v45 : BitVec 1 := Scalar.cmpi .ne v44 c0_i32_22
  let v49 : BitVec 1 := Scalar.andi v48 v45
  let v50 : BitVec 32 := Scalar.addi v44 v43
  let v51 : BitVec 32 := Scalar.select v49 v50 v44
  let c256_i32 : BitVec 32 := 256#32
  let v52 : BitVec 32 := Scalar.muli v51 c256_i32
  let v53 : BitVec 32 := v52
  let c128_i32_168 : BitVec 32 := 128#32
  let v472 : BitVec 32 := Scalar.addi v53 c128_i32_168
  v472
def k0_mult135 (k0_t2 : Fin k0_t2_loop.trips) : BitVec 32 :=
  let c0_i32_10 : BitVec 32 := 0#32
  let c1_i32_11 : BitVec 32 := 1#32
  let arg8 : BitVec 32 := Scf.iv c0_i32_10 c1_i32_11 k0_t2
  let c0_i32_13 : BitVec 32 := 0#32
  let v26 : BitVec 1 := Scalar.cmpi .sgt arg8 c0_i32_13
  let v27 : BitVec 32 := Scalar.extui v26
  let c0_i32_14 : BitVec 32 := 0#32
  let v28 : BitVec 1 := Scalar.cmpi .slt arg8 c0_i32_14
  let v29 : BitVec 32 := Scalar.extui v28
  let v30 : BitVec 32 := Scalar.subi v27 v29
  let c3_i32 : BitVec 32 := 3#32
  let c0_i32_15 : BitVec 32 := 0#32
  let v31 : BitVec 1 := Scalar.cmpi .sgt c3_i32 c0_i32_15
  let v32 : BitVec 32 := Scalar.extui v31
  let c0_i32_16 : BitVec 32 := 0#32
  let v33 : BitVec 1 := Scalar.cmpi .slt c3_i32 c0_i32_16
  let v34 : BitVec 32 := Scalar.extui v33
  let v35 : BitVec 32 := Scalar.subi v32 v34
  let v36 : BitVec 1 := Scalar.cmpi .ne v30 v35
  let v37 : BitVec 32 := Scalar.remsi arg8 c3_i32
  let c0_i32_17 : BitVec 32 := 0#32
  let v38 : BitVec 1 := Scalar.cmpi .ne v37 c0_i32_17
  let v39 : BitVec 1 := Scalar.andi v36 v38
  let v25 : BitVec 32 := Scalar.divsi arg8 c3_i32
  let c1_i32_18 : BitVec 32 := 1#32
  let v40 : BitVec 32 := Scalar.subi v25 c1_i32_18
  let v41 : BitVec 32 := Scalar.select v39 v40 v25
  let c128_i32_169 : BitVec 32 := 128#32
  let v484 : BitVec 32 := Scalar.muli v41 c128_i32_169
  v484
def k0_mult136 (k0_t2 : Fin k0_t2_loop.trips) : BitVec 32 :=
  let c0_i32_10 : BitVec 32 := 0#32
  let c1_i32_11 : BitVec 32 := 1#32
  let arg8 : BitVec 32 := Scf.iv c0_i32_10 c1_i32_11 k0_t2
  let c3_i32_19 : BitVec 32 := 3#32
  let c0_i32_20 : BitVec 32 := 0#32
  let v42 : BitVec 1 := Scalar.cmpi .eq c3_i32_19 c0_i32_20
  let c1_i32_21 : BitVec 32 := 1#32
  let v43 : BitVec 32 := Scalar.select v42 c1_i32_21 c3_i32_19
  let v44 : BitVec 32 := Scalar.remsi arg8 v43
  let c0_i32_23 : BitVec 32 := 0#32
  let v46 : BitVec 1 := Scalar.cmpi .slt v44 c0_i32_23
  let c0_i32_24 : BitVec 32 := 0#32
  let v47 : BitVec 1 := Scalar.cmpi .slt v43 c0_i32_24
  let v48 : BitVec 1 := Scalar.xori v46 v47
  let c0_i32_22 : BitVec 32 := 0#32
  let v45 : BitVec 1 := Scalar.cmpi .ne v44 c0_i32_22
  let v49 : BitVec 1 := Scalar.andi v48 v45
  let v50 : BitVec 32 := Scalar.addi v44 v43
  let v51 : BitVec 32 := Scalar.select v49 v50 v44
  let c256_i32 : BitVec 32 := 256#32
  let v52 : BitVec 32 := Scalar.muli v51 c256_i32
  let v53 : BitVec 32 := v52
  let c128_i32_171 : BitVec 32 := 128#32
  let v487 : BitVec 32 := Scalar.addi v53 c128_i32_171
  v487
def k0_mult137 (k0_t2 : Fin k0_t2_loop.trips) : BitVec 32 :=
  let c0_i32_10 : BitVec 32 := 0#32
  let c1_i32_11 : BitVec 32 := 1#32
  let arg8 : BitVec 32 := Scf.iv c0_i32_10 c1_i32_11 k0_t2
  let c0_i32_13 : BitVec 32 := 0#32
  let v26 : BitVec 1 := Scalar.cmpi .sgt arg8 c0_i32_13
  let v27 : BitVec 32 := Scalar.extui v26
  let c0_i32_14 : BitVec 32 := 0#32
  let v28 : BitVec 1 := Scalar.cmpi .slt arg8 c0_i32_14
  let v29 : BitVec 32 := Scalar.extui v28
  let v30 : BitVec 32 := Scalar.subi v27 v29
  let c3_i32 : BitVec 32 := 3#32
  let c0_i32_15 : BitVec 32 := 0#32
  let v31 : BitVec 1 := Scalar.cmpi .sgt c3_i32 c0_i32_15
  let v32 : BitVec 32 := Scalar.extui v31
  let c0_i32_16 : BitVec 32 := 0#32
  let v33 : BitVec 1 := Scalar.cmpi .slt c3_i32 c0_i32_16
  let v34 : BitVec 32 := Scalar.extui v33
  let v35 : BitVec 32 := Scalar.subi v32 v34
  let v36 : BitVec 1 := Scalar.cmpi .ne v30 v35
  let v37 : BitVec 32 := Scalar.remsi arg8 c3_i32
  let c0_i32_17 : BitVec 32 := 0#32
  let v38 : BitVec 1 := Scalar.cmpi .ne v37 c0_i32_17
  let v39 : BitVec 1 := Scalar.andi v36 v38
  let v25 : BitVec 32 := Scalar.divsi arg8 c3_i32
  let c1_i32_18 : BitVec 32 := 1#32
  let v40 : BitVec 32 := Scalar.subi v25 c1_i32_18
  let v41 : BitVec 32 := Scalar.select v39 v40 v25
  let c128_i32_172 : BitVec 32 := 128#32
  let v499 : BitVec 32 := Scalar.muli v41 c128_i32_172
  v499
def k0_mult138 (k0_t2 : Fin k0_t2_loop.trips) : BitVec 32 :=
  let c0_i32_10 : BitVec 32 := 0#32
  let c1_i32_11 : BitVec 32 := 1#32
  let arg8 : BitVec 32 := Scf.iv c0_i32_10 c1_i32_11 k0_t2
  let c3_i32_19 : BitVec 32 := 3#32
  let c0_i32_20 : BitVec 32 := 0#32
  let v42 : BitVec 1 := Scalar.cmpi .eq c3_i32_19 c0_i32_20
  let c1_i32_21 : BitVec 32 := 1#32
  let v43 : BitVec 32 := Scalar.select v42 c1_i32_21 c3_i32_19
  let v44 : BitVec 32 := Scalar.remsi arg8 v43
  let c0_i32_23 : BitVec 32 := 0#32
  let v46 : BitVec 1 := Scalar.cmpi .slt v44 c0_i32_23
  let c0_i32_24 : BitVec 32 := 0#32
  let v47 : BitVec 1 := Scalar.cmpi .slt v43 c0_i32_24
  let v48 : BitVec 1 := Scalar.xori v46 v47
  let c0_i32_22 : BitVec 32 := 0#32
  let v45 : BitVec 1 := Scalar.cmpi .ne v44 c0_i32_22
  let v49 : BitVec 1 := Scalar.andi v48 v45
  let v50 : BitVec 32 := Scalar.addi v44 v43
  let v51 : BitVec 32 := Scalar.select v49 v50 v44
  let c256_i32 : BitVec 32 := 256#32
  let v52 : BitVec 32 := Scalar.muli v51 c256_i32
  let v53 : BitVec 32 := v52
  let c128_i32_174 : BitVec 32 := 128#32
  let v502 : BitVec 32 := Scalar.addi v53 c128_i32_174
  v502
def k0_mult139 (k0_t2 : Fin k0_t2_loop.trips) : BitVec 32 :=
  let c0_i32_10 : BitVec 32 := 0#32
  let c1_i32_11 : BitVec 32 := 1#32
  let arg8 : BitVec 32 := Scf.iv c0_i32_10 c1_i32_11 k0_t2
  let c160_i32 : BitVec 32 := 160#32
  let v510 : BitVec 32 := Scalar.muli arg8 c160_i32
  v510
def k0_off7 (k0_t2 : Fin k0_t2_loop.trips) : Fin 2 → Nat :=
  let c0_i32_10 : BitVec 32 := 0#32
  let c1_i32_11 : BitVec 32 := 1#32
  let arg8 : BitVec 32 := Scf.iv c0_i32_10 c1_i32_11 k0_t2
  let c160_i32 : BitVec 32 := 160#32
  let v510 : BitVec 32 := Scalar.muli arg8 c160_i32
  let v511 : BitVec 32 := v510
  let v512 : Index := Scalar.indexCast v511
  let c0_175 : Index := 0#32
  ![v512.toNat, 0]
def k0_off8 (i : grid0.Coords) : Fin 4 → Nat :=
  let c1_i32_176 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v515 : BitVec 32 := Scalar.subi c1_i32_176 v9
  let v516 : Index := Scalar.indexCast v515
  let c0_177 : Index := 0#32
  let c0_178 : Index := 0#32
  ![v516.toNat, 0, 0, 0]
def k0_mult140 (k0_t2 : Fin k0_t2_loop.trips) : BitVec 32 :=
  let c0_i32_10 : BitVec 32 := 0#32
  let c1_i32_11 : BitVec 32 := 1#32
  let arg8 : BitVec 32 := Scf.iv c0_i32_10 c1_i32_11 k0_t2
  let c320_i32 : BitVec 32 := 320#32
  let v521 : BitVec 32 := Scalar.muli arg8 c320_i32
  v521
def k0_off9 (k0_t2 : Fin k0_t2_loop.trips) : Fin 2 → Nat :=
  let c0_i32_10 : BitVec 32 := 0#32
  let c1_i32_11 : BitVec 32 := 1#32
  let arg8 : BitVec 32 := Scf.iv c0_i32_10 c1_i32_11 k0_t2
  let c320_i32 : BitVec 32 := 320#32
  let v521 : BitVec 32 := Scalar.muli arg8 c320_i32
  let v522 : BitVec 32 := v521
  let v523 : Index := Scalar.indexCast v522
  let c0_180 : Index := 0#32
  ![v523.toNat, 0]
def k0_cond3 (i : grid0.Coords) : BitVec 1 :=
  let arg0 : BitVec 32 := BitVec.ofNat 32 (i 0).val
  let c11_i32_8 : BitVec 32 := 11#32
  let v21 : BitVec 1 := Scalar.cmpi .eq arg0 c11_i32_8
  let v22 : BitVec 32 := Scalar.extui v21
  let c0_i32_9 : BitVec 32 := 0#32
  let v23 : BitVec 1 := Scalar.cmpi .ne v22 c0_i32_9
  v23

@[reducible] def k0_t3_loop : Scf.Loop 32 :=
  let c0_i32_10 : BitVec 32 := 0#32
  let c9_i32 : BitVec 32 := 9#32
  let v24 : BitVec 32 := Scalar.addi c0_i32_10 c9_i32
  let c1_i32_11 : BitVec 32 := 1#32
  ⟨c0_i32_10, v24, c1_i32_11⟩
def k0_mult141 (k0_t3 : Fin k0_t3_loop.trips) : BitVec 32 :=
  let c0_i32_10 : BitVec 32 := 0#32
  let c1_i32_11 : BitVec 32 := 1#32
  let arg8 : BitVec 32 := Scf.iv c0_i32_10 c1_i32_11 k0_t3
  let c160_i32 : BitVec 32 := 160#32
  let v25 : BitVec 32 := Scalar.muli arg8 c160_i32
  v25
def k0_off10 (k0_t3 : Fin k0_t3_loop.trips) : Fin 2 → Nat :=
  let c0_i32_10 : BitVec 32 := 0#32
  let c1_i32_11 : BitVec 32 := 1#32
  let arg8 : BitVec 32 := Scf.iv c0_i32_10 c1_i32_11 k0_t3
  let c160_i32 : BitVec 32 := 160#32
  let v25 : BitVec 32 := Scalar.muli arg8 c160_i32
  let v26 : BitVec 32 := v25
  let v27 : Index := Scalar.indexCast v26
  let c0_13 : Index := 0#32
  ![v27.toNat, 0]
def k0_off11 (i : grid0.Coords) : Fin 4 → Nat :=
  let c1_i32_14 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v30 : BitVec 32 := Scalar.subi c1_i32_14 v9
  let v31 : Index := Scalar.indexCast v30
  let c0_15 : Index := 0#32
  let c0_16 : Index := 0#32
  ![v31.toNat, 0, 0, 0]
def k0_mult142 (k0_t3 : Fin k0_t3_loop.trips) : BitVec 32 :=
  let c0_i32_10 : BitVec 32 := 0#32
  let c1_i32_11 : BitVec 32 := 1#32
  let arg8 : BitVec 32 := Scf.iv c0_i32_10 c1_i32_11 k0_t3
  let c320_i32 : BitVec 32 := 320#32
  let v36 : BitVec 32 := Scalar.muli arg8 c320_i32
  v36
def k0_off12 (k0_t3 : Fin k0_t3_loop.trips) : Fin 2 → Nat :=
  let c0_i32_10 : BitVec 32 := 0#32
  let c1_i32_11 : BitVec 32 := 1#32
  let arg8 : BitVec 32 := Scf.iv c0_i32_10 c1_i32_11 k0_t3
  let c320_i32 : BitVec 32 := 320#32
  let v36 : BitVec 32 := Scalar.muli arg8 c320_i32
  let v37 : BitVec 32 := v36
  let v38 : Index := Scalar.indexCast v37
  let c0_17 : Index := 0#32
  ![v38.toNat, 0]
def cc0_transform_0 (i : grid0.Coords) : Fin 2 → Nat :=
  let arg0 : BitVec 32 := BitVec.ofNat 32 (i 0).val
  let c10_i32 : BitVec 32 := 10#32
  let v0 : BitVec 32 := Scalar.minsi arg0 c10_i32
  let c0_i32 : BitVec 32 := 0#32
  let c0_i32_0 : BitVec 32 := 0#32
  ![c0_i32.toNat, v0.toNat]

def cc0_transform_1 (i : grid0.Coords) : Fin 3 → Nat :=
  let arg0 : BitVec 32 := BitVec.ofNat 32 (i 0).val
  let c10_i32 : BitVec 32 := 10#32
  let v0 : BitVec 32 := Scalar.minsi arg0 c10_i32
  let c0_i32 : BitVec 32 := 0#32
  let c0_i32_0 : BitVec 32 := 0#32
  let c0_i32_1 : BitVec 32 := 0#32
  ![c0_i32.toNat, c0_i32_0.toNat, v0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  ![c0_i32_0.toNat, v1.toNat]

abbrev stage0_0 : Fin 2 → Memref sig .tc .vmem S192x768 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S6x8x768 .fp8e4m3 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1440x768 .i32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S2880x768 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== ReferenceIdeal.lean ====
abbrev S192x8448 : Shape := ⟨2, ![192, 8448]⟩
abbrev S6x8x8448 : Shape := ⟨3, ![6, 8, 8448]⟩
abbrev S1x1 : Shape := ⟨2, ![1, 1]⟩
abbrev S1440x768 : Shape := ⟨2, ![1440, 768]⟩
abbrev S2880x8448 : Shape := ⟨2, ![2880, 8448]⟩
abbrev S768x8448 : Shape := ⟨2, ![768, 8448]⟩
abbrev S6x1x8x1x8448 : Shape := ⟨5, ![6, 1, 8, 1, 8448]⟩
abbrev S6x4x8x4x8448 : Shape := ⟨5, ![6, 4, 8, 4, 8448]⟩
abbrev S2880x768 : Shape := ⟨2, ![2880, 768]⟩

abbrev nBuf : Space → Nat
  | .hbm => 5
  | .vmem => 5
  | .smem => 0
  | _ => 0

abbrev bufTy : (tb : Table) → Fin (tcTables nBuf tb) → BufTy
  | .hbm, ⟨0, _⟩ => ⟨S192x8448, .i32⟩
  | .hbm, ⟨1, _⟩ => ⟨S6x8x8448, .fp8e4m3⟩
  | .hbm, ⟨2, _⟩ => ⟨S1x1, .f32⟩
  | .hbm, ⟨3, _⟩ => ⟨S1440x768, .i32⟩
  | .hbm, ⟨4, _⟩ => ⟨S2880x8448, .f32⟩
  | .local _ .vmem, ⟨0, _⟩ => ⟨S192x8448, .i32⟩
  | .local _ .vmem, ⟨1, _⟩ => ⟨S6x8x8448, .fp8e4m3⟩
  | .local _ .vmem, ⟨2, _⟩ => ⟨S1x1, .f32⟩
  | .local _ .vmem, ⟨3, _⟩ => ⟨S1440x768, .i32⟩
  | .local _ .vmem, ⟨4, _⟩ => ⟨S2880x8448, .f32⟩
  | _, _ => ⟨S192x8448, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4

abbrev nD : Nat := 1
abbrev τ : Topo := Topo.v7x

variable {F : FTy → Type} [FloatOps F]

abbrev grid0 : Pipeline.Grid := .none

abbrev stage0_0 : Fin 1 → Memref sig .tc .vmem S192x8448 .i32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S6x8x8448 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1440x768 .i32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S2880x8448 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
-- ==== Dx.lean ====
abbrev S2880x8448 : Shape := ⟨2, ![2880, 8448]⟩
abbrev S384x8448 : Shape := ⟨2, ![384, 8448]⟩
abbrev S768x2880 : Shape := ⟨2, ![768, 2880]⟩
abbrev S2880x768 : Shape := ⟨2, ![2880, 768]⟩
abbrev S384x768 : Shape := ⟨2, ![384, 768]⟩
abbrev S2x384x256 : Shape := ⟨3, ![2, 384, 256]⟩
abbrev S768x2944 : Shape := ⟨2, ![768, 2944]⟩
abbrev S256x256 : Shape := ⟨2, ![256, 256]⟩
abbrev S256x128 : Shape := ⟨2, ![256, 128]⟩
abbrev S128x128 : Shape := ⟨2, ![128, 128]⟩
abbrev S1x128x128 : Shape := ⟨3, ![1, 128, 128]⟩
abbrev S768x256 : Shape := ⟨2, ![768, 256]⟩
abbrev S768x768 : Shape := ⟨2, ![768, 768]⟩
abbrev S1x384x256 : Shape := ⟨3, ![1, 384, 256]⟩
abbrev S384x256 : Shape := ⟨2, ![384, 256]⟩
abbrev S128x256 : Shape := ⟨2, ![128, 256]⟩
abbrev S768x128 : Shape := ⟨2, ![768, 128]⟩
abbrev S1x384x128 : Shape := ⟨3, ![1, 384, 128]⟩
abbrev S384x128 : Shape := ⟨2, ![384, 128]⟩
abbrev S768x2816 : Shape := ⟨2, ![768, 2816]⟩
abbrev S768x64 : Shape := ⟨2, ![768, 64]⟩

abbrev nBuf : Space → Nat
  | .hbm => 3
  | .vmem => 7
  | .smem => 0
  | _ => 0

abbrev bufTy : (tb : Table) → Fin (tcTables nBuf tb) → BufTy
  | .hbm, ⟨0, _⟩ => ⟨S2880x8448, .bf16⟩
  | .hbm, ⟨1, _⟩ => ⟨S384x8448, .i32⟩
  | .hbm, ⟨2, _⟩ => ⟨S768x2880, .bf16⟩
  | .local _ .vmem, ⟨0, _⟩ => ⟨S2880x768, .bf16⟩
  | .local _ .vmem, ⟨1, _⟩ => ⟨S2880x768, .bf16⟩
  | .local _ .vmem, ⟨2, _⟩ => ⟨S384x768, .i32⟩
  | .local _ .vmem, ⟨3, _⟩ => ⟨S384x768, .i32⟩
  | .local _ .vmem, ⟨4, _⟩ => ⟨S768x2880, .bf16⟩
  | .local _ .vmem, ⟨5, _⟩ => ⟨S2x384x256, .i32⟩
  | .local _ .vmem, ⟨6, _⟩ => ⟨S768x2944, .f32⟩
  | _, _ => ⟨S2880x8448, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_scratch1 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [BitOps F]

abbrev grid0 : Pipeline.Grid := ⟨1, ![11], ![false]⟩

@[reducible] def k0_t1_loop : Scf.Loop 32 :=
  let c1_i32 : BitVec 32 := 1#32
  let c10_i32 : BitVec 32 := 10#32
  let v39 : BitVec 32 := Scalar.addi c1_i32 c10_i32
  let c1_i32_21 : BitVec 32 := 1#32
  ⟨c1_i32, v39, c1_i32_21⟩
def k0_mult1 (k0_t1 : Fin k0_t1_loop.trips) : BitVec 32 :=
  let c1_i32 : BitVec 32 := 1#32
  let c1_i32_21 : BitVec 32 := 1#32
  let arg6 : BitVec 32 := Scf.iv c1_i32 c1_i32_21 k0_t1
  let c256_i32 : BitVec 32 := 256#32
  let v83 : BitVec 32 := Scalar.muli arg6 c256_i32
  v83
def k0_off1 (k0_t1 : Fin k0_t1_loop.trips) : Fin 2 → Nat :=
  let c1_i32 : BitVec 32 := 1#32
  let c1_i32_21 : BitVec 32 := 1#32
  let arg6 : BitVec 32 := Scf.iv c1_i32 c1_i32_21 k0_t1
  let c256_i32 : BitVec 32 := 256#32
  let v83 : BitVec 32 := Scalar.muli arg6 c256_i32
  let v84 : BitVec 32 := v83
  let v95 : Index := Scalar.indexCast v84
  let c0_60 : Index := 0#32
  ![v95.toNat, 0]
def k0_off2 (k0_t1 : Fin k0_t1_loop.trips) : Fin 3 → Nat :=
  let c1_i32 : BitVec 32 := 1#32
  let c1_i32_21 : BitVec 32 := 1#32
  let arg6 : BitVec 32 := Scf.iv c1_i32 c1_i32_21 k0_t1
  let c2_i32 : BitVec 32 := 2#32
  let c0_i32_55 : BitVec 32 := 0#32
  let v85 : BitVec 1 := Scalar.cmpi .eq c2_i32 c0_i32_55
  let c1_i32_56 : BitVec 32 := 1#32
  let v86 : BitVec 32 := Scalar.select v85 c1_i32_56 c2_i32
  let v87 : BitVec 32 := Scalar.remsi arg6 v86
  let c0_i32_58 : BitVec 32 := 0#32
  let v89 : BitVec 1 := Scalar.cmpi .slt v87 c0_i32_58
  let c0_i32_59 : BitVec 32 := 0#32
  let v90 : BitVec 1 := Scalar.cmpi .slt v86 c0_i32_59
  let v91 : BitVec 1 := Scalar.xori v89 v90
  let c0_i32_57 : BitVec 32 := 0#32
  let v88 : BitVec 1 := Scalar.cmpi .ne v87 c0_i32_57
  let v92 : BitVec 1 := Scalar.andi v91 v88
  let v93 : BitVec 32 := Scalar.addi v87 v86
  let v94 : BitVec 32 := Scalar.select v92 v93 v87
  let v100 : Index := Scalar.indexCast v94
  let c0_61 : Index := 0#32
  let c0_62 : Index := 0#32
  ![v100.toNat, 0, 0]
def k0_off3 (k0_t1 : Fin k0_t1_loop.trips) : Fin 3 → Nat :=
  let c1_i32 : BitVec 32 := 1#32
  let c1_i32_21 : BitVec 32 := 1#32
  let arg6 : BitVec 32 := Scf.iv c1_i32 c1_i32_21 k0_t1
  let c2_i32 : BitVec 32 := 2#32
  let c0_i32_55 : BitVec 32 := 0#32
  let v85 : BitVec 1 := Scalar.cmpi .eq c2_i32 c0_i32_55
  let c1_i32_56 : BitVec 32 := 1#32
  let v86 : BitVec 32 := Scalar.select v85 c1_i32_56 c2_i32
  let v87 : BitVec 32 := Scalar.remsi arg6 v86
  let c0_i32_58 : BitVec 32 := 0#32
  let v89 : BitVec 1 := Scalar.cmpi .slt v87 c0_i32_58
  let c0_i32_59 : BitVec 32 := 0#32
  let v90 : BitVec 1 := Scalar.cmpi .slt v86 c0_i32_59
  let v91 : BitVec 1 := Scalar.xori v89 v90
  let c0_i32_57 : BitVec 32 := 0#32
  let v88 : BitVec 1 := Scalar.cmpi .ne v87 c0_i32_57
  let v92 : BitVec 1 := Scalar.andi v91 v88
  let v93 : BitVec 32 := Scalar.addi v87 v86
  let v94 : BitVec 32 := Scalar.select v92 v93 v87
  let v106 : Index := Scalar.indexCast v94
  let c0_63 : Index := 0#32
  let c128_64 : Index := 128#32
  ![v106.toNat, 0, 128]
def k0_off4 (k0_t1 : Fin k0_t1_loop.trips) : Fin 2 → Nat :=
  let c1_i32 : BitVec 32 := 1#32
  let c1_i32_21 : BitVec 32 := 1#32
  let arg6 : BitVec 32 := Scf.iv c1_i32 c1_i32_21 k0_t1
  let c256_i32 : BitVec 32 := 256#32
  let v83 : BitVec 32 := Scalar.muli arg6 c256_i32
  let v84 : BitVec 32 := v83
  let v110 : Index := Scalar.indexCast v84
  let c256_65 : Index := 256#32
  ![v110.toNat, 256]
def k0_off5 (k0_t1 : Fin k0_t1_loop.trips) : Fin 3 → Nat :=
  let c1_i32 : BitVec 32 := 1#32
  let c1_i32_21 : BitVec 32 := 1#32
  let arg6 : BitVec 32 := Scf.iv c1_i32 c1_i32_21 k0_t1
  let c2_i32 : BitVec 32 := 2#32
  let c0_i32_55 : BitVec 32 := 0#32
  let v85 : BitVec 1 := Scalar.cmpi .eq c2_i32 c0_i32_55
  let c1_i32_56 : BitVec 32 := 1#32
  let v86 : BitVec 32 := Scalar.select v85 c1_i32_56 c2_i32
  let v87 : BitVec 32 := Scalar.remsi arg6 v86
  let c0_i32_58 : BitVec 32 := 0#32
  let v89 : BitVec 1 := Scalar.cmpi .slt v87 c0_i32_58
  let c0_i32_59 : BitVec 32 := 0#32
  let v90 : BitVec 1 := Scalar.cmpi .slt v86 c0_i32_59
  let v91 : BitVec 1 := Scalar.xori v89 v90
  let c0_i32_57 : BitVec 32 := 0#32
  let v88 : BitVec 1 := Scalar.cmpi .ne v87 c0_i32_57
  let v92 : BitVec 1 := Scalar.andi v91 v88
  let v93 : BitVec 32 := Scalar.addi v87 v86
  let v94 : BitVec 32 := Scalar.select v92 v93 v87
  let v115 : Index := Scalar.indexCast v94
  let c128_66 : Index := 128#32
  let c0_67 : Index := 0#32
  ![v115.toNat, 128, 0]
def k0_off6 (k0_t1 : Fin k0_t1_loop.trips) : Fin 3 → Nat :=
  let c1_i32 : BitVec 32 := 1#32
  let c1_i32_21 : BitVec 32 := 1#32
  let arg6 : BitVec 32 := Scf.iv c1_i32 c1_i32_21 k0_t1
  let c2_i32 : BitVec 32 := 2#32
  let c0_i32_55 : BitVec 32 := 0#32
  let v85 : BitVec 1 := Scalar.cmpi .eq c2_i32 c0_i32_55
  let c1_i32_56 : BitVec 32 := 1#32
  let v86 : BitVec 32 := Scalar.select v85 c1_i32_56 c2_i32
  let v87 : BitVec 32 := Scalar.remsi arg6 v86
  let c0_i32_58 : BitVec 32 := 0#32
  let v89 : BitVec 1 := Scalar.cmpi .slt v87 c0_i32_58
  let c0_i32_59 : BitVec 32 := 0#32
  let v90 : BitVec 1 := Scalar.cmpi .slt v86 c0_i32_59
  let v91 : BitVec 1 := Scalar.xori v89 v90
  let c0_i32_57 : BitVec 32 := 0#32
  let v88 : BitVec 1 := Scalar.cmpi .ne v87 c0_i32_57
  let v92 : BitVec 1 := Scalar.andi v91 v88
  let v93 : BitVec 32 := Scalar.addi v87 v86
  let v94 : BitVec 32 := Scalar.select v92 v93 v87
  let v121 : Index := Scalar.indexCast v94
  let c128_68 : Index := 128#32
  let c128_69 : Index := 128#32
  ![v121.toNat, 128, 128]
def k0_off7 (k0_t1 : Fin k0_t1_loop.trips) : Fin 2 → Nat :=
  let c1_i32 : BitVec 32 := 1#32
  let c1_i32_21 : BitVec 32 := 1#32
  let arg6 : BitVec 32 := Scf.iv c1_i32 c1_i32_21 k0_t1
  let c256_i32 : BitVec 32 := 256#32
  let v83 : BitVec 32 := Scalar.muli arg6 c256_i32
  let v84 : BitVec 32 := v83
  let v125 : Index := Scalar.indexCast v84
  let c512_70 : Index := 512#32
  ![v125.toNat, 512]
def k0_off8 (k0_t1 : Fin k0_t1_loop.trips) : Fin 3 → Nat :=
  let c1_i32 : BitVec 32 := 1#32
  let c1_i32_21 : BitVec 32 := 1#32
  let arg6 : BitVec 32 := Scf.iv c1_i32 c1_i32_21 k0_t1
  let c2_i32 : BitVec 32 := 2#32
  let c0_i32_55 : BitVec 32 := 0#32
  let v85 : BitVec 1 := Scalar.cmpi .eq c2_i32 c0_i32_55
  let c1_i32_56 : BitVec 32 := 1#32
  let v86 : BitVec 32 := Scalar.select v85 c1_i32_56 c2_i32
  let v87 : BitVec 32 := Scalar.remsi arg6 v86
  let c0_i32_58 : BitVec 32 := 0#32
  let v89 : BitVec 1 := Scalar.cmpi .slt v87 c0_i32_58
  let c0_i32_59 : BitVec 32 := 0#32
  let v90 : BitVec 1 := Scalar.cmpi .slt v86 c0_i32_59
  let v91 : BitVec 1 := Scalar.xori v89 v90
  let c0_i32_57 : BitVec 32 := 0#32
  let v88 : BitVec 1 := Scalar.cmpi .ne v87 c0_i32_57
  let v92 : BitVec 1 := Scalar.andi v91 v88
  let v93 : BitVec 32 := Scalar.addi v87 v86
  let v94 : BitVec 32 := Scalar.select v92 v93 v87
  let v130 : Index := Scalar.indexCast v94
  let c256_71 : Index := 256#32
  let c0_72 : Index := 0#32
  ![v130.toNat, 256, 0]
def k0_off9 (k0_t1 : Fin k0_t1_loop.trips) : Fin 3 → Nat :=
  let c1_i32 : BitVec 32 := 1#32
  let c1_i32_21 : BitVec 32 := 1#32
  let arg6 : BitVec 32 := Scf.iv c1_i32 c1_i32_21 k0_t1
  let c2_i32 : BitVec 32 := 2#32
  let c0_i32_55 : BitVec 32 := 0#32
  let v85 : BitVec 1 := Scalar.cmpi .eq c2_i32 c0_i32_55
  let c1_i32_56 : BitVec 32 := 1#32
  let v86 : BitVec 32 := Scalar.select v85 c1_i32_56 c2_i32
  let v87 : BitVec 32 := Scalar.remsi arg6 v86
  let c0_i32_58 : BitVec 32 := 0#32
  let v89 : BitVec 1 := Scalar.cmpi .slt v87 c0_i32_58
  let c0_i32_59 : BitVec 32 := 0#32
  let v90 : BitVec 1 := Scalar.cmpi .slt v86 c0_i32_59
  let v91 : BitVec 1 := Scalar.xori v89 v90
  let c0_i32_57 : BitVec 32 := 0#32
  let v88 : BitVec 1 := Scalar.cmpi .ne v87 c0_i32_57
  let v92 : BitVec 1 := Scalar.andi v91 v88
  let v93 : BitVec 32 := Scalar.addi v87 v86
  let v94 : BitVec 32 := Scalar.select v92 v93 v87
  let v136 : Index := Scalar.indexCast v94
  let c256_73 : Index := 256#32
  let c128_74 : Index := 128#32
  ![v136.toNat, 256, 128]
def k0_mult2 (k0_t1 : Fin k0_t1_loop.trips) : BitVec 32 :=
  let c1_i32 : BitVec 32 := 1#32
  let c1_i32_21 : BitVec 32 := 1#32
  let arg6 : BitVec 32 := Scf.iv c1_i32 c1_i32_21 k0_t1
  let c256_i32 : BitVec 32 := 256#32
  let v83 : BitVec 32 := Scalar.muli arg6 c256_i32
  let v84 : BitVec 32 := v83
  let c256_i32_75 : BitVec 32 := 256#32
  let v140 : BitVec 32 := Scalar.subi v84 c256_i32_75
  v140
def k0_off10 (k0_t1 : Fin k0_t1_loop.trips) : Fin 2 → Nat :=
  let c0_83 : Index := 0#32
  let c1_i32 : BitVec 32 := 1#32
  let c1_i32_21 : BitVec 32 := 1#32
  let arg6 : BitVec 32 := Scf.iv c1_i32 c1_i32_21 k0_t1
  let c256_i32 : BitVec 32 := 256#32
  let v83 : BitVec 32 := Scalar.muli arg6 c256_i32
  let v84 : BitVec 32 := v83
  let c256_i32_75 : BitVec 32 := 256#32
  let v140 : BitVec 32 := Scalar.subi v84 c256_i32_75
  let v141 : BitVec 32 := v140
  let v153 : Index := Scalar.indexCast v141
  ![0, v153.toNat]
def k0_off11 (k0_t1 : Fin k0_t1_loop.trips) : Fin 3 → Nat :=
  let c1_i32 : BitVec 32 := 1#32
  let c1_i32_21 : BitVec 32 := 1#32
  let arg6 : BitVec 32 := Scf.iv c1_i32 c1_i32_21 k0_t1
  let c1_i32_76 : BitVec 32 := 1#32
  let v142 : BitVec 32 := Scalar.addi arg6 c1_i32_76
  let c2_i32_77 : BitVec 32 := 2#32
  let c0_i32_78 : BitVec 32 := 0#32
  let v143 : BitVec 1 := Scalar.cmpi .eq c2_i32_77 c0_i32_78
  let c1_i32_79 : BitVec 32 := 1#32
  let v144 : BitVec 32 := Scalar.select v143 c1_i32_79 c2_i32_77
  let v145 : BitVec 32 := Scalar.remsi v142 v144
  let c0_i32_81 : BitVec 32 := 0#32
  let v147 : BitVec 1 := Scalar.cmpi .slt v145 c0_i32_81
  let c0_i32_82 : BitVec 32 := 0#32
  let v148 : BitVec 1 := Scalar.cmpi .slt v144 c0_i32_82
  let v149 : BitVec 1 := Scalar.xori v147 v148
  let c0_i32_80 : BitVec 32 := 0#32
  let v146 : BitVec 1 := Scalar.cmpi .ne v145 c0_i32_80
  let v150 : BitVec 1 := Scalar.andi v149 v146
  let v151 : BitVec 32 := Scalar.addi v145 v144
  let v152 : BitVec 32 := Scalar.select v150 v151 v145
  let v157 : Index := Scalar.indexCast v152
  let c0_86 : Index := 0#32
  let c0_87 : Index := 0#32
  ![v157.toNat, 0, 0]
def k0_cond2 (i : grid0.Coords) : BitVec 1 :=
  let arg0 : BitVec 32 := BitVec.ofNat 32 (i 0).val
  let c10_i32_53 : BitVec 32 := 10#32
  let v80 : BitVec 1 := Scalar.cmpi .eq arg0 c10_i32_53
  let v81 : BitVec 32 := Scalar.extui v80
  let c0_i32_54 : BitVec 32 := 0#32
  let v82 : BitVec 1 := Scalar.cmpi .ne v81 c0_i32_54
  v82

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S2880x768 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S384x768 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S768x2880 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]
-- ==== DxIdeal.lean ====
abbrev S2880x8448 : Shape := ⟨2, ![2880, 8448]⟩
abbrev S384x8448 : Shape := ⟨2, ![384, 8448]⟩
abbrev S768x2880 : Shape := ⟨2, ![768, 2880]⟩
abbrev S2880x768 : Shape := ⟨2, ![2880, 768]⟩
abbrev S384x768 : Shape := ⟨2, ![384, 768]⟩
abbrev S2x384x256 : Shape := ⟨3, ![2, 384, 256]⟩
abbrev S2x384x2x256 : Shape := ⟨4, ![2, 384, 2, 256]⟩
abbrev S2x384x1x256 : Shape := ⟨4, ![2, 384, 1, 256]⟩
abbrev S768x2944 : Shape := ⟨2, ![768, 2944]⟩
abbrev S256x256 : Shape := ⟨2, ![256, 256]⟩
abbrev S256x128 : Shape := ⟨2, ![256, 128]⟩
abbrev S128x128 : Shape := ⟨2, ![128, 128]⟩
abbrev S1x128x128 : Shape := ⟨3, ![1, 128, 128]⟩
abbrev S1x128x2x128 : Shape := ⟨4, ![1, 128, 2, 128]⟩
abbrev S1x128x1x128 : Shape := ⟨4, ![1, 128, 1, 128]⟩
abbrev S768x256 : Shape := ⟨2, ![768, 256]⟩
abbrev S768x768 : Shape := ⟨2, ![768, 768]⟩
abbrev S1x384x256 : Shape := ⟨3, ![1, 384, 256]⟩
abbrev S1x384x2x256 : Shape := ⟨4, ![1, 384, 2, 256]⟩
abbrev S1x384x1x256 : Shape := ⟨4, ![1, 384, 1, 256]⟩
abbrev S384x256 : Shape := ⟨2, ![384, 256]⟩
abbrev S128x256 : Shape := ⟨2, ![128, 256]⟩
abbrev S768x128 : Shape := ⟨2, ![768, 128]⟩
abbrev S1x384x128 : Shape := ⟨3, ![1, 384, 128]⟩
abbrev S1x384x2x128 : Shape := ⟨4, ![1, 384, 2, 128]⟩
abbrev S1x384x1x128 : Shape := ⟨4, ![1, 384, 1, 128]⟩
abbrev S384x128 : Shape := ⟨2, ![384, 128]⟩
abbrev S768x2816 : Shape := ⟨2, ![768, 2816]⟩
abbrev S768x64 : Shape := ⟨2, ![768, 64]⟩

abbrev nBuf : Space → Nat
  | .hbm => 3
  | .vmem => 7
  | .smem => 0
  | _ => 0

abbrev bufTy : (tb : Table) → Fin (tcTables nBuf tb) → BufTy
  | .hbm, ⟨0, _⟩ => ⟨S2880x8448, .bf16⟩
  | .hbm, ⟨1, _⟩ => ⟨S384x8448, .i32⟩
  | .hbm, ⟨2, _⟩ => ⟨S768x2880, .bf16⟩
  | .local _ .vmem, ⟨0, _⟩ => ⟨S2880x768, .bf16⟩
  | .local _ .vmem, ⟨1, _⟩ => ⟨S2880x768, .bf16⟩
  | .local _ .vmem, ⟨2, _⟩ => ⟨S384x768, .i32⟩
  | .local _ .vmem, ⟨3, _⟩ => ⟨S384x768, .i32⟩
  | .local _ .vmem, ⟨4, _⟩ => ⟨S768x2880, .bf16⟩
  | .local _ .vmem, ⟨5, _⟩ => ⟨S2x384x2x256, .bf16⟩
  | .local _ .vmem, ⟨6, _⟩ => ⟨S768x2944, .f32⟩
  | _, _ => ⟨S2880x8448, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_scratch1 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨1, ![11], ![false]⟩

@[reducible] def k0_t1_loop : Scf.Loop 32 :=
  let c1_i32 : BitVec 32 := 1#32
  let c10_i32 : BitVec 32 := 10#32
  let v39 : BitVec 32 := Scalar.addi c1_i32 c10_i32
  let c1_i32_21 : BitVec 32 := 1#32
  ⟨c1_i32, v39, c1_i32_21⟩
def k0_mult1 (k0_t1 : Fin k0_t1_loop.trips) : BitVec 32 :=
  let c1_i32 : BitVec 32 := 1#32
  let c1_i32_21 : BitVec 32 := 1#32
  let arg6 : BitVec 32 := Scf.iv c1_i32 c1_i32_21 k0_t1
  let c256_i32 : BitVec 32 := 256#32
  let v83 : BitVec 32 := Scalar.muli arg6 c256_i32
  v83
def k0_off1 (k0_t1 : Fin k0_t1_loop.trips) : Fin 2 → Nat :=
  let c1_i32 : BitVec 32 := 1#32
  let c1_i32_21 : BitVec 32 := 1#32
  let arg6 : BitVec 32 := Scf.iv c1_i32 c1_i32_21 k0_t1
  let c256_i32 : BitVec 32 := 256#32
  let v83 : BitVec 32 := Scalar.muli arg6 c256_i32
  let v84 : BitVec 32 := v83
  let v95 : Index := Scalar.indexCast v84
  let c0_60 : Index := 0#32
  ![v95.toNat, 0]
def k0_off2 (k0_t1 : Fin k0_t1_loop.trips) : Fin 4 → Nat :=
  let c1_i32 : BitVec 32 := 1#32
  let c1_i32_21 : BitVec 32 := 1#32
  let arg6 : BitVec 32 := Scf.iv c1_i32 c1_i32_21 k0_t1
  let c2_i32 : BitVec 32 := 2#32
  let c0_i32_55 : BitVec 32 := 0#32
  let v85 : BitVec 1 := Scalar.cmpi .eq c2_i32 c0_i32_55
  let c1_i32_56 : BitVec 32 := 1#32
  let v86 : BitVec 32 := Scalar.select v85 c1_i32_56 c2_i32
  let v87 : BitVec 32 := Scalar.remsi arg6 v86
  let c0_i32_58 : BitVec 32 := 0#32
  let v89 : BitVec 1 := Scalar.cmpi .slt v87 c0_i32_58
  let c0_i32_59 : BitVec 32 := 0#32
  let v90 : BitVec 1 := Scalar.cmpi .slt v86 c0_i32_59
  let v91 : BitVec 1 := Scalar.xori v89 v90
  let c0_i32_57 : BitVec 32 := 0#32
  let v88 : BitVec 1 := Scalar.cmpi .ne v87 c0_i32_57
  let v92 : BitVec 1 := Scalar.andi v91 v88
  let v93 : BitVec 32 := Scalar.addi v87 v86
  let v94 : BitVec 32 := Scalar.select v92 v93 v87
  let v100 : Index := Scalar.indexCast v94
  let c0_61 : Index := 0#32
  let c0_62 : Index := 0#32
  ![v100.toNat, 0, 0, 0]
def k0_off3 (k0_t1 : Fin k0_t1_loop.trips) : Fin 4 → Nat :=
  let c1_i32 : BitVec 32 := 1#32
  let c1_i32_21 : BitVec 32 := 1#32
  let arg6 : BitVec 32 := Scf.iv c1_i32 c1_i32_21 k0_t1
  let c2_i32 : BitVec 32 := 2#32
  let c0_i32_55 : BitVec 32 := 0#32
  let v85 : BitVec 1 := Scalar.cmpi .eq c2_i32 c0_i32_55
  let c1_i32_56 : BitVec 32 := 1#32
  let v86 : BitVec 32 := Scalar.select v85 c1_i32_56 c2_i32
  let v87 : BitVec 32 := Scalar.remsi arg6 v86
  let c0_i32_58 : BitVec 32 := 0#32
  let v89 : BitVec 1 := Scalar.cmpi .slt v87 c0_i32_58
  let c0_i32_59 : BitVec 32 := 0#32
  let v90 : BitVec 1 := Scalar.cmpi .slt v86 c0_i32_59
  let v91 : BitVec 1 := Scalar.xori v89 v90
  let c0_i32_57 : BitVec 32 := 0#32
  let v88 : BitVec 1 := Scalar.cmpi .ne v87 c0_i32_57
  let v92 : BitVec 1 := Scalar.andi v91 v88
  let v93 : BitVec 32 := Scalar.addi v87 v86
  let v94 : BitVec 32 := Scalar.select v92 v93 v87
  let v106 : Index := Scalar.indexCast v94
  let c0_63 : Index := 0#32
  let c128_64 : Index := 128#32
  ![v106.toNat, 0, 0, 128]
def k0_off4 (k0_t1 : Fin k0_t1_loop.trips) : Fin 2 → Nat :=
  let c1_i32 : BitVec 32 := 1#32
  let c1_i32_21 : BitVec 32 := 1#32
  let arg6 : BitVec 32 := Scf.iv c1_i32 c1_i32_21 k0_t1
  let c256_i32 : BitVec 32 := 256#32
  let v83 : BitVec 32 := Scalar.muli arg6 c256_i32
  let v84 : BitVec 32 := v83
  let v110 : Index := Scalar.indexCast v84
  let c256_65 : Index := 256#32
  ![v110.toNat, 256]
def k0_off5 (k0_t1 : Fin k0_t1_loop.trips) : Fin 4 → Nat :=
  let c1_i32 : BitVec 32 := 1#32
  let c1_i32_21 : BitVec 32 := 1#32
  let arg6 : BitVec 32 := Scf.iv c1_i32 c1_i32_21 k0_t1
  let c2_i32 : BitVec 32 := 2#32
  let c0_i32_55 : BitVec 32 := 0#32
  let v85 : BitVec 1 := Scalar.cmpi .eq c2_i32 c0_i32_55
  let c1_i32_56 : BitVec 32 := 1#32
  let v86 : BitVec 32 := Scalar.select v85 c1_i32_56 c2_i32
  let v87 : BitVec 32 := Scalar.remsi arg6 v86
  let c0_i32_58 : BitVec 32 := 0#32
  let v89 : BitVec 1 := Scalar.cmpi .slt v87 c0_i32_58
  let c0_i32_59 : BitVec 32 := 0#32
  let v90 : BitVec 1 := Scalar.cmpi .slt v86 c0_i32_59
  let v91 : BitVec 1 := Scalar.xori v89 v90
  let c0_i32_57 : BitVec 32 := 0#32
  let v88 : BitVec 1 := Scalar.cmpi .ne v87 c0_i32_57
  let v92 : BitVec 1 := Scalar.andi v91 v88
  let v93 : BitVec 32 := Scalar.addi v87 v86
  let v94 : BitVec 32 := Scalar.select v92 v93 v87
  let v115 : Index := Scalar.indexCast v94
  let c128_66 : Index := 128#32
  let c0_67 : Index := 0#32
  ![v115.toNat, 128, 0, 0]
def k0_off6 (k0_t1 : Fin k0_t1_loop.trips) : Fin 4 → Nat :=
  let c1_i32 : BitVec 32 := 1#32
  let c1_i32_21 : BitVec 32 := 1#32
  let arg6 : BitVec 32 := Scf.iv c1_i32 c1_i32_21 k0_t1
  let c2_i32 : BitVec 32 := 2#32
  let c0_i32_55 : BitVec 32 := 0#32
  let v85 : BitVec 1 := Scalar.cmpi .eq c2_i32 c0_i32_55
  let c1_i32_56 : BitVec 32 := 1#32
  let v86 : BitVec 32 := Scalar.select v85 c1_i32_56 c2_i32
  let v87 : BitVec 32 := Scalar.remsi arg6 v86
  let c0_i32_58 : BitVec 32 := 0#32
  let v89 : BitVec 1 := Scalar.cmpi .slt v87 c0_i32_58
  let c0_i32_59 : BitVec 32 := 0#32
  let v90 : BitVec 1 := Scalar.cmpi .slt v86 c0_i32_59
  let v91 : BitVec 1 := Scalar.xori v89 v90
  let c0_i32_57 : BitVec 32 := 0#32
  let v88 : BitVec 1 := Scalar.cmpi .ne v87 c0_i32_57
  let v92 : BitVec 1 := Scalar.andi v91 v88
  let v93 : BitVec 32 := Scalar.addi v87 v86
  let v94 : BitVec 32 := Scalar.select v92 v93 v87
  let v121 : Index := Scalar.indexCast v94
  let c128_68 : Index := 128#32
  let c128_69 : Index := 128#32
  ![v121.toNat, 128, 0, 128]
def k0_off7 (k0_t1 : Fin k0_t1_loop.trips) : Fin 2 → Nat :=
  let c1_i32 : BitVec 32 := 1#32
  let c1_i32_21 : BitVec 32 := 1#32
  let arg6 : BitVec 32 := Scf.iv c1_i32 c1_i32_21 k0_t1
  let c256_i32 : BitVec 32 := 256#32
  let v83 : BitVec 32 := Scalar.muli arg6 c256_i32
  let v84 : BitVec 32 := v83
  let v125 : Index := Scalar.indexCast v84
  let c512_70 : Index := 512#32
  ![v125.toNat, 512]
def k0_off8 (k0_t1 : Fin k0_t1_loop.trips) : Fin 4 → Nat :=
  let c1_i32 : BitVec 32 := 1#32
  let c1_i32_21 : BitVec 32 := 1#32
  let arg6 : BitVec 32 := Scf.iv c1_i32 c1_i32_21 k0_t1
  let c2_i32 : BitVec 32 := 2#32
  let c0_i32_55 : BitVec 32 := 0#32
  let v85 : BitVec 1 := Scalar.cmpi .eq c2_i32 c0_i32_55
  let c1_i32_56 : BitVec 32 := 1#32
  let v86 : BitVec 32 := Scalar.select v85 c1_i32_56 c2_i32
  let v87 : BitVec 32 := Scalar.remsi arg6 v86
  let c0_i32_58 : BitVec 32 := 0#32
  let v89 : BitVec 1 := Scalar.cmpi .slt v87 c0_i32_58
  let c0_i32_59 : BitVec 32 := 0#32
  let v90 : BitVec 1 := Scalar.cmpi .slt v86 c0_i32_59
  let v91 : BitVec 1 := Scalar.xori v89 v90
  let c0_i32_57 : BitVec 32 := 0#32
  let v88 : BitVec 1 := Scalar.cmpi .ne v87 c0_i32_57
  let v92 : BitVec 1 := Scalar.andi v91 v88
  let v93 : BitVec 32 := Scalar.addi v87 v86
  let v94 : BitVec 32 := Scalar.select v92 v93 v87
  let v130 : Index := Scalar.indexCast v94
  let c256_71 : Index := 256#32
  let c0_72 : Index := 0#32
  ![v130.toNat, 256, 0, 0]
def k0_off9 (k0_t1 : Fin k0_t1_loop.trips) : Fin 4 → Nat :=
  let c1_i32 : BitVec 32 := 1#32
  let c1_i32_21 : BitVec 32 := 1#32
  let arg6 : BitVec 32 := Scf.iv c1_i32 c1_i32_21 k0_t1
  let c2_i32 : BitVec 32 := 2#32
  let c0_i32_55 : BitVec 32 := 0#32
  let v85 : BitVec 1 := Scalar.cmpi .eq c2_i32 c0_i32_55
  let c1_i32_56 : BitVec 32 := 1#32
  let v86 : BitVec 32 := Scalar.select v85 c1_i32_56 c2_i32
  let v87 : BitVec 32 := Scalar.remsi arg6 v86
  let c0_i32_58 : BitVec 32 := 0#32
  let v89 : BitVec 1 := Scalar.cmpi .slt v87 c0_i32_58
  let c0_i32_59 : BitVec 32 := 0#32
  let v90 : BitVec 1 := Scalar.cmpi .slt v86 c0_i32_59
  let v91 : BitVec 1 := Scalar.xori v89 v90
  let c0_i32_57 : BitVec 32 := 0#32
  let v88 : BitVec 1 := Scalar.cmpi .ne v87 c0_i32_57
  let v92 : BitVec 1 := Scalar.andi v91 v88
  let v93 : BitVec 32 := Scalar.addi v87 v86
  let v94 : BitVec 32 := Scalar.select v92 v93 v87
  let v136 : Index := Scalar.indexCast v94
  let c256_73 : Index := 256#32
  let c128_74 : Index := 128#32
  ![v136.toNat, 256, 0, 128]
def k0_mult2 (k0_t1 : Fin k0_t1_loop.trips) : BitVec 32 :=
  let c1_i32 : BitVec 32 := 1#32
  let c1_i32_21 : BitVec 32 := 1#32
  let arg6 : BitVec 32 := Scf.iv c1_i32 c1_i32_21 k0_t1
  let c256_i32 : BitVec 32 := 256#32
  let v83 : BitVec 32 := Scalar.muli arg6 c256_i32
  let v84 : BitVec 32 := v83
  let c256_i32_75 : BitVec 32 := 256#32
  let v140 : BitVec 32 := Scalar.subi v84 c256_i32_75
  v140
def k0_off10 (k0_t1 : Fin k0_t1_loop.trips) : Fin 2 → Nat :=
  let c0_83 : Index := 0#32
  let c1_i32 : BitVec 32 := 1#32
  let c1_i32_21 : BitVec 32 := 1#32
  let arg6 : BitVec 32 := Scf.iv c1_i32 c1_i32_21 k0_t1
  let c256_i32 : BitVec 32 := 256#32
  let v83 : BitVec 32 := Scalar.muli arg6 c256_i32
  let v84 : BitVec 32 := v83
  let c256_i32_75 : BitVec 32 := 256#32
  let v140 : BitVec 32 := Scalar.subi v84 c256_i32_75
  let v141 : BitVec 32 := v140
  let v153 : Index := Scalar.indexCast v141
  ![0, v153.toNat]
def k0_off11 (k0_t1 : Fin k0_t1_loop.trips) : Fin 4 → Nat :=
  let c1_i32 : BitVec 32 := 1#32
  let c1_i32_21 : BitVec 32 := 1#32
  let arg6 : BitVec 32 := Scf.iv c1_i32 c1_i32_21 k0_t1
  let c1_i32_76 : BitVec 32 := 1#32
  let v142 : BitVec 32 := Scalar.addi arg6 c1_i32_76
  let c2_i32_77 : BitVec 32 := 2#32
  let c0_i32_78 : BitVec 32 := 0#32
  let v143 : BitVec 1 := Scalar.cmpi .eq c2_i32_77 c0_i32_78
  let c1_i32_79 : BitVec 32 := 1#32
  let v144 : BitVec 32 := Scalar.select v143 c1_i32_79 c2_i32_77
  let v145 : BitVec 32 := Scalar.remsi v142 v144
  let c0_i32_81 : BitVec 32 := 0#32
  let v147 : BitVec 1 := Scalar.cmpi .slt v145 c0_i32_81
  let c0_i32_82 : BitVec 32 := 0#32
  let v148 : BitVec 1 := Scalar.cmpi .slt v144 c0_i32_82
  let v149 : BitVec 1 := Scalar.xori v147 v148
  let c0_i32_80 : BitVec 32 := 0#32
  let v146 : BitVec 1 := Scalar.cmpi .ne v145 c0_i32_80
  let v150 : BitVec 1 := Scalar.andi v149 v146
  let v151 : BitVec 32 := Scalar.addi v145 v144
  let v152 : BitVec 32 := Scalar.select v150 v151 v145
  let v157 : Index := Scalar.indexCast v152
  let c0_86 : Index := 0#32
  let c0_87 : Index := 0#32
  ![v157.toNat, 0, 0, 0]
def k0_cond2 (i : grid0.Coords) : BitVec 1 :=
  let arg0 : BitVec 32 := BitVec.ofNat 32 (i 0).val
  let c10_i32_53 : BitVec 32 := 10#32
  let v80 : BitVec 1 := Scalar.cmpi .eq arg0 c10_i32_53
  let v81 : BitVec 32 := Scalar.extui v80
  let c0_i32_54 : BitVec 32 := 0#32
  let v82 : BitVec 1 := Scalar.cmpi .ne v81 c0_i32_54
  v82

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S2880x768 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S384x768 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S768x2880 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]
-- ==== ReferenceDxIdeal.lean ====
abbrev S2880x8448 : Shape := ⟨2, ![2880, 8448]⟩
abbrev S384x8448 : Shape := ⟨2, ![384, 8448]⟩
abbrev S768x2880 : Shape := ⟨2, ![768, 2880]⟩
abbrev S768x8448 : Shape := ⟨2, ![768, 8448]⟩

abbrev nBuf : Space → Nat
  | .hbm => 3
  | .vmem => 3
  | .smem => 0
  | _ => 0

abbrev bufTy : (tb : Table) → Fin (tcTables nBuf tb) → BufTy
  | .hbm, ⟨0, _⟩ => ⟨S2880x8448, .bf16⟩
  | .hbm, ⟨1, _⟩ => ⟨S384x8448, .i32⟩
  | .hbm, ⟨2, _⟩ => ⟨S768x2880, .bf16⟩
  | .local _ .vmem, ⟨0, _⟩ => ⟨S2880x8448, .bf16⟩
  | .local _ .vmem, ⟨1, _⟩ => ⟨S384x8448, .i32⟩
  | .local _ .vmem, ⟨2, _⟩ => ⟨S768x2880, .bf16⟩
  | _, _ => ⟨S2880x8448, .bf16⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := .none

abbrev stage0_0 : Fin 1 → Memref sig .tc .vmem S2880x8448 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S384x8448 .i32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S768x2880 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== Proof.DwFrame.lean ====
module

public import proofs.«01_k».proof.Proof.Gen.Dw.Frame
public import proofs.«01_k».proof.Proof.Gen.Dw.Skeleton
public import proofs.«01_k».proof.Proof.Gen.Dw.Loops
public import Idealize.ShloMosaic.Lib.Pipeline.Frame
public import Idealize.ShloMosaic.Lib.Tactic

@[expose] public section

set_option maxRecDepth 16384

noncomputable section

namespace Cert.Proof.Dw

open Cert.Dw Cert.Dw.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [BitOps F]

local notation "𝕄" => MT nD τ sig Unit (Elt F) ℕ (UR sig nD τ) ℕ

/-! ## Where the kernel's rectangles lie -/

theorem off3_eq : ∀ i k (r : Fin 8) (s : Fin 2), k0_off3 i k (BitVec.ofNat 32 (16 * r.val)) (BitVec.ofNat 32 (128 * s.val))
    = ![(i 0).val % 2, 128 * (k.val / 3) + 16 * r.val, 256 * (k.val % 3) + 128 * s.val] := by decide +kernel
instance (i k : _) : ClosedOff (k0_off3 i k 0#32 0#32) := ⟨![(i 0).val % 2, 128 * (k.val / 3) + 0, 256 * (k.val % 3) + 0], off3_eq i k 0 0⟩
instance (i k : _) : ClosedOff (k0_off3 i k 16#32 0#32) := ⟨![(i 0).val % 2, 128 * (k.val / 3) + 16, 256 * (k.val % 3) + 0], off3_eq i k 1 0⟩
instance (i k : _) : ClosedOff (k0_off3 i k 32#32 0#32) := ⟨![(i 0).val % 2, 128 * (k.val / 3) + 32, 256 * (k.val % 3) + 0], off3_eq i k 2 0⟩
instance (i k : _) : ClosedOff (k0_off3 i k 48#32 0#32) := ⟨![(i 0).val % 2, 128 * (k.val / 3) + 48, 256 * (k.val % 3) + 0], off3_eq i k 3 0⟩
instance (i k : _) : ClosedOff (k0_off3 i k 64#32 0#32) := ⟨![(i 0).val % 2, 128 * (k.val / 3) + 64, 256 * (k.val % 3) + 0], off3_eq i k 4 0⟩
instance (i k : _) : ClosedOff (k0_off3 i k 80#32 0#32) := ⟨![(i 0).val % 2, 128 * (k.val / 3) + 80, 256 * (k.val % 3) + 0], off3_eq i k 5 0⟩
instance (i k : _) : ClosedOff (k0_off3 i k 96#32 0#32) := ⟨![(i 0).val % 2, 128 * (k.val / 3) + 96, 256 * (k.val % 3) + 0], off3_eq i k 6 0⟩
instance (i k : _) : ClosedOff (k0_off3 i k 112#32 0#32) := ⟨![(i 0).val % 2, 128 * (k.val / 3) + 112, 256 * (k.val % 3) + 0], off3_eq i k 7 0⟩
instance (i k : _) : ClosedOff (k0_off3 i k 0#32 128#32) := ⟨![(i 0).val % 2, 128 * (k.val / 3) + 0, 256 * (k.val % 3) + 128], off3_eq i k 0 1⟩
instance (i k : _) : ClosedOff (k0_off3 i k 16#32 128#32) := ⟨![(i 0).val % 2, 128 * (k.val / 3) + 16, 256 * (k.val % 3) + 128], off3_eq i k 1 1⟩
instance (i k : _) : ClosedOff (k0_off3 i k 32#32 128#32) := ⟨![(i 0).val % 2, 128 * (k.val / 3) + 32, 256 * (k.val % 3) + 128], off3_eq i k 2 1⟩
instance (i k : _) : ClosedOff (k0_off3 i k 48#32 128#32) := ⟨![(i 0).val % 2, 128 * (k.val / 3) + 48, 256 * (k.val % 3) + 128], off3_eq i k 3 1⟩
instance (i k : _) : ClosedOff (k0_off3 i k 64#32 128#32) := ⟨![(i 0).val % 2, 128 * (k.val / 3) + 64, 256 * (k.val % 3) + 128], off3_eq i k 4 1⟩
instance (i k : _) : ClosedOff (k0_off3 i k 80#32 128#32) := ⟨![(i 0).val % 2, 128 * (k.val / 3) + 80, 256 * (k.val % 3) + 128], off3_eq i k 5 1⟩
instance (i k : _) : ClosedOff (k0_off3 i k 96#32 128#32) := ⟨![(i 0).val % 2, 128 * (k.val / 3) + 96, 256 * (k.val % 3) + 128], off3_eq i k 6 1⟩
instance (i k : _) : ClosedOff (k0_off3 i k 112#32 128#32) := ⟨![(i 0).val % 2, 128 * (k.val / 3) + 112, 256 * (k.val % 3) + 128], off3_eq i k 7 1⟩
theorem off6_eq : ∀ i k (r : Fin 8) (s : Fin 2), k0_off6 i k (BitVec.ofNat 32 (16 * r.val)) (BitVec.ofNat 32 (128 * s.val))
    = ![(i 0).val % 2, 128 * (k.val / 3) + 16 * r.val, 256 * (k.val % 3) + 128 * s.val] := by decide +kernel
instance (i k : _) : ClosedOff (k0_off6 i k 0#32 0#32) := ⟨![(i 0).val % 2, 128 * (k.val / 3) + 0, 256 * (k.val % 3) + 0], off6_eq i k 0 0⟩
instance (i k : _) : ClosedOff (k0_off6 i k 16#32 0#32) := ⟨![(i 0).val % 2, 128 * (k.val / 3) + 16, 256 * (k.val % 3) + 0], off6_eq i k 1 0⟩
instance (i k : _) : ClosedOff (k0_off6 i k 32#32 0#32) := ⟨![(i 0).val % 2, 128 * (k.val / 3) + 32, 256 * (k.val % 3) + 0], off6_eq i k 2 0⟩
instance (i k : _) : ClosedOff (k0_off6 i k 48#32 0#32) := ⟨![(i 0).val % 2, 128 * (k.val / 3) + 48, 256 * (k.val % 3) + 0], off6_eq i k 3 0⟩
instance (i k : _) : ClosedOff (k0_off6 i k 64#32 0#32) := ⟨![(i 0).val % 2, 128 * (k.val / 3) + 64, 256 * (k.val % 3) + 0], off6_eq i k 4 0⟩
instance (i k : _) : ClosedOff (k0_off6 i k 80#32 0#32) := ⟨![(i 0).val % 2, 128 * (k.val / 3) + 80, 256 * (k.val % 3) + 0], off6_eq i k 5 0⟩
instance (i k : _) : ClosedOff (k0_off6 i k 96#32 0#32) := ⟨![(i 0).val % 2, 128 * (k.val / 3) + 96, 256 * (k.val % 3) + 0], off6_eq i k 6 0⟩
instance (i k : _) : ClosedOff (k0_off6 i k 112#32 0#32) := ⟨![(i 0).val % 2, 128 * (k.val / 3) + 112, 256 * (k.val % 3) + 0], off6_eq i k 7 0⟩
instance (i k : _) : ClosedOff (k0_off6 i k 0#32 128#32) := ⟨![(i 0).val % 2, 128 * (k.val / 3) + 0, 256 * (k.val % 3) + 128], off6_eq i k 0 1⟩
instance (i k : _) : ClosedOff (k0_off6 i k 16#32 128#32) := ⟨![(i 0).val % 2, 128 * (k.val / 3) + 16, 256 * (k.val % 3) + 128], off6_eq i k 1 1⟩
instance (i k : _) : ClosedOff (k0_off6 i k 32#32 128#32) := ⟨![(i 0).val % 2, 128 * (k.val / 3) + 32, 256 * (k.val % 3) + 128], off6_eq i k 2 1⟩
instance (i k : _) : ClosedOff (k0_off6 i k 48#32 128#32) := ⟨![(i 0).val % 2, 128 * (k.val / 3) + 48, 256 * (k.val % 3) + 128], off6_eq i k 3 1⟩
instance (i k : _) : ClosedOff (k0_off6 i k 64#32 128#32) := ⟨![(i 0).val % 2, 128 * (k.val / 3) + 64, 256 * (k.val % 3) + 128], off6_eq i k 4 1⟩
instance (i k : _) : ClosedOff (k0_off6 i k 80#32 128#32) := ⟨![(i 0).val % 2, 128 * (k.val / 3) + 80, 256 * (k.val % 3) + 128], off6_eq i k 5 1⟩
instance (i k : _) : ClosedOff (k0_off6 i k 96#32 128#32) := ⟨![(i 0).val % 2, 128 * (k.val / 3) + 96, 256 * (k.val % 3) + 128], off6_eq i k 6 1⟩
instance (i k : _) : ClosedOff (k0_off6 i k 112#32 128#32) := ⟨![(i 0).val % 2, 128 * (k.val / 3) + 112, 256 * (k.val % 3) + 128], off6_eq i k 7 1⟩
theorem off8_eq : ∀ i, k0_off8 i = ![1 - (i 0).val % 2, 0, 0] := by decide +kernel
instance (i : _) : ClosedOff (k0_off8 i) := ⟨_, off8_eq i⟩
theorem off11_eq : ∀ i, k0_off11 i = ![1 - (i 0).val % 2, 0, 0] := by decide +kernel
instance (i : _) : ClosedOff (k0_off11 i) := ⟨_, off11_eq i⟩

/-! ## The loops: what they may leave in the buffers that they write is left open -/

abbrev UU (nD : Nat) (τ : Topo) : Type := UR sig nD τ
abbrev 𝒱₀ : Variants := Variants.none

set_option warn.classDefReducibility false in
/-- The loop of the first step, which only fills. -/
@[sl_loop] noncomputable def loopInv_k0_t1 (c : Dev nD)
    (i : grid0.Coords) (arg1 : Memref sig .tc .vmem S192x768 .i32) (harg1 : arg1.IsWhole) (arg2 : Memref sig .tc .vmem S6x8x768 .fp8e4m3) (harg2 : arg2.IsWhole) (arg3 : Memref sig .tc .vmem S1x1 .f32) (harg3 : arg3.IsWhole) (arg4 : Memref sig .tc .vmem S1440x768 .i32) (harg4 : arg4.IsWhole) (arg5 : Memref sig .tc .vmem S2880x768 .f32) (harg5 : arg5.IsWhole) (arg6 : Memref sig .tc .vmem S2x384x768 .i32) (harg6 : arg6.IsWhole) (arg7 : Memref sig .tc .vmem S2x2x16x128 .i32) (harg7 : arg7.IsWhole) (v9 : BitVec 32) (v10 : Vec F S1x1 .f32) (k0_h1 : k0_cond1 i = 1#1)
    (X1 : BufTy.Contents (Elt F) arg1.view.ty) (X2 : BufTy.Contents (Elt F) arg2.view.ty) :
    Cert.Dw.Gen.LoopInvTy_k0_t1 (F := F) Unit ℕ (UU nD τ) ℕ 𝒱₀ c none Set.univ i arg1 harg1 arg2 harg2 arg3 harg3 arg4 harg4 arg5 harg5 arg6 harg6 arg7 harg7 v9 v10 k0_h1 where
  inv := fun k acc => iprop((arg1.view.loc (c : Thread nD τ) ↦[arg1.view.set]{fullShare} X1) ∗ (arg2.view.loc (c : Thread nD τ) ↦[arg2.view.set]{fullShare} X2)
    ∗ (∃ f, arg6.view.loc (c : Thread nD τ) ↦[arg6.view.set]{fullShare} f) ∗ (∃ f, arg7.view.loc (c : Thread nD τ) ↦[arg7.view.set]{fullShare} f))
  step := fun k acc => by
    unfold Gen.k0_t1_body
    iintro ⟨H1, H2, ⟨%f6, H6⟩, ⟨%f7, H7⟩⟩
    sl_exec
    sl_step
    sl_close

set_option warn.classDefReducibility false in
/-- The loop of the steps between, which fills one slot and multiplies by the other. -/
@[sl_loop] noncomputable def loopInv_k0_t2 (c : Dev nD)
    (i : grid0.Coords) (arg1 : Memref sig .tc .vmem S192x768 .i32) (harg1 : arg1.IsWhole) (arg2 : Memref sig .tc .vmem S6x8x768 .fp8e4m3) (harg2 : arg2.IsWhole) (arg3 : Memref sig .tc .vmem S1x1 .f32) (harg3 : arg3.IsWhole) (arg4 : Memref sig .tc .vmem S1440x768 .i32) (harg4 : arg4.IsWhole) (arg5 : Memref sig .tc .vmem S2880x768 .f32) (harg5 : arg5.IsWhole) (arg6 : Memref sig .tc .vmem S2x384x768 .i32) (harg6 : arg6.IsWhole) (arg7 : Memref sig .tc .vmem S2x2x16x128 .i32) (harg7 : arg7.IsWhole) (v9 : BitVec 32) (v10 : Vec F S1x1 .f32) (k0_h2 : k0_cond2 i = 1#1)
    (X1 : BufTy.Contents (Elt F) arg1.view.ty) (X2 : BufTy.Contents (Elt F) arg2.view.ty) (X4 : BufTy.Contents (Elt F) arg4.view.ty) :
    Cert.Dw.Gen.LoopInvTy_k0_t2 (F := F) Unit ℕ (UU nD τ) ℕ 𝒱₀ c none Set.univ i arg1 harg1 arg2 harg2 arg3 harg3 arg4 harg4 arg5 harg5 arg6 harg6 arg7 harg7 v9 v10 k0_h2 where
  inv := fun k acc => iprop((arg1.view.loc (c : Thread nD τ) ↦[arg1.view.set]{fullShare} X1) ∗ (arg2.view.loc (c : Thread nD τ) ↦[arg2.view.set]{fullShare} X2) ∗ (arg4.view.loc (c : Thread nD τ) ↦[arg4.view.set]{fullShare} X4)
    ∗ (∃ f, arg5.view.loc (c : Thread nD τ) ↦[arg5.view.set]{fullShare} f) ∗ (∃ f, arg6.view.loc (c : Thread nD τ) ↦[arg6.view.set]{fullShare} f) ∗ (∃ f, arg7.view.loc (c : Thread nD τ) ↦[arg7.view.set]{fullShare} f))
  step := fun k acc => by
    unfold Gen.k0_t2_body
    iintro ⟨H1, H2, H4, ⟨%f5, H5⟩, ⟨%f6, H6⟩, ⟨%f7, H7⟩⟩
    sl_exec
    sl_step
    sl_close

/-! ## The body, run once -/

/-- The kernel's body from its five windows and the scratches at any contents, for any continuation: it runs to its return and
    leaves the four inputs as they were. -/
theorem kernelRun (c : Dev nD) (i : grid0.Coords) (arg1 : Memref sig .tc .vmem S192x768 .i32) (harg1 : arg1.IsWhole) (arg2 : Memref sig .tc .vmem S6x8x768 .fp8e4m3) (harg2 : arg2.IsWhole) (arg3 : Memref sig .tc .vmem S1x1 .f32) (harg3 : arg3.IsWhole) (arg4 : Memref sig .tc .vmem S1440x768 .i32) (harg4 : arg4.IsWhole) (arg5 : Memref sig .tc .vmem S2880x768 .f32) (harg5 : arg5.IsWhole) (arg6 : Memref sig .tc .vmem S2x384x768 .i32) (harg6 : arg6.IsWhole) (arg7 : Memref sig .tc .vmem S2x2x16x128 .i32) (harg7 : arg7.IsWhole)
    (X1 : S192x768.Idx → Elt F .i32) (X2 : S6x8x768.Idx → Elt F .fp8e4m3) (X3 : S1x1.Idx → Elt F .f32) (X4 : S1440x768.Idx → Elt F .i32)
    (K : PUnit → sProp 𝕄) :
    iprop(owns (c : Thread nD τ) arg1 fullShare X1 ∗ owns (c : Thread nD τ) arg2 fullShare X2 ∗ owns (c : Thread nD τ) arg3 fullShare X3 ∗ owns (c : Thread nD τ) arg4 fullShare X4
        ∗ (∃ d, owns (c : Thread nD τ) arg5 fullShare d) ∗ (∃ d, owns (c : Thread nD τ) arg6 fullShare d) ∗ (∃ d, owns (c : Thread nD τ) arg7 fullShare d)
        ∗ (iprop(owns (c : Thread nD τ) arg1 fullShare X1 ∗ owns (c : Thread nD τ) arg2 fullShare X2 ∗ owns (c : Thread nD τ) arg3 fullShare X3 ∗ owns (c : Thread nD τ) arg4 fullShare X4
            ∗ (∃ d, owns (c : Thread nD τ) arg5 fullShare d) ∗ (∃ d, owns (c : Thread nD τ) arg6 fullShare d) ∗ (∃ d, owns (c : Thread nD τ) arg7 fullShare d)) -∗ K ⟨⟩))
      ⊢ wp frame (wpE (defs₀ (F := F)) Variants.none c none) Set.univ
          (cc0_dw i arg1 harg1 arg2 harg2 arg3 harg3 arg4 harg4 arg5 harg5 arg6 harg6 arg7 harg7) K := by
  simp only [cc0_dw_eq_skeleton]; unfold cc0_dw_skel
  unfold owns
  iintro ⟨⟨%f1, %h1, H1⟩, ⟨%f2, %h2, H2⟩, ⟨%f3, %h3, H3⟩, ⟨%f4, %h4, H4⟩, ⟨%d5, %f5, -, H5⟩, ⟨%d6, %f6, -, H6⟩, ⟨%d7, %f7, -, H7⟩, Hk⟩
  by_cases hc1 : k0_cond1 i = 1#1 <;> by_cases hc2 : k0_cond2 i = 1#1 <;> by_cases hc3 : k0_cond3 i = 1#1
  all_goals
    sl_exec
    sl_step
    iapply Hk
    isplitl [H1]
    · iexists _; isplitr; swap; · iexact H1
      ipureintro; exact h1
    isplitl [H2]
    · iexists _; isplitr; swap; · iexact H2
      ipureintro; exact h2
    isplitl [H3]
    · iexists _; isplitr; swap; · iexact H3
      ipureintro; exact h3
    isplitl [H4]
    · iexists _; isplitr; swap; · iexact H4
      ipureintro; exact h4
    isplitl [H5]
    · iexists _, _; isplitr; swap; · iexact H5
      ipureintro; rfl
    isplitl [H6]
    · iexists _, _; isplitr; swap; · iexact H6
      ipureintro; rfl
    iexists _, _; isplitr; swap; · iexact H7
    ipureintro; rfl

/-! ## The launch: the product is left unnamed -/

variable [∀ e, Nonempty (Elt F e)]
variable (m : (ℓ : Loc nD τ sig) → Buf (Elt F) ℓ) (ρ : Dev nD → PrngReg)

abbrev ms0_0 (t : Fin cfg0.N) : Memref sig .tc .vmem S192x768 .i32 := win0_0.stage (cfg0.slots t 0)
abbrev ms0_1 (t : Fin cfg0.N) : Memref sig .tc .vmem S6x8x768 .fp8e4m3 := win0_1.stage (cfg0.slots t 1)
abbrev ms0_2 (t : Fin cfg0.N) : Memref sig .tc .vmem S1x1 .f32 := win0_2.stage (cfg0.slots t 2)
abbrev ms0_3 (t : Fin cfg0.N) : Memref sig .tc .vmem S1440x768 .i32 := win0_3.stage (cfg0.slots t 3)
abbrev ms0_4 (t : Fin cfg0.N) : Memref sig .tc .vmem S2880x768 .f32 := win0_4.stage (cfg0.slots t 4)

def forgets0 : Fin 5 → Bool := fun w => w.val == 4

/-- The proof data: the four inputs stay their blocks, the product is unnamed, the scratches may hold anything. -/
def dats (_ : Fin 1) (c : Dev nD) : Dat τ (Elt F) Unit ℕ (UR sig nD τ) ℕ cfg0 c where
  A w := V m c (Pipeline.arrRef spec0 w)
  after w t := match w with
    | ⟨0, _⟩ => Gen.iblk m c 0 t
    | ⟨1, _⟩ => Gen.iblk m c 1 t
    | ⟨2, _⟩ => Gen.iblk m c 2 t
    | ⟨3, _⟩ => Gen.iblk m c 3 t
    | ⟨4, _⟩ => Pipeline.Dat.unnamed (cfg := cfg0) 4 t
  Φ _ := Pipeline.ΦA spec0 c
  q _ := fullShare
  owed _ := 0

theorem A_eq (c : Dev nD) (w : Fin cfg0.W) : (dats m 0 c).A w = V m c (Pipeline.arrRef spec0 w) := by dsimp only [dats]

theorem before0_0 (c : Dev nD) (t : Fin cfg0.N) (d) : (dats m 0 c).before 0 t d = Gen.iblk m c 0 t :=
  Gen.before0_0_of m (dats m 0 c) (A_eq m c 0) (fun _ => rfl) t d
theorem before0_1 (c : Dev nD) (t : Fin cfg0.N) (d) : (dats m 0 c).before 1 t d = Gen.iblk m c 1 t :=
  Gen.before0_1_of m (dats m 0 c) (A_eq m c 1) (fun _ => rfl) t d
theorem before0_2 (c : Dev nD) (t : Fin cfg0.N) (d) : (dats m 0 c).before 2 t d = Gen.iblk m c 2 t :=
  Gen.before0_2_of m (dats m 0 c) (A_eq m c 2) (fun _ => rfl) t d
theorem before0_3 (c : Dev nD) (t : Fin cfg0.N) (d) : (dats m 0 c).before 3 t d = Gen.iblk m c 3 t :=
  Gen.before0_3_of m (dats m 0 c) (A_eq m c 3) (fun _ => rfl) t d

def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare d))
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ (∃ d, owns (c : Thread nD τ) (ms0_4 t) fullShare d))

theorem PhiA0_eq (c : Dev nD) :
    (Pipeline.ΦA (U := UR sig nD τ) (Val := Elt F) (τ := τ) spec0 c : sProp 𝕄)
      = iprop(((∃ d, owns (c : Thread nD τ) (Memref.whole cc0_scratch0) fullShare d) ∗ (∃ d, owns (c : Thread nD τ) (Memref.whole cc0_scratch1) fullShare d)) ∗ (∃ r, prngReg c r)) := by
  unfold Pipeline.ΦA; rw [scopedRest0_eq]; simp only [owns_whole]; try rfl

theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  rw [show (dats m 0 c).Φ t.succ = (dats m 0 c).Φ t.castSucc from rfl,
    show (dats m 0 c).owesAt () t.succ = (dats m 0 c).owesAt () t.castSucc from rfl,
    show (dats m 0 c).Φ t.castSucc = Pipeline.ΦA spec0 c from rfl, PhiA0_eq]
  simp only [before0_0, before0_1, before0_2, before0_3]
  iintro ⟨⟨⟨HS, HT⟩, Hg⟩, HO, ⟨%_, H0⟩, ⟨%_, H1⟩, ⟨%_, H2⟩, ⟨%_, H3⟩, H4⟩
  iapply (kernelRun c _ (ms0_0 t) _ (ms0_1 t) _ (ms0_2 t) _ (ms0_3 t) _ (ms0_4 t) _ _ _ _ _ (Gen.iblk m c 0 t) (Gen.iblk m c 1 t) (Gen.iblk m c 2 t) (Gen.iblk m c 3 t) _)
  isplitl [H0]; · iexact H0
  isplitl [H1]; · iexact H1
  isplitl [H2]; · iexact H2
  isplitl [H3]; · iexact H3
  isplitl [H4]; · iexact H4
  isplitl [HS]; · iexact HS
  isplitl [HT]; · iexact HT
  iintro ⟨H0, H1, H2, H3, H4, HS, HT⟩
  isplitl [HS HT Hg]
  · isplitl [HS HT]
    · isplitl [HS]; · iexact HS
      iexact HT
    iexact Hg
  isplitl [HO]; · iexact HO
  isplitl [H0]; · iexact H0
  isplitl [H1]; · iexact H1
  isplitl [H2]; · iexact H2
  isplitl [H3]; · iexact H3
  iexact H4

theorem defs₀_row (t : Fin cfg0.N) : defs₀ (F := F) .tc cfg0.body (cfg0.bodyArgs t (cfg0.slots t)) = bodyAt0 t := by
  unfold defs₀; rw [Defs.onTc_tc]

theorem body_obligation (c : Dev nD) :
    BodyObligation (dats (F := F) m 0 c) (defs₀ (F := F)) Variants.none () Set.univ forgets0 := fun t => by
  rw [bigSep_W0, bigSep_W0, defs₀_row]
  exact triple_restated (sound_body m c t) rfl .rfl fun _ => .rfl

set_option backward.isDefEq.respectTransparency.types false in
theorem run_main :
    θ_run defs (onTc (τ := τ) (main (F := F))) (s₀ m ρ)
      (fun r => Pipeline.RDat.FramePost (cfgs 0) (fun c => (dats m 0 c).toRForget forgets0) (V m) r ∧ r.2.sem = fun _ => 0) :=
  Pipeline.RDat.θ_run_frame_track (Q' := _) cfgs (0 : Fin 1) launch0 defs₀ Variants.none (fun c => (dats m 0 c).toRForget forgets0) m ρ main
    (hbody := fun c => (body_obligation m c).loose.toRForget) (hshare := fun c => (dats m 0 c).share_full fun _ => rfl)
    (howed := fun _ _ => rfl) (V := V m) (hmain := hmain m Variants.none) (hA := A_eq m)
    (hin := fun _ => .rfl) (hout := fun _ => .rfl)

/-- The frame: every execution ends with the arguments unchanged and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  (θ_run defs _ _).mono (fun r h => ⟨fun c => ⟨h.1.arr_in c 0 rfl, h.1.arr_in c 1 rfl, h.1.arr_in c 2 rfl, h.1.arr_in c 3 rfl⟩, h.2⟩) (run_main m ρ)

end Cert.Proof.Dw
end
-- ==== Proof.DwIdealTiles.lean ====
module

public import proofs.«01_k».proof.Proof.Gen.DwIdeal.Frame
public import proofs.«01_k».proof.Proof.Gen.DwIdeal.Skeleton
public import proofs.«01_k».proof.Proof.Gen.DwIdeal.Loops
public import Idealize.ShloMosaic.Lib.Pipeline.Frame
public import Idealize.ShloMosaic.Lib.Tactic
public import Idealize.ShloMosaic.Lib.PointwiseCore
public import Idealize.ShloMosaic.Lib.WritesUnit

@[expose] public section

set_option maxRecDepth 16384

noncomputable section

namespace Cert.Proof.DwIdeal

open Cert.DwIdeal Cert.DwIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [FloatOps F]

local notation "𝕄" => MT nD τ sig Unit (Elt F) ℕ (UR sig nD τ) ℕ

/-! ## Where the kernel's rectangles lie -/

theorem off3_eq : ∀ i k (r : Fin 8) (s : Fin 2), k0_off3 i k (BitVec.ofNat 32 (16 * r.val)) (BitVec.ofNat 32 (128 * s.val))
    = ![(i 0).val % 2, 128 * (k.val / 3) + 16 * r.val, 0, 256 * (k.val % 3) + 128 * s.val] := by decide +kernel
instance (i k : _) : ClosedOff (k0_off3 i k 0#32 0#32) := ⟨![(i 0).val % 2, 128 * (k.val / 3) + 0, 0, 256 * (k.val % 3) + 0], off3_eq i k 0 0⟩
instance (i k : _) : ClosedOff (k0_off3 i k 16#32 0#32) := ⟨![(i 0).val % 2, 128 * (k.val / 3) + 16, 0, 256 * (k.val % 3) + 0], off3_eq i k 1 0⟩
instance (i k : _) : ClosedOff (k0_off3 i k 32#32 0#32) := ⟨![(i 0).val % 2, 128 * (k.val / 3) + 32, 0, 256 * (k.val % 3) + 0], off3_eq i k 2 0⟩
instance (i k : _) : ClosedOff (k0_off3 i k 48#32 0#32) := ⟨![(i 0).val % 2, 128 * (k.val / 3) + 48, 0, 256 * (k.val % 3) + 0], off3_eq i k 3 0⟩
instance (i k : _) : ClosedOff (k0_off3 i k 64#32 0#32) := ⟨![(i 0).val % 2, 128 * (k.val / 3) + 64, 0, 256 * (k.val % 3) + 0], off3_eq i k 4 0⟩
instance (i k : _) : ClosedOff (k0_off3 i k 80#32 0#32) := ⟨![(i 0).val % 2, 128 * (k.val / 3) + 80, 0, 256 * (k.val % 3) + 0], off3_eq i k 5 0⟩
instance (i k : _) : ClosedOff (k0_off3 i k 96#32 0#32) := ⟨![(i 0).val % 2, 128 * (k.val / 3) + 96, 0, 256 * (k.val % 3) + 0], off3_eq i k 6 0⟩
instance (i k : _) : ClosedOff (k0_off3 i k 112#32 0#32) := ⟨![(i 0).val % 2, 128 * (k.val / 3) + 112, 0, 256 * (k.val % 3) + 0], off3_eq i k 7 0⟩
instance (i k : _) : ClosedOff (k0_off3 i k 0#32 128#32) := ⟨![(i 0).val % 2, 128 * (k.val / 3) + 0, 0, 256 * (k.val % 3) + 128], off3_eq i k 0 1⟩
instance (i k : _) : ClosedOff (k0_off3 i k 16#32 128#32) := ⟨![(i 0).val % 2, 128 * (k.val / 3) + 16, 0, 256 * (k.val % 3) + 128], off3_eq i k 1 1⟩
instance (i k : _) : ClosedOff (k0_off3 i k 32#32 128#32) := ⟨![(i 0).val % 2, 128 * (k.val / 3) + 32, 0, 256 * (k.val % 3) + 128], off3_eq i k 2 1⟩
instance (i k : _) : ClosedOff (k0_off3 i k 48#32 128#32) := ⟨![(i 0).val % 2, 128 * (k.val / 3) + 48, 0, 256 * (k.val % 3) + 128], off3_eq i k 3 1⟩
instance (i k : _) : ClosedOff (k0_off3 i k 64#32 128#32) := ⟨![(i 0).val % 2, 128 * (k.val / 3) + 64, 0, 256 * (k.val % 3) + 128], off3_eq i k 4 1⟩
instance (i k : _) : ClosedOff (k0_off3 i k 80#32 128#32) := ⟨![(i 0).val % 2, 128 * (k.val / 3) + 80, 0, 256 * (k.val % 3) + 128], off3_eq i k 5 1⟩
instance (i k : _) : ClosedOff (k0_off3 i k 96#32 128#32) := ⟨![(i 0).val % 2, 128 * (k.val / 3) + 96, 0, 256 * (k.val % 3) + 128], off3_eq i k 6 1⟩
instance (i k : _) : ClosedOff (k0_off3 i k 112#32 128#32) := ⟨![(i 0).val % 2, 128 * (k.val / 3) + 112, 0, 256 * (k.val % 3) + 128], off3_eq i k 7 1⟩
theorem off6_eq : ∀ i k (r : Fin 8) (s : Fin 2), k0_off6 i k (BitVec.ofNat 32 (16 * r.val)) (BitVec.ofNat 32 (128 * s.val))
    = ![(i 0).val % 2, 128 * (k.val / 3) + 16 * r.val, 0, 256 * (k.val % 3) + 128 * s.val] := by decide +kernel
instance (i k : _) : ClosedOff (k0_off6 i k 0#32 0#32) := ⟨![(i 0).val % 2, 128 * (k.val / 3) + 0, 0, 256 * (k.val % 3) + 0], off6_eq i k 0 0⟩
instance (i k : _) : ClosedOff (k0_off6 i k 16#32 0#32) := ⟨![(i 0).val % 2, 128 * (k.val / 3) + 16, 0, 256 * (k.val % 3) + 0], off6_eq i k 1 0⟩
instance (i k : _) : ClosedOff (k0_off6 i k 32#32 0#32) := ⟨![(i 0).val % 2, 128 * (k.val / 3) + 32, 0, 256 * (k.val % 3) + 0], off6_eq i k 2 0⟩
instance (i k : _) : ClosedOff (k0_off6 i k 48#32 0#32) := ⟨![(i 0).val % 2, 128 * (k.val / 3) + 48, 0, 256 * (k.val % 3) + 0], off6_eq i k 3 0⟩
instance (i k : _) : ClosedOff (k0_off6 i k 64#32 0#32) := ⟨![(i 0).val % 2, 128 * (k.val / 3) + 64, 0, 256 * (k.val % 3) + 0], off6_eq i k 4 0⟩
instance (i k : _) : ClosedOff (k0_off6 i k 80#32 0#32) := ⟨![(i 0).val % 2, 128 * (k.val / 3) + 80, 0, 256 * (k.val % 3) + 0], off6_eq i k 5 0⟩
instance (i k : _) : ClosedOff (k0_off6 i k 96#32 0#32) := ⟨![(i 0).val % 2, 128 * (k.val / 3) + 96, 0, 256 * (k.val % 3) + 0], off6_eq i k 6 0⟩
instance (i k : _) : ClosedOff (k0_off6 i k 112#32 0#32) := ⟨![(i 0).val % 2, 128 * (k.val / 3) + 112, 0, 256 * (k.val % 3) + 0], off6_eq i k 7 0⟩
instance (i k : _) : ClosedOff (k0_off6 i k 0#32 128#32) := ⟨![(i 0).val % 2, 128 * (k.val / 3) + 0, 0, 256 * (k.val % 3) + 128], off6_eq i k 0 1⟩
instance (i k : _) : ClosedOff (k0_off6 i k 16#32 128#32) := ⟨![(i 0).val % 2, 128 * (k.val / 3) + 16, 0, 256 * (k.val % 3) + 128], off6_eq i k 1 1⟩
instance (i k : _) : ClosedOff (k0_off6 i k 32#32 128#32) := ⟨![(i 0).val % 2, 128 * (k.val / 3) + 32, 0, 256 * (k.val % 3) + 128], off6_eq i k 2 1⟩
instance (i k : _) : ClosedOff (k0_off6 i k 48#32 128#32) := ⟨![(i 0).val % 2, 128 * (k.val / 3) + 48, 0, 256 * (k.val % 3) + 128], off6_eq i k 3 1⟩
instance (i k : _) : ClosedOff (k0_off6 i k 64#32 128#32) := ⟨![(i 0).val % 2, 128 * (k.val / 3) + 64, 0, 256 * (k.val % 3) + 128], off6_eq i k 4 1⟩
instance (i k : _) : ClosedOff (k0_off6 i k 80#32 128#32) := ⟨![(i 0).val % 2, 128 * (k.val / 3) + 80, 0, 256 * (k.val % 3) + 128], off6_eq i k 5 1⟩
instance (i k : _) : ClosedOff (k0_off6 i k 96#32 128#32) := ⟨![(i 0).val % 2, 128 * (k.val / 3) + 96, 0, 256 * (k.val % 3) + 128], off6_eq i k 6 1⟩
instance (i k : _) : ClosedOff (k0_off6 i k 112#32 128#32) := ⟨![(i 0).val % 2, 128 * (k.val / 3) + 112, 0, 256 * (k.val % 3) + 128], off6_eq i k 7 1⟩
theorem off8_eq : ∀ i, k0_off8 i = ![1 - (i 0).val % 2, 0, 0, 0] := by decide +kernel
instance (i : _) : ClosedOff (k0_off8 i) := ⟨_, off8_eq i⟩
theorem off11_eq : ∀ i, k0_off11 i = ![1 - (i 0).val % 2, 0, 0, 0] := by decide +kernel
instance (i : _) : ClosedOff (k0_off11 i) := ⟨_, off11_eq i⟩

theorem off1_eq : ∀ k (r : Fin 8) (s : Fin 2), k0_off1 k (BitVec.ofNat 32 (8 * r.val)) (BitVec.ofNat 32 (128 * s.val))
    = ![64 * (k.val / 3) + 8 * r.val, 256 * (k.val % 3) + 128 * s.val] := by decide +kernel
theorem off2_eq : ∀ k (r : Fin 2) (s : Fin 2), k0_off2 k (BitVec.ofNat 32 r.val) (BitVec.ofNat 32 (128 * s.val))
    = ![2 * (k.val / 3) + r.val, 0, 256 * (k.val % 3) + 128 * s.val] := by decide +kernel
theorem off4_eq : ∀ k (r : Fin 8) (s : Fin 2), k0_off4 k (BitVec.ofNat 32 (8 * r.val)) (BitVec.ofNat 32 (128 * s.val))
    = ![64 * (k.val / 3) + 8 * r.val, 256 * (k.val % 3) + 128 * s.val] := by decide +kernel
theorem off5_eq : ∀ k (r : Fin 2) (s : Fin 2), k0_off5 k (BitVec.ofNat 32 r.val) (BitVec.ofNat 32 (128 * s.val))
    = ![2 * (k.val / 3) + r.val, 0, 256 * (k.val % 3) + 128 * s.val] := by decide +kernel
/-! ## What the stores put in a slot -/

/-- The scale rows as the scratch doubles them: word row `k` of 16 is row `k / 2` of the eight. -/
def doubled (d0 d1 : Vec F S1x1x8x2x128 .bf16) : Vec F S1x1x16x2x128 .bf16 := fun x =>
  if (x 2).val % 2 = 0
    then d0 (ix5 0 0 ⟨(x 2).val / 2, by have h : (x 2).val < 16 := (x 2).isLt; omega⟩ (x 3) (x 4))
    else d1 (ix5 0 0 ⟨(x 2).val / 2, by have h : (x 2).val < 16 := (x 2).isLt; omega⟩ (x 3) (x 4))

/-- After the two strided stores a load of the tile's scales reads each scale row twice. -/
theorem readAt_doubled (v : View sig .tc .vmem S2x2x16x2x128 .bf16) (f : v.ty.Contents (Elt F)) (a b : Nat)
    (L : List (View.Piece (Elt F) S2x2x16x2x128 .bf16)) (d0 d1 : Vec F S1x1x8x2x128 .bf16)
    (i : ∀ x, (![a, b, 0, 0, 0] : Fin 5 → Nat) x + S1x1x16x2x128.size x ≤ S2x2x16x2x128.size x) (i0 i1 p0 p1) :
    v.readAt (Elt F) (Rect.unit (s := S2x2x16x2x128) ![a, b, 0, 0, 0] S1x1x16x2x128.size i).toLoadRect
        (v.writes (Elt F) f
          (⟨{ off := ![a, b, 1, 0, 0], size := S1x1x8x2x128.size, stride := ![1, 1, 2, 1, 1], inb := i1, stride_pos := p1 }, d1⟩
            :: ⟨{ off := ![a, b, 0, 0, 0], size := S1x1x8x2x128.size, stride := ![1, 1, 2, 1, 1], inb := i0, stride_pos := p0 }, d0⟩ :: L))
      = doubled d0 d1 := by
  funext x
  rw [View.readAt_apply]
  have h0 : (x 0).val < 1 := (x 0).isLt
  have h1 : (x 1).val < 1 := (x 1).isLt
  have h2 : (x 2).val < 16 := (x 2).isLt
  by_cases hp : (x 2).val % 2 = 0
  · rw [View.read_writes_cons_miss (hy := ?_), View.read_writes_cons_hit_of_coords (x := ix5 0 0 ⟨(x 2).val / 2, by omega⟩ (x 3) (x 4))]
    · exact (if_pos hp).symm
    · intro y
      fin_cases y <;> simp [LoadRect.idx] <;> omega
    · intro h
      rw [LoadRect.mem_set] at h
      obtain ⟨n, -, hn⟩ := h 2
      simp [LoadRect.idx] at hn
      omega
  · rw [View.read_writes_cons_hit_of_coords (x := ix5 0 0 ⟨(x 2).val / 2, by omega⟩ (x 3) (x 4))]
    · exact (if_neg hp).symm
    · intro y
      fin_cases y <;> simp [LoadRect.idx] <;> omega

/-- Words `8 b` to `8 b + 7` of the packed codes, at column tile `c`: 32 rows of codes. -/
def wordTile (X : S192x768.Idx → Elt F .i32) (b : Fin 24) (c : Fin 6) : Vec F S8x128 .i32 := fun x =>
  X (ix2 ⟨8 * b.val + (x 0).val, by have h : (x 0).val < 8 := (x 0).isLt; omega⟩
    ⟨128 * c.val + (x 1).val, by have h : (x 1).val < 128 := (x 1).isLt; omega⟩)

/-- The scales of a group of rows at column tile `c`. -/
def scaleTile (X : S6x8x768.Idx → Elt F .fp8e4m3) (p : Fin 6) (c : Fin 6) : Vec F S1x8x128 .fp8e4m3 := fun x =>
  X (ix3 p (x 1) ⟨128 * c.val + (x 2).val, by have h : (x 2).val < 128 := (x 2).isLt; omega⟩)

/-- 32 rows of decoded values, two rows to a word, from their codes, scales and the tensor's scale. -/
def tileOf (w : Vec F S8x128 .i32) (s : Vec F S1x8x128 .fp8e4m3) (g : Vec F S1x1 .f32) : Vec F S1x16x2x128 .bf16 :=
  k0_pay10 w (doubled (k0_pay7 (k0_pay1 g) s) (k0_pay7 (k0_pay1 g) s))

/-- The decoded block, as the kernel computes it: 32 rows by 128 columns at a time. -/
def decoded (X1 : S192x768.Idx → Elt F .i32) (X2 : S6x8x768.Idx → Elt F .fp8e4m3) (g : Vec F S1x1 .f32) :
    S768x768.Idx → Elt F .bf16 := fun y =>
  tileOf (wordTile X1 ⟨(y 0).val / 32, by have h : (y 0).val < 768 := (y 0).isLt; omega⟩ ⟨(y 1).val / 128, by have h : (y 1).val < 768 := (y 1).isLt; omega⟩)
    (scaleTile X2 ⟨(y 0).val / 128, by have h : (y 0).val < 768 := (y 0).isLt; omega⟩ ⟨(y 1).val / 128, by have h : (y 1).val < 768 := (y 1).isLt; omega⟩) g
    (ix4 0 ⟨(y 0).val % 32 / 2, by omega⟩ ⟨(y 0).val % 2, by omega⟩ ⟨(y 1).val % 128, by omega⟩)

/-- Slot `s` of the double buffer holds the first `n` of the 144 tiles of `D`, 32 rows by 128 columns each, in the order of the
    loop, and everything else of the buffer is as in `G0`. -/
def Filled (s n : Nat) (D : S768x768.Idx → Elt F .bf16) (G0 G : S2x384x2x768.Idx → Elt F .bf16) : Prop :=
  ∀ (a : Fin 2) (r : Fin 384) (h : Fin 2) (c : Fin 768), G (ix4 a r h c) =
    if a.val = s ∧ 16 * (3 * (r.val / 128) + c.val / 256) + 8 * (c.val % 256 / 128) + r.val % 128 / 16 < n
      then D (ix2 ⟨2 * r.val + h.val, by omega⟩ c) else G0 (ix4 a r h c)

theorem filled_zero (s : Nat) (D : S768x768.Idx → Elt F .bf16) (G : S2x384x2x768.Idx → Elt F .bf16) : Filled s 0 D G G :=
  fun a r h c => (if_neg (by omega)).symm

/-- The same, counted in blocks of 16 tiles. -/
def FilledBlocks (s n : Nat) (D : S768x768.Idx → Elt F .bf16) (G0 G : S2x384x2x768.Idx → Elt F .bf16) : Prop :=
  Filled s (16 * n) D G0 G

theorem readAt_wordTile (v : View sig .tc .vmem S192x768 .i32) (f : v.ty.Contents (Elt F)) (b : Fin 24) (c : Fin 6)
    {o : Fin 2 → Nat} (ho : o = ![8 * b.val, 128 * c.val]) (inb : ∀ a, o a + S8x128.size a ≤ S192x768.size a) :
    v.readAt (Elt F) (Rect.unit (s := S192x768) o S8x128.size inb).toLoadRect f = wordTile (v.read (Elt F) f) b c := by
  subst ho
  funext x
  rw [View.readAt_apply]
  refine congrArg (v.read (Elt F) f) ?_
  refine (eq_ix2 _).trans (congr (congrArg ix2 ?_) ?_) <;> apply Fin.ext <;> simp [LoadRect.idx]

theorem readAt_scaleTile (v : View sig .tc .vmem S6x8x768 .fp8e4m3) (f : v.ty.Contents (Elt F)) (p : Fin 6) (c : Fin 6)
    {o : Fin 3 → Nat} (ho : o = ![p.val, 0, 128 * c.val]) (inb : ∀ a, o a + S1x8x128.size a ≤ S6x8x768.size a) :
    v.readAt (Elt F) (Rect.unit (s := S6x8x768) o S1x8x128.size inb).toLoadRect f = scaleTile (v.read (Elt F) f) p c := by
  subst ho
  funext x
  rw [View.readAt_apply]
  refine congrArg (v.read (Elt F) f) ?_
  have hx0 : (x 0).val < 1 := (x 0).isLt
  refine (eq_ix3 _).trans (congr (congr (congrArg ix3 ?_) ?_) ?_) <;> apply Fin.ext <;> simp [LoadRect.idx] <;> omega

section Step

variable (v : View sig .tc .vmem S2x384x2x768 .bf16) (f : v.ty.Contents (Elt F))

/-- One store puts the next tile there. -/
theorem filled_step {D : S768x768.Idx → Elt F .bf16} {G0 : S2x384x2x768.Idx → Elt F .bf16} {s k n : Nat} (hk : k < 9) (hn : n < 16)
    {o : Fin 4 → Nat} (ho : o = ![s, 128 * (k / 3) + 16 * (n % 8), 0, 256 * (k % 3) + 128 * (n / 8)])
    (inb : ∀ a, o a + S1x16x2x128.size a ≤ S2x384x2x768.size a) (w : S1x16x2x128.Idx → Elt F .bf16)
    (L : List (View.Piece (Elt F) S2x384x2x768 .bf16))
    (hw : ∀ (a : Fin 1) (r : Fin 16) (h : Fin 2) (c : Fin 128), w (ix4 a r h c)
      = D (ix2 ⟨256 * (k / 3) + 32 * (n % 8) + 2 * r.val + h.val, by omega⟩ ⟨256 * (k % 3) + 128 * (n / 8) + c.val, by omega⟩))
    (hF : Filled s (16 * k + n) D G0 (v.read (Elt F) (v.writes (Elt F) f L))) :
    Filled s (16 * k + n + 1) D G0 (v.read (Elt F) (v.writes (Elt F) f (⟨Rect.unit (s := S2x384x2x768) o S1x16x2x128.size inb, w⟩ :: L))) := by
  intro a r h c
  rw [View.read_writes_cons_unit v f inb w _ _ ho]
  split
  · rename_i hh
    have e0 := hh 0; have e1 := hh 1; have e2 := hh 2; have e3 := hh 3
    simp at e0 e1 e2 e3
    refine (congrArg w (eq_ix4 _)).trans ((hw _ _ _ _).trans ?_)
    rw [if_pos (by omega)]
    refine congrArg D ?_
    rw [ix2_inj]
    constructor <;> ext <;> simp [Rect.unitLocal_val] <;> omega
  · rename_i hn0
    rw [hF a r h c]
    simp [Fin.forall_fin_succ] at hn0
    refine if_congr ?_ rfl rfl
    omega

/-- The first `n` of sixteen stores, the latest first. -/
def pieces (P : Fin 16 → View.Piece (Elt F) S2x384x2x768 .bf16) : (n : Nat) → n ≤ 16 → List (View.Piece (Elt F) S2x384x2x768 .bf16)
  | 0, _ => []
  | n + 1, h => P ⟨n, h⟩ :: pieces P n (Nat.le_of_succ_le h)

/-- One trip's sixteen stores put the next block of 256 by 256 there. -/
theorem filled_trip {D : S768x768.Idx → Elt F .bf16} {G0 : S2x384x2x768.Idx → Elt F .bf16} {s k : Nat} (hk : k < 9)
    {o : Fin 16 → Fin 4 → Nat} (ho : ∀ n, o n = ![s, 128 * (k / 3) + 16 * (n.val % 8), 0, 256 * (k % 3) + 128 * (n.val / 8)])
    (inb : ∀ n a, o n a + S1x16x2x128.size a ≤ S2x384x2x768.size a) (w : Fin 16 → S1x16x2x128.Idx → Elt F .bf16)
    (hw : ∀ (n : Fin 16) (a : Fin 1) (r : Fin 16) (h : Fin 2) (c : Fin 128), w n (ix4 a r h c)
      = D (ix2 ⟨256 * (k / 3) + 32 * (n.val % 8) + 2 * r.val + h.val, by omega⟩ ⟨256 * (k % 3) + 128 * (n.val / 8) + c.val, by omega⟩))
    (hF : Filled s (16 * k) D G0 (v.read (Elt F) f)) :
    Filled s (16 * (k + 1)) D G0 (v.read (Elt F) (v.writes (Elt F) f
      (pieces (fun n => ⟨Rect.unit (s := S2x384x2x768) (o n) S1x16x2x128.size (inb n), w n⟩) 16 (le_refl 16)))) := by
  have h : ∀ n (hn : n ≤ 16), Filled s (16 * k + n) D G0 (v.read (Elt F) (v.writes (Elt F) f
      (pieces (fun n => ⟨Rect.unit (s := S2x384x2x768) (o n) S1x16x2x128.size (inb n), w n⟩) n hn))) := by
    intro n
    induction n with
    | zero => exact fun _ => hF
    | succ n ih => exact fun hn => filled_step v f hk hn (ho ⟨n, hn⟩) (inb ⟨n, hn⟩) _ _ (hw ⟨n, hn⟩) (ih (Nat.le_of_succ_le hn))
  exact h 16 (le_refl 16)

end Step

theorem tileOf_congr (X1 : S192x768.Idx → Elt F .i32) (X2 : S6x8x768.Idx → Elt F .fp8e4m3) (g : Vec F S1x1 .f32)
    {b b' : Fin 24} {c c' p p' d d' : Fin 6} {x x' : S1x16x2x128.Idx} (hb : b = b') (hc : c = c') (hp : p = p') (hd : d = d') (hx : x = x') :
    tileOf (wordTile X1 b c) (scaleTile X2 p d) g x = tileOf (wordTile X1 b' c') (scaleTile X2 p' d') g x' := by
  subst hb hc hp hd hx; rfl

/-- A tile of the decoded block, from loads of its codes and scales. -/
theorem tile_eq (v1 : View sig .tc .vmem S192x768 .i32) (f1 : v1.ty.Contents (Elt F)) (v2 : View sig .tc .vmem S6x8x768 .fp8e4m3)
    (f2 : v2.ty.Contents (Elt F)) (g : Vec F S1x1 .f32) {k : Nat} (hk : k < 9) (n : Fin 16) {o1 : Fin 2 → Nat} {o2 : Fin 3 → Nat}
    (h1 : o1 = ![64 * (k / 3) + 8 * (n.val % 8), 256 * (k % 3) + 128 * (n.val / 8)])
    (h2 : o2 = ![2 * (k / 3) + n.val % 8 / 4, 0, 256 * (k % 3) + 128 * (n.val / 8)])
    (i1 : ∀ a, o1 a + S8x128.size a ≤ S192x768.size a) (i2 : ∀ a, o2 a + S1x8x128.size a ≤ S6x8x768.size a)
    (a : Fin 1) (r : Fin 16) (h : Fin 2) (c : Fin 128) :
    tileOf (v1.readAt (Elt F) (Rect.unit (s := S192x768) o1 S8x128.size i1).toLoadRect f1)
        (v2.readAt (Elt F) (Rect.unit (s := S6x8x768) o2 S1x8x128.size i2).toLoadRect f2) g (ix4 a r h c)
      = decoded (v1.read (Elt F) f1) (v2.read (Elt F) f2) g
        (ix2 ⟨256 * (k / 3) + 32 * (n.val % 8) + 2 * r.val + h.val, by omega⟩ ⟨256 * (k % 3) + 128 * (n.val / 8) + c.val, by omega⟩) := by
  rw [readAt_wordTile v1 f1 ⟨8 * (k / 3) + n.val % 8, by omega⟩ ⟨2 * (k % 3) + n.val / 8, by omega⟩
      (h1.trans (by funext y; fin_cases y <;> simp <;> omega)),
    readAt_scaleTile v2 f2 ⟨2 * (k / 3) + n.val % 8 / 4, by omega⟩ ⟨2 * (k % 3) + n.val / 8, by omega⟩
      (h2.trans (by funext y; fin_cases y <;> simp; omega))]
  unfold decoded
  refine tileOf_congr _ _ _ (Fin.ext ?_) (Fin.ext ?_) (Fin.ext ?_) (Fin.ext ?_)
    (congr (congr (congr (congrArg ix4 (Fin.ext ?_)) (Fin.ext ?_)) (Fin.ext ?_)) (Fin.ext ?_)) <;> simp <;> omega

/-- Every scale store of the first loop stores the same function of the scales. -/
theorem scales1 (g : FVec F S8x128 .f32) (s : Vec F S1x8x128 .fp8e4m3) :
    k0_pay8 (k0_pay5 g s) (k0_pay6 g s) = k0_pay7 g s
    ∧ k0_pay24 g (k0_pay20 s) = k0_pay7 g s
    ∧ k0_pay25 g (k0_pay20 s) = k0_pay7 g s
    ∧ k0_pay39 g s = k0_pay7 g s
    ∧ k0_pay40 g s = k0_pay7 g s
    ∧ k0_pay54 g s = k0_pay7 g s
    ∧ k0_pay55 (k0_pay52 g s) (k0_pay53 g s) = k0_pay7 g s :=
  ⟨rfl, rfl, rfl, rfl, rfl, rfl, rfl⟩

/-- Every tile store of the first loop stores the same function of the codes and the doubled scales. -/
theorem tiles1 (w : Vec F S8x128 .i32) (r : Vec F S1x1x16x2x128 .bf16) :
    k0_pay14 (k0_pay12 w r) (k0_pay13 w r) = k0_pay10 w r
    ∧ k0_pay15 w (k0_pay9 r) = k0_pay10 w r
    ∧ k0_pay19 (k0_pay17 w (k0_pay9 r)) (k0_pay18 w (k0_pay9 r)) = k0_pay10 w r
    ∧ k0_pay31 (k0_pay28 w r) (k0_pay29 w r) = k0_pay10 w r
    ∧ k0_pay32 w (k0_pay26 r) = k0_pay10 w r
    ∧ k0_pay33 w (k0_pay26 r) = k0_pay10 w r
    ∧ k0_pay35 (k0_pay34 w (k0_pay26 r)) = k0_pay10 w r
    ∧ k0_pay44 w (k0_pay41 r) (k0_pay42 r) = k0_pay10 w r
    ∧ k0_pay45 w (k0_pay41 r) (k0_pay42 r) = k0_pay10 w r
    ∧ k0_pay49 (k0_pay47 w (k0_pay41 r) (k0_pay42 r)) (k0_pay48 w (k0_pay41 r) (k0_pay42 r)) = k0_pay10 w r
    ∧ k0_pay50 w (k0_pay43 (k0_pay41 r) (k0_pay42 r)) = k0_pay10 w r
    ∧ k0_pay57 w r = k0_pay10 w r
    ∧ k0_pay61 (k0_pay59 w r) (k0_pay60 w r) = k0_pay10 w r
    ∧ k0_pay62 w (k0_pay56 r) = k0_pay10 w r
    ∧ k0_pay63 w (k0_pay56 r) = k0_pay10 w r :=
  ⟨rfl, rfl, rfl, rfl, rfl, rfl, rfl, rfl, rfl, rfl, rfl, rfl, rfl, rfl, rfl⟩

/-- Every scale store of the second loop stores the same function of the scales. -/
theorem scales2 (g : FVec F S8x128 .f32) (s : Vec F S1x8x128 .fp8e4m3) :
    k0_pay67 g s = k0_pay7 g s
    ∧ k0_pay68 (k0_pay65 g s) (k0_pay66 g s) = k0_pay7 g s
    ∧ k0_pay84 g (k0_pay80 s) = k0_pay7 g s
    ∧ k0_pay85 g (k0_pay80 s) = k0_pay7 g s
    ∧ k0_pay99 g s = k0_pay7 g s
    ∧ k0_pay100 g s = k0_pay7 g s
    ∧ k0_pay114 g s = k0_pay7 g s
    ∧ k0_pay115 (k0_pay112 g s) (k0_pay113 g s) = k0_pay7 g s :=
  ⟨rfl, rfl, rfl, rfl, rfl, rfl, rfl, rfl⟩

/-- Every tile store of the second loop stores the same function of the codes and the doubled scales. -/
theorem tiles2 (w : Vec F S8x128 .i32) (r : Vec F S1x1x16x2x128 .bf16) :
    k0_pay70 w r = k0_pay10 w r
    ∧ k0_pay74 (k0_pay72 w r) (k0_pay73 w r) = k0_pay10 w r
    ∧ k0_pay75 w (k0_pay69 r) = k0_pay10 w r
    ∧ k0_pay79 (k0_pay77 w (k0_pay69 r)) (k0_pay78 w (k0_pay69 r)) = k0_pay10 w r
    ∧ k0_pay91 (k0_pay88 w r) (k0_pay89 w r) = k0_pay10 w r
    ∧ k0_pay92 w (k0_pay86 r) = k0_pay10 w r
    ∧ k0_pay93 w (k0_pay86 r) = k0_pay10 w r
    ∧ k0_pay95 (k0_pay94 w (k0_pay86 r)) = k0_pay10 w r
    ∧ k0_pay104 w (k0_pay101 r) (k0_pay102 r) = k0_pay10 w r
    ∧ k0_pay105 w (k0_pay101 r) (k0_pay102 r) = k0_pay10 w r
    ∧ k0_pay109 (k0_pay107 w (k0_pay101 r) (k0_pay102 r)) (k0_pay108 w (k0_pay101 r) (k0_pay102 r)) = k0_pay10 w r
    ∧ k0_pay110 w (k0_pay103 (k0_pay101 r) (k0_pay102 r)) = k0_pay10 w r
    ∧ k0_pay117 w r = k0_pay10 w r
    ∧ k0_pay121 (k0_pay119 w r) (k0_pay120 w r) = k0_pay10 w r
    ∧ k0_pay122 w (k0_pay116 r) = k0_pay10 w r
    ∧ k0_pay123 w (k0_pay116 r) = k0_pay10 w r :=
  ⟨rfl, rfl, rfl, rfl, rfl, rfl, rfl, rfl, rfl, rfl, rfl, rfl, rfl, rfl, rfl, rfl⟩

theorem tile_fold (w : Vec F S8x128 .i32) (s : Vec F S1x8x128 .fp8e4m3) (g : Vec F S1x1 .f32) :
    k0_pay10 w (doubled (k0_pay7 (k0_pay1 g) s) (k0_pay7 (k0_pay1 g) s)) = tileOf w s g := rfl

/-! ## The product of 320 rows at a time -/

/-- Slot `s` of the double buffer. -/
def slotOf (s : Fin 2) (G : S2x384x2x768.Idx → Elt F .bf16) : Vec F S1x384x2x768 .bf16 :=
  fun x => G (ix4 s (x 1) (x 2) (x 3))

/-- Word rows `160 j` to `160 j + 159` of the packed left operand. -/
def wordRows (j : Fin 9) (X : S1440x768.Idx → Elt F .i32) : Vec F S160x768 .i32 :=
  fun x => X (ix2 ⟨160 * j.val + (x 0).val, by have h : (x 0).val < 160 := (x 0).isLt; omega⟩ (x 1))

/-- The product of the packed left operand with a slot, as the kernel computes it: 320 rows at a time. -/
def prodOf (X : S1440x768.Idx → Elt F .i32) (S : Vec F S1x384x2x768 .bf16) : S2880x768.Idx → Elt F .f32 :=
  fun y => k0_pay2 (wordRows ⟨(y 0).val / 320, by have h : (y 0).val < 2880 := (y 0).isLt; omega⟩ X) S
    (ix2 ⟨(y 0).val % 320, by omega⟩ (y 1))

/-- The first `320 n` rows of `Y` are those of `P`. -/
def RowsDone (n : Nat) (P Y : S2880x768.Idx → Elt F .f32) : Prop :=
  ∀ (r : Fin 2880) (c : Fin 768), r.val < 320 * n → Y (ix2 r c) = P (ix2 r c)

theorem rowsDone_zero (P Y : S2880x768.Idx → Elt F .f32) : RowsDone 0 P Y := fun r c h => absurd h (by omega)

theorem readAt_slot (v : View sig .tc .vmem S2x384x2x768 .bf16) (f : v.ty.Contents (Elt F)) (s : Fin 2) (G0 : S2x384x2x768.Idx → Elt F .bf16)
    {o : Fin 4 → Nat} (ho : o = ![s.val, 0, 0, 0]) (inb : ∀ a, o a + S1x384x2x768.size a ≤ S2x384x2x768.size a)
    (h : ∀ r h c, v.read (Elt F) f (ix4 s r h c) = G0 (ix4 s r h c)) :
    v.readAt (Elt F) (Rect.unit (s := S2x384x2x768) o S1x384x2x768.size inb).toLoadRect f = slotOf s G0 := by
  subst ho
  funext x
  refine Eq.trans ?_ (h (x 1) (x 2) (x 3))
  rw [View.readAt_apply]
  refine congrArg (v.read (Elt F) f) ?_
  have hx0 : (x 0).val < 1 := (x 0).isLt
  refine (eq_ix4 _).trans (congr (congr (congr (congrArg ix4 ?_) ?_) ?_) ?_) <;> apply Fin.ext <;> simp [LoadRect.idx] <;> omega

theorem readAt_words (v : View sig .tc .vmem S1440x768 .i32) (f : v.ty.Contents (Elt F)) (k : Fin 9)
    {o : Fin 2 → Nat} (ho : o = ![160 * k.val, 0]) (inb : ∀ a, o a + S160x768.size a ≤ S1440x768.size a) :
    v.readAt (Elt F) (Rect.unit (s := S1440x768) o S160x768.size inb).toLoadRect f = wordRows k (v.read (Elt F) f) := by
  subst ho
  funext x
  rw [View.readAt_apply]
  refine congrArg (v.read (Elt F) f) ?_
  refine (eq_ix2 _).trans (congr (congrArg ix2 ?_) ?_) <;> apply Fin.ext <;> simp [LoadRect.idx]

theorem rows_step (v : View sig .tc .vmem S2880x768 .f32) (f : v.ty.Contents (Elt F)) (k : Fin 9)
    (X : S1440x768.Idx → Elt F .i32) (S : Vec F S1x384x2x768 .bf16)
    {o : Fin 2 → Nat} (ho : o = ![320 * k.val, 0]) (inb : ∀ a, o a + S320x768.size a ≤ S2880x768.size a)
    (w : S320x768.Idx → Elt F .f32) (hw : w = k0_pay2 (wordRows k X) S)
    (h : RowsDone k.val (prodOf X S) (v.read (Elt F) f)) :
    RowsDone (k.val + 1) (prodOf X S) (v.read (Elt F) (v.writes (Elt F) f
      [⟨Rect.unit (s := S2880x768) o S320x768.size inb, w⟩])) := by
  intro r c hr
  rw [View.read_writes_cons_unit v f inb _ _ _ ho]
  split
  · rename_i hh
    have e0 := hh 0
    simp at e0
    subst hw
    refine (congrArg (k0_pay2 (wordRows k X) S) (eq_ix2 (n0 := 320) (n1 := 768) _)).trans ?_
    unfold prodOf
    have e : (⟨(ix2 r c 0).val / 320, by have h : (ix2 r c 0).val < 2880 := (ix2 r c 0).isLt; omega⟩ : Fin 9) = k := Fin.ext (by simp; omega)
    rw [e]
    refine congrArg _ ?_
    refine congr (congrArg ix2 ?_) ?_ <;> apply Fin.ext <;> simp [Rect.unitLocal_val]
    omega
  · rename_i hn
    rw [View.writes_nil]
    refine h r c ?_
    simp [Fin.forall_fin_succ] at hn
    omega

end Cert.Proof.DwIdeal
end
-- ==== Proof.DwIdealValue.lean ====
module

public import proofs.«01_k».proof.Proof.Gen.DwIdeal.Frame
public import proofs.«01_k».proof.Proof.Gen.DwIdeal.Skeleton
public import proofs.«01_k».proof.Proof.Gen.DwIdeal.Loops
public import Idealize.ShloMosaic.Lib.Pipeline.Frame
public import Idealize.ShloMosaic.Lib.Tactic
public import Idealize.ShloMosaic.Lib.PointwiseCore
public import Idealize.ShloMosaic.Lib.WritesUnit
public import Idealize.ShloMosaic.Lib.VecWindow
public import proofs.«01_k».proof.Proof.DwIdealTiles

@[expose] public section

set_option maxRecDepth 16384

noncomputable section

namespace Cert.Proof.DwIdeal

open Cert.DwIdeal Cert.DwIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [FloatOps F]

local notation "𝕄" => MT nD τ sig Unit (Elt F) ℕ (UR sig nD τ) ℕ

/-! ## The three loops -/

abbrev UU (nD : Nat) (τ : Topo) : Type := UR sig nD τ
abbrev 𝒱₀ : Variants := Variants.none

/-- The other slot, the one the product is read from. -/
def other (i : grid0.Coords) : Fin 2 := ⟨1 - (i 0).val % 2, by omega⟩

theorem other_eq {i : grid0.Coords} {D : S768x768.Idx → Elt F .bf16} {n : Nat} {G0 G : S2x384x2x768.Idx → Elt F .bf16}
    (h : Filled ((i 0).val % 2) n D G0 G) (r : Fin 384) (p : Fin 2) (q : Fin 768) : G (ix4 (other i) r p q) = G0 (ix4 (other i) r p q) := by
  rw [h, if_neg]
  rintro ⟨h, -⟩
  simp [other] at h
  omega

set_option maxHeartbeats 400000 in
set_option warn.classDefReducibility false in
noncomputable def loop1 (c : Dev nD) (i : grid0.Coords) (arg1 : Memref sig .tc .vmem S192x768 .i32) (harg1 : arg1.IsWhole)
    (arg2 : Memref sig .tc .vmem S6x8x768 .fp8e4m3) (harg2 : arg2.IsWhole)
    (arg3 : Memref sig .tc .vmem S1x1 .f32) (harg3 : arg3.IsWhole)
    (arg4 : Memref sig .tc .vmem S1440x768 .i32) (harg4 : arg4.IsWhole)
    (arg5 : Memref sig .tc .vmem S2880x768 .f32) (harg5 : arg5.IsWhole)
    (arg6 : Memref sig .tc .vmem S2x384x2x768 .bf16) (harg6 : arg6.IsWhole)
    (arg7 : Memref sig .tc .vmem S2x2x16x2x128 .bf16) (harg7 : arg7.IsWhole) (v9 : BitVec 32) (v10 : Vec F S1x1 .f32) (k0_h1 : k0_cond1 i = 1#1)
    (X1 : BufTy.Contents (Elt F) arg1.view.ty) (X2 : BufTy.Contents (Elt F) arg2.view.ty) (G0 : BufTy.Contents (Elt F) arg6.view.ty)
    (D : S768x768.Idx → Elt F .bf16) (hD : D = decoded (arg1.view.read (Elt F) X1) (arg2.view.read (Elt F) X2) v10) :
    Gen.LoopInvTy_k0_t1 (F := F) Unit ℕ (UU nD τ) ℕ 𝒱₀ c none Set.univ i arg1 harg1 arg2 harg2 arg3 harg3 arg4 harg4 arg5 harg5 arg6 harg6 arg7 harg7 v9 v10 k0_h1 where
  inv := fun k acc => iprop((arg1.view.loc (c : Thread nD τ) ↦[arg1.view.set]{fullShare} X1) ∗ (arg2.view.loc (c : Thread nD τ) ↦[arg2.view.set]{fullShare} X2)
    ∗ (∃ f, (arg6.view.loc (c : Thread nD τ) ↦[arg6.view.set]{fullShare} f)
        ∗ ⌜FilledBlocks ((i 0).val % 2) k D (arg6.view.read (Elt F) G0) (arg6.view.read (Elt F) f)⌝)
    ∗ (∃ f, (arg7.view.loc (c : Thread nD τ) ↦[arg7.view.set]{fullShare} f)))
  step := fun k acc => by
    subst hD
    have hk : k.val < 9 := Nat.lt_of_lt_of_le k.isLt k0_t1_abs.2.1
    unfold Gen.k0_t1_body
    iintro ⟨H1, H2, ⟨%f6, H6, %h6⟩, ⟨%f7, H7⟩⟩
    sl_exec
    sl_step
    isplitl [H1]; · iexact H1
    isplitl [H2]; · iexact H2
    isplitl [H6]
    · iexists _; isplitl [H6]; · iexact H6
      ipureintro
      sl_unfold_run_names
      simp -proj only [readAt_doubled, scales1, tiles1, tile_fold]
      have h6' := filled_trip arg6.view f6 hk (fun n => off3_eq i k ⟨n.val % 8, by omega⟩ ⟨n.val / 8, by omega⟩)
          (fun n => k0_off3_inb i k k0_h1 ⟨n.val % 8, by omega⟩ ⟨n.val / 8, by omega⟩) _
          (fun n => tile_eq arg1.view X1 arg2.view X2 v10 hk n (off1_eq k ⟨n.val % 8, by omega⟩ ⟨n.val / 8, by omega⟩)
            (off2_eq k ⟨n.val % 8 / 4, by omega⟩ ⟨n.val / 8, by omega⟩)
            (k0_off1_inb i k k0_h1 ⟨n.val % 8, by omega⟩ ⟨n.val / 8, by omega⟩)
            (k0_off2_inb i k k0_h1 ⟨n.val % 8 / 4, by omega⟩ ⟨n.val / 8, by omega⟩)) h6
      exact h6'
    iexists _; iexact H7

set_option maxHeartbeats 400000 in
set_option warn.classDefReducibility false in
noncomputable def loop2 (c : Dev nD) (i : grid0.Coords) (arg1 : Memref sig .tc .vmem S192x768 .i32) (harg1 : arg1.IsWhole)
    (arg2 : Memref sig .tc .vmem S6x8x768 .fp8e4m3) (harg2 : arg2.IsWhole)
    (arg3 : Memref sig .tc .vmem S1x1 .f32) (harg3 : arg3.IsWhole)
    (arg4 : Memref sig .tc .vmem S1440x768 .i32) (harg4 : arg4.IsWhole)
    (arg5 : Memref sig .tc .vmem S2880x768 .f32) (harg5 : arg5.IsWhole)
    (arg6 : Memref sig .tc .vmem S2x384x2x768 .bf16) (harg6 : arg6.IsWhole)
    (arg7 : Memref sig .tc .vmem S2x2x16x2x128 .bf16) (harg7 : arg7.IsWhole) (v9 : BitVec 32) (v10 : Vec F S1x1 .f32) (k0_h2 : k0_cond2 i = 1#1)
    (X1 : BufTy.Contents (Elt F) arg1.view.ty) (X2 : BufTy.Contents (Elt F) arg2.view.ty) (X4 : BufTy.Contents (Elt F) arg4.view.ty)
    (G0 : BufTy.Contents (Elt F) arg6.view.ty)
    (D : S768x768.Idx → Elt F .bf16) (hD : D = decoded (arg1.view.read (Elt F) X1) (arg2.view.read (Elt F) X2) v10) :
    Gen.LoopInvTy_k0_t2 (F := F) Unit ℕ (UU nD τ) ℕ 𝒱₀ c none Set.univ i arg1 harg1 arg2 harg2 arg3 harg3 arg4 harg4 arg5 harg5 arg6 harg6 arg7 harg7 v9 v10 k0_h2 where
  inv := fun k acc => iprop((arg1.view.loc (c : Thread nD τ) ↦[arg1.view.set]{fullShare} X1) ∗ (arg2.view.loc (c : Thread nD τ) ↦[arg2.view.set]{fullShare} X2) ∗ (arg4.view.loc (c : Thread nD τ) ↦[arg4.view.set]{fullShare} X4)
    ∗ (∃ f, (arg5.view.loc (c : Thread nD τ) ↦[arg5.view.set]{fullShare} f)
        ∗ ⌜RowsDone k (prodOf (arg4.view.read (Elt F) X4) (slotOf (other i) (arg6.view.read (Elt F) G0))) (arg5.view.read (Elt F) f)⌝)
    ∗ (∃ f, (arg6.view.loc (c : Thread nD τ) ↦[arg6.view.set]{fullShare} f)
        ∗ ⌜FilledBlocks ((i 0).val % 2) k D (arg6.view.read (Elt F) G0) (arg6.view.read (Elt F) f)⌝)
    ∗ (∃ f, (arg7.view.loc (c : Thread nD τ) ↦[arg7.view.set]{fullShare} f)))
  step := fun k acc => by
    subst hD
    have hk : k.val < 9 := Nat.lt_of_lt_of_le k.isLt k0_t2_abs.2.1
    unfold Gen.k0_t2_body
    iintro ⟨H1, H2, H4, ⟨%f5, H5, %h5⟩, ⟨%f6, H6, %h6⟩, ⟨%f7, H7⟩⟩
    sl_exec
    sl_step
    isplitl [H1]; · iexact H1
    isplitl [H2]; · iexact H2
    isplitl [H4]; · iexact H4
    sl_unfold_run_names
    simp -proj only [readAt_doubled, scales2, tiles2, tile_fold]
    have h6' := filled_trip arg6.view f6 hk (fun n => off6_eq i k ⟨n.val % 8, by omega⟩ ⟨n.val / 8, by omega⟩)
          (fun n => k0_off6_inb i k k0_h2 ⟨n.val % 8, by omega⟩ ⟨n.val / 8, by omega⟩) _
          (fun n => tile_eq arg1.view X1 arg2.view X2 v10 hk n (off4_eq k ⟨n.val % 8, by omega⟩ ⟨n.val / 8, by omega⟩)
            (off5_eq k ⟨n.val % 8 / 4, by omega⟩ ⟨n.val / 8, by omega⟩)
            (k0_off4_inb i k k0_h2 ⟨n.val % 8, by omega⟩ ⟨n.val / 8, by omega⟩)
            (k0_off5_inb i k k0_h2 ⟨n.val % 8 / 4, by omega⟩ ⟨n.val / 8, by omega⟩)) h6
    isplitl [H5]
    · iexists _; isplitl [H5]; · iexact H5
      ipureintro
      refine rows_step arg5.view f5 ⟨k.val, hk⟩ (arg4.view.read (Elt F) X4) _ (k0_off9_eq k) (k0_off9_inb i k k0_h2) _ ?_ h5
      refine congr (congrArg k0_pay2 (readAt_words arg4.view X4 ⟨k.val, hk⟩ (k0_off7_eq k) (k0_off7_inb i k k0_h2)))
        (readAt_slot arg6.view _ (other i) _ (off8_eq i) (k0_off8_inb i k0_h2) (fun r p q => other_eq
          (D := decoded (arg1.view.read (Elt F) X1) (arg2.view.read (Elt F) X2) v10)
          (n := 16 * (k.val + 1)) (G := arg6.view.read (Elt F) _) ?_ r p q))
      exact h6'
    isplitl [H6]
    · iexists _; isplitl [H6]; · iexact H6
      ipureintro
      exact h6'
    iexists _; iexact H7

set_option maxHeartbeats 400000 in
set_option warn.classDefReducibility false in
noncomputable def loop3 (c : Dev nD) (i : grid0.Coords) (arg1 : Memref sig .tc .vmem S192x768 .i32) (harg1 : arg1.IsWhole)
    (arg2 : Memref sig .tc .vmem S6x8x768 .fp8e4m3) (harg2 : arg2.IsWhole)
    (arg3 : Memref sig .tc .vmem S1x1 .f32) (harg3 : arg3.IsWhole)
    (arg4 : Memref sig .tc .vmem S1440x768 .i32) (harg4 : arg4.IsWhole)
    (arg5 : Memref sig .tc .vmem S2880x768 .f32) (harg5 : arg5.IsWhole)
    (arg6 : Memref sig .tc .vmem S2x384x2x768 .bf16) (harg6 : arg6.IsWhole)
    (arg7 : Memref sig .tc .vmem S2x2x16x2x128 .bf16) (harg7 : arg7.IsWhole) (k0_h3 : k0_cond3 i = 1#1)
    (X4 : BufTy.Contents (Elt F) arg4.view.ty) (G0 : BufTy.Contents (Elt F) arg6.view.ty) :
    Gen.LoopInvTy_k0_t3 (F := F) Unit ℕ (UU nD τ) ℕ 𝒱₀ c none Set.univ i arg1 harg1 arg2 harg2 arg3 harg3 arg4 harg4 arg5 harg5 arg6 harg6 arg7 harg7 k0_h3 where
  inv := fun k acc => iprop((arg4.view.loc (c : Thread nD τ) ↦[arg4.view.set]{fullShare} X4)
    ∗ (∃ f, (arg5.view.loc (c : Thread nD τ) ↦[arg5.view.set]{fullShare} f)
        ∗ ⌜RowsDone k (prodOf (arg4.view.read (Elt F) X4) (slotOf (other i) (arg6.view.read (Elt F) G0))) (arg5.view.read (Elt F) f)⌝)
    ∗ (arg6.view.loc (c : Thread nD τ) ↦[arg6.view.set]{fullShare} G0))
  step := fun k acc => by
    have hk : k.val < 9 := Nat.lt_of_lt_of_le k.isLt k0_t3_abs.2.1
    unfold Gen.k0_t3_body
    iintro ⟨H4, ⟨%f5, H5, %h5⟩, H6⟩
    sl_exec
    sl_step
    isplitl [H4]; · iexact H4
    isplitl [H5]
    · iexists _; isplitl [H5]; · iexact H5
      ipureintro
      sl_unfold_run_names
      refine rows_step arg5.view f5 ⟨k.val, hk⟩ (arg4.view.read (Elt F) X4) _ (k0_off12_eq k) (k0_off12_inb i k k0_h3) _ ?_ h5
      exact congr (congrArg k0_pay2 (readAt_words arg4.view X4 ⟨k.val, hk⟩ (k0_off10_eq k) (k0_off10_inb i k k0_h3)))
        (readAt_slot arg6.view G0 (other i) _ (off11_eq i) (k0_off11_inb i k0_h3) (fun _ _ _ => rfl))
    iexact H6

/-! ## The body, run once -/

theorem cond1_iff : ∀ i, k0_cond1 i = 1#1 ↔ (i 0).val = 0 := by decide +kernel
theorem cond2_iff : ∀ i, k0_cond2 i = 1#1 ↔ 0 < (i 0).val ∧ (i 0).val < 11 := by decide +kernel
theorem cond3_iff : ∀ i, k0_cond3 i = 1#1 ↔ (i 0).val = 11 := by decide +kernel

/-- Slot `s` of the double buffer holds `D`. -/
def SlotIs (s : Fin 2) (D : S768x768.Idx → Elt F .bf16) (G : S2x384x2x768.Idx → Elt F .bf16) : Prop :=
  ∀ (r : Fin 384) (h : Fin 2) (c : Fin 768), G (ix4 s r h c) = D (ix2 ⟨2 * r.val + h.val, by omega⟩ c)

theorem slotIs_of_filled {s : Nat} (hs : s < 2) {D : S768x768.Idx → Elt F .bf16} {G0 G : S2x384x2x768.Idx → Elt F .bf16}
    (h : FilledBlocks s 9 D G0 G) : SlotIs ⟨s, hs⟩ D G := fun r p q => by
  rw [(h : Filled s (16 * 9) D G0 G), if_pos ⟨rfl, by omega⟩]

theorem eq_of_rowsDone {P Y : S2880x768.Idx → Elt F .f32} (h : RowsDone 9 P Y) : Y = P := by
  funext y
  rw [eq_ix2 (n0 := 2880) (n1 := 768) y]
  exact h _ _ (by omega)

theorem trips1 : Scf.trips k0_t1_loop.lb k0_t1_loop.ub k0_t1_loop.st = 9 := by decide +kernel
theorem trips2 : Scf.trips k0_t2_loop.lb k0_t2_loop.ub k0_t2_loop.st = 9 := by decide +kernel
theorem trips3 : Scf.trips k0_t3_loop.lb k0_t3_loop.ub k0_t3_loop.st = 9 := by decide +kernel

set_option maxHeartbeats 400000 in
/-- The kernel's body at one grid point, for any continuation: unless it is the last, the slot of the point's parity ends at the
    decoded block; unless it is the first, the product window ends at the product with the other slot. -/
theorem kernelRun (c : Dev nD) (i : grid0.Coords) (arg1 : Memref sig .tc .vmem S192x768 .i32) (harg1 : arg1.IsWhole)
    (arg2 : Memref sig .tc .vmem S6x8x768 .fp8e4m3) (harg2 : arg2.IsWhole)
    (arg3 : Memref sig .tc .vmem S1x1 .f32) (harg3 : arg3.IsWhole)
    (arg4 : Memref sig .tc .vmem S1440x768 .i32) (harg4 : arg4.IsWhole)
    (arg5 : Memref sig .tc .vmem S2880x768 .f32) (harg5 : arg5.IsWhole)
    (arg6 : Memref sig .tc .vmem S2x384x2x768 .bf16) (harg6 : arg6.IsWhole)
    (arg7 : Memref sig .tc .vmem S2x2x16x2x128 .bf16) (harg7 : arg7.IsWhole)
    (X1 : S192x768.Idx → Elt F .i32) (X2 : S6x8x768.Idx → Elt F .fp8e4m3) (X3 : S1x1.Idx → Elt F .f32) (X4 : S1440x768.Idx → Elt F .i32)
    (G : S2x384x2x768.Idx → Elt F .bf16) (K : PUnit → sProp 𝕄) :
    iprop(owns (c : Thread nD τ) arg1 fullShare X1 ∗ owns (c : Thread nD τ) arg2 fullShare X2 ∗ owns (c : Thread nD τ) arg3 fullShare X3 ∗ owns (c : Thread nD τ) arg4 fullShare X4
        ∗ (∃ d, owns (c : Thread nD τ) arg5 fullShare d) ∗ owns (c : Thread nD τ) arg6 fullShare G ∗ (∃ d, owns (c : Thread nD τ) arg7 fullShare d)
        ∗ (iprop(owns (c : Thread nD τ) arg1 fullShare X1 ∗ owns (c : Thread nD τ) arg2 fullShare X2 ∗ owns (c : Thread nD τ) arg3 fullShare X3 ∗ owns (c : Thread nD τ) arg4 fullShare X4
            ∗ (∃ d, ⌜(i 0).val ≠ 0 → d = prodOf X4 (slotOf (other i) G)⌝ ∗ owns (c : Thread nD τ) arg5 fullShare d)
            ∗ (∃ d, ⌜(i 0).val ≠ 11 → SlotIs ⟨(i 0).val % 2, by omega⟩ (decoded X1 X2 X3) d⌝ ∗ owns (c : Thread nD τ) arg6 fullShare d)
            ∗ (∃ d, owns (c : Thread nD τ) arg7 fullShare d)) -∗ K ⟨⟩))
      ⊢ wp frame (wpE (defs₀ (F := F)) Variants.none c none) Set.univ
          (cc0_dw i arg1 harg1 arg2 harg2 arg3 harg3 arg4 harg4 arg5 harg5 arg6 harg6 arg7 harg7) K := by
  simp only [cc0_dw_eq_skeleton]; unfold cc0_dw_skel
  unfold owns
  iintro ⟨⟨%f1, %h1, H1⟩, ⟨%f2, %h2, H2⟩, ⟨%f3, %h3, H3⟩, ⟨%f4, %h4, H4⟩, ⟨%d5, %f5, -, H5⟩, ⟨%f6, %h6, H6⟩, ⟨%d7, %f7, -, H7⟩, Hk⟩
  subst h1 h2 h3 h4 h6
  have hr := rowsDone_zero (F := F) (prodOf (arg4.view.read (Elt F) f4) (slotOf (other i) (arg6.view.read (Elt F) f6)))
    (arg5.view.read (Elt F) f5)
  by_cases hc1 : k0_cond1 i = 1#1
  · have hi := (cond1_iff i).mp hc1
    have hc2 : ¬ k0_cond2 i = 1#1 := by rw [cond2_iff]; omega
    have hc3 : ¬ k0_cond3 i = 1#1 := by rw [cond3_iff]; omega
    sl_exec
    generalize kernelRun.sl.v9 i = v9
    generalize hv : View.readAt (Elt F) arg3.view _ f3 = v10
    have hv' : v10 = View.read (Elt F) arg3.view f3 := hv.symm.trans (View.readAt_full arg3.view f3 _)
    obtain ⟨D, hD⟩ : ∃ D, D = decoded (arg1.view.read (Elt F) f1) (arg2.view.read (Elt F) f2) v10 := ⟨_, rfl⟩
    have hz : FilledBlocks (F := F) ((i 0).val % 2) 0 D (arg6.view.read (Elt F) f6) (arg6.view.read (Elt F) f6) := filled_zero _ _ _
    clear hv
    let L := loop1 c i arg1 harg1 arg2 harg2 arg3 harg3 arg4 harg4 arg5 harg5 arg6 harg6 arg7 harg7 v9 v10 hc1 f1 f2 f6 D hD
    sl_exec
    sl_step
    rw [trips1] at hL3
    subst hD; subst hv'
    iapply Hk
    isplitl [H1]
    · iexists _; isplitr; swap; · iexact H1
      ipureintro; rfl
    isplitl [H2]
    · iexists _; isplitr; swap; · iexact H2
      ipureintro; rfl
    isplitl [H3]
    · iexists _; isplitr; swap; · iexact H3
      ipureintro; rfl
    isplitl [H4]
    · iexists _; isplitr; swap; · iexact H4
      ipureintro; rfl
    isplitl [H5]
    · iexists _; isplitr; swap
      · iexists _; isplitr; swap; · iexact H5
        ipureintro; rfl
      ipureintro; exact fun h => absurd hi h
    isplitl [H6]
    · iexists _; isplitr; swap
      · iexists _; isplitr; swap; · iexact H6
        ipureintro; rfl
      ipureintro; exact fun _ => slotIs_of_filled _ hL3
    iexists _, _; isplitr; swap; · iexact H7
    ipureintro; rfl
  by_cases hc2 : k0_cond2 i = 1#1
  · have hi := (cond2_iff i).mp hc2
    have hc3 : ¬ k0_cond3 i = 1#1 := by rw [cond3_iff]; omega
    sl_exec
    generalize kernelRun.sl.v9 i = v9
    generalize hv : View.readAt (Elt F) arg3.view _ f3 = v10
    have hv' : v10 = View.read (Elt F) arg3.view f3 := hv.symm.trans (View.readAt_full arg3.view f3 _)
    obtain ⟨D, hD⟩ : ∃ D, D = decoded (arg1.view.read (Elt F) f1) (arg2.view.read (Elt F) f2) v10 := ⟨_, rfl⟩
    have hz : FilledBlocks (F := F) ((i 0).val % 2) 0 D (arg6.view.read (Elt F) f6) (arg6.view.read (Elt F) f6) := filled_zero _ _ _
    clear hv
    let L := loop2 c i arg1 harg1 arg2 harg2 arg3 harg3 arg4 harg4 arg5 harg5 arg6 harg6 arg7 harg7 v9 v10 hc2 f1 f2 f4 f6 D hD
    sl_exec
    sl_step
    rw [trips2] at hL4
    rw [trips2] at hL6
    subst hD; subst hv'
    iapply Hk
    isplitl [H1]
    · iexists _; isplitr; swap; · iexact H1
      ipureintro; rfl
    isplitl [H2]
    · iexists _; isplitr; swap; · iexact H2
      ipureintro; rfl
    isplitl [H3]
    · iexists _; isplitr; swap; · iexact H3
      ipureintro; rfl
    isplitl [H4]
    · iexists _; isplitr; swap; · iexact H4
      ipureintro; rfl
    isplitl [H5]
    · iexists _; isplitr; swap
      · iexists _; isplitr; swap; · iexact H5
        ipureintro; rfl
      ipureintro; exact fun _ => eq_of_rowsDone hL4
    isplitl [H6]
    · iexists _; isplitr; swap
      · iexists _; isplitr; swap; · iexact H6
        ipureintro; rfl
      ipureintro; exact fun _ => slotIs_of_filled _ hL6
    iexists _, _; isplitr; swap; · iexact H7
    ipureintro; rfl
  have hc3 : k0_cond3 i = 1#1 := by
    rw [cond3_iff]; rw [cond1_iff] at hc1; rw [cond2_iff] at hc2; have := (i 0).isLt
    have h12 : (i 0).val < 12 := (i 0).isLt
    omega
  have hi := (cond3_iff i).mp hc3
  let L := loop3 c i arg1 harg1 arg2 harg2 arg3 harg3 arg4 harg4 arg5 harg5 arg6 harg6 arg7 harg7 hc3 f4 f6
  sl_exec
  sl_step
  rw [trips3] at hL2
  iapply Hk
  isplitl [H1]
  · iexists _; isplitr; swap; · iexact H1
    ipureintro; rfl
  isplitl [H2]
  · iexists _; isplitr; swap; · iexact H2
    ipureintro; rfl
  isplitl [H3]
  · iexists _; isplitr; swap; · iexact H3
    ipureintro; rfl
  isplitl [H4]
  · iexists _; isplitr; swap; · iexact H4
    ipureintro; rfl
  isplitl [H5]
  · iexists _; isplitr; swap
    · iexists _; isplitr; swap; · iexact H5
      ipureintro; rfl
    ipureintro; exact fun _ => eq_of_rowsDone hL2
  isplitl [H6]
  · iexists _; isplitr; swap
    · iexists _; isplitr; swap; · iexact H6
      ipureintro; rfl
    ipureintro; exact fun h => absurd hi h
  iexists _, _; isplitr; swap; · iexact H7
  ipureintro; rfl

end Cert.Proof.DwIdeal
end
-- ==== Proof.DwIdealRun.lean ====
module

public import proofs.«01_k».proof.Proof.DwIdealValue
public import Idealize.ShloMosaic.Lib.Pipeline.DatRel
public import Idealize.ShloMosaic.Lib.Pipeline.ArrRel

@[expose] public section

set_option maxRecDepth 16384

noncomputable section

namespace Cert.Proof.DwIdeal

open Cert.DwIdeal Cert.DwIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat RDat BodyObligation BodyObligationRel)

variable {F : FTy → Type} [FloatOps F]

local notation "𝕄" => MT nD τ sig Unit (Elt F) ℕ (UR sig nD τ) ℕ

variable [∀ e, Nonempty (Elt F e)]
variable (m : (ℓ : Loc nD τ sig) → Buf (Elt F) ℓ) (ρ : Dev nD → PrngReg)

abbrev ms0_0 (t : Fin cfg0.N) : Memref sig .tc .vmem S192x768 .i32 := win0_0.stage (cfg0.slots t 0)
abbrev ms0_1 (t : Fin cfg0.N) : Memref sig .tc .vmem S6x8x768 .fp8e4m3 := win0_1.stage (cfg0.slots t 1)
abbrev ms0_2 (t : Fin cfg0.N) : Memref sig .tc .vmem S1x1 .f32 := win0_2.stage (cfg0.slots t 2)
abbrev ms0_3 (t : Fin cfg0.N) : Memref sig .tc .vmem S1440x768 .i32 := win0_3.stage (cfg0.slots t 3)
abbrev ms0_4 (t : Fin cfg0.N) : Memref sig .tc .vmem S2880x768 .f32 := win0_4.stage (cfg0.slots t 4)

/-- The grid coordinate of a point is its number. -/
theorem coord_eq (t : Fin cfg0.N) : (grid0.coords t 0).val = t.val := by
  have h : ∀ t : Fin cfg0.N, (grid0.coords t 0).val = t.val := by decide +kernel
  exact h t

/-- A slot that holds the block `D`. -/
def slotBuilt (D : S768x768.Idx → Elt F .bf16) : Vec F S1x384x2x768 .bf16 :=
  fun x => D (ix2 ⟨2 * (x 1).val + (x 2).val, by
    have h1 : (x 1).val < 384 := (x 1).isLt
    have h2 : (x 2).val < 2 := (x 2).isLt
    omega⟩ (x 3))

theorem slotOf_eq {s : Fin 2} {D : S768x768.Idx → Elt F .bf16} {G : S2x384x2x768.Idx → Elt F .bf16} (h : SlotIs s D G) :
    slotOf s G = slotBuilt D := funext fun x => h (x 1) (x 2) (x 3)

/-- The values that the code words and scales fetched at point `n` stand for. -/
def valBlock (c : Dev nD) (n : Nat) (hn : n < cfg0.N) : S768x768.Idx → Elt F .bf16 :=
  decoded (Gen.iblk m c 0 ⟨n, hn⟩) (Gen.iblk m c 1 ⟨n, hn⟩) (Gen.iblk m c 2 ⟨n, hn⟩)

/-- What the body leaves in the product window at a point after the first: the left operand times the block before. -/
def prodBlock (c : Dev nD) (t : Fin cfg0.N) : S2880x768.Idx → Elt F .f32 :=
  prodOf (Gen.iblk m c 3 t) (slotBuilt (valBlock m c (t.val - 1) (Nat.lt_of_le_of_lt (Nat.sub_le _ _) t.isLt)))

/-- The scratch before point `n`: the slot of the point before holds that point's values. -/
def ScrIs (c : Dev nD) (n : Nat) (G : S2x384x2x768.Idx → Elt F .bf16) : Prop :=
  ∀ p (hp : p < cfg0.N), n = p + 1 → p ≠ 11 → SlotIs ⟨p % 2, by omega⟩ (valBlock m c p hp) G

/-- What every point keeps: the two scratches, and the generator's register. -/
def Phi (c : Dev nD) (n : Nat) : sProp 𝕄 :=
  iprop(((∃ G, ⌜ScrIs m c n G⌝ ∗ owns (c : Thread nD τ) (Memref.whole cc0_scratch0) fullShare G)
    ∗ (∃ d, owns (c : Thread nD τ) (Memref.whole cc0_scratch1) fullShare d)) ∗ (∃ r, prngReg c r))

def marked : Fin cfg0.W → Bool := fun w => w.val == 4

/-- What the product window holds after a point. -/
def Rl (c : Dev nD) (w : Fin cfg0.W) (t : Fin cfg0.N) (X : (cfg0.win w).block.Idx → Elt F (cfg0.win w).elt) : Prop :=
  match w, X with
  | ⟨0, _⟩, _ => True
  | ⟨1, _⟩, _ => True
  | ⟨2, _⟩, _ => True
  | ⟨3, _⟩, _ => True
  | ⟨4, _⟩, X => t.val ≠ 0 → X = prodBlock m c t

/-- The proof data: the four inputs stay their blocks, and the scratch carries the last values. -/
def dats (_ : Fin 1) (c : Dev nD) : Dat τ (Elt F) Unit ℕ (UR sig nD τ) ℕ cfg0 c where
  A w := V m c (Pipeline.arrRef spec0 w)
  after w t := match w with
    | ⟨0, _⟩ => Gen.iblk m c 0 t
    | ⟨1, _⟩ => Gen.iblk m c 1 t
    | ⟨2, _⟩ => Gen.iblk m c 2 t
    | ⟨3, _⟩ => Gen.iblk m c 3 t
    | ⟨4, _⟩ => Pipeline.Dat.unnamed (cfg := cfg0) 4 t
  Φ t := Phi m c t.val
  q _ := fullShare
  owed _ := 0

theorem A_eq (c : Dev nD) (w : Fin cfg0.W) : (dats m 0 c).A w = V m c (Pipeline.arrRef spec0 w) := by dsimp only [dats]

theorem before0_0 (c : Dev nD) (t : Fin cfg0.N) (d) : (dats m 0 c).before 0 t d = Gen.iblk m c 0 t :=
  Gen.before0_0_of m (dats m 0 c) (A_eq m c 0) (fun _ => rfl) t d
theorem before0_1 (c : Dev nD) (t : Fin cfg0.N) (d) : (dats m 0 c).before 1 t d = Gen.iblk m c 1 t :=
  Gen.before0_1_of m (dats m 0 c) (A_eq m c 1) (fun _ => rfl) t d
theorem before0_2 (c : Dev nD) (t : Fin cfg0.N) (d) : (dats m 0 c).before 2 t d = Gen.iblk m c 2 t :=
  Gen.before0_2_of m (dats m 0 c) (A_eq m c 2) (fun _ => rfl) t d
theorem before0_3 (c : Dev nD) (t : Fin cfg0.N) (d) : (dats m 0 c).before 3 t d = Gen.iblk m c 3 t :=
  Gen.before0_3_of m (dats m 0 c) (A_eq m c 3) (fun _ => rfl) t d

def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, ⌜((dats m 0 c).toRRel marked (Rl m c)).Finds 4 t d⌝ ∗ owns (c : Thread nD τ) (ms0_4 t) fullShare d))
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ (∃ d, ⌜Rl m c 4 t d⌝ ∗ owns (c : Thread nD τ) (ms0_4 t) fullShare d))

theorem PhiA0_eq (c : Dev nD) :
    (Pipeline.ΦA (U := UR sig nD τ) (Val := Elt F) (τ := τ) spec0 c : sProp 𝕄)
      = iprop(((∃ d, owns (c : Thread nD τ) (Memref.whole cc0_scratch0) fullShare d)
        ∗ (∃ d, owns (c : Thread nD τ) (Memref.whole cc0_scratch1) fullShare d)) ∗ (∃ r, prngReg c r)) := by
  unfold Pipeline.ΦA; rw [scopedRest0_eq]; simp only [owns_whole]; try rfl

/-- What the body finds in the other slot, after the first point. -/
theorem other_slot (c : Dev nD) (t : Fin cfg0.N) (ht : t.val ≠ 0) {G : S2x384x2x768.Idx → Elt F .bf16} (h : ScrIs m c t.val G) :
    slotOf (other (grid0.coords t)) G
      = slotBuilt (valBlock m c (t.val - 1) (Nat.lt_of_le_of_lt (Nat.sub_le _ _) t.isLt)) := by
  have hN : t.val < 12 := t.isLt
  have h1 := slotOf_eq (h (t.val - 1) (Nat.lt_of_le_of_lt (Nat.sub_le _ _) t.isLt) (by omega) (by omega))
  refine (congrArg (fun s => slotOf s G) (Fin.ext ?_)).trans h1
  show 1 - (grid0.coords t 0).val % 2 = (t.val - 1) % 2
  rw [coord_eq]; omega

theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  rw [show (dats m 0 c).owesAt () t.succ = (dats m 0 c).owesAt () t.castSucc from rfl,
    show (dats m 0 c).Φ t.castSucc = Phi m c t.val from rfl, show (dats m 0 c).Φ t.succ = Phi m c (t.val + 1) from rfl]
  unfold Phi
  simp only [before0_0, before0_1, before0_2, before0_3]
  iintro ⟨⟨⟨⟨%G, %hG, HS⟩, HT⟩, Hg⟩, HO, ⟨%_, H0⟩, ⟨%_, H1⟩, ⟨%_, H2⟩, ⟨%_, H3⟩, ⟨%d4, -, H4⟩⟩
  iapply (kernelRun c _ (ms0_0 t) _ (ms0_1 t) _ (ms0_2 t) _ (ms0_3 t) _ (ms0_4 t) _ _ _ _ _ (Gen.iblk m c 0 t) (Gen.iblk m c 1 t)
    (Gen.iblk m c 2 t) (Gen.iblk m c 3 t) G _)
  isplitl [H0]; · iexact H0
  isplitl [H1]; · iexact H1
  isplitl [H2]; · iexact H2
  isplitl [H3]; · iexact H3
  isplitl [H4]; · iexists _; iexact H4
  isplitl [HS]; · iexact HS
  isplitl [HT]; · iexact HT
  iintro ⟨H0, H1, H2, H3, ⟨%Y, %hY, H4⟩, ⟨%G', %hG', HS⟩, HT⟩
  isplitl [HS HT Hg]
  · isplitl [HS HT]
    · isplitl [HS]
      · iexists G'; isplitr; swap; · iexact HS
        ipureintro
        intro p hp he hne
        have hpt : p = t.val := by have : t.val + 1 = p + 1 := he; omega
        subst hpt
        have h := hG' (by rw [coord_eq]; exact hne)
        have hs : (⟨(grid0.coords t 0).val % 2, by omega⟩ : Fin 2) = ⟨t.val % 2, by omega⟩ := Fin.ext (by
          show (grid0.coords t 0).val % 2 = t.val % 2
          rw [coord_eq])
        rw [hs] at h
        exact h
      iexact HT
    iexact Hg
  isplitl [HO]; · iexact HO
  isplitl [H0]; · iexact H0
  isplitl [H1]; · iexact H1
  isplitl [H2]; · iexact H2
  isplitl [H3]; · iexact H3
  iexists Y; isplitr; swap; · iexact H4
  ipureintro
  intro ht
  have h := hY (by rw [coord_eq]; exact ht)
  rw [other_slot m c t ht hG] at h
  exact h

theorem defs₀_row (t : Fin cfg0.N) : defs₀ (F := F) .tc cfg0.body (cfg0.bodyArgs t (cfg0.slots t)) = bodyAt0 t := by
  unfold defs₀; rw [Defs.onTc_tc]

theorem body_obligation (c : Dev nD) :
    BodyObligationRel (dats (F := F) m 0 c) (defs₀ (F := F)) Variants.none () Set.univ marked (Rl m c) := fun t => by
  rw [bigSep_W0, bigSep_W0, defs₀_row]
  exact triple_restated (sound_body m c t) rfl .rfl fun _ => .rfl

theorem phi_first (c : Dev nD) : Pipeline.ΦA (U := UR sig nD τ) (Val := Elt F) (τ := τ) spec0 c ⊢ (dats (F := F) m 0 c).Φ 0 := by
  rw [PhiA0_eq]
  show _ ⊢ Phi m c 0
  unfold Phi
  iintro ⟨⟨⟨%G, HS⟩, HT⟩, Hg⟩
  isplitl [HS HT]
  · isplitl [HS]
    · iexists G; isplitr; swap; · iexact HS
      ipureintro
      intro p hp he; exact absurd he (by omega)
    iexact HT
  iexact Hg

theorem phi_last (c : Dev nD) : (dats (F := F) m 0 c).Φ (Fin.last _) ⊢ Pipeline.ΦA (U := UR sig nD τ) (Val := Elt F) (τ := τ) spec0 c := by
  rw [PhiA0_eq]
  show Phi m c _ ⊢ _
  unfold Phi
  iintro ⟨⟨⟨%G, -, HS⟩, HT⟩, Hg⟩
  isplitl [HS HT]
  · isplitl [HS]
    · iexists G; iexact HS
    iexact HT
  iexact Hg

/-- The data of the run. -/
def rdats (c : Dev nD) : RDat τ (Elt F) Unit ℕ (UR sig nD τ) ℕ cfg0 c := (dats m 0 c).toRRel marked (Rl m c)

set_option backward.isDefEq.respectTransparency.types false in
theorem run_main :
    θ_run defs (onTc (τ := τ) (main (F := F))) (s₀ m ρ)
      (fun r => Pipeline.RDat.FramePost (cfgs 0) (fun c => (dats m 0 c).toRRel marked (Rl m c)) (V m) r ∧ r.2.sem = fun _ => 0) :=
  Pipeline.RDat.θ_run_frame_track (Q' := _) cfgs (0 : Fin 1) launch0 defs₀ Variants.none (fun c => (dats m 0 c).toRRel marked (Rl m c)) m ρ main
    (hbody := fun c => (body_obligation m c).toRRel) (hshare := fun c => (dats m 0 c).share_full fun _ => rfl)
    (howed := fun _ _ => rfl) (V := V m) (hmain := hmain m Variants.none) (hA := A_eq m)
    (hin := fun c => phi_first m c) (hout := fun c => phi_last m c)

end Cert.Proof.DwIdeal
end
-- ==== Proof.DwIdealSpec.lean ====
module

public import proofs.«01_k».proof.Proof.DwIdealRun
public import proofs.«01_k».proof.Proof.Gen.ReferenceIdeal.Frame
public import proofs.«01_k».proof.Proof.Gen.ReferenceIdeal.Skeleton
public import Idealize.ShloMosaic.Lib.Pointwise
public import Idealize.ShloMosaic.Lib.BitcastPair
public import Idealize.ShloMosaic.Lib.Pipeline.ValueKit.Geometry
public import Idealize.ShloMosaic.Lib.Pipeline.ValueKit.Acc

@[expose] public section

set_option maxRecDepth 16384

noncomputable section

namespace Cert.Proof.DwIdeal

open Cert.DwIdeal Cert.DwIdeal.Gen
open Idealize.ShloMosaic Idealize.ShloMosaic.TcCoe Idealize.ShloMosaic.Tactic

open scoped BigOperators
open Idealize.SL.Sem

/-- Row `r` of a packed column pair by pair: the low half of its word for an even row, the high half for an odd one. -/
theorem bitcast_at {M N K : Nat} (x : (⟨2, ![M, K]⟩ : Shape).Idx → BitVec 32) (h : (⟨2, ![M, K]⟩ : Shape).Bitcasts 32 ⟨2, ![N, K]⟩ 16)
    (r : Fin N) (k : Fin K) (hr : r.val / 2 < M) :
    bitcast ⟨2, ![N, K]⟩ 16 x h (ix2 r k) = (x (ix2 ⟨r.val / 2, hr⟩ k)).extractLsb' (16 * (r.val % 2)) 16 := by
  rw [bitcast_32_16]
  have e : (Shape.row ⟨2, ![N, K]⟩ (ix2 r k)) = r.val := rfl
  have ei : ∀ hp, h.srcIdx (ix2 r k) (r.val / 2) hp = ix2 ⟨r.val / 2, hr⟩ k := fun hp => by
    funext a; apply Fin.ext
    match a with
    | ⟨0, _⟩ => rfl
    | ⟨1, _⟩ => rfl
  exact congrArg (fun w : BitVec 32 => w.extractLsb' (16 * (r.val % 2)) 16) (congrArg x (ei _))

/-- The real number of the bfloat16 at row `r`, column `k` of the packed left operand. -/
def leftAt (x : S1440x768.Idx → BitVec 32) (r : Fin 2880) (k : Fin 768) : Ideal .bf16 :=
  Ideal.ofBits .bf16 ((x (ix2 ⟨r.val / 2, by omega⟩ k)).extractLsb' (16 * (r.val % 2)) 16)

/-- Row `r` of the bytes of packed words: the byte of its word at the row's place among the four. -/
theorem bitcast_byte_at {M N K : Nat} (x : (⟨2, ![M, K]⟩ : Shape).Idx → BitVec 32) (h : (⟨2, ![M, K]⟩ : Shape).Bitcasts 32 ⟨2, ![N, K]⟩ 8)
    (r : Fin N) (k : Fin K) (hr : r.val / 4 < M) :
    bitcast ⟨2, ![N, K]⟩ 8 x h (ix2 r k) = (x (ix2 ⟨r.val / 4, hr⟩ k)).extractLsb' (8 * (r.val % 4)) 8 := by
  apply BitVec.eq_of_getLsbD_eq
  intro i hi
  rw [bitcast_getLsbD x h _ i hi (by decide), BitVec.getLsbD_extractLsb']
  have e : (Shape.row ⟨2, ![N, K]⟩ (ix2 r k)) = r.val := rfl
  have ep : ((Shape.row ⟨2, ![N, K]⟩ (ix2 r k)) * 8 + i) / 32 = r.val / 4 := by rw [e]; omega
  have eq : ((Shape.row ⟨2, ![N, K]⟩ (ix2 r k)) * 8 + i) % 32 = 8 * (r.val % 4) + i := by rw [e]; omega
  have hp : ∀ a : Fin (⟨2, ![M, K]⟩ : Shape).rank, a.val + 2 = (⟨2, ![M, K]⟩ : Shape).rank → r.val / 4 < (⟨2, ![M, K]⟩ : Shape).size a := fun a ha => by
    match a, ha with
    | ⟨0, _⟩, _ => exact hr
    | ⟨1, _⟩, ha => exact absurd (show 1 + 2 = 2 from ha) (by omega)
  rw [h.srcIdx_congr (ix2 r k) ep _ hp, eq]
  have ei : h.srcIdx (ix2 r k) (r.val / 4) hp = ix2 ⟨r.val / 4, hr⟩ k := by
    funext a; apply Fin.ext
    match a with
    | ⟨0, _⟩ => rfl
    | ⟨1, _⟩ => rfl
  rw [ei]
  simp [hi]

/-- The value at row `k`, column `n`: the fp8 number of its code byte, in units of 2^14, times the scale of its group of rows and
    the tensor's scale. -/
def valueAt {N : Nat} (x : (⟨2, ![192, N]⟩ : Shape).Idx → BitVec 32) (s : (⟨3, ![6, 8, N]⟩ : Shape).Idx → Ideal .fp8e4m3)
    (g : S1x1.Idx → Ideal .f32) (k : Fin 768) (n : Fin N) : EReal :=
  (Ideal.ofBits .fp8e5m2 ((x (ix2 ⟨k.val / 4, by omega⟩ n)).extractLsb' (8 * (k.val % 4)) 8) : EReal) * Ideal.ofBits .bf16 0x4680#16
    * ((s (ix3 ⟨k.val / 128, by omega⟩ ⟨k.val / 4 % 8, by omega⟩ n) : EReal) * (g (ix2 0 0) : EReal))

/-- The product: the left operand, read as bfloat16, times the values. -/
def dwVal (d : S192x8448.Idx → BitVec 32) (s : S6x8x8448.Idx → Ideal .fp8e4m3) (g : S1x1.Idx → Ideal .f32)
    (x : S1440x768.Idx → BitVec 32) : S2880x8448.Idx → Ideal .f32 :=
  fun y => ∑ k : Fin 768, leftAt x (y 0) k * valueAt d s g k (y 1)

/-- The constant 16384 is the same number in the two formats. -/
theorem unit_eq : Ideal.ofBits .f32 0x46800000#32 = Ideal.ofBits .bf16 0x4680#16 := by
  rw [show Ideal.ofBits .f32 0x46800000#32 = ((16384 : ℝ) : EReal) by simp [Ideal.ofBits, Ideal.ieee, -EReal.coe_mul]; norm_num,
    show Ideal.ofBits .bf16 0x4680#16 = ((16384 : ℝ) : EReal) by simp [Ideal.ofBits, Ideal.ieee, -EReal.coe_mul]; norm_num]

theorem scale_apply (g : Vec Ideal S1x1 .f32) (s : Vec Ideal S1x8x128 .fp8e4m3) (r : Fin 8) (h : Fin 2) (c : Fin 128) :
    k0_pay7 (k0_pay1 g) s (ix5 0 0 r h c) = (s (ix3 0 r c) : EReal) * ((g (ix2 0 0) : EReal) * Ideal.ofBits .bf16 0x4680#16) := by
  pointwise [k0_pay7, k0_pay5, k0_pay6, k0_pay4, k0_pay1]
  rw [ite_self]
  exact congrArg (fun u : EReal => (s (ix3 0 r c) : EReal) * ((g (ix2 0 0) : EReal) * u)) unit_eq

theorem tile_apply (w : Vec Ideal S8x128 .i32) (d : Vec Ideal S1x1x16x2x128 .bf16) (r : Fin 16) (h : Fin 2) (c : Fin 128) :
    k0_pay10 w d (ix4 0 r h c)
      = (Ideal.ofBits .fp8e5m2 ((w (ix2 ⟨(2 * r.val + h.val) / 4, by omega⟩ c)).extractLsb' (8 * ((2 * r.val + h.val) % 4)) 8) : EReal)
        * (d (ix5 0 0 r h c) : EReal) := by
  have hb := fun (n : Fin 32) => bitcast_byte_at (M := 8) (N := 32) (K := 128) w bitcasts_S8x128_w32_S32x128_w8 n c (by omega)
  have e0 : ∀ p, (⟨2 * r.val / 2, p⟩ : Fin 16) = r := fun p => Fin.ext (by show 2 * r.val / 2 = r.val; omega)
  have e1 : ∀ p, (⟨(2 * r.val + 1) / 2, p⟩ : Fin 16) = r := fun p => Fin.ext (by show (2 * r.val + 1) / 2 = r.val; omega)
  have key : ∀ (b b' : BitVec 8) (z z' : EReal), b = b' → z = z' → (Ideal.ofBits .fp8e5m2 b : EReal) * z = Ideal.ofBits .fp8e5m2 b' * z' := by
    rintro b _ z _ rfl rfl
    rfl
  pointwise [k0_pay10, k0_pay9]
  have hh : h = 0 ∨ h = 1 := by omega
  rcases hh with rfl | rfl
  · refine (if_pos rfl).trans ?_
    exact key _ _ _ _ (hb ⟨2 * r.val, by omega⟩) ((if_pos (by omega)).trans (congrArg (fun n => d (ix5 0 0 n 0 c)) (e0 (by omega))))
  · refine (if_neg (by decide)).trans ?_
    exact key _ _ _ _ (hb ⟨2 * r.val + 1, by omega⟩) ((if_neg (by omega)).trans (congrArg (fun n => d (ix5 0 0 n 1 c)) (e1 (by omega))))

/-- The decoded block at an index, over the extended reals. -/
theorem decoded_apply (X1 : S192x768.Idx → BitVec 32) (X2 : S6x8x768.Idx → Ideal .fp8e4m3) (g : S1x1.Idx → Ideal .f32) (k q : Fin 768) :
    decoded (F := Ideal) X1 X2 g (ix2 k q) = valueAt X1 X2 g k q := by
  have hd : ∀ (s : Vec Ideal S1x8x128 .fp8e4m3) (r : Fin 16) (h : Fin 2) (c : Fin 128),
      (doubled (k0_pay7 (k0_pay1 (F := Ideal) g) s) (k0_pay7 (k0_pay1 g) s)) (ix5 0 0 r h c)
        = (s (ix3 0 ⟨r.val / 2, by omega⟩ c) : EReal) * ((g (ix2 0 0) : EReal) * Ideal.ofBits .bf16 0x4680#16) := fun s r h c => by
    refine (ite_self _).trans ?_
    exact scale_apply g s ⟨r.val / 2, by omega⟩ h c
  unfold decoded tileOf
  refine (tile_apply _ _ _ _ _).trans ?_
  rw [hd]
  have hx : ∀ p, wordTile (F := Ideal) X1 ⟨k.val / 32, by omega⟩ ⟨q.val / 128, by omega⟩
      (ix2 ⟨(2 * (k.val % 32 / 2) + k.val % 2) / 4, p⟩ ⟨q.val % 128, by omega⟩) = X1 (ix2 ⟨k.val / 4, by omega⟩ q) := fun p => by
    unfold wordTile
    congr 2 <;> apply Fin.ext
    · show 8 * (k.val / 32) + (2 * (k.val % 32 / 2) + k.val % 2) / 4 = k.val / 4
      omega
    · show 128 * (q.val / 128) + q.val % 128 = q.val
      omega
  have hs : ∀ p, scaleTile (F := Ideal) X2 ⟨k.val / 128, by omega⟩ ⟨q.val / 128, by omega⟩
      (ix3 0 ⟨k.val % 32 / 2 / 2, p⟩ ⟨q.val % 128, by omega⟩) = X2 (ix3 ⟨k.val / 128, by omega⟩ ⟨k.val / 4 % 8, by omega⟩ q) := fun p => by
    unfold scaleTile
    congr 2 <;> apply Fin.ext
    · show k.val % 32 / 2 / 2 = k.val / 4 % 8
      omega
    · show 128 * (q.val / 128) + q.val % 128 = q.val
      omega
  have hb : (2 * (k.val % 32 / 2) + k.val % 2) % 4 = k.val % 4 := by omega
  have key : ∀ (w w' : BitVec 32) (n n' : Nat) (a a' b u : EReal), w = w' → n = n' → a = a' →
      (Ideal.ofBits .fp8e5m2 (w.extractLsb' (8 * n) 8) : EReal) * (a * (b * u)) = Ideal.ofBits .fp8e5m2 (w'.extractLsb' (8 * n') 8) * u * (a' * b) := by
    rintro w _ n _ a _ b u rfl rfl rfl
    ac_rfl
  exact key _ _ _ _ _ _ _ _ (hx _) hb (hs _)

theorem prod_apply (v : Vec Ideal S160x768 .i32) (S : Vec Ideal S1x384x2x768 .bf16) (r : Fin 320) (c : Fin 768) :
    k0_pay2 v S (ix2 r c) = ∑ k : Fin 768,
      Ideal.ofBits .bf16 ((v (ix2 ⟨r.val / 2, by omega⟩ k)).extractLsb' (16 * (r.val % 2)) 16)
        * S (ix4 0 ⟨k.val / 2, by omega⟩ ⟨k.val % 2, by omega⟩ c) := by
  pointwise [k0_pay2]
  refine Finset.sum_congr rfl fun k _ => ?_
  rw [bitcast_at (M := 160) (N := 320) (K := 768) v _ r k (by omega)]
  congr 1
  have h2 := Nat.mod_two_eq_zero_or_one k.val
  split
  · rename_i h
    congr 2; exact Fin.ext h.symm
  · rename_i h
    congr 2; exact Fin.ext (by show 1 = k.val % 2; omega)

theorem ref_apply (d : Vec Ideal S192x8448 .i32) (s : Vec Ideal S6x8x8448 .fp8e4m3) (g : Vec Ideal S1x1 .f32) (v : Vec Ideal S1440x768 .i32)
    (r : Fin 2880) (c : Fin 8448) : Cert.ReferenceIdeal.Gen.k0_pay1 d s g v (ix2 r c) = dwVal d s g v (ix2 r c) := by
  pointwise [Cert.ReferenceIdeal.Gen.k0_pay1]
  refine Finset.sum_congr rfl fun k _ => ?_
  have h := bitcast_at (M := 1440) (N := 2880) (K := 768) v Cert.ReferenceIdeal.Gen.bitcasts_S1440x768_w32_S2880x768_w16 r k (by omega)
  have h8 := bitcast_byte_at (M := 192) (N := 768) (K := 8448) d Cert.ReferenceIdeal.Gen.bitcasts_S192x8448_w32_S768x8448_w8 k c (by omega)
  have key : ∀ (w w' : BitVec 16) (b b' : BitVec 8) (u z : EReal), w = w' → b = b' →
      (Ideal.ofBits .bf16 w : EReal) * ((Ideal.ofBits .fp8e5m2 b : EReal) * u * z) = Ideal.ofBits .bf16 w' * (Ideal.ofBits .fp8e5m2 b' * u * z) := by
    rintro w _ b _ u z rfl rfl
    rfl
  exact key _ _ _ _ _ _ h h8

/-- The product of the packed left operand with a slot that holds a block, at an index. -/
theorem prodOf_apply (x : S1440x768.Idx → BitVec 32) (D : S768x768.Idx → Ideal .bf16) (y : S2880x768.Idx) :
    prodOf (F := Ideal) x (slotBuilt D) y = ∑ k : Fin 768, leftAt x (y 0) k * D (ix2 k (y 1)) := by
  have h0 : (y 0).val < 2880 := (y 0).isLt
  refine (prod_apply _ _ _ _).trans ?_
  refine Finset.sum_congr rfl fun k _ => ?_
  have hx : wordRows (F := Ideal) ⟨(y 0).val / 320, by omega⟩ x (ix2 ⟨(y 0).val % 320 / 2, by omega⟩ k) = x (ix2 ⟨(y 0).val / 2, by omega⟩ k) := by
    unfold wordRows
    congr 2
    apply Fin.ext
    show 160 * ((y 0).val / 320) + (y 0).val % 320 / 2 = (y 0).val / 2
    omega
  have hm : (y 0).val % 320 % 2 = (y 0).val % 2 := by omega
  have hs : slotBuilt (F := Ideal) D (ix4 0 ⟨k.val / 2, by omega⟩ ⟨k.val % 2, by omega⟩ (y 1)) = D (ix2 k (y 1)) := by
    unfold slotBuilt
    congr 2
    apply Fin.ext
    show 2 * (k.val / 2) + k.val % 2 = k.val
    omega
  unfold leftAt
  refine congr (congrArg _ ?_) hs
  rw [← hx]
  exact congrArg (fun n => Ideal.ofBits .bf16 ((wordRows (F := Ideal) _ x _).extractLsb' (16 * n) 16)) hm

variable (m : (ℓ : Loc nD τ sig) → Buf (Elt Ideal) ℓ) (ρ : Dev nD → PrngReg)

theorem index_out : ∀ t : Fin cfg0.N, win0_4.index t = ![0, t.val - 1] := by decide +kernel
theorem index_code : ∀ t : Fin cfg0.N, win0_0.index t = ![0, min t.val 10] := by decide +kernel
theorem index_scale : ∀ t : Fin cfg0.N, win0_1.index t = ![0, 0, min t.val 10] := by decide +kernel
theorem index_global : ∀ t : Fin cfg0.N, win0_2.index t = ![0, 0] := by decide +kernel
theorem index_left : ∀ t : Fin cfg0.N, win0_3.index t = ![0, 0] := by decide +kernel
theorem flush_pos : ∀ t : Fin cfg0.N, (cfg0.win 4).flush t = true → t.val ≠ 0 := by decide +kernel

/-- The left operand's block is the whole operand. -/
theorem left_block (c : Dev nD) (t : Fin cfg0.N) (x : S1440x768.Idx) :
    Gen.iblk m c 3 t x = m ((c.tc : Thread nD τ).loc main_arg3) x := by
  blk_simp [Gen.iblk]
  refine congrArg (m ((c.tc : Thread nD τ).loc main_arg3)) ?_
  blk_ext [index_left]

/-- The code words of a point before the last are the columns `768 n` to `768 n + 767` of the code words. -/
theorem code_block (c : Dev nD) (n : Nat) (hn : n < cfg0.N) (h11 : n < 11) (k : Fin 192) (q : Fin 768) :
    Gen.iblk m c 0 ⟨n, hn⟩ (ix2 k q) = m ((c.tc : Thread nD τ).loc main_arg0) (ix2 k ⟨768 * n + q.val, by omega⟩) := by
  blk_simp [Gen.iblk]
  refine congrArg (m ((c.tc : Thread nD τ).loc main_arg0)) ?_
  have hm : min n 10 = n := by omega
  blk_ext [index_code, hm]

/-- The scales of a point before the last are the same columns of the scales. -/
theorem scale_block (c : Dev nD) (n : Nat) (hn : n < cfg0.N) (h11 : n < 11) (b : Fin 6) (k : Fin 8) (q : Fin 768) :
    Gen.iblk m c 1 ⟨n, hn⟩ (ix3 b k q) = m ((c.tc : Thread nD τ).loc main_arg1) (ix3 b k ⟨768 * n + q.val, by omega⟩) := by
  blk_simp [Gen.iblk]
  refine congrArg (m ((c.tc : Thread nD τ).loc main_arg1)) ?_
  have hm : min n 10 = n := by omega
  blk_ext [index_scale, hm]

/-- The block of the tensor's scale is the scale. -/
theorem global_block (c : Dev nD) (t : Fin cfg0.N) : Gen.iblk m c 2 t (ix2 0 0) = m ((c.tc : Thread nD τ).loc main_arg2) (ix2 0 0) := by
  blk_simp [Gen.iblk]
  refine congrArg (m ((c.tc : Thread nD τ).loc main_arg2)) ?_
  blk_ext [index_global]

/-- The values of a point before the last are the columns `768 n` to `768 n + 767` of the values. -/
theorem val_block (c : Dev nD) (n : Nat) (hn : n < cfg0.N) (h11 : n < 11) (k q : Fin 768) :
    valBlock m c n hn (ix2 k q) = valueAt (N := 8448) (m ((c.tc : Thread nD τ).loc main_arg0)) (m ((c.tc : Thread nD τ).loc main_arg1))
      (m ((c.tc : Thread nD τ).loc main_arg2)) k ⟨768 * n + q.val, by omega⟩ := by
  unfold valBlock
  refine (decoded_apply _ _ _ k q).trans ?_
  have h0 := code_block m c n hn h11 ⟨k.val / 4, by omega⟩ q
  have h1 := scale_block m c n hn h11 ⟨k.val / 128, by omega⟩ ⟨k.val / 4 % 8, by omega⟩ q
  have h2 := global_block m c ⟨n, hn⟩
  have key : ∀ (w w' : BitVec 32) (a a' b b' : EReal), w = w' → a = a' → b = b' →
      (Ideal.ofBits .fp8e5m2 (w.extractLsb' (8 * (k.val % 4)) 8) : EReal) * Ideal.ofBits .bf16 0x4680#16 * (a * b)
        = Ideal.ofBits .fp8e5m2 (w'.extractLsb' (8 * (k.val % 4)) 8) * Ideal.ofBits .bf16 0x4680#16 * (a' * b') := by
    rintro w _ a _ b _ rfl rfl rfl
    rfl
  exact key _ _ _ _ _ _ h0 h1 h2

theorem final_out (c : Dev nD) (r : PUnit × MemSt nD τ sig (Elt Ideal))
    (h : Pipeline.RDat.FramePost (cfgs 0) (fun c => (dats m 0 c).toRRel marked (Rl m c)) (V m) r) :
    r.2.mem ((c.tc : Thread nD τ).loc main_v0)
      = dwVal (m ((c.tc : Thread nD τ).loc main_arg0)) (m ((c.tc : Thread nD τ).loc main_arg1))
          (m ((c.tc : Thread nD τ).loc main_arg2)) (m ((c.tc : Thread nD τ).loc main_arg3)) := by
  obtain ⟨after, hL, hA⟩ := h.exists_exact c
  refine (hA 4).trans ?_
  refine Pipeline.Dat.arrAt_eq_of_covers _ 4 _ (by decide +kernel) fun t hf y => ?_
  have hR : Rl m c 4 t (after 4 t) := (dats m 0 c).toRRel_leaves rfl (hL 4 t hf)
  have hX : after 4 t = prodBlock m c t := hR (flush_pos t hf)
  blk_simp
  have hN : t.val < 12 := t.isLt
  have ht := flush_pos t hf
  refine (congrFun hX y).trans ((prodOf_apply _ _ _).trans ?_)
  refine Finset.sum_congr rfl fun k _ => ?_
  have e0 : ((win0_4.blk t).view.emb y) 0 = y 0 := by
    apply Fin.ext; blk_simp [index_out]
  have y1 : (y 1).val < 768 := (y 1).isLt
  have e1 : ((win0_4.blk t).view.emb y) 1 = (⟨768 * (t.val - 1) + (y 1).val, by omega⟩ : Fin 8448) := by
    apply Fin.ext; blk_simp [index_out]; exact congrArg (· + (y 1).val) (Nat.mul_comm _ _)
  have hx : Gen.iblk m c 3 t = m ((c.tc : Thread nD τ).loc main_arg3) := funext fun x => left_block m c t x
  rw [hx, e0, e1]
  exact congrArg (_ * ·) (val_block m c (t.val - 1) _ (by omega) k (y 1))

/-- What every execution of the kernel ends with. -/
theorem run_value : θ_run defs (onTc (τ := τ) (main (F := Ideal))) ⟨m, fun _ => 0, ρ⟩ (fun r => (∀ c : Dev nD,
      r.2.mem ((c.tc : Thread nD τ).loc main_v0) = dwVal (m ((c.tc : Thread nD τ).loc main_arg0)) (m ((c.tc : Thread nD τ).loc main_arg1))
          (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  (θ_run defs _ _).mono (fun r h => ⟨fun c => ⟨final_out m c r h.1, h.1.arr_in c 0 rfl, h.1.arr_in c 1 rfl, h.1.arr_in c 2 rfl, h.1.arr_in c 3 rfl⟩, h.2⟩) (run_main m ρ)

end Cert.Proof.DwIdeal

namespace Cert.Proof.ReferenceIdeal

open Cert.ReferenceIdeal Cert.ReferenceIdeal.Gen
open Idealize.ShloMosaic Idealize.ShloMosaic.TcCoe Idealize.ShloMosaic.Tactic
open Idealize.SL.Sem

variable (m : (ℓ : Loc nD τ sig) → Buf (Elt Ideal) ℓ) (ρ : Dev nD → PrngReg)

theorem index0 : ∀ t : Fin cfg0.N, win0_0.index t = ![0, 0] := by decide +kernel
theorem block0 (c : Dev nD) (t : Fin cfg0.N) : iblk m c 0 t = m ((c.tc : Thread nD τ).loc main_arg0) := by
  funext x; blk_simp [iblk]
  refine congrArg (m ((c.tc : Thread nD τ).loc main_arg0)) ?_
  blk_ext [index0]
theorem index1 : ∀ t : Fin cfg0.N, win0_1.index t = ![0, 0, 0] := by decide +kernel
theorem block1 (c : Dev nD) (t : Fin cfg0.N) : iblk m c 1 t = m ((c.tc : Thread nD τ).loc main_arg1) := by
  funext x; blk_simp [iblk]
  refine congrArg (m ((c.tc : Thread nD τ).loc main_arg1)) ?_
  blk_ext [index1]
theorem index2 : ∀ t : Fin cfg0.N, win0_2.index t = ![0, 0] := by decide +kernel
theorem block2 (c : Dev nD) (t : Fin cfg0.N) : iblk m c 2 t = m ((c.tc : Thread nD τ).loc main_arg2) := by
  funext x; blk_simp [iblk]
  refine congrArg (m ((c.tc : Thread nD τ).loc main_arg2)) ?_
  blk_ext [index2]
theorem index3 : ∀ t : Fin cfg0.N, win0_3.index t = ![0, 0] := by decide +kernel
theorem block3 (c : Dev nD) (t : Fin cfg0.N) : iblk m c 3 t = m ((c.tc : Thread nD τ).loc main_arg3) := by
  funext x; blk_simp [iblk]
  refine congrArg (m ((c.tc : Thread nD τ).loc main_arg3)) ?_
  blk_ext [index3]

theorem final_out (c : Dev nD) (r : PUnit × MemSt nD τ sig (Elt Ideal)) (h : Pipeline.FramePost cfgs (dats m) 0 (V m) r) :
    r.2.mem ((c.tc : Thread nD τ).loc main_v0)
      = DwIdeal.dwVal (m ((c.tc : Thread nD τ).loc main_arg0)) (m ((c.tc : Thread nD τ).loc main_arg1))
          (m ((c.tc : Thread nD τ).loc main_arg2)) (m ((c.tc : Thread nD τ).loc main_arg3)) := by
  refine (h.out_eq c 4).trans ?_
  refine Pipeline.Dat.arrAt_eq_of_after_last _ 4 ⟨0, by decide⟩ (by decide +kernel) _ fun j => ?_
  blk_simp
  refine (congrFun (after0_4 m c _) _).trans ?_
  frame_out
  have h3 := block3 m c ⟨0, by decide⟩
  have h2 := block2 m c ⟨0, by decide⟩
  have h1 := block1 m c ⟨0, by decide⟩
  have h0 := block0 m c ⟨0, by decide⟩
  have e := DwIdeal.ref_apply (iblk m c 0 (⟨0, by decide⟩ : Fin cfg0.N)) (iblk m c 1 (⟨0, by decide⟩ : Fin cfg0.N))
    (iblk m c 2 (⟨0, by decide⟩ : Fin cfg0.N)) (iblk m c 3 (⟨0, by decide⟩ : Fin cfg0.N)) (j 0) (j 1)
  have hj : (ix2 (j 0) (j 1) : S2880x8448.Idx) = j := (eq_ix2 (n0 := 2880) (n1 := 8448) j).symm
  rw [h0, h1, h2, h3] at e
  refine Eq.trans ?_ (e.trans (congrArg _ hj))
  exact congr (congr (congr (congr (congrArg (k0_pay1 (F := Ideal)) h0) h1) h2) h3) hj.symm

/-- What every execution of the reference ends with. -/
theorem run_value : θ_run defs (onTc (τ := τ) (main (F := Ideal))) ⟨m, fun _ => 0, ρ⟩ (fun r => ∀ c : Dev nD,
      r.2.mem ((c.tc : Thread nD τ).loc main_v0)
        = DwIdeal.dwVal (m ((c.tc : Thread nD τ).loc main_arg0)) (m ((c.tc : Thread nD τ).loc main_arg1))
          (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r h c => ⟨final_out m c r h, h.in_eq c 0 rfl, h.in_eq c 1 rfl, h.in_eq c 2 rfl, h.in_eq c 3 rfl⟩) (run_main m ρ)

end Cert.Proof.ReferenceIdeal
end
-- ==== Proof.DxFrame.lean ====
module

public import proofs.«01_k».proof.Proof.Gen.Dx.Frame
public import proofs.«01_k».proof.Proof.Gen.Dx.Skeleton
public import proofs.«01_k».proof.Proof.Gen.Dx.Loops
public import Idealize.ShloMosaic.Lib.Pipeline.Frame
public import Idealize.ShloMosaic.Lib.Tactic

@[expose] public section

set_option maxRecDepth 16384

noncomputable section

namespace Cert.Proof.Dx

open Cert.Dx Cert.Dx.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [BitOps F]

local notation "𝕄" => MT nD τ sig Unit (Elt F) ℕ (UR sig nD τ) ℕ

/-! ## Where the kernel's rectangles lie -/

theorem off2_eq : ∀ k, k0_off2 k = ![(k.val + 1) % 2, 0, 0] := by decide +kernel
instance (k : _) : ClosedOff (k0_off2 k) := ⟨_, off2_eq k⟩
theorem off3_eq : ∀ k, k0_off3 k = ![(k.val + 1) % 2, 0, 128] := by decide +kernel
instance (k : _) : ClosedOff (k0_off3 k) := ⟨_, off3_eq k⟩
theorem off5_eq : ∀ k, k0_off5 k = ![(k.val + 1) % 2, 128, 0] := by decide +kernel
instance (k : _) : ClosedOff (k0_off5 k) := ⟨_, off5_eq k⟩
theorem off6_eq : ∀ k, k0_off6 k = ![(k.val + 1) % 2, 128, 128] := by decide +kernel
instance (k : _) : ClosedOff (k0_off6 k) := ⟨_, off6_eq k⟩
theorem off8_eq : ∀ k, k0_off8 k = ![(k.val + 1) % 2, 256, 0] := by decide +kernel
instance (k : _) : ClosedOff (k0_off8 k) := ⟨_, off8_eq k⟩
theorem off9_eq : ∀ k, k0_off9 k = ![(k.val + 1) % 2, 256, 128] := by decide +kernel
instance (k : _) : ClosedOff (k0_off9 k) := ⟨_, off9_eq k⟩
theorem off11_eq : ∀ k, k0_off11 k = ![k.val % 2, 0, 0] := by decide +kernel
instance (k : _) : ClosedOff (k0_off11 k) := ⟨_, off11_eq k⟩

/-! ## The loop that fills one slot and multiplies by the other -/

abbrev UU (nD : Nat) (τ : Topo) : Type := UR sig nD τ
abbrev 𝒱₀ : Variants := Variants.none

set_option warn.classDefReducibility false in
@[sl_loop] noncomputable def loopInv_k0_t1 (c : Dev nD) (i : grid0.Coords)
    (arg1 : Memref sig .tc .vmem S2880x768 .bf16) (harg1 : arg1.IsWhole) (arg2 : Memref sig .tc .vmem S384x768 .i32) (harg2 : arg2.IsWhole)
    (arg3 : Memref sig .tc .vmem S768x2880 .bf16) (harg3 : arg3.IsWhole) (arg4 : Memref sig .tc .vmem S2x384x256 .i32) (harg4 : arg4.IsWhole)
    (arg5 : Memref sig .tc .vmem S768x2944 .f32) (harg5 : arg5.IsWhole)
    (v28 : FVec F S256x256 .bf16) (v30 : IVec S128x128 32)
    (X1 : BufTy.Contents (Elt F) arg1.view.ty) (X2 : BufTy.Contents (Elt F) arg2.view.ty) :
    Gen.LoopInvTy_k0_t1 (F := F) Unit ℕ (UU nD τ) ℕ 𝒱₀ c none Set.univ i arg1 harg1 arg2 harg2 arg3 harg3 arg4 harg4 arg5 harg5 v28 v30 where
  inv := fun k acc => iprop((arg1.view.loc (c : Thread nD τ) ↦[arg1.view.set]{fullShare} X1) ∗ (arg2.view.loc (c : Thread nD τ) ↦[arg2.view.set]{fullShare} X2)
    ∗ (∃ f, arg4.view.loc (c : Thread nD τ) ↦[arg4.view.set]{fullShare} f) ∗ (∃ f, arg5.view.loc (c : Thread nD τ) ↦[arg5.view.set]{fullShare} f))
  step := fun k acc => by
    unfold Gen.k0_t1_body
    simp only [k0_part1_eq_skeleton, k0_part2_eq_skeleton]
    iintro ⟨H1, H2, ⟨%f4, H4⟩, ⟨%f5, H5⟩⟩
    sl_exec
    sl_step
    sl_close

/-! ## The body, run once -/

/-- The kernel's body from its three windows and the scratch at any contents, for any continuation: it runs to its return and
    leaves the two inputs as they were. -/
theorem kernelRun (c : Dev nD) (i : grid0.Coords)
    (arg1 : Memref sig .tc .vmem S2880x768 .bf16) (harg1 : arg1.IsWhole) (arg2 : Memref sig .tc .vmem S384x768 .i32) (harg2 : arg2.IsWhole)
    (arg3 : Memref sig .tc .vmem S768x2880 .bf16) (harg3 : arg3.IsWhole) (arg4 : Memref sig .tc .vmem S2x384x256 .i32) (harg4 : arg4.IsWhole)
    (arg5 : Memref sig .tc .vmem S768x2944 .f32) (harg5 : arg5.IsWhole)
    (X1 : S2880x768.Idx → Elt F .bf16) (X2 : S384x768.Idx → Elt F .i32)
    (K : PUnit → sProp 𝕄) :
    iprop(owns (c : Thread nD τ) arg1 fullShare X1 ∗ owns (c : Thread nD τ) arg2 fullShare X2
        ∗ (∃ d, owns (c : Thread nD τ) arg3 fullShare d) ∗ (∃ d, owns (c : Thread nD τ) arg4 fullShare d) ∗ (∃ d, owns (c : Thread nD τ) arg5 fullShare d)
        ∗ (iprop(owns (c : Thread nD τ) arg1 fullShare X1 ∗ owns (c : Thread nD τ) arg2 fullShare X2
            ∗ (∃ d, owns (c : Thread nD τ) arg3 fullShare d) ∗ (∃ d, owns (c : Thread nD τ) arg4 fullShare d)
            ∗ (∃ d, owns (c : Thread nD τ) arg5 fullShare d)) -∗ K ⟨⟩))
      ⊢ wp frame (wpE (defs₀ (F := F)) Variants.none c none) Set.univ
          (cc0_dx i arg1 harg1 arg2 harg2 arg3 harg3 arg4 harg4 arg5 harg5) K := by
  simp only [cc0_dx_eq_skeleton]; unfold cc0_dx_skel
  simp only [k0_part3_eq_skeleton, k0_part4_eq_skeleton]
  unfold owns
  iintro ⟨⟨%f1, %h1, H1⟩, ⟨%f2, %h2, H2⟩, ⟨%d3, %f3, -, H3⟩, ⟨%d4, %f4, -, H4⟩, ⟨%d5, %f5, -, H5⟩, Hk⟩
  by_cases hc1 : Scalar.cmpi .ne (Scalar.extui (Scalar.cmpi .eq (BitVec.ofNat 32 (i 0).val) 0#32)) 0#32 = 1#1 <;> by_cases hc2 : k0_cond2 i = 1#1
  all_goals
    sl_exec
    sl_step
    iapply Hk
    isplitl [H1]
    · iexists _; isplitr; swap; · iexact H1
      ipureintro; exact h1
    isplitl [H2]
    · iexists _; isplitr; swap; · iexact H2
      ipureintro; exact h2
    isplitl [H3]
    · iexists _, _; isplitr; swap; · iexact H3
      ipureintro; rfl
    isplitl [H4]
    · iexists _, _; isplitr; swap; · iexact H4
      ipureintro; rfl
    iexists _, _; isplitr; swap; · iexact H5
    ipureintro; rfl

/-! ## The launch: the product is left unnamed -/

variable [∀ e, Nonempty (Elt F e)]
variable (m : (ℓ : Loc nD τ sig) → Buf (Elt F) ℓ) (ρ : Dev nD → PrngReg)

abbrev ms0_0 (t : Fin cfg0.N) : Memref sig .tc .vmem S2880x768 .bf16 := win0_0.stage (cfg0.slots t 0)
abbrev ms0_1 (t : Fin cfg0.N) : Memref sig .tc .vmem S384x768 .i32 := win0_1.stage (cfg0.slots t 1)
abbrev ms0_2 (t : Fin cfg0.N) : Memref sig .tc .vmem S768x2880 .bf16 := win0_2.stage (cfg0.slots t 2)

def forgets0 : Fin 3 → Bool := fun w => w.val == 2

/-- The proof data: the two inputs stay their blocks, the product is unnamed, the scratch may hold anything. -/
def dats (_ : Fin 1) (c : Dev nD) : Dat τ (Elt F) Unit ℕ (UR sig nD τ) ℕ cfg0 c where
  A w := V m c (Pipeline.arrRef spec0 w)
  after w t := match w with
    | ⟨0, _⟩ => Gen.iblk m c 0 t
    | ⟨1, _⟩ => Gen.iblk m c 1 t
    | ⟨2, _⟩ => Pipeline.Dat.unnamed (cfg := cfg0) 2 t
  Φ _ := Pipeline.ΦA spec0 c
  q _ := fullShare
  owed _ := 0

theorem A_eq (c : Dev nD) (w : Fin cfg0.W) : (dats m 0 c).A w = V m c (Pipeline.arrRef spec0 w) := by dsimp only [dats]

theorem before0_0 (c : Dev nD) (t : Fin cfg0.N) (d) : (dats m 0 c).before 0 t d = Gen.iblk m c 0 t :=
  Gen.before0_0_of m (dats m 0 c) (A_eq m c 0) (fun _ => rfl) t d
theorem before0_1 (c : Dev nD) (t : Fin cfg0.N) (d) : (dats m 0 c).before 1 t d = Gen.iblk m c 1 t :=
  Gen.before0_1_of m (dats m 0 c) (A_eq m c 1) (fun _ => rfl) t d

def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare d))
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ (∃ d, owns (c : Thread nD τ) (ms0_2 t) fullShare d))

theorem PhiA0_eq (c : Dev nD) :
    (Pipeline.ΦA (U := UR sig nD τ) (Val := Elt F) (τ := τ) spec0 c : sProp 𝕄)
      = iprop(((∃ d, owns (c : Thread nD τ) (Memref.whole cc0_scratch0) fullShare d)
        ∗ (∃ d, owns (c : Thread nD τ) (Memref.whole cc0_scratch1) fullShare d)) ∗ (∃ r, prngReg c r)) := by
  unfold Pipeline.ΦA; rw [scopedRest0_eq]; simp only [owns_whole]; try rfl

theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  rw [show (dats m 0 c).Φ t.succ = (dats m 0 c).Φ t.castSucc from rfl,
    show (dats m 0 c).owesAt () t.succ = (dats m 0 c).owesAt () t.castSucc from rfl,
    show (dats m 0 c).Φ t.castSucc = Pipeline.ΦA spec0 c from rfl, PhiA0_eq]
  simp only [before0_0, before0_1]
  iintro ⟨⟨⟨HS, HT⟩, Hg⟩, HO, ⟨%_, H0⟩, ⟨%_, H1⟩, H2⟩
  iapply (kernelRun c _ (ms0_0 t) _ (ms0_1 t) _ (ms0_2 t) _ _ _ _ _ (Gen.iblk m c 0 t) (Gen.iblk m c 1 t) _)
  isplitl [H0]; · iexact H0
  isplitl [H1]; · iexact H1
  isplitl [H2]; · iexact H2
  isplitl [HS]; · iexact HS
  isplitl [HT]; · iexact HT
  iintro ⟨H0, H1, H2, HS, HT⟩
  isplitl [HS HT Hg]
  · isplitl [HS HT]
    · isplitl [HS]; · iexact HS
      iexact HT
    iexact Hg
  isplitl [HO]; · iexact HO
  isplitl [H0]; · iexact H0
  isplitl [H1]; · iexact H1
  iexact H2

theorem defs₀_row (t : Fin cfg0.N) : defs₀ (F := F) .tc cfg0.body (cfg0.bodyArgs t (cfg0.slots t)) = bodyAt0 t := by
  unfold defs₀; rw [Defs.onTc_tc]

theorem body_obligation (c : Dev nD) :
    BodyObligation (dats (F := F) m 0 c) (defs₀ (F := F)) Variants.none () Set.univ forgets0 := fun t => by
  rw [bigSep_W0, bigSep_W0, defs₀_row]
  exact triple_restated (sound_body m c t) rfl .rfl fun _ => .rfl

set_option backward.isDefEq.respectTransparency.types false in
theorem run_main :
    θ_run defs (onTc (τ := τ) (main (F := F))) (s₀ m ρ)
      (fun r => Pipeline.RDat.FramePost (cfgs 0) (fun c => (dats m 0 c).toRForget forgets0) (V m) r ∧ r.2.sem = fun _ => 0) :=
  Pipeline.RDat.θ_run_frame_track (Q' := _) cfgs (0 : Fin 1) launch0 defs₀ Variants.none (fun c => (dats m 0 c).toRForget forgets0) m ρ main
    (hbody := fun c => (body_obligation m c).loose.toRForget) (hshare := fun c => (dats m 0 c).share_full fun _ => rfl)
    (howed := fun _ _ => rfl) (V := V m) (hmain := hmain m Variants.none) (hA := A_eq m)
    (hin := fun _ => .rfl) (hout := fun _ => .rfl)

/-- The frame: every execution ends with the arguments unchanged and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  (θ_run defs _ _).mono (fun r h => ⟨fun c => ⟨h.1.arr_in c 0 rfl, h.1.arr_in c 1 rfl⟩, h.2⟩) (run_main m ρ)

end Cert.Proof.Dx
end
-- ==== Proof.DxIdealValue.lean ====
module

public import proofs.«01_k».proof.Proof.Gen.DxIdeal.Frame
public import proofs.«01_k».proof.Proof.Gen.DxIdeal.Skeleton
public import proofs.«01_k».proof.Proof.Gen.DxIdeal.Loops
public import Idealize.ShloMosaic.Lib.Pipeline.Frame
public import Idealize.ShloMosaic.Lib.Tactic
public import Idealize.ShloMosaic.Lib.PointwiseCore
public import Idealize.ShloMosaic.Lib.WritesUnit
public import Idealize.ShloMosaic.Lib.VecWindow

@[expose] public section

set_option maxRecDepth 16384

noncomputable section

namespace Cert.Proof.DxIdeal

open Cert.DxIdeal Cert.DxIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [FloatOps F]

local notation "𝕄" => MT nD τ sig Unit (Elt F) ℕ (UR sig nD τ) ℕ

/-! ## Where the kernel's rectangles lie -/

theorem off2_eq : ∀ k, k0_off2 k = ![(k.val + 1) % 2, 0, 0, 0] := by decide +kernel
instance (k : _) : ClosedOff (k0_off2 k) := ⟨_, off2_eq k⟩
theorem off3_eq : ∀ k, k0_off3 k = ![(k.val + 1) % 2, 0, 0, 128] := by decide +kernel
instance (k : _) : ClosedOff (k0_off3 k) := ⟨_, off3_eq k⟩
theorem off5_eq : ∀ k, k0_off5 k = ![(k.val + 1) % 2, 128, 0, 0] := by decide +kernel
instance (k : _) : ClosedOff (k0_off5 k) := ⟨_, off5_eq k⟩
theorem off6_eq : ∀ k, k0_off6 k = ![(k.val + 1) % 2, 128, 0, 128] := by decide +kernel
instance (k : _) : ClosedOff (k0_off6 k) := ⟨_, off6_eq k⟩
theorem off8_eq : ∀ k, k0_off8 k = ![(k.val + 1) % 2, 256, 0, 0] := by decide +kernel
instance (k : _) : ClosedOff (k0_off8 k) := ⟨_, off8_eq k⟩
theorem off9_eq : ∀ k, k0_off9 k = ![(k.val + 1) % 2, 256, 0, 128] := by decide +kernel
instance (k : _) : ClosedOff (k0_off9 k) := ⟨_, off9_eq k⟩
theorem off11_eq : ∀ k, k0_off11 k = ![k.val % 2, 0, 0, 0] := by decide +kernel
instance (k : _) : ClosedOff (k0_off11 k) := ⟨_, off11_eq k⟩

/-! ## What the stores put in a slot -/

/-- The word pair stored for rows 0 to 127 of a 256 by 256 block of the weights holds those rows as columns, two entries of a
    row to a word. -/
theorem pay6_apply (v : Vec F S256x256 .bf16) (a : Fin 1) (r : Fin 128) (h : Fin 2) (q : Fin 128) :
    k0_pay6 v (ix4 a r h q) = v (ix2 ⟨q.val, by omega⟩ ⟨2 * r.val + h.val, by omega⟩) := by
  fin_vals h with hh
  all_goals
    pointwise [k0_pay6, k0_pay5]
    simp only [hh]; rfl

/-- The word pair stored for rows 128 to 255 of the block. -/
theorem pay7_apply (v : Vec F S256x256 .bf16) (a : Fin 1) (r : Fin 128) (h : Fin 2) (q : Fin 128) :
    k0_pay7 v (ix4 a r h q) = v (ix2 ⟨128 + q.val, by omega⟩ ⟨2 * r.val + h.val, by omega⟩) := by
  fin_vals h with hh
  all_goals
    pointwise [k0_pay7, k0_pay5]
    simp only [hh]; rfl

/-- The word pair stored for the last 128 rows, which are loaded alone. -/
theorem pay33_apply (v : Vec F S128x256 .bf16) (a : Fin 1) (r : Fin 128) (h : Fin 2) (q : Fin 128) :
    k0_pay33 v (ix4 a r h q) = v (ix2 q ⟨2 * r.val + h.val, by omega⟩) := by
  fin_vals h with hh
  all_goals
    pointwise [k0_pay33]
    simp only [hh]; rfl

/-! The other stores put the same pairs. -/

theorem pay11_eq (v : Vec F S256x256 .bf16) : k0_pay11 (k0_pay9 v) (k0_pay10 v) = k0_pay6 v := rfl
theorem pay14_eq (v : Vec F S256x256 .bf16) : k0_pay14 v = k0_pay6 v := rfl
theorem pay20_eq (v : Vec F S256x256 .bf16) : k0_pay20 v = k0_pay6 v := rfl
theorem pay23_eq (v : Vec F S256x256 .bf16) : k0_pay23 v = k0_pay6 v := rfl
theorem pay26_eq (v : Vec F S256x256 .bf16) : k0_pay26 v = k0_pay6 v := rfl
theorem pay12_eq (v : Vec F S256x256 .bf16) : k0_pay12 (k0_pay8 v) = k0_pay7 v := rfl
theorem pay28_eq (v : Vec F S256x256 .bf16) : k0_pay28 (k0_pay16 v) (k0_pay17 v) = k0_pay7 v := rfl
theorem pay21_eq (v : Vec F S256x256 .bf16) : k0_pay21 v = k0_pay7 v := rfl
theorem pay24_eq (v : Vec F S256x256 .bf16) : k0_pay24 (k0_pay22 v) = k0_pay7 v := rfl
theorem pay27_eq (v : Vec F S256x256 .bf16) : k0_pay27 v = k0_pay7 v := rfl
theorem pay32_eq (v : Vec F S128x256 .bf16) : k0_pay32 (k0_pay30 v) (k0_pay31 v) = k0_pay33 v := rfl
theorem pay34_eq (v : Vec F S128x256 .bf16) : k0_pay34 v = k0_pay33 v := rfl
theorem pay1_eq (a : Vec F S768x256 .f32) (d : Vec F S384x768 .i32) (w : Vec F S1x384x2x256 .bf16) :
    k0_pay1 a (k0_pay35 d) w = k0_pay29 a d w := rfl

/-- Rows `256 b` to `256 b + 255` of the weights' block, as columns. -/
def wBlock (b : Fin 11) (W : S2880x768.Idx → Elt F .bf16) (n : Fin 768) (q : Fin 256) : Elt F .bf16 :=
  W (ix2 ⟨256 * b.val + q.val, by omega⟩ n)

/-- The last 128 rows of the weights' block, as columns. -/
def wTail (W : S2880x768.Idx → Elt F .bf16) (n : Fin 768) (q : Fin 128) : Elt F .bf16 :=
  W (ix2 ⟨2752 + q.val, by omega⟩ n)

/-- Slot `s` of the double buffer holds `B`. -/
def SlotIs (s : Nat) (B : Fin 768 → Fin 256 → Elt F .bf16) (G : S2x384x2x256.Idx → Elt F .bf16) : Prop :=
  ∀ (a : Fin 2) (r : Fin 384) (h : Fin 2) (q : Fin 256), a.val = s → G (ix4 a r h q) = B ⟨2 * r.val + h.val, by omega⟩ q

/-- The first 128 columns of slot `s` hold `B`. -/
def HalfIs (s : Nat) (B : Fin 768 → Fin 128 → Elt F .bf16) (G : S2x384x2x256.Idx → Elt F .bf16) : Prop :=
  ∀ (a : Fin 2) (r : Fin 384) (h : Fin 2) (q : Fin 128), a.val = s → G (ix4 a r h ⟨q.val, by omega⟩) = B ⟨2 * r.val + h.val, by omega⟩ q

section Fill

variable (v : View sig .tc .vmem S2x384x2x256 .bf16) (f : v.ty.Contents (Elt F))

/-- One piece in front of a list, read at an index: inside its rectangle the piece, outside it the rest. -/
theorem piece_at {s j c : Nat} {o : Fin 4 → Nat} (ho : o = ![s, j, 0, c]) (i : ∀ a, o a + S1x128x2x128.size a ≤ S2x384x2x256.size a)
    (w : S1x128x2x128.Idx → Elt F .bf16) (L : List _) (val : Fin 128 → Fin 2 → Fin 128 → Elt F .bf16)
    (hw : ∀ a r h q, w (ix4 a r h q) = val r h q) (a : Fin 2) (r : Fin 384) (h : Fin 2) (q : Fin 256) :
    v.read (Elt F) (v.writes (Elt F) f (⟨Rect.unit (s := S2x384x2x256) o S1x128x2x128.size i, w⟩ :: L)) (ix4 a r h q)
      = if hh : a.val = s ∧ (j ≤ r.val ∧ r.val < j + 128) ∧ c ≤ q.val ∧ q.val < c + 128 then
          val ⟨r.val - j, by omega⟩ h ⟨q.val - c, by omega⟩
        else v.read (Elt F) (v.writes (Elt F) f L) (ix4 a r h q) := by
  rw [View.read_writes_cons_unit v f i w _ _ ho]
  split
  · rename_i hh
    have e0 := hh 0; have e1 := hh 1; have e2 := hh 2; have e3 := hh 3
    simp at e0 e1 e2 e3
    rw [dif_pos (by omega)]
    refine (congrArg w (eq_ix4 _)).trans ((hw _ _ _ _).trans ?_)
    congr 1 <;> ext <;> simp [Rect.unitLocal_val]
  · rename_i hn
    simp [Fin.forall_fin_succ] at hn
    rw [dif_neg (by omega)]

/-- Six stores that tile a slot fill it with `B`, and leave the other slot as it was. -/
theorem slot_fill {s : Nat} {B : Fin 768 → Fin 256 → Elt F .bf16} {o1 o2 o3 o4 o5 o6 : Fin 4 → Nat}
    (h1 : o1 = ![s, 0, 0, 0]) (h2 : o2 = ![s, 0, 0, 128]) (h3 : o3 = ![s, 128, 0, 0]) (h4 : o4 = ![s, 128, 0, 128])
    (h5 : o5 = ![s, 256, 0, 0]) (h6 : o6 = ![s, 256, 0, 128])
    (i1 : ∀ a, o1 a + S1x128x2x128.size a ≤ S2x384x2x256.size a) (i2 : ∀ a, o2 a + S1x128x2x128.size a ≤ S2x384x2x256.size a)
    (i3 : ∀ a, o3 a + S1x128x2x128.size a ≤ S2x384x2x256.size a) (i4 : ∀ a, o4 a + S1x128x2x128.size a ≤ S2x384x2x256.size a)
    (i5 : ∀ a, o5 a + S1x128x2x128.size a ≤ S2x384x2x256.size a) (i6 : ∀ a, o6 a + S1x128x2x128.size a ≤ S2x384x2x256.size a)
    (x1 x2 x3 : S256x256.Idx → Elt F .bf16)
    (hx1 : ∀ (q p : Fin 256), x1 (ix2 q p) = B ⟨0 + p.val, by omega⟩ q)
    (hx2 : ∀ (q p : Fin 256), x2 (ix2 q p) = B ⟨256 + p.val, by omega⟩ q)
    (hx3 : ∀ (q p : Fin 256), x3 (ix2 q p) = B ⟨512 + p.val, by omega⟩ q) :
    let g := v.read (Elt F) (v.writes (Elt F) f [⟨Rect.unit (s := S2x384x2x256) o6 S1x128x2x128.size i6, k0_pay7 x3⟩,
      ⟨Rect.unit (s := S2x384x2x256) o5 S1x128x2x128.size i5, k0_pay6 x3⟩, ⟨Rect.unit (s := S2x384x2x256) o4 S1x128x2x128.size i4, k0_pay7 x2⟩,
      ⟨Rect.unit (s := S2x384x2x256) o3 S1x128x2x128.size i3, k0_pay6 x2⟩, ⟨Rect.unit (s := S2x384x2x256) o2 S1x128x2x128.size i2, k0_pay7 x1⟩,
      ⟨Rect.unit (s := S2x384x2x256) o1 S1x128x2x128.size i1, k0_pay6 x1⟩])
    SlotIs s B g ∧ ∀ (a : Fin 2) (r : Fin 384) (h : Fin 2) (q : Fin 256), a.val ≠ s → g (ix4 a r h q) = v.read (Elt F) f (ix4 a r h q) := by
  intro g
  have key : ∀ (a : Fin 2) (r : Fin 384) (h : Fin 2) (q : Fin 256), g (ix4 a r h q) = _ := fun a r h q => by
    show v.read (Elt F) (v.writes (Elt F) f _) _ = _
    rw [piece_at v f h6 i6 _ _ _ (pay7_apply x3), piece_at v f h5 i5 _ _ _ (pay6_apply x3), piece_at v f h4 i4 _ _ _ (pay7_apply x2),
      piece_at v f h3 i3 _ _ _ (pay6_apply x2), piece_at v f h2 i2 _ _ _ (pay7_apply x1), piece_at v f h1 i1 _ _ _ (pay6_apply x1), View.writes_nil]
  constructor
  · intro a r h q ha
    rw [key]
    split
    · rw [hx3]; congr 1 <;> ext <;> simp <;> omega
    split
    · rw [hx3]; congr 1; ext; simp; omega
    split
    · rw [hx2]; congr 1 <;> ext <;> simp <;> omega
    split
    · rw [hx2]; congr 1; ext; simp; omega
    split
    · rw [hx1]; congr 1 <;> ext <;> simp <;> omega
    split
    · rw [hx1]; congr 1; ext; simp
    omega
  · intro a r h q ha
    rw [key, dif_neg (by omega), dif_neg (by omega), dif_neg (by omega), dif_neg (by omega), dif_neg (by omega), dif_neg (by omega)]

/-- Three stores fill the first half of a slot with `B`, and leave the other slot as it was. -/
theorem half_fill {s : Nat} {B : Fin 768 → Fin 128 → Elt F .bf16} {o1 o2 o3 : Fin 4 → Nat}
    (h1 : o1 = ![s, 0, 0, 0]) (h2 : o2 = ![s, 128, 0, 0]) (h3 : o3 = ![s, 256, 0, 0])
    (i1 : ∀ a, o1 a + S1x128x2x128.size a ≤ S2x384x2x256.size a) (i2 : ∀ a, o2 a + S1x128x2x128.size a ≤ S2x384x2x256.size a)
    (i3 : ∀ a, o3 a + S1x128x2x128.size a ≤ S2x384x2x256.size a)
    (x1 x2 x3 : S128x256.Idx → Elt F .bf16)
    (hx1 : ∀ (q : Fin 128) (p : Fin 256), x1 (ix2 q p) = B ⟨0 + p.val, by omega⟩ q)
    (hx2 : ∀ (q : Fin 128) (p : Fin 256), x2 (ix2 q p) = B ⟨256 + p.val, by omega⟩ q)
    (hx3 : ∀ (q : Fin 128) (p : Fin 256), x3 (ix2 q p) = B ⟨512 + p.val, by omega⟩ q) :
    let g := v.read (Elt F) (v.writes (Elt F) f [⟨Rect.unit (s := S2x384x2x256) o3 S1x128x2x128.size i3, k0_pay33 x3⟩,
      ⟨Rect.unit (s := S2x384x2x256) o2 S1x128x2x128.size i2, k0_pay33 x2⟩, ⟨Rect.unit (s := S2x384x2x256) o1 S1x128x2x128.size i1, k0_pay33 x1⟩])
    HalfIs s B g ∧ ∀ (a : Fin 2) (r : Fin 384) (h : Fin 2) (q : Fin 256), a.val ≠ s → g (ix4 a r h q) = v.read (Elt F) f (ix4 a r h q) := by
  intro g
  have key : ∀ (a : Fin 2) (r : Fin 384) (h : Fin 2) (q : Fin 256), g (ix4 a r h q) = _ := fun a r h q => by
    show v.read (Elt F) (v.writes (Elt F) f _) _ = _
    rw [piece_at v f h3 i3 _ _ _ (pay33_apply x3), piece_at v f h2 i2 _ _ _ (pay33_apply x2), piece_at v f h1 i1 _ _ _ (pay33_apply x1), View.writes_nil]
  constructor
  · intro a r h q ha
    rw [key]
    split
    · rw [hx3]; congr 1; ext; simp; omega
    split
    · rw [hx2]; congr 1; ext; simp; omega
    split
    · rw [hx1]; congr 1; ext; simp
    rename_i n1 n2 n3
    have := q.isLt
    simp at n1 n2 n3
    omega
  · intro a r h q ha
    rw [key, dif_neg (by omega), dif_neg (by omega), dif_neg (by omega)]

end Fill

/-! ## The accumulator -/

/-- A slot that holds `B`, as it is loaded. -/
def slotBuilt (B : Fin 768 → Fin 256 → Elt F .bf16) : Vec F S1x384x2x256 .bf16 :=
  fun x => B ⟨2 * (x 1).val + (x 2).val, by
    have h1 : (x 1).val < 384 := (x 1).isLt
    have h2 : (x 2).val < 2 := (x 2).isLt
    omega⟩ (x 3)

/-- The first half of a slot that holds `B`, as it is loaded. -/
def halfBuilt (B : Fin 768 → Fin 128 → Elt F .bf16) : Vec F S1x384x2x128 .bf16 :=
  fun x => B ⟨2 * (x 1).val + (x 2).val, by
    have h1 : (x 1).val < 384 := (x 1).isLt
    have h2 : (x 2).val < 2 := (x 2).isLt
    omega⟩ (x 3)

/-- Columns `256 b` to `256 b + 255` of the accumulator. -/
def accBlock (b : Fin 11) (A : S768x2944.Idx → Elt F .f32) : Vec F S768x256 .f32 :=
  fun x => A (ix2 (x 0) ⟨256 * b.val + (x 1).val, by have h : (x 1).val < 256 := (x 1).isLt; omega⟩)

/-- The last 128 columns of the accumulator. -/
def accTail (A : S768x2944.Idx → Elt F .f32) : Vec F S768x128 .f32 :=
  fun x => A (ix2 (x 0) ⟨2816 + (x 1).val, by have h : (x 1).val < 128 := (x 1).isLt; omega⟩)

/-- The accumulator after one grid step that found `A` in it, as the kernel computes it. -/
def accNew (A : S768x2944.Idx → Elt F .f32) (D : S384x768.Idx → Elt F .i32) (W : S2880x768.Idx → Elt F .bf16) :
    S768x2944.Idx → Elt F .f32 := fun y =>
  if h : (y 1).val < 2816 then
    k0_pay29 (accBlock ⟨(y 1).val / 256, by omega⟩ A) D (slotBuilt (wBlock ⟨(y 1).val / 256, by omega⟩ W)) (ix2 (y 0) ⟨(y 1).val % 256, by omega⟩)
  else k0_pay2 (accTail A) D (halfBuilt (wTail W)) (ix2 (y 0) ⟨(y 1).val - 2816, by have h : (y 1).val < 2944 := (y 1).isLt; omega⟩)

/-- The first `n` columns of `Y` are those of `P`, the others those of `A`. -/
def ColsDone (n : Nat) (P A Y : S768x2944.Idx → Elt F .f32) : Prop :=
  ∀ (r : Fin 768) (q : Fin 2944), Y (ix2 r q) = if q.val < n then P (ix2 r q) else A (ix2 r q)

theorem colsDone_zero (P A : S768x2944.Idx → Elt F .f32) : ColsDone 0 P A A := fun r q => (if_neg (by omega)).symm

theorem eq_of_colsDone {P A Y : S768x2944.Idx → Elt F .f32} (h : ColsDone 2944 P A Y) : Y = P := by
  funext y
  rw [eq_ix2 (n0 := 768) (n1 := 2944) y]
  exact (h _ _).trans (if_pos (y 1).isLt)

theorem colsDone_of_eq {P A Y : S768x2944.Idx → Elt F .f32} (h : Y = A) : ColsDone (256 * 0) P A Y := h ▸ colsDone_zero P A

section Load

theorem readAt_whole (v : View sig .tc .vmem S384x768 .i32) (f : v.ty.Contents (Elt F))
    (inb : ∀ a, (![0, 0] : Fin 2 → Nat) a + S384x768.size a ≤ S384x768.size a) :
    v.readAt (Elt F) (Rect.unit (s := S384x768) ![0, 0] S384x768.size inb).toLoadRect f = v.read (Elt F) f := by
  funext x
  rw [View.readAt_apply]
  refine congrArg (v.read (Elt F) f) ?_
  refine (eq_ix2 _).trans (Eq.trans (congr (congrArg ix2 ?_) ?_) (eq_ix2 (n0 := 384) (n1 := 768) x).symm) <;> apply Fin.ext <;> simp [LoadRect.idx]

theorem readAt_slot (v : View sig .tc .vmem S2x384x2x256 .bf16) (f : v.ty.Contents (Elt F)) (s : Fin 2) {B : Fin 768 → Fin 256 → Elt F .bf16}
    {o : Fin 4 → Nat} (ho : o = ![s.val, 0, 0, 0]) (inb : ∀ a, o a + S1x384x2x256.size a ≤ S2x384x2x256.size a)
    (h : SlotIs s.val B (v.read (Elt F) f)) :
    v.readAt (Elt F) (Rect.unit (s := S2x384x2x256) o S1x384x2x256.size inb).toLoadRect f = slotBuilt B := by
  subst ho
  funext x
  refine Eq.trans ?_ (h s (x 1) (x 2) (x 3) rfl)
  rw [View.readAt_apply]
  refine congrArg (v.read (Elt F) f) ?_
  have hx0 : (x 0).val < 1 := (x 0).isLt
  refine (eq_ix4 _).trans (congr (congr (congr (congrArg ix4 ?_) ?_) ?_) ?_) <;> apply Fin.ext <;> simp [LoadRect.idx] <;> omega

theorem readAt_half (v : View sig .tc .vmem S2x384x2x256 .bf16) (f : v.ty.Contents (Elt F)) (s : Fin 2) {B : Fin 768 → Fin 128 → Elt F .bf16}
    {o : Fin 4 → Nat} (ho : o = ![s.val, 0, 0, 0]) (inb : ∀ a, o a + S1x384x2x128.size a ≤ S2x384x2x256.size a)
    (h : HalfIs s.val B (v.read (Elt F) f)) :
    v.readAt (Elt F) (Rect.unit (s := S2x384x2x256) o S1x384x2x128.size inb).toLoadRect f = halfBuilt B := by
  subst ho
  funext x
  refine Eq.trans ?_ (h s (x 1) (x 2) (x 3) rfl)
  rw [View.readAt_apply]
  refine congrArg (v.read (Elt F) f) ?_
  have hx0 : (x 0).val < 1 := (x 0).isLt
  refine (eq_ix4 _).trans (congr (congr (congr (congrArg ix4 ?_) ?_) ?_) ?_) <;> apply Fin.ext <;> simp [LoadRect.idx] <;> omega

/-- A block of the weights, loaded. -/
theorem readAt_block (v : View sig .tc .vmem S2880x768 .bf16) (f : v.ty.Contents (Elt F)) (b : Fin 11) {j : Nat} (hj : j ≤ 512)
    {o : Fin 2 → Nat} (ho : o = ![256 * b.val, j]) (inb : ∀ a, o a + S256x256.size a ≤ S2880x768.size a) (q p : Fin 256) :
    v.readAt (Elt F) (Rect.unit (s := S2880x768) o S256x256.size inb).toLoadRect f (ix2 q p)
      = wBlock b (v.read (Elt F) f) ⟨j + p.val, by omega⟩ q := by
  subst ho
  rw [View.readAt_apply]
  refine congrArg (v.read (Elt F) f) ?_
  refine (eq_ix2 _).trans (congr (congrArg ix2 ?_) ?_) <;> apply Fin.ext <;> simp [LoadRect.idx]

/-- The last rows of the weights, loaded. -/
theorem readAt_tail (v : View sig .tc .vmem S2880x768 .bf16) (f : v.ty.Contents (Elt F)) {j : Nat} (hj : j ≤ 512)
    {o : Fin 2 → Nat} (ho : o = ![2752, j]) (inb : ∀ a, o a + S128x256.size a ≤ S2880x768.size a) (q : Fin 128) (p : Fin 256) :
    v.readAt (Elt F) (Rect.unit (s := S2880x768) o S128x256.size inb).toLoadRect f (ix2 q p)
      = wTail (v.read (Elt F) f) ⟨j + p.val, by omega⟩ q := by
  subst ho
  rw [View.readAt_apply]
  refine congrArg (v.read (Elt F) f) ?_
  refine (eq_ix2 _).trans (congr (congrArg ix2 ?_) ?_) <;> apply Fin.ext <;> simp [LoadRect.idx]

theorem readAt_acc (v : View sig .tc .vmem S768x2944 .f32) (f : v.ty.Contents (Elt F)) (b : Fin 11) {P A : S768x2944.Idx → Elt F .f32}
    {o : Fin 2 → Nat} (ho : o = ![0, 256 * b.val]) (inb : ∀ a, o a + S768x256.size a ≤ S768x2944.size a)
    (h : ColsDone (256 * b.val) P A (v.read (Elt F) f)) :
    v.readAt (Elt F) (Rect.unit (s := S768x2944) o S768x256.size inb).toLoadRect f = accBlock b A := by
  subst ho
  funext x
  have e := h (x 0) ⟨256 * b.val + (x 1).val, by have h : (x 1).val < 256 := (x 1).isLt; omega⟩
  rw [if_neg (by simp)] at e
  refine Eq.trans ?_ e
  rw [View.readAt_apply]
  refine congrArg (v.read (Elt F) f) ?_
  refine (eq_ix2 _).trans (congr (congrArg ix2 ?_) ?_) <;> apply Fin.ext <;> simp [LoadRect.idx]

theorem readAt_accTail (v : View sig .tc .vmem S768x2944 .f32) (f : v.ty.Contents (Elt F)) {P A : S768x2944.Idx → Elt F .f32}
    (inb : ∀ a, (![0, 2816] : Fin 2 → Nat) a + S768x128.size a ≤ S768x2944.size a)
    {n : Nat} (hn : n ≤ 2816) (h : ColsDone n P A (v.read (Elt F) f)) :
    v.readAt (Elt F) (Rect.unit (s := S768x2944) ![0, 2816] S768x128.size inb).toLoadRect f = accTail A := by
  funext x
  have e := h (x 0) ⟨2816 + (x 1).val, by have h : (x 1).val < 128 := (x 1).isLt; omega⟩
  rw [if_neg (by show ¬ 2816 + (x 1).val < n; omega)] at e
  refine Eq.trans ?_ e
  rw [View.readAt_apply]
  refine congrArg (v.read (Elt F) f) ?_
  refine (eq_ix2 _).trans (congr (congrArg ix2 ?_) ?_) <;> apply Fin.ext <;> simp [LoadRect.idx]

end Load

/-- One block of columns of the accumulator is stored. -/
theorem cols_step (v : View sig .tc .vmem S768x2944 .f32) (f : v.ty.Contents (Elt F)) (b : Fin 11)
    (A : S768x2944.Idx → Elt F .f32) (D : S384x768.Idx → Elt F .i32) (W : S2880x768.Idx → Elt F .bf16)
    {o : Fin 2 → Nat} (ho : o = ![0, 256 * b.val]) (inb : ∀ a, o a + S768x256.size a ≤ S768x2944.size a)
    (w : S768x256.Idx → Elt F .f32) (hw : w = k0_pay29 (accBlock b A) D (slotBuilt (wBlock b W)))
    (h : ColsDone (256 * b.val) (accNew A D W) A (v.read (Elt F) f)) :
    ColsDone (256 * (b.val + 1)) (accNew A D W) A (v.read (Elt F) (v.writes (Elt F) f
      [⟨Rect.unit (s := S768x2944) o S768x256.size inb, w⟩])) := by
  intro r q
  rw [View.read_writes_cons_unit v f inb _ _ _ ho]
  split
  · rename_i hh
    have e1 := hh 1
    simp at e1
    subst hw
    rw [if_pos (by omega)]
    unfold accNew
    rw [dif_pos (by show q.val < 2816; omega)]
    have e : (⟨(ix2 r q 1).val / 256, by show q.val / 256 < 11; omega⟩ : Fin 11) = b := Fin.ext (by show q.val / 256 = b.val; omega)
    rw [e]
    refine (congrArg (k0_pay29 (accBlock b A) D (slotBuilt (wBlock b W))) (eq_ix2 (n0 := 768) (n1 := 256) _)).trans ?_
    refine congrArg _ ?_
    refine congr (congrArg ix2 ?_) ?_ <;> apply Fin.ext <;> simp [Rect.unitLocal_val]
    omega
  · rename_i hn
    rw [View.writes_nil, h r q]
    simp [Fin.forall_fin_succ] at hn
    refine if_congr ?_ rfl rfl
    omega

/-- The last columns of the accumulator are stored. -/
theorem tail_step (v : View sig .tc .vmem S768x2944 .f32) (f : v.ty.Contents (Elt F))
    (A : S768x2944.Idx → Elt F .f32) (D : S384x768.Idx → Elt F .i32) (W : S2880x768.Idx → Elt F .bf16)
    (inb : ∀ a, (![0, 2816] : Fin 2 → Nat) a + S768x128.size a ≤ S768x2944.size a)
    (w : S768x128.Idx → Elt F .f32) (hw : w = k0_pay2 (accTail A) D (halfBuilt (wTail W)))
    (L : List _) (h : ColsDone 2816 (accNew A D W) A (v.read (Elt F) (v.writes (Elt F) f L))) :
    v.read (Elt F) (v.writes (Elt F) f (⟨Rect.unit (s := S768x2944) ![0, 2816] S768x128.size inb, w⟩ :: L)) = accNew A D W := by
  refine eq_of_colsDone (A := A) fun r q => ?_
  rw [if_pos (by omega), View.read_writes_cons_unit v f inb _ _ _ rfl]
  split
  · rename_i hh
    have e1 := hh 1
    simp at e1
    subst hw
    unfold accNew
    rw [dif_neg (by show ¬ q.val < 2816; omega)]
    refine (congrArg (k0_pay2 (accTail A) D (halfBuilt (wTail W))) (eq_ix2 (n0 := 768) (n1 := 128) _)).trans ?_
    refine congrArg _ ?_
    refine congr (congrArg ix2 ?_) ?_ <;> apply Fin.ext <;> simp [Rect.unitLocal_val]
  · rename_i hn
    rw [h r q]
    simp [Fin.forall_fin_succ] at hn
    rw [if_pos (by omega)]

/-! ## The loop over the blocks of weights -/

abbrev UU (nD : Nat) (τ : Topo) : Type := UR sig nD τ
abbrev 𝒱₀ : Variants := Variants.none

theorem slotIs_congr {s : Nat} {B : Fin 768 → Fin 256 → Elt F .bf16} {G G' : S2x384x2x256.Idx → Elt F .bf16} (h : SlotIs s B G)
    (e : ∀ (a : Fin 2) (r : Fin 384) (p : Fin 2) (q : Fin 256), a.val = s → G' (ix4 a r p q) = G (ix4 a r p q)) : SlotIs s B G' :=
  fun a r p q ha => (e a r p q ha).trans (h a r p q ha)

set_option warn.classDefReducibility false in
noncomputable def loop1 (c : Dev nD) (i : grid0.Coords)
    (arg1 : Memref sig .tc .vmem S2880x768 .bf16) (harg1 : arg1.IsWhole) (arg2 : Memref sig .tc .vmem S384x768 .i32) (harg2 : arg2.IsWhole)
    (arg3 : Memref sig .tc .vmem S768x2880 .bf16) (harg3 : arg3.IsWhole) (arg4 : Memref sig .tc .vmem S2x384x2x256 .bf16) (harg4 : arg4.IsWhole)
    (arg5 : Memref sig .tc .vmem S768x2944 .f32) (harg5 : arg5.IsWhole)
    (v16 : FVec F S256x256 .bf16) (X1 : BufTy.Contents (Elt F) arg1.view.ty) (X2 : BufTy.Contents (Elt F) arg2.view.ty)
    (A : S768x2944.Idx → Elt F .f32) :
    Gen.LoopInvTy_k0_t1 (F := F) Unit ℕ (UU nD τ) ℕ 𝒱₀ c none Set.univ i arg1 harg1 arg2 harg2 arg3 harg3 arg4 harg4 arg5 harg5 v16 where
  inv := fun k acc => iprop((arg1.view.loc (c : Thread nD τ) ↦[arg1.view.set]{fullShare} X1) ∗ (arg2.view.loc (c : Thread nD τ) ↦[arg2.view.set]{fullShare} X2)
    ∗ (∃ f, (arg4.view.loc (c : Thread nD τ) ↦[arg4.view.set]{fullShare} f)
        ∗ ⌜∀ b : Fin 11, b.val = k → SlotIs (k % 2) (wBlock b (arg1.view.read (Elt F) X1)) (arg4.view.read (Elt F) f)⌝)
    ∗ (∃ f, (arg5.view.loc (c : Thread nD τ) ↦[arg5.view.set]{fullShare} f)
        ∗ ⌜ColsDone (256 * k) (accNew A (arg2.view.read (Elt F) X2) (arg1.view.read (Elt F) X1)) A (arg5.view.read (Elt F) f)⌝))
  step := fun k acc => by
    have hk : k.val < 10 := Nat.lt_of_lt_of_le k.isLt k0_t1_abs.2.1
    unfold Gen.k0_t1_body
    simp only [k0_part1_eq_skeleton, k0_part2_eq_skeleton]
    iintro ⟨H1, H2, ⟨%f4, H4, %h4⟩, ⟨%f5, H5, %h5⟩⟩
    sl_exec
    sl_step
    isplitl [H1]; · iexact H1
    isplitl [H2]; · iexact H2
    sl_unfold_run_names
    have hs : ∀ j : Nat, ![256 * k.val + 256, j] = ![256 * (k.val + 1), j] := fun j => by rw [Nat.mul_add]
    have h4' := slot_fill arg4.view f4 (B := wBlock ⟨k.val + 1, by omega⟩ (arg1.view.read (Elt F) X1))
      (off2_eq k) (off3_eq k) (off5_eq k) (off6_eq k) (off8_eq k) (off9_eq k)
      (k0_off2_inb k) (k0_off3_inb k) (k0_off5_inb k) (k0_off6_inb k) (k0_off8_inb k) (k0_off9_inb k) _ _ _
      (readAt_block arg1.view X1 ⟨k.val + 1, by omega⟩ (by omega) ((k0_off1_eq k).trans (hs 0)) (k0_off1_inb k))
      (readAt_block arg1.view X1 ⟨k.val + 1, by omega⟩ (by omega) ((k0_off4_eq k).trans (hs 256)) (k0_off4_inb k))
      (readAt_block arg1.view X1 ⟨k.val + 1, by omega⟩ (by omega) ((k0_off7_eq k).trans (hs 512)) (k0_off7_inb k))
    isplitl [H4]
    · iexists _; isplitl [H4]; · iexact H4
      ipureintro
      intro b hb
      have e : b = ⟨k.val + 1, by omega⟩ := Fin.ext hb
      rw [e]
      exact h4'.1
    iexists _; isplitl [H5]; · iexact H5
    ipureintro
    refine cols_step arg5.view f5 ⟨k.val, by omega⟩ A _ _ (k0_off10_eq k) (k0_off10_inb k) _ ?_ h5
    refine congr (congr (congrArg k0_pay29 (readAt_acc arg5.view f5 ⟨k.val, by omega⟩ (k0_off10_eq k) (k0_off10_inb k) h5))
      (readAt_whole arg2.view X2 _)) ?_
    refine readAt_slot arg4.view _ ⟨k.val % 2, by omega⟩ (off11_eq k) (k0_off11_inb k) ?_
    exact slotIs_congr (h4 ⟨k.val, by omega⟩ rfl) fun a r p q ha => h4'.2 a r p q (by rw [ha]; show k.val % 2 ≠ (k.val + 1) % 2; omega)

/-! ## The body, run once -/

theorem cond1_iff : ∀ i : grid0.Coords, Scalar.cmpi .ne (Scalar.extui (Scalar.cmpi .eq (BitVec.ofNat 32 (i 0).val) 0#32)) (0#32 : BitVec 32) = 1#1
    ↔ (i 0).val = 0 := by decide +kernel
theorem cond2_iff : ∀ i, k0_cond2 i = 1#1 ↔ (i 0).val = 10 := by decide +kernel
theorem trips1 : Scf.trips k0_t1_loop.lb k0_t1_loop.ub k0_t1_loop.st = 10 := by decide +kernel

/-- The result: the accumulator, rounded, without the columns counted twice. -/
def outOf (A : S768x2944.Idx → Elt F .f32) : S768x2880.Idx → Elt F .bf16 := fun y =>
  if h : (y 1).val < 2816 then k0_pay3 (fun x => A (ix2 (x 0) ⟨(x 1).val, by have h : (x 1).val < 2816 := (x 1).isLt; omega⟩)) (ix2 (y 0) ⟨(y 1).val, h⟩)
  else k0_pay4 (accTail A) (ix2 (y 0) ⟨(y 1).val - 2816, by have h : (y 1).val < 2880 := (y 1).isLt; omega⟩)

theorem accTail_new (A : S768x2944.Idx → Elt F .f32) (D : S384x768.Idx → Elt F .i32) (W : S2880x768.Idx → Elt F .bf16) :
    accTail (accNew A D W) = k0_pay2 (accTail A) D (halfBuilt (wTail W)) := by
  funext x
  have hx : (x 1).val < 128 := (x 1).isLt
  unfold accNew
  refine (dif_neg (by show ¬ 2816 + (x 1).val < 2816; omega)).trans ?_
  refine congrArg _ (Eq.trans ?_ (eq_ix2 (n0 := 768) (n1 := 128) x).symm)
  refine congr (congrArg ix2 rfl) (Fin.ext ?_)
  show 2816 + (x 1).val - 2816 = (x 1).val
  omega

/-- What the two stores leave in the result's buffer. -/
theorem out_eq (v3 : View sig .tc .vmem S768x2880 .bf16) (f3 : v3.ty.Contents (Elt F)) (v5 : View sig .tc .vmem S768x2944 .f32)
    (g : v5.ty.Contents (Elt F)) {P : S768x2944.Idx → Elt F .f32} {w : Vec F S768x128 .f32} (hw : w = accTail P) (hg : v5.read (Elt F) g = P)
    (i1 : ∀ a, (![0, 0] : Fin 2 → Nat) a + S768x2816.size a ≤ S768x2880.size a)
    (i2 : ∀ a, (![0, 2816] : Fin 2 → Nat) a + S768x64.size a ≤ S768x2880.size a)
    (i3 : ∀ a, (![0, 0] : Fin 2 → Nat) a + S768x2816.size a ≤ S768x2944.size a) :
    v3.read (Elt F) (v3.writes (Elt F) f3 [⟨Rect.unit (s := S768x2880) ![0, 2816] S768x64.size i2, k0_pay4 w⟩,
      ⟨Rect.unit (s := S768x2880) ![0, 0] S768x2816.size i1,
        k0_pay3 (v5.readAt (Elt F) (Rect.unit (s := S768x2944) ![0, 0] S768x2816.size i3).toLoadRect g)⟩]) = outOf P := by
  subst hw hg
  funext y
  have hy : (y 1).val < 2880 := (y 1).isLt
  have hy0 : (y 0).val < 768 := (y 0).isLt
  unfold outOf
  rw [View.read_writes_cons_unit v3 f3 i2 _ _ _ rfl]
  split
  · rename_i hh
    have e1 := hh 1
    simp at e1
    rw [dif_neg (by omega)]
    refine congrArg _ ((eq_ix2 (n0 := 768) (n1 := 64) _).trans ?_)
    refine congr (congrArg ix2 ?_) ?_ <;> apply Fin.ext <;> simp [Rect.unitLocal_val]
  · rename_i hn
    simp [Fin.forall_fin_succ] at hn
    rw [View.read_writes_cons_unit v3 f3 i1 _ _ _ rfl, dif_pos (by simp [Fin.forall_fin_succ]; omega), dif_pos (by omega)]
    refine congr (congrArg k0_pay3 ?_) ((eq_ix2 (n0 := 768) (n1 := 2816) _).trans ?_)
    · funext x
      rw [View.readAt_apply]
      refine congrArg (v5.read (Elt F) g) ?_
      refine (eq_ix2 _).trans (congr (congrArg ix2 ?_) ?_) <;> apply Fin.ext <;> simp [LoadRect.idx]
    · refine congr (congrArg ix2 ?_) ?_ <;> apply Fin.ext <;> simp [Rect.unitLocal_val]

/-- The kernel's body at one grid point, for any continuation. -/
theorem kernelRun (c : Dev nD) (i : grid0.Coords)
    (arg1 : Memref sig .tc .vmem S2880x768 .bf16) (harg1 : arg1.IsWhole) (arg2 : Memref sig .tc .vmem S384x768 .i32) (harg2 : arg2.IsWhole)
    (arg3 : Memref sig .tc .vmem S768x2880 .bf16) (harg3 : arg3.IsWhole) (arg4 : Memref sig .tc .vmem S2x384x2x256 .bf16) (harg4 : arg4.IsWhole)
    (arg5 : Memref sig .tc .vmem S768x2944 .f32) (harg5 : arg5.IsWhole)
    (X1 : S2880x768.Idx → Elt F .bf16) (X2 : S384x768.Idx → Elt F .i32) (A : S768x2944.Idx → Elt F .f32)
    (K : PUnit → sProp 𝕄) :
    iprop(owns (c : Thread nD τ) arg1 fullShare X1 ∗ owns (c : Thread nD τ) arg2 fullShare X2
        ∗ (∃ d, owns (c : Thread nD τ) arg3 fullShare d) ∗ (∃ d, owns (c : Thread nD τ) arg4 fullShare d) ∗ owns (c : Thread nD τ) arg5 fullShare A
        ∗ (iprop(owns (c : Thread nD τ) arg1 fullShare X1 ∗ owns (c : Thread nD τ) arg2 fullShare X2
            ∗ (∃ d, ⌜(i 0).val = 10 → d = outOf (accNew A X2 X1)⌝ ∗ owns (c : Thread nD τ) arg3 fullShare d)
            ∗ (∃ d, owns (c : Thread nD τ) arg4 fullShare d)
            ∗ owns (c : Thread nD τ) arg5 fullShare (accNew (if (i 0).val = 0 then k0_pay18 else A) X2 X1)) -∗ K ⟨⟩))
      ⊢ wp frame (wpE (defs₀ (F := F)) Variants.none c none) Set.univ
          (cc0_dx i arg1 harg1 arg2 harg2 arg3 harg3 arg4 harg4 arg5 harg5) K := by
  simp only [cc0_dx_eq_skeleton]; unfold cc0_dx_skel
  simp only [k0_part3_eq_skeleton, k0_part4_eq_skeleton, k0_part5_eq_skeleton]
  unfold owns
  iintro ⟨⟨%f1, %h1, H1⟩, ⟨%f2, %h2, H2⟩, ⟨%d3, %f3, -, H3⟩, ⟨%d4, %f4, -, H4⟩, ⟨%f5, %h5, H5⟩, Hk⟩
  subst h1 h2 h5
  obtain ⟨A', hA'⟩ : ∃ A' : S768x2944.Idx → Elt F .f32, A' = if (i 0).val = 0 then k0_pay18 else arg5.view.read (Elt F) f5 := ⟨_, rfl⟩
  by_cases hc1 : Scalar.cmpi .ne (Scalar.extui (Scalar.cmpi .eq (BitVec.ofNat 32 (i 0).val) 0#32)) 0#32 = 1#1
  all_goals
    have hi := cond1_iff i
    simp only [hc1, true_iff, false_iff] at hi
    sl_exec
    ihave H4 : iprop(∃ f, (arg4.view.loc (c : Thread nD τ) ↦[arg4.view.set]{fullShare} f)
        ∗ ⌜∀ b : Fin 11, b.val = 0 → SlotIs (0 % 2) (wBlock b (arg1.view.read (Elt F) f1)) (arg4.view.read (Elt F) f)⌝) $$ [H4]
    · iexists _; isplitl [H4]; · iexact H4
      ipureintro
      sl_unfold_run_names
      intro b hb
      exact (slot_fill arg4.view f4 rfl rfl rfl rfl rfl rfl _ _ _ _ _ _ _ _ _
        (readAt_block arg1.view f1 b (by decide) (by rw [hb]) _) (readAt_block arg1.view f1 b (by decide) (by rw [hb]) _)
        (readAt_block arg1.view f1 b (by decide) (by rw [hb]) _)).1
    ihave H5 : iprop(∃ f, (arg5.view.loc (c : Thread nD τ) ↦[arg5.view.set]{fullShare} f)
        ∗ ⌜ColsDone (256 * 0) (accNew A' (arg2.view.read (Elt F) f2) (arg1.view.read (Elt F) f1)) A' (arg5.view.read (Elt F) f)⌝) $$ [H5]
    · iexists _; isplitl [H5]; · iexact H5
      ipureintro
      sl_unfold_run_names
      refine colsDone_of_eq ?_
      first
        | exact ((hA'.trans (if_neg hi))).symm
        | exact (View.read_writes_full arg5.view _ _ _ _).trans (hA'.trans (if_pos hi)).symm
    icases H4 with ⟨%g4, H4, %h4⟩
    icases H5 with ⟨%g5, H5, %h5⟩
    let L := loop1 c i arg1 harg1 arg2 harg2 arg3 harg3 arg4 harg4 arg5 harg5 (k0_pay22 (arg1.view.readAt (Elt F) (Rect.unit (s := S2880x768) ![0, 256] S256x256.size (by decide)).toLoadRect f1)) f1 f2 A'
    by_cases hc2 : k0_cond2 i = 1#1
    all_goals
      sl_exec
      sl_step
      rw [trips1] at hL3 hL5
      sl_unfold_run_names
      have hT := congr (congr (congrArg k0_pay2 (readAt_accTail arg5.view fL1 inb_S768x2944_S768x128_0_2816 (by decide) hL5))
          (readAt_whole arg2.view f2 inb_S384x768_S384x768_0_0))
          (readAt_half arg4.view _ 1 rfl inb_S2x384x2x256_S1x384x2x128_1_0_0_0 (half_fill arg4.view arg4.view.junk rfl rfl rfl
            inb_S2x384x2x256_S1x128x2x128_1_0_0_0 inb_S2x384x2x256_S1x128x2x128_1_128_0_0 inb_S2x384x2x256_S1x128x2x128_1_256_0_0 _ _ _
            (readAt_tail arg1.view f1 (by decide) rfl inb_S2880x768_S128x256_2752_0)
            (readAt_tail arg1.view f1 (by decide) rfl inb_S2880x768_S128x256_2752_256)
            (readAt_tail arg1.view f1 (by decide) rfl inb_S2880x768_S128x256_2752_512)).1)
      have hP := tail_step arg5.view fL1 A' _ _ inb_S768x2944_S768x128_0_2816 _ hT _
        (cols_step arg5.view fL1 10 A' _ _ rfl inb_S768x2944_S768x256_0_2560 _
          (congr (congr (congrArg k0_pay29 (readAt_acc arg5.view fL1 10 rfl inb_S768x2944_S768x256_0_2560 hL5))
            (readAt_whole arg2.view f2 inb_S384x768_S384x768_0_0))
            (readAt_slot arg4.view fL0 0 rfl inb_S2x384x2x256_S1x384x2x256_0_0_0_0 (hL3 10 rfl))) hL5)
      iapply Hk
      isplitl [H1]
      · iexists _; isplitr; swap; · iexact H1
        ipureintro; rfl
      isplitl [H2]
      · iexists _; isplitr; swap; · iexact H2
        ipureintro; rfl
      isplitl [H3]
      · iexists _; isplitr; swap
        · iexists _; isplitr; swap; · iexact H3
          ipureintro; rfl
        ipureintro
        intro hi10
        first
          | exact absurd ((cond2_iff i).mpr hi10) hc2
          | refine (out_eq arg3.view f3 arg5.view _ ((View.readCov_cons_toLoadRect _ _ _ _).trans (hT.trans (accTail_new _ _ _).symm))
              hP inb_S768x2880_S768x2816_0_0 inb_S768x2880_S768x64_0_2816 inb_S768x2944_S768x2816_0_0).trans ?_
            rw [hA', if_neg (by omega)]
      isplitl [H4]
      · iexists _; iexists _; isplitr; swap; · iexact H4
        ipureintro; rfl
      iexists _; isplitr; swap; · iexact H5
      ipureintro
      rw [← hA']
      exact hP

end Cert.Proof.DxIdeal
end
-- ==== Proof.DxIdealRun.lean ====
module

public import proofs.«01_k».proof.Proof.DxIdealValue
public import Idealize.ShloMosaic.Lib.Pipeline.DatRel
public import Idealize.ShloMosaic.Lib.Pipeline.ArrRel

@[expose] public section

set_option maxRecDepth 16384

noncomputable section

namespace Cert.Proof.DxIdeal

open Cert.DxIdeal Cert.DxIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat RDat BodyObligation BodyObligationRel)

variable {F : FTy → Type} [FloatOps F]

local notation "𝕄" => MT nD τ sig Unit (Elt F) ℕ (UR sig nD τ) ℕ

variable [∀ e, Nonempty (Elt F e)]
variable (m : (ℓ : Loc nD τ sig) → Buf (Elt F) ℓ) (ρ : Dev nD → PrngReg)

abbrev ms0_0 (t : Fin cfg0.N) : Memref sig .tc .vmem S2880x768 .bf16 := win0_0.stage (cfg0.slots t 0)
abbrev ms0_1 (t : Fin cfg0.N) : Memref sig .tc .vmem S384x768 .i32 := win0_1.stage (cfg0.slots t 1)
abbrev ms0_2 (t : Fin cfg0.N) : Memref sig .tc .vmem S768x2880 .bf16 := win0_2.stage (cfg0.slots t 2)

/-- The grid coordinate of a point is its number. -/
theorem coord_eq (t : Fin cfg0.N) : (grid0.coords t 0).val = t.val := by
  have h : ∀ t : Fin cfg0.N, (grid0.coords t 0).val = t.val := by decide +kernel
  exact h t

/-- The accumulator before point `n`: zero, then one step for every point before. -/
def accBefore (c : Dev nD) : Nat → S768x2944.Idx → Elt F .f32
  | 0 => k0_pay18
  | n + 1 => if h : n < cfg0.N then accNew (accBefore c n) (Gen.iblk m c 1 ⟨n, h⟩) (Gen.iblk m c 0 ⟨n, h⟩) else accBefore c n

theorem accBefore_succ (c : Dev nD) (t : Fin cfg0.N) :
    accBefore m c (t.val + 1) = accNew (accBefore m c t.val) (Gen.iblk m c 1 t) (Gen.iblk m c 0 t) := by
  show (if h : t.val < cfg0.N then _ else _) = _
  rw [dif_pos t.isLt]

/-- What every point keeps: the two scratch buffers, the second being the accumulator, and the generator's register. -/
def Phi (c : Dev nD) (n : Nat) : sProp 𝕄 :=
  iprop(((∃ G, owns (c : Thread nD τ) (Memref.whole cc0_scratch0) fullShare G)
    ∗ (∃ A, ⌜n ≠ 0 → A = accBefore m c n⌝ ∗ owns (c : Thread nD τ) (Memref.whole cc0_scratch1) fullShare A)) ∗ (∃ r, prngReg c r))

def marked : Fin cfg0.W → Bool := fun w => w.val == 2

/-- What the result's window holds after the last point. -/
def Rl (c : Dev nD) (w : Fin cfg0.W) (t : Fin cfg0.N) (X : (cfg0.win w).block.Idx → Elt F (cfg0.win w).elt) : Prop :=
  match w, X with
  | ⟨0, _⟩, _ => True
  | ⟨1, _⟩, _ => True
  | ⟨2, _⟩, X => t.val = 10 → X = outOf (accBefore m c 11)

/-- The proof data: the two inputs stay their blocks, and the scratch carries the accumulator. -/
def dats (_ : Fin 1) (c : Dev nD) : Dat τ (Elt F) Unit ℕ (UR sig nD τ) ℕ cfg0 c where
  A w := V m c (Pipeline.arrRef spec0 w)
  after w t := match w with
    | ⟨0, _⟩ => Gen.iblk m c 0 t
    | ⟨1, _⟩ => Gen.iblk m c 1 t
    | ⟨2, _⟩ => Pipeline.Dat.unnamed (cfg := cfg0) 2 t
  Φ t := Phi m c t.val
  q _ := fullShare
  owed _ := 0

theorem A_eq (c : Dev nD) (w : Fin cfg0.W) : (dats m 0 c).A w = V m c (Pipeline.arrRef spec0 w) := by dsimp only [dats]

theorem before0_0 (c : Dev nD) (t : Fin cfg0.N) (d) : (dats m 0 c).before 0 t d = Gen.iblk m c 0 t :=
  Gen.before0_0_of m (dats m 0 c) (A_eq m c 0) (fun _ => rfl) t d
theorem before0_1 (c : Dev nD) (t : Fin cfg0.N) (d) : (dats m 0 c).before 1 t d = Gen.iblk m c 1 t :=
  Gen.before0_1_of m (dats m 0 c) (A_eq m c 1) (fun _ => rfl) t d

def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, ⌜((dats m 0 c).toRRel marked (Rl m c)).Finds 2 t d⌝ ∗ owns (c : Thread nD τ) (ms0_2 t) fullShare d))
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ (∃ d, ⌜Rl m c 2 t d⌝ ∗ owns (c : Thread nD τ) (ms0_2 t) fullShare d))

theorem PhiA0_eq (c : Dev nD) :
    (Pipeline.ΦA (U := UR sig nD τ) (Val := Elt F) (τ := τ) spec0 c : sProp 𝕄)
      = iprop(((∃ d, owns (c : Thread nD τ) (Memref.whole cc0_scratch0) fullShare d)
        ∗ (∃ d, owns (c : Thread nD τ) (Memref.whole cc0_scratch1) fullShare d)) ∗ (∃ r, prngReg c r)) := by
  unfold Pipeline.ΦA; rw [scopedRest0_eq]; simp only [owns_whole]; try rfl

/-- What one point makes of the accumulator that it finds. -/
theorem acc_step (c : Dev nD) (t : Fin cfg0.N) {A : S768x2944.Idx → Elt F .f32} (hA : t.val ≠ 0 → A = accBefore m c t.val) :
    accNew (if (grid0.coords t 0).val = 0 then k0_pay18 else A) (Gen.iblk m c 1 t) (Gen.iblk m c 0 t) = accBefore m c (t.val + 1) := by
  rw [accBefore_succ, coord_eq]
  by_cases h : t.val = 0
  · rw [if_pos h, h]; rfl
  · rw [if_neg h, hA h]

theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  rw [show (dats m 0 c).owesAt () t.succ = (dats m 0 c).owesAt () t.castSucc from rfl,
    show (dats m 0 c).Φ t.castSucc = Phi m c t.val from rfl, show (dats m 0 c).Φ t.succ = Phi m c (t.val + 1) from rfl]
  unfold Phi
  simp only [before0_0, before0_1]
  iintro ⟨⟨⟨HS, ⟨%A, %hA, HT⟩⟩, Hg⟩, HO, ⟨%_, H0⟩, ⟨%_, H1⟩, ⟨%d2, -, H2⟩⟩
  iapply (kernelRun c _ (ms0_0 t) _ (ms0_1 t) _ (ms0_2 t) _ _ _ _ _ (Gen.iblk m c 0 t) (Gen.iblk m c 1 t) A _)
  isplitl [H0]; · iexact H0
  isplitl [H1]; · iexact H1
  isplitl [H2]; · iexists _; iexact H2
  isplitl [HS]; · iexact HS
  isplitl [HT]; · iexact HT
  iintro ⟨H0, H1, ⟨%Y, %hY, H2⟩, HS, HT⟩
  isplitl [HS HT Hg]
  · isplitl [HS HT]
    · isplitl [HS]; · iexact HS
      iexists _; isplitr; swap; · iexact HT
      ipureintro
      exact fun _ => acc_step m c t hA
    iexact Hg
  isplitl [HO]; · iexact HO
  isplitl [H0]; · iexact H0
  isplitl [H1]; · iexact H1
  iexists Y; isplitr; swap; · iexact H2
  ipureintro
  intro ht
  have h := hY (by rw [coord_eq]; exact ht)
  have e := acc_step m c t hA
  rw [if_neg (by rw [coord_eq]; omega)] at e
  have e11 : t.val + 1 = 11 := by omega
  rw [e, e11] at h
  exact h

theorem defs₀_row (t : Fin cfg0.N) : defs₀ (F := F) .tc cfg0.body (cfg0.bodyArgs t (cfg0.slots t)) = bodyAt0 t := by
  unfold defs₀; rw [Defs.onTc_tc]

theorem body_obligation (c : Dev nD) :
    BodyObligationRel (dats (F := F) m 0 c) (defs₀ (F := F)) Variants.none () Set.univ marked (Rl m c) := fun t => by
  rw [bigSep_W0, bigSep_W0, defs₀_row]
  exact triple_restated (sound_body m c t) rfl .rfl fun _ => .rfl

theorem phi_first (c : Dev nD) : Pipeline.ΦA (U := UR sig nD τ) (Val := Elt F) (τ := τ) spec0 c ⊢ (dats (F := F) m 0 c).Φ 0 := by
  rw [PhiA0_eq]
  show _ ⊢ Phi m c 0
  unfold Phi
  iintro ⟨⟨HS, ⟨%A, HT⟩⟩, Hg⟩
  isplitl [HS HT]
  · isplitl [HS]; · iexact HS
    iexists A; isplitr; swap; · iexact HT
    ipureintro
    exact fun h => absurd rfl h
  iexact Hg

theorem phi_last (c : Dev nD) : (dats (F := F) m 0 c).Φ (Fin.last _) ⊢ Pipeline.ΦA (U := UR sig nD τ) (Val := Elt F) (τ := τ) spec0 c := by
  rw [PhiA0_eq]
  show Phi m c _ ⊢ _
  unfold Phi
  iintro ⟨⟨HS, ⟨%A, -, HT⟩⟩, Hg⟩
  isplitl [HS HT]
  · isplitl [HS]; · iexact HS
    iexists A; iexact HT
  iexact Hg

/-- The data of the run. -/
def rdats (c : Dev nD) : RDat τ (Elt F) Unit ℕ (UR sig nD τ) ℕ cfg0 c := (dats m 0 c).toRRel marked (Rl m c)

set_option backward.isDefEq.respectTransparency.types false in
theorem run_main :
    θ_run defs (onTc (τ := τ) (main (F := F))) (s₀ m ρ)
      (fun r => Pipeline.RDat.FramePost (cfgs 0) (fun c => (dats m 0 c).toRRel marked (Rl m c)) (V m) r ∧ r.2.sem = fun _ => 0) :=
  Pipeline.RDat.θ_run_frame_track (Q' := _) cfgs (0 : Fin 1) launch0 defs₀ Variants.none (fun c => (dats m 0 c).toRRel marked (Rl m c)) m ρ main
    (hbody := fun c => (body_obligation m c).toRRel) (hshare := fun c => (dats m 0 c).share_full fun _ => rfl)
    (howed := fun _ _ => rfl) (V := V m) (hmain := hmain m Variants.none) (hA := A_eq m)
    (hin := fun c => phi_first m c) (hout := fun c => phi_last m c)

end Cert.Proof.DxIdeal
end
-- ==== Proof.DxIdealSpec.lean ====
module

public import proofs.«01_k».proof.Proof.DxIdealRun
public import proofs.«01_k».proof.Proof.DwIdealSpec
public import proofs.«01_k».proof.Proof.Gen.ReferenceDxIdeal.Frame
public import proofs.«01_k».proof.Proof.Gen.ReferenceDxIdeal.Skeleton
public import Idealize.ShloMosaic.Lib.Pointwise
public import Idealize.ShloMosaic.Lib.BitcastPair
public import Idealize.ShloMosaic.Lib.Pipeline.ValueKit.Geometry
public import Idealize.ShloMosaic.Lib.Pipeline.ValueKit.Acc

@[expose] public section

set_option maxRecDepth 16384

noncomputable section

namespace Cert.Proof.DxIdeal

open Cert.DxIdeal Cert.DxIdeal.Gen
open Idealize.ShloMosaic Idealize.ShloMosaic.TcCoe Idealize.ShloMosaic.Tactic

open scoped BigOperators
open Idealize.SL.Sem

/-- The real number of the bfloat16 at row `t`, column `n` of the packed left operand. -/
def gradAt {K : Nat} (x : (⟨2, ![384, K]⟩ : Shape).Idx → BitVec 32) (t : Fin 768) (n : Fin K) : Ideal .bf16 :=
  Ideal.ofBits .bf16 ((x (ix2 ⟨t.val / 2, by omega⟩ n)).extractLsb' (16 * (t.val % 2)) 16)

/-- The product: the left operand, read as bfloat16, times the transpose of the weights. -/
def dxVal (w : S2880x8448.Idx → Ideal .bf16) (x : S384x8448.Idx → BitVec 32) : S768x2880.Idx → Ideal .bf16 :=
  fun y => ∑ n : Fin 8448, gradAt x (y 0) n * w (ix2 (y 1) n)

theorem pay29_apply (a : Vec Ideal S768x256 .f32) (v : Vec Ideal S384x768 .i32) (S : Vec Ideal S1x384x2x256 .bf16) (t : Fin 768) (q : Fin 256) :
    k0_pay29 a v S (ix2 t q) = a (ix2 t q) + ∑ k : Fin 768, gradAt (K := 768) v t k
        * S (ix4 0 ⟨k.val / 2, by omega⟩ ⟨k.val % 2, by omega⟩ q) := by
  pointwise [k0_pay29]
  refine congrArg _ (Finset.sum_congr rfl fun k _ => ?_)
  rw [DwIdeal.bitcast_at (M := 384) (N := 768) (K := 768) v _ t k (by omega)]
  unfold gradAt
  congr 1
  have h2 := Nat.mod_two_eq_zero_or_one k.val
  split
  · rename_i h
    congr 2; exact Fin.ext h.symm
  · rename_i h
    congr 2; exact Fin.ext (by show 1 = k.val % 2; omega)

theorem pay2_apply (a : Vec Ideal S768x128 .f32) (v : Vec Ideal S384x768 .i32) (S : Vec Ideal S1x384x2x128 .bf16) (t : Fin 768) (q : Fin 128) :
    k0_pay2 a v S (ix2 t q) = a (ix2 t q) + ∑ k : Fin 768, gradAt (K := 768) v t k
        * S (ix4 0 ⟨k.val / 2, by omega⟩ ⟨k.val % 2, by omega⟩ q) := by
  pointwise [k0_pay2]
  refine congrArg _ (Finset.sum_congr rfl fun k _ => ?_)
  rw [DwIdeal.bitcast_at (M := 384) (N := 768) (K := 768) v _ t k (by omega)]
  unfold gradAt
  congr 1
  have h2 := Nat.mod_two_eq_zero_or_one k.val
  split
  · rename_i h
    congr 2; exact Fin.ext h.symm
  · rename_i h
    congr 2; exact Fin.ext (by show 1 = k.val % 2; omega)

theorem ref_apply (v : Vec Ideal S384x8448 .i32) (w : Vec Ideal S2880x8448 .bf16) (t : Fin 768) (k : Fin 2880) :
    Cert.ReferenceDxIdeal.Gen.k0_pay1 v w (ix2 t k) = dxVal w v (ix2 t k) := by
  pointwise [Cert.ReferenceDxIdeal.Gen.k0_pay1]
  refine Finset.sum_congr rfl fun n _ => ?_
  have h := DwIdeal.bitcast_at (M := 384) (N := 768) (K := 8448) v Cert.ReferenceDxIdeal.Gen.bitcasts_S384x8448_w32_S768x8448_w16 t n (by omega)
  exact congrArg (· * w (ix2 k n)) (congrArg (Ideal.ofBits .bf16) h)

/-- The row of the weights that column `q` of the accumulator multiplies: the last columns overlap those before by 64. -/
def rowOf (q : Fin 2944) : Fin 2880 := ⟨if q.val < 2816 then q.val else q.val - 64, by have := q.isLt; split <;> omega⟩

/-- One grid step adds to the accumulator the product of its blocks. -/
theorem accNew_apply (A : S768x2944.Idx → Ideal .f32) (D : S384x768.Idx → BitVec 32) (W : S2880x768.Idx → Ideal .bf16) (t : Fin 768) (q : Fin 2944) :
    accNew (F := Ideal) A D W (ix2 t q) = A (ix2 t q) + ∑ k : Fin 768, gradAt (K := 768) D t k * W (ix2 (rowOf q) k) := by
  have hq := q.isLt
  unfold accNew
  split
  · rename_i h
    have h' : q.val < 2816 := h
    refine (pay29_apply _ _ _ _ _).trans ?_
    have ha : (accBlock (F := Ideal) ⟨q.val / 256, by omega⟩ A) (ix2 t ⟨q.val % 256, by omega⟩) = A (ix2 t q) := by
      unfold accBlock
      refine congrArg A (congrArg (ix2 t) (Fin.ext ?_))
      show 256 * (q.val / 256) + q.val % 256 = q.val
      omega
    refine congr (congrArg HAdd.hAdd ha) (Finset.sum_congr rfl fun k _ => congrArg _ ?_)
    show W (ix2 _ _) = W (ix2 _ _)
    refine congrArg W (congr (congrArg ix2 (Fin.ext ?_)) (Fin.ext ?_))
    · show 256 * (q.val / 256) + q.val % 256 = if q.val < 2816 then q.val else q.val - 64
      rw [if_pos h']; omega
    · show 2 * (k.val / 2) + k.val % 2 = k.val
      omega
  · rename_i h
    have h' : ¬ q.val < 2816 := h
    refine (pay2_apply _ _ _ _ _).trans ?_
    have ha : (accTail (F := Ideal) A) (ix2 t ⟨q.val - 2816, by omega⟩) = A (ix2 t q) := by
      unfold accTail
      refine congrArg A (congrArg (ix2 t) (Fin.ext ?_))
      show 2816 + (q.val - 2816) = q.val
      omega
    refine congr (congrArg HAdd.hAdd ha) (Finset.sum_congr rfl fun k _ => congrArg _ ?_)
    show W (ix2 _ _) = W (ix2 _ _)
    refine congrArg W (congr (congrArg ix2 (Fin.ext ?_)) (Fin.ext ?_))
    · show 2752 + (q.val - 2816) = if q.val < 2816 then q.val else q.val - 64
      rw [if_neg h']; omega
    · show 2 * (k.val / 2) + k.val % 2 = k.val
      omega

theorem pay18_apply (y : S768x2944.Idx) : k0_pay18 (F := Ideal) y = 0 := by
  rw [eq_ix2 (n0 := 768) (n1 := 2944) y]
  pointwise [k0_pay18]

/-- The result's entry, from the accumulator. -/
theorem outOf_apply (A : S768x2944.Idx → Ideal .f32) (y : S768x2880.Idx) :
    ∃ q : Fin 2944, rowOf q = y 1 ∧ outOf (F := Ideal) A y = A (ix2 (y 0) q) := by
  have hy : (y 1).val < 2880 := (y 1).isLt
  unfold outOf
  split
  · rename_i h
    refine ⟨⟨(y 1).val, by omega⟩, Fin.ext (if_pos h), ?_⟩
    pointwise [k0_pay3]
  · rename_i h
    refine ⟨⟨(y 1).val + 64, by omega⟩, Fin.ext ((if_neg (by show ¬ (y 1).val + 64 < 2816; omega)).trans (by show (y 1).val + 64 - 64 = (y 1).val; omega)), ?_⟩
    pointwise [k0_pay4]
    unfold accTail
    refine congrArg A (congrArg (ix2 (y 0)) (Fin.ext ?_))
    simp
    omega

variable (m : (ℓ : Loc nD τ sig) → Buf (Elt Ideal) ℓ) (ρ : Dev nD → PrngReg)

theorem index_w : ∀ t : Fin cfg0.N, win0_0.index t = ![0, t.val] := by decide +kernel
theorem index_d : ∀ t : Fin cfg0.N, win0_1.index t = ![0, t.val] := by decide +kernel
theorem index_out : ∀ t : Fin cfg0.N, win0_2.index t = ![0, 0] := by decide +kernel

/-- The weights' block of a point is its 768 columns. -/
theorem w_block (c : Dev nD) (t : Fin cfg0.N) (k : Fin 2880) (j : Fin 768) :
    Gen.iblk m c 0 t (ix2 k j) = m ((c.tc : Thread nD τ).loc main_arg0) (ix2 k ⟨768 * t.val + j.val, by have : t.val < 11 := t.isLt; omega⟩) := by
  blk_simp [Gen.iblk]
  refine congrArg (m ((c.tc : Thread nD τ).loc main_arg0)) ?_
  blk_ext [index_w]

/-- The left operand's block of a point is its 768 columns. -/
theorem d_block (c : Dev nD) (t : Fin cfg0.N) (r : Fin 384) (j : Fin 768) :
    Gen.iblk m c 1 t (ix2 r j) = m ((c.tc : Thread nD τ).loc main_arg1) (ix2 r ⟨768 * t.val + j.val, by have : t.val < 11 := t.isLt; omega⟩) := by
  blk_simp [Gen.iblk]
  refine congrArg (m ((c.tc : Thread nD τ).loc main_arg1)) ?_
  blk_ext [index_d]

/-- One summand of the result. -/
def term (c : Dev nD) (t : Fin 768) (k : Fin 2880) (n : Nat) : EReal :=
  if h : n < 8448 then gradAt (K := 8448) (m ((c.tc : Thread nD τ).loc main_arg1)) t ⟨n, h⟩ * m ((c.tc : Thread nD τ).loc main_arg0) (ix2 k ⟨n, h⟩) else 0

/-- The accumulator before point `n` holds the sum over the columns of the points before. -/
theorem accBefore_apply (c : Dev nD) (n : Nat) (hn : n ≤ 11) (t : Fin 768) (q : Fin 2944) :
    accBefore m c n (ix2 t q) = ∑ j ∈ Finset.range (768 * n), term m c t (rowOf q) j := by
  induction n with
  | zero => exact (pay18_apply _).trans (by simp)
  | succ n ih =>
    have e := accBefore_succ m c (⟨n, by show n < 11; omega⟩ : Fin cfg0.N)
    refine (congrFun e _).trans ((accNew_apply _ _ _ _ _).trans ?_)
    rw [Nat.mul_add, Finset.sum_range_add, Nat.mul_one, Finset.sum_range (n := 768)]
    refine congr (congrArg HAdd.hAdd (ih (by omega))) (Finset.sum_congr rfl fun k _ => ?_)
    unfold term
    rw [dif_pos (by omega)]
    refine congr (congrArg HMul.hMul ?_) (w_block m c _ _ _)
    unfold gradAt
    rw [d_block]

/-- The last accumulator, rounded, is the product. -/
theorem out_value (c : Dev nD) (y : S768x2880.Idx) :
    outOf (accBefore m c 11) y
      = dxVal (m ((c.tc : Thread nD τ).loc main_arg0)) (m ((c.tc : Thread nD τ).loc main_arg1)) y := by
  obtain ⟨q, hq, e⟩ := outOf_apply (accBefore m c 11) y
  refine e.trans ((accBefore_apply m c 11 le_rfl _ q).trans ?_)
  rw [hq, show 768 * 11 = 8448 from rfl, Finset.sum_range]
  refine Finset.sum_congr rfl fun n _ => ?_
  unfold term
  rw [dif_pos n.isLt]

theorem final_out (c : Dev nD) (r : PUnit × MemSt nD τ sig (Elt Ideal))
    (h : Pipeline.RDat.FramePost (cfgs 0) (fun c => (dats m 0 c).toRRel marked (Rl m c)) (V m) r) :
    r.2.mem ((c.tc : Thread nD τ).loc main_v0)
      = dxVal (m ((c.tc : Thread nD τ).loc main_arg0)) (m ((c.tc : Thread nD τ).loc main_arg1)) := by
  obtain ⟨after, hL, hA⟩ := h.exists_exact c
  refine (hA 2).trans ?_
  refine Pipeline.Dat.arrAt_eq_of_after_last _ 2 ⟨10, by decide⟩ (by decide +kernel) _ fun j => ?_
  have hR : Rl m c 2 ⟨10, by decide⟩ (after 2 ⟨10, by decide⟩) := (dats m 0 c).toRRel_leaves rfl (hL 2 ⟨10, by decide⟩ (by decide +kernel))
  blk_simp
  refine (congrFun (hR rfl) _).trans ((out_value m c _).trans ?_)
  rfl

/-- What every execution of the kernel ends with. -/
theorem run_value : θ_run defs (onTc (τ := τ) (main (F := Ideal))) ⟨m, fun _ => 0, ρ⟩ (fun r => (∀ c : Dev nD,
      r.2.mem ((c.tc : Thread nD τ).loc main_v0) = dxVal (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  (θ_run defs _ _).mono (fun r h => ⟨fun c => ⟨final_out m c r h.1, h.1.arr_in c 0 rfl, h.1.arr_in c 1 rfl⟩, h.2⟩) (run_main m ρ)

end Cert.Proof.DxIdeal

namespace Cert.Proof.ReferenceDxIdeal

open Cert.ReferenceDxIdeal Cert.ReferenceDxIdeal.Gen
open Idealize.ShloMosaic Idealize.ShloMosaic.TcCoe Idealize.ShloMosaic.Tactic
open Idealize.SL.Sem

variable (m : (ℓ : Loc nD τ sig) → Buf (Elt Ideal) ℓ) (ρ : Dev nD → PrngReg)

theorem index0 : ∀ t : Fin cfg0.N, win0_0.index t = ![0, 0] := by decide +kernel
theorem index1 : ∀ t : Fin cfg0.N, win0_1.index t = ![0, 0] := by decide +kernel

theorem block0 (c : Dev nD) (t : Fin cfg0.N) : iblk m c 0 t = m ((c.tc : Thread nD τ).loc main_arg0) := by
  funext x; blk_simp [iblk]
  refine congrArg (m ((c.tc : Thread nD τ).loc main_arg0)) ?_
  blk_ext [index0]
theorem block1 (c : Dev nD) (t : Fin cfg0.N) : iblk m c 1 t = m ((c.tc : Thread nD τ).loc main_arg1) := by
  funext x; blk_simp [iblk]
  refine congrArg (m ((c.tc : Thread nD τ).loc main_arg1)) ?_
  blk_ext [index1]

theorem final_out (c : Dev nD) (r : PUnit × MemSt nD τ sig (Elt Ideal)) (h : Pipeline.FramePost cfgs (dats m) 0 (V m) r) :
    r.2.mem ((c.tc : Thread nD τ).loc main_v0)
      = DxIdeal.dxVal (m ((c.tc : Thread nD τ).loc main_arg0)) (m ((c.tc : Thread nD τ).loc main_arg1)) := by
  refine (h.out_eq c 2).trans ?_
  refine Pipeline.Dat.arrAt_eq_of_after_last _ 2 ⟨0, by decide⟩ (by decide +kernel) _ fun j => ?_
  blk_simp
  refine (congrFun (after0_2 m c _) _).trans ?_
  frame_out
  have h1 := block1 m c ⟨0, by decide⟩
  have h0 := block0 m c ⟨0, by decide⟩
  have e := DxIdeal.ref_apply (iblk m c 1 (⟨0, by decide⟩ : Fin cfg0.N)) (iblk m c 0 (⟨0, by decide⟩ : Fin cfg0.N)) (j 0) (j 1)
  have hj : (ix2 (j 0) (j 1) : S768x2880.Idx) = j := (eq_ix2 (n0 := 768) (n1 := 2880) j).symm
  rw [h0, h1] at e
  refine Eq.trans ?_ (e.trans (congrArg _ hj))
  exact congr (congr (congrArg (k0_pay1 (F := Ideal)) h1) h0) hj.symm

/-- What every execution of the reference ends with. -/
theorem run_value : θ_run defs (onTc (τ := τ) (main (F := Ideal))) ⟨m, fun _ => 0, ρ⟩ (fun r => ∀ c : Dev nD,
      r.2.mem ((c.tc : Thread nD τ).loc main_v0)
        = DxIdeal.dxVal (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun r h c => ⟨final_out m c r h, h.in_eq c 0 rfl, h.in_eq c 1 rfl⟩) (run_main m ρ)

end Cert.Proof.ReferenceDxIdeal
end
-- ==== Proof.lean ====
module

public import proofs.«01_k».proof.Defs
public import proofs.«01_k».proof.Proof.Gen.Dw
public import proofs.«01_k».proof.Proof.Gen.Dw.Skeleton
public import proofs.«01_k».proof.Proof.Gen.Dw.Loops
public import proofs.«01_k».proof.Proof.Gen.Dw.Launch
public import proofs.«01_k».proof.Proof.Gen.Dw.Points
public import proofs.«01_k».proof.Proof.Gen.Dw.Frame
public import proofs.«01_k».proof.Proof.Gen.DwIdeal
public import proofs.«01_k».proof.Proof.Gen.DwIdeal.Skeleton
public import proofs.«01_k».proof.Proof.Gen.DwIdeal.Loops
public import proofs.«01_k».proof.Proof.Gen.DwIdeal.Launch
public import proofs.«01_k».proof.Proof.Gen.DwIdeal.Points
public import proofs.«01_k».proof.Proof.Gen.DwIdeal.Frame
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.Gen.Dx
public import proofs.«01_k».proof.Proof.Gen.Dx.Skeleton
public import proofs.«01_k».proof.Proof.Gen.Dx.Loops
public import proofs.«01_k».proof.Proof.Gen.Dx.Launch
public import proofs.«01_k».proof.Proof.Gen.Dx.Points
public import proofs.«01_k».proof.Proof.Gen.Dx.Frame
public import proofs.«01_k».proof.Proof.Gen.DxIdeal
public import proofs.«01_k».proof.Proof.Gen.DxIdeal.Skeleton
public import proofs.«01_k».proof.Proof.Gen.DxIdeal.Loops
public import proofs.«01_k».proof.Proof.Gen.DxIdeal.Launch
public import proofs.«01_k».proof.Proof.Gen.DxIdeal.Points
public import proofs.«01_k».proof.Proof.Gen.DxIdeal.Frame
public import proofs.«01_k».proof.Proof.Gen.ReferenceDxIdeal
public import proofs.«01_k».proof.Proof.Gen.ReferenceDxIdeal.Skeleton
public import proofs.«01_k».proof.Proof.Gen.ReferenceDxIdeal.Launch
public import proofs.«01_k».proof.Proof.Gen.ReferenceDxIdeal.Points
public import proofs.«01_k».proof.Proof.Gen.ReferenceDxIdeal.Frame
public import proofs.«01_k».proof.Proof.DwFrame
public import proofs.«01_k».proof.Proof.DwIdealSpec
public import proofs.«01_k».proof.Proof.DxFrame
public import proofs.«01_k».proof.Proof.DxIdealSpec
public import Idealize.ShloMosaic.Adequacy
public import Idealize.ShloMosaic.Init
public import Idealize.ShloMosaic.Lib.Bf16Pair
public import Idealize.ShloMosaic.Lib.Bf16PairInverse

@[expose] public section

noncomputable section

namespace Cert.Proof

open Idealize.ShloMosaic Idealize.ShloMosaic.TcCoe Idealize.SL.Sem

/-- The rewrites that turn words of two bfloat16 numbers into the two numbers keep the values. -/
theorem preserves : Cert.preserves_Dw_DwIdeal :=
  ⟨IdealRules.bf16_pair.bufferStatement _ _, IdealRules.bf16_pair.bufferStatement _ _, IdealRules.bf16_pair.packStatement _,
    IdealRules.bf16_pair.statement _ _, IdealRules.bf16_pair.statement _ _, IdealRules.bf16_pair.statement _ _,
    IdealRules.bf16_pair.statement _ _, IdealRules.bf16_pair.statement _ _, IdealRules.bf16_pair.statement _ _⟩

/-- The kernel and the reference end with the same product. -/
theorem algebraic [hDwIdeal : Cert.DwIdeal.Facts] [hReferenceIdeal : Cert.ReferenceIdeal.Facts] :
    Cert.algebraic_DwIdeal_ReferenceIdeal := fun m g m' g' _ hargs =>
  ⟨fun c => DwIdeal.dwVal (m ((c.tc : Thread _ _).loc Cert.DwIdeal.main_arg0)) (m ((c.tc : Thread _ _).loc Cert.DwIdeal.main_arg1))
      (m ((c.tc : Thread _ _).loc Cert.DwIdeal.main_arg2)) (m ((c.tc : Thread _ _).loc Cert.DwIdeal.main_arg3)),
    (θ_run (Cert.DwIdeal.defs (F := Ideal)) _ _).mono (fun r h c => h.1 c) (DwIdeal.run_value m g),
    (θ_run (Cert.ReferenceIdeal.defs (F := Ideal)) _ _).mono (fun r h c => by
      obtain ⟨h1, h2⟩ := h c
      rw [(hargs c).1, (hargs c).2.1, (hargs c).2.2.1, (hargs c).2.2.2] at h1
      exact ⟨h1, h2⟩) (ReferenceIdeal.run_value m' g')⟩

/-- The same of the rewrites in the second kernel. -/
theorem preservesDx : Cert.preserves_Dx_DxIdeal :=
  ⟨IdealRules.bf16_pair.bufferStatement _ _, IdealRules.bf16_pair.statement _ _, IdealRules.bf16_pair.statement _ _,
    IdealRules.bf16_pair.statement _ _, IdealRules.bf16_pair.statement _ _, IdealRules.bf16_pair.statement _ _,
    IdealRules.bf16_pair.statement _ _⟩

/-- The second kernel and its reference end with the same product. -/
theorem algebraicDx [hDxIdeal : Cert.DxIdeal.Facts] [hReferenceDxIdeal : Cert.ReferenceDxIdeal.Facts] :
    Cert.algebraic_DxIdeal_ReferenceDxIdeal := fun m g m' g' _ hargs =>
  ⟨fun c => DxIdeal.dxVal (m ((c.tc : Thread _ _).loc Cert.DxIdeal.main_arg0)) (m ((c.tc : Thread _ _).loc Cert.DxIdeal.main_arg1)),
    (θ_run (Cert.DxIdeal.defs (F := Ideal)) _ _).mono (fun r h c => h.1 c) (DxIdeal.run_value m g),
    (θ_run (Cert.ReferenceDxIdeal.defs (F := Ideal)) _ _).mono (fun r h c => by
      obtain ⟨h1, h2, h3⟩ := h c
      rw [(hargs c).1, (hargs c).2] at h1
      exact ⟨h1, h2, h3⟩) (ReferenceDxIdeal.run_value m' g')⟩

theorem claim : Cert.Claim :=
  ⟨Cert.Dw.Gen.facts, Cert.DwIdeal.Gen.facts, Cert.ReferenceIdeal.Gen.facts,
    Cert.Dx.Gen.facts, Cert.DxIdeal.Gen.facts, Cert.ReferenceDxIdeal.Gen.facts,
    fun m ρ _ => Dw.frame m ρ,
    fun m ρ _ => (θ_run _ _ _).mono (fun r h => ⟨fun c => (h.1 c).2, h.2⟩) (DwIdeal.run_value m ρ),
    fun m ρ _ => Cert.ReferenceIdeal.Gen.frame m ρ,
    fun m ρ _ => Dx.frame m ρ,
    fun m ρ _ => (θ_run _ _ _).mono (fun r h => ⟨fun c => (h.1 c).2, h.2⟩) (DxIdeal.run_value m ρ),
    fun m ρ _ => Cert.ReferenceDxIdeal.Gen.frame m ρ,
    preserves,
    algebraic (hDwIdeal := Cert.DwIdeal.Gen.facts) (hReferenceIdeal := Cert.ReferenceIdeal.Gen.facts),
    preservesDx,
    algebraicDx (hDxIdeal := Cert.DxIdeal.Gen.facts) (hReferenceDxIdeal := Cert.ReferenceDxIdeal.Gen.facts)⟩

end Cert.Proof

end
